-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_conv_finite [hPre_conv_finite : Cert.Pre_conv_finite.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_conv_finite [hPre_conv_finite : Cert.Pre_conv_finite.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))) = (fun _ => 1#1)

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdIdeal_up_finite [hPre_up_finite : Cert.Pre_up_finite.Facts] (m : (ℓ : Loc Cert.UpBwdIdeal.nD Cert.UpBwdIdeal.τ Cert.UpBwdIdeal.sig) → Buf (Elt Ideal) ℓ) : Prop :=
  ∀ c : Dev Cert.UpBwdIdeal.nD,
    (Cert.Pre_up_finite.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg5)) (m ((c.tc : Thread Cert.UpBwdIdeal.nD Cert.UpBwdIdeal.τ).loc Cert.UpBwdIdeal.main_arg6))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_finite [hPre_up_finite : Cert.Pre_up_finite.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6))) = (fun _ => 1#1)

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_in_finite [hPre_in_finite : Cert.Pre_in_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))) = (fun _ => 1#1)

def Pre_InRefIdeal (m : (ℓ : Loc Cert.InRefIdeal.nD Cert.InRefIdeal.τ Cert.InRefIdeal.sig) → Buf (Elt Ideal) ℓ) : Prop :=
  True

def Pre_InRefIdeal_in_finite [hPre_in_finite : Cert.Pre_in_finite.Facts] (m : (ℓ : Loc Cert.InRefIdeal.nD Cert.InRefIdeal.τ Cert.InRefIdeal.sig) → Buf (Elt Ideal) ℓ) : Prop :=
  ∀ c : Dev Cert.InRefIdeal.nD,
    (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))) = (fun _ => 1#1)

def Pre_UpWgrad (m : (ℓ : Loc Cert.UpWgrad.nD Cert.UpWgrad.τ Cert.UpWgrad.sig) → Buf (Elt Bits) ℓ) : Prop :=
  True

def Pre_UpWgradIdeal (m : (ℓ : Loc Cert.UpWgradIdeal.nD Cert.UpWgradIdeal.τ Cert.UpWgradIdeal.sig) → Buf (Elt Ideal) ℓ) : Prop :=
  True

def Pre_UpWrefIdeal (m : (ℓ : Loc Cert.UpWrefIdeal.nD Cert.UpWrefIdeal.τ Cert.UpWrefIdeal.sig) → Buf (Elt Ideal) ℓ) : Prop :=
  True

def Pre_DownWgrad (m : (ℓ : Loc Cert.DownWgrad.nD Cert.DownWgrad.τ Cert.DownWgrad.sig) → Buf (Elt Bits) ℓ) : Prop :=
  True

def Pre_DownWgradIdeal (m : (ℓ : Loc Cert.DownWgradIdeal.nD Cert.DownWgradIdeal.τ Cert.DownWgradIdeal.sig) → Buf (Elt Ideal) ℓ) : Prop :=
  True

def Pre_DownWrefIdeal (m : (ℓ : Loc Cert.DownWrefIdeal.nD Cert.DownWrefIdeal.τ Cert.DownWrefIdeal.sig) → Buf (Elt Ideal) ℓ) : Prop :=
  True

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownBwdIdeal_down_finite [hPre_down_finite : Cert.Pre_down_finite.Facts] (m : (ℓ : Loc Cert.DownBwdIdeal.nD Cert.DownBwdIdeal.τ Cert.DownBwdIdeal.sig) → Buf (Elt Ideal) ℓ) : Prop :=
  ∀ c : Dev Cert.DownBwdIdeal.nD,
    (Cert.Pre_down_finite.fn (F := Ideal) (m ((c.tc : Thread Cert.DownBwdIdeal.nD Cert.DownBwdIdeal.τ).loc Cert.DownBwdIdeal.main_arg0)) (m ((c.tc : Thread Cert.DownBwdIdeal.nD Cert.DownBwdIdeal.τ).loc Cert.DownBwdIdeal.main_arg1)) (m ((c.tc : Thread Cert.DownBwdIdeal.nD Cert.DownBwdIdeal.τ).loc Cert.DownBwdIdeal.main_arg2)) (m ((c.tc : Thread Cert.DownBwdIdeal.nD Cert.DownBwdIdeal.τ).loc Cert.DownBwdIdeal.main_arg3)) (m ((c.tc : Thread Cert.DownBwdIdeal.nD Cert.DownBwdIdeal.τ).loc Cert.DownBwdIdeal.main_arg4))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_down_finite [hPre_down_finite : Cert.Pre_down_finite.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))) = (fun _ => 1#1)

def Pre_OddBwd (m : (ℓ : Loc Cert.OddBwd.nD Cert.OddBwd.τ Cert.OddBwd.sig) → Buf (Elt Bits) ℓ) : Prop :=
  True

def Pre_OddBwdIdeal (m : (ℓ : Loc Cert.OddBwdIdeal.nD Cert.OddBwdIdeal.τ Cert.OddBwdIdeal.sig) → Buf (Elt Ideal) ℓ) : Prop :=
  True

def Pre_OddBwdIdeal_odd_finite [hPre_odd_finite : Cert.Pre_odd_finite.Facts] (m : (ℓ : Loc Cert.OddBwdIdeal.nD Cert.OddBwdIdeal.τ Cert.OddBwdIdeal.sig) → Buf (Elt Ideal) ℓ) : Prop :=
  ∀ c : Dev Cert.OddBwdIdeal.nD,
    (Cert.Pre_odd_finite.fn (F := Ideal) (m ((c.tc : Thread Cert.OddBwdIdeal.nD Cert.OddBwdIdeal.τ).loc Cert.OddBwdIdeal.main_arg0)) (m ((c.tc : Thread Cert.OddBwdIdeal.nD Cert.OddBwdIdeal.τ).loc Cert.OddBwdIdeal.main_arg1)) (m ((c.tc : Thread Cert.OddBwdIdeal.nD Cert.OddBwdIdeal.τ).loc Cert.OddBwdIdeal.main_arg2)) (m ((c.tc : Thread Cert.OddBwdIdeal.nD Cert.OddBwdIdeal.τ).loc Cert.OddBwdIdeal.main_arg3)) (m ((c.tc : Thread Cert.OddBwdIdeal.nD Cert.OddBwdIdeal.τ).loc Cert.OddBwdIdeal.main_arg4)) (m ((c.tc : Thread Cert.OddBwdIdeal.nD Cert.OddBwdIdeal.τ).loc Cert.OddBwdIdeal.main_arg5))) = (fun _ => 1#1)

def Pre_OddRefIdeal (m : (ℓ : Loc Cert.OddRefIdeal.nD Cert.OddRefIdeal.τ Cert.OddRefIdeal.sig) → Buf (Elt Ideal) ℓ) : Prop :=
  True

def Pre_OddRefIdeal_odd_finite [hPre_odd_finite : Cert.Pre_odd_finite.Facts] (m : (ℓ : Loc Cert.OddRefIdeal.nD Cert.OddRefIdeal.τ Cert.OddRefIdeal.sig) → Buf (Elt Ideal) ℓ) : Prop :=
  ∀ c : Dev Cert.OddRefIdeal.nD,
    (Cert.Pre_odd_finite.fn (F := Ideal) (m ((c.tc : Thread Cert.OddRefIdeal.nD Cert.OddRefIdeal.τ).loc Cert.OddRefIdeal.main_arg0)) (m ((c.tc : Thread Cert.OddRefIdeal.nD Cert.OddRefIdeal.τ).loc Cert.OddRefIdeal.main_arg1)) (m ((c.tc : Thread Cert.OddRefIdeal.nD Cert.OddRefIdeal.τ).loc Cert.OddRefIdeal.main_arg2)) (m ((c.tc : Thread Cert.OddRefIdeal.nD Cert.OddRefIdeal.τ).loc Cert.OddRefIdeal.main_arg3)) (m ((c.tc : Thread Cert.OddRefIdeal.nD Cert.OddRefIdeal.τ).loc Cert.OddRefIdeal.main_arg4)) (m ((c.tc : Thread Cert.OddRefIdeal.nD Cert.OddRefIdeal.τ).loc Cert.OddRefIdeal.main_arg5))) = (fun _ => 1#1)

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdIdeal_out_finite [hPre_out_finite : Cert.Pre_out_finite.Facts] (m : (ℓ : Loc Cert.OutBwdIdeal.nD Cert.OutBwdIdeal.τ Cert.OutBwdIdeal.sig) → Buf (Elt Ideal) ℓ) : Prop :=
  ∀ c : Dev Cert.OutBwdIdeal.nD,
    (Cert.Pre_out_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_out_finite [hPre_out_finite : Cert.Pre_out_finite.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4))) = (fun _ => 1#1)

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_OutWrefIdeal (m : (ℓ : Loc Cert.OutWrefIdeal.nD Cert.OutWrefIdeal.τ Cert.OutWrefIdeal.sig) → Buf (Elt Ideal) ℓ) : Prop :=
  True

def Pre_OddWgrad (m : (ℓ : Loc Cert.OddWgrad.nD Cert.OddWgrad.τ Cert.OddWgrad.sig) → Buf (Elt Bits) ℓ) : Prop :=
  True

def Pre_OddWgradIdeal (m : (ℓ : Loc Cert.OddWgradIdeal.nD Cert.OddWgradIdeal.τ Cert.OddWgradIdeal.sig) → Buf (Elt Ideal) ℓ) : Prop :=
  True

def Pre_OddWrefIdeal (m : (ℓ : Loc Cert.OddWrefIdeal.nD Cert.OddWrefIdeal.τ Cert.OddWrefIdeal.sig) → Buf (Elt Ideal) ℓ) : Prop :=
  True

def Pre_MixWgrad (m : (ℓ : Loc Cert.MixWgrad.nD Cert.MixWgrad.τ Cert.MixWgrad.sig) → Buf (Elt Bits) ℓ) : Prop :=
  True

def Pre_MixWgradIdeal (m : (ℓ : Loc Cert.MixWgradIdeal.nD Cert.MixWgradIdeal.τ Cert.MixWgradIdeal.sig) → Buf (Elt Ideal) ℓ) : Prop :=
  True

def Pre_MixWrefIdeal (m : (ℓ : Loc Cert.MixWrefIdeal.nD Cert.MixWrefIdeal.τ Cert.MixWrefIdeal.sig) → Buf (Elt Ideal) ℓ) : Prop :=
  True

def Pre_InWgrad (m : (ℓ : Loc Cert.InWgrad.nD Cert.InWgrad.τ Cert.InWgrad.sig) → Buf (Elt Bits) ℓ) : Prop :=
  True

def Pre_InWgradIdeal (m : (ℓ : Loc Cert.InWgradIdeal.nD Cert.InWgradIdeal.τ Cert.InWgradIdeal.sig) → Buf (Elt Ideal) ℓ) : Prop :=
  True

def Pre_InWrefIdeal (m : (ℓ : Loc Cert.InWrefIdeal.nD Cert.InWrefIdeal.τ Cert.InWrefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFrefIdeal (m : (ℓ : Loc Cert.UpFrefIdeal.nD Cert.UpFrefIdeal.τ Cert.UpFrefIdeal.sig) → Buf (Elt Ideal) ℓ) : Prop :=
  True

def Pre_OddFwd (m : (ℓ : Loc Cert.OddFwd.nD Cert.OddFwd.τ Cert.OddFwd.sig) → Buf (Elt Bits) ℓ) : Prop :=
  True

def Pre_OddFwdIdeal (m : (ℓ : Loc Cert.OddFwdIdeal.nD Cert.OddFwdIdeal.τ Cert.OddFwdIdeal.sig) → Buf (Elt Ideal) ℓ) : Prop :=
  True

def Pre_OddFrefIdeal (m : (ℓ : Loc Cert.OddFrefIdeal.nD Cert.OddFrefIdeal.τ Cert.OddFrefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFrefIdeal (m : (ℓ : Loc Cert.DownFrefIdeal.nD Cert.DownFrefIdeal.τ Cert.DownFrefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFrefIdeal (m : (ℓ : Loc Cert.OutFrefIdeal.nD Cert.OutFrefIdeal.τ Cert.OutFrefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFrefIdeal (m : (ℓ : Loc Cert.MixFrefIdeal.nD Cert.MixFrefIdeal.τ Cert.MixFrefIdeal.sig) → Buf (Elt Ideal) ℓ) : Prop :=
  True

def Pre_LastFwd (m : (ℓ : Loc Cert.LastFwd.nD Cert.LastFwd.τ Cert.LastFwd.sig) → Buf (Elt Bits) ℓ) : Prop :=
  True

def Pre_LastFwdIdeal (m : (ℓ : Loc Cert.LastFwdIdeal.nD Cert.LastFwdIdeal.τ Cert.LastFwdIdeal.sig) → Buf (Elt Ideal) ℓ) : Prop :=
  True

def Pre_LastFrefIdeal (m : (ℓ : Loc Cert.LastFrefIdeal.nD Cert.LastFrefIdeal.τ Cert.LastFrefIdeal.sig) → Buf (Elt Ideal) ℓ) : Prop :=
  True

def Pre_OddAdam (m : (ℓ : Loc Cert.OddAdam.nD Cert.OddAdam.τ Cert.OddAdam.sig) → Buf (Elt Bits) ℓ) : Prop :=
  True

def Pre_OddAdamIdeal (m : (ℓ : Loc Cert.OddAdamIdeal.nD Cert.OddAdamIdeal.τ Cert.OddAdamIdeal.sig) → Buf (Elt Ideal) ℓ) : Prop :=
  True

def Pre_OddArefIdeal (m : (ℓ : Loc Cert.OddArefIdeal.nD Cert.OddArefIdeal.τ Cert.OddArefIdeal.sig) → Buf (Elt Ideal) ℓ) : Prop :=
  True

def Pre_InAdam (m : (ℓ : Loc Cert.InAdam.nD Cert.InAdam.τ Cert.InAdam.sig) → Buf (Elt Bits) ℓ) : Prop :=
  True

def Pre_InAdamIdeal (m : (ℓ : Loc Cert.InAdamIdeal.nD Cert.InAdamIdeal.τ Cert.InAdamIdeal.sig) → Buf (Elt Ideal) ℓ) : Prop :=
  True

def Pre_InArefIdeal (m : (ℓ : Loc Cert.InArefIdeal.nD Cert.InArefIdeal.τ Cert.InArefIdeal.sig) → Buf (Elt Ideal) ℓ) : Prop :=
  True

def Pre_OutAdam (m : (ℓ : Loc Cert.OutAdam.nD Cert.OutAdam.τ Cert.OutAdam.sig) → Buf (Elt Bits) ℓ) : Prop :=
  True

def Pre_OutAdamIdeal (m : (ℓ : Loc Cert.OutAdamIdeal.nD Cert.OutAdamIdeal.τ Cert.OutAdamIdeal.sig) → Buf (Elt Ideal) ℓ) : Prop :=
  True

def Pre_OutArefIdeal (m : (ℓ : Loc Cert.OutArefIdeal.nD Cert.OutArefIdeal.τ Cert.OutArefIdeal.sig) → Buf (Elt Ideal) ℓ) : Prop :=
  True

def Pre_UpAdam (m : (ℓ : Loc Cert.UpAdam.nD Cert.UpAdam.τ Cert.UpAdam.sig) → Buf (Elt Bits) ℓ) : Prop :=
  True

def Pre_UpAdamIdeal (m : (ℓ : Loc Cert.UpAdamIdeal.nD Cert.UpAdamIdeal.τ Cert.UpAdamIdeal.sig) → Buf (Elt Ideal) ℓ) : Prop :=
  True

def Pre_UpArefIdeal (m : (ℓ : Loc Cert.UpArefIdeal.nD Cert.UpArefIdeal.τ Cert.UpArefIdeal.sig) → Buf (Elt Ideal) ℓ) : Prop :=
  True

def Pre_DownAdam (m : (ℓ : Loc Cert.DownAdam.nD Cert.DownAdam.τ Cert.DownAdam.sig) → Buf (Elt Bits) ℓ) : Prop :=
  True

def Pre_DownAdamIdeal (m : (ℓ : Loc Cert.DownAdamIdeal.nD Cert.DownAdamIdeal.τ Cert.DownAdamIdeal.sig) → Buf (Elt Ideal) ℓ) : Prop :=
  True

def Pre_DownArefIdeal (m : (ℓ : Loc Cert.DownArefIdeal.nD Cert.DownArefIdeal.τ Cert.DownArefIdeal.sig) → Buf (Elt Ideal) ℓ) : Prop :=
  True

def Pre_AdaAdam (m : (ℓ : Loc Cert.AdaAdam.nD Cert.AdaAdam.τ Cert.AdaAdam.sig) → Buf (Elt Bits) ℓ) : Prop :=
  True

def Pre_AdaAdamIdeal (m : (ℓ : Loc Cert.AdaAdamIdeal.nD Cert.AdaAdamIdeal.τ Cert.AdaAdamIdeal.sig) → Buf (Elt Ideal) ℓ) : Prop :=
  True

def Pre_AdaArefIdeal (m : (ℓ : Loc Cert.AdaArefIdeal.nD Cert.AdaArefIdeal.τ Cert.AdaArefIdeal.sig) → Buf (Elt Ideal) ℓ) : Prop :=
  True

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdIdeal_pre_conv_finite [hConvBwdIdeal : Cert.ConvBwdIdeal.Facts] [hPre_conv_finite : Cert.Pre_conv_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_conv_finite m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_ConvRefIdeal_pre_conv_finite [hConvRefIdeal : Cert.ConvRefIdeal.Facts] [hPre_conv_finite : Cert.Pre_conv_finite.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_conv_finite m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3)
      ∧ r.2.mem ((c.tc : Thread Cert.UpBwd.nD Cert.UpBwd.τ).loc Cert.UpBwd.main_arg4) = m ((c.tc : Thread Cert.UpBwd.nD Cert.UpBwd.τ).loc Cert.UpBwd.main_arg4)
      ∧ r.2.mem ((c.tc : Thread Cert.UpBwd.nD Cert.UpBwd.τ).loc Cert.UpBwd.main_arg5) = m ((c.tc : Thread Cert.UpBwd.nD Cert.UpBwd.τ).loc Cert.UpBwd.main_arg5)
      ∧ r.2.mem ((c.tc : Thread Cert.UpBwd.nD Cert.UpBwd.τ).loc Cert.UpBwd.main_arg6) = m ((c.tc : Thread Cert.UpBwd.nD Cert.UpBwd.τ).loc Cert.UpBwd.main_arg6))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
      ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
      ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6))
      ∧ r.2.sem = fun _ => 0)

def quiescent_UpBwdIdeal_pre_up_finite [hUpBwdIdeal : Cert.UpBwdIdeal.Facts] [hPre_up_finite : Cert.Pre_up_finite.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal_up_finite m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
      ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
      ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6))
      ∧ r.2.sem = fun _ => 0)

def quiescent_UpRefIdeal_pre_up_finite [hUpRefIdeal : Cert.UpRefIdeal.Facts] [hPre_up_finite : Cert.Pre_up_finite.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_finite m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ r.2.sem = fun _ => 0)

def quiescent_InBwdIdeal_pre_in_finite [hInBwdIdeal : Cert.InBwdIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_in_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def quiescent_InRefIdeal_pre_in_finite [hInRefIdeal : Cert.InRefIdeal.Facts] [hPre_in_finite : Cert.Pre_in_finite.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_in_finite m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def quiescent_UpWgrad [hUpWgrad : Cert.UpWgrad.Facts] : Prop :=
  ∀ (m : (ℓ : Loc Cert.UpWgrad.nD Cert.UpWgrad.τ Cert.UpWgrad.sig) → Buf (Elt Bits) ℓ) (g : Dev Cert.UpWgrad.nD → PrngReg), Pre_UpWgrad m →
    θ_run (Cert.UpWgrad.defs (F := Bits)) (onTc (τ := Cert.UpWgrad.τ) (Cert.UpWgrad.main (F := Bits))) ⟨m, fun _ => 0, g⟩ (fun r => (∀ c : Dev Cert.UpWgrad.nD,
      r.2.mem ((c.tc : Thread Cert.UpWgrad.nD Cert.UpWgrad.τ).loc Cert.UpWgrad.main_arg0) = m ((c.tc : Thread Cert.UpWgrad.nD Cert.UpWgrad.τ).loc Cert.UpWgrad.main_arg0)
      ∧ r.2.mem ((c.tc : Thread Cert.UpWgrad.nD Cert.UpWgrad.τ).loc Cert.UpWgrad.main_arg1) = m ((c.tc : Thread Cert.UpWgrad.nD Cert.UpWgrad.τ).loc Cert.UpWgrad.main_arg1)
      ∧ r.2.mem ((c.tc : Thread Cert.UpWgrad.nD Cert.UpWgrad.τ).loc Cert.UpWgrad.main_arg2) = m ((c.tc : Thread Cert.UpWgrad.nD Cert.UpWgrad.τ).loc Cert.UpWgrad.main_arg2))
      ∧ r.2.sem = fun _ => 0)

def quiescent_UpWgradIdeal [hUpWgradIdeal : Cert.UpWgradIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg), Pre_UpWgradIdeal m →
    θ_run (Cert.UpWgradIdeal.defs (F := Ideal)) (onTc (τ := Cert.UpWgradIdeal.τ) (Cert.UpWgradIdeal.main (F := Ideal))) ⟨m, fun _ => 0, g⟩ (fun r => (∀ c : Dev Cert.UpWgradIdeal.nD,
      r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
      ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1)
      ∧ r.2.mem ((c.tc : Thread Cert.UpWgradIdeal.nD Cert.UpWgradIdeal.τ).loc Cert.UpWgradIdeal.main_arg2) = m ((c.tc : Thread Cert.UpWgradIdeal.nD Cert.UpWgradIdeal.τ).loc Cert.UpWgradIdeal.main_arg2))
      ∧ r.2.sem = fun _ => 0)

def quiescent_UpWrefIdeal [hUpWrefIdeal : Cert.UpWrefIdeal.Facts] : Prop :=
  ∀ (m : (ℓ : Loc Cert.UpWrefIdeal.nD Cert.UpWrefIdeal.τ Cert.UpWrefIdeal.sig) → Buf (Elt Ideal) ℓ) (g : Dev Cert.UpWrefIdeal.nD → PrngReg), Pre_UpWrefIdeal m →
    θ_run (Cert.UpWrefIdeal.defs (F := Ideal)) (onTc (τ := Cert.UpWrefIdeal.τ) (Cert.UpWrefIdeal.main (F := Ideal))) ⟨m, fun _ => 0, g⟩ (fun r => (∀ c : Dev Cert.UpWrefIdeal.nD,
      r.2.mem ((c.tc : Thread Cert.UpWrefIdeal.nD Cert.UpWrefIdeal.τ).loc Cert.UpWrefIdeal.main_arg0) = m ((c.tc : Thread Cert.UpWrefIdeal.nD Cert.UpWrefIdeal.τ).loc Cert.UpWrefIdeal.main_arg0)
      ∧ r.2.mem ((c.tc : Thread Cert.UpWrefIdeal.nD Cert.UpWrefIdeal.τ).loc Cert.UpWrefIdeal.main_arg1) = m ((c.tc : Thread Cert.UpWrefIdeal.nD Cert.UpWrefIdeal.τ).loc Cert.UpWrefIdeal.main_arg1)
      ∧ r.2.mem ((c.tc : Thread Cert.UpWrefIdeal.nD Cert.UpWrefIdeal.τ).loc Cert.UpWrefIdeal.main_arg2) = m ((c.tc : Thread Cert.UpWrefIdeal.nD Cert.UpWrefIdeal.τ).loc Cert.UpWrefIdeal.main_arg2))
      ∧ r.2.sem = fun _ => 0)

def quiescent_DownWgrad [hDownWgrad : Cert.DownWgrad.Facts] : Prop :=
  ∀ (m : (ℓ : Loc Cert.DownWgrad.nD Cert.DownWgrad.τ Cert.DownWgrad.sig) → Buf (Elt Bits) ℓ) (g : Dev Cert.DownWgrad.nD → PrngReg), Pre_DownWgrad m →
    θ_run (Cert.DownWgrad.defs (F := Bits)) (onTc (τ := Cert.DownWgrad.τ) (Cert.DownWgrad.main (F := Bits))) ⟨m, fun _ => 0, g⟩ (fun r => (∀ c : Dev Cert.DownWgrad.nD,
      r.2.mem ((c.tc : Thread Cert.DownWgrad.nD Cert.DownWgrad.τ).loc Cert.DownWgrad.main_arg0) = m ((c.tc : Thread Cert.DownWgrad.nD Cert.DownWgrad.τ).loc Cert.DownWgrad.main_arg0)
      ∧ r.2.mem ((c.tc : Thread Cert.DownWgrad.nD Cert.DownWgrad.τ).loc Cert.DownWgrad.main_arg1) = m ((c.tc : Thread Cert.DownWgrad.nD Cert.DownWgrad.τ).loc Cert.DownWgrad.main_arg1))
      ∧ r.2.sem = fun _ => 0)

def quiescent_DownWgradIdeal [hDownWgradIdeal : Cert.DownWgradIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg), Pre_DownWgradIdeal m →
    θ_run (Cert.DownWgradIdeal.defs (F := Ideal)) (onTc (τ := Cert.DownWgradIdeal.τ) (Cert.DownWgradIdeal.main (F := Ideal))) ⟨m, fun _ => 0, g⟩ (fun r => (∀ c : Dev Cert.DownWgradIdeal.nD,
      r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
      ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ r.2.sem = fun _ => 0)

def quiescent_DownWrefIdeal [hDownWrefIdeal : Cert.DownWrefIdeal.Facts] : Prop :=
  ∀ (m : (ℓ : Loc Cert.DownWrefIdeal.nD Cert.DownWrefIdeal.τ Cert.DownWrefIdeal.sig) → Buf (Elt Ideal) ℓ) (g : Dev Cert.DownWrefIdeal.nD → PrngReg), Pre_DownWrefIdeal m →
    θ_run (Cert.DownWrefIdeal.defs (F := Ideal)) (onTc (τ := Cert.DownWrefIdeal.τ) (Cert.DownWrefIdeal.main (F := Ideal))) ⟨m, fun _ => 0, g⟩ (fun r => (∀ c : Dev Cert.DownWrefIdeal.nD,
      r.2.mem ((c.tc : Thread Cert.DownWrefIdeal.nD Cert.DownWrefIdeal.τ).loc Cert.DownWrefIdeal.main_arg0) = m ((c.tc : Thread Cert.DownWrefIdeal.nD Cert.DownWrefIdeal.τ).loc Cert.DownWrefIdeal.main_arg0)
      ∧ r.2.mem ((c.tc : Thread Cert.DownWrefIdeal.nD Cert.DownWrefIdeal.τ).loc Cert.DownWrefIdeal.main_arg1) = m ((c.tc : Thread Cert.DownWrefIdeal.nD Cert.DownWrefIdeal.τ).loc Cert.DownWrefIdeal.main_arg1))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1)
      ∧ r.2.mem ((c.tc : Thread Cert.DownBwd.nD Cert.DownBwd.τ).loc Cert.DownBwd.main_arg2) = m ((c.tc : Thread Cert.DownBwd.nD Cert.DownBwd.τ).loc Cert.DownBwd.main_arg2)
      ∧ r.2.mem ((c.tc : Thread Cert.DownBwd.nD Cert.DownBwd.τ).loc Cert.DownBwd.main_arg3) = m ((c.tc : Thread Cert.DownBwd.nD Cert.DownBwd.τ).loc Cert.DownBwd.main_arg3)
      ∧ r.2.mem ((c.tc : Thread Cert.DownBwd.nD Cert.DownBwd.τ).loc Cert.DownBwd.main_arg4) = m ((c.tc : Thread Cert.DownBwd.nD Cert.DownBwd.τ).loc Cert.DownBwd.main_arg4))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
      ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3)
      ∧ r.2.mem ((c.tc : Thread Cert.DownBwdIdeal.nD Cert.DownBwdIdeal.τ).loc Cert.DownBwdIdeal.main_arg4) = m ((c.tc : Thread Cert.DownBwdIdeal.nD Cert.DownBwdIdeal.τ).loc Cert.DownBwdIdeal.main_arg4))
      ∧ r.2.sem = fun _ => 0)

def quiescent_DownBwdIdeal_pre_down_finite [hDownBwdIdeal : Cert.DownBwdIdeal.Facts] [hPre_down_finite : Cert.Pre_down_finite.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal_down_finite m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
      ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3)
      ∧ r.2.mem ((c.tc : Thread Cert.DownBwdIdeal.nD Cert.DownBwdIdeal.τ).loc Cert.DownBwdIdeal.main_arg4) = m ((c.tc : Thread Cert.DownBwdIdeal.nD Cert.DownBwdIdeal.τ).loc Cert.DownBwdIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_DownRefIdeal_pre_down_finite [hDownRefIdeal : Cert.DownRefIdeal.Facts] [hPre_down_finite : Cert.Pre_down_finite.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_down_finite m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_OddBwd [hOddBwd : Cert.OddBwd.Facts] : Prop :=
  ∀ (m : (ℓ : Loc Cert.OddBwd.nD Cert.OddBwd.τ Cert.OddBwd.sig) → Buf (Elt Bits) ℓ) (g : Dev Cert.OddBwd.nD → PrngReg), Pre_OddBwd m →
    θ_run (Cert.OddBwd.defs (F := Bits)) (onTc (τ := Cert.OddBwd.τ) (Cert.OddBwd.main (F := Bits))) ⟨m, fun _ => 0, g⟩ (fun r => (∀ c : Dev Cert.OddBwd.nD,
      r.2.mem ((c.tc : Thread Cert.OddBwd.nD Cert.OddBwd.τ).loc Cert.OddBwd.main_arg0) = m ((c.tc : Thread Cert.OddBwd.nD Cert.OddBwd.τ).loc Cert.OddBwd.main_arg0)
      ∧ r.2.mem ((c.tc : Thread Cert.OddBwd.nD Cert.OddBwd.τ).loc Cert.OddBwd.main_arg1) = m ((c.tc : Thread Cert.OddBwd.nD Cert.OddBwd.τ).loc Cert.OddBwd.main_arg1)
      ∧ r.2.mem ((c.tc : Thread Cert.OddBwd.nD Cert.OddBwd.τ).loc Cert.OddBwd.main_arg2) = m ((c.tc : Thread Cert.OddBwd.nD Cert.OddBwd.τ).loc Cert.OddBwd.main_arg2)
      ∧ r.2.mem ((c.tc : Thread Cert.OddBwd.nD Cert.OddBwd.τ).loc Cert.OddBwd.main_arg3) = m ((c.tc : Thread Cert.OddBwd.nD Cert.OddBwd.τ).loc Cert.OddBwd.main_arg3)
      ∧ r.2.mem ((c.tc : Thread Cert.OddBwd.nD Cert.OddBwd.τ).loc Cert.OddBwd.main_arg4) = m ((c.tc : Thread Cert.OddBwd.nD Cert.OddBwd.τ).loc Cert.OddBwd.main_arg4)
      ∧ r.2.mem ((c.tc : Thread Cert.OddBwd.nD Cert.OddBwd.τ).loc Cert.OddBwd.main_arg5) = m ((c.tc : Thread Cert.OddBwd.nD Cert.OddBwd.τ).loc Cert.OddBwd.main_arg5))
      ∧ r.2.sem = fun _ => 0)

def quiescent_OddBwdIdeal [hOddBwdIdeal : Cert.OddBwdIdeal.Facts] : Prop :=
  ∀ (m : (ℓ : Loc Cert.OddBwdIdeal.nD Cert.OddBwdIdeal.τ Cert.OddBwdIdeal.sig) → Buf (Elt Ideal) ℓ) (g : Dev Cert.OddBwdIdeal.nD → PrngReg), Pre_OddBwdIdeal m →
    θ_run (Cert.OddBwdIdeal.defs (F := Ideal)) (onTc (τ := Cert.OddBwdIdeal.τ) (Cert.OddBwdIdeal.main (F := Ideal))) ⟨m, fun _ => 0, g⟩ (fun r => (∀ c : Dev Cert.OddBwdIdeal.nD,
      r.2.mem ((c.tc : Thread Cert.OddBwdIdeal.nD Cert.OddBwdIdeal.τ).loc Cert.OddBwdIdeal.main_arg0) = m ((c.tc : Thread Cert.OddBwdIdeal.nD Cert.OddBwdIdeal.τ).loc Cert.OddBwdIdeal.main_arg0)
      ∧ r.2.mem ((c.tc : Thread Cert.OddBwdIdeal.nD Cert.OddBwdIdeal.τ).loc Cert.OddBwdIdeal.main_arg1) = m ((c.tc : Thread Cert.OddBwdIdeal.nD Cert.OddBwdIdeal.τ).loc Cert.OddBwdIdeal.main_arg1)
      ∧ r.2.mem ((c.tc : Thread Cert.OddBwdIdeal.nD Cert.OddBwdIdeal.τ).loc Cert.OddBwdIdeal.main_arg2) = m ((c.tc : Thread Cert.OddBwdIdeal.nD Cert.OddBwdIdeal.τ).loc Cert.OddBwdIdeal.main_arg2)
      ∧ r.2.mem ((c.tc : Thread Cert.OddBwdIdeal.nD Cert.OddBwdIdeal.τ).loc Cert.OddBwdIdeal.main_arg3) = m ((c.tc : Thread Cert.OddBwdIdeal.nD Cert.OddBwdIdeal.τ).loc Cert.OddBwdIdeal.main_arg3)
      ∧ r.2.mem ((c.tc : Thread Cert.OddBwdIdeal.nD Cert.OddBwdIdeal.τ).loc Cert.OddBwdIdeal.main_arg4) = m ((c.tc : Thread Cert.OddBwdIdeal.nD Cert.OddBwdIdeal.τ).loc Cert.OddBwdIdeal.main_arg4)
      ∧ r.2.mem ((c.tc : Thread Cert.OddBwdIdeal.nD Cert.OddBwdIdeal.τ).loc Cert.OddBwdIdeal.main_arg5) = m ((c.tc : Thread Cert.OddBwdIdeal.nD Cert.OddBwdIdeal.τ).loc Cert.OddBwdIdeal.main_arg5))
      ∧ r.2.sem = fun _ => 0)

def quiescent_OddBwdIdeal_pre_odd_finite [hOddBwdIdeal : Cert.OddBwdIdeal.Facts] [hPre_odd_finite : Cert.Pre_odd_finite.Facts] : Prop :=
  ∀ (m : (ℓ : Loc Cert.OddBwdIdeal.nD Cert.OddBwdIdeal.τ Cert.OddBwdIdeal.sig) → Buf (Elt Ideal) ℓ) (g : Dev Cert.OddBwdIdeal.nD → PrngReg), Pre_OddBwdIdeal_odd_finite m →
    θ_run (Cert.OddBwdIdeal.defs (F := Ideal)) (onTc (τ := Cert.OddBwdIdeal.τ) (Cert.OddBwdIdeal.main (F := Ideal))) ⟨m, fun _ => 0, g⟩ (fun r => (∀ c : Dev Cert.OddBwdIdeal.nD,
      r.2.mem ((c.tc : Thread Cert.OddBwdIdeal.nD Cert.OddBwdIdeal.τ).loc Cert.OddBwdIdeal.main_arg0) = m ((c.tc : Thread Cert.OddBwdIdeal.nD Cert.OddBwdIdeal.τ).loc Cert.OddBwdIdeal.main_arg0)
      ∧ r.2.mem ((c.tc : Thread Cert.OddBwdIdeal.nD Cert.OddBwdIdeal.τ).loc Cert.OddBwdIdeal.main_arg1) = m ((c.tc : Thread Cert.OddBwdIdeal.nD Cert.OddBwdIdeal.τ).loc Cert.OddBwdIdeal.main_arg1)
      ∧ r.2.mem ((c.tc : Thread Cert.OddBwdIdeal.nD Cert.OddBwdIdeal.τ).loc Cert.OddBwdIdeal.main_arg2) = m ((c.tc : Thread Cert.OddBwdIdeal.nD Cert.OddBwdIdeal.τ).loc Cert.OddBwdIdeal.main_arg2)
      ∧ r.2.mem ((c.tc : Thread Cert.OddBwdIdeal.nD Cert.OddBwdIdeal.τ).loc Cert.OddBwdIdeal.main_arg3) = m ((c.tc : Thread Cert.OddBwdIdeal.nD Cert.OddBwdIdeal.τ).loc Cert.OddBwdIdeal.main_arg3)
      ∧ r.2.mem ((c.tc : Thread Cert.OddBwdIdeal.nD Cert.OddBwdIdeal.τ).loc Cert.OddBwdIdeal.main_arg4) = m ((c.tc : Thread Cert.OddBwdIdeal.nD Cert.OddBwdIdeal.τ).loc Cert.OddBwdIdeal.main_arg4)
      ∧ r.2.mem ((c.tc : Thread Cert.OddBwdIdeal.nD Cert.OddBwdIdeal.τ).loc Cert.OddBwdIdeal.main_arg5) = m ((c.tc : Thread Cert.OddBwdIdeal.nD Cert.OddBwdIdeal.τ).loc Cert.OddBwdIdeal.main_arg5))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5))
      ∧ r.2.sem = fun _ => 0)

def quiescent_OddRefIdeal_pre_odd_finite [hOddRefIdeal : Cert.OddRefIdeal.Facts] [hPre_odd_finite : Cert.Pre_odd_finite.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal_odd_finite m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4))
      ∧ r.2.sem = fun _ => 0)

def quiescent_OutBwdIdeal_pre_out_finite [hOutBwdIdeal : Cert.OutBwdIdeal.Facts] [hPre_out_finite : Cert.Pre_out_finite.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal_out_finite m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_OutRefIdeal_pre_out_finite [hOutRefIdeal : Cert.OutRefIdeal.Facts] [hPre_out_finite : Cert.Pre_out_finite.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_out_finite m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ r.2.sem = fun _ => 0)

def quiescent_OutWrefIdeal [hOutWrefIdeal : Cert.OutWrefIdeal.Facts] : Prop :=
  ∀ (m : (ℓ : Loc Cert.OutWrefIdeal.nD Cert.OutWrefIdeal.τ Cert.OutWrefIdeal.sig) → Buf (Elt Ideal) ℓ) (g : Dev Cert.OutWrefIdeal.nD → PrngReg), Pre_OutWrefIdeal m →
    θ_run (Cert.OutWrefIdeal.defs (F := Ideal)) (onTc (τ := Cert.OutWrefIdeal.τ) (Cert.OutWrefIdeal.main (F := Ideal))) ⟨m, fun _ => 0, g⟩ (fun r => (∀ c : Dev Cert.OutWrefIdeal.nD,
      r.2.mem ((c.tc : Thread Cert.OutWrefIdeal.nD Cert.OutWrefIdeal.τ).loc Cert.OutWrefIdeal.main_arg0) = m ((c.tc : Thread Cert.OutWrefIdeal.nD Cert.OutWrefIdeal.τ).loc Cert.OutWrefIdeal.main_arg0)
      ∧ r.2.mem ((c.tc : Thread Cert.OutWrefIdeal.nD Cert.OutWrefIdeal.τ).loc Cert.OutWrefIdeal.main_arg1) = m ((c.tc : Thread Cert.OutWrefIdeal.nD Cert.OutWrefIdeal.τ).loc Cert.OutWrefIdeal.main_arg1))
      ∧ r.2.sem = fun _ => 0)

def quiescent_OddWgrad [hOddWgrad : Cert.OddWgrad.Facts] : Prop :=
  ∀ (m : (ℓ : Loc Cert.OddWgrad.nD Cert.OddWgrad.τ Cert.OddWgrad.sig) → Buf (Elt Bits) ℓ) (g : Dev Cert.OddWgrad.nD → PrngReg), Pre_OddWgrad m →
    θ_run (Cert.OddWgrad.defs (F := Bits)) (onTc (τ := Cert.OddWgrad.τ) (Cert.OddWgrad.main (F := Bits))) ⟨m, fun _ => 0, g⟩ (fun r => (∀ c : Dev Cert.OddWgrad.nD,
      r.2.mem ((c.tc : Thread Cert.OddWgrad.nD Cert.OddWgrad.τ).loc Cert.OddWgrad.main_arg0) = m ((c.tc : Thread Cert.OddWgrad.nD Cert.OddWgrad.τ).loc Cert.OddWgrad.main_arg0)
      ∧ r.2.mem ((c.tc : Thread Cert.OddWgrad.nD Cert.OddWgrad.τ).loc Cert.OddWgrad.main_arg1) = m ((c.tc : Thread Cert.OddWgrad.nD Cert.OddWgrad.τ).loc Cert.OddWgrad.main_arg1))
      ∧ r.2.sem = fun _ => 0)

def quiescent_OddWgradIdeal [hOddWgradIdeal : Cert.OddWgradIdeal.Facts] : Prop :=
  ∀ (m : (ℓ : Loc Cert.OddWgradIdeal.nD Cert.OddWgradIdeal.τ Cert.OddWgradIdeal.sig) → Buf (Elt Ideal) ℓ) (g : Dev Cert.OddWgradIdeal.nD → PrngReg), Pre_OddWgradIdeal m →
    θ_run (Cert.OddWgradIdeal.defs (F := Ideal)) (onTc (τ := Cert.OddWgradIdeal.τ) (Cert.OddWgradIdeal.main (F := Ideal))) ⟨m, fun _ => 0, g⟩ (fun r => (∀ c : Dev Cert.OddWgradIdeal.nD,
      r.2.mem ((c.tc : Thread Cert.OddWgradIdeal.nD Cert.OddWgradIdeal.τ).loc Cert.OddWgradIdeal.main_arg0) = m ((c.tc : Thread Cert.OddWgradIdeal.nD Cert.OddWgradIdeal.τ).loc Cert.OddWgradIdeal.main_arg0)
      ∧ r.2.mem ((c.tc : Thread Cert.OddWgradIdeal.nD Cert.OddWgradIdeal.τ).loc Cert.OddWgradIdeal.main_arg1) = m ((c.tc : Thread Cert.OddWgradIdeal.nD Cert.OddWgradIdeal.τ).loc Cert.OddWgradIdeal.main_arg1))
      ∧ r.2.sem = fun _ => 0)

def quiescent_OddWrefIdeal [hOddWrefIdeal : Cert.OddWrefIdeal.Facts] : Prop :=
  ∀ (m : (ℓ : Loc Cert.OddWrefIdeal.nD Cert.OddWrefIdeal.τ Cert.OddWrefIdeal.sig) → Buf (Elt Ideal) ℓ) (g : Dev Cert.OddWrefIdeal.nD → PrngReg), Pre_OddWrefIdeal m →
    θ_run (Cert.OddWrefIdeal.defs (F := Ideal)) (onTc (τ := Cert.OddWrefIdeal.τ) (Cert.OddWrefIdeal.main (F := Ideal))) ⟨m, fun _ => 0, g⟩ (fun r => (∀ c : Dev Cert.OddWrefIdeal.nD,
      r.2.mem ((c.tc : Thread Cert.OddWrefIdeal.nD Cert.OddWrefIdeal.τ).loc Cert.OddWrefIdeal.main_arg0) = m ((c.tc : Thread Cert.OddWrefIdeal.nD Cert.OddWrefIdeal.τ).loc Cert.OddWrefIdeal.main_arg0)
      ∧ r.2.mem ((c.tc : Thread Cert.OddWrefIdeal.nD Cert.OddWrefIdeal.τ).loc Cert.OddWrefIdeal.main_arg1) = m ((c.tc : Thread Cert.OddWrefIdeal.nD Cert.OddWrefIdeal.τ).loc Cert.OddWrefIdeal.main_arg1))
      ∧ r.2.sem = fun _ => 0)

def quiescent_MixWgrad [hMixWgrad : Cert.MixWgrad.Facts] : Prop :=
  ∀ (m : (ℓ : Loc Cert.MixWgrad.nD Cert.MixWgrad.τ Cert.MixWgrad.sig) → Buf (Elt Bits) ℓ) (g : Dev Cert.MixWgrad.nD → PrngReg), Pre_MixWgrad m →
    θ_run (Cert.MixWgrad.defs (F := Bits)) (onTc (τ := Cert.MixWgrad.τ) (Cert.MixWgrad.main (F := Bits))) ⟨m, fun _ => 0, g⟩ (fun r => (∀ c : Dev Cert.MixWgrad.nD,
      r.2.mem ((c.tc : Thread Cert.MixWgrad.nD Cert.MixWgrad.τ).loc Cert.MixWgrad.main_arg0) = m ((c.tc : Thread Cert.MixWgrad.nD Cert.MixWgrad.τ).loc Cert.MixWgrad.main_arg0)
      ∧ r.2.mem ((c.tc : Thread Cert.MixWgrad.nD Cert.MixWgrad.τ).loc Cert.MixWgrad.main_arg1) = m ((c.tc : Thread Cert.MixWgrad.nD Cert.MixWgrad.τ).loc Cert.MixWgrad.main_arg1)
      ∧ r.2.mem ((c.tc : Thread Cert.MixWgrad.nD Cert.MixWgrad.τ).loc Cert.MixWgrad.main_arg2) = m ((c.tc : Thread Cert.MixWgrad.nD Cert.MixWgrad.τ).loc Cert.MixWgrad.main_arg2))
      ∧ r.2.sem = fun _ => 0)

def quiescent_MixWgradIdeal [hMixWgradIdeal : Cert.MixWgradIdeal.Facts] : Prop :=
  ∀ (m : (ℓ : Loc Cert.MixWgradIdeal.nD Cert.MixWgradIdeal.τ Cert.MixWgradIdeal.sig) → Buf (Elt Ideal) ℓ) (g : Dev Cert.MixWgradIdeal.nD → PrngReg), Pre_MixWgradIdeal m →
    θ_run (Cert.MixWgradIdeal.defs (F := Ideal)) (onTc (τ := Cert.MixWgradIdeal.τ) (Cert.MixWgradIdeal.main (F := Ideal))) ⟨m, fun _ => 0, g⟩ (fun r => (∀ c : Dev Cert.MixWgradIdeal.nD,
      r.2.mem ((c.tc : Thread Cert.MixWgradIdeal.nD Cert.MixWgradIdeal.τ).loc Cert.MixWgradIdeal.main_arg0) = m ((c.tc : Thread Cert.MixWgradIdeal.nD Cert.MixWgradIdeal.τ).loc Cert.MixWgradIdeal.main_arg0)
      ∧ r.2.mem ((c.tc : Thread Cert.MixWgradIdeal.nD Cert.MixWgradIdeal.τ).loc Cert.MixWgradIdeal.main_arg1) = m ((c.tc : Thread Cert.MixWgradIdeal.nD Cert.MixWgradIdeal.τ).loc Cert.MixWgradIdeal.main_arg1)
      ∧ r.2.mem ((c.tc : Thread Cert.MixWgradIdeal.nD Cert.MixWgradIdeal.τ).loc Cert.MixWgradIdeal.main_arg2) = m ((c.tc : Thread Cert.MixWgradIdeal.nD Cert.MixWgradIdeal.τ).loc Cert.MixWgradIdeal.main_arg2))
      ∧ r.2.sem = fun _ => 0)

def quiescent_MixWrefIdeal [hMixWrefIdeal : Cert.MixWrefIdeal.Facts] : Prop :=
  ∀ (m : (ℓ : Loc Cert.MixWrefIdeal.nD Cert.MixWrefIdeal.τ Cert.MixWrefIdeal.sig) → Buf (Elt Ideal) ℓ) (g : Dev Cert.MixWrefIdeal.nD → PrngReg), Pre_MixWrefIdeal m →
    θ_run (Cert.MixWrefIdeal.defs (F := Ideal)) (onTc (τ := Cert.MixWrefIdeal.τ) (Cert.MixWrefIdeal.main (F := Ideal))) ⟨m, fun _ => 0, g⟩ (fun r => (∀ c : Dev Cert.MixWrefIdeal.nD,
      r.2.mem ((c.tc : Thread Cert.MixWrefIdeal.nD Cert.MixWrefIdeal.τ).loc Cert.MixWrefIdeal.main_arg0) = m ((c.tc : Thread Cert.MixWrefIdeal.nD Cert.MixWrefIdeal.τ).loc Cert.MixWrefIdeal.main_arg0)
      ∧ r.2.mem ((c.tc : Thread Cert.MixWrefIdeal.nD Cert.MixWrefIdeal.τ).loc Cert.MixWrefIdeal.main_arg1) = m ((c.tc : Thread Cert.MixWrefIdeal.nD Cert.MixWrefIdeal.τ).loc Cert.MixWrefIdeal.main_arg1)
      ∧ r.2.mem ((c.tc : Thread Cert.MixWrefIdeal.nD Cert.MixWrefIdeal.τ).loc Cert.MixWrefIdeal.main_arg2) = m ((c.tc : Thread Cert.MixWrefIdeal.nD Cert.MixWrefIdeal.τ).loc Cert.MixWrefIdeal.main_arg2))
      ∧ r.2.sem = fun _ => 0)

def quiescent_InWgrad [hInWgrad : Cert.InWgrad.Facts] : Prop :=
  ∀ (m : (ℓ : Loc Cert.InWgrad.nD Cert.InWgrad.τ Cert.InWgrad.sig) → Buf (Elt Bits) ℓ) (g : Dev Cert.InWgrad.nD → PrngReg), Pre_InWgrad m →
    θ_run (Cert.InWgrad.defs (F := Bits)) (onTc (τ := Cert.InWgrad.τ) (Cert.InWgrad.main (F := Bits))) ⟨m, fun _ => 0, g⟩ (fun r => (∀ c : Dev Cert.InWgrad.nD,
      r.2.mem ((c.tc : Thread Cert.InWgrad.nD Cert.InWgrad.τ).loc Cert.InWgrad.main_arg0) = m ((c.tc : Thread Cert.InWgrad.nD Cert.InWgrad.τ).loc Cert.InWgrad.main_arg0)
      ∧ r.2.mem ((c.tc : Thread Cert.InWgrad.nD Cert.InWgrad.τ).loc Cert.InWgrad.main_arg1) = m ((c.tc : Thread Cert.InWgrad.nD Cert.InWgrad.τ).loc Cert.InWgrad.main_arg1)
      ∧ r.2.mem ((c.tc : Thread Cert.InWgrad.nD Cert.InWgrad.τ).loc Cert.InWgrad.main_arg2) = m ((c.tc : Thread Cert.InWgrad.nD Cert.InWgrad.τ).loc Cert.InWgrad.main_arg2)
      ∧ r.2.mem ((c.tc : Thread Cert.InWgrad.nD Cert.InWgrad.τ).loc Cert.InWgrad.main_arg3) = m ((c.tc : Thread Cert.InWgrad.nD Cert.InWgrad.τ).loc Cert.InWgrad.main_arg3))
      ∧ r.2.sem = fun _ => 0)

def quiescent_InWgradIdeal [hInWgradIdeal : Cert.InWgradIdeal.Facts] : Prop :=
  ∀ (m : (ℓ : Loc Cert.InWgradIdeal.nD Cert.InWgradIdeal.τ Cert.InWgradIdeal.sig) → Buf (Elt Ideal) ℓ) (g : Dev Cert.InWgradIdeal.nD → PrngReg), Pre_InWgradIdeal m →
    θ_run (Cert.InWgradIdeal.defs (F := Ideal)) (onTc (τ := Cert.InWgradIdeal.τ) (Cert.InWgradIdeal.main (F := Ideal))) ⟨m, fun _ => 0, g⟩ (fun r => (∀ c : Dev Cert.InWgradIdeal.nD,
      r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
      ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1)
      ∧ r.2.mem ((c.tc : Thread Cert.InWgradIdeal.nD Cert.InWgradIdeal.τ).loc Cert.InWgradIdeal.main_arg2) = m ((c.tc : Thread Cert.InWgradIdeal.nD Cert.InWgradIdeal.τ).loc Cert.InWgradIdeal.main_arg2)
      ∧ r.2.mem ((c.tc : Thread Cert.InWgradIdeal.nD Cert.InWgradIdeal.τ).loc Cert.InWgradIdeal.main_arg3) = m ((c.tc : Thread Cert.InWgradIdeal.nD Cert.InWgradIdeal.τ).loc Cert.InWgradIdeal.main_arg3))
      ∧ r.2.sem = fun _ => 0)

def quiescent_InWrefIdeal [hInWrefIdeal : Cert.InWrefIdeal.Facts] : Prop :=
  ∀ (m : (ℓ : Loc Cert.InWrefIdeal.nD Cert.InWrefIdeal.τ Cert.InWrefIdeal.sig) → Buf (Elt Ideal) ℓ) (g : Dev Cert.InWrefIdeal.nD → PrngReg), Pre_InWrefIdeal m →
    θ_run (Cert.InWrefIdeal.defs (F := Ideal)) (onTc (τ := Cert.InWrefIdeal.τ) (Cert.InWrefIdeal.main (F := Ideal))) ⟨m, fun _ => 0, g⟩ (fun r => (∀ c : Dev Cert.InWrefIdeal.nD,
      r.2.mem ((c.tc : Thread Cert.InWrefIdeal.nD Cert.InWrefIdeal.τ).loc Cert.InWrefIdeal.main_arg0) = m ((c.tc : Thread Cert.InWrefIdeal.nD Cert.InWrefIdeal.τ).loc Cert.InWrefIdeal.main_arg0)
      ∧ r.2.mem ((c.tc : Thread Cert.InWrefIdeal.nD Cert.InWrefIdeal.τ).loc Cert.InWrefIdeal.main_arg1) = m ((c.tc : Thread Cert.InWrefIdeal.nD Cert.InWrefIdeal.τ).loc Cert.InWrefIdeal.main_arg1)
      ∧ r.2.mem ((c.tc : Thread Cert.InWrefIdeal.nD Cert.InWrefIdeal.τ).loc Cert.InWrefIdeal.main_arg2) = m ((c.tc : Thread Cert.InWrefIdeal.nD Cert.InWrefIdeal.τ).loc Cert.InWrefIdeal.main_arg2)
      ∧ r.2.mem ((c.tc : Thread Cert.InWrefIdeal.nD Cert.InWrefIdeal.τ).loc Cert.InWrefIdeal.main_arg3) = m ((c.tc : Thread Cert.InWrefIdeal.nD Cert.InWrefIdeal.τ).loc Cert.InWrefIdeal.main_arg3))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1)
      ∧ r.2.mem ((c.tc : Thread Cert.UpFwd.nD Cert.UpFwd.τ).loc Cert.UpFwd.main_arg2) = m ((c.tc : Thread Cert.UpFwd.nD Cert.UpFwd.τ).loc Cert.UpFwd.main_arg2)
      ∧ r.2.mem ((c.tc : Thread Cert.UpFwd.nD Cert.UpFwd.τ).loc Cert.UpFwd.main_arg3) = m ((c.tc : Thread Cert.UpFwd.nD Cert.UpFwd.τ).loc Cert.UpFwd.main_arg3)
      ∧ r.2.mem ((c.tc : Thread Cert.UpFwd.nD Cert.UpFwd.τ).loc Cert.UpFwd.main_arg4) = m ((c.tc : Thread Cert.UpFwd.nD Cert.UpFwd.τ).loc Cert.UpFwd.main_arg4))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
      ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2)
      ∧ r.2.mem ((c.tc : Thread Cert.UpFwdIdeal.nD Cert.UpFwdIdeal.τ).loc Cert.UpFwdIdeal.main_arg3) = m ((c.tc : Thread Cert.UpFwdIdeal.nD Cert.UpFwdIdeal.τ).loc Cert.UpFwdIdeal.main_arg3)
      ∧ r.2.mem ((c.tc : Thread Cert.UpFwdIdeal.nD Cert.UpFwdIdeal.τ).loc Cert.UpFwdIdeal.main_arg4) = m ((c.tc : Thread Cert.UpFwdIdeal.nD Cert.UpFwdIdeal.τ).loc Cert.UpFwdIdeal.main_arg4))
      ∧ r.2.sem = fun _ => 0)

def quiescent_UpFrefIdeal [hUpFrefIdeal : Cert.UpFrefIdeal.Facts] : Prop :=
  ∀ (m : (ℓ : Loc Cert.UpFrefIdeal.nD Cert.UpFrefIdeal.τ Cert.UpFrefIdeal.sig) → Buf (Elt Ideal) ℓ) (g : Dev Cert.UpFrefIdeal.nD → PrngReg), Pre_UpFrefIdeal m →
    θ_run (Cert.UpFrefIdeal.defs (F := Ideal)) (onTc (τ := Cert.UpFrefIdeal.τ) (Cert.UpFrefIdeal.main (F := Ideal))) ⟨m, fun _ => 0, g⟩ (fun r => (∀ c : Dev Cert.UpFrefIdeal.nD,
      r.2.mem ((c.tc : Thread Cert.UpFrefIdeal.nD Cert.UpFrefIdeal.τ).loc Cert.UpFrefIdeal.main_arg0) = m ((c.tc : Thread Cert.UpFrefIdeal.nD Cert.UpFrefIdeal.τ).loc Cert.UpFrefIdeal.main_arg0)
      ∧ r.2.mem ((c.tc : Thread Cert.UpFrefIdeal.nD Cert.UpFrefIdeal.τ).loc Cert.UpFrefIdeal.main_arg1) = m ((c.tc : Thread Cert.UpFrefIdeal.nD Cert.UpFrefIdeal.τ).loc Cert.UpFrefIdeal.main_arg1)
      ∧ r.2.mem ((c.tc : Thread Cert.UpFrefIdeal.nD Cert.UpFrefIdeal.τ).loc Cert.UpFrefIdeal.main_arg2) = m ((c.tc : Thread Cert.UpFrefIdeal.nD Cert.UpFrefIdeal.τ).loc Cert.UpFrefIdeal.main_arg2)
      ∧ r.2.mem ((c.tc : Thread Cert.UpFrefIdeal.nD Cert.UpFrefIdeal.τ).loc Cert.UpFrefIdeal.main_arg3) = m ((c.tc : Thread Cert.UpFrefIdeal.nD Cert.UpFrefIdeal.τ).loc Cert.UpFrefIdeal.main_arg3)
      ∧ r.2.mem ((c.tc : Thread Cert.UpFrefIdeal.nD Cert.UpFrefIdeal.τ).loc Cert.UpFrefIdeal.main_arg4) = m ((c.tc : Thread Cert.UpFrefIdeal.nD Cert.UpFrefIdeal.τ).loc Cert.UpFrefIdeal.main_arg4))
      ∧ r.2.sem = fun _ => 0)

def quiescent_OddFwd [hOddFwd : Cert.OddFwd.Facts] : Prop :=
  ∀ (m : (ℓ : Loc Cert.OddFwd.nD Cert.OddFwd.τ Cert.OddFwd.sig) → Buf (Elt Bits) ℓ) (g : Dev Cert.OddFwd.nD → PrngReg), Pre_OddFwd m →
    θ_run (Cert.OddFwd.defs (F := Bits)) (onTc (τ := Cert.OddFwd.τ) (Cert.OddFwd.main (F := Bits))) ⟨m, fun _ => 0, g⟩ (fun r => (∀ c : Dev Cert.OddFwd.nD,
      r.2.mem ((c.tc : Thread Cert.OddFwd.nD Cert.OddFwd.τ).loc Cert.OddFwd.main_arg0) = m ((c.tc : Thread Cert.OddFwd.nD Cert.OddFwd.τ).loc Cert.OddFwd.main_arg0)
      ∧ r.2.mem ((c.tc : Thread Cert.OddFwd.nD Cert.OddFwd.τ).loc Cert.OddFwd.main_arg1) = m ((c.tc : Thread Cert.OddFwd.nD Cert.OddFwd.τ).loc Cert.OddFwd.main_arg1)
      ∧ r.2.mem ((c.tc : Thread Cert.OddFwd.nD Cert.OddFwd.τ).loc Cert.OddFwd.main_arg2) = m ((c.tc : Thread Cert.OddFwd.nD Cert.OddFwd.τ).loc Cert.OddFwd.main_arg2)
      ∧ r.2.mem ((c.tc : Thread Cert.OddFwd.nD Cert.OddFwd.τ).loc Cert.OddFwd.main_arg3) = m ((c.tc : Thread Cert.OddFwd.nD Cert.OddFwd.τ).loc Cert.OddFwd.main_arg3)
      ∧ r.2.mem ((c.tc : Thread Cert.OddFwd.nD Cert.OddFwd.τ).loc Cert.OddFwd.main_arg4) = m ((c.tc : Thread Cert.OddFwd.nD Cert.OddFwd.τ).loc Cert.OddFwd.main_arg4))
      ∧ r.2.sem = fun _ => 0)

def quiescent_OddFwdIdeal [hOddFwdIdeal : Cert.OddFwdIdeal.Facts] : Prop :=
  ∀ (m : (ℓ : Loc Cert.OddFwdIdeal.nD Cert.OddFwdIdeal.τ Cert.OddFwdIdeal.sig) → Buf (Elt Ideal) ℓ) (g : Dev Cert.OddFwdIdeal.nD → PrngReg), Pre_OddFwdIdeal m →
    θ_run (Cert.OddFwdIdeal.defs (F := Ideal)) (onTc (τ := Cert.OddFwdIdeal.τ) (Cert.OddFwdIdeal.main (F := Ideal))) ⟨m, fun _ => 0, g⟩ (fun r => (∀ c : Dev Cert.OddFwdIdeal.nD,
      r.2.mem ((c.tc : Thread Cert.OddFwdIdeal.nD Cert.OddFwdIdeal.τ).loc Cert.OddFwdIdeal.main_arg0) = m ((c.tc : Thread Cert.OddFwdIdeal.nD Cert.OddFwdIdeal.τ).loc Cert.OddFwdIdeal.main_arg0)
      ∧ r.2.mem ((c.tc : Thread Cert.OddFwdIdeal.nD Cert.OddFwdIdeal.τ).loc Cert.OddFwdIdeal.main_arg1) = m ((c.tc : Thread Cert.OddFwdIdeal.nD Cert.OddFwdIdeal.τ).loc Cert.OddFwdIdeal.main_arg1)
      ∧ r.2.mem ((c.tc : Thread Cert.OddFwdIdeal.nD Cert.OddFwdIdeal.τ).loc Cert.OddFwdIdeal.main_arg2) = m ((c.tc : Thread Cert.OddFwdIdeal.nD Cert.OddFwdIdeal.τ).loc Cert.OddFwdIdeal.main_arg2)
      ∧ r.2.mem ((c.tc : Thread Cert.OddFwdIdeal.nD Cert.OddFwdIdeal.τ).loc Cert.OddFwdIdeal.main_arg3) = m ((c.tc : Thread Cert.OddFwdIdeal.nD Cert.OddFwdIdeal.τ).loc Cert.OddFwdIdeal.main_arg3)
      ∧ r.2.mem ((c.tc : Thread Cert.OddFwdIdeal.nD Cert.OddFwdIdeal.τ).loc Cert.OddFwdIdeal.main_arg4) = m ((c.tc : Thread Cert.OddFwdIdeal.nD Cert.OddFwdIdeal.τ).loc Cert.OddFwdIdeal.main_arg4))
      ∧ r.2.sem = fun _ => 0)

def quiescent_OddFrefIdeal [hOddFrefIdeal : Cert.OddFrefIdeal.Facts] : Prop :=
  ∀ (m : (ℓ : Loc Cert.OddFrefIdeal.nD Cert.OddFrefIdeal.τ Cert.OddFrefIdeal.sig) → Buf (Elt Ideal) ℓ) (g : Dev Cert.OddFrefIdeal.nD → PrngReg), Pre_OddFrefIdeal m →
    θ_run (Cert.OddFrefIdeal.defs (F := Ideal)) (onTc (τ := Cert.OddFrefIdeal.τ) (Cert.OddFrefIdeal.main (F := Ideal))) ⟨m, fun _ => 0, g⟩ (fun r => (∀ c : Dev Cert.OddFrefIdeal.nD,
      r.2.mem ((c.tc : Thread Cert.OddFrefIdeal.nD Cert.OddFrefIdeal.τ).loc Cert.OddFrefIdeal.main_arg0) = m ((c.tc : Thread Cert.OddFrefIdeal.nD Cert.OddFrefIdeal.τ).loc Cert.OddFrefIdeal.main_arg0)
      ∧ r.2.mem ((c.tc : Thread Cert.OddFrefIdeal.nD Cert.OddFrefIdeal.τ).loc Cert.OddFrefIdeal.main_arg1) = m ((c.tc : Thread Cert.OddFrefIdeal.nD Cert.OddFrefIdeal.τ).loc Cert.OddFrefIdeal.main_arg1)
      ∧ r.2.mem ((c.tc : Thread Cert.OddFrefIdeal.nD Cert.OddFrefIdeal.τ).loc Cert.OddFrefIdeal.main_arg2) = m ((c.tc : Thread Cert.OddFrefIdeal.nD Cert.OddFrefIdeal.τ).loc Cert.OddFrefIdeal.main_arg2)
      ∧ r.2.mem ((c.tc : Thread Cert.OddFrefIdeal.nD Cert.OddFrefIdeal.τ).loc Cert.OddFrefIdeal.main_arg3) = m ((c.tc : Thread Cert.OddFrefIdeal.nD Cert.OddFrefIdeal.τ).loc Cert.OddFrefIdeal.main_arg3)
      ∧ r.2.mem ((c.tc : Thread Cert.OddFrefIdeal.nD Cert.OddFrefIdeal.τ).loc Cert.OddFrefIdeal.main_arg4) = m ((c.tc : Thread Cert.OddFrefIdeal.nD Cert.OddFrefIdeal.τ).loc Cert.OddFrefIdeal.main_arg4))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2)
      ∧ r.2.mem ((c.tc : Thread Cert.DownFwd.nD Cert.DownFwd.τ).loc Cert.DownFwd.main_arg3) = m ((c.tc : Thread Cert.DownFwd.nD Cert.DownFwd.τ).loc Cert.DownFwd.main_arg3)
      ∧ r.2.mem ((c.tc : Thread Cert.DownFwd.nD Cert.DownFwd.τ).loc Cert.DownFwd.main_arg4) = m ((c.tc : Thread Cert.DownFwd.nD Cert.DownFwd.τ).loc Cert.DownFwd.main_arg4))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
      ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
      ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4))
      ∧ r.2.sem = fun _ => 0)

def quiescent_DownFrefIdeal [hDownFrefIdeal : Cert.DownFrefIdeal.Facts] : Prop :=
  ∀ (m : (ℓ : Loc Cert.DownFrefIdeal.nD Cert.DownFrefIdeal.τ Cert.DownFrefIdeal.sig) → Buf (Elt Ideal) ℓ) (g : Dev Cert.DownFrefIdeal.nD → PrngReg), Pre_DownFrefIdeal m →
    θ_run (Cert.DownFrefIdeal.defs (F := Ideal)) (onTc (τ := Cert.DownFrefIdeal.τ) (Cert.DownFrefIdeal.main (F := Ideal))) ⟨m, fun _ => 0, g⟩ (fun r => (∀ c : Dev Cert.DownFrefIdeal.nD,
      r.2.mem ((c.tc : Thread Cert.DownFrefIdeal.nD Cert.DownFrefIdeal.τ).loc Cert.DownFrefIdeal.main_arg0) = m ((c.tc : Thread Cert.DownFrefIdeal.nD Cert.DownFrefIdeal.τ).loc Cert.DownFrefIdeal.main_arg0)
      ∧ r.2.mem ((c.tc : Thread Cert.DownFrefIdeal.nD Cert.DownFrefIdeal.τ).loc Cert.DownFrefIdeal.main_arg1) = m ((c.tc : Thread Cert.DownFrefIdeal.nD Cert.DownFrefIdeal.τ).loc Cert.DownFrefIdeal.main_arg1)
      ∧ r.2.mem ((c.tc : Thread Cert.DownFrefIdeal.nD Cert.DownFrefIdeal.τ).loc Cert.DownFrefIdeal.main_arg2) = m ((c.tc : Thread Cert.DownFrefIdeal.nD Cert.DownFrefIdeal.τ).loc Cert.DownFrefIdeal.main_arg2)
      ∧ r.2.mem ((c.tc : Thread Cert.DownFrefIdeal.nD Cert.DownFrefIdeal.τ).loc Cert.DownFrefIdeal.main_arg3) = m ((c.tc : Thread Cert.DownFrefIdeal.nD Cert.DownFrefIdeal.τ).loc Cert.DownFrefIdeal.main_arg3)
      ∧ r.2.mem ((c.tc : Thread Cert.DownFrefIdeal.nD Cert.DownFrefIdeal.τ).loc Cert.DownFrefIdeal.main_arg4) = m ((c.tc : Thread Cert.DownFrefIdeal.nD Cert.DownFrefIdeal.τ).loc Cert.DownFrefIdeal.main_arg4))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4))
      ∧ r.2.sem = fun _ => 0)

def quiescent_OutFrefIdeal [hOutFrefIdeal : Cert.OutFrefIdeal.Facts] : Prop :=
  ∀ (m : (ℓ : Loc Cert.OutFrefIdeal.nD Cert.OutFrefIdeal.τ Cert.OutFrefIdeal.sig) → Buf (Elt Ideal) ℓ) (g : Dev Cert.OutFrefIdeal.nD → PrngReg), Pre_OutFrefIdeal m →
    θ_run (Cert.OutFrefIdeal.defs (F := Ideal)) (onTc (τ := Cert.OutFrefIdeal.τ) (Cert.OutFrefIdeal.main (F := Ideal))) ⟨m, fun _ => 0, g⟩ (fun r => (∀ c : Dev Cert.OutFrefIdeal.nD,
      r.2.mem ((c.tc : Thread Cert.OutFrefIdeal.nD Cert.OutFrefIdeal.τ).loc Cert.OutFrefIdeal.main_arg0) = m ((c.tc : Thread Cert.OutFrefIdeal.nD Cert.OutFrefIdeal.τ).loc Cert.OutFrefIdeal.main_arg0)
      ∧ r.2.mem ((c.tc : Thread Cert.OutFrefIdeal.nD Cert.OutFrefIdeal.τ).loc Cert.OutFrefIdeal.main_arg1) = m ((c.tc : Thread Cert.OutFrefIdeal.nD Cert.OutFrefIdeal.τ).loc Cert.OutFrefIdeal.main_arg1)
      ∧ r.2.mem ((c.tc : Thread Cert.OutFrefIdeal.nD Cert.OutFrefIdeal.τ).loc Cert.OutFrefIdeal.main_arg2) = m ((c.tc : Thread Cert.OutFrefIdeal.nD Cert.OutFrefIdeal.τ).loc Cert.OutFrefIdeal.main_arg2)
      ∧ r.2.mem ((c.tc : Thread Cert.OutFrefIdeal.nD Cert.OutFrefIdeal.τ).loc Cert.OutFrefIdeal.main_arg3) = m ((c.tc : Thread Cert.OutFrefIdeal.nD Cert.OutFrefIdeal.τ).loc Cert.OutFrefIdeal.main_arg3)
      ∧ r.2.mem ((c.tc : Thread Cert.OutFrefIdeal.nD Cert.OutFrefIdeal.τ).loc Cert.OutFrefIdeal.main_arg4) = m ((c.tc : Thread Cert.OutFrefIdeal.nD Cert.OutFrefIdeal.τ).loc Cert.OutFrefIdeal.main_arg4))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5))
      ∧ r.2.sem = fun _ => 0)

def quiescent_MixFrefIdeal [hMixFrefIdeal : Cert.MixFrefIdeal.Facts] : Prop :=
  ∀ (m : (ℓ : Loc Cert.MixFrefIdeal.nD Cert.MixFrefIdeal.τ Cert.MixFrefIdeal.sig) → Buf (Elt Ideal) ℓ) (g : Dev Cert.MixFrefIdeal.nD → PrngReg), Pre_MixFrefIdeal m →
    θ_run (Cert.MixFrefIdeal.defs (F := Ideal)) (onTc (τ := Cert.MixFrefIdeal.τ) (Cert.MixFrefIdeal.main (F := Ideal))) ⟨m, fun _ => 0, g⟩ (fun r => (∀ c : Dev Cert.MixFrefIdeal.nD,
      r.2.mem ((c.tc : Thread Cert.MixFrefIdeal.nD Cert.MixFrefIdeal.τ).loc Cert.MixFrefIdeal.main_arg0) = m ((c.tc : Thread Cert.MixFrefIdeal.nD Cert.MixFrefIdeal.τ).loc Cert.MixFrefIdeal.main_arg0)
      ∧ r.2.mem ((c.tc : Thread Cert.MixFrefIdeal.nD Cert.MixFrefIdeal.τ).loc Cert.MixFrefIdeal.main_arg1) = m ((c.tc : Thread Cert.MixFrefIdeal.nD Cert.MixFrefIdeal.τ).loc Cert.MixFrefIdeal.main_arg1)
      ∧ r.2.mem ((c.tc : Thread Cert.MixFrefIdeal.nD Cert.MixFrefIdeal.τ).loc Cert.MixFrefIdeal.main_arg2) = m ((c.tc : Thread Cert.MixFrefIdeal.nD Cert.MixFrefIdeal.τ).loc Cert.MixFrefIdeal.main_arg2)
      ∧ r.2.mem ((c.tc : Thread Cert.MixFrefIdeal.nD Cert.MixFrefIdeal.τ).loc Cert.MixFrefIdeal.main_arg3) = m ((c.tc : Thread Cert.MixFrefIdeal.nD Cert.MixFrefIdeal.τ).loc Cert.MixFrefIdeal.main_arg3)
      ∧ r.2.mem ((c.tc : Thread Cert.MixFrefIdeal.nD Cert.MixFrefIdeal.τ).loc Cert.MixFrefIdeal.main_arg4) = m ((c.tc : Thread Cert.MixFrefIdeal.nD Cert.MixFrefIdeal.τ).loc Cert.MixFrefIdeal.main_arg4)
      ∧ r.2.mem ((c.tc : Thread Cert.MixFrefIdeal.nD Cert.MixFrefIdeal.τ).loc Cert.MixFrefIdeal.main_arg5) = m ((c.tc : Thread Cert.MixFrefIdeal.nD Cert.MixFrefIdeal.τ).loc Cert.MixFrefIdeal.main_arg5))
      ∧ r.2.sem = fun _ => 0)

def quiescent_LastFwd [hLastFwd : Cert.LastFwd.Facts] : Prop :=
  ∀ (m : (ℓ : Loc Cert.LastFwd.nD Cert.LastFwd.τ Cert.LastFwd.sig) → Buf (Elt Bits) ℓ) (g : Dev Cert.LastFwd.nD → PrngReg), Pre_LastFwd m →
    θ_run (Cert.LastFwd.defs (F := Bits)) (onTc (τ := Cert.LastFwd.τ) (Cert.LastFwd.main (F := Bits))) ⟨m, fun _ => 0, g⟩ (fun r => (∀ c : Dev Cert.LastFwd.nD,
      r.2.mem ((c.tc : Thread Cert.LastFwd.nD Cert.LastFwd.τ).loc Cert.LastFwd.main_arg0) = m ((c.tc : Thread Cert.LastFwd.nD Cert.LastFwd.τ).loc Cert.LastFwd.main_arg0)
      ∧ r.2.mem ((c.tc : Thread Cert.LastFwd.nD Cert.LastFwd.τ).loc Cert.LastFwd.main_arg1) = m ((c.tc : Thread Cert.LastFwd.nD Cert.LastFwd.τ).loc Cert.LastFwd.main_arg1)
      ∧ r.2.mem ((c.tc : Thread Cert.LastFwd.nD Cert.LastFwd.τ).loc Cert.LastFwd.main_arg2) = m ((c.tc : Thread Cert.LastFwd.nD Cert.LastFwd.τ).loc Cert.LastFwd.main_arg2)
      ∧ r.2.mem ((c.tc : Thread Cert.LastFwd.nD Cert.LastFwd.τ).loc Cert.LastFwd.main_arg3) = m ((c.tc : Thread Cert.LastFwd.nD Cert.LastFwd.τ).loc Cert.LastFwd.main_arg3)
      ∧ r.2.mem ((c.tc : Thread Cert.LastFwd.nD Cert.LastFwd.τ).loc Cert.LastFwd.main_arg4) = m ((c.tc : Thread Cert.LastFwd.nD Cert.LastFwd.τ).loc Cert.LastFwd.main_arg4)
      ∧ r.2.mem ((c.tc : Thread Cert.LastFwd.nD Cert.LastFwd.τ).loc Cert.LastFwd.main_arg5) = m ((c.tc : Thread Cert.LastFwd.nD Cert.LastFwd.τ).loc Cert.LastFwd.main_arg5))
      ∧ r.2.sem = fun _ => 0)

def quiescent_LastFwdIdeal [hLastFwdIdeal : Cert.LastFwdIdeal.Facts] : Prop :=
  ∀ (m : (ℓ : Loc Cert.LastFwdIdeal.nD Cert.LastFwdIdeal.τ Cert.LastFwdIdeal.sig) → Buf (Elt Ideal) ℓ) (g : Dev Cert.LastFwdIdeal.nD → PrngReg), Pre_LastFwdIdeal m →
    θ_run (Cert.LastFwdIdeal.defs (F := Ideal)) (onTc (τ := Cert.LastFwdIdeal.τ) (Cert.LastFwdIdeal.main (F := Ideal))) ⟨m, fun _ => 0, g⟩ (fun r => (∀ c : Dev Cert.LastFwdIdeal.nD,
      r.2.mem ((c.tc : Thread Cert.LastFwdIdeal.nD Cert.LastFwdIdeal.τ).loc Cert.LastFwdIdeal.main_arg0) = m ((c.tc : Thread Cert.LastFwdIdeal.nD Cert.LastFwdIdeal.τ).loc Cert.LastFwdIdeal.main_arg0)
      ∧ r.2.mem ((c.tc : Thread Cert.LastFwdIdeal.nD Cert.LastFwdIdeal.τ).loc Cert.LastFwdIdeal.main_arg1) = m ((c.tc : Thread Cert.LastFwdIdeal.nD Cert.LastFwdIdeal.τ).loc Cert.LastFwdIdeal.main_arg1)
      ∧ r.2.mem ((c.tc : Thread Cert.LastFwdIdeal.nD Cert.LastFwdIdeal.τ).loc Cert.LastFwdIdeal.main_arg2) = m ((c.tc : Thread Cert.LastFwdIdeal.nD Cert.LastFwdIdeal.τ).loc Cert.LastFwdIdeal.main_arg2)
      ∧ r.2.mem ((c.tc : Thread Cert.LastFwdIdeal.nD Cert.LastFwdIdeal.τ).loc Cert.LastFwdIdeal.main_arg3) = m ((c.tc : Thread Cert.LastFwdIdeal.nD Cert.LastFwdIdeal.τ).loc Cert.LastFwdIdeal.main_arg3)
      ∧ r.2.mem ((c.tc : Thread Cert.LastFwdIdeal.nD Cert.LastFwdIdeal.τ).loc Cert.LastFwdIdeal.main_arg4) = m ((c.tc : Thread Cert.LastFwdIdeal.nD Cert.LastFwdIdeal.τ).loc Cert.LastFwdIdeal.main_arg4)
      ∧ r.2.mem ((c.tc : Thread Cert.LastFwdIdeal.nD Cert.LastFwdIdeal.τ).loc Cert.LastFwdIdeal.main_arg5) = m ((c.tc : Thread Cert.LastFwdIdeal.nD Cert.LastFwdIdeal.τ).loc Cert.LastFwdIdeal.main_arg5))
      ∧ r.2.sem = fun _ => 0)

def quiescent_LastFrefIdeal [hLastFrefIdeal : Cert.LastFrefIdeal.Facts] : Prop :=
  ∀ (m : (ℓ : Loc Cert.LastFrefIdeal.nD Cert.LastFrefIdeal.τ Cert.LastFrefIdeal.sig) → Buf (Elt Ideal) ℓ) (g : Dev Cert.LastFrefIdeal.nD → PrngReg), Pre_LastFrefIdeal m →
    θ_run (Cert.LastFrefIdeal.defs (F := Ideal)) (onTc (τ := Cert.LastFrefIdeal.τ) (Cert.LastFrefIdeal.main (F := Ideal))) ⟨m, fun _ => 0, g⟩ (fun r => (∀ c : Dev Cert.LastFrefIdeal.nD,
      r.2.mem ((c.tc : Thread Cert.LastFrefIdeal.nD Cert.LastFrefIdeal.τ).loc Cert.LastFrefIdeal.main_arg0) = m ((c.tc : Thread Cert.LastFrefIdeal.nD Cert.LastFrefIdeal.τ).loc Cert.LastFrefIdeal.main_arg0)
      ∧ r.2.mem ((c.tc : Thread Cert.LastFrefIdeal.nD Cert.LastFrefIdeal.τ).loc Cert.LastFrefIdeal.main_arg1) = m ((c.tc : Thread Cert.LastFrefIdeal.nD Cert.LastFrefIdeal.τ).loc Cert.LastFrefIdeal.main_arg1)
      ∧ r.2.mem ((c.tc : Thread Cert.LastFrefIdeal.nD Cert.LastFrefIdeal.τ).loc Cert.LastFrefIdeal.main_arg2) = m ((c.tc : Thread Cert.LastFrefIdeal.nD Cert.LastFrefIdeal.τ).loc Cert.LastFrefIdeal.main_arg2)
      ∧ r.2.mem ((c.tc : Thread Cert.LastFrefIdeal.nD Cert.LastFrefIdeal.τ).loc Cert.LastFrefIdeal.main_arg3) = m ((c.tc : Thread Cert.LastFrefIdeal.nD Cert.LastFrefIdeal.τ).loc Cert.LastFrefIdeal.main_arg3)
      ∧ r.2.mem ((c.tc : Thread Cert.LastFrefIdeal.nD Cert.LastFrefIdeal.τ).loc Cert.LastFrefIdeal.main_arg4) = m ((c.tc : Thread Cert.LastFrefIdeal.nD Cert.LastFrefIdeal.τ).loc Cert.LastFrefIdeal.main_arg4)
      ∧ r.2.mem ((c.tc : Thread Cert.LastFrefIdeal.nD Cert.LastFrefIdeal.τ).loc Cert.LastFrefIdeal.main_arg5) = m ((c.tc : Thread Cert.LastFrefIdeal.nD Cert.LastFrefIdeal.τ).loc Cert.LastFrefIdeal.main_arg5))
      ∧ r.2.sem = fun _ => 0)

def quiescent_OddAdam [hOddAdam : Cert.OddAdam.Facts] : Prop :=
  ∀ (m : (ℓ : Loc Cert.OddAdam.nD Cert.OddAdam.τ Cert.OddAdam.sig) → Buf (Elt Bits) ℓ) (g : Dev Cert.OddAdam.nD → PrngReg), Pre_OddAdam m →
    θ_run (Cert.OddAdam.defs (F := Bits)) (onTc (τ := Cert.OddAdam.τ) (Cert.OddAdam.main (F := Bits))) ⟨m, fun _ => 0, g⟩ (fun r => (∀ c : Dev Cert.OddAdam.nD,
      r.2.mem ((c.tc : Thread Cert.OddAdam.nD Cert.OddAdam.τ).loc Cert.OddAdam.main_arg0) = m ((c.tc : Thread Cert.OddAdam.nD Cert.OddAdam.τ).loc Cert.OddAdam.main_arg0)
      ∧ r.2.mem ((c.tc : Thread Cert.OddAdam.nD Cert.OddAdam.τ).loc Cert.OddAdam.main_arg1) = m ((c.tc : Thread Cert.OddAdam.nD Cert.OddAdam.τ).loc Cert.OddAdam.main_arg1)
      ∧ r.2.mem ((c.tc : Thread Cert.OddAdam.nD Cert.OddAdam.τ).loc Cert.OddAdam.main_arg2) = m ((c.tc : Thread Cert.OddAdam.nD Cert.OddAdam.τ).loc Cert.OddAdam.main_arg2)
      ∧ r.2.mem ((c.tc : Thread Cert.OddAdam.nD Cert.OddAdam.τ).loc Cert.OddAdam.main_arg3) = m ((c.tc : Thread Cert.OddAdam.nD Cert.OddAdam.τ).loc Cert.OddAdam.main_arg3))
      ∧ r.2.sem = fun _ => 0)

def quiescent_OddAdamIdeal [hOddAdamIdeal : Cert.OddAdamIdeal.Facts] : Prop :=
  ∀ (m : (ℓ : Loc Cert.OddAdamIdeal.nD Cert.OddAdamIdeal.τ Cert.OddAdamIdeal.sig) → Buf (Elt Ideal) ℓ) (g : Dev Cert.OddAdamIdeal.nD → PrngReg), Pre_OddAdamIdeal m →
    θ_run (Cert.OddAdamIdeal.defs (F := Ideal)) (onTc (τ := Cert.OddAdamIdeal.τ) (Cert.OddAdamIdeal.main (F := Ideal))) ⟨m, fun _ => 0, g⟩ (fun r => (∀ c : Dev Cert.OddAdamIdeal.nD,
      r.2.mem ((c.tc : Thread Cert.OddAdamIdeal.nD Cert.OddAdamIdeal.τ).loc Cert.OddAdamIdeal.main_arg0) = m ((c.tc : Thread Cert.OddAdamIdeal.nD Cert.OddAdamIdeal.τ).loc Cert.OddAdamIdeal.main_arg0)
      ∧ r.2.mem ((c.tc : Thread Cert.OddAdamIdeal.nD Cert.OddAdamIdeal.τ).loc Cert.OddAdamIdeal.main_arg1) = m ((c.tc : Thread Cert.OddAdamIdeal.nD Cert.OddAdamIdeal.τ).loc Cert.OddAdamIdeal.main_arg1)
      ∧ r.2.mem ((c.tc : Thread Cert.OddAdamIdeal.nD Cert.OddAdamIdeal.τ).loc Cert.OddAdamIdeal.main_arg2) = m ((c.tc : Thread Cert.OddAdamIdeal.nD Cert.OddAdamIdeal.τ).loc Cert.OddAdamIdeal.main_arg2)
      ∧ r.2.mem ((c.tc : Thread Cert.OddAdamIdeal.nD Cert.OddAdamIdeal.τ).loc Cert.OddAdamIdeal.main_arg3) = m ((c.tc : Thread Cert.OddAdamIdeal.nD Cert.OddAdamIdeal.τ).loc Cert.OddAdamIdeal.main_arg3))
      ∧ r.2.sem = fun _ => 0)

def quiescent_OddArefIdeal [hOddArefIdeal : Cert.OddArefIdeal.Facts] : Prop :=
  ∀ (m : (ℓ : Loc Cert.OddArefIdeal.nD Cert.OddArefIdeal.τ Cert.OddArefIdeal.sig) → Buf (Elt Ideal) ℓ) (g : Dev Cert.OddArefIdeal.nD → PrngReg), Pre_OddArefIdeal m →
    θ_run (Cert.OddArefIdeal.defs (F := Ideal)) (onTc (τ := Cert.OddArefIdeal.τ) (Cert.OddArefIdeal.main (F := Ideal))) ⟨m, fun _ => 0, g⟩ (fun r => (∀ c : Dev Cert.OddArefIdeal.nD,
      r.2.mem ((c.tc : Thread Cert.OddArefIdeal.nD Cert.OddArefIdeal.τ).loc Cert.OddArefIdeal.main_arg0) = m ((c.tc : Thread Cert.OddArefIdeal.nD Cert.OddArefIdeal.τ).loc Cert.OddArefIdeal.main_arg0)
      ∧ r.2.mem ((c.tc : Thread Cert.OddArefIdeal.nD Cert.OddArefIdeal.τ).loc Cert.OddArefIdeal.main_arg1) = m ((c.tc : Thread Cert.OddArefIdeal.nD Cert.OddArefIdeal.τ).loc Cert.OddArefIdeal.main_arg1)
      ∧ r.2.mem ((c.tc : Thread Cert.OddArefIdeal.nD Cert.OddArefIdeal.τ).loc Cert.OddArefIdeal.main_arg2) = m ((c.tc : Thread Cert.OddArefIdeal.nD Cert.OddArefIdeal.τ).loc Cert.OddArefIdeal.main_arg2)
      ∧ r.2.mem ((c.tc : Thread Cert.OddArefIdeal.nD Cert.OddArefIdeal.τ).loc Cert.OddArefIdeal.main_arg3) = m ((c.tc : Thread Cert.OddArefIdeal.nD Cert.OddArefIdeal.τ).loc Cert.OddArefIdeal.main_arg3))
      ∧ r.2.sem = fun _ => 0)

def quiescent_InAdam [hInAdam : Cert.InAdam.Facts] : Prop :=
  ∀ (m : (ℓ : Loc Cert.InAdam.nD Cert.InAdam.τ Cert.InAdam.sig) → Buf (Elt Bits) ℓ) (g : Dev Cert.InAdam.nD → PrngReg), Pre_InAdam m →
    θ_run (Cert.InAdam.defs (F := Bits)) (onTc (τ := Cert.InAdam.τ) (Cert.InAdam.main (F := Bits))) ⟨m, fun _ => 0, g⟩ (fun r => (∀ c : Dev Cert.InAdam.nD,
      r.2.mem ((c.tc : Thread Cert.InAdam.nD Cert.InAdam.τ).loc Cert.InAdam.main_arg0) = m ((c.tc : Thread Cert.InAdam.nD Cert.InAdam.τ).loc Cert.InAdam.main_arg0)
      ∧ r.2.mem ((c.tc : Thread Cert.InAdam.nD Cert.InAdam.τ).loc Cert.InAdam.main_arg1) = m ((c.tc : Thread Cert.InAdam.nD Cert.InAdam.τ).loc Cert.InAdam.main_arg1)
      ∧ r.2.mem ((c.tc : Thread Cert.InAdam.nD Cert.InAdam.τ).loc Cert.InAdam.main_arg2) = m ((c.tc : Thread Cert.InAdam.nD Cert.InAdam.τ).loc Cert.InAdam.main_arg2)
      ∧ r.2.mem ((c.tc : Thread Cert.InAdam.nD Cert.InAdam.τ).loc Cert.InAdam.main_arg3) = m ((c.tc : Thread Cert.InAdam.nD Cert.InAdam.τ).loc Cert.InAdam.main_arg3))
      ∧ r.2.sem = fun _ => 0)

def quiescent_InAdamIdeal [hInAdamIdeal : Cert.InAdamIdeal.Facts] : Prop :=
  ∀ (m : (ℓ : Loc Cert.InAdamIdeal.nD Cert.InAdamIdeal.τ Cert.InAdamIdeal.sig) → Buf (Elt Ideal) ℓ) (g : Dev Cert.InAdamIdeal.nD → PrngReg), Pre_InAdamIdeal m →
    θ_run (Cert.InAdamIdeal.defs (F := Ideal)) (onTc (τ := Cert.InAdamIdeal.τ) (Cert.InAdamIdeal.main (F := Ideal))) ⟨m, fun _ => 0, g⟩ (fun r => (∀ c : Dev Cert.InAdamIdeal.nD,
      r.2.mem ((c.tc : Thread Cert.InAdamIdeal.nD Cert.InAdamIdeal.τ).loc Cert.InAdamIdeal.main_arg0) = m ((c.tc : Thread Cert.InAdamIdeal.nD Cert.InAdamIdeal.τ).loc Cert.InAdamIdeal.main_arg0)
      ∧ r.2.mem ((c.tc : Thread Cert.InAdamIdeal.nD Cert.InAdamIdeal.τ).loc Cert.InAdamIdeal.main_arg1) = m ((c.tc : Thread Cert.InAdamIdeal.nD Cert.InAdamIdeal.τ).loc Cert.InAdamIdeal.main_arg1)
      ∧ r.2.mem ((c.tc : Thread Cert.InAdamIdeal.nD Cert.InAdamIdeal.τ).loc Cert.InAdamIdeal.main_arg2) = m ((c.tc : Thread Cert.InAdamIdeal.nD Cert.InAdamIdeal.τ).loc Cert.InAdamIdeal.main_arg2)
      ∧ r.2.mem ((c.tc : Thread Cert.InAdamIdeal.nD Cert.InAdamIdeal.τ).loc Cert.InAdamIdeal.main_arg3) = m ((c.tc : Thread Cert.InAdamIdeal.nD Cert.InAdamIdeal.τ).loc Cert.InAdamIdeal.main_arg3))
      ∧ r.2.sem = fun _ => 0)

def quiescent_InArefIdeal [hInArefIdeal : Cert.InArefIdeal.Facts] : Prop :=
  ∀ (m : (ℓ : Loc Cert.InArefIdeal.nD Cert.InArefIdeal.τ Cert.InArefIdeal.sig) → Buf (Elt Ideal) ℓ) (g : Dev Cert.InArefIdeal.nD → PrngReg), Pre_InArefIdeal m →
    θ_run (Cert.InArefIdeal.defs (F := Ideal)) (onTc (τ := Cert.InArefIdeal.τ) (Cert.InArefIdeal.main (F := Ideal))) ⟨m, fun _ => 0, g⟩ (fun r => (∀ c : Dev Cert.InArefIdeal.nD,
      r.2.mem ((c.tc : Thread Cert.InArefIdeal.nD Cert.InArefIdeal.τ).loc Cert.InArefIdeal.main_arg0) = m ((c.tc : Thread Cert.InArefIdeal.nD Cert.InArefIdeal.τ).loc Cert.InArefIdeal.main_arg0)
      ∧ r.2.mem ((c.tc : Thread Cert.InArefIdeal.nD Cert.InArefIdeal.τ).loc Cert.InArefIdeal.main_arg1) = m ((c.tc : Thread Cert.InArefIdeal.nD Cert.InArefIdeal.τ).loc Cert.InArefIdeal.main_arg1)
      ∧ r.2.mem ((c.tc : Thread Cert.InArefIdeal.nD Cert.InArefIdeal.τ).loc Cert.InArefIdeal.main_arg2) = m ((c.tc : Thread Cert.InArefIdeal.nD Cert.InArefIdeal.τ).loc Cert.InArefIdeal.main_arg2)
      ∧ r.2.mem ((c.tc : Thread Cert.InArefIdeal.nD Cert.InArefIdeal.τ).loc Cert.InArefIdeal.main_arg3) = m ((c.tc : Thread Cert.InArefIdeal.nD Cert.InArefIdeal.τ).loc Cert.InArefIdeal.main_arg3))
      ∧ r.2.sem = fun _ => 0)

def quiescent_OutAdam [hOutAdam : Cert.OutAdam.Facts] : Prop :=
  ∀ (m : (ℓ : Loc Cert.OutAdam.nD Cert.OutAdam.τ Cert.OutAdam.sig) → Buf (Elt Bits) ℓ) (g : Dev Cert.OutAdam.nD → PrngReg), Pre_OutAdam m →
    θ_run (Cert.OutAdam.defs (F := Bits)) (onTc (τ := Cert.OutAdam.τ) (Cert.OutAdam.main (F := Bits))) ⟨m, fun _ => 0, g⟩ (fun r => (∀ c : Dev Cert.OutAdam.nD,
      r.2.mem ((c.tc : Thread Cert.OutAdam.nD Cert.OutAdam.τ).loc Cert.OutAdam.main_arg0) = m ((c.tc : Thread Cert.OutAdam.nD Cert.OutAdam.τ).loc Cert.OutAdam.main_arg0)
      ∧ r.2.mem ((c.tc : Thread Cert.OutAdam.nD Cert.OutAdam.τ).loc Cert.OutAdam.main_arg1) = m ((c.tc : Thread Cert.OutAdam.nD Cert.OutAdam.τ).loc Cert.OutAdam.main_arg1)
      ∧ r.2.mem ((c.tc : Thread Cert.OutAdam.nD Cert.OutAdam.τ).loc Cert.OutAdam.main_arg2) = m ((c.tc : Thread Cert.OutAdam.nD Cert.OutAdam.τ).loc Cert.OutAdam.main_arg2)
      ∧ r.2.mem ((c.tc : Thread Cert.OutAdam.nD Cert.OutAdam.τ).loc Cert.OutAdam.main_arg3) = m ((c.tc : Thread Cert.OutAdam.nD Cert.OutAdam.τ).loc Cert.OutAdam.main_arg3))
      ∧ r.2.sem = fun _ => 0)

def quiescent_OutAdamIdeal [hOutAdamIdeal : Cert.OutAdamIdeal.Facts] : Prop :=
  ∀ (m : (ℓ : Loc Cert.OutAdamIdeal.nD Cert.OutAdamIdeal.τ Cert.OutAdamIdeal.sig) → Buf (Elt Ideal) ℓ) (g : Dev Cert.OutAdamIdeal.nD → PrngReg), Pre_OutAdamIdeal m →
    θ_run (Cert.OutAdamIdeal.defs (F := Ideal)) (onTc (τ := Cert.OutAdamIdeal.τ) (Cert.OutAdamIdeal.main (F := Ideal))) ⟨m, fun _ => 0, g⟩ (fun r => (∀ c : Dev Cert.OutAdamIdeal.nD,
      r.2.mem ((c.tc : Thread Cert.OutAdamIdeal.nD Cert.OutAdamIdeal.τ).loc Cert.OutAdamIdeal.main_arg0) = m ((c.tc : Thread Cert.OutAdamIdeal.nD Cert.OutAdamIdeal.τ).loc Cert.OutAdamIdeal.main_arg0)
      ∧ r.2.mem ((c.tc : Thread Cert.OutAdamIdeal.nD Cert.OutAdamIdeal.τ).loc Cert.OutAdamIdeal.main_arg1) = m ((c.tc : Thread Cert.OutAdamIdeal.nD Cert.OutAdamIdeal.τ).loc Cert.OutAdamIdeal.main_arg1)
      ∧ r.2.mem ((c.tc : Thread Cert.OutAdamIdeal.nD Cert.OutAdamIdeal.τ).loc Cert.OutAdamIdeal.main_arg2) = m ((c.tc : Thread Cert.OutAdamIdeal.nD Cert.OutAdamIdeal.τ).loc Cert.OutAdamIdeal.main_arg2)
      ∧ r.2.mem ((c.tc : Thread Cert.OutAdamIdeal.nD Cert.OutAdamIdeal.τ).loc Cert.OutAdamIdeal.main_arg3) = m ((c.tc : Thread Cert.OutAdamIdeal.nD Cert.OutAdamIdeal.τ).loc Cert.OutAdamIdeal.main_arg3))
      ∧ r.2.sem = fun _ => 0)

def quiescent_OutArefIdeal [hOutArefIdeal : Cert.OutArefIdeal.Facts] : Prop :=
  ∀ (m : (ℓ : Loc Cert.OutArefIdeal.nD Cert.OutArefIdeal.τ Cert.OutArefIdeal.sig) → Buf (Elt Ideal) ℓ) (g : Dev Cert.OutArefIdeal.nD → PrngReg), Pre_OutArefIdeal m →
    θ_run (Cert.OutArefIdeal.defs (F := Ideal)) (onTc (τ := Cert.OutArefIdeal.τ) (Cert.OutArefIdeal.main (F := Ideal))) ⟨m, fun _ => 0, g⟩ (fun r => (∀ c : Dev Cert.OutArefIdeal.nD,
      r.2.mem ((c.tc : Thread Cert.OutArefIdeal.nD Cert.OutArefIdeal.τ).loc Cert.OutArefIdeal.main_arg0) = m ((c.tc : Thread Cert.OutArefIdeal.nD Cert.OutArefIdeal.τ).loc Cert.OutArefIdeal.main_arg0)
      ∧ r.2.mem ((c.tc : Thread Cert.OutArefIdeal.nD Cert.OutArefIdeal.τ).loc Cert.OutArefIdeal.main_arg1) = m ((c.tc : Thread Cert.OutArefIdeal.nD Cert.OutArefIdeal.τ).loc Cert.OutArefIdeal.main_arg1)
      ∧ r.2.mem ((c.tc : Thread Cert.OutArefIdeal.nD Cert.OutArefIdeal.τ).loc Cert.OutArefIdeal.main_arg2) = m ((c.tc : Thread Cert.OutArefIdeal.nD Cert.OutArefIdeal.τ).loc Cert.OutArefIdeal.main_arg2)
      ∧ r.2.mem ((c.tc : Thread Cert.OutArefIdeal.nD Cert.OutArefIdeal.τ).loc Cert.OutArefIdeal.main_arg3) = m ((c.tc : Thread Cert.OutArefIdeal.nD Cert.OutArefIdeal.τ).loc Cert.OutArefIdeal.main_arg3))
      ∧ r.2.sem = fun _ => 0)

def quiescent_UpAdam [hUpAdam : Cert.UpAdam.Facts] : Prop :=
  ∀ (m : (ℓ : Loc Cert.UpAdam.nD Cert.UpAdam.τ Cert.UpAdam.sig) → Buf (Elt Bits) ℓ) (g : Dev Cert.UpAdam.nD → PrngReg), Pre_UpAdam m →
    θ_run (Cert.UpAdam.defs (F := Bits)) (onTc (τ := Cert.UpAdam.τ) (Cert.UpAdam.main (F := Bits))) ⟨m, fun _ => 0, g⟩ (fun r => (∀ c : Dev Cert.UpAdam.nD,
      r.2.mem ((c.tc : Thread Cert.UpAdam.nD Cert.UpAdam.τ).loc Cert.UpAdam.main_arg0) = m ((c.tc : Thread Cert.UpAdam.nD Cert.UpAdam.τ).loc Cert.UpAdam.main_arg0)
      ∧ r.2.mem ((c.tc : Thread Cert.UpAdam.nD Cert.UpAdam.τ).loc Cert.UpAdam.main_arg1) = m ((c.tc : Thread Cert.UpAdam.nD Cert.UpAdam.τ).loc Cert.UpAdam.main_arg1)
      ∧ r.2.mem ((c.tc : Thread Cert.UpAdam.nD Cert.UpAdam.τ).loc Cert.UpAdam.main_arg2) = m ((c.tc : Thread Cert.UpAdam.nD Cert.UpAdam.τ).loc Cert.UpAdam.main_arg2)
      ∧ r.2.mem ((c.tc : Thread Cert.UpAdam.nD Cert.UpAdam.τ).loc Cert.UpAdam.main_arg3) = m ((c.tc : Thread Cert.UpAdam.nD Cert.UpAdam.τ).loc Cert.UpAdam.main_arg3)
      ∧ r.2.mem ((c.tc : Thread Cert.UpAdam.nD Cert.UpAdam.τ).loc Cert.UpAdam.main_arg4) = m ((c.tc : Thread Cert.UpAdam.nD Cert.UpAdam.τ).loc Cert.UpAdam.main_arg4))
      ∧ r.2.sem = fun _ => 0)

def quiescent_UpAdamIdeal [hUpAdamIdeal : Cert.UpAdamIdeal.Facts] : Prop :=
  ∀ (m : (ℓ : Loc Cert.UpAdamIdeal.nD Cert.UpAdamIdeal.τ Cert.UpAdamIdeal.sig) → Buf (Elt Ideal) ℓ) (g : Dev Cert.UpAdamIdeal.nD → PrngReg), Pre_UpAdamIdeal m →
    θ_run (Cert.UpAdamIdeal.defs (F := Ideal)) (onTc (τ := Cert.UpAdamIdeal.τ) (Cert.UpAdamIdeal.main (F := Ideal))) ⟨m, fun _ => 0, g⟩ (fun r => (∀ c : Dev Cert.UpAdamIdeal.nD,
      r.2.mem ((c.tc : Thread Cert.UpAdamIdeal.nD Cert.UpAdamIdeal.τ).loc Cert.UpAdamIdeal.main_arg0) = m ((c.tc : Thread Cert.UpAdamIdeal.nD Cert.UpAdamIdeal.τ).loc Cert.UpAdamIdeal.main_arg0)
      ∧ r.2.mem ((c.tc : Thread Cert.UpAdamIdeal.nD Cert.UpAdamIdeal.τ).loc Cert.UpAdamIdeal.main_arg1) = m ((c.tc : Thread Cert.UpAdamIdeal.nD Cert.UpAdamIdeal.τ).loc Cert.UpAdamIdeal.main_arg1)
      ∧ r.2.mem ((c.tc : Thread Cert.UpAdamIdeal.nD Cert.UpAdamIdeal.τ).loc Cert.UpAdamIdeal.main_arg2) = m ((c.tc : Thread Cert.UpAdamIdeal.nD Cert.UpAdamIdeal.τ).loc Cert.UpAdamIdeal.main_arg2)
      ∧ r.2.mem ((c.tc : Thread Cert.UpAdamIdeal.nD Cert.UpAdamIdeal.τ).loc Cert.UpAdamIdeal.main_arg3) = m ((c.tc : Thread Cert.UpAdamIdeal.nD Cert.UpAdamIdeal.τ).loc Cert.UpAdamIdeal.main_arg3)
      ∧ r.2.mem ((c.tc : Thread Cert.UpAdamIdeal.nD Cert.UpAdamIdeal.τ).loc Cert.UpAdamIdeal.main_arg4) = m ((c.tc : Thread Cert.UpAdamIdeal.nD Cert.UpAdamIdeal.τ).loc Cert.UpAdamIdeal.main_arg4))
      ∧ r.2.sem = fun _ => 0)

def quiescent_UpArefIdeal [hUpArefIdeal : Cert.UpArefIdeal.Facts] : Prop :=
  ∀ (m : (ℓ : Loc Cert.UpArefIdeal.nD Cert.UpArefIdeal.τ Cert.UpArefIdeal.sig) → Buf (Elt Ideal) ℓ) (g : Dev Cert.UpArefIdeal.nD → PrngReg), Pre_UpArefIdeal m →
    θ_run (Cert.UpArefIdeal.defs (F := Ideal)) (onTc (τ := Cert.UpArefIdeal.τ) (Cert.UpArefIdeal.main (F := Ideal))) ⟨m, fun _ => 0, g⟩ (fun r => (∀ c : Dev Cert.UpArefIdeal.nD,
      r.2.mem ((c.tc : Thread Cert.UpArefIdeal.nD Cert.UpArefIdeal.τ).loc Cert.UpArefIdeal.main_arg0) = m ((c.tc : Thread Cert.UpArefIdeal.nD Cert.UpArefIdeal.τ).loc Cert.UpArefIdeal.main_arg0)
      ∧ r.2.mem ((c.tc : Thread Cert.UpArefIdeal.nD Cert.UpArefIdeal.τ).loc Cert.UpArefIdeal.main_arg1) = m ((c.tc : Thread Cert.UpArefIdeal.nD Cert.UpArefIdeal.τ).loc Cert.UpArefIdeal.main_arg1)
      ∧ r.2.mem ((c.tc : Thread Cert.UpArefIdeal.nD Cert.UpArefIdeal.τ).loc Cert.UpArefIdeal.main_arg2) = m ((c.tc : Thread Cert.UpArefIdeal.nD Cert.UpArefIdeal.τ).loc Cert.UpArefIdeal.main_arg2)
      ∧ r.2.mem ((c.tc : Thread Cert.UpArefIdeal.nD Cert.UpArefIdeal.τ).loc Cert.UpArefIdeal.main_arg3) = m ((c.tc : Thread Cert.UpArefIdeal.nD Cert.UpArefIdeal.τ).loc Cert.UpArefIdeal.main_arg3)
      ∧ r.2.mem ((c.tc : Thread Cert.UpArefIdeal.nD Cert.UpArefIdeal.τ).loc Cert.UpArefIdeal.main_arg4) = m ((c.tc : Thread Cert.UpArefIdeal.nD Cert.UpArefIdeal.τ).loc Cert.UpArefIdeal.main_arg4))
      ∧ r.2.sem = fun _ => 0)

def quiescent_DownAdam [hDownAdam : Cert.DownAdam.Facts] : Prop :=
  ∀ (m : (ℓ : Loc Cert.DownAdam.nD Cert.DownAdam.τ Cert.DownAdam.sig) → Buf (Elt Bits) ℓ) (g : Dev Cert.DownAdam.nD → PrngReg), Pre_DownAdam m →
    θ_run (Cert.DownAdam.defs (F := Bits)) (onTc (τ := Cert.DownAdam.τ) (Cert.DownAdam.main (F := Bits))) ⟨m, fun _ => 0, g⟩ (fun r => (∀ c : Dev Cert.DownAdam.nD,
      r.2.mem ((c.tc : Thread Cert.DownAdam.nD Cert.DownAdam.τ).loc Cert.DownAdam.main_arg0) = m ((c.tc : Thread Cert.DownAdam.nD Cert.DownAdam.τ).loc Cert.DownAdam.main_arg0)
      ∧ r.2.mem ((c.tc : Thread Cert.DownAdam.nD Cert.DownAdam.τ).loc Cert.DownAdam.main_arg1) = m ((c.tc : Thread Cert.DownAdam.nD Cert.DownAdam.τ).loc Cert.DownAdam.main_arg1)
      ∧ r.2.mem ((c.tc : Thread Cert.DownAdam.nD Cert.DownAdam.τ).loc Cert.DownAdam.main_arg2) = m ((c.tc : Thread Cert.DownAdam.nD Cert.DownAdam.τ).loc Cert.DownAdam.main_arg2)
      ∧ r.2.mem ((c.tc : Thread Cert.DownAdam.nD Cert.DownAdam.τ).loc Cert.DownAdam.main_arg3) = m ((c.tc : Thread Cert.DownAdam.nD Cert.DownAdam.τ).loc Cert.DownAdam.main_arg3)
      ∧ r.2.mem ((c.tc : Thread Cert.DownAdam.nD Cert.DownAdam.τ).loc Cert.DownAdam.main_arg4) = m ((c.tc : Thread Cert.DownAdam.nD Cert.DownAdam.τ).loc Cert.DownAdam.main_arg4))
      ∧ r.2.sem = fun _ => 0)

def quiescent_DownAdamIdeal [hDownAdamIdeal : Cert.DownAdamIdeal.Facts] : Prop :=
  ∀ (m : (ℓ : Loc Cert.DownAdamIdeal.nD Cert.DownAdamIdeal.τ Cert.DownAdamIdeal.sig) → Buf (Elt Ideal) ℓ) (g : Dev Cert.DownAdamIdeal.nD → PrngReg), Pre_DownAdamIdeal m →
    θ_run (Cert.DownAdamIdeal.defs (F := Ideal)) (onTc (τ := Cert.DownAdamIdeal.τ) (Cert.DownAdamIdeal.main (F := Ideal))) ⟨m, fun _ => 0, g⟩ (fun r => (∀ c : Dev Cert.DownAdamIdeal.nD,
      r.2.mem ((c.tc : Thread Cert.DownAdamIdeal.nD Cert.DownAdamIdeal.τ).loc Cert.DownAdamIdeal.main_arg0) = m ((c.tc : Thread Cert.DownAdamIdeal.nD Cert.DownAdamIdeal.τ).loc Cert.DownAdamIdeal.main_arg0)
      ∧ r.2.mem ((c.tc : Thread Cert.DownAdamIdeal.nD Cert.DownAdamIdeal.τ).loc Cert.DownAdamIdeal.main_arg1) = m ((c.tc : Thread Cert.DownAdamIdeal.nD Cert.DownAdamIdeal.τ).loc Cert.DownAdamIdeal.main_arg1)
      ∧ r.2.mem ((c.tc : Thread Cert.DownAdamIdeal.nD Cert.DownAdamIdeal.τ).loc Cert.DownAdamIdeal.main_arg2) = m ((c.tc : Thread Cert.DownAdamIdeal.nD Cert.DownAdamIdeal.τ).loc Cert.DownAdamIdeal.main_arg2)
      ∧ r.2.mem ((c.tc : Thread Cert.DownAdamIdeal.nD Cert.DownAdamIdeal.τ).loc Cert.DownAdamIdeal.main_arg3) = m ((c.tc : Thread Cert.DownAdamIdeal.nD Cert.DownAdamIdeal.τ).loc Cert.DownAdamIdeal.main_arg3)
      ∧ r.2.mem ((c.tc : Thread Cert.DownAdamIdeal.nD Cert.DownAdamIdeal.τ).loc Cert.DownAdamIdeal.main_arg4) = m ((c.tc : Thread Cert.DownAdamIdeal.nD Cert.DownAdamIdeal.τ).loc Cert.DownAdamIdeal.main_arg4))
      ∧ r.2.sem = fun _ => 0)

def quiescent_DownArefIdeal [hDownArefIdeal : Cert.DownArefIdeal.Facts] : Prop :=
  ∀ (m : (ℓ : Loc Cert.DownArefIdeal.nD Cert.DownArefIdeal.τ Cert.DownArefIdeal.sig) → Buf (Elt Ideal) ℓ) (g : Dev Cert.DownArefIdeal.nD → PrngReg), Pre_DownArefIdeal m →
    θ_run (Cert.DownArefIdeal.defs (F := Ideal)) (onTc (τ := Cert.DownArefIdeal.τ) (Cert.DownArefIdeal.main (F := Ideal))) ⟨m, fun _ => 0, g⟩ (fun r => (∀ c : Dev Cert.DownArefIdeal.nD,
      r.2.mem ((c.tc : Thread Cert.DownArefIdeal.nD Cert.DownArefIdeal.τ).loc Cert.DownArefIdeal.main_arg0) = m ((c.tc : Thread Cert.DownArefIdeal.nD Cert.DownArefIdeal.τ).loc Cert.DownArefIdeal.main_arg0)
      ∧ r.2.mem ((c.tc : Thread Cert.DownArefIdeal.nD Cert.DownArefIdeal.τ).loc Cert.DownArefIdeal.main_arg1) = m ((c.tc : Thread Cert.DownArefIdeal.nD Cert.DownArefIdeal.τ).loc Cert.DownArefIdeal.main_arg1)
      ∧ r.2.mem ((c.tc : Thread Cert.DownArefIdeal.nD Cert.DownArefIdeal.τ).loc Cert.DownArefIdeal.main_arg2) = m ((c.tc : Thread Cert.DownArefIdeal.nD Cert.DownArefIdeal.τ).loc Cert.DownArefIdeal.main_arg2)
      ∧ r.2.mem ((c.tc : Thread Cert.DownArefIdeal.nD Cert.DownArefIdeal.τ).loc Cert.DownArefIdeal.main_arg3) = m ((c.tc : Thread Cert.DownArefIdeal.nD Cert.DownArefIdeal.τ).loc Cert.DownArefIdeal.main_arg3)
      ∧ r.2.mem ((c.tc : Thread Cert.DownArefIdeal.nD Cert.DownArefIdeal.τ).loc Cert.DownArefIdeal.main_arg4) = m ((c.tc : Thread Cert.DownArefIdeal.nD Cert.DownArefIdeal.τ).loc Cert.DownArefIdeal.main_arg4))
      ∧ r.2.sem = fun _ => 0)

def quiescent_AdaAdam [hAdaAdam : Cert.AdaAdam.Facts] : Prop :=
  ∀ (m : (ℓ : Loc Cert.AdaAdam.nD Cert.AdaAdam.τ Cert.AdaAdam.sig) → Buf (Elt Bits) ℓ) (g : Dev Cert.AdaAdam.nD → PrngReg), Pre_AdaAdam m →
    θ_run (Cert.AdaAdam.defs (F := Bits)) (onTc (τ := Cert.AdaAdam.τ) (Cert.AdaAdam.main (F := Bits))) ⟨m, fun _ => 0, g⟩ (fun r => (∀ c : Dev Cert.AdaAdam.nD,
      r.2.mem ((c.tc : Thread Cert.AdaAdam.nD Cert.AdaAdam.τ).loc Cert.AdaAdam.main_arg0) = m ((c.tc : Thread Cert.AdaAdam.nD Cert.AdaAdam.τ).loc Cert.AdaAdam.main_arg0)
      ∧ r.2.mem ((c.tc : Thread Cert.AdaAdam.nD Cert.AdaAdam.τ).loc Cert.AdaAdam.main_arg1) = m ((c.tc : Thread Cert.AdaAdam.nD Cert.AdaAdam.τ).loc Cert.AdaAdam.main_arg1)
      ∧ r.2.mem ((c.tc : Thread Cert.AdaAdam.nD Cert.AdaAdam.τ).loc Cert.AdaAdam.main_arg2) = m ((c.tc : Thread Cert.AdaAdam.nD Cert.AdaAdam.τ).loc Cert.AdaAdam.main_arg2)
      ∧ r.2.mem ((c.tc : Thread Cert.AdaAdam.nD Cert.AdaAdam.τ).loc Cert.AdaAdam.main_arg3) = m ((c.tc : Thread Cert.AdaAdam.nD Cert.AdaAdam.τ).loc Cert.AdaAdam.main_arg3)
      ∧ r.2.mem ((c.tc : Thread Cert.AdaAdam.nD Cert.AdaAdam.τ).loc Cert.AdaAdam.main_arg4) = m ((c.tc : Thread Cert.AdaAdam.nD Cert.AdaAdam.τ).loc Cert.AdaAdam.main_arg4))
      ∧ r.2.sem = fun _ => 0)

def quiescent_AdaAdamIdeal [hAdaAdamIdeal : Cert.AdaAdamIdeal.Facts] : Prop :=
  ∀ (m : (ℓ : Loc Cert.AdaAdamIdeal.nD Cert.AdaAdamIdeal.τ Cert.AdaAdamIdeal.sig) → Buf (Elt Ideal) ℓ) (g : Dev Cert.AdaAdamIdeal.nD → PrngReg), Pre_AdaAdamIdeal m →
    θ_run (Cert.AdaAdamIdeal.defs (F := Ideal)) (onTc (τ := Cert.AdaAdamIdeal.τ) (Cert.AdaAdamIdeal.main (F := Ideal))) ⟨m, fun _ => 0, g⟩ (fun r => (∀ c : Dev Cert.AdaAdamIdeal.nD,
      r.2.mem ((c.tc : Thread Cert.AdaAdamIdeal.nD Cert.AdaAdamIdeal.τ).loc Cert.AdaAdamIdeal.main_arg0) = m ((c.tc : Thread Cert.AdaAdamIdeal.nD Cert.AdaAdamIdeal.τ).loc Cert.AdaAdamIdeal.main_arg0)
      ∧ r.2.mem ((c.tc : Thread Cert.AdaAdamIdeal.nD Cert.AdaAdamIdeal.τ).loc Cert.AdaAdamIdeal.main_arg1) = m ((c.tc : Thread Cert.AdaAdamIdeal.nD Cert.AdaAdamIdeal.τ).loc Cert.AdaAdamIdeal.main_arg1)
      ∧ r.2.mem ((c.tc : Thread Cert.AdaAdamIdeal.nD Cert.AdaAdamIdeal.τ).loc Cert.AdaAdamIdeal.main_arg2) = m ((c.tc : Thread Cert.AdaAdamIdeal.nD Cert.AdaAdamIdeal.τ).loc Cert.AdaAdamIdeal.main_arg2)
      ∧ r.2.mem ((c.tc : Thread Cert.AdaAdamIdeal.nD Cert.AdaAdamIdeal.τ).loc Cert.AdaAdamIdeal.main_arg3) = m ((c.tc : Thread Cert.AdaAdamIdeal.nD Cert.AdaAdamIdeal.τ).loc Cert.AdaAdamIdeal.main_arg3)
      ∧ r.2.mem ((c.tc : Thread Cert.AdaAdamIdeal.nD Cert.AdaAdamIdeal.τ).loc Cert.AdaAdamIdeal.main_arg4) = m ((c.tc : Thread Cert.AdaAdamIdeal.nD Cert.AdaAdamIdeal.τ).loc Cert.AdaAdamIdeal.main_arg4))
      ∧ r.2.sem = fun _ => 0)

def quiescent_AdaArefIdeal [hAdaArefIdeal : Cert.AdaArefIdeal.Facts] : Prop :=
  ∀ (m : (ℓ : Loc Cert.AdaArefIdeal.nD Cert.AdaArefIdeal.τ Cert.AdaArefIdeal.sig) → Buf (Elt Ideal) ℓ) (g : Dev Cert.AdaArefIdeal.nD → PrngReg), Pre_AdaArefIdeal m →
    θ_run (Cert.AdaArefIdeal.defs (F := Ideal)) (onTc (τ := Cert.AdaArefIdeal.τ) (Cert.AdaArefIdeal.main (F := Ideal))) ⟨m, fun _ => 0, g⟩ (fun r => (∀ c : Dev Cert.AdaArefIdeal.nD,
      r.2.mem ((c.tc : Thread Cert.AdaArefIdeal.nD Cert.AdaArefIdeal.τ).loc Cert.AdaArefIdeal.main_arg0) = m ((c.tc : Thread Cert.AdaArefIdeal.nD Cert.AdaArefIdeal.τ).loc Cert.AdaArefIdeal.main_arg0)
      ∧ r.2.mem ((c.tc : Thread Cert.AdaArefIdeal.nD Cert.AdaArefIdeal.τ).loc Cert.AdaArefIdeal.main_arg1) = m ((c.tc : Thread Cert.AdaArefIdeal.nD Cert.AdaArefIdeal.τ).loc Cert.AdaArefIdeal.main_arg1)
      ∧ r.2.mem ((c.tc : Thread Cert.AdaArefIdeal.nD Cert.AdaArefIdeal.τ).loc Cert.AdaArefIdeal.main_arg2) = m ((c.tc : Thread Cert.AdaArefIdeal.nD Cert.AdaArefIdeal.τ).loc Cert.AdaArefIdeal.main_arg2)
      ∧ r.2.mem ((c.tc : Thread Cert.AdaArefIdeal.nD Cert.AdaArefIdeal.τ).loc Cert.AdaArefIdeal.main_arg3) = m ((c.tc : Thread Cert.AdaArefIdeal.nD Cert.AdaArefIdeal.τ).loc Cert.AdaArefIdeal.main_arg3)
      ∧ r.2.mem ((c.tc : Thread Cert.AdaArefIdeal.nD Cert.AdaArefIdeal.τ).loc Cert.AdaArefIdeal.main_arg4) = m ((c.tc : Thread Cert.AdaArefIdeal.nD Cert.AdaArefIdeal.τ).loc Cert.AdaArefIdeal.main_arg4))
      ∧ r.2.sem = fun _ => 0)

def preserves_ConvBwd_ConvBwdIdeal : Prop :=
  True

def algebraic_ConvBwdIdeal_ConvRefIdeal_pre_conv_finite [hConvBwdIdeal : Cert.ConvBwdIdeal.Facts] [hConvRefIdeal : Cert.ConvRefIdeal.Facts] [hPre_conv_finite : Cert.Pre_conv_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal_conv_finite m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)
      ∧ m' ((c.tc : Thread Cert.ConvRefIdeal.nD Cert.ConvRefIdeal.τ).loc Cert.ConvRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v25_0)) (v1 : (c : Dev Cert.ConvBwdIdeal.nD) → Buf (Elt Ideal) ((c.tc : Thread Cert.ConvBwdIdeal.nD Cert.ConvBwdIdeal.τ).loc Cert.ConvBwdIdeal.main_v25_1)) (v2 : (c : Dev Cert.ConvBwdIdeal.nD) → Buf (Elt Ideal) ((c.tc : Thread Cert.ConvBwdIdeal.nD Cert.ConvBwdIdeal.τ).loc Cert.ConvBwdIdeal.main_v25_2)) (v3 : (c : Dev Cert.ConvBwdIdeal.nD) → Buf (Elt Ideal) ((c.tc : Thread Cert.ConvBwdIdeal.nD Cert.ConvBwdIdeal.τ).loc Cert.ConvBwdIdeal.main_v25_3)) (v4 : (c : Dev Cert.ConvBwdIdeal.nD) → Buf (Elt Ideal) ((c.tc : Thread Cert.ConvBwdIdeal.nD Cert.ConvBwdIdeal.τ).loc Cert.ConvBwdIdeal.main_v25_4)) (v5 : (c : Dev Cert.ConvBwdIdeal.nD) → Buf (Elt Ideal) ((c.tc : Thread Cert.ConvBwdIdeal.nD Cert.ConvBwdIdeal.τ).loc Cert.ConvBwdIdeal.main_v25_5)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v25_0) = v0 c
          ∧ r.2.mem ((c.tc : Thread Cert.ConvBwdIdeal.nD Cert.ConvBwdIdeal.τ).loc Cert.ConvBwdIdeal.main_v25_1) = v1 c
          ∧ r.2.mem ((c.tc : Thread Cert.ConvBwdIdeal.nD Cert.ConvBwdIdeal.τ).loc Cert.ConvBwdIdeal.main_v25_2) = v2 c
          ∧ r.2.mem ((c.tc : Thread Cert.ConvBwdIdeal.nD Cert.ConvBwdIdeal.τ).loc Cert.ConvBwdIdeal.main_v25_3) = v3 c
          ∧ r.2.mem ((c.tc : Thread Cert.ConvBwdIdeal.nD Cert.ConvBwdIdeal.τ).loc Cert.ConvBwdIdeal.main_v25_4) = v4 c
          ∧ r.2.mem ((c.tc : Thread Cert.ConvBwdIdeal.nD Cert.ConvBwdIdeal.τ).loc Cert.ConvBwdIdeal.main_v25_5) = v5 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v63) = v0 c
          ∧ r.2.mem ((c.tc : Thread Cert.ConvRefIdeal.nD Cert.ConvRefIdeal.τ).loc Cert.ConvRefIdeal.main_v65) = v1 c
          ∧ r.2.mem ((c.tc : Thread Cert.ConvRefIdeal.nD Cert.ConvRefIdeal.τ).loc Cert.ConvRefIdeal.main_v66) = v2 c
          ∧ r.2.mem ((c.tc : Thread Cert.ConvRefIdeal.nD Cert.ConvRefIdeal.τ).loc Cert.ConvRefIdeal.main_v67) = v3 c
          ∧ r.2.mem ((c.tc : Thread Cert.ConvRefIdeal.nD Cert.ConvRefIdeal.τ).loc Cert.ConvRefIdeal.main_v68) = v4 c
          ∧ r.2.mem ((c.tc : Thread Cert.ConvRefIdeal.nD Cert.ConvRefIdeal.τ).loc Cert.ConvRefIdeal.main_v69) = v5 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_UpBwd_UpBwdIdeal : Prop :=
  True

def algebraic_UpBwdIdeal_UpRefIdeal_pre_up_finite [hUpBwdIdeal : Cert.UpBwdIdeal.Facts] [hUpRefIdeal : Cert.UpRefIdeal.Facts] [hPre_up_finite : Cert.Pre_up_finite.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpBwdIdeal_up_finite m →
    (∀ c : Dev Cert.UpBwdIdeal.nD,
      m' ((c.tc : Thread Cert.UpRefIdeal.nD Cert.UpRefIdeal.τ).loc Cert.UpRefIdeal.main_arg0) = m ((c.tc : Thread Cert.UpBwdIdeal.nD Cert.UpBwdIdeal.τ).loc Cert.UpBwdIdeal.main_arg0)
      ∧ m' ((c.tc : Thread Cert.UpRefIdeal.nD Cert.UpRefIdeal.τ).loc Cert.UpRefIdeal.main_arg1) = m ((c.tc : Thread Cert.UpBwdIdeal.nD Cert.UpBwdIdeal.τ).loc Cert.UpBwdIdeal.main_arg1)
      ∧ m' ((c.tc : Thread Cert.UpRefIdeal.nD Cert.UpRefIdeal.τ).loc Cert.UpRefIdeal.main_arg2) = m ((c.tc : Thread Cert.UpBwdIdeal.nD Cert.UpBwdIdeal.τ).loc Cert.UpBwdIdeal.main_arg2)
      ∧ m' ((c.tc : Thread Cert.UpRefIdeal.nD Cert.UpRefIdeal.τ).loc Cert.UpRefIdeal.main_arg3) = m ((c.tc : Thread Cert.UpBwdIdeal.nD Cert.UpBwdIdeal.τ).loc Cert.UpBwdIdeal.main_arg3)
      ∧ m' ((c.tc : Thread Cert.UpRefIdeal.nD Cert.UpRefIdeal.τ).loc Cert.UpRefIdeal.main_arg4) = m ((c.tc : Thread Cert.UpBwdIdeal.nD Cert.UpBwdIdeal.τ).loc Cert.UpBwdIdeal.main_arg4)
      ∧ m' ((c.tc : Thread Cert.UpRefIdeal.nD Cert.UpRefIdeal.τ).loc Cert.UpRefIdeal.main_arg5) = m ((c.tc : Thread Cert.UpBwdIdeal.nD Cert.UpBwdIdeal.τ).loc Cert.UpBwdIdeal.main_arg5)
      ∧ m' ((c.tc : Thread Cert.UpRefIdeal.nD Cert.UpRefIdeal.τ).loc Cert.UpRefIdeal.main_arg6) = m ((c.tc : Thread Cert.UpBwdIdeal.nD Cert.UpBwdIdeal.τ).loc Cert.UpBwdIdeal.main_arg6)) →
    ∃ (v0 : (c : Dev Cert.UpBwdIdeal.nD) → Buf (Elt Ideal) ((c.tc : Thread Cert.UpBwdIdeal.nD Cert.UpBwdIdeal.τ).loc Cert.UpBwdIdeal.main_v1_0)) (v1 : (c : Dev Cert.UpBwdIdeal.nD) → Buf (Elt Ideal) ((c.tc : Thread Cert.UpBwdIdeal.nD Cert.UpBwdIdeal.τ).loc Cert.UpBwdIdeal.main_v1_1)) (v2 : (c : Dev Cert.UpBwdIdeal.nD) → Buf (Elt Ideal) ((c.tc : Thread Cert.UpBwdIdeal.nD Cert.UpBwdIdeal.τ).loc Cert.UpBwdIdeal.main_v1_2)) (v3 : (c : Dev Cert.UpBwdIdeal.nD) → Buf (Elt Ideal) ((c.tc : Thread Cert.UpBwdIdeal.nD Cert.UpBwdIdeal.τ).loc Cert.UpBwdIdeal.main_v1_3)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v1_0) = v0 c
          ∧ r.2.mem ((c.tc : Thread Cert.UpBwdIdeal.nD Cert.UpBwdIdeal.τ).loc Cert.UpBwdIdeal.main_v1_1) = v1 c
          ∧ r.2.mem ((c.tc : Thread Cert.UpBwdIdeal.nD Cert.UpBwdIdeal.τ).loc Cert.UpBwdIdeal.main_v1_2) = v2 c
          ∧ r.2.mem ((c.tc : Thread Cert.UpBwdIdeal.nD Cert.UpBwdIdeal.τ).loc Cert.UpBwdIdeal.main_v1_3) = v3 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
          ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
          ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
          ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v53) = v0 c
          ∧ r.2.mem ((c.tc : Thread Cert.UpRefIdeal.nD Cert.UpRefIdeal.τ).loc Cert.UpRefIdeal.main_v36) = v1 c
          ∧ r.2.mem ((c.tc : Thread Cert.UpRefIdeal.nD Cert.UpRefIdeal.τ).loc Cert.UpRefIdeal.main_v28) = v2 c
          ∧ r.2.mem ((c.tc : Thread Cert.UpRefIdeal.nD Cert.UpRefIdeal.τ).loc Cert.UpRefIdeal.main_v31) = v3 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5)
          ∧ r.2.mem ((c.tc : Thread Cert.UpRefIdeal.nD Cert.UpRefIdeal.τ).loc Cert.UpRefIdeal.main_arg6) = m' ((c.tc : Thread Cert.UpRefIdeal.nD Cert.UpRefIdeal.τ).loc Cert.UpRefIdeal.main_arg6))

def preserves_InBwd_InBwdIdeal : Prop :=
  True

def algebraic_InBwdIdeal_InRefIdeal_pre_in_finite [hInBwdIdeal : Cert.InBwdIdeal.Facts] [hInRefIdeal : Cert.InRefIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InRefIdeal.nD Cert.InRefIdeal.τ Cert.InRefIdeal.sig) → Buf (Elt Ideal) ℓ) (g' : Dev Cert.InRefIdeal.nD → PrngReg), Pre_InBwdIdeal_in_finite m →
    (∀ c : Dev Cert.InBwdIdeal.nD,
      m' ((c.tc : Thread Cert.InRefIdeal.nD Cert.InRefIdeal.τ).loc Cert.InRefIdeal.main_arg0) = m ((c.tc : Thread Cert.InBwdIdeal.nD Cert.InBwdIdeal.τ).loc Cert.InBwdIdeal.main_arg0)
      ∧ m' ((c.tc : Thread Cert.InRefIdeal.nD Cert.InRefIdeal.τ).loc Cert.InRefIdeal.main_arg1) = m ((c.tc : Thread Cert.InBwdIdeal.nD Cert.InBwdIdeal.τ).loc Cert.InBwdIdeal.main_arg1)
      ∧ m' ((c.tc : Thread Cert.InRefIdeal.nD Cert.InRefIdeal.τ).loc Cert.InRefIdeal.main_arg2) = m ((c.tc : Thread Cert.InBwdIdeal.nD Cert.InBwdIdeal.τ).loc Cert.InBwdIdeal.main_arg2)
      ∧ m' ((c.tc : Thread Cert.InRefIdeal.nD Cert.InRefIdeal.τ).loc Cert.InRefIdeal.main_arg3) = m ((c.tc : Thread Cert.InBwdIdeal.nD Cert.InBwdIdeal.τ).loc Cert.InBwdIdeal.main_arg3)
      ∧ m' ((c.tc : Thread Cert.InRefIdeal.nD Cert.InRefIdeal.τ).loc Cert.InRefIdeal.main_arg4) = m ((c.tc : Thread Cert.InBwdIdeal.nD Cert.InBwdIdeal.τ).loc Cert.InBwdIdeal.main_arg4)
      ∧ m' ((c.tc : Thread Cert.InRefIdeal.nD Cert.InRefIdeal.τ).loc Cert.InRefIdeal.main_arg5) = m ((c.tc : Thread Cert.InBwdIdeal.nD Cert.InBwdIdeal.τ).loc Cert.InBwdIdeal.main_arg5)) →
    ∃ (v0 : (c : Dev Cert.InBwdIdeal.nD) → Buf (Elt Ideal) ((c.tc : Thread Cert.InBwdIdeal.nD Cert.InBwdIdeal.τ).loc Cert.InBwdIdeal.main_v1_0)) (v1 : (c : Dev Cert.InBwdIdeal.nD) → Buf (Elt Ideal) ((c.tc : Thread Cert.InBwdIdeal.nD Cert.InBwdIdeal.τ).loc Cert.InBwdIdeal.main_v1_1)) (v2 : (c : Dev Cert.InBwdIdeal.nD) → Buf (Elt Ideal) ((c.tc : Thread Cert.InBwdIdeal.nD Cert.InBwdIdeal.τ).loc Cert.InBwdIdeal.main_v1_2)) (v3 : (c : Dev Cert.InBwdIdeal.nD) → Buf (Elt Ideal) ((c.tc : Thread Cert.InBwdIdeal.nD Cert.InBwdIdeal.τ).loc Cert.InBwdIdeal.main_v1_3)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v1_0) = v0 c
          ∧ r.2.mem ((c.tc : Thread Cert.InBwdIdeal.nD Cert.InBwdIdeal.τ).loc Cert.InBwdIdeal.main_v1_1) = v1 c
          ∧ r.2.mem ((c.tc : Thread Cert.InBwdIdeal.nD Cert.InBwdIdeal.τ).loc Cert.InBwdIdeal.main_v1_2) = v2 c
          ∧ r.2.mem ((c.tc : Thread Cert.InBwdIdeal.nD Cert.InBwdIdeal.τ).loc Cert.InBwdIdeal.main_v1_3) = v3 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v52) = v0 c
          ∧ r.2.mem ((c.tc : Thread Cert.InRefIdeal.nD Cert.InRefIdeal.τ).loc Cert.InRefIdeal.main_v35) = v1 c
          ∧ r.2.mem ((c.tc : Thread Cert.InRefIdeal.nD Cert.InRefIdeal.τ).loc Cert.InRefIdeal.main_v27) = v2 c
          ∧ r.2.mem ((c.tc : Thread Cert.InRefIdeal.nD Cert.InRefIdeal.τ).loc Cert.InRefIdeal.main_v30) = v3 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5))

def preserves_UpWgrad_UpWgradIdeal : Prop :=
  True

def algebraic_UpWgradIdeal_UpWrefIdeal [hUpWgradIdeal : Cert.UpWgradIdeal.Facts] [hUpWrefIdeal : Cert.UpWrefIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg)
    (m' : (ℓ : Loc Cert.UpWrefIdeal.nD Cert.UpWrefIdeal.τ Cert.UpWrefIdeal.sig) → Buf (Elt Ideal) ℓ) (g' : Dev Cert.UpWrefIdeal.nD → PrngReg), Pre_UpWgradIdeal m →
    (∀ c : Dev Cert.UpWgradIdeal.nD,
      m' ((c.tc : Thread Cert.UpWrefIdeal.nD Cert.UpWrefIdeal.τ).loc Cert.UpWrefIdeal.main_arg0) = m ((c.tc : Thread Cert.UpWgradIdeal.nD Cert.UpWgradIdeal.τ).loc Cert.UpWgradIdeal.main_arg0)
      ∧ m' ((c.tc : Thread Cert.UpWrefIdeal.nD Cert.UpWrefIdeal.τ).loc Cert.UpWrefIdeal.main_arg1) = m ((c.tc : Thread Cert.UpWgradIdeal.nD Cert.UpWgradIdeal.τ).loc Cert.UpWgradIdeal.main_arg1)
      ∧ m' ((c.tc : Thread Cert.UpWrefIdeal.nD Cert.UpWrefIdeal.τ).loc Cert.UpWrefIdeal.main_arg2) = m ((c.tc : Thread Cert.UpWgradIdeal.nD Cert.UpWgradIdeal.τ).loc Cert.UpWgradIdeal.main_arg2)) →
    ∃ (v0 : (c : Dev Cert.UpWgradIdeal.nD) → Buf (Elt Ideal) ((c.tc : Thread Cert.UpWgradIdeal.nD Cert.UpWgradIdeal.τ).loc Cert.UpWgradIdeal.main_v0)),
      θ_run (Cert.UpWgradIdeal.defs (F := Ideal)) (onTc (τ := Cert.UpWgradIdeal.τ) (Cert.UpWgradIdeal.main (F := Ideal))) ⟨m, fun _ => 0, g⟩ (fun r => ∀ c : Dev Cert.UpWgradIdeal.nD,
          r.2.mem ((c.tc : Thread Cert.UpWgradIdeal.nD Cert.UpWgradIdeal.τ).loc Cert.UpWgradIdeal.main_v0) = v0 c
          ∧ r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
          ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1)
          ∧ r.2.mem ((c.tc : Thread Cert.UpWgradIdeal.nD Cert.UpWgradIdeal.τ).loc Cert.UpWgradIdeal.main_arg2) = m ((c.tc : Thread Cert.UpWgradIdeal.nD Cert.UpWgradIdeal.τ).loc Cert.UpWgradIdeal.main_arg2))
      ∧ θ_run (Cert.UpWrefIdeal.defs (F := Ideal)) (onTc (τ := Cert.UpWrefIdeal.τ) (Cert.UpWrefIdeal.main (F := Ideal))) ⟨m', fun _ => 0, g'⟩ (fun r => ∀ c : Dev Cert.UpWrefIdeal.nD,
          r.2.mem ((c.tc : Thread Cert.UpWrefIdeal.nD Cert.UpWrefIdeal.τ).loc Cert.UpWrefIdeal.main_v8) = v0 c
          ∧ r.2.mem ((c.tc : Thread Cert.UpWrefIdeal.nD Cert.UpWrefIdeal.τ).loc Cert.UpWrefIdeal.main_arg0) = m' ((c.tc : Thread Cert.UpWrefIdeal.nD Cert.UpWrefIdeal.τ).loc Cert.UpWrefIdeal.main_arg0)
          ∧ r.2.mem ((c.tc : Thread Cert.UpWrefIdeal.nD Cert.UpWrefIdeal.τ).loc Cert.UpWrefIdeal.main_arg1) = m' ((c.tc : Thread Cert.UpWrefIdeal.nD Cert.UpWrefIdeal.τ).loc Cert.UpWrefIdeal.main_arg1)
          ∧ r.2.mem ((c.tc : Thread Cert.UpWrefIdeal.nD Cert.UpWrefIdeal.τ).loc Cert.UpWrefIdeal.main_arg2) = m' ((c.tc : Thread Cert.UpWrefIdeal.nD Cert.UpWrefIdeal.τ).loc Cert.UpWrefIdeal.main_arg2))

def preserves_DownWgrad_DownWgradIdeal : Prop :=
  True

def algebraic_DownWgradIdeal_DownWrefIdeal [hDownWgradIdeal : Cert.DownWgradIdeal.Facts] [hDownWrefIdeal : Cert.DownWrefIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg)
    (m' : (ℓ : Loc Cert.DownWrefIdeal.nD Cert.DownWrefIdeal.τ Cert.DownWrefIdeal.sig) → Buf (Elt Ideal) ℓ) (g' : Dev Cert.DownWrefIdeal.nD → PrngReg), Pre_DownWgradIdeal m →
    (∀ c : Dev Cert.DownWgradIdeal.nD,
      m' ((c.tc : Thread Cert.DownWrefIdeal.nD Cert.DownWrefIdeal.τ).loc Cert.DownWrefIdeal.main_arg0) = m ((c.tc : Thread Cert.DownWgradIdeal.nD Cert.DownWgradIdeal.τ).loc Cert.DownWgradIdeal.main_arg0)
      ∧ m' ((c.tc : Thread Cert.DownWrefIdeal.nD Cert.DownWrefIdeal.τ).loc Cert.DownWrefIdeal.main_arg1) = m ((c.tc : Thread Cert.DownWgradIdeal.nD Cert.DownWgradIdeal.τ).loc Cert.DownWgradIdeal.main_arg1)) →
    ∃ (v0 : (c : Dev Cert.DownWgradIdeal.nD) → Buf (Elt Ideal) ((c.tc : Thread Cert.DownWgradIdeal.nD Cert.DownWgradIdeal.τ).loc Cert.DownWgradIdeal.main_v0)),
      θ_run (Cert.DownWgradIdeal.defs (F := Ideal)) (onTc (τ := Cert.DownWgradIdeal.τ) (Cert.DownWgradIdeal.main (F := Ideal))) ⟨m, fun _ => 0, g⟩ (fun r => ∀ c : Dev Cert.DownWgradIdeal.nD,
          r.2.mem ((c.tc : Thread Cert.DownWgradIdeal.nD Cert.DownWgradIdeal.τ).loc Cert.DownWgradIdeal.main_v0) = v0 c
          ∧ r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
          ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ θ_run (Cert.DownWrefIdeal.defs (F := Ideal)) (onTc (τ := Cert.DownWrefIdeal.τ) (Cert.DownWrefIdeal.main (F := Ideal))) ⟨m', fun _ => 0, g'⟩ (fun r => ∀ c : Dev Cert.DownWrefIdeal.nD,
          r.2.mem ((c.tc : Thread Cert.DownWrefIdeal.nD Cert.DownWrefIdeal.τ).loc Cert.DownWrefIdeal.main_v6) = v0 c
          ∧ r.2.mem ((c.tc : Thread Cert.DownWrefIdeal.nD Cert.DownWrefIdeal.τ).loc Cert.DownWrefIdeal.main_arg0) = m' ((c.tc : Thread Cert.DownWrefIdeal.nD Cert.DownWrefIdeal.τ).loc Cert.DownWrefIdeal.main_arg0)
          ∧ r.2.mem ((c.tc : Thread Cert.DownWrefIdeal.nD Cert.DownWrefIdeal.τ).loc Cert.DownWrefIdeal.main_arg1) = m' ((c.tc : Thread Cert.DownWrefIdeal.nD Cert.DownWrefIdeal.τ).loc Cert.DownWrefIdeal.main_arg1))

def preserves_DownBwd_DownBwdIdeal : Prop :=
  True

def algebraic_DownBwdIdeal_DownRefIdeal_pre_down_finite [hDownBwdIdeal : Cert.DownBwdIdeal.Facts] [hDownRefIdeal : Cert.DownRefIdeal.Facts] [hPre_down_finite : Cert.Pre_down_finite.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownBwdIdeal_down_finite m →
    (∀ c : Dev Cert.DownBwdIdeal.nD,
      m' ((c.tc : Thread Cert.DownRefIdeal.nD Cert.DownRefIdeal.τ).loc Cert.DownRefIdeal.main_arg0) = m ((c.tc : Thread Cert.DownBwdIdeal.nD Cert.DownBwdIdeal.τ).loc Cert.DownBwdIdeal.main_arg0)
      ∧ m' ((c.tc : Thread Cert.DownRefIdeal.nD Cert.DownRefIdeal.τ).loc Cert.DownRefIdeal.main_arg1) = m ((c.tc : Thread Cert.DownBwdIdeal.nD Cert.DownBwdIdeal.τ).loc Cert.DownBwdIdeal.main_arg1)
      ∧ m' ((c.tc : Thread Cert.DownRefIdeal.nD Cert.DownRefIdeal.τ).loc Cert.DownRefIdeal.main_arg2) = m ((c.tc : Thread Cert.DownBwdIdeal.nD Cert.DownBwdIdeal.τ).loc Cert.DownBwdIdeal.main_arg2)
      ∧ m' ((c.tc : Thread Cert.DownRefIdeal.nD Cert.DownRefIdeal.τ).loc Cert.DownRefIdeal.main_arg3) = m ((c.tc : Thread Cert.DownBwdIdeal.nD Cert.DownBwdIdeal.τ).loc Cert.DownBwdIdeal.main_arg3)
      ∧ m' ((c.tc : Thread Cert.DownRefIdeal.nD Cert.DownRefIdeal.τ).loc Cert.DownRefIdeal.main_arg4) = m ((c.tc : Thread Cert.DownBwdIdeal.nD Cert.DownBwdIdeal.τ).loc Cert.DownBwdIdeal.main_arg4)) →
    ∃ (v0 : (c : Dev Cert.DownBwdIdeal.nD) → Buf (Elt Ideal) ((c.tc : Thread Cert.DownBwdIdeal.nD Cert.DownBwdIdeal.τ).loc Cert.DownBwdIdeal.main_v2_0)) (v1 : (c : Dev Cert.DownBwdIdeal.nD) → Buf (Elt Ideal) ((c.tc : Thread Cert.DownBwdIdeal.nD Cert.DownBwdIdeal.τ).loc Cert.DownBwdIdeal.main_v2_1)) (v2 : (c : Dev Cert.DownBwdIdeal.nD) → Buf (Elt Ideal) ((c.tc : Thread Cert.DownBwdIdeal.nD Cert.DownBwdIdeal.τ).loc Cert.DownBwdIdeal.main_v2_2)) (v3 : (c : Dev Cert.DownBwdIdeal.nD) → Buf (Elt Ideal) ((c.tc : Thread Cert.DownBwdIdeal.nD Cert.DownBwdIdeal.τ).loc Cert.DownBwdIdeal.main_v2_3)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v2_0) = v0 c
          ∧ r.2.mem ((c.tc : Thread Cert.DownBwdIdeal.nD Cert.DownBwdIdeal.τ).loc Cert.DownBwdIdeal.main_v2_1) = v1 c
          ∧ r.2.mem ((c.tc : Thread Cert.DownBwdIdeal.nD Cert.DownBwdIdeal.τ).loc Cert.DownBwdIdeal.main_v2_2) = v2 c
          ∧ r.2.mem ((c.tc : Thread Cert.DownBwdIdeal.nD Cert.DownBwdIdeal.τ).loc Cert.DownBwdIdeal.main_v2_3) = v3 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
          ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
          ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3)
          ∧ r.2.mem ((c.tc : Thread Cert.DownBwdIdeal.nD Cert.DownBwdIdeal.τ).loc Cert.DownBwdIdeal.main_arg4) = m ((c.tc : Thread Cert.DownBwdIdeal.nD Cert.DownBwdIdeal.τ).loc Cert.DownBwdIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v45) = v0 c
          ∧ r.2.mem ((c.tc : Thread Cert.DownRefIdeal.nD Cert.DownRefIdeal.τ).loc Cert.DownRefIdeal.main_v46) = v1 c
          ∧ r.2.mem ((c.tc : Thread Cert.DownRefIdeal.nD Cert.DownRefIdeal.τ).loc Cert.DownRefIdeal.main_v27) = v2 c
          ∧ r.2.mem ((c.tc : Thread Cert.DownRefIdeal.nD Cert.DownRefIdeal.τ).loc Cert.DownRefIdeal.main_v24) = v3 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_OddBwd_OddBwdIdeal : Prop :=
  True

def algebraic_OddBwdIdeal_OddRefIdeal_pre_odd_finite [hOddBwdIdeal : Cert.OddBwdIdeal.Facts] [hOddRefIdeal : Cert.OddRefIdeal.Facts] [hPre_odd_finite : Cert.Pre_odd_finite.Facts] : Prop :=
  ∀ (m : (ℓ : Loc Cert.OddBwdIdeal.nD Cert.OddBwdIdeal.τ Cert.OddBwdIdeal.sig) → Buf (Elt Ideal) ℓ) (g : Dev Cert.OddBwdIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddBwdIdeal_odd_finite m →
    (∀ c : Dev Cert.OddBwdIdeal.nD,
      m' ((c.tc : Thread Cert.OddRefIdeal.nD Cert.OddRefIdeal.τ).loc Cert.OddRefIdeal.main_arg0) = m ((c.tc : Thread Cert.OddBwdIdeal.nD Cert.OddBwdIdeal.τ).loc Cert.OddBwdIdeal.main_arg0)
      ∧ m' ((c.tc : Thread Cert.OddRefIdeal.nD Cert.OddRefIdeal.τ).loc Cert.OddRefIdeal.main_arg1) = m ((c.tc : Thread Cert.OddBwdIdeal.nD Cert.OddBwdIdeal.τ).loc Cert.OddBwdIdeal.main_arg1)
      ∧ m' ((c.tc : Thread Cert.OddRefIdeal.nD Cert.OddRefIdeal.τ).loc Cert.OddRefIdeal.main_arg2) = m ((c.tc : Thread Cert.OddBwdIdeal.nD Cert.OddBwdIdeal.τ).loc Cert.OddBwdIdeal.main_arg2)
      ∧ m' ((c.tc : Thread Cert.OddRefIdeal.nD Cert.OddRefIdeal.τ).loc Cert.OddRefIdeal.main_arg3) = m ((c.tc : Thread Cert.OddBwdIdeal.nD Cert.OddBwdIdeal.τ).loc Cert.OddBwdIdeal.main_arg3)
      ∧ m' ((c.tc : Thread Cert.OddRefIdeal.nD Cert.OddRefIdeal.τ).loc Cert.OddRefIdeal.main_arg4) = m ((c.tc : Thread Cert.OddBwdIdeal.nD Cert.OddBwdIdeal.τ).loc Cert.OddBwdIdeal.main_arg4)
      ∧ m' ((c.tc : Thread Cert.OddRefIdeal.nD Cert.OddRefIdeal.τ).loc Cert.OddRefIdeal.main_arg5) = m ((c.tc : Thread Cert.OddBwdIdeal.nD Cert.OddBwdIdeal.τ).loc Cert.OddBwdIdeal.main_arg5)) →
    ∃ (v0 : (c : Dev Cert.OddBwdIdeal.nD) → Buf (Elt Ideal) ((c.tc : Thread Cert.OddBwdIdeal.nD Cert.OddBwdIdeal.τ).loc Cert.OddBwdIdeal.main_v1_0)) (v1 : (c : Dev Cert.OddBwdIdeal.nD) → Buf (Elt Ideal) ((c.tc : Thread Cert.OddBwdIdeal.nD Cert.OddBwdIdeal.τ).loc Cert.OddBwdIdeal.main_v1_1)) (v2 : (c : Dev Cert.OddBwdIdeal.nD) → Buf (Elt Ideal) ((c.tc : Thread Cert.OddBwdIdeal.nD Cert.OddBwdIdeal.τ).loc Cert.OddBwdIdeal.main_v1_2)) (v3 : (c : Dev Cert.OddBwdIdeal.nD) → Buf (Elt Ideal) ((c.tc : Thread Cert.OddBwdIdeal.nD Cert.OddBwdIdeal.τ).loc Cert.OddBwdIdeal.main_v1_3)),
      θ_run (Cert.OddBwdIdeal.defs (F := Ideal)) (onTc (τ := Cert.OddBwdIdeal.τ) (Cert.OddBwdIdeal.main (F := Ideal))) ⟨m, fun _ => 0, g⟩ (fun r => ∀ c : Dev Cert.OddBwdIdeal.nD,
          r.2.mem ((c.tc : Thread Cert.OddBwdIdeal.nD Cert.OddBwdIdeal.τ).loc Cert.OddBwdIdeal.main_v1_0) = v0 c
          ∧ r.2.mem ((c.tc : Thread Cert.OddBwdIdeal.nD Cert.OddBwdIdeal.τ).loc Cert.OddBwdIdeal.main_v1_1) = v1 c
          ∧ r.2.mem ((c.tc : Thread Cert.OddBwdIdeal.nD Cert.OddBwdIdeal.τ).loc Cert.OddBwdIdeal.main_v1_2) = v2 c
          ∧ r.2.mem ((c.tc : Thread Cert.OddBwdIdeal.nD Cert.OddBwdIdeal.τ).loc Cert.OddBwdIdeal.main_v1_3) = v3 c
          ∧ r.2.mem ((c.tc : Thread Cert.OddBwdIdeal.nD Cert.OddBwdIdeal.τ).loc Cert.OddBwdIdeal.main_arg0) = m ((c.tc : Thread Cert.OddBwdIdeal.nD Cert.OddBwdIdeal.τ).loc Cert.OddBwdIdeal.main_arg0)
          ∧ r.2.mem ((c.tc : Thread Cert.OddBwdIdeal.nD Cert.OddBwdIdeal.τ).loc Cert.OddBwdIdeal.main_arg1) = m ((c.tc : Thread Cert.OddBwdIdeal.nD Cert.OddBwdIdeal.τ).loc Cert.OddBwdIdeal.main_arg1)
          ∧ r.2.mem ((c.tc : Thread Cert.OddBwdIdeal.nD Cert.OddBwdIdeal.τ).loc Cert.OddBwdIdeal.main_arg2) = m ((c.tc : Thread Cert.OddBwdIdeal.nD Cert.OddBwdIdeal.τ).loc Cert.OddBwdIdeal.main_arg2)
          ∧ r.2.mem ((c.tc : Thread Cert.OddBwdIdeal.nD Cert.OddBwdIdeal.τ).loc Cert.OddBwdIdeal.main_arg3) = m ((c.tc : Thread Cert.OddBwdIdeal.nD Cert.OddBwdIdeal.τ).loc Cert.OddBwdIdeal.main_arg3)
          ∧ r.2.mem ((c.tc : Thread Cert.OddBwdIdeal.nD Cert.OddBwdIdeal.τ).loc Cert.OddBwdIdeal.main_arg4) = m ((c.tc : Thread Cert.OddBwdIdeal.nD Cert.OddBwdIdeal.τ).loc Cert.OddBwdIdeal.main_arg4)
          ∧ r.2.mem ((c.tc : Thread Cert.OddBwdIdeal.nD Cert.OddBwdIdeal.τ).loc Cert.OddBwdIdeal.main_arg5) = m ((c.tc : Thread Cert.OddBwdIdeal.nD Cert.OddBwdIdeal.τ).loc Cert.OddBwdIdeal.main_arg5))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v52) = v0 c
          ∧ r.2.mem ((c.tc : Thread Cert.OddRefIdeal.nD Cert.OddRefIdeal.τ).loc Cert.OddRefIdeal.main_v35) = v1 c
          ∧ r.2.mem ((c.tc : Thread Cert.OddRefIdeal.nD Cert.OddRefIdeal.τ).loc Cert.OddRefIdeal.main_v27) = v2 c
          ∧ r.2.mem ((c.tc : Thread Cert.OddRefIdeal.nD Cert.OddRefIdeal.τ).loc Cert.OddRefIdeal.main_v30) = v3 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3)
          ∧ r.2.mem ((c.tc : Thread Cert.OddRefIdeal.nD Cert.OddRefIdeal.τ).loc Cert.OddRefIdeal.main_arg4) = m' ((c.tc : Thread Cert.OddRefIdeal.nD Cert.OddRefIdeal.τ).loc Cert.OddRefIdeal.main_arg4)
          ∧ r.2.mem ((c.tc : Thread Cert.OddRefIdeal.nD Cert.OddRefIdeal.τ).loc Cert.OddRefIdeal.main_arg5) = m' ((c.tc : Thread Cert.OddRefIdeal.nD Cert.OddRefIdeal.τ).loc Cert.OddRefIdeal.main_arg5))

def preserves_OutBwd_OutBwdIdeal : Prop :=
  True

def algebraic_OutBwdIdeal_OutRefIdeal_pre_out_finite [hOutBwdIdeal : Cert.OutBwdIdeal.Facts] [hOutRefIdeal : Cert.OutRefIdeal.Facts] [hPre_out_finite : Cert.Pre_out_finite.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutBwdIdeal_out_finite m →
    (∀ c : Dev Cert.OutBwdIdeal.nD,
      m' ((c.tc : Thread Cert.OutRefIdeal.nD Cert.OutRefIdeal.τ).loc Cert.OutRefIdeal.main_arg0) = m ((c.tc : Thread Cert.OutBwdIdeal.nD Cert.OutBwdIdeal.τ).loc Cert.OutBwdIdeal.main_arg0)
      ∧ m' ((c.tc : Thread Cert.OutRefIdeal.nD Cert.OutRefIdeal.τ).loc Cert.OutRefIdeal.main_arg1) = m ((c.tc : Thread Cert.OutBwdIdeal.nD Cert.OutBwdIdeal.τ).loc Cert.OutBwdIdeal.main_arg1)
      ∧ m' ((c.tc : Thread Cert.OutRefIdeal.nD Cert.OutRefIdeal.τ).loc Cert.OutRefIdeal.main_arg2) = m ((c.tc : Thread Cert.OutBwdIdeal.nD Cert.OutBwdIdeal.τ).loc Cert.OutBwdIdeal.main_arg2)
      ∧ m' ((c.tc : Thread Cert.OutRefIdeal.nD Cert.OutRefIdeal.τ).loc Cert.OutRefIdeal.main_arg3) = m ((c.tc : Thread Cert.OutBwdIdeal.nD Cert.OutBwdIdeal.τ).loc Cert.OutBwdIdeal.main_arg3)
      ∧ m' ((c.tc : Thread Cert.OutRefIdeal.nD Cert.OutRefIdeal.τ).loc Cert.OutRefIdeal.main_arg4) = m ((c.tc : Thread Cert.OutBwdIdeal.nD Cert.OutBwdIdeal.τ).loc Cert.OutBwdIdeal.main_arg4)) →
    ∃ (v0 : (c : Dev Cert.OutBwdIdeal.nD) → Buf (Elt Ideal) ((c.tc : Thread Cert.OutBwdIdeal.nD Cert.OutBwdIdeal.τ).loc Cert.OutBwdIdeal.main_v2_0)) (v1 : (c : Dev Cert.OutBwdIdeal.nD) → Buf (Elt Ideal) ((c.tc : Thread Cert.OutBwdIdeal.nD Cert.OutBwdIdeal.τ).loc Cert.OutBwdIdeal.main_v2_1)) (v2 : (c : Dev Cert.OutBwdIdeal.nD) → Buf (Elt Ideal) ((c.tc : Thread Cert.OutBwdIdeal.nD Cert.OutBwdIdeal.τ).loc Cert.OutBwdIdeal.main_v2_2)) (v3 : (c : Dev Cert.OutBwdIdeal.nD) → Buf (Elt Ideal) ((c.tc : Thread Cert.OutBwdIdeal.nD Cert.OutBwdIdeal.τ).loc Cert.OutBwdIdeal.main_v2_3)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v2_0) = v0 c
          ∧ r.2.mem ((c.tc : Thread Cert.OutBwdIdeal.nD Cert.OutBwdIdeal.τ).loc Cert.OutBwdIdeal.main_v2_1) = v1 c
          ∧ r.2.mem ((c.tc : Thread Cert.OutBwdIdeal.nD Cert.OutBwdIdeal.τ).loc Cert.OutBwdIdeal.main_v2_2) = v2 c
          ∧ r.2.mem ((c.tc : Thread Cert.OutBwdIdeal.nD Cert.OutBwdIdeal.τ).loc Cert.OutBwdIdeal.main_v2_3) = v3 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v45) = v0 c
          ∧ r.2.mem ((c.tc : Thread Cert.OutRefIdeal.nD Cert.OutRefIdeal.τ).loc Cert.OutRefIdeal.main_v46) = v1 c
          ∧ r.2.mem ((c.tc : Thread Cert.OutRefIdeal.nD Cert.OutRefIdeal.τ).loc Cert.OutRefIdeal.main_v27) = v2 c
          ∧ r.2.mem ((c.tc : Thread Cert.OutRefIdeal.nD Cert.OutRefIdeal.τ).loc Cert.OutRefIdeal.main_v24) = v3 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_OutWgrad_OutWgradIdeal : Prop :=
  True

def algebraic_OutWgradIdeal_OutWrefIdeal [hOutWgradIdeal : Cert.OutWgradIdeal.Facts] [hOutWrefIdeal : Cert.OutWrefIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.OutWrefIdeal.nD Cert.OutWrefIdeal.τ Cert.OutWrefIdeal.sig) → Buf (Elt Ideal) ℓ) (g' : Dev Cert.OutWrefIdeal.nD → PrngReg), Pre_OutWgradIdeal m →
    (∀ c : Dev Cert.OutWgradIdeal.nD,
      m' ((c.tc : Thread Cert.OutWrefIdeal.nD Cert.OutWrefIdeal.τ).loc Cert.OutWrefIdeal.main_arg0) = m ((c.tc : Thread Cert.OutWgradIdeal.nD Cert.OutWgradIdeal.τ).loc Cert.OutWgradIdeal.main_arg0)
      ∧ m' ((c.tc : Thread Cert.OutWrefIdeal.nD Cert.OutWrefIdeal.τ).loc Cert.OutWrefIdeal.main_arg1) = m ((c.tc : Thread Cert.OutWgradIdeal.nD Cert.OutWgradIdeal.τ).loc Cert.OutWgradIdeal.main_arg1)) →
    ∃ (v0 : (c : Dev Cert.OutWgradIdeal.nD) → Buf (Elt Ideal) ((c.tc : Thread Cert.OutWgradIdeal.nD Cert.OutWgradIdeal.τ).loc Cert.OutWgradIdeal.main_v0)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v0) = v0 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ θ_run (Cert.OutWrefIdeal.defs (F := Ideal)) (onTc (τ := Cert.OutWrefIdeal.τ) (Cert.OutWrefIdeal.main (F := Ideal))) ⟨m', fun _ => 0, g'⟩ (fun r => ∀ c : Dev Cert.OutWrefIdeal.nD,
          r.2.mem ((c.tc : Thread Cert.OutWrefIdeal.nD Cert.OutWrefIdeal.τ).loc Cert.OutWrefIdeal.main_v6) = v0 c
          ∧ r.2.mem ((c.tc : Thread Cert.OutWrefIdeal.nD Cert.OutWrefIdeal.τ).loc Cert.OutWrefIdeal.main_arg0) = m' ((c.tc : Thread Cert.OutWrefIdeal.nD Cert.OutWrefIdeal.τ).loc Cert.OutWrefIdeal.main_arg0)
          ∧ r.2.mem ((c.tc : Thread Cert.OutWrefIdeal.nD Cert.OutWrefIdeal.τ).loc Cert.OutWrefIdeal.main_arg1) = m' ((c.tc : Thread Cert.OutWrefIdeal.nD Cert.OutWrefIdeal.τ).loc Cert.OutWrefIdeal.main_arg1))

def preserves_OddWgrad_OddWgradIdeal : Prop :=
  True

def algebraic_OddWgradIdeal_OddWrefIdeal [hOddWgradIdeal : Cert.OddWgradIdeal.Facts] [hOddWrefIdeal : Cert.OddWrefIdeal.Facts] : Prop :=
  ∀ (m : (ℓ : Loc Cert.OddWgradIdeal.nD Cert.OddWgradIdeal.τ Cert.OddWgradIdeal.sig) → Buf (Elt Ideal) ℓ) (g : Dev Cert.OddWgradIdeal.nD → PrngReg)
    (m' : (ℓ : Loc Cert.OddWrefIdeal.nD Cert.OddWrefIdeal.τ Cert.OddWrefIdeal.sig) → Buf (Elt Ideal) ℓ) (g' : Dev Cert.OddWrefIdeal.nD → PrngReg), Pre_OddWgradIdeal m →
    (∀ c : Dev Cert.OddWgradIdeal.nD,
      m' ((c.tc : Thread Cert.OddWrefIdeal.nD Cert.OddWrefIdeal.τ).loc Cert.OddWrefIdeal.main_arg0) = m ((c.tc : Thread Cert.OddWgradIdeal.nD Cert.OddWgradIdeal.τ).loc Cert.OddWgradIdeal.main_arg0)
      ∧ m' ((c.tc : Thread Cert.OddWrefIdeal.nD Cert.OddWrefIdeal.τ).loc Cert.OddWrefIdeal.main_arg1) = m ((c.tc : Thread Cert.OddWgradIdeal.nD Cert.OddWgradIdeal.τ).loc Cert.OddWgradIdeal.main_arg1)) →
    ∃ (v0 : (c : Dev Cert.OddWgradIdeal.nD) → Buf (Elt Ideal) ((c.tc : Thread Cert.OddWgradIdeal.nD Cert.OddWgradIdeal.τ).loc Cert.OddWgradIdeal.main_v0)),
      θ_run (Cert.OddWgradIdeal.defs (F := Ideal)) (onTc (τ := Cert.OddWgradIdeal.τ) (Cert.OddWgradIdeal.main (F := Ideal))) ⟨m, fun _ => 0, g⟩ (fun r => ∀ c : Dev Cert.OddWgradIdeal.nD,
          r.2.mem ((c.tc : Thread Cert.OddWgradIdeal.nD Cert.OddWgradIdeal.τ).loc Cert.OddWgradIdeal.main_v0) = v0 c
          ∧ r.2.mem ((c.tc : Thread Cert.OddWgradIdeal.nD Cert.OddWgradIdeal.τ).loc Cert.OddWgradIdeal.main_arg0) = m ((c.tc : Thread Cert.OddWgradIdeal.nD Cert.OddWgradIdeal.τ).loc Cert.OddWgradIdeal.main_arg0)
          ∧ r.2.mem ((c.tc : Thread Cert.OddWgradIdeal.nD Cert.OddWgradIdeal.τ).loc Cert.OddWgradIdeal.main_arg1) = m ((c.tc : Thread Cert.OddWgradIdeal.nD Cert.OddWgradIdeal.τ).loc Cert.OddWgradIdeal.main_arg1))
      ∧ θ_run (Cert.OddWrefIdeal.defs (F := Ideal)) (onTc (τ := Cert.OddWrefIdeal.τ) (Cert.OddWrefIdeal.main (F := Ideal))) ⟨m', fun _ => 0, g'⟩ (fun r => ∀ c : Dev Cert.OddWrefIdeal.nD,
          r.2.mem ((c.tc : Thread Cert.OddWrefIdeal.nD Cert.OddWrefIdeal.τ).loc Cert.OddWrefIdeal.main_v7) = v0 c
          ∧ r.2.mem ((c.tc : Thread Cert.OddWrefIdeal.nD Cert.OddWrefIdeal.τ).loc Cert.OddWrefIdeal.main_arg0) = m' ((c.tc : Thread Cert.OddWrefIdeal.nD Cert.OddWrefIdeal.τ).loc Cert.OddWrefIdeal.main_arg0)
          ∧ r.2.mem ((c.tc : Thread Cert.OddWrefIdeal.nD Cert.OddWrefIdeal.τ).loc Cert.OddWrefIdeal.main_arg1) = m' ((c.tc : Thread Cert.OddWrefIdeal.nD Cert.OddWrefIdeal.τ).loc Cert.OddWrefIdeal.main_arg1))

def preserves_MixWgrad_MixWgradIdeal : Prop :=
  True

def algebraic_MixWgradIdeal_MixWrefIdeal [hMixWgradIdeal : Cert.MixWgradIdeal.Facts] [hMixWrefIdeal : Cert.MixWrefIdeal.Facts] : Prop :=
  ∀ (m : (ℓ : Loc Cert.MixWgradIdeal.nD Cert.MixWgradIdeal.τ Cert.MixWgradIdeal.sig) → Buf (Elt Ideal) ℓ) (g : Dev Cert.MixWgradIdeal.nD → PrngReg)
    (m' : (ℓ : Loc Cert.MixWrefIdeal.nD Cert.MixWrefIdeal.τ Cert.MixWrefIdeal.sig) → Buf (Elt Ideal) ℓ) (g' : Dev Cert.MixWrefIdeal.nD → PrngReg), Pre_MixWgradIdeal m →
    (∀ c : Dev Cert.MixWgradIdeal.nD,
      m' ((c.tc : Thread Cert.MixWrefIdeal.nD Cert.MixWrefIdeal.τ).loc Cert.MixWrefIdeal.main_arg0) = m ((c.tc : Thread Cert.MixWgradIdeal.nD Cert.MixWgradIdeal.τ).loc Cert.MixWgradIdeal.main_arg0)
      ∧ m' ((c.tc : Thread Cert.MixWrefIdeal.nD Cert.MixWrefIdeal.τ).loc Cert.MixWrefIdeal.main_arg1) = m ((c.tc : Thread Cert.MixWgradIdeal.nD Cert.MixWgradIdeal.τ).loc Cert.MixWgradIdeal.main_arg1)
      ∧ m' ((c.tc : Thread Cert.MixWrefIdeal.nD Cert.MixWrefIdeal.τ).loc Cert.MixWrefIdeal.main_arg2) = m ((c.tc : Thread Cert.MixWgradIdeal.nD Cert.MixWgradIdeal.τ).loc Cert.MixWgradIdeal.main_arg2)) →
    ∃ (v0 : (c : Dev Cert.MixWgradIdeal.nD) → Buf (Elt Ideal) ((c.tc : Thread Cert.MixWgradIdeal.nD Cert.MixWgradIdeal.τ).loc Cert.MixWgradIdeal.main_v0)),
      θ_run (Cert.MixWgradIdeal.defs (F := Ideal)) (onTc (τ := Cert.MixWgradIdeal.τ) (Cert.MixWgradIdeal.main (F := Ideal))) ⟨m, fun _ => 0, g⟩ (fun r => ∀ c : Dev Cert.MixWgradIdeal.nD,
          r.2.mem ((c.tc : Thread Cert.MixWgradIdeal.nD Cert.MixWgradIdeal.τ).loc Cert.MixWgradIdeal.main_v0) = v0 c
          ∧ r.2.mem ((c.tc : Thread Cert.MixWgradIdeal.nD Cert.MixWgradIdeal.τ).loc Cert.MixWgradIdeal.main_arg0) = m ((c.tc : Thread Cert.MixWgradIdeal.nD Cert.MixWgradIdeal.τ).loc Cert.MixWgradIdeal.main_arg0)
          ∧ r.2.mem ((c.tc : Thread Cert.MixWgradIdeal.nD Cert.MixWgradIdeal.τ).loc Cert.MixWgradIdeal.main_arg1) = m ((c.tc : Thread Cert.MixWgradIdeal.nD Cert.MixWgradIdeal.τ).loc Cert.MixWgradIdeal.main_arg1)
          ∧ r.2.mem ((c.tc : Thread Cert.MixWgradIdeal.nD Cert.MixWgradIdeal.τ).loc Cert.MixWgradIdeal.main_arg2) = m ((c.tc : Thread Cert.MixWgradIdeal.nD Cert.MixWgradIdeal.τ).loc Cert.MixWgradIdeal.main_arg2))
      ∧ θ_run (Cert.MixWrefIdeal.defs (F := Ideal)) (onTc (τ := Cert.MixWrefIdeal.τ) (Cert.MixWrefIdeal.main (F := Ideal))) ⟨m', fun _ => 0, g'⟩ (fun r => ∀ c : Dev Cert.MixWrefIdeal.nD,
          r.2.mem ((c.tc : Thread Cert.MixWrefIdeal.nD Cert.MixWrefIdeal.τ).loc Cert.MixWrefIdeal.main_v7) = v0 c
          ∧ r.2.mem ((c.tc : Thread Cert.MixWrefIdeal.nD Cert.MixWrefIdeal.τ).loc Cert.MixWrefIdeal.main_arg0) = m' ((c.tc : Thread Cert.MixWrefIdeal.nD Cert.MixWrefIdeal.τ).loc Cert.MixWrefIdeal.main_arg0)
          ∧ r.2.mem ((c.tc : Thread Cert.MixWrefIdeal.nD Cert.MixWrefIdeal.τ).loc Cert.MixWrefIdeal.main_arg1) = m' ((c.tc : Thread Cert.MixWrefIdeal.nD Cert.MixWrefIdeal.τ).loc Cert.MixWrefIdeal.main_arg1)
          ∧ r.2.mem ((c.tc : Thread Cert.MixWrefIdeal.nD Cert.MixWrefIdeal.τ).loc Cert.MixWrefIdeal.main_arg2) = m' ((c.tc : Thread Cert.MixWrefIdeal.nD Cert.MixWrefIdeal.τ).loc Cert.MixWrefIdeal.main_arg2))

def preserves_InWgrad_InWgradIdeal : Prop :=
  True

def algebraic_InWgradIdeal_InWrefIdeal [hInWgradIdeal : Cert.InWgradIdeal.Facts] [hInWrefIdeal : Cert.InWrefIdeal.Facts] : Prop :=
  ∀ (m : (ℓ : Loc Cert.InWgradIdeal.nD Cert.InWgradIdeal.τ Cert.InWgradIdeal.sig) → Buf (Elt Ideal) ℓ) (g : Dev Cert.InWgradIdeal.nD → PrngReg)
    (m' : (ℓ : Loc Cert.InWrefIdeal.nD Cert.InWrefIdeal.τ Cert.InWrefIdeal.sig) → Buf (Elt Ideal) ℓ) (g' : Dev Cert.InWrefIdeal.nD → PrngReg), Pre_InWgradIdeal m →
    (∀ c : Dev Cert.InWgradIdeal.nD,
      m' ((c.tc : Thread Cert.InWrefIdeal.nD Cert.InWrefIdeal.τ).loc Cert.InWrefIdeal.main_arg0) = m ((c.tc : Thread Cert.InWgradIdeal.nD Cert.InWgradIdeal.τ).loc Cert.InWgradIdeal.main_arg0)
      ∧ m' ((c.tc : Thread Cert.InWrefIdeal.nD Cert.InWrefIdeal.τ).loc Cert.InWrefIdeal.main_arg1) = m ((c.tc : Thread Cert.InWgradIdeal.nD Cert.InWgradIdeal.τ).loc Cert.InWgradIdeal.main_arg1)
      ∧ m' ((c.tc : Thread Cert.InWrefIdeal.nD Cert.InWrefIdeal.τ).loc Cert.InWrefIdeal.main_arg2) = m ((c.tc : Thread Cert.InWgradIdeal.nD Cert.InWgradIdeal.τ).loc Cert.InWgradIdeal.main_arg2)
      ∧ m' ((c.tc : Thread Cert.InWrefIdeal.nD Cert.InWrefIdeal.τ).loc Cert.InWrefIdeal.main_arg3) = m ((c.tc : Thread Cert.InWgradIdeal.nD Cert.InWgradIdeal.τ).loc Cert.InWgradIdeal.main_arg3)) →
    ∃ (v0 : (c : Dev Cert.InWgradIdeal.nD) → Buf (Elt Ideal) ((c.tc : Thread Cert.InWgradIdeal.nD Cert.InWgradIdeal.τ).loc Cert.InWgradIdeal.main_v2)),
      θ_run (Cert.InWgradIdeal.defs (F := Ideal)) (onTc (τ := Cert.InWgradIdeal.τ) (Cert.InWgradIdeal.main (F := Ideal))) ⟨m, fun _ => 0, g⟩ (fun r => ∀ c : Dev Cert.InWgradIdeal.nD,
          r.2.mem ((c.tc : Thread Cert.InWgradIdeal.nD Cert.InWgradIdeal.τ).loc Cert.InWgradIdeal.main_v2) = v0 c
          ∧ r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
          ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1)
          ∧ r.2.mem ((c.tc : Thread Cert.InWgradIdeal.nD Cert.InWgradIdeal.τ).loc Cert.InWgradIdeal.main_arg2) = m ((c.tc : Thread Cert.InWgradIdeal.nD Cert.InWgradIdeal.τ).loc Cert.InWgradIdeal.main_arg2)
          ∧ r.2.mem ((c.tc : Thread Cert.InWgradIdeal.nD Cert.InWgradIdeal.τ).loc Cert.InWgradIdeal.main_arg3) = m ((c.tc : Thread Cert.InWgradIdeal.nD Cert.InWgradIdeal.τ).loc Cert.InWgradIdeal.main_arg3))
      ∧ θ_run (Cert.InWrefIdeal.defs (F := Ideal)) (onTc (τ := Cert.InWrefIdeal.τ) (Cert.InWrefIdeal.main (F := Ideal))) ⟨m', fun _ => 0, g'⟩ (fun r => ∀ c : Dev Cert.InWrefIdeal.nD,
          r.2.mem ((c.tc : Thread Cert.InWrefIdeal.nD Cert.InWrefIdeal.τ).loc Cert.InWrefIdeal.main_v15) = v0 c
          ∧ r.2.mem ((c.tc : Thread Cert.InWrefIdeal.nD Cert.InWrefIdeal.τ).loc Cert.InWrefIdeal.main_arg0) = m' ((c.tc : Thread Cert.InWrefIdeal.nD Cert.InWrefIdeal.τ).loc Cert.InWrefIdeal.main_arg0)
          ∧ r.2.mem ((c.tc : Thread Cert.InWrefIdeal.nD Cert.InWrefIdeal.τ).loc Cert.InWrefIdeal.main_arg1) = m' ((c.tc : Thread Cert.InWrefIdeal.nD Cert.InWrefIdeal.τ).loc Cert.InWrefIdeal.main_arg1)
          ∧ r.2.mem ((c.tc : Thread Cert.InWrefIdeal.nD Cert.InWrefIdeal.τ).loc Cert.InWrefIdeal.main_arg2) = m' ((c.tc : Thread Cert.InWrefIdeal.nD Cert.InWrefIdeal.τ).loc Cert.InWrefIdeal.main_arg2)
          ∧ r.2.mem ((c.tc : Thread Cert.InWrefIdeal.nD Cert.InWrefIdeal.τ).loc Cert.InWrefIdeal.main_arg3) = m' ((c.tc : Thread Cert.InWrefIdeal.nD Cert.InWrefIdeal.τ).loc Cert.InWrefIdeal.main_arg3))

def preserves_UpFwd_UpFwdIdeal : Prop :=
  True

def algebraic_UpFwdIdeal_UpFrefIdeal [hUpFwdIdeal : Cert.UpFwdIdeal.Facts] [hUpFrefIdeal : Cert.UpFrefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFrefIdeal.nD Cert.UpFrefIdeal.τ Cert.UpFrefIdeal.sig) → Buf (Elt Ideal) ℓ) (g' : Dev Cert.UpFrefIdeal.nD → PrngReg), Pre_UpFwdIdeal m →
    (∀ c : Dev Cert.UpFwdIdeal.nD,
      m' ((c.tc : Thread Cert.UpFrefIdeal.nD Cert.UpFrefIdeal.τ).loc Cert.UpFrefIdeal.main_arg0) = m ((c.tc : Thread Cert.UpFwdIdeal.nD Cert.UpFwdIdeal.τ).loc Cert.UpFwdIdeal.main_arg0)
      ∧ m' ((c.tc : Thread Cert.UpFrefIdeal.nD Cert.UpFrefIdeal.τ).loc Cert.UpFrefIdeal.main_arg1) = m ((c.tc : Thread Cert.UpFwdIdeal.nD Cert.UpFwdIdeal.τ).loc Cert.UpFwdIdeal.main_arg1)
      ∧ m' ((c.tc : Thread Cert.UpFrefIdeal.nD Cert.UpFrefIdeal.τ).loc Cert.UpFrefIdeal.main_arg2) = m ((c.tc : Thread Cert.UpFwdIdeal.nD Cert.UpFwdIdeal.τ).loc Cert.UpFwdIdeal.main_arg2)
      ∧ m' ((c.tc : Thread Cert.UpFrefIdeal.nD Cert.UpFrefIdeal.τ).loc Cert.UpFrefIdeal.main_arg3) = m ((c.tc : Thread Cert.UpFwdIdeal.nD Cert.UpFwdIdeal.τ).loc Cert.UpFwdIdeal.main_arg3)
      ∧ m' ((c.tc : Thread Cert.UpFrefIdeal.nD Cert.UpFrefIdeal.τ).loc Cert.UpFrefIdeal.main_arg4) = m ((c.tc : Thread Cert.UpFwdIdeal.nD Cert.UpFwdIdeal.τ).loc Cert.UpFwdIdeal.main_arg4)) →
    ∃ (v0 : (c : Dev Cert.UpFwdIdeal.nD) → Buf (Elt Ideal) ((c.tc : Thread Cert.UpFwdIdeal.nD Cert.UpFwdIdeal.τ).loc Cert.UpFwdIdeal.main_v1_0)) (v1 : (c : Dev Cert.UpFwdIdeal.nD) → Buf (Elt Ideal) ((c.tc : Thread Cert.UpFwdIdeal.nD Cert.UpFwdIdeal.τ).loc Cert.UpFwdIdeal.main_v1_1)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v1_0) = v0 c
          ∧ r.2.mem ((c.tc : Thread Cert.UpFwdIdeal.nD Cert.UpFwdIdeal.τ).loc Cert.UpFwdIdeal.main_v1_1) = v1 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
          ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2)
          ∧ r.2.mem ((c.tc : Thread Cert.UpFwdIdeal.nD Cert.UpFwdIdeal.τ).loc Cert.UpFwdIdeal.main_arg3) = m ((c.tc : Thread Cert.UpFwdIdeal.nD Cert.UpFwdIdeal.τ).loc Cert.UpFwdIdeal.main_arg3)
          ∧ r.2.mem ((c.tc : Thread Cert.UpFwdIdeal.nD Cert.UpFwdIdeal.τ).loc Cert.UpFwdIdeal.main_arg4) = m ((c.tc : Thread Cert.UpFwdIdeal.nD Cert.UpFwdIdeal.τ).loc Cert.UpFwdIdeal.main_arg4))
      ∧ θ_run (Cert.UpFrefIdeal.defs (F := Ideal)) (onTc (τ := Cert.UpFrefIdeal.τ) (Cert.UpFrefIdeal.main (F := Ideal))) ⟨m', fun _ => 0, g'⟩ (fun r => ∀ c : Dev Cert.UpFrefIdeal.nD,
          r.2.mem ((c.tc : Thread Cert.UpFrefIdeal.nD Cert.UpFrefIdeal.τ).loc Cert.UpFrefIdeal.main_v18) = v0 c
          ∧ r.2.mem ((c.tc : Thread Cert.UpFrefIdeal.nD Cert.UpFrefIdeal.τ).loc Cert.UpFrefIdeal.main_v21) = v1 c
          ∧ r.2.mem ((c.tc : Thread Cert.UpFrefIdeal.nD Cert.UpFrefIdeal.τ).loc Cert.UpFrefIdeal.main_arg0) = m' ((c.tc : Thread Cert.UpFrefIdeal.nD Cert.UpFrefIdeal.τ).loc Cert.UpFrefIdeal.main_arg0)
          ∧ r.2.mem ((c.tc : Thread Cert.UpFrefIdeal.nD Cert.UpFrefIdeal.τ).loc Cert.UpFrefIdeal.main_arg1) = m' ((c.tc : Thread Cert.UpFrefIdeal.nD Cert.UpFrefIdeal.τ).loc Cert.UpFrefIdeal.main_arg1)
          ∧ r.2.mem ((c.tc : Thread Cert.UpFrefIdeal.nD Cert.UpFrefIdeal.τ).loc Cert.UpFrefIdeal.main_arg2) = m' ((c.tc : Thread Cert.UpFrefIdeal.nD Cert.UpFrefIdeal.τ).loc Cert.UpFrefIdeal.main_arg2)
          ∧ r.2.mem ((c.tc : Thread Cert.UpFrefIdeal.nD Cert.UpFrefIdeal.τ).loc Cert.UpFrefIdeal.main_arg3) = m' ((c.tc : Thread Cert.UpFrefIdeal.nD Cert.UpFrefIdeal.τ).loc Cert.UpFrefIdeal.main_arg3)
          ∧ r.2.mem ((c.tc : Thread Cert.UpFrefIdeal.nD Cert.UpFrefIdeal.τ).loc Cert.UpFrefIdeal.main_arg4) = m' ((c.tc : Thread Cert.UpFrefIdeal.nD Cert.UpFrefIdeal.τ).loc Cert.UpFrefIdeal.main_arg4))

def preserves_OddFwd_OddFwdIdeal : Prop :=
  True

def algebraic_OddFwdIdeal_OddFrefIdeal [hOddFwdIdeal : Cert.OddFwdIdeal.Facts] [hOddFrefIdeal : Cert.OddFrefIdeal.Facts] : Prop :=
  ∀ (m : (ℓ : Loc Cert.OddFwdIdeal.nD Cert.OddFwdIdeal.τ Cert.OddFwdIdeal.sig) → Buf (Elt Ideal) ℓ) (g : Dev Cert.OddFwdIdeal.nD → PrngReg)
    (m' : (ℓ : Loc Cert.OddFrefIdeal.nD Cert.OddFrefIdeal.τ Cert.OddFrefIdeal.sig) → Buf (Elt Ideal) ℓ) (g' : Dev Cert.OddFrefIdeal.nD → PrngReg), Pre_OddFwdIdeal m →
    (∀ c : Dev Cert.OddFwdIdeal.nD,
      m' ((c.tc : Thread Cert.OddFrefIdeal.nD Cert.OddFrefIdeal.τ).loc Cert.OddFrefIdeal.main_arg0) = m ((c.tc : Thread Cert.OddFwdIdeal.nD Cert.OddFwdIdeal.τ).loc Cert.OddFwdIdeal.main_arg0)
      ∧ m' ((c.tc : Thread Cert.OddFrefIdeal.nD Cert.OddFrefIdeal.τ).loc Cert.OddFrefIdeal.main_arg1) = m ((c.tc : Thread Cert.OddFwdIdeal.nD Cert.OddFwdIdeal.τ).loc Cert.OddFwdIdeal.main_arg1)
      ∧ m' ((c.tc : Thread Cert.OddFrefIdeal.nD Cert.OddFrefIdeal.τ).loc Cert.OddFrefIdeal.main_arg2) = m ((c.tc : Thread Cert.OddFwdIdeal.nD Cert.OddFwdIdeal.τ).loc Cert.OddFwdIdeal.main_arg2)
      ∧ m' ((c.tc : Thread Cert.OddFrefIdeal.nD Cert.OddFrefIdeal.τ).loc Cert.OddFrefIdeal.main_arg3) = m ((c.tc : Thread Cert.OddFwdIdeal.nD Cert.OddFwdIdeal.τ).loc Cert.OddFwdIdeal.main_arg3)
      ∧ m' ((c.tc : Thread Cert.OddFrefIdeal.nD Cert.OddFrefIdeal.τ).loc Cert.OddFrefIdeal.main_arg4) = m ((c.tc : Thread Cert.OddFwdIdeal.nD Cert.OddFwdIdeal.τ).loc Cert.OddFwdIdeal.main_arg4)) →
    ∃ (v0 : (c : Dev Cert.OddFwdIdeal.nD) → Buf (Elt Ideal) ((c.tc : Thread Cert.OddFwdIdeal.nD Cert.OddFwdIdeal.τ).loc Cert.OddFwdIdeal.main_v1_0)) (v1 : (c : Dev Cert.OddFwdIdeal.nD) → Buf (Elt Ideal) ((c.tc : Thread Cert.OddFwdIdeal.nD Cert.OddFwdIdeal.τ).loc Cert.OddFwdIdeal.main_v1_1)),
      θ_run (Cert.OddFwdIdeal.defs (F := Ideal)) (onTc (τ := Cert.OddFwdIdeal.τ) (Cert.OddFwdIdeal.main (F := Ideal))) ⟨m, fun _ => 0, g⟩ (fun r => ∀ c : Dev Cert.OddFwdIdeal.nD,
          r.2.mem ((c.tc : Thread Cert.OddFwdIdeal.nD Cert.OddFwdIdeal.τ).loc Cert.OddFwdIdeal.main_v1_0) = v0 c
          ∧ r.2.mem ((c.tc : Thread Cert.OddFwdIdeal.nD Cert.OddFwdIdeal.τ).loc Cert.OddFwdIdeal.main_v1_1) = v1 c
          ∧ r.2.mem ((c.tc : Thread Cert.OddFwdIdeal.nD Cert.OddFwdIdeal.τ).loc Cert.OddFwdIdeal.main_arg0) = m ((c.tc : Thread Cert.OddFwdIdeal.nD Cert.OddFwdIdeal.τ).loc Cert.OddFwdIdeal.main_arg0)
          ∧ r.2.mem ((c.tc : Thread Cert.OddFwdIdeal.nD Cert.OddFwdIdeal.τ).loc Cert.OddFwdIdeal.main_arg1) = m ((c.tc : Thread Cert.OddFwdIdeal.nD Cert.OddFwdIdeal.τ).loc Cert.OddFwdIdeal.main_arg1)
          ∧ r.2.mem ((c.tc : Thread Cert.OddFwdIdeal.nD Cert.OddFwdIdeal.τ).loc Cert.OddFwdIdeal.main_arg2) = m ((c.tc : Thread Cert.OddFwdIdeal.nD Cert.OddFwdIdeal.τ).loc Cert.OddFwdIdeal.main_arg2)
          ∧ r.2.mem ((c.tc : Thread Cert.OddFwdIdeal.nD Cert.OddFwdIdeal.τ).loc Cert.OddFwdIdeal.main_arg3) = m ((c.tc : Thread Cert.OddFwdIdeal.nD Cert.OddFwdIdeal.τ).loc Cert.OddFwdIdeal.main_arg3)
          ∧ r.2.mem ((c.tc : Thread Cert.OddFwdIdeal.nD Cert.OddFwdIdeal.τ).loc Cert.OddFwdIdeal.main_arg4) = m ((c.tc : Thread Cert.OddFwdIdeal.nD Cert.OddFwdIdeal.τ).loc Cert.OddFwdIdeal.main_arg4))
      ∧ θ_run (Cert.OddFrefIdeal.defs (F := Ideal)) (onTc (τ := Cert.OddFrefIdeal.τ) (Cert.OddFrefIdeal.main (F := Ideal))) ⟨m', fun _ => 0, g'⟩ (fun r => ∀ c : Dev Cert.OddFrefIdeal.nD,
          r.2.mem ((c.tc : Thread Cert.OddFrefIdeal.nD Cert.OddFrefIdeal.τ).loc Cert.OddFrefIdeal.main_v18) = v0 c
          ∧ r.2.mem ((c.tc : Thread Cert.OddFrefIdeal.nD Cert.OddFrefIdeal.τ).loc Cert.OddFrefIdeal.main_v21) = v1 c
          ∧ r.2.mem ((c.tc : Thread Cert.OddFrefIdeal.nD Cert.OddFrefIdeal.τ).loc Cert.OddFrefIdeal.main_arg0) = m' ((c.tc : Thread Cert.OddFrefIdeal.nD Cert.OddFrefIdeal.τ).loc Cert.OddFrefIdeal.main_arg0)
          ∧ r.2.mem ((c.tc : Thread Cert.OddFrefIdeal.nD Cert.OddFrefIdeal.τ).loc Cert.OddFrefIdeal.main_arg1) = m' ((c.tc : Thread Cert.OddFrefIdeal.nD Cert.OddFrefIdeal.τ).loc Cert.OddFrefIdeal.main_arg1)
          ∧ r.2.mem ((c.tc : Thread Cert.OddFrefIdeal.nD Cert.OddFrefIdeal.τ).loc Cert.OddFrefIdeal.main_arg2) = m' ((c.tc : Thread Cert.OddFrefIdeal.nD Cert.OddFrefIdeal.τ).loc Cert.OddFrefIdeal.main_arg2)
          ∧ r.2.mem ((c.tc : Thread Cert.OddFrefIdeal.nD Cert.OddFrefIdeal.τ).loc Cert.OddFrefIdeal.main_arg3) = m' ((c.tc : Thread Cert.OddFrefIdeal.nD Cert.OddFrefIdeal.τ).loc Cert.OddFrefIdeal.main_arg3)
          ∧ r.2.mem ((c.tc : Thread Cert.OddFrefIdeal.nD Cert.OddFrefIdeal.τ).loc Cert.OddFrefIdeal.main_arg4) = m' ((c.tc : Thread Cert.OddFrefIdeal.nD Cert.OddFrefIdeal.τ).loc Cert.OddFrefIdeal.main_arg4))

def preserves_DownFwd_DownFwdIdeal : Prop :=
  True

def algebraic_DownFwdIdeal_DownFrefIdeal [hDownFwdIdeal : Cert.DownFwdIdeal.Facts] [hDownFrefIdeal : Cert.DownFrefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFrefIdeal.nD Cert.DownFrefIdeal.τ Cert.DownFrefIdeal.sig) → Buf (Elt Ideal) ℓ) (g' : Dev Cert.DownFrefIdeal.nD → PrngReg), Pre_DownFwdIdeal m →
    (∀ c : Dev Cert.DownFwdIdeal.nD,
      m' ((c.tc : Thread Cert.DownFrefIdeal.nD Cert.DownFrefIdeal.τ).loc Cert.DownFrefIdeal.main_arg0) = m ((c.tc : Thread Cert.DownFwdIdeal.nD Cert.DownFwdIdeal.τ).loc Cert.DownFwdIdeal.main_arg0)
      ∧ m' ((c.tc : Thread Cert.DownFrefIdeal.nD Cert.DownFrefIdeal.τ).loc Cert.DownFrefIdeal.main_arg1) = m ((c.tc : Thread Cert.DownFwdIdeal.nD Cert.DownFwdIdeal.τ).loc Cert.DownFwdIdeal.main_arg1)
      ∧ m' ((c.tc : Thread Cert.DownFrefIdeal.nD Cert.DownFrefIdeal.τ).loc Cert.DownFrefIdeal.main_arg2) = m ((c.tc : Thread Cert.DownFwdIdeal.nD Cert.DownFwdIdeal.τ).loc Cert.DownFwdIdeal.main_arg2)
      ∧ m' ((c.tc : Thread Cert.DownFrefIdeal.nD Cert.DownFrefIdeal.τ).loc Cert.DownFrefIdeal.main_arg3) = m ((c.tc : Thread Cert.DownFwdIdeal.nD Cert.DownFwdIdeal.τ).loc Cert.DownFwdIdeal.main_arg3)
      ∧ m' ((c.tc : Thread Cert.DownFrefIdeal.nD Cert.DownFrefIdeal.τ).loc Cert.DownFrefIdeal.main_arg4) = m ((c.tc : Thread Cert.DownFwdIdeal.nD Cert.DownFwdIdeal.τ).loc Cert.DownFwdIdeal.main_arg4)) →
    ∃ (v0 : (c : Dev Cert.DownFwdIdeal.nD) → Buf (Elt Ideal) ((c.tc : Thread Cert.DownFwdIdeal.nD Cert.DownFwdIdeal.τ).loc Cert.DownFwdIdeal.main_v0_0)) (v1 : (c : Dev Cert.DownFwdIdeal.nD) → Buf (Elt Ideal) ((c.tc : Thread Cert.DownFwdIdeal.nD Cert.DownFwdIdeal.τ).loc Cert.DownFwdIdeal.main_v0_1)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0_0) = v0 c
          ∧ r.2.mem ((c.tc : Thread Cert.DownFwdIdeal.nD Cert.DownFwdIdeal.τ).loc Cert.DownFwdIdeal.main_v0_1) = v1 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
          ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
          ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4))
      ∧ θ_run (Cert.DownFrefIdeal.defs (F := Ideal)) (onTc (τ := Cert.DownFrefIdeal.τ) (Cert.DownFrefIdeal.main (F := Ideal))) ⟨m', fun _ => 0, g'⟩ (fun r => ∀ c : Dev Cert.DownFrefIdeal.nD,
          r.2.mem ((c.tc : Thread Cert.DownFrefIdeal.nD Cert.DownFrefIdeal.τ).loc Cert.DownFrefIdeal.main_v3) = v0 c
          ∧ r.2.mem ((c.tc : Thread Cert.DownFrefIdeal.nD Cert.DownFrefIdeal.τ).loc Cert.DownFrefIdeal.main_v18) = v1 c
          ∧ r.2.mem ((c.tc : Thread Cert.DownFrefIdeal.nD Cert.DownFrefIdeal.τ).loc Cert.DownFrefIdeal.main_arg0) = m' ((c.tc : Thread Cert.DownFrefIdeal.nD Cert.DownFrefIdeal.τ).loc Cert.DownFrefIdeal.main_arg0)
          ∧ r.2.mem ((c.tc : Thread Cert.DownFrefIdeal.nD Cert.DownFrefIdeal.τ).loc Cert.DownFrefIdeal.main_arg1) = m' ((c.tc : Thread Cert.DownFrefIdeal.nD Cert.DownFrefIdeal.τ).loc Cert.DownFrefIdeal.main_arg1)
          ∧ r.2.mem ((c.tc : Thread Cert.DownFrefIdeal.nD Cert.DownFrefIdeal.τ).loc Cert.DownFrefIdeal.main_arg2) = m' ((c.tc : Thread Cert.DownFrefIdeal.nD Cert.DownFrefIdeal.τ).loc Cert.DownFrefIdeal.main_arg2)
          ∧ r.2.mem ((c.tc : Thread Cert.DownFrefIdeal.nD Cert.DownFrefIdeal.τ).loc Cert.DownFrefIdeal.main_arg3) = m' ((c.tc : Thread Cert.DownFrefIdeal.nD Cert.DownFrefIdeal.τ).loc Cert.DownFrefIdeal.main_arg3)
          ∧ r.2.mem ((c.tc : Thread Cert.DownFrefIdeal.nD Cert.DownFrefIdeal.τ).loc Cert.DownFrefIdeal.main_arg4) = m' ((c.tc : Thread Cert.DownFrefIdeal.nD Cert.DownFrefIdeal.τ).loc Cert.DownFrefIdeal.main_arg4))

def preserves_OutFwd_OutFwdIdeal : Prop :=
  True

def algebraic_OutFwdIdeal_OutFrefIdeal [hOutFwdIdeal : Cert.OutFwdIdeal.Facts] [hOutFrefIdeal : Cert.OutFrefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFrefIdeal.nD Cert.OutFrefIdeal.τ Cert.OutFrefIdeal.sig) → Buf (Elt Ideal) ℓ) (g' : Dev Cert.OutFrefIdeal.nD → PrngReg), Pre_OutFwdIdeal m →
    (∀ c : Dev Cert.OutFwdIdeal.nD,
      m' ((c.tc : Thread Cert.OutFrefIdeal.nD Cert.OutFrefIdeal.τ).loc Cert.OutFrefIdeal.main_arg0) = m ((c.tc : Thread Cert.OutFwdIdeal.nD Cert.OutFwdIdeal.τ).loc Cert.OutFwdIdeal.main_arg0)
      ∧ m' ((c.tc : Thread Cert.OutFrefIdeal.nD Cert.OutFrefIdeal.τ).loc Cert.OutFrefIdeal.main_arg1) = m ((c.tc : Thread Cert.OutFwdIdeal.nD Cert.OutFwdIdeal.τ).loc Cert.OutFwdIdeal.main_arg1)
      ∧ m' ((c.tc : Thread Cert.OutFrefIdeal.nD Cert.OutFrefIdeal.τ).loc Cert.OutFrefIdeal.main_arg2) = m ((c.tc : Thread Cert.OutFwdIdeal.nD Cert.OutFwdIdeal.τ).loc Cert.OutFwdIdeal.main_arg2)
      ∧ m' ((c.tc : Thread Cert.OutFrefIdeal.nD Cert.OutFrefIdeal.τ).loc Cert.OutFrefIdeal.main_arg3) = m ((c.tc : Thread Cert.OutFwdIdeal.nD Cert.OutFwdIdeal.τ).loc Cert.OutFwdIdeal.main_arg3)
      ∧ m' ((c.tc : Thread Cert.OutFrefIdeal.nD Cert.OutFrefIdeal.τ).loc Cert.OutFrefIdeal.main_arg4) = m ((c.tc : Thread Cert.OutFwdIdeal.nD Cert.OutFwdIdeal.τ).loc Cert.OutFwdIdeal.main_arg4)) →
    ∃ (v0 : (c : Dev Cert.OutFwdIdeal.nD) → Buf (Elt Ideal) ((c.tc : Thread Cert.OutFwdIdeal.nD Cert.OutFwdIdeal.τ).loc Cert.OutFwdIdeal.main_v0_0)) (v1 : (c : Dev Cert.OutFwdIdeal.nD) → Buf (Elt Ideal) ((c.tc : Thread Cert.OutFwdIdeal.nD Cert.OutFwdIdeal.τ).loc Cert.OutFwdIdeal.main_v0_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0_0) = v0 c
          ∧ r.2.mem ((c.tc : Thread Cert.OutFwdIdeal.nD Cert.OutFwdIdeal.τ).loc Cert.OutFwdIdeal.main_v0_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4))
      ∧ θ_run (Cert.OutFrefIdeal.defs (F := Ideal)) (onTc (τ := Cert.OutFrefIdeal.τ) (Cert.OutFrefIdeal.main (F := Ideal))) ⟨m', fun _ => 0, g'⟩ (fun r => ∀ c : Dev Cert.OutFrefIdeal.nD,
          r.2.mem ((c.tc : Thread Cert.OutFrefIdeal.nD Cert.OutFrefIdeal.τ).loc Cert.OutFrefIdeal.main_v3) = v0 c
          ∧ r.2.mem ((c.tc : Thread Cert.OutFrefIdeal.nD Cert.OutFrefIdeal.τ).loc Cert.OutFrefIdeal.main_v18) = v1 c
          ∧ r.2.mem ((c.tc : Thread Cert.OutFrefIdeal.nD Cert.OutFrefIdeal.τ).loc Cert.OutFrefIdeal.main_arg0) = m' ((c.tc : Thread Cert.OutFrefIdeal.nD Cert.OutFrefIdeal.τ).loc Cert.OutFrefIdeal.main_arg0)
          ∧ r.2.mem ((c.tc : Thread Cert.OutFrefIdeal.nD Cert.OutFrefIdeal.τ).loc Cert.OutFrefIdeal.main_arg1) = m' ((c.tc : Thread Cert.OutFrefIdeal.nD Cert.OutFrefIdeal.τ).loc Cert.OutFrefIdeal.main_arg1)
          ∧ r.2.mem ((c.tc : Thread Cert.OutFrefIdeal.nD Cert.OutFrefIdeal.τ).loc Cert.OutFrefIdeal.main_arg2) = m' ((c.tc : Thread Cert.OutFrefIdeal.nD Cert.OutFrefIdeal.τ).loc Cert.OutFrefIdeal.main_arg2)
          ∧ r.2.mem ((c.tc : Thread Cert.OutFrefIdeal.nD Cert.OutFrefIdeal.τ).loc Cert.OutFrefIdeal.main_arg3) = m' ((c.tc : Thread Cert.OutFrefIdeal.nD Cert.OutFrefIdeal.τ).loc Cert.OutFrefIdeal.main_arg3)
          ∧ r.2.mem ((c.tc : Thread Cert.OutFrefIdeal.nD Cert.OutFrefIdeal.τ).loc Cert.OutFrefIdeal.main_arg4) = m' ((c.tc : Thread Cert.OutFrefIdeal.nD Cert.OutFrefIdeal.τ).loc Cert.OutFrefIdeal.main_arg4))

def preserves_MixFwd_MixFwdIdeal : Prop :=
  True

def algebraic_MixFwdIdeal_MixFrefIdeal [hMixFwdIdeal : Cert.MixFwdIdeal.Facts] [hMixFrefIdeal : Cert.MixFrefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFrefIdeal.nD Cert.MixFrefIdeal.τ Cert.MixFrefIdeal.sig) → Buf (Elt Ideal) ℓ) (g' : Dev Cert.MixFrefIdeal.nD → PrngReg), Pre_MixFwdIdeal m →
    (∀ c : Dev Cert.MixFwdIdeal.nD,
      m' ((c.tc : Thread Cert.MixFrefIdeal.nD Cert.MixFrefIdeal.τ).loc Cert.MixFrefIdeal.main_arg0) = m ((c.tc : Thread Cert.MixFwdIdeal.nD Cert.MixFwdIdeal.τ).loc Cert.MixFwdIdeal.main_arg0)
      ∧ m' ((c.tc : Thread Cert.MixFrefIdeal.nD Cert.MixFrefIdeal.τ).loc Cert.MixFrefIdeal.main_arg1) = m ((c.tc : Thread Cert.MixFwdIdeal.nD Cert.MixFwdIdeal.τ).loc Cert.MixFwdIdeal.main_arg1)
      ∧ m' ((c.tc : Thread Cert.MixFrefIdeal.nD Cert.MixFrefIdeal.τ).loc Cert.MixFrefIdeal.main_arg2) = m ((c.tc : Thread Cert.MixFwdIdeal.nD Cert.MixFwdIdeal.τ).loc Cert.MixFwdIdeal.main_arg2)
      ∧ m' ((c.tc : Thread Cert.MixFrefIdeal.nD Cert.MixFrefIdeal.τ).loc Cert.MixFrefIdeal.main_arg3) = m ((c.tc : Thread Cert.MixFwdIdeal.nD Cert.MixFwdIdeal.τ).loc Cert.MixFwdIdeal.main_arg3)
      ∧ m' ((c.tc : Thread Cert.MixFrefIdeal.nD Cert.MixFrefIdeal.τ).loc Cert.MixFrefIdeal.main_arg4) = m ((c.tc : Thread Cert.MixFwdIdeal.nD Cert.MixFwdIdeal.τ).loc Cert.MixFwdIdeal.main_arg4)
      ∧ m' ((c.tc : Thread Cert.MixFrefIdeal.nD Cert.MixFrefIdeal.τ).loc Cert.MixFrefIdeal.main_arg5) = m ((c.tc : Thread Cert.MixFwdIdeal.nD Cert.MixFwdIdeal.τ).loc Cert.MixFwdIdeal.main_arg5)) →
    ∃ (v0 : (c : Dev Cert.MixFwdIdeal.nD) → Buf (Elt Ideal) ((c.tc : Thread Cert.MixFwdIdeal.nD Cert.MixFwdIdeal.τ).loc Cert.MixFwdIdeal.main_v0_0)) (v1 : (c : Dev Cert.MixFwdIdeal.nD) → Buf (Elt Ideal) ((c.tc : Thread Cert.MixFwdIdeal.nD Cert.MixFwdIdeal.τ).loc Cert.MixFwdIdeal.main_v0_1)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v0_0) = v0 c
          ∧ r.2.mem ((c.tc : Thread Cert.MixFwdIdeal.nD Cert.MixFwdIdeal.τ).loc Cert.MixFwdIdeal.main_v0_1) = v1 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5))
      ∧ θ_run (Cert.MixFrefIdeal.defs (F := Ideal)) (onTc (τ := Cert.MixFrefIdeal.τ) (Cert.MixFrefIdeal.main (F := Ideal))) ⟨m', fun _ => 0, g'⟩ (fun r => ∀ c : Dev Cert.MixFrefIdeal.nD,
          r.2.mem ((c.tc : Thread Cert.MixFrefIdeal.nD Cert.MixFrefIdeal.τ).loc Cert.MixFrefIdeal.main_v4) = v0 c
          ∧ r.2.mem ((c.tc : Thread Cert.MixFrefIdeal.nD Cert.MixFrefIdeal.τ).loc Cert.MixFrefIdeal.main_v19) = v1 c
          ∧ r.2.mem ((c.tc : Thread Cert.MixFrefIdeal.nD Cert.MixFrefIdeal.τ).loc Cert.MixFrefIdeal.main_arg0) = m' ((c.tc : Thread Cert.MixFrefIdeal.nD Cert.MixFrefIdeal.τ).loc Cert.MixFrefIdeal.main_arg0)
          ∧ r.2.mem ((c.tc : Thread Cert.MixFrefIdeal.nD Cert.MixFrefIdeal.τ).loc Cert.MixFrefIdeal.main_arg1) = m' ((c.tc : Thread Cert.MixFrefIdeal.nD Cert.MixFrefIdeal.τ).loc Cert.MixFrefIdeal.main_arg1)
          ∧ r.2.mem ((c.tc : Thread Cert.MixFrefIdeal.nD Cert.MixFrefIdeal.τ).loc Cert.MixFrefIdeal.main_arg2) = m' ((c.tc : Thread Cert.MixFrefIdeal.nD Cert.MixFrefIdeal.τ).loc Cert.MixFrefIdeal.main_arg2)
          ∧ r.2.mem ((c.tc : Thread Cert.MixFrefIdeal.nD Cert.MixFrefIdeal.τ).loc Cert.MixFrefIdeal.main_arg3) = m' ((c.tc : Thread Cert.MixFrefIdeal.nD Cert.MixFrefIdeal.τ).loc Cert.MixFrefIdeal.main_arg3)
          ∧ r.2.mem ((c.tc : Thread Cert.MixFrefIdeal.nD Cert.MixFrefIdeal.τ).loc Cert.MixFrefIdeal.main_arg4) = m' ((c.tc : Thread Cert.MixFrefIdeal.nD Cert.MixFrefIdeal.τ).loc Cert.MixFrefIdeal.main_arg4)
          ∧ r.2.mem ((c.tc : Thread Cert.MixFrefIdeal.nD Cert.MixFrefIdeal.τ).loc Cert.MixFrefIdeal.main_arg5) = m' ((c.tc : Thread Cert.MixFrefIdeal.nD Cert.MixFrefIdeal.τ).loc Cert.MixFrefIdeal.main_arg5))

def preserves_LastFwd_LastFwdIdeal : Prop :=
  True

def algebraic_LastFwdIdeal_LastFrefIdeal [hLastFwdIdeal : Cert.LastFwdIdeal.Facts] [hLastFrefIdeal : Cert.LastFrefIdeal.Facts] : Prop :=
  ∀ (m : (ℓ : Loc Cert.LastFwdIdeal.nD Cert.LastFwdIdeal.τ Cert.LastFwdIdeal.sig) → Buf (Elt Ideal) ℓ) (g : Dev Cert.LastFwdIdeal.nD → PrngReg)
    (m' : (ℓ : Loc Cert.LastFrefIdeal.nD Cert.LastFrefIdeal.τ Cert.LastFrefIdeal.sig) → Buf (Elt Ideal) ℓ) (g' : Dev Cert.LastFrefIdeal.nD → PrngReg), Pre_LastFwdIdeal m →
    (∀ c : Dev Cert.LastFwdIdeal.nD,
      m' ((c.tc : Thread Cert.LastFrefIdeal.nD Cert.LastFrefIdeal.τ).loc Cert.LastFrefIdeal.main_arg0) = m ((c.tc : Thread Cert.LastFwdIdeal.nD Cert.LastFwdIdeal.τ).loc Cert.LastFwdIdeal.main_arg0)
      ∧ m' ((c.tc : Thread Cert.LastFrefIdeal.nD Cert.LastFrefIdeal.τ).loc Cert.LastFrefIdeal.main_arg1) = m ((c.tc : Thread Cert.LastFwdIdeal.nD Cert.LastFwdIdeal.τ).loc Cert.LastFwdIdeal.main_arg1)
      ∧ m' ((c.tc : Thread Cert.LastFrefIdeal.nD Cert.LastFrefIdeal.τ).loc Cert.LastFrefIdeal.main_arg2) = m ((c.tc : Thread Cert.LastFwdIdeal.nD Cert.LastFwdIdeal.τ).loc Cert.LastFwdIdeal.main_arg2)
      ∧ m' ((c.tc : Thread Cert.LastFrefIdeal.nD Cert.LastFrefIdeal.τ).loc Cert.LastFrefIdeal.main_arg3) = m ((c.tc : Thread Cert.LastFwdIdeal.nD Cert.LastFwdIdeal.τ).loc Cert.LastFwdIdeal.main_arg3)
      ∧ m' ((c.tc : Thread Cert.LastFrefIdeal.nD Cert.LastFrefIdeal.τ).loc Cert.LastFrefIdeal.main_arg4) = m ((c.tc : Thread Cert.LastFwdIdeal.nD Cert.LastFwdIdeal.τ).loc Cert.LastFwdIdeal.main_arg4)
      ∧ m' ((c.tc : Thread Cert.LastFrefIdeal.nD Cert.LastFrefIdeal.τ).loc Cert.LastFrefIdeal.main_arg5) = m ((c.tc : Thread Cert.LastFwdIdeal.nD Cert.LastFwdIdeal.τ).loc Cert.LastFwdIdeal.main_arg5)) →
    ∃ (v0 : (c : Dev Cert.LastFwdIdeal.nD) → Buf (Elt Ideal) ((c.tc : Thread Cert.LastFwdIdeal.nD Cert.LastFwdIdeal.τ).loc Cert.LastFwdIdeal.main_v0_0)) (v1 : (c : Dev Cert.LastFwdIdeal.nD) → Buf (Elt Ideal) ((c.tc : Thread Cert.LastFwdIdeal.nD Cert.LastFwdIdeal.τ).loc Cert.LastFwdIdeal.main_v0_1)) (v2 : (c : Dev Cert.LastFwdIdeal.nD) → Buf (Elt Ideal) ((c.tc : Thread Cert.LastFwdIdeal.nD Cert.LastFwdIdeal.τ).loc Cert.LastFwdIdeal.main_v0_2)),
      θ_run (Cert.LastFwdIdeal.defs (F := Ideal)) (onTc (τ := Cert.LastFwdIdeal.τ) (Cert.LastFwdIdeal.main (F := Ideal))) ⟨m, fun _ => 0, g⟩ (fun r => ∀ c : Dev Cert.LastFwdIdeal.nD,
          r.2.mem ((c.tc : Thread Cert.LastFwdIdeal.nD Cert.LastFwdIdeal.τ).loc Cert.LastFwdIdeal.main_v0_0) = v0 c
          ∧ r.2.mem ((c.tc : Thread Cert.LastFwdIdeal.nD Cert.LastFwdIdeal.τ).loc Cert.LastFwdIdeal.main_v0_1) = v1 c
          ∧ r.2.mem ((c.tc : Thread Cert.LastFwdIdeal.nD Cert.LastFwdIdeal.τ).loc Cert.LastFwdIdeal.main_v0_2) = v2 c
          ∧ r.2.mem ((c.tc : Thread Cert.LastFwdIdeal.nD Cert.LastFwdIdeal.τ).loc Cert.LastFwdIdeal.main_arg0) = m ((c.tc : Thread Cert.LastFwdIdeal.nD Cert.LastFwdIdeal.τ).loc Cert.LastFwdIdeal.main_arg0)
          ∧ r.2.mem ((c.tc : Thread Cert.LastFwdIdeal.nD Cert.LastFwdIdeal.τ).loc Cert.LastFwdIdeal.main_arg1) = m ((c.tc : Thread Cert.LastFwdIdeal.nD Cert.LastFwdIdeal.τ).loc Cert.LastFwdIdeal.main_arg1)
          ∧ r.2.mem ((c.tc : Thread Cert.LastFwdIdeal.nD Cert.LastFwdIdeal.τ).loc Cert.LastFwdIdeal.main_arg2) = m ((c.tc : Thread Cert.LastFwdIdeal.nD Cert.LastFwdIdeal.τ).loc Cert.LastFwdIdeal.main_arg2)
          ∧ r.2.mem ((c.tc : Thread Cert.LastFwdIdeal.nD Cert.LastFwdIdeal.τ).loc Cert.LastFwdIdeal.main_arg3) = m ((c.tc : Thread Cert.LastFwdIdeal.nD Cert.LastFwdIdeal.τ).loc Cert.LastFwdIdeal.main_arg3)
          ∧ r.2.mem ((c.tc : Thread Cert.LastFwdIdeal.nD Cert.LastFwdIdeal.τ).loc Cert.LastFwdIdeal.main_arg4) = m ((c.tc : Thread Cert.LastFwdIdeal.nD Cert.LastFwdIdeal.τ).loc Cert.LastFwdIdeal.main_arg4)
          ∧ r.2.mem ((c.tc : Thread Cert.LastFwdIdeal.nD Cert.LastFwdIdeal.τ).loc Cert.LastFwdIdeal.main_arg5) = m ((c.tc : Thread Cert.LastFwdIdeal.nD Cert.LastFwdIdeal.τ).loc Cert.LastFwdIdeal.main_arg5))
      ∧ θ_run (Cert.LastFrefIdeal.defs (F := Ideal)) (onTc (τ := Cert.LastFrefIdeal.τ) (Cert.LastFrefIdeal.main (F := Ideal))) ⟨m', fun _ => 0, g'⟩ (fun r => ∀ c : Dev Cert.LastFrefIdeal.nD,
          r.2.mem ((c.tc : Thread Cert.LastFrefIdeal.nD Cert.LastFrefIdeal.τ).loc Cert.LastFrefIdeal.main_v3) = v0 c
          ∧ r.2.mem ((c.tc : Thread Cert.LastFrefIdeal.nD Cert.LastFrefIdeal.τ).loc Cert.LastFrefIdeal.main_v33) = v1 c
          ∧ r.2.mem ((c.tc : Thread Cert.LastFrefIdeal.nD Cert.LastFrefIdeal.τ).loc Cert.LastFrefIdeal.main_v34) = v2 c
          ∧ r.2.mem ((c.tc : Thread Cert.LastFrefIdeal.nD Cert.LastFrefIdeal.τ).loc Cert.LastFrefIdeal.main_arg0) = m' ((c.tc : Thread Cert.LastFrefIdeal.nD Cert.LastFrefIdeal.τ).loc Cert.LastFrefIdeal.main_arg0)
          ∧ r.2.mem ((c.tc : Thread Cert.LastFrefIdeal.nD Cert.LastFrefIdeal.τ).loc Cert.LastFrefIdeal.main_arg1) = m' ((c.tc : Thread Cert.LastFrefIdeal.nD Cert.LastFrefIdeal.τ).loc Cert.LastFrefIdeal.main_arg1)
          ∧ r.2.mem ((c.tc : Thread Cert.LastFrefIdeal.nD Cert.LastFrefIdeal.τ).loc Cert.LastFrefIdeal.main_arg2) = m' ((c.tc : Thread Cert.LastFrefIdeal.nD Cert.LastFrefIdeal.τ).loc Cert.LastFrefIdeal.main_arg2)
          ∧ r.2.mem ((c.tc : Thread Cert.LastFrefIdeal.nD Cert.LastFrefIdeal.τ).loc Cert.LastFrefIdeal.main_arg3) = m' ((c.tc : Thread Cert.LastFrefIdeal.nD Cert.LastFrefIdeal.τ).loc Cert.LastFrefIdeal.main_arg3)
          ∧ r.2.mem ((c.tc : Thread Cert.LastFrefIdeal.nD Cert.LastFrefIdeal.τ).loc Cert.LastFrefIdeal.main_arg4) = m' ((c.tc : Thread Cert.LastFrefIdeal.nD Cert.LastFrefIdeal.τ).loc Cert.LastFrefIdeal.main_arg4)
          ∧ r.2.mem ((c.tc : Thread Cert.LastFrefIdeal.nD Cert.LastFrefIdeal.τ).loc Cert.LastFrefIdeal.main_arg5) = m' ((c.tc : Thread Cert.LastFrefIdeal.nD Cert.LastFrefIdeal.τ).loc Cert.LastFrefIdeal.main_arg5))

def preserves_OddAdam_OddAdamIdeal : Prop :=
  True

def algebraic_OddAdamIdeal_OddArefIdeal [hOddAdamIdeal : Cert.OddAdamIdeal.Facts] [hOddArefIdeal : Cert.OddArefIdeal.Facts] : Prop :=
  ∀ (m : (ℓ : Loc Cert.OddAdamIdeal.nD Cert.OddAdamIdeal.τ Cert.OddAdamIdeal.sig) → Buf (Elt Ideal) ℓ) (g : Dev Cert.OddAdamIdeal.nD → PrngReg)
    (m' : (ℓ : Loc Cert.OddArefIdeal.nD Cert.OddArefIdeal.τ Cert.OddArefIdeal.sig) → Buf (Elt Ideal) ℓ) (g' : Dev Cert.OddArefIdeal.nD → PrngReg), Pre_OddAdamIdeal m →
    (∀ c : Dev Cert.OddAdamIdeal.nD,
      m' ((c.tc : Thread Cert.OddArefIdeal.nD Cert.OddArefIdeal.τ).loc Cert.OddArefIdeal.main_arg0) = m ((c.tc : Thread Cert.OddAdamIdeal.nD Cert.OddAdamIdeal.τ).loc Cert.OddAdamIdeal.main_arg0)
      ∧ m' ((c.tc : Thread Cert.OddArefIdeal.nD Cert.OddArefIdeal.τ).loc Cert.OddArefIdeal.main_arg1) = m ((c.tc : Thread Cert.OddAdamIdeal.nD Cert.OddAdamIdeal.τ).loc Cert.OddAdamIdeal.main_arg1)
      ∧ m' ((c.tc : Thread Cert.OddArefIdeal.nD Cert.OddArefIdeal.τ).loc Cert.OddArefIdeal.main_arg2) = m ((c.tc : Thread Cert.OddAdamIdeal.nD Cert.OddAdamIdeal.τ).loc Cert.OddAdamIdeal.main_arg2)
      ∧ m' ((c.tc : Thread Cert.OddArefIdeal.nD Cert.OddArefIdeal.τ).loc Cert.OddArefIdeal.main_arg3) = m ((c.tc : Thread Cert.OddAdamIdeal.nD Cert.OddAdamIdeal.τ).loc Cert.OddAdamIdeal.main_arg3)) →
    ∃ (v0 : (c : Dev Cert.OddAdamIdeal.nD) → Buf (Elt Ideal) ((c.tc : Thread Cert.OddAdamIdeal.nD Cert.OddAdamIdeal.τ).loc Cert.OddAdamIdeal.main_v3_0)) (v1 : (c : Dev Cert.OddAdamIdeal.nD) → Buf (Elt Ideal) ((c.tc : Thread Cert.OddAdamIdeal.nD Cert.OddAdamIdeal.τ).loc Cert.OddAdamIdeal.main_v3_1)) (v2 : (c : Dev Cert.OddAdamIdeal.nD) → Buf (Elt Ideal) ((c.tc : Thread Cert.OddAdamIdeal.nD Cert.OddAdamIdeal.τ).loc Cert.OddAdamIdeal.main_v3_2)) (v3 : (c : Dev Cert.OddAdamIdeal.nD) → Buf (Elt Ideal) ((c.tc : Thread Cert.OddAdamIdeal.nD Cert.OddAdamIdeal.τ).loc Cert.OddAdamIdeal.main_v3_3)),
      θ_run (Cert.OddAdamIdeal.defs (F := Ideal)) (onTc (τ := Cert.OddAdamIdeal.τ) (Cert.OddAdamIdeal.main (F := Ideal))) ⟨m, fun _ => 0, g⟩ (fun r => ∀ c : Dev Cert.OddAdamIdeal.nD,
          r.2.mem ((c.tc : Thread Cert.OddAdamIdeal.nD Cert.OddAdamIdeal.τ).loc Cert.OddAdamIdeal.main_v3_0) = v0 c
          ∧ r.2.mem ((c.tc : Thread Cert.OddAdamIdeal.nD Cert.OddAdamIdeal.τ).loc Cert.OddAdamIdeal.main_v3_1) = v1 c
          ∧ r.2.mem ((c.tc : Thread Cert.OddAdamIdeal.nD Cert.OddAdamIdeal.τ).loc Cert.OddAdamIdeal.main_v3_2) = v2 c
          ∧ r.2.mem ((c.tc : Thread Cert.OddAdamIdeal.nD Cert.OddAdamIdeal.τ).loc Cert.OddAdamIdeal.main_v3_3) = v3 c
          ∧ r.2.mem ((c.tc : Thread Cert.OddAdamIdeal.nD Cert.OddAdamIdeal.τ).loc Cert.OddAdamIdeal.main_arg0) = m ((c.tc : Thread Cert.OddAdamIdeal.nD Cert.OddAdamIdeal.τ).loc Cert.OddAdamIdeal.main_arg0)
          ∧ r.2.mem ((c.tc : Thread Cert.OddAdamIdeal.nD Cert.OddAdamIdeal.τ).loc Cert.OddAdamIdeal.main_arg1) = m ((c.tc : Thread Cert.OddAdamIdeal.nD Cert.OddAdamIdeal.τ).loc Cert.OddAdamIdeal.main_arg1)
          ∧ r.2.mem ((c.tc : Thread Cert.OddAdamIdeal.nD Cert.OddAdamIdeal.τ).loc Cert.OddAdamIdeal.main_arg2) = m ((c.tc : Thread Cert.OddAdamIdeal.nD Cert.OddAdamIdeal.τ).loc Cert.OddAdamIdeal.main_arg2)
          ∧ r.2.mem ((c.tc : Thread Cert.OddAdamIdeal.nD Cert.OddAdamIdeal.τ).loc Cert.OddAdamIdeal.main_arg3) = m ((c.tc : Thread Cert.OddAdamIdeal.nD Cert.OddAdamIdeal.τ).loc Cert.OddAdamIdeal.main_arg3))
      ∧ θ_run (Cert.OddArefIdeal.defs (F := Ideal)) (onTc (τ := Cert.OddArefIdeal.τ) (Cert.OddArefIdeal.main (F := Ideal))) ⟨m', fun _ => 0, g'⟩ (fun r => ∀ c : Dev Cert.OddArefIdeal.nD,
          r.2.mem ((c.tc : Thread Cert.OddArefIdeal.nD Cert.OddArefIdeal.τ).loc Cert.OddArefIdeal.main_v5) = v0 c
          ∧ r.2.mem ((c.tc : Thread Cert.OddArefIdeal.nD Cert.OddArefIdeal.τ).loc Cert.OddArefIdeal.main_v29) = v1 c
          ∧ r.2.mem ((c.tc : Thread Cert.OddArefIdeal.nD Cert.OddArefIdeal.τ).loc Cert.OddArefIdeal.main_v10) = v2 c
          ∧ r.2.mem ((c.tc : Thread Cert.OddArefIdeal.nD Cert.OddArefIdeal.τ).loc Cert.OddArefIdeal.main_v16) = v3 c
          ∧ r.2.mem ((c.tc : Thread Cert.OddArefIdeal.nD Cert.OddArefIdeal.τ).loc Cert.OddArefIdeal.main_arg0) = m' ((c.tc : Thread Cert.OddArefIdeal.nD Cert.OddArefIdeal.τ).loc Cert.OddArefIdeal.main_arg0)
          ∧ r.2.mem ((c.tc : Thread Cert.OddArefIdeal.nD Cert.OddArefIdeal.τ).loc Cert.OddArefIdeal.main_arg1) = m' ((c.tc : Thread Cert.OddArefIdeal.nD Cert.OddArefIdeal.τ).loc Cert.OddArefIdeal.main_arg1)
          ∧ r.2.mem ((c.tc : Thread Cert.OddArefIdeal.nD Cert.OddArefIdeal.τ).loc Cert.OddArefIdeal.main_arg2) = m' ((c.tc : Thread Cert.OddArefIdeal.nD Cert.OddArefIdeal.τ).loc Cert.OddArefIdeal.main_arg2)
          ∧ r.2.mem ((c.tc : Thread Cert.OddArefIdeal.nD Cert.OddArefIdeal.τ).loc Cert.OddArefIdeal.main_arg3) = m' ((c.tc : Thread Cert.OddArefIdeal.nD Cert.OddArefIdeal.τ).loc Cert.OddArefIdeal.main_arg3))

def preserves_InAdam_InAdamIdeal : Prop :=
  True

def algebraic_InAdamIdeal_InArefIdeal [hInAdamIdeal : Cert.InAdamIdeal.Facts] [hInArefIdeal : Cert.InArefIdeal.Facts] : Prop :=
  ∀ (m : (ℓ : Loc Cert.InAdamIdeal.nD Cert.InAdamIdeal.τ Cert.InAdamIdeal.sig) → Buf (Elt Ideal) ℓ) (g : Dev Cert.InAdamIdeal.nD → PrngReg)
    (m' : (ℓ : Loc Cert.InArefIdeal.nD Cert.InArefIdeal.τ Cert.InArefIdeal.sig) → Buf (Elt Ideal) ℓ) (g' : Dev Cert.InArefIdeal.nD → PrngReg), Pre_InAdamIdeal m →
    (∀ c : Dev Cert.InAdamIdeal.nD,
      m' ((c.tc : Thread Cert.InArefIdeal.nD Cert.InArefIdeal.τ).loc Cert.InArefIdeal.main_arg0) = m ((c.tc : Thread Cert.InAdamIdeal.nD Cert.InAdamIdeal.τ).loc Cert.InAdamIdeal.main_arg0)
      ∧ m' ((c.tc : Thread Cert.InArefIdeal.nD Cert.InArefIdeal.τ).loc Cert.InArefIdeal.main_arg1) = m ((c.tc : Thread Cert.InAdamIdeal.nD Cert.InAdamIdeal.τ).loc Cert.InAdamIdeal.main_arg1)
      ∧ m' ((c.tc : Thread Cert.InArefIdeal.nD Cert.InArefIdeal.τ).loc Cert.InArefIdeal.main_arg2) = m ((c.tc : Thread Cert.InAdamIdeal.nD Cert.InAdamIdeal.τ).loc Cert.InAdamIdeal.main_arg2)
      ∧ m' ((c.tc : Thread Cert.InArefIdeal.nD Cert.InArefIdeal.τ).loc Cert.InArefIdeal.main_arg3) = m ((c.tc : Thread Cert.InAdamIdeal.nD Cert.InAdamIdeal.τ).loc Cert.InAdamIdeal.main_arg3)) →
    ∃ (v0 : (c : Dev Cert.InAdamIdeal.nD) → Buf (Elt Ideal) ((c.tc : Thread Cert.InAdamIdeal.nD Cert.InAdamIdeal.τ).loc Cert.InAdamIdeal.main_v3_0)) (v1 : (c : Dev Cert.InAdamIdeal.nD) → Buf (Elt Ideal) ((c.tc : Thread Cert.InAdamIdeal.nD Cert.InAdamIdeal.τ).loc Cert.InAdamIdeal.main_v3_1)) (v2 : (c : Dev Cert.InAdamIdeal.nD) → Buf (Elt Ideal) ((c.tc : Thread Cert.InAdamIdeal.nD Cert.InAdamIdeal.τ).loc Cert.InAdamIdeal.main_v3_2)) (v3 : (c : Dev Cert.InAdamIdeal.nD) → Buf (Elt Ideal) ((c.tc : Thread Cert.InAdamIdeal.nD Cert.InAdamIdeal.τ).loc Cert.InAdamIdeal.main_v3_3)),
      θ_run (Cert.InAdamIdeal.defs (F := Ideal)) (onTc (τ := Cert.InAdamIdeal.τ) (Cert.InAdamIdeal.main (F := Ideal))) ⟨m, fun _ => 0, g⟩ (fun r => ∀ c : Dev Cert.InAdamIdeal.nD,
          r.2.mem ((c.tc : Thread Cert.InAdamIdeal.nD Cert.InAdamIdeal.τ).loc Cert.InAdamIdeal.main_v3_0) = v0 c
          ∧ r.2.mem ((c.tc : Thread Cert.InAdamIdeal.nD Cert.InAdamIdeal.τ).loc Cert.InAdamIdeal.main_v3_1) = v1 c
          ∧ r.2.mem ((c.tc : Thread Cert.InAdamIdeal.nD Cert.InAdamIdeal.τ).loc Cert.InAdamIdeal.main_v3_2) = v2 c
          ∧ r.2.mem ((c.tc : Thread Cert.InAdamIdeal.nD Cert.InAdamIdeal.τ).loc Cert.InAdamIdeal.main_v3_3) = v3 c
          ∧ r.2.mem ((c.tc : Thread Cert.InAdamIdeal.nD Cert.InAdamIdeal.τ).loc Cert.InAdamIdeal.main_arg0) = m ((c.tc : Thread Cert.InAdamIdeal.nD Cert.InAdamIdeal.τ).loc Cert.InAdamIdeal.main_arg0)
          ∧ r.2.mem ((c.tc : Thread Cert.InAdamIdeal.nD Cert.InAdamIdeal.τ).loc Cert.InAdamIdeal.main_arg1) = m ((c.tc : Thread Cert.InAdamIdeal.nD Cert.InAdamIdeal.τ).loc Cert.InAdamIdeal.main_arg1)
          ∧ r.2.mem ((c.tc : Thread Cert.InAdamIdeal.nD Cert.InAdamIdeal.τ).loc Cert.InAdamIdeal.main_arg2) = m ((c.tc : Thread Cert.InAdamIdeal.nD Cert.InAdamIdeal.τ).loc Cert.InAdamIdeal.main_arg2)
          ∧ r.2.mem ((c.tc : Thread Cert.InAdamIdeal.nD Cert.InAdamIdeal.τ).loc Cert.InAdamIdeal.main_arg3) = m ((c.tc : Thread Cert.InAdamIdeal.nD Cert.InAdamIdeal.τ).loc Cert.InAdamIdeal.main_arg3))
      ∧ θ_run (Cert.InArefIdeal.defs (F := Ideal)) (onTc (τ := Cert.InArefIdeal.τ) (Cert.InArefIdeal.main (F := Ideal))) ⟨m', fun _ => 0, g'⟩ (fun r => ∀ c : Dev Cert.InArefIdeal.nD,
          r.2.mem ((c.tc : Thread Cert.InArefIdeal.nD Cert.InArefIdeal.τ).loc Cert.InArefIdeal.main_v5) = v0 c
          ∧ r.2.mem ((c.tc : Thread Cert.InArefIdeal.nD Cert.InArefIdeal.τ).loc Cert.InArefIdeal.main_v29) = v1 c
          ∧ r.2.mem ((c.tc : Thread Cert.InArefIdeal.nD Cert.InArefIdeal.τ).loc Cert.InArefIdeal.main_v10) = v2 c
          ∧ r.2.mem ((c.tc : Thread Cert.InArefIdeal.nD Cert.InArefIdeal.τ).loc Cert.InArefIdeal.main_v16) = v3 c
          ∧ r.2.mem ((c.tc : Thread Cert.InArefIdeal.nD Cert.InArefIdeal.τ).loc Cert.InArefIdeal.main_arg0) = m' ((c.tc : Thread Cert.InArefIdeal.nD Cert.InArefIdeal.τ).loc Cert.InArefIdeal.main_arg0)
          ∧ r.2.mem ((c.tc : Thread Cert.InArefIdeal.nD Cert.InArefIdeal.τ).loc Cert.InArefIdeal.main_arg1) = m' ((c.tc : Thread Cert.InArefIdeal.nD Cert.InArefIdeal.τ).loc Cert.InArefIdeal.main_arg1)
          ∧ r.2.mem ((c.tc : Thread Cert.InArefIdeal.nD Cert.InArefIdeal.τ).loc Cert.InArefIdeal.main_arg2) = m' ((c.tc : Thread Cert.InArefIdeal.nD Cert.InArefIdeal.τ).loc Cert.InArefIdeal.main_arg2)
          ∧ r.2.mem ((c.tc : Thread Cert.InArefIdeal.nD Cert.InArefIdeal.τ).loc Cert.InArefIdeal.main_arg3) = m' ((c.tc : Thread Cert.InArefIdeal.nD Cert.InArefIdeal.τ).loc Cert.InArefIdeal.main_arg3))

def preserves_OutAdam_OutAdamIdeal : Prop :=
  True

def algebraic_OutAdamIdeal_OutArefIdeal [hOutAdamIdeal : Cert.OutAdamIdeal.Facts] [hOutArefIdeal : Cert.OutArefIdeal.Facts] : Prop :=
  ∀ (m : (ℓ : Loc Cert.OutAdamIdeal.nD Cert.OutAdamIdeal.τ Cert.OutAdamIdeal.sig) → Buf (Elt Ideal) ℓ) (g : Dev Cert.OutAdamIdeal.nD → PrngReg)
    (m' : (ℓ : Loc Cert.OutArefIdeal.nD Cert.OutArefIdeal.τ Cert.OutArefIdeal.sig) → Buf (Elt Ideal) ℓ) (g' : Dev Cert.OutArefIdeal.nD → PrngReg), Pre_OutAdamIdeal m →
    (∀ c : Dev Cert.OutAdamIdeal.nD,
      m' ((c.tc : Thread Cert.OutArefIdeal.nD Cert.OutArefIdeal.τ).loc Cert.OutArefIdeal.main_arg0) = m ((c.tc : Thread Cert.OutAdamIdeal.nD Cert.OutAdamIdeal.τ).loc Cert.OutAdamIdeal.main_arg0)
      ∧ m' ((c.tc : Thread Cert.OutArefIdeal.nD Cert.OutArefIdeal.τ).loc Cert.OutArefIdeal.main_arg1) = m ((c.tc : Thread Cert.OutAdamIdeal.nD Cert.OutAdamIdeal.τ).loc Cert.OutAdamIdeal.main_arg1)
      ∧ m' ((c.tc : Thread Cert.OutArefIdeal.nD Cert.OutArefIdeal.τ).loc Cert.OutArefIdeal.main_arg2) = m ((c.tc : Thread Cert.OutAdamIdeal.nD Cert.OutAdamIdeal.τ).loc Cert.OutAdamIdeal.main_arg2)
      ∧ m' ((c.tc : Thread Cert.OutArefIdeal.nD Cert.OutArefIdeal.τ).loc Cert.OutArefIdeal.main_arg3) = m ((c.tc : Thread Cert.OutAdamIdeal.nD Cert.OutAdamIdeal.τ).loc Cert.OutAdamIdeal.main_arg3)) →
    ∃ (v0 : (c : Dev Cert.OutAdamIdeal.nD) → Buf (Elt Ideal) ((c.tc : Thread Cert.OutAdamIdeal.nD Cert.OutAdamIdeal.τ).loc Cert.OutAdamIdeal.main_v0_0)) (v1 : (c : Dev Cert.OutAdamIdeal.nD) → Buf (Elt Ideal) ((c.tc : Thread Cert.OutAdamIdeal.nD Cert.OutAdamIdeal.τ).loc Cert.OutAdamIdeal.main_v0_1)) (v2 : (c : Dev Cert.OutAdamIdeal.nD) → Buf (Elt Ideal) ((c.tc : Thread Cert.OutAdamIdeal.nD Cert.OutAdamIdeal.τ).loc Cert.OutAdamIdeal.main_v0_2)) (v3 : (c : Dev Cert.OutAdamIdeal.nD) → Buf (Elt Ideal) ((c.tc : Thread Cert.OutAdamIdeal.nD Cert.OutAdamIdeal.τ).loc Cert.OutAdamIdeal.main_v0_3)),
      θ_run (Cert.OutAdamIdeal.defs (F := Ideal)) (onTc (τ := Cert.OutAdamIdeal.τ) (Cert.OutAdamIdeal.main (F := Ideal))) ⟨m, fun _ => 0, g⟩ (fun r => ∀ c : Dev Cert.OutAdamIdeal.nD,
          r.2.mem ((c.tc : Thread Cert.OutAdamIdeal.nD Cert.OutAdamIdeal.τ).loc Cert.OutAdamIdeal.main_v0_0) = v0 c
          ∧ r.2.mem ((c.tc : Thread Cert.OutAdamIdeal.nD Cert.OutAdamIdeal.τ).loc Cert.OutAdamIdeal.main_v0_1) = v1 c
          ∧ r.2.mem ((c.tc : Thread Cert.OutAdamIdeal.nD Cert.OutAdamIdeal.τ).loc Cert.OutAdamIdeal.main_v0_2) = v2 c
          ∧ r.2.mem ((c.tc : Thread Cert.OutAdamIdeal.nD Cert.OutAdamIdeal.τ).loc Cert.OutAdamIdeal.main_v0_3) = v3 c
          ∧ r.2.mem ((c.tc : Thread Cert.OutAdamIdeal.nD Cert.OutAdamIdeal.τ).loc Cert.OutAdamIdeal.main_arg0) = m ((c.tc : Thread Cert.OutAdamIdeal.nD Cert.OutAdamIdeal.τ).loc Cert.OutAdamIdeal.main_arg0)
          ∧ r.2.mem ((c.tc : Thread Cert.OutAdamIdeal.nD Cert.OutAdamIdeal.τ).loc Cert.OutAdamIdeal.main_arg1) = m ((c.tc : Thread Cert.OutAdamIdeal.nD Cert.OutAdamIdeal.τ).loc Cert.OutAdamIdeal.main_arg1)
          ∧ r.2.mem ((c.tc : Thread Cert.OutAdamIdeal.nD Cert.OutAdamIdeal.τ).loc Cert.OutAdamIdeal.main_arg2) = m ((c.tc : Thread Cert.OutAdamIdeal.nD Cert.OutAdamIdeal.τ).loc Cert.OutAdamIdeal.main_arg2)
          ∧ r.2.mem ((c.tc : Thread Cert.OutAdamIdeal.nD Cert.OutAdamIdeal.τ).loc Cert.OutAdamIdeal.main_arg3) = m ((c.tc : Thread Cert.OutAdamIdeal.nD Cert.OutAdamIdeal.τ).loc Cert.OutAdamIdeal.main_arg3))
      ∧ θ_run (Cert.OutArefIdeal.defs (F := Ideal)) (onTc (τ := Cert.OutArefIdeal.τ) (Cert.OutArefIdeal.main (F := Ideal))) ⟨m', fun _ => 0, g'⟩ (fun r => ∀ c : Dev Cert.OutArefIdeal.nD,
          r.2.mem ((c.tc : Thread Cert.OutArefIdeal.nD Cert.OutArefIdeal.τ).loc Cert.OutArefIdeal.main_v2) = v0 c
          ∧ r.2.mem ((c.tc : Thread Cert.OutArefIdeal.nD Cert.OutArefIdeal.τ).loc Cert.OutArefIdeal.main_v26) = v1 c
          ∧ r.2.mem ((c.tc : Thread Cert.OutArefIdeal.nD Cert.OutArefIdeal.τ).loc Cert.OutArefIdeal.main_v7) = v2 c
          ∧ r.2.mem ((c.tc : Thread Cert.OutArefIdeal.nD Cert.OutArefIdeal.τ).loc Cert.OutArefIdeal.main_v13) = v3 c
          ∧ r.2.mem ((c.tc : Thread Cert.OutArefIdeal.nD Cert.OutArefIdeal.τ).loc Cert.OutArefIdeal.main_arg0) = m' ((c.tc : Thread Cert.OutArefIdeal.nD Cert.OutArefIdeal.τ).loc Cert.OutArefIdeal.main_arg0)
          ∧ r.2.mem ((c.tc : Thread Cert.OutArefIdeal.nD Cert.OutArefIdeal.τ).loc Cert.OutArefIdeal.main_arg1) = m' ((c.tc : Thread Cert.OutArefIdeal.nD Cert.OutArefIdeal.τ).loc Cert.OutArefIdeal.main_arg1)
          ∧ r.2.mem ((c.tc : Thread Cert.OutArefIdeal.nD Cert.OutArefIdeal.τ).loc Cert.OutArefIdeal.main_arg2) = m' ((c.tc : Thread Cert.OutArefIdeal.nD Cert.OutArefIdeal.τ).loc Cert.OutArefIdeal.main_arg2)
          ∧ r.2.mem ((c.tc : Thread Cert.OutArefIdeal.nD Cert.OutArefIdeal.τ).loc Cert.OutArefIdeal.main_arg3) = m' ((c.tc : Thread Cert.OutArefIdeal.nD Cert.OutArefIdeal.τ).loc Cert.OutArefIdeal.main_arg3))

def preserves_UpAdam_UpAdamIdeal : Prop :=
  True

def algebraic_UpAdamIdeal_UpArefIdeal [hUpAdamIdeal : Cert.UpAdamIdeal.Facts] [hUpArefIdeal : Cert.UpArefIdeal.Facts] : Prop :=
  ∀ (m : (ℓ : Loc Cert.UpAdamIdeal.nD Cert.UpAdamIdeal.τ Cert.UpAdamIdeal.sig) → Buf (Elt Ideal) ℓ) (g : Dev Cert.UpAdamIdeal.nD → PrngReg)
    (m' : (ℓ : Loc Cert.UpArefIdeal.nD Cert.UpArefIdeal.τ Cert.UpArefIdeal.sig) → Buf (Elt Ideal) ℓ) (g' : Dev Cert.UpArefIdeal.nD → PrngReg), Pre_UpAdamIdeal m →
    (∀ c : Dev Cert.UpAdamIdeal.nD,
      m' ((c.tc : Thread Cert.UpArefIdeal.nD Cert.UpArefIdeal.τ).loc Cert.UpArefIdeal.main_arg0) = m ((c.tc : Thread Cert.UpAdamIdeal.nD Cert.UpAdamIdeal.τ).loc Cert.UpAdamIdeal.main_arg0)
      ∧ m' ((c.tc : Thread Cert.UpArefIdeal.nD Cert.UpArefIdeal.τ).loc Cert.UpArefIdeal.main_arg1) = m ((c.tc : Thread Cert.UpAdamIdeal.nD Cert.UpAdamIdeal.τ).loc Cert.UpAdamIdeal.main_arg1)
      ∧ m' ((c.tc : Thread Cert.UpArefIdeal.nD Cert.UpArefIdeal.τ).loc Cert.UpArefIdeal.main_arg2) = m ((c.tc : Thread Cert.UpAdamIdeal.nD Cert.UpAdamIdeal.τ).loc Cert.UpAdamIdeal.main_arg2)
      ∧ m' ((c.tc : Thread Cert.UpArefIdeal.nD Cert.UpArefIdeal.τ).loc Cert.UpArefIdeal.main_arg3) = m ((c.tc : Thread Cert.UpAdamIdeal.nD Cert.UpAdamIdeal.τ).loc Cert.UpAdamIdeal.main_arg3)
      ∧ m' ((c.tc : Thread Cert.UpArefIdeal.nD Cert.UpArefIdeal.τ).loc Cert.UpArefIdeal.main_arg4) = m ((c.tc : Thread Cert.UpAdamIdeal.nD Cert.UpAdamIdeal.τ).loc Cert.UpAdamIdeal.main_arg4)) →
    ∃ (v0 : (c : Dev Cert.UpAdamIdeal.nD) → Buf (Elt Ideal) ((c.tc : Thread Cert.UpAdamIdeal.nD Cert.UpAdamIdeal.τ).loc Cert.UpAdamIdeal.main_v3_0)) (v1 : (c : Dev Cert.UpAdamIdeal.nD) → Buf (Elt Ideal) ((c.tc : Thread Cert.UpAdamIdeal.nD Cert.UpAdamIdeal.τ).loc Cert.UpAdamIdeal.main_v3_1)) (v2 : (c : Dev Cert.UpAdamIdeal.nD) → Buf (Elt Ideal) ((c.tc : Thread Cert.UpAdamIdeal.nD Cert.UpAdamIdeal.τ).loc Cert.UpAdamIdeal.main_v3_2)) (v3 : (c : Dev Cert.UpAdamIdeal.nD) → Buf (Elt Ideal) ((c.tc : Thread Cert.UpAdamIdeal.nD Cert.UpAdamIdeal.τ).loc Cert.UpAdamIdeal.main_v3_3)),
      θ_run (Cert.UpAdamIdeal.defs (F := Ideal)) (onTc (τ := Cert.UpAdamIdeal.τ) (Cert.UpAdamIdeal.main (F := Ideal))) ⟨m, fun _ => 0, g⟩ (fun r => ∀ c : Dev Cert.UpAdamIdeal.nD,
          r.2.mem ((c.tc : Thread Cert.UpAdamIdeal.nD Cert.UpAdamIdeal.τ).loc Cert.UpAdamIdeal.main_v3_0) = v0 c
          ∧ r.2.mem ((c.tc : Thread Cert.UpAdamIdeal.nD Cert.UpAdamIdeal.τ).loc Cert.UpAdamIdeal.main_v3_1) = v1 c
          ∧ r.2.mem ((c.tc : Thread Cert.UpAdamIdeal.nD Cert.UpAdamIdeal.τ).loc Cert.UpAdamIdeal.main_v3_2) = v2 c
          ∧ r.2.mem ((c.tc : Thread Cert.UpAdamIdeal.nD Cert.UpAdamIdeal.τ).loc Cert.UpAdamIdeal.main_v3_3) = v3 c
          ∧ r.2.mem ((c.tc : Thread Cert.UpAdamIdeal.nD Cert.UpAdamIdeal.τ).loc Cert.UpAdamIdeal.main_arg0) = m ((c.tc : Thread Cert.UpAdamIdeal.nD Cert.UpAdamIdeal.τ).loc Cert.UpAdamIdeal.main_arg0)
          ∧ r.2.mem ((c.tc : Thread Cert.UpAdamIdeal.nD Cert.UpAdamIdeal.τ).loc Cert.UpAdamIdeal.main_arg1) = m ((c.tc : Thread Cert.UpAdamIdeal.nD Cert.UpAdamIdeal.τ).loc Cert.UpAdamIdeal.main_arg1)
          ∧ r.2.mem ((c.tc : Thread Cert.UpAdamIdeal.nD Cert.UpAdamIdeal.τ).loc Cert.UpAdamIdeal.main_arg2) = m ((c.tc : Thread Cert.UpAdamIdeal.nD Cert.UpAdamIdeal.τ).loc Cert.UpAdamIdeal.main_arg2)
          ∧ r.2.mem ((c.tc : Thread Cert.UpAdamIdeal.nD Cert.UpAdamIdeal.τ).loc Cert.UpAdamIdeal.main_arg3) = m ((c.tc : Thread Cert.UpAdamIdeal.nD Cert.UpAdamIdeal.τ).loc Cert.UpAdamIdeal.main_arg3)
          ∧ r.2.mem ((c.tc : Thread Cert.UpAdamIdeal.nD Cert.UpAdamIdeal.τ).loc Cert.UpAdamIdeal.main_arg4) = m ((c.tc : Thread Cert.UpAdamIdeal.nD Cert.UpAdamIdeal.τ).loc Cert.UpAdamIdeal.main_arg4))
      ∧ θ_run (Cert.UpArefIdeal.defs (F := Ideal)) (onTc (τ := Cert.UpArefIdeal.τ) (Cert.UpArefIdeal.main (F := Ideal))) ⟨m', fun _ => 0, g'⟩ (fun r => ∀ c : Dev Cert.UpArefIdeal.nD,
          r.2.mem ((c.tc : Thread Cert.UpArefIdeal.nD Cert.UpArefIdeal.τ).loc Cert.UpArefIdeal.main_v9) = v0 c
          ∧ r.2.mem ((c.tc : Thread Cert.UpArefIdeal.nD Cert.UpArefIdeal.τ).loc Cert.UpArefIdeal.main_v33) = v1 c
          ∧ r.2.mem ((c.tc : Thread Cert.UpArefIdeal.nD Cert.UpArefIdeal.τ).loc Cert.UpArefIdeal.main_v14) = v2 c
          ∧ r.2.mem ((c.tc : Thread Cert.UpArefIdeal.nD Cert.UpArefIdeal.τ).loc Cert.UpArefIdeal.main_v20) = v3 c
          ∧ r.2.mem ((c.tc : Thread Cert.UpArefIdeal.nD Cert.UpArefIdeal.τ).loc Cert.UpArefIdeal.main_arg0) = m' ((c.tc : Thread Cert.UpArefIdeal.nD Cert.UpArefIdeal.τ).loc Cert.UpArefIdeal.main_arg0)
          ∧ r.2.mem ((c.tc : Thread Cert.UpArefIdeal.nD Cert.UpArefIdeal.τ).loc Cert.UpArefIdeal.main_arg1) = m' ((c.tc : Thread Cert.UpArefIdeal.nD Cert.UpArefIdeal.τ).loc Cert.UpArefIdeal.main_arg1)
          ∧ r.2.mem ((c.tc : Thread Cert.UpArefIdeal.nD Cert.UpArefIdeal.τ).loc Cert.UpArefIdeal.main_arg2) = m' ((c.tc : Thread Cert.UpArefIdeal.nD Cert.UpArefIdeal.τ).loc Cert.UpArefIdeal.main_arg2)
          ∧ r.2.mem ((c.tc : Thread Cert.UpArefIdeal.nD Cert.UpArefIdeal.τ).loc Cert.UpArefIdeal.main_arg3) = m' ((c.tc : Thread Cert.UpArefIdeal.nD Cert.UpArefIdeal.τ).loc Cert.UpArefIdeal.main_arg3)
          ∧ r.2.mem ((c.tc : Thread Cert.UpArefIdeal.nD Cert.UpArefIdeal.τ).loc Cert.UpArefIdeal.main_arg4) = m' ((c.tc : Thread Cert.UpArefIdeal.nD Cert.UpArefIdeal.τ).loc Cert.UpArefIdeal.main_arg4))

def preserves_DownAdam_DownAdamIdeal : Prop :=
  True

def algebraic_DownAdamIdeal_DownArefIdeal [hDownAdamIdeal : Cert.DownAdamIdeal.Facts] [hDownArefIdeal : Cert.DownArefIdeal.Facts] : Prop :=
  ∀ (m : (ℓ : Loc Cert.DownAdamIdeal.nD Cert.DownAdamIdeal.τ Cert.DownAdamIdeal.sig) → Buf (Elt Ideal) ℓ) (g : Dev Cert.DownAdamIdeal.nD → PrngReg)
    (m' : (ℓ : Loc Cert.DownArefIdeal.nD Cert.DownArefIdeal.τ Cert.DownArefIdeal.sig) → Buf (Elt Ideal) ℓ) (g' : Dev Cert.DownArefIdeal.nD → PrngReg), Pre_DownAdamIdeal m →
    (∀ c : Dev Cert.DownAdamIdeal.nD,
      m' ((c.tc : Thread Cert.DownArefIdeal.nD Cert.DownArefIdeal.τ).loc Cert.DownArefIdeal.main_arg0) = m ((c.tc : Thread Cert.DownAdamIdeal.nD Cert.DownAdamIdeal.τ).loc Cert.DownAdamIdeal.main_arg0)
      ∧ m' ((c.tc : Thread Cert.DownArefIdeal.nD Cert.DownArefIdeal.τ).loc Cert.DownArefIdeal.main_arg1) = m ((c.tc : Thread Cert.DownAdamIdeal.nD Cert.DownAdamIdeal.τ).loc Cert.DownAdamIdeal.main_arg1)
      ∧ m' ((c.tc : Thread Cert.DownArefIdeal.nD Cert.DownArefIdeal.τ).loc Cert.DownArefIdeal.main_arg2) = m ((c.tc : Thread Cert.DownAdamIdeal.nD Cert.DownAdamIdeal.τ).loc Cert.DownAdamIdeal.main_arg2)
      ∧ m' ((c.tc : Thread Cert.DownArefIdeal.nD Cert.DownArefIdeal.τ).loc Cert.DownArefIdeal.main_arg3) = m ((c.tc : Thread Cert.DownAdamIdeal.nD Cert.DownAdamIdeal.τ).loc Cert.DownAdamIdeal.main_arg3)
      ∧ m' ((c.tc : Thread Cert.DownArefIdeal.nD Cert.DownArefIdeal.τ).loc Cert.DownArefIdeal.main_arg4) = m ((c.tc : Thread Cert.DownAdamIdeal.nD Cert.DownAdamIdeal.τ).loc Cert.DownAdamIdeal.main_arg4)) →
    ∃ (v0 : (c : Dev Cert.DownAdamIdeal.nD) → Buf (Elt Ideal) ((c.tc : Thread Cert.DownAdamIdeal.nD Cert.DownAdamIdeal.τ).loc Cert.DownAdamIdeal.main_v0_0)) (v1 : (c : Dev Cert.DownAdamIdeal.nD) → Buf (Elt Ideal) ((c.tc : Thread Cert.DownAdamIdeal.nD Cert.DownAdamIdeal.τ).loc Cert.DownAdamIdeal.main_v0_1)) (v2 : (c : Dev Cert.DownAdamIdeal.nD) → Buf (Elt Ideal) ((c.tc : Thread Cert.DownAdamIdeal.nD Cert.DownAdamIdeal.τ).loc Cert.DownAdamIdeal.main_v0_2)) (v3 : (c : Dev Cert.DownAdamIdeal.nD) → Buf (Elt Ideal) ((c.tc : Thread Cert.DownAdamIdeal.nD Cert.DownAdamIdeal.τ).loc Cert.DownAdamIdeal.main_v0_3)),
      θ_run (Cert.DownAdamIdeal.defs (F := Ideal)) (onTc (τ := Cert.DownAdamIdeal.τ) (Cert.DownAdamIdeal.main (F := Ideal))) ⟨m, fun _ => 0, g⟩ (fun r => ∀ c : Dev Cert.DownAdamIdeal.nD,
          r.2.mem ((c.tc : Thread Cert.DownAdamIdeal.nD Cert.DownAdamIdeal.τ).loc Cert.DownAdamIdeal.main_v0_0) = v0 c
          ∧ r.2.mem ((c.tc : Thread Cert.DownAdamIdeal.nD Cert.DownAdamIdeal.τ).loc Cert.DownAdamIdeal.main_v0_1) = v1 c
          ∧ r.2.mem ((c.tc : Thread Cert.DownAdamIdeal.nD Cert.DownAdamIdeal.τ).loc Cert.DownAdamIdeal.main_v0_2) = v2 c
          ∧ r.2.mem ((c.tc : Thread Cert.DownAdamIdeal.nD Cert.DownAdamIdeal.τ).loc Cert.DownAdamIdeal.main_v0_3) = v3 c
          ∧ r.2.mem ((c.tc : Thread Cert.DownAdamIdeal.nD Cert.DownAdamIdeal.τ).loc Cert.DownAdamIdeal.main_arg0) = m ((c.tc : Thread Cert.DownAdamIdeal.nD Cert.DownAdamIdeal.τ).loc Cert.DownAdamIdeal.main_arg0)
          ∧ r.2.mem ((c.tc : Thread Cert.DownAdamIdeal.nD Cert.DownAdamIdeal.τ).loc Cert.DownAdamIdeal.main_arg1) = m ((c.tc : Thread Cert.DownAdamIdeal.nD Cert.DownAdamIdeal.τ).loc Cert.DownAdamIdeal.main_arg1)
          ∧ r.2.mem ((c.tc : Thread Cert.DownAdamIdeal.nD Cert.DownAdamIdeal.τ).loc Cert.DownAdamIdeal.main_arg2) = m ((c.tc : Thread Cert.DownAdamIdeal.nD Cert.DownAdamIdeal.τ).loc Cert.DownAdamIdeal.main_arg2)
          ∧ r.2.mem ((c.tc : Thread Cert.DownAdamIdeal.nD Cert.DownAdamIdeal.τ).loc Cert.DownAdamIdeal.main_arg3) = m ((c.tc : Thread Cert.DownAdamIdeal.nD Cert.DownAdamIdeal.τ).loc Cert.DownAdamIdeal.main_arg3)
          ∧ r.2.mem ((c.tc : Thread Cert.DownAdamIdeal.nD Cert.DownAdamIdeal.τ).loc Cert.DownAdamIdeal.main_arg4) = m ((c.tc : Thread Cert.DownAdamIdeal.nD Cert.DownAdamIdeal.τ).loc Cert.DownAdamIdeal.main_arg4))
      ∧ θ_run (Cert.DownArefIdeal.defs (F := Ideal)) (onTc (τ := Cert.DownArefIdeal.τ) (Cert.DownArefIdeal.main (F := Ideal))) ⟨m', fun _ => 0, g'⟩ (fun r => ∀ c : Dev Cert.DownArefIdeal.nD,
          r.2.mem ((c.tc : Thread Cert.DownArefIdeal.nD Cert.DownArefIdeal.τ).loc Cert.DownArefIdeal.main_v6) = v0 c
          ∧ r.2.mem ((c.tc : Thread Cert.DownArefIdeal.nD Cert.DownArefIdeal.τ).loc Cert.DownArefIdeal.main_v30) = v1 c
          ∧ r.2.mem ((c.tc : Thread Cert.DownArefIdeal.nD Cert.DownArefIdeal.τ).loc Cert.DownArefIdeal.main_v11) = v2 c
          ∧ r.2.mem ((c.tc : Thread Cert.DownArefIdeal.nD Cert.DownArefIdeal.τ).loc Cert.DownArefIdeal.main_v17) = v3 c
          ∧ r.2.mem ((c.tc : Thread Cert.DownArefIdeal.nD Cert.DownArefIdeal.τ).loc Cert.DownArefIdeal.main_arg0) = m' ((c.tc : Thread Cert.DownArefIdeal.nD Cert.DownArefIdeal.τ).loc Cert.DownArefIdeal.main_arg0)
          ∧ r.2.mem ((c.tc : Thread Cert.DownArefIdeal.nD Cert.DownArefIdeal.τ).loc Cert.DownArefIdeal.main_arg1) = m' ((c.tc : Thread Cert.DownArefIdeal.nD Cert.DownArefIdeal.τ).loc Cert.DownArefIdeal.main_arg1)
          ∧ r.2.mem ((c.tc : Thread Cert.DownArefIdeal.nD Cert.DownArefIdeal.τ).loc Cert.DownArefIdeal.main_arg2) = m' ((c.tc : Thread Cert.DownArefIdeal.nD Cert.DownArefIdeal.τ).loc Cert.DownArefIdeal.main_arg2)
          ∧ r.2.mem ((c.tc : Thread Cert.DownArefIdeal.nD Cert.DownArefIdeal.τ).loc Cert.DownArefIdeal.main_arg3) = m' ((c.tc : Thread Cert.DownArefIdeal.nD Cert.DownArefIdeal.τ).loc Cert.DownArefIdeal.main_arg3)
          ∧ r.2.mem ((c.tc : Thread Cert.DownArefIdeal.nD Cert.DownArefIdeal.τ).loc Cert.DownArefIdeal.main_arg4) = m' ((c.tc : Thread Cert.DownArefIdeal.nD Cert.DownArefIdeal.τ).loc Cert.DownArefIdeal.main_arg4))

def preserves_AdaAdam_AdaAdamIdeal : Prop :=
  True

def algebraic_AdaAdamIdeal_AdaArefIdeal [hAdaAdamIdeal : Cert.AdaAdamIdeal.Facts] [hAdaArefIdeal : Cert.AdaArefIdeal.Facts] : Prop :=
  ∀ (m : (ℓ : Loc Cert.AdaAdamIdeal.nD Cert.AdaAdamIdeal.τ Cert.AdaAdamIdeal.sig) → Buf (Elt Ideal) ℓ) (g : Dev Cert.AdaAdamIdeal.nD → PrngReg)
    (m' : (ℓ : Loc Cert.AdaArefIdeal.nD Cert.AdaArefIdeal.τ Cert.AdaArefIdeal.sig) → Buf (Elt Ideal) ℓ) (g' : Dev Cert.AdaArefIdeal.nD → PrngReg), Pre_AdaAdamIdeal m →
    (∀ c : Dev Cert.AdaAdamIdeal.nD,
      m' ((c.tc : Thread Cert.AdaArefIdeal.nD Cert.AdaArefIdeal.τ).loc Cert.AdaArefIdeal.main_arg0) = m ((c.tc : Thread Cert.AdaAdamIdeal.nD Cert.AdaAdamIdeal.τ).loc Cert.AdaAdamIdeal.main_arg0)
      ∧ m' ((c.tc : Thread Cert.AdaArefIdeal.nD Cert.AdaArefIdeal.τ).loc Cert.AdaArefIdeal.main_arg1) = m ((c.tc : Thread Cert.AdaAdamIdeal.nD Cert.AdaAdamIdeal.τ).loc Cert.AdaAdamIdeal.main_arg1)
      ∧ m' ((c.tc : Thread Cert.AdaArefIdeal.nD Cert.AdaArefIdeal.τ).loc Cert.AdaArefIdeal.main_arg2) = m ((c.tc : Thread Cert.AdaAdamIdeal.nD Cert.AdaAdamIdeal.τ).loc Cert.AdaAdamIdeal.main_arg2)
      ∧ m' ((c.tc : Thread Cert.AdaArefIdeal.nD Cert.AdaArefIdeal.τ).loc Cert.AdaArefIdeal.main_arg3) = m ((c.tc : Thread Cert.AdaAdamIdeal.nD Cert.AdaAdamIdeal.τ).loc Cert.AdaAdamIdeal.main_arg3)
      ∧ m' ((c.tc : Thread Cert.AdaArefIdeal.nD Cert.AdaArefIdeal.τ).loc Cert.AdaArefIdeal.main_arg4) = m ((c.tc : Thread Cert.AdaAdamIdeal.nD Cert.AdaAdamIdeal.τ).loc Cert.AdaAdamIdeal.main_arg4)) →
    ∃ (v0 : (c : Dev Cert.AdaAdamIdeal.nD) → Buf (Elt Ideal) ((c.tc : Thread Cert.AdaAdamIdeal.nD Cert.AdaAdamIdeal.τ).loc Cert.AdaAdamIdeal.main_v0_0)) (v1 : (c : Dev Cert.AdaAdamIdeal.nD) → Buf (Elt Ideal) ((c.tc : Thread Cert.AdaAdamIdeal.nD Cert.AdaAdamIdeal.τ).loc Cert.AdaAdamIdeal.main_v0_1)) (v2 : (c : Dev Cert.AdaAdamIdeal.nD) → Buf (Elt Ideal) ((c.tc : Thread Cert.AdaAdamIdeal.nD Cert.AdaAdamIdeal.τ).loc Cert.AdaAdamIdeal.main_v0_2)) (v3 : (c : Dev Cert.AdaAdamIdeal.nD) → Buf (Elt Ideal) ((c.tc : Thread Cert.AdaAdamIdeal.nD Cert.AdaAdamIdeal.τ).loc Cert.AdaAdamIdeal.main_v0_3)),
      θ_run (Cert.AdaAdamIdeal.defs (F := Ideal)) (onTc (τ := Cert.AdaAdamIdeal.τ) (Cert.AdaAdamIdeal.main (F := Ideal))) ⟨m, fun _ => 0, g⟩ (fun r => ∀ c : Dev Cert.AdaAdamIdeal.nD,
          r.2.mem ((c.tc : Thread Cert.AdaAdamIdeal.nD Cert.AdaAdamIdeal.τ).loc Cert.AdaAdamIdeal.main_v0_0) = v0 c
          ∧ r.2.mem ((c.tc : Thread Cert.AdaAdamIdeal.nD Cert.AdaAdamIdeal.τ).loc Cert.AdaAdamIdeal.main_v0_1) = v1 c
          ∧ r.2.mem ((c.tc : Thread Cert.AdaAdamIdeal.nD Cert.AdaAdamIdeal.τ).loc Cert.AdaAdamIdeal.main_v0_2) = v2 c
          ∧ r.2.mem ((c.tc : Thread Cert.AdaAdamIdeal.nD Cert.AdaAdamIdeal.τ).loc Cert.AdaAdamIdeal.main_v0_3) = v3 c
          ∧ r.2.mem ((c.tc : Thread Cert.AdaAdamIdeal.nD Cert.AdaAdamIdeal.τ).loc Cert.AdaAdamIdeal.main_arg0) = m ((c.tc : Thread Cert.AdaAdamIdeal.nD Cert.AdaAdamIdeal.τ).loc Cert.AdaAdamIdeal.main_arg0)
          ∧ r.2.mem ((c.tc : Thread Cert.AdaAdamIdeal.nD Cert.AdaAdamIdeal.τ).loc Cert.AdaAdamIdeal.main_arg1) = m ((c.tc : Thread Cert.AdaAdamIdeal.nD Cert.AdaAdamIdeal.τ).loc Cert.AdaAdamIdeal.main_arg1)
          ∧ r.2.mem ((c.tc : Thread Cert.AdaAdamIdeal.nD Cert.AdaAdamIdeal.τ).loc Cert.AdaAdamIdeal.main_arg2) = m ((c.tc : Thread Cert.AdaAdamIdeal.nD Cert.AdaAdamIdeal.τ).loc Cert.AdaAdamIdeal.main_arg2)
          ∧ r.2.mem ((c.tc : Thread Cert.AdaAdamIdeal.nD Cert.AdaAdamIdeal.τ).loc Cert.AdaAdamIdeal.main_arg3) = m ((c.tc : Thread Cert.AdaAdamIdeal.nD Cert.AdaAdamIdeal.τ).loc Cert.AdaAdamIdeal.main_arg3)
          ∧ r.2.mem ((c.tc : Thread Cert.AdaAdamIdeal.nD Cert.AdaAdamIdeal.τ).loc Cert.AdaAdamIdeal.main_arg4) = m ((c.tc : Thread Cert.AdaAdamIdeal.nD Cert.AdaAdamIdeal.τ).loc Cert.AdaAdamIdeal.main_arg4))
      ∧ θ_run (Cert.AdaArefIdeal.defs (F := Ideal)) (onTc (τ := Cert.AdaArefIdeal.τ) (Cert.AdaArefIdeal.main (F := Ideal))) ⟨m', fun _ => 0, g'⟩ (fun r => ∀ c : Dev Cert.AdaArefIdeal.nD,
          r.2.mem ((c.tc : Thread Cert.AdaArefIdeal.nD Cert.AdaArefIdeal.τ).loc Cert.AdaArefIdeal.main_v4) = v0 c
          ∧ r.2.mem ((c.tc : Thread Cert.AdaArefIdeal.nD Cert.AdaArefIdeal.τ).loc Cert.AdaArefIdeal.main_v28) = v1 c
          ∧ r.2.mem ((c.tc : Thread Cert.AdaArefIdeal.nD Cert.AdaArefIdeal.τ).loc Cert.AdaArefIdeal.main_v9) = v2 c
          ∧ r.2.mem ((c.tc : Thread Cert.AdaArefIdeal.nD Cert.AdaArefIdeal.τ).loc Cert.AdaArefIdeal.main_v15) = v3 c
          ∧ r.2.mem ((c.tc : Thread Cert.AdaArefIdeal.nD Cert.AdaArefIdeal.τ).loc Cert.AdaArefIdeal.main_arg0) = m' ((c.tc : Thread Cert.AdaArefIdeal.nD Cert.AdaArefIdeal.τ).loc Cert.AdaArefIdeal.main_arg0)
          ∧ r.2.mem ((c.tc : Thread Cert.AdaArefIdeal.nD Cert.AdaArefIdeal.τ).loc Cert.AdaArefIdeal.main_arg1) = m' ((c.tc : Thread Cert.AdaArefIdeal.nD Cert.AdaArefIdeal.τ).loc Cert.AdaArefIdeal.main_arg1)
          ∧ r.2.mem ((c.tc : Thread Cert.AdaArefIdeal.nD Cert.AdaArefIdeal.τ).loc Cert.AdaArefIdeal.main_arg2) = m' ((c.tc : Thread Cert.AdaArefIdeal.nD Cert.AdaArefIdeal.τ).loc Cert.AdaArefIdeal.main_arg2)
          ∧ r.2.mem ((c.tc : Thread Cert.AdaArefIdeal.nD Cert.AdaArefIdeal.τ).loc Cert.AdaArefIdeal.main_arg3) = m' ((c.tc : Thread Cert.AdaArefIdeal.nD Cert.AdaArefIdeal.τ).loc Cert.AdaArefIdeal.main_arg3)
          ∧ r.2.mem ((c.tc : Thread Cert.AdaArefIdeal.nD Cert.AdaArefIdeal.τ).loc Cert.AdaArefIdeal.main_arg4) = m' ((c.tc : Thread Cert.AdaArefIdeal.nD Cert.AdaArefIdeal.τ).loc Cert.AdaArefIdeal.main_arg4))

def Claim : Prop :=
  ∃ (hConvBwd : Cert.ConvBwd.Facts) (hConvBwdIdeal : Cert.ConvBwdIdeal.Facts) (hConvRefIdeal : Cert.ConvRefIdeal.Facts) (hUpBwd : Cert.UpBwd.Facts) (hUpBwdIdeal : Cert.UpBwdIdeal.Facts) (hUpRefIdeal : Cert.UpRefIdeal.Facts) (hInBwd : Cert.InBwd.Facts) (hInBwdIdeal : Cert.InBwdIdeal.Facts) (hInRefIdeal : Cert.InRefIdeal.Facts) (hUpWgrad : Cert.UpWgrad.Facts) (hUpWgradIdeal : Cert.UpWgradIdeal.Facts) (hUpWrefIdeal : Cert.UpWrefIdeal.Facts) (hDownWgrad : Cert.DownWgrad.Facts) (hDownWgradIdeal : Cert.DownWgradIdeal.Facts) (hDownWrefIdeal : Cert.DownWrefIdeal.Facts) (hDownBwd : Cert.DownBwd.Facts) (hDownBwdIdeal : Cert.DownBwdIdeal.Facts) (hDownRefIdeal : Cert.DownRefIdeal.Facts) (hOddBwd : Cert.OddBwd.Facts) (hOddBwdIdeal : Cert.OddBwdIdeal.Facts) (hOddRefIdeal : Cert.OddRefIdeal.Facts) (hOutBwd : Cert.OutBwd.Facts) (hOutBwdIdeal : Cert.OutBwdIdeal.Facts) (hOutRefIdeal : Cert.OutRefIdeal.Facts) (hOutWgrad : Cert.OutWgrad.Facts) (hOutWgradIdeal : Cert.OutWgradIdeal.Facts) (hOutWrefIdeal : Cert.OutWrefIdeal.Facts) (hOddWgrad : Cert.OddWgrad.Facts) (hOddWgradIdeal : Cert.OddWgradIdeal.Facts) (hOddWrefIdeal : Cert.OddWrefIdeal.Facts) (hMixWgrad : Cert.MixWgrad.Facts) (hMixWgradIdeal : Cert.MixWgradIdeal.Facts) (hMixWrefIdeal : Cert.MixWrefIdeal.Facts) (hInWgrad : Cert.InWgrad.Facts) (hInWgradIdeal : Cert.InWgradIdeal.Facts) (hInWrefIdeal : Cert.InWrefIdeal.Facts) (hUpFwd : Cert.UpFwd.Facts) (hUpFwdIdeal : Cert.UpFwdIdeal.Facts) (hUpFrefIdeal : Cert.UpFrefIdeal.Facts) (hOddFwd : Cert.OddFwd.Facts) (hOddFwdIdeal : Cert.OddFwdIdeal.Facts) (hOddFrefIdeal : Cert.OddFrefIdeal.Facts) (hDownFwd : Cert.DownFwd.Facts) (hDownFwdIdeal : Cert.DownFwdIdeal.Facts) (hDownFrefIdeal : Cert.DownFrefIdeal.Facts) (hOutFwd : Cert.OutFwd.Facts) (hOutFwdIdeal : Cert.OutFwdIdeal.Facts) (hOutFrefIdeal : Cert.OutFrefIdeal.Facts) (hMixFwd : Cert.MixFwd.Facts) (hMixFwdIdeal : Cert.MixFwdIdeal.Facts) (hMixFrefIdeal : Cert.MixFrefIdeal.Facts) (hLastFwd : Cert.LastFwd.Facts) (hLastFwdIdeal : Cert.LastFwdIdeal.Facts) (hLastFrefIdeal : Cert.LastFrefIdeal.Facts) (hOddAdam : Cert.OddAdam.Facts) (hOddAdamIdeal : Cert.OddAdamIdeal.Facts) (hOddArefIdeal : Cert.OddArefIdeal.Facts) (hInAdam : Cert.InAdam.Facts) (hInAdamIdeal : Cert.InAdamIdeal.Facts) (hInArefIdeal : Cert.InArefIdeal.Facts) (hOutAdam : Cert.OutAdam.Facts) (hOutAdamIdeal : Cert.OutAdamIdeal.Facts) (hOutArefIdeal : Cert.OutArefIdeal.Facts) (hUpAdam : Cert.UpAdam.Facts) (hUpAdamIdeal : Cert.UpAdamIdeal.Facts) (hUpArefIdeal : Cert.UpArefIdeal.Facts) (hDownAdam : Cert.DownAdam.Facts) (hDownAdamIdeal : Cert.DownAdamIdeal.Facts) (hDownArefIdeal : Cert.DownArefIdeal.Facts) (hAdaAdam : Cert.AdaAdam.Facts) (hAdaAdamIdeal : Cert.AdaAdamIdeal.Facts) (hAdaArefIdeal : Cert.AdaArefIdeal.Facts) (hPre_conv_finite : Cert.Pre_conv_finite.Facts) (hPre_up_finite : Cert.Pre_up_finite.Facts) (hPre_in_finite : Cert.Pre_in_finite.Facts) (hPre_down_finite : Cert.Pre_down_finite.Facts) (hPre_odd_finite : Cert.Pre_odd_finite.Facts) (hPre_out_finite : Cert.Pre_out_finite.Facts),
    quiescent_ConvBwd (hConvBwd := hConvBwd)
    ∧ quiescent_ConvBwdIdeal (hConvBwdIdeal := hConvBwdIdeal)
    ∧ quiescent_ConvBwdIdeal_pre_conv_finite (hConvBwdIdeal := hConvBwdIdeal) (hPre_conv_finite := hPre_conv_finite)
    ∧ quiescent_ConvRefIdeal (hConvRefIdeal := hConvRefIdeal)
    ∧ quiescent_ConvRefIdeal_pre_conv_finite (hConvRefIdeal := hConvRefIdeal) (hPre_conv_finite := hPre_conv_finite)
    ∧ quiescent_UpBwd (hUpBwd := hUpBwd)
    ∧ quiescent_UpBwdIdeal (hUpBwdIdeal := hUpBwdIdeal)
    ∧ quiescent_UpBwdIdeal_pre_up_finite (hUpBwdIdeal := hUpBwdIdeal) (hPre_up_finite := hPre_up_finite)
    ∧ quiescent_UpRefIdeal (hUpRefIdeal := hUpRefIdeal)
    ∧ quiescent_UpRefIdeal_pre_up_finite (hUpRefIdeal := hUpRefIdeal) (hPre_up_finite := hPre_up_finite)
    ∧ quiescent_InBwd (hInBwd := hInBwd)
    ∧ quiescent_InBwdIdeal (hInBwdIdeal := hInBwdIdeal)
    ∧ quiescent_InBwdIdeal_pre_in_finite (hInBwdIdeal := hInBwdIdeal) (hPre_in_finite := hPre_in_finite)
    ∧ quiescent_InRefIdeal (hInRefIdeal := hInRefIdeal)
    ∧ quiescent_InRefIdeal_pre_in_finite (hInRefIdeal := hInRefIdeal) (hPre_in_finite := hPre_in_finite)
    ∧ quiescent_UpWgrad (hUpWgrad := hUpWgrad)
    ∧ quiescent_UpWgradIdeal (hUpWgradIdeal := hUpWgradIdeal)
    ∧ quiescent_UpWrefIdeal (hUpWrefIdeal := hUpWrefIdeal)
    ∧ quiescent_DownWgrad (hDownWgrad := hDownWgrad)
    ∧ quiescent_DownWgradIdeal (hDownWgradIdeal := hDownWgradIdeal)
    ∧ quiescent_DownWrefIdeal (hDownWrefIdeal := hDownWrefIdeal)
    ∧ quiescent_DownBwd (hDownBwd := hDownBwd)
    ∧ quiescent_DownBwdIdeal (hDownBwdIdeal := hDownBwdIdeal)
    ∧ quiescent_DownBwdIdeal_pre_down_finite (hDownBwdIdeal := hDownBwdIdeal) (hPre_down_finite := hPre_down_finite)
    ∧ quiescent_DownRefIdeal (hDownRefIdeal := hDownRefIdeal)
    ∧ quiescent_DownRefIdeal_pre_down_finite (hDownRefIdeal := hDownRefIdeal) (hPre_down_finite := hPre_down_finite)
    ∧ quiescent_OddBwd (hOddBwd := hOddBwd)
    ∧ quiescent_OddBwdIdeal (hOddBwdIdeal := hOddBwdIdeal)
    ∧ quiescent_OddBwdIdeal_pre_odd_finite (hOddBwdIdeal := hOddBwdIdeal) (hPre_odd_finite := hPre_odd_finite)
    ∧ quiescent_OddRefIdeal (hOddRefIdeal := hOddRefIdeal)
    ∧ quiescent_OddRefIdeal_pre_odd_finite (hOddRefIdeal := hOddRefIdeal) (hPre_odd_finite := hPre_odd_finite)
    ∧ quiescent_OutBwd (hOutBwd := hOutBwd)
    ∧ quiescent_OutBwdIdeal (hOutBwdIdeal := hOutBwdIdeal)
    ∧ quiescent_OutBwdIdeal_pre_out_finite (hOutBwdIdeal := hOutBwdIdeal) (hPre_out_finite := hPre_out_finite)
    ∧ quiescent_OutRefIdeal (hOutRefIdeal := hOutRefIdeal)
    ∧ quiescent_OutRefIdeal_pre_out_finite (hOutRefIdeal := hOutRefIdeal) (hPre_out_finite := hPre_out_finite)
    ∧ quiescent_OutWgrad (hOutWgrad := hOutWgrad)
    ∧ quiescent_OutWgradIdeal (hOutWgradIdeal := hOutWgradIdeal)
    ∧ quiescent_OutWrefIdeal (hOutWrefIdeal := hOutWrefIdeal)
    ∧ quiescent_OddWgrad (hOddWgrad := hOddWgrad)
    ∧ quiescent_OddWgradIdeal (hOddWgradIdeal := hOddWgradIdeal)
    ∧ quiescent_OddWrefIdeal (hOddWrefIdeal := hOddWrefIdeal)
    ∧ quiescent_MixWgrad (hMixWgrad := hMixWgrad)
    ∧ quiescent_MixWgradIdeal (hMixWgradIdeal := hMixWgradIdeal)
    ∧ quiescent_MixWrefIdeal (hMixWrefIdeal := hMixWrefIdeal)
    ∧ quiescent_InWgrad (hInWgrad := hInWgrad)
    ∧ quiescent_InWgradIdeal (hInWgradIdeal := hInWgradIdeal)
    ∧ quiescent_InWrefIdeal (hInWrefIdeal := hInWrefIdeal)
    ∧ quiescent_UpFwd (hUpFwd := hUpFwd)
    ∧ quiescent_UpFwdIdeal (hUpFwdIdeal := hUpFwdIdeal)
    ∧ quiescent_UpFrefIdeal (hUpFrefIdeal := hUpFrefIdeal)
    ∧ quiescent_OddFwd (hOddFwd := hOddFwd)
    ∧ quiescent_OddFwdIdeal (hOddFwdIdeal := hOddFwdIdeal)
    ∧ quiescent_OddFrefIdeal (hOddFrefIdeal := hOddFrefIdeal)
    ∧ quiescent_DownFwd (hDownFwd := hDownFwd)
    ∧ quiescent_DownFwdIdeal (hDownFwdIdeal := hDownFwdIdeal)
    ∧ quiescent_DownFrefIdeal (hDownFrefIdeal := hDownFrefIdeal)
    ∧ quiescent_OutFwd (hOutFwd := hOutFwd)
    ∧ quiescent_OutFwdIdeal (hOutFwdIdeal := hOutFwdIdeal)
    ∧ quiescent_OutFrefIdeal (hOutFrefIdeal := hOutFrefIdeal)
    ∧ quiescent_MixFwd (hMixFwd := hMixFwd)
    ∧ quiescent_MixFwdIdeal (hMixFwdIdeal := hMixFwdIdeal)
    ∧ quiescent_MixFrefIdeal (hMixFrefIdeal := hMixFrefIdeal)
    ∧ quiescent_LastFwd (hLastFwd := hLastFwd)
    ∧ quiescent_LastFwdIdeal (hLastFwdIdeal := hLastFwdIdeal)
    ∧ quiescent_LastFrefIdeal (hLastFrefIdeal := hLastFrefIdeal)
    ∧ quiescent_OddAdam (hOddAdam := hOddAdam)
    ∧ quiescent_OddAdamIdeal (hOddAdamIdeal := hOddAdamIdeal)
    ∧ quiescent_OddArefIdeal (hOddArefIdeal := hOddArefIdeal)
    ∧ quiescent_InAdam (hInAdam := hInAdam)
    ∧ quiescent_InAdamIdeal (hInAdamIdeal := hInAdamIdeal)
    ∧ quiescent_InArefIdeal (hInArefIdeal := hInArefIdeal)
    ∧ quiescent_OutAdam (hOutAdam := hOutAdam)
    ∧ quiescent_OutAdamIdeal (hOutAdamIdeal := hOutAdamIdeal)
    ∧ quiescent_OutArefIdeal (hOutArefIdeal := hOutArefIdeal)
    ∧ quiescent_UpAdam (hUpAdam := hUpAdam)
    ∧ quiescent_UpAdamIdeal (hUpAdamIdeal := hUpAdamIdeal)
    ∧ quiescent_UpArefIdeal (hUpArefIdeal := hUpArefIdeal)
    ∧ quiescent_DownAdam (hDownAdam := hDownAdam)
    ∧ quiescent_DownAdamIdeal (hDownAdamIdeal := hDownAdamIdeal)
    ∧ quiescent_DownArefIdeal (hDownArefIdeal := hDownArefIdeal)
    ∧ quiescent_AdaAdam (hAdaAdam := hAdaAdam)
    ∧ quiescent_AdaAdamIdeal (hAdaAdamIdeal := hAdaAdamIdeal)
    ∧ quiescent_AdaArefIdeal (hAdaArefIdeal := hAdaArefIdeal)
    ∧ preserves_ConvBwd_ConvBwdIdeal
    ∧ algebraic_ConvBwdIdeal_ConvRefIdeal_pre_conv_finite (hConvBwdIdeal := hConvBwdIdeal) (hConvRefIdeal := hConvRefIdeal) (hPre_conv_finite := hPre_conv_finite)
    ∧ preserves_UpBwd_UpBwdIdeal
    ∧ algebraic_UpBwdIdeal_UpRefIdeal_pre_up_finite (hUpBwdIdeal := hUpBwdIdeal) (hUpRefIdeal := hUpRefIdeal) (hPre_up_finite := hPre_up_finite)
    ∧ preserves_InBwd_InBwdIdeal
    ∧ algebraic_InBwdIdeal_InRefIdeal_pre_in_finite (hInBwdIdeal := hInBwdIdeal) (hInRefIdeal := hInRefIdeal) (hPre_in_finite := hPre_in_finite)
    ∧ preserves_UpWgrad_UpWgradIdeal
    ∧ algebraic_UpWgradIdeal_UpWrefIdeal (hUpWgradIdeal := hUpWgradIdeal) (hUpWrefIdeal := hUpWrefIdeal)
    ∧ preserves_DownWgrad_DownWgradIdeal
    ∧ algebraic_DownWgradIdeal_DownWrefIdeal (hDownWgradIdeal := hDownWgradIdeal) (hDownWrefIdeal := hDownWrefIdeal)
    ∧ preserves_DownBwd_DownBwdIdeal
    ∧ algebraic_DownBwdIdeal_DownRefIdeal_pre_down_finite (hDownBwdIdeal := hDownBwdIdeal) (hDownRefIdeal := hDownRefIdeal) (hPre_down_finite := hPre_down_finite)
    ∧ preserves_OddBwd_OddBwdIdeal
    ∧ algebraic_OddBwdIdeal_OddRefIdeal_pre_odd_finite (hOddBwdIdeal := hOddBwdIdeal) (hOddRefIdeal := hOddRefIdeal) (hPre_odd_finite := hPre_odd_finite)
    ∧ preserves_OutBwd_OutBwdIdeal
    ∧ algebraic_OutBwdIdeal_OutRefIdeal_pre_out_finite (hOutBwdIdeal := hOutBwdIdeal) (hOutRefIdeal := hOutRefIdeal) (hPre_out_finite := hPre_out_finite)
    ∧ preserves_OutWgrad_OutWgradIdeal
    ∧ algebraic_OutWgradIdeal_OutWrefIdeal (hOutWgradIdeal := hOutWgradIdeal) (hOutWrefIdeal := hOutWrefIdeal)
    ∧ preserves_OddWgrad_OddWgradIdeal
    ∧ algebraic_OddWgradIdeal_OddWrefIdeal (hOddWgradIdeal := hOddWgradIdeal) (hOddWrefIdeal := hOddWrefIdeal)
    ∧ preserves_MixWgrad_MixWgradIdeal
    ∧ algebraic_MixWgradIdeal_MixWrefIdeal (hMixWgradIdeal := hMixWgradIdeal) (hMixWrefIdeal := hMixWrefIdeal)
    ∧ preserves_InWgrad_InWgradIdeal
    ∧ algebraic_InWgradIdeal_InWrefIdeal (hInWgradIdeal := hInWgradIdeal) (hInWrefIdeal := hInWrefIdeal)
    ∧ preserves_UpFwd_UpFwdIdeal
    ∧ algebraic_UpFwdIdeal_UpFrefIdeal (hUpFwdIdeal := hUpFwdIdeal) (hUpFrefIdeal := hUpFrefIdeal)
    ∧ preserves_OddFwd_OddFwdIdeal
    ∧ algebraic_OddFwdIdeal_OddFrefIdeal (hOddFwdIdeal := hOddFwdIdeal) (hOddFrefIdeal := hOddFrefIdeal)
    ∧ preserves_DownFwd_DownFwdIdeal
    ∧ algebraic_DownFwdIdeal_DownFrefIdeal (hDownFwdIdeal := hDownFwdIdeal) (hDownFrefIdeal := hDownFrefIdeal)
    ∧ preserves_OutFwd_OutFwdIdeal
    ∧ algebraic_OutFwdIdeal_OutFrefIdeal (hOutFwdIdeal := hOutFwdIdeal) (hOutFrefIdeal := hOutFrefIdeal)
    ∧ preserves_MixFwd_MixFwdIdeal
    ∧ algebraic_MixFwdIdeal_MixFrefIdeal (hMixFwdIdeal := hMixFwdIdeal) (hMixFrefIdeal := hMixFrefIdeal)
    ∧ preserves_LastFwd_LastFwdIdeal
    ∧ algebraic_LastFwdIdeal_LastFrefIdeal (hLastFwdIdeal := hLastFwdIdeal) (hLastFrefIdeal := hLastFrefIdeal)
    ∧ preserves_OddAdam_OddAdamIdeal
    ∧ algebraic_OddAdamIdeal_OddArefIdeal (hOddAdamIdeal := hOddAdamIdeal) (hOddArefIdeal := hOddArefIdeal)
    ∧ preserves_InAdam_InAdamIdeal
    ∧ algebraic_InAdamIdeal_InArefIdeal (hInAdamIdeal := hInAdamIdeal) (hInArefIdeal := hInArefIdeal)
    ∧ preserves_OutAdam_OutAdamIdeal
    ∧ algebraic_OutAdamIdeal_OutArefIdeal (hOutAdamIdeal := hOutAdamIdeal) (hOutArefIdeal := hOutArefIdeal)
    ∧ preserves_UpAdam_UpAdamIdeal
    ∧ algebraic_UpAdamIdeal_UpArefIdeal (hUpAdamIdeal := hUpAdamIdeal) (hUpArefIdeal := hUpArefIdeal)
    ∧ preserves_DownAdam_DownAdamIdeal
    ∧ algebraic_DownAdamIdeal_DownArefIdeal (hDownAdamIdeal := hDownAdamIdeal) (hDownArefIdeal := hDownArefIdeal)
    ∧ preserves_AdaAdam_AdaAdamIdeal
    ∧ algebraic_AdaAdamIdeal_AdaArefIdeal (hAdaAdamIdeal := hAdaAdamIdeal) (hAdaArefIdeal := hAdaArefIdeal)
-- ==== Pre_conv_finite.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part1 {F : FTy → Type} [FloatOps F] (main_v14 : IVec S_ 1) (main_v16 : FVec F S4096x2816 .f32) (main_cst_4 : FVec F S_ .f32) : IVec S_ 1 :=
  let main_v17 : FVec F S4096x2816 .f32 := broadcastInDim S4096x2816 ![] bcast_S_S4096x2816 main_cst_4
  let main_v18 : IVec S4096x2816 1 := cmpf .olt main_v16 main_v17
  let main_c_5 : IVec S_ 1 := constantI S_ 1 1#1
  let main_v19 : IVec S_ 1 := (fun x v => Host.reduce IntOp.andi x v reducesTo_S4096x2816_S_d0_1 h_S_) main_v18 main_c_5
  let main_v20 : IVec S_ 1 := andi main_v14 main_v19
  main_v20

def fn {F : FTy → Type} [FloatOps F] (main_arg0 : FVec F S4096x5632 .bf16) (main_arg1 : FVec F S3x5632 .f32) (main_arg2 : FVec F S1x5632 .f32) (main_arg3 : FVec F S4096x2816 .bf16) : IVec S_ 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_c : IVec S_ 1 := constantI S_ 1 1#1
  let main_v4 : IVec S_ 1 := (fun x v => Host.reduce IntOp.andi x v reducesTo_S4096x5632_S_d0_1 h_S_) main_v3 main_c
  let main_v5 : FVec F S3x5632 .f32 := Host.absf main_arg1
  let main_cst_0 : FVec F S_ .f32 := constant S_ .f32 0x7F800000#32
  let main_v6 : FVec F S3x5632 .f32 := broadcastInDim S3x5632 ![] bcast_S_S3x5632 main_cst_0
  let main_v7 : IVec S3x5632 1 := cmpf .olt main_v5 main_v6
  let main_c_1 : IVec S_ 1 := constantI S_ 1 1#1
  let main_v8 : IVec S_ 1 := (fun x v => Host.reduce IntOp.andi x v reducesTo_S3x5632_S_d0_1 h_S_) main_v7 main_c_1
  let main_v9 : IVec S_ 1 := andi main_v4 main_v8
  let main_v10 : FVec F S1x5632 .f32 := Host.absf main_arg2
  let main_cst_2 : FVec F S_ .f32 := constant S_ .f32 0x7F800000#32
  let main_v11 : FVec F S1x5632 .f32 := broadcastInDim S1x5632 ![] bcast_S_S1x5632 main_cst_2
  let main_v12 : IVec S1x5632 1 := cmpf .olt main_v10 main_v11
  let main_c_3 : IVec S_ 1 := constantI S_ 1 1#1
  let main_v13 : IVec S_ 1 := (fun x v => Host.reduce IntOp.andi x v reducesTo_S1x5632_S_d0_1 h_S_) main_v12 main_c_3
  let main_v14 : IVec S_ 1 := andi main_v9 main_v13
  let main_v15 : FVec F S4096x2816 .f32 := (extf .f32 · bitsLt_bf16_f32) main_arg3
  let main_v16 : FVec F S4096x2816 .f32 := Host.absf main_v15
  let main_cst_4 : FVec F S_ .f32 := constant S_ .f32 0x7F800000#32
  fn_part1 (F := F) main_v14 main_v16 main_cst_4
-- ==== Pre_down_finite.lean ====
abbrev S4096x1024 : Shape := ⟨2, ![4096, 1024]⟩
abbrev S4096x2816 : Shape := ⟨2, ![4096, 2816]⟩
abbrev S2816x1024 : Shape := ⟨2, ![2816, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v3 : IVec S_ 1) (main_v8 : IVec S_ 1) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : FVec F S1x1024 .f32 := Host.absf main_arg4
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : IVec S_ 1 := andi main_v3 main_v8
  let main_v23 : IVec S_ 1 := andi main_v22 main_v13
  let main_v24 : IVec S_ 1 := andi main_v23 main_v17
  let main_v25 : IVec S_ 1 := andi main_v24 main_v21
  main_v25

def fn {F : FTy → Type} [FloatOps F] (main_arg0 : FVec F S4096x1024 .f32) (main_arg1 : FVec F S4096x2816 .bf16) (main_arg2 : FVec F S2816x1024 .bf16) (main_arg3 : FVec F S1x1024 .f32) (main_arg4 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2816 .f32 := (extf .f32 · bitsLt_bf16_f32) main_arg1
  let main_v5 : FVec F S4096x2816 .f32 := Host.absf main_v4
  let main_cst_0 : FVec F S_ .f32 := constant S_ .f32 0x7F800000#32
  let main_v6 : FVec F S4096x2816 .f32 := broadcastInDim S4096x2816 ![] bcast_S_S4096x2816 main_cst_0
  let main_v7 : IVec S4096x2816 1 := cmpf .olt main_v5 main_v6
  let main_c_1 : IVec S_ 1 := constantI S_ 1 1#1
  let main_v8 : IVec S_ 1 := (fun x v => Host.reduce IntOp.andi x v reducesTo_S4096x2816_S_d0_1 h_S_) main_v7 main_c_1
  let main_v9 : FVec F S2816x1024 .f32 := (extf .f32 · bitsLt_bf16_f32) main_arg2
  let main_v10 : FVec F S2816x1024 .f32 := Host.absf main_v9
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  let main_c_3 : IVec S_ 1 := constantI S_ 1 1#1
  let main_v13 : IVec S_ 1 := (fun x v => Host.reduce IntOp.andi x v reducesTo_S2816x1024_S_d0_1 h_S_) main_v12 main_c_3
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_v3 main_v8 main_v13 main_v16
-- ==== Pre_in_finite.lean ====
abbrev S4096x1280 : Shape := ⟨2, ![4096, 1280]⟩
abbrev S1024x1280 : Shape := ⟨2, ![1024, 1280]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x1280 : S_.BroadcastsInDim S4096x1280 (![] : Fin 0 → Fin S4096x1280.rank)
  reducesTo_S4096x1280_S_d0_1 : S4096x1280.ReducesTo [0, 1] S_
  h_S_ : 0 < S_.numel
  bcast_S_S1024x1280 : S_.BroadcastsInDim S1024x1280 (![] : Fin 0 → Fin S1024x1280.rank)
  reducesTo_S1024x1280_S_d0_1 : S1024x1280.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x1024 .f32) (main_v4 : IVec S_ 1) (main_v9 : IVec S_ 1) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : FVec F S1x1024 .f32 := Host.absf main_arg4
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : FVec F S1x1024 .f32 := Host.absf main_arg5
  let main_cst_8 : FVec F S_ .f32 := constant S_ .f32 0x7F800000#32
  let main_v23 : FVec F S1x1024 .f32 := broadcastInDim S1x1024 ![] bcast_S_S1x1024 main_cst_8
  let main_v24 : IVec S1x1024 1 := cmpf .olt main_v22 main_v23
  let main_c_9 : IVec S_ 1 := constantI S_ 1 1#1
  let main_v25 : IVec S_ 1 := (fun x v => Host.reduce IntOp.andi x v reducesTo_S1x1024_S_d0_1 h_S_) main_v24 main_c_9
  let main_v26 : IVec S_ 1 := andi main_v4 main_v9
  let main_v27 : IVec S_ 1 := andi main_v26 main_v13
  let main_v28 : IVec S_ 1 := andi main_v27 main_v17
  let main_v29 : IVec S_ 1 := andi main_v28 main_v21
  let main_v30 : IVec S_ 1 := andi main_v29 main_v25
  main_v30

def fn {F : FTy → Type} [FloatOps F] (main_arg0 : FVec F S4096x1280 .bf16) (main_arg1 : FVec F S1024x1280 .bf16) (main_arg2 : FVec F S4096x1024 .f32) (main_arg3 : FVec F S4096x1024 .f32) (main_arg4 : FVec F S1x1024 .f32) (main_arg5 : FVec F S1x1024 .f32) : IVec S_ 1 :=
  let main_v0 : FVec F S4096x1280 .f32 := (extf .f32 · bitsLt_bf16_f32) main_arg0
  let main_v1 : FVec F S4096x1280 .f32 := Host.absf main_v0
  let main_cst : FVec F S_ .f32 := constant S_ .f32 0x7F800000#32
  let main_v2 : FVec F S4096x1280 .f32 := broadcastInDim S4096x1280 ![] bcast_S_S4096x1280 main_cst
  let main_v3 : IVec S4096x1280 1 := cmpf .olt main_v1 main_v2
  let main_c : IVec S_ 1 := constantI S_ 1 1#1
  let main_v4 : IVec S_ 1 := (fun x v => Host.reduce IntOp.andi x v reducesTo_S4096x1280_S_d0_1 h_S_) main_v3 main_c
  let main_v5 : FVec F S1024x1280 .f32 := (extf .f32 · bitsLt_bf16_f32) main_arg1
  let main_v6 : FVec F S1024x1280 .f32 := Host.absf main_v5
  let main_cst_0 : FVec F S_ .f32 := constant S_ .f32 0x7F800000#32
  let main_v7 : FVec F S1024x1280 .f32 := broadcastInDim S1024x1280 ![] bcast_S_S1024x1280 main_cst_0
  let main_v8 : IVec S1024x1280 1 := cmpf .olt main_v6 main_v7
  let main_c_1 : IVec S_ 1 := constantI S_ 1 1#1
  let main_v9 : IVec S_ 1 := (fun x v => Host.reduce IntOp.andi x v reducesTo_S1024x1280_S_d0_1 h_S_) main_v8 main_c_1
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_v4 main_v9 main_v13 main_v16
-- ==== Pre_odd_finite.lean ====
abbrev S4096x2048 : Shape := ⟨2, ![4096, 2048]⟩
abbrev S1024x2048 : Shape := ⟨2, ![1024, 2048]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x1024 .f32) (main_v4 : IVec S_ 1) (main_v9 : IVec S_ 1) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : FVec F S1x1024 .f32 := Host.absf main_arg4
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : FVec F S1x1024 .f32 := Host.absf main_arg5
  let main_cst_8 : FVec F S_ .f32 := constant S_ .f32 0x7F800000#32
  let main_v23 : FVec F S1x1024 .f32 := broadcastInDim S1x1024 ![] bcast_S_S1x1024 main_cst_8
  let main_v24 : IVec S1x1024 1 := cmpf .olt main_v22 main_v23
  let main_c_9 : IVec S_ 1 := constantI S_ 1 1#1
  let main_v25 : IVec S_ 1 := (fun x v => Host.reduce IntOp.andi x v reducesTo_S1x1024_S_d0_1 h_S_) main_v24 main_c_9
  let main_v26 : IVec S_ 1 := andi main_v4 main_v9
  let main_v27 : IVec S_ 1 := andi main_v26 main_v13
  let main_v28 : IVec S_ 1 := andi main_v27 main_v17
  let main_v29 : IVec S_ 1 := andi main_v28 main_v21
  let main_v30 : IVec S_ 1 := andi main_v29 main_v25
  main_v30

def fn {F : FTy → Type} [FloatOps F] (main_arg0 : FVec F S4096x2048 .bf16) (main_arg1 : FVec F S1024x2048 .bf16) (main_arg2 : FVec F S4096x1024 .f32) (main_arg3 : FVec F S4096x1024 .f32) (main_arg4 : FVec F S1x1024 .f32) (main_arg5 : FVec F S1x1024 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S1024x2048 .f32 := (extf .f32 · bitsLt_bf16_f32) main_arg1
  let main_v6 : FVec F S1024x2048 .f32 := Host.absf main_v5
  let main_cst_0 : FVec F S_ .f32 := constant S_ .f32 0x7F800000#32
  let main_v7 : FVec F S1024x2048 .f32 := broadcastInDim S1024x2048 ![] bcast_S_S1024x2048 main_cst_0
  let main_v8 : IVec S1024x2048 1 := cmpf .olt main_v6 main_v7
  let main_c_1 : IVec S_ 1 := constantI S_ 1 1#1
  let main_v9 : IVec S_ 1 := (fun x v => Host.reduce IntOp.andi x v reducesTo_S1024x2048_S_d0_1 h_S_) main_v8 main_c_1
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_v4 main_v9 main_v13 main_v16
-- ==== Pre_out_finite.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v3 : IVec S_ 1) (main_v8 : IVec S_ 1) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : FVec F S1x1024 .f32 := Host.absf main_arg4
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : IVec S_ 1 := andi main_v3 main_v8
  let main_v23 : IVec S_ 1 := andi main_v22 main_v13
  let main_v24 : IVec S_ 1 := andi main_v23 main_v17
  let main_v25 : IVec S_ 1 := andi main_v24 main_v21
  main_v25

def fn {F : FTy → Type} [FloatOps F] (main_arg0 : FVec F S4096x1024 .f32) (main_arg1 : FVec F S4096x1024 .bf16) (main_arg2 : FVec F S1024x1024 .bf16) (main_arg3 : FVec F S1x1024 .f32) (main_arg4 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : FVec F S1024x1024 .f32 := (extf .f32 · bitsLt_bf16_f32) main_arg2
  let main_v10 : FVec F S1024x1024 .f32 := Host.absf main_v9
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  let main_c_3 : IVec S_ 1 := constantI S_ 1 1#1
  let main_v13 : IVec S_ 1 := (fun x v => Host.reduce IntOp.andi x v reducesTo_S1024x1024_S_d0_1 h_S_) main_v12 main_c_3
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_v3 main_v8 main_v13 main_v16
-- ==== Pre_up_finite.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v22 : IVec S_ 1) (main_v26 : IVec S_ 1) (main_v30 : IVec S_ 1) (main_v33 : IVec S_ 1) : IVec S_ 1 :=
  let main_v34 : IVec S_ 1 := andi main_v33 main_v22
  let main_v35 : IVec S_ 1 := andi main_v34 main_v26
  let main_v36 : IVec S_ 1 := andi main_v35 main_v30
  main_v36

def fn_part1 {F : FTy → Type} [FloatOps F] (main_arg4 : FVec F S4096x1024 .f32) (main_arg5 : FVec F S1x1024 .f32) (main_arg6 : FVec F S1x1024 .f32) (main_v4 : IVec S_ 1) (main_v9 : IVec S_ 1) (main_v14 : IVec S_ 1) (main_v15 : FVec F S4096x1024 .f32) (main_v16 : FVec F S4096x1024 .f32) : IVec S_ 1 :=
  let main_v17 : IVec S4096x1024 1 := cmpf .olt main_v15 main_v16
  let main_c_5 : IVec S_ 1 := constantI S_ 1 1#1
  let main_v18 : IVec S_ 1 := (fun x v => Host.reduce IntOp.andi x v reducesTo_S4096x1024_S_d0_1 h_S_) main_v17 main_c_5
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : FVec F S1x1024 .f32 := Host.absf main_arg5
  let main_cst_8 : FVec F S_ .f32 := constant S_ .f32 0x7F800000#32
  let main_v24 : FVec F S1x1024 .f32 := broadcastInDim S1x1024 ![] bcast_S_S1x1024 main_cst_8
  let main_v25 : IVec S1x1024 1 := cmpf .olt main_v23 main_v24
  let main_c_9 : IVec S_ 1 := constantI S_ 1 1#1
  let main_v26 : IVec S_ 1 := (fun x v => Host.reduce IntOp.andi x v reducesTo_S1x1024_S_d0_1 h_S_) main_v25 main_c_9
  let main_v27 : FVec F S1x1024 .f32 := Host.absf main_arg6
  let main_cst_10 : FVec F S_ .f32 := constant S_ .f32 0x7F800000#32
  let main_v28 : FVec F S1x1024 .f32 := broadcastInDim S1x1024 ![] bcast_S_S1x1024 main_cst_10
  let main_v29 : IVec S1x1024 1 := cmpf .olt main_v27 main_v28
  let main_c_11 : IVec S_ 1 := constantI S_ 1 1#1
  let main_v30 : IVec S_ 1 := (fun x v => Host.reduce IntOp.andi x v reducesTo_S1x1024_S_d0_1 h_S_) main_v29 main_c_11
  let main_v31 : IVec S_ 1 := andi main_v4 main_v9
  let main_v32 : IVec S_ 1 := andi main_v31 main_v14
  let main_v33 : IVec S_ 1 := andi main_v32 main_v18
  fn_part2 (F := F) main_v22 main_v26 main_v30 main_v33

def fn {F : FTy → Type} [FloatOps F] (main_arg0 : FVec F S4096x2816 .bf16) (main_arg1 : FVec F S4096x2816 .bf16) (main_arg2 : FVec F S1024x5632 .bf16) (main_arg3 : FVec F S4096x1024 .f32) (main_arg4 : FVec F S4096x1024 .f32) (main_arg5 : FVec F S1x1024 .f32) (main_arg6 : FVec F S1x1024 .f32) : IVec S_ 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S4096x2816 .f32 := (extf .f32 · bitsLt_bf16_f32) main_arg1
  let main_v6 : FVec F S4096x2816 .f32 := Host.absf main_v5
  let main_cst_0 : FVec F S_ .f32 := constant S_ .f32 0x7F800000#32
  let main_v7 : FVec F S4096x2816 .f32 := broadcastInDim S4096x2816 ![] bcast_S_S4096x2816 main_cst_0
  let main_v8 : IVec S4096x2816 1 := cmpf .olt main_v6 main_v7
  let main_c_1 : IVec S_ 1 := constantI S_ 1 1#1
  let main_v9 : IVec S_ 1 := (fun x v => Host.reduce IntOp.andi x v reducesTo_S4096x2816_S_d0_1 h_S_) main_v8 main_c_1
  let main_v10 : FVec F S1024x5632 .f32 := (extf .f32 · bitsLt_bf16_f32) main_arg2
  let main_v11 : FVec F S1024x5632 .f32 := Host.absf main_v10
  let main_cst_2 : FVec F S_ .f32 := constant S_ .f32 0x7F800000#32
  let main_v12 : FVec F S1024x5632 .f32 := broadcastInDim S1024x5632 ![] bcast_S_S1024x5632 main_cst_2
  let main_v13 : IVec S1024x5632 1 := cmpf .olt main_v11 main_v12
  let main_c_3 : IVec S_ 1 := constantI S_ 1 1#1
  let main_v14 : IVec S_ 1 := (fun x v => Host.reduce IntOp.andi x v reducesTo_S1024x5632_S_d0_1 h_S_) main_v13 main_c_3
  let main_v15 : FVec F S4096x1024 .f32 := Host.absf main_arg3
  let main_cst_4 : FVec F S_ .f32 := constant S_ .f32 0x7F800000#32
  let main_v16 : FVec F S4096x1024 .f32 := broadcastInDim S4096x1024 ![] bcast_S_S4096x1024 main_cst_4
  fn_part1 (F := F) main_arg4 main_arg5 main_arg6 main_v4 main_v9 main_v14 main_v15 main_v16
-- ==== ConvBwd.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S_ : Shape := ⟨0, ![]⟩
abbrev S4098x5632 : Shape := ⟨2, ![4098, 5632]⟩
abbrev S3x2816 : Shape := ⟨2, ![3, 2816]⟩
abbrev S1x2816 : Shape := ⟨2, ![1, 2816]⟩
abbrev S4096x256 : Shape := ⟨2, ![4096, 256]⟩
abbrev S3x256 : Shape := ⟨2, ![3, 256]⟩
abbrev S1x256 : Shape := ⟨2, ![1, 256]⟩
abbrev S16x256 : Shape := ⟨2, ![16, 256]⟩
abbrev S1024x256 : Shape := ⟨2, ![1024, 256]⟩
abbrev S1056x256 : Shape := ⟨2, ![1056, 256]⟩
abbrev S256 : Shape := ⟨1, ![256]⟩

abbrev nBuf : Space → Nat
  | .hbm => 51
  | .vmem => 26
  | .smem => 0
  | _ => 0

abbrev bufTy : (tb : Table) → Fin (tcTables nBuf tb) → BufTy
  | .hbm, ⟨0, _⟩ => ⟨S4096x5632, .bf16⟩
  | .hbm, ⟨1, _⟩ => ⟨S3x5632, .f32⟩
  | .hbm, ⟨2, _⟩ => ⟨S1x5632, .f32⟩
  | .hbm, ⟨3, _⟩ => ⟨S4096x2816, .bf16⟩
  | .hbm, ⟨4, _⟩ => ⟨S4096x5632, .f32⟩
  | .hbm, ⟨5, _⟩ => ⟨S_, .f32⟩
  | .hbm, ⟨6, _⟩ => ⟨S1x5632, .f32⟩
  | .hbm, ⟨7, _⟩ => ⟨S4098x5632, .f32⟩
  | .hbm, ⟨8, _⟩ => ⟨S1x5632, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S1x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S1x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .bf16⟩
  | .hbm, ⟨44, _⟩ => ⟨S4096x2816, .bf16⟩
  | .hbm, ⟨45, _⟩ => ⟨S4096x2816, .bf16⟩
  | .hbm, ⟨46, _⟩ => ⟨S4096x2816, .bf16⟩
  | .hbm, ⟨47, _⟩ => ⟨S3x2816, .f32⟩
  | .hbm, ⟨48, _⟩ => ⟨S3x2816, .f32⟩
  | .hbm, ⟨49, _⟩ => ⟨S1x2816, .f32⟩
  | .hbm, ⟨50, _⟩ => ⟨S1x2816, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S3x256, .f32⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S4096x256, .bf16⟩
  | .local _ .vmem, ⟨15, _⟩ => ⟨S4096x256, .bf16⟩
  | .local _ .vmem, ⟨16, _⟩ => ⟨S4096x256, .bf16⟩
  | .local _ .vmem, ⟨17, _⟩ => ⟨S4096x256, .bf16⟩
  | .local _ .vmem, ⟨18, _⟩ => ⟨S3x256, .f32⟩
  | .local _ .vmem, ⟨19, _⟩ => ⟨S3x256, .f32⟩
  | .local _ .vmem, ⟨20, _⟩ => ⟨S3x256, .f32⟩
  | .local _ .vmem, ⟨21, _⟩ => ⟨S3x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v21_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v21_1 : Ref sig .tc := ⟨.hbm, 37, rfl⟩
abbrev main_v21_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25_0 : Ref sig .tc := ⟨.hbm, 45, rfl⟩
abbrev main_v25_1 : Ref sig .tc := ⟨.hbm, 46, rfl⟩
abbrev main_v25_2 : Ref sig .tc := ⟨.hbm, 47, rfl⟩
abbrev main_v25_3 : Ref sig .tc := ⟨.hbm, 48, rfl⟩
abbrev main_v25_4 : Ref sig .tc := ⟨.hbm, 49, rfl⟩
abbrev main_v25_5 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![11], ![false]⟩

@[reducible] def k0_t1_loop : Scf.Loop 32 :=
  let c0_i32 : BitVec 32 := 0#32
  let c4_i32 : BitVec 32 := 4#32
  let v8 : BitVec 32 := Scalar.addi c0_i32 c4_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c1024_i32 : BitVec 32 := 1024#32
  let v9 : BitVec 32 := Scalar.muli arg14 c1024_i32
  v9
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c1024_i32 : BitVec 32 := 1024#32
  let v9 : BitVec 32 := Scalar.muli arg14 c1024_i32
  let v10 : BitVec 32 := v9
  let c16_i32 : BitVec 32 := 16#32
  let v11 : BitVec 32 := Scalar.subi v10 c16_i32
  let c0_i32_11 : BitVec 32 := 0#32
  let v12 : BitVec 32 := Scalar.maxsi v11 c0_i32_11
  v12
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c1024_i32 : BitVec 32 := 1024#32
  let v9 : BitVec 32 := Scalar.muli arg14 c1024_i32
  let v10 : BitVec 32 := v9
  let c16_i32 : BitVec 32 := 16#32
  let v11 : BitVec 32 := Scalar.subi v10 c16_i32
  let c0_i32_11 : BitVec 32 := 0#32
  let v12 : BitVec 32 := Scalar.maxsi v11 c0_i32_11
  let v13 : BitVec 32 := v12
  let v14 : Index := Scalar.indexCast v13
  let c0_12 : Index := 0#32
  ![v14.toNat, 0]
def k0_off2 (k0_t1 : Fin k0_t1_loop.trips) : Fin 2 → Nat :=
  let c0_i32 : BitVec 32 := 0#32
  let c1_i32 : BitVec 32 := 1#32
  let arg14 : BitVec 32 := Scf.iv c0_i32 c1_i32 k0_t1
  let c1024_i32 : BitVec 32 := 1024#32
  let v9 : BitVec 32 := Scalar.muli arg14 c1024_i32
  let v10 : BitVec 32 := v9
  let v16 : Index := Scalar.indexCast v10
  let c0_13 : Index := 0#32
  ![v16.toNat, 0]
def k0_mult3 (k0_t1 : Fin k0_t1_loop.trips) : BitVec 32 :=
  let c0_i32 : BitVec 32 := 0#32
  let c1_i32 : BitVec 32 := 1#32
  let arg14 : BitVec 32 := Scf.iv c0_i32 c1_i32 k0_t1
  let c1024_i32 : BitVec 32 := 1024#32
  let v9 : BitVec 32 := Scalar.muli arg14 c1024_i32
  let v10 : BitVec 32 := v9
  let c1024_i32_14 : BitVec 32 := 1024#32
  let v18 : BitVec 32 := Scalar.addi v10 c1024_i32_14
  let c4080_i32 : BitVec 32 := 4080#32
  let v19 : BitVec 32 := Scalar.minsi v18 c4080_i32
  v19
def k0_off3 (k0_t1 : Fin k0_t1_loop.trips) : Fin 2 → Nat :=
  let c0_i32 : BitVec 32 := 0#32
  let c1_i32 : BitVec 32 := 1#32
  let arg14 : BitVec 32 := Scf.iv c0_i32 c1_i32 k0_t1
  let c1024_i32 : BitVec 32 := 1024#32
  let v9 : BitVec 32 := Scalar.muli arg14 c1024_i32
  let v10 : BitVec 32 := v9
  let c1024_i32_14 : BitVec 32 := 1024#32
  let v18 : BitVec 32 := Scalar.addi v10 c1024_i32_14
  let c4080_i32 : BitVec 32 := 4080#32
  let v19 : BitVec 32 := Scalar.minsi v18 c4080_i32
  let v20 : BitVec 32 := v19
  let v21 : Index := Scalar.indexCast v20
  let c0_15 : Index := 0#32
  ![v21.toNat, 0]
def k0_mult4 (k0_t1 : Fin k0_t1_loop.trips) : BitVec 32 :=
  let c0_i32 : BitVec 32 := 0#32
  let c1_i32 : BitVec 32 := 1#32
  let arg14 : BitVec 32 := Scf.iv c0_i32 c1_i32 k0_t1
  let c1024_i32 : BitVec 32 := 1024#32
  let v9 : BitVec 32 := Scalar.muli arg14 c1024_i32
  let v10 : BitVec 32 := v9
  let c16_i32_20 : BitVec 32 := 16#32
  let v32 : BitVec 32 := Scalar.subi v10 c16_i32_20
  let c0_i32_21 : BitVec 32 := 0#32
  let v33 : BitVec 32 := Scalar.maxsi v32 c0_i32_21
  v33
def k0_mult5 (k0_t1 : Fin k0_t1_loop.trips) : BitVec 32 :=
  let c0_i32 : BitVec 32 := 0#32
  let c1_i32 : BitVec 32 := 1#32
  let arg14 : BitVec 32 := Scf.iv c0_i32 c1_i32 k0_t1
  let c1024_i32 : BitVec 32 := 1024#32
  let v9 : BitVec 32 := Scalar.muli arg14 c1024_i32
  let v10 : BitVec 32 := v9
  let c1024_i32_24 : BitVec 32 := 1024#32
  let v41 : BitVec 32 := Scalar.addi v10 c1024_i32_24
  let c4080_i32_25 : BitVec 32 := 4080#32
  let v42 : BitVec 32 := Scalar.minsi v41 c4080_i32_25
  v42
def k0_mult6 (k0_t1 : Fin k0_t1_loop.trips) : BitVec 32 :=
  let c0_i32 : BitVec 32 := 0#32
  let c1_i32 : BitVec 32 := 1#32
  let arg14 : BitVec 32 := Scf.iv c0_i32 c1_i32 k0_t1
  let c1024_i32 : BitVec 32 := 1024#32
  let v9 : BitVec 32 := Scalar.muli arg14 c1024_i32
  let v10 : BitVec 32 := v9
  let c16_i32_55 : BitVec 32 := 16#32
  let v107 : BitVec 32 := Scalar.subi v10 c16_i32_55
  let c0_i32_56 : BitVec 32 := 0#32
  let v108 : BitVec 32 := Scalar.maxsi v107 c0_i32_56
  v108
def k0_mult7 (k0_t1 : Fin k0_t1_loop.trips) : BitVec 32 :=
  let c0_i32 : BitVec 32 := 0#32
  let c1_i32 : BitVec 32 := 1#32
  let arg14 : BitVec 32 := Scf.iv c0_i32 c1_i32 k0_t1
  let c1024_i32 : BitVec 32 := 1024#32
  let v9 : BitVec 32 := Scalar.muli arg14 c1024_i32
  let v10 : BitVec 32 := v9
  let c1024_i32_59 : BitVec 32 := 1024#32
  let v116 : BitVec 32 := Scalar.addi v10 c1024_i32_59
  let c4080_i32_60 : BitVec 32 := 4080#32
  let v117 : BitVec 32 := Scalar.minsi v116 c4080_i32_60
  v117
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ConvRefIdeal.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S_ : Shape := ⟨0, ![]⟩
abbrev S4098x5632 : Shape := ⟨2, ![4098, 5632]⟩
abbrev S5632 : Shape := ⟨1, ![5632]⟩
abbrev S3x2816 : Shape := ⟨2, ![3, 2816]⟩
abbrev S1x2816 : Shape := ⟨2, ![1, 2816]⟩

abbrev nBuf : Space → Nat
  | .hbm => 104
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S3x5632, .f32⟩
  | .hbm, ⟨2, _⟩ => ⟨S1x5632, .f32⟩
  | .hbm, ⟨3, _⟩ => ⟨S4096x2816, .bf16⟩
  | .hbm, ⟨4, _⟩ => ⟨S4096x5632, .f32⟩
  | .hbm, ⟨5, _⟩ => ⟨S_, .f32⟩
  | .hbm, ⟨6, _⟩ => ⟨S1x5632, .f32⟩
  | .hbm, ⟨7, _⟩ => ⟨S4098x5632, .f32⟩
  | .hbm, ⟨8, _⟩ => ⟨S_, .f32⟩
  | .hbm, ⟨9, _⟩ => ⟨S1x5632, .f32⟩
  | .hbm, ⟨10, _⟩ => ⟨S_, .f32⟩
  | .hbm, ⟨11, _⟩ => ⟨S1x5632, .f32⟩
  | .hbm, ⟨12, _⟩ => ⟨S1x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S1x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S1x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S_, .f32⟩
  | .hbm, ⟨52, _⟩ => ⟨S4096x5632, .f32⟩
  | .hbm, ⟨53, _⟩ => ⟨S_, .f32⟩
  | .hbm, ⟨54, _⟩ => ⟨S4096x5632, .f32⟩
  | .hbm, ⟨55, _⟩ => ⟨S4096x5632, .f32⟩
  | .hbm, ⟨56, _⟩ => ⟨S_, .f32⟩
  | .hbm, ⟨57, _⟩ => ⟨S5632, .f32⟩
  | .hbm, ⟨58, _⟩ => ⟨S1x5632, .f32⟩
  | .hbm, ⟨59, _⟩ => ⟨S4096x5632, .f32⟩
  | .hbm, ⟨60, _⟩ => ⟨S4096x5632, .f32⟩
  | .hbm, ⟨61, _⟩ => ⟨S4096x5632, .f32⟩
  | .hbm, ⟨62, _⟩ => ⟨S_, .f32⟩
  | .hbm, ⟨63, _⟩ => ⟨S5632, .f32⟩
  | .hbm, ⟨64, _⟩ => ⟨S1x5632, .f32⟩
  | .hbm, ⟨65, _⟩ => ⟨S_, .f32⟩
  | .hbm, ⟨66, _⟩ => ⟨S4098x5632, .f32⟩
  | .hbm, ⟨67, _⟩ => ⟨S_, .f32⟩
  | .hbm, ⟨68, _⟩ => ⟨S3x5632, .f32⟩
  | .hbm, ⟨69, _⟩ => ⟨S4096x5632, .f32⟩
  | .hbm, ⟨70, _⟩ => ⟨S4096x5632, .f32⟩
  | .hbm, ⟨71, _⟩ => ⟨S4096x5632, .f32⟩
  | .hbm, ⟨72, _⟩ => ⟨S_, .f32⟩
  | .hbm, ⟨73, _⟩ => ⟨S5632, .f32⟩
  | .hbm, ⟨74, _⟩ => ⟨S1x5632, .f32⟩
  | .hbm, ⟨75, _⟩ => ⟨S_, .f32⟩
  | .hbm, ⟨76, _⟩ => ⟨S4098x5632, .f32⟩
  | .hbm, ⟨77, _⟩ => ⟨S4098x5632, .f32⟩
  | .hbm, ⟨78, _⟩ => ⟨S_, .f32⟩
  | .hbm, ⟨79, _⟩ => ⟨S3x5632, .f32⟩
  | .hbm, ⟨80, _⟩ => ⟨S3x5632, .f32⟩
  | .hbm, ⟨81, _⟩ => ⟨S4096x5632, .f32⟩
  | .hbm, ⟨82, _⟩ => ⟨S4096x5632, .f32⟩
  | .hbm, ⟨83, _⟩ => ⟨S4096x5632, .f32⟩
  | .hbm, ⟨84, _⟩ => ⟨S_, .f32⟩
  | .hbm, ⟨85, _⟩ => ⟨S5632, .f32⟩
  | .hbm, ⟨86, _⟩ => ⟨S1x5632, .f32⟩
  | .hbm, ⟨87, _⟩ => ⟨S_, .f32⟩
  | .hbm, ⟨88, _⟩ => ⟨S4098x5632, .f32⟩
  | .hbm, ⟨89, _⟩ => ⟨S4098x5632, .f32⟩
  | .hbm, ⟨90, _⟩ => ⟨S_, .f32⟩
  | .hbm, ⟨91, _⟩ => ⟨S3x5632, .f32⟩
  | .hbm, ⟨92, _⟩ => ⟨S3x5632, .f32⟩
  | .hbm, ⟨93, _⟩ => ⟨S1x5632, .f32⟩
  | .hbm, ⟨94, _⟩ => ⟨S4096x5632, .f32⟩
  | .hbm, ⟨95, _⟩ => ⟨S1x5632, .f32⟩
  | .hbm, ⟨96, _⟩ => ⟨S4096x2816, .f32⟩
  | .hbm, ⟨97, _⟩ => ⟨S4096x2816, .bf16⟩
  | .hbm, ⟨98, _⟩ => ⟨S4096x2816, .f32⟩
  | .hbm, ⟨99, _⟩ => ⟨S4096x2816, .bf16⟩
  | .hbm, ⟨100, _⟩ => ⟨S3x2816, .f32⟩
  | .hbm, ⟨101, _⟩ => ⟨S3x2816, .f32⟩
  | .hbm, ⟨102, _⟩ => ⟨S1x2816, .f32⟩
  | .hbm, ⟨103, _⟩ => ⟨S1x2816, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v23_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v23_1 : Ref sig .tc := ⟨.hbm, 41, rfl⟩
abbrev main_v23_0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_11 : Ref sig .tc := ⟨.hbm, 84, rfl⟩
abbrev main_v53 : Ref sig .tc := ⟨.hbm, 85, rfl⟩
abbrev main_v54 : Ref sig .tc := ⟨.hbm, 86, rfl⟩
abbrev main_cst_12 : Ref sig .tc := ⟨.hbm, 87, rfl⟩
abbrev main_v55 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩

abbrev nD : Nat := 1
abbrev τ : Topo := Topo.v7x

variable {F : FTy → Type} [FloatOps F]
-- ==== UpBwd.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S5632x1024 : Shape := ⟨2, ![5632, 1024]⟩
abbrev S512x2816 : Shape := ⟨2, ![512, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 17
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S5632x1024, .bf16⟩
  | .hbm, ⟨8, _⟩ => ⟨S4096x1024, .f32⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== UpRefIdeal.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S4096x5632, .bf16⟩
  | .hbm, ⟨8, _⟩ => ⟨S_, .f32⟩
  | .hbm, ⟨9, _⟩ => ⟨S1x1024, .f32⟩
  | .hbm, ⟨10, _⟩ => ⟨S1024x5632, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x5632, .f32⟩
  | .hbm, ⟨38, _⟩ => ⟨S4096x5632, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== InBwd.lean ====
abbrev S4096x1280 : Shape := ⟨2, ![4096, 1280]⟩
abbrev S1024x1280 : Shape := ⟨2, ![1024, 1280]⟩
abbrev S4096x1024 : Shape := ⟨2, ![4096, 1024]⟩
abbrev S1x1024 : Shape := ⟨2, ![1, 1024]⟩
abbrev S1280x1024 : Shape := ⟨2, ![1280, 1024]⟩
abbrev S512x1280 : Shape := ⟨2, ![512, 1280]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S4096x1280, .bf16⟩
  | .hbm, ⟨1, _⟩ => ⟨S1024x1280, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1280x1024, .bf16⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S512x1280, .bf16⟩
  | .local _ .vmem, ⟨1, _⟩ => ⟨S512x1280, .bf16⟩
  | .local _ .vmem, ⟨2, _⟩ => ⟨S1280x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InRefIdeal.lean ====
abbrev S4096x1280 : Shape := ⟨2, ![4096, 1280]⟩
abbrev S1024x1280 : Shape := ⟨2, ![1024, 1280]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x1280, .bf16⟩
  | .hbm, ⟨1, _⟩ => ⟨S1024x1280, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1024x1280, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1280, .f32⟩
  | .hbm, ⟨36, _⟩ => ⟨S4096x1280, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== UpWgrad.lean ====
abbrev S4096x2816 : Shape := ⟨2, ![4096, 2816]⟩
abbrev S4096x1024 : Shape := ⟨2, ![4096, 1024]⟩
abbrev S5632x1024 : Shape := ⟨2, ![5632, 1024]⟩
abbrev S4096x256 : Shape := ⟨2, ![4096, 256]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S5632x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x1024, .bf16⟩
  | .local _ .vmem, ⟨5, _⟩ => ⟨S256x1024, .bf16⟩
  | .local _ .vmem, ⟨6, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c11_i32 : BitVec 32 := 11#32
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let v0 : BitVec 32 := Scalar.divsi arg0 c11_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32_7 : BitVec 32 := 0#32
  let v21 : BitVec 1 := Scalar.cmpi .sgt arg0 c0_i32_7
  let v22 : BitVec 32 := Scalar.extui v21
  let c0_i32_8 : BitVec 32 := 0#32
  let v23 : BitVec 1 := Scalar.cmpi .slt arg0 c0_i32_8
  let v24 : BitVec 32 := Scalar.extui v23
  let v25 : BitVec 32 := Scalar.subi v22 v24
  let c11_i32_6 : BitVec 32 := 11#32
  let c0_i32_9 : BitVec 32 := 0#32
  let v26 : BitVec 1 := Scalar.cmpi .sgt c11_i32_6 c0_i32_9
  let v27 : BitVec 32 := Scalar.extui v26
  let c0_i32_10 : BitVec 32 := 0#32
  let v28 : BitVec 1 := Scalar.cmpi .slt c11_i32_6 c0_i32_10
  let v29 : BitVec 32 := Scalar.extui v28
  let v30 : BitVec 32 := Scalar.subi v27 v29
  let v31 : BitVec 1 := Scalar.cmpi .ne v25 v30
  let v32 : BitVec 32 := Scalar.remsi arg0 c11_i32_6
  let c0_i32_11 : BitVec 32 := 0#32
  let v33 : BitVec 1 := Scalar.cmpi .ne v32 c0_i32_11
  let v34 : BitVec 1 := Scalar.andi v31 v33
  let v20 : BitVec 32 := Scalar.divsi arg0 c11_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let c10_i32 : BitVec 32 := 10#32
  let v1 : BitVec 32 := Scalar.maxsi c0_i32 v0
  let v2 : BitVec 32 := Scalar.minsi c10_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== UpWrefIdeal.lean ====
abbrev S4096x2816 : Shape := ⟨2, ![4096, 2816]⟩
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S4096x5632, .bf16⟩
  | .hbm, ⟨4, _⟩ => ⟨S_, .f32⟩
  | .hbm, ⟨5, _⟩ => ⟨S1024x5632, .f32⟩
  | .hbm, ⟨6, _⟩ => ⟨S4096x1024, .f32⟩
  | .hbm, ⟨7, _⟩ => ⟨S4096x5632, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S1024x5632, .bf16⟩
  | .hbm, ⟨12, _⟩ => ⟨S5632x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== DownWgrad.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c11_i32 : BitVec 32 := 11#32
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let v0 : BitVec 32 := Scalar.divsi arg0 c11_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownWrefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownBwd.lean ====
abbrev S4096x1024 : Shape := ⟨2, ![4096, 1024]⟩
abbrev S4096x2816 : Shape := ⟨2, ![4096, 2816]⟩
abbrev S2816x1024 : Shape := ⟨2, ![2816, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S4096x1024, .bf16⟩
  | .hbm, ⟨8, _⟩ => ⟨S4096x2816, .bf16⟩
  | .hbm, ⟨9, _⟩ => ⟨S1x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S2816x1024, .bf16⟩
  | .local _ .vmem, ⟨7, _⟩ => ⟨S512x1024, .bf16⟩
  | .local _ .vmem, ⟨8, _⟩ => ⟨S512x1024, .bf16⟩
  | .local _ .vmem, ⟨9, _⟩ => ⟨S512x2816, .bf16⟩
  | .local _ .vmem, ⟨10, _⟩ => ⟨S512x2816, .bf16⟩
  | .local _ .vmem, ⟨11, _⟩ => ⟨S1x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DownRefIdeal.lean ====
abbrev S4096x1024 : Shape := ⟨2, ![4096, 1024]⟩
abbrev S4096x2816 : Shape := ⟨2, ![4096, 2816]⟩
abbrev S2816x1024 : Shape := ⟨2, ![2816, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S1x1024, .f32⟩
  | .hbm, ⟨4, _⟩ => ⟨S1x1024, .f32⟩
  | .hbm, ⟨5, _⟩ => ⟨S2816x1024, .f32⟩
  | .hbm, ⟨6, _⟩ => ⟨S4096x2816, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x2816, .f32⟩
  | .hbm, ⟨59, _⟩ => ⟨S4096x1024, .bf16⟩
  | .hbm, ⟨60, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== OddBwd.lean ====
abbrev S4096x2048 : Shape := ⟨2, ![4096, 2048]⟩
abbrev S1024x2048 : Shape := ⟨2, ![1024, 2048]⟩
abbrev S4096x1024 : Shape := ⟨2, ![4096, 1024]⟩
abbrev S1x1024 : Shape := ⟨2, ![1, 1024]⟩
abbrev S2048x1024 : Shape := ⟨2, ![2048, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S2048x1024, .bf16⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OddRefIdeal.lean ====
abbrev S4096x2048 : Shape := ⟨2, ![4096, 2048]⟩
abbrev S1024x2048 : Shape := ⟨2, ![1024, 2048]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1024x2048, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x2048, .f32⟩
  | .hbm, ⟨36, _⟩ => ⟨S4096x2048, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== OutBwd.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S1x1024, .f32⟩
  | .hbm, ⟨10, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== OutRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .bf16⟩
  | .hbm, ⟨60, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== OutWgrad.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutWrefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OddWgrad.lean ====
abbrev S4096x2048 : Shape := ⟨2, ![4096, 2048]⟩
abbrev S4096x1024 : Shape := ⟨2, ![4096, 1024]⟩
abbrev S2048x1024 : Shape := ⟨2, ![2048, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OddWrefIdeal.lean ====
abbrev S4096x2048 : Shape := ⟨2, ![4096, 2048]⟩
abbrev S4096x1024 : Shape := ⟨2, ![4096, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | .hbm, ⟨10, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MixWgrad.lean ====
abbrev S4096x512 : Shape := ⟨2, ![4096, 512]⟩
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .bf16⟩
  | .hbm, ⟨3, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4096x1024, .bf16⟩
  | .local _ .vmem, ⟨5, _⟩ => ⟨S512x1024, .bf16⟩
  | .local _ .vmem, ⟨6, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def k0_cond2 (i : grid0.Coords) : BitVec 1 :=
  let arg0 : BitVec 32 := BitVec.ofNat 32 (i 0).val
  let c0_i32_8 : BitVec 32 := 0#32
  let v21 : BitVec 1 := Scalar.cmpi .sgt arg0 c0_i32_8
  let v22 : BitVec 32 := Scalar.extui v21
  let c0_i32_9 : BitVec 32 := 0#32
  let v23 : BitVec 1 := Scalar.cmpi .slt arg0 c0_i32_9
  let v24 : BitVec 32 := Scalar.extui v23
  let v25 : BitVec 32 := Scalar.subi v22 v24
  let c1_i32_7 : BitVec 32 := 1#32
  let c0_i32_10 : BitVec 32 := 0#32
  let v26 : BitVec 1 := Scalar.cmpi .sgt c1_i32_7 c0_i32_10
  let v27 : BitVec 32 := Scalar.extui v26
  let c0_i32_11 : BitVec 32 := 0#32
  let v28 : BitVec 1 := Scalar.cmpi .slt c1_i32_7 c0_i32_11
  let v29 : BitVec 32 := Scalar.extui v28
  let v30 : BitVec 32 := Scalar.subi v27 v29
  let v31 : BitVec 1 := Scalar.cmpi .ne v25 v30
  let v32 : BitVec 32 := Scalar.remsi arg0 c1_i32_7
  let c0_i32_12 : BitVec 32 := 0#32
  let v33 : BitVec 1 := Scalar.cmpi .ne v32 c0_i32_12
  let v34 : BitVec 1 := Scalar.andi v31 v33
  let v20 : BitVec 32 := Scalar.divsi arg0 c1_i32_7
  let c1_i32_13 : BitVec 32 := 1#32
  let v35 : BitVec 32 := Scalar.subi v20 c1_i32_13
  let v36 : BitVec 32 := Scalar.select v34 v35 v20
  let c1_i32_14 : BitVec 32 := 1#32
  let v37 : BitVec 1 := Scalar.cmpi .eq v36 c1_i32_14
  let v38 : BitVec 32 := Scalar.extui v37
  let c0_i32_15 : BitVec 32 := 0#32
  let v39 : BitVec 1 := Scalar.cmpi .ne v38 c0_i32_15
  v39

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MixWrefIdeal.lean ====
abbrev S4096x512 : Shape := ⟨2, ![4096, 512]⟩
abbrev S4096x1024 : Shape := ⟨2, ![4096, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .bf16⟩
  | .hbm, ⟨3, _⟩ => ⟨S4096x1024, .bf16⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== InWgrad.lean ====
abbrev S4096x1280 : Shape := ⟨2, ![4096, 1280]⟩
abbrev S4096x1024 : Shape := ⟨2, ![4096, 1024]⟩
abbrev S256x256 : Shape := ⟨2, ![256, 256]⟩
abbrev S256x1024 : Shape := ⟨2, ![256, 1024]⟩
abbrev S_ : Shape := ⟨0, ![]⟩
abbrev S256x1280 : Shape := ⟨2, ![256, 1280]⟩
abbrev S1280x1024 : Shape := ⟨2, ![1280, 1024]⟩
abbrev S4096x256 : Shape := ⟨2, ![4096, 256]⟩

abbrev nBuf : Space → Nat
  | .hbm => 8
  | .vmem => 8
  | .smem => 0
  | _ => 0

abbrev bufTy : (tb : Table) → Fin (tcTables nBuf tb) → BufTy
  | .hbm, ⟨0, _⟩ => ⟨S4096x1280, .bf16⟩
  | .hbm, ⟨1, _⟩ => ⟨S4096x1024, .bf16⟩
  | .hbm, ⟨2, _⟩ => ⟨S256x256, .bf16⟩
  | .hbm, ⟨3, _⟩ => ⟨S256x1024, .bf16⟩
  | .hbm, ⟨4, _⟩ => ⟨S_, .bf16⟩
  | .hbm, ⟨5, _⟩ => ⟨S256x1024, .bf16⟩
  | .hbm, ⟨6, _⟩ => ⟨S256x1280, .bf16⟩
  | .hbm, ⟨7, _⟩ => ⟨S1280x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x256, .bf16⟩
  | .local _ .vmem, ⟨4, _⟩ => ⟨S256x256, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c5_i32 : BitVec 32 := 5#32
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let v0 : BitVec 32 := Scalar.divsi arg0 c5_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c4_i32 : BitVec 32 := 4#32
  let v1 : BitVec 32 := Scalar.maxsi c0_i32_0 v0
  let v2 : BitVec 32 := Scalar.minsi c4_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InWrefIdeal.lean ====
abbrev S4096x1280 : Shape := ⟨2, ![4096, 1280]⟩
abbrev S4096x1024 : Shape := ⟨2, ![4096, 1024]⟩
abbrev S256x256 : Shape := ⟨2, ![256, 256]⟩
abbrev S256x1024 : Shape := ⟨2, ![256, 1024]⟩
abbrev S_ : Shape := ⟨0, ![]⟩
abbrev S1024x1280 : Shape := ⟨2, ![1024, 1280]⟩
abbrev S1024x256 : Shape := ⟨2, ![1024, 256]⟩
abbrev S1280x1024 : Shape := ⟨2, ![1280, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4096x1280, .bf16⟩
  | .hbm, ⟨1, _⟩ => ⟨S4096x1024, .bf16⟩
  | .hbm, ⟨2, _⟩ => ⟨S256x256, .bf16⟩
  | .hbm, ⟨3, _⟩ => ⟨S256x1024, .bf16⟩
  | .hbm, ⟨4, _⟩ => ⟨S_, .f32⟩
  | .hbm, ⟨5, _⟩ => ⟨S1024x1280, .f32⟩
  | .hbm, ⟨6, _⟩ => ⟨S4096x1024, .f32⟩
  | .hbm, ⟨7, _⟩ => ⟨S4096x1280, .f32⟩
  | .hbm, ⟨8, _⟩ => ⟨S256x1024, .f32⟩
  | .hbm, ⟨9, _⟩ => ⟨S1024x256, .f32⟩
  | .hbm, ⟨10, _⟩ => ⟨S256x256, .f32⟩
  | .hbm, ⟨11, _⟩ => ⟨S4096x1280, .f32⟩
  | .hbm, ⟨12, _⟩ => ⟨S256x256, .f32⟩
  | .hbm, ⟨13, _⟩ => ⟨S256x1024, .f32⟩
  | .hbm, ⟨14, _⟩ => ⟨S1024x256, .f32⟩
  | .hbm, ⟨15, _⟩ => ⟨S_, .f32⟩
  | .hbm, ⟨16, _⟩ => ⟨S1024x1280, .f32⟩
  | .hbm, ⟨17, _⟩ => ⟨S1280x1024, .f32⟩
  | .hbm, ⟨18, _⟩ => ⟨S1024x1280, .f32⟩
  | .hbm, ⟨19, _⟩ => ⟨S1024x1280, .f32⟩
  | .hbm, ⟨20, _⟩ => ⟨S1024x1280, .bf16⟩
  | .hbm, ⟨21, _⟩ => ⟨S1280x1024, .bf16⟩
  | _, _ => ⟨S4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== UpFwd.lean ====
abbrev S4096x1024 : Shape := ⟨2, ![4096, 1024]⟩
abbrev S1x1024 : Shape := ⟨2, ![1, 1024]⟩
abbrev S1024x5632 : Shape := ⟨2, ![1024, 5632]⟩
abbrev S5632x1024 : Shape := ⟨2, ![5632, 1024]⟩
abbrev S4096x5632 : Shape := ⟨2, ![4096, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S2816x1024 : Shape := ⟨2, ![2816, 1024]⟩
abbrev S512x2816 : Shape := ⟨2, ![512, 2816]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .bf16⟩
  | .hbm, ⟨5, _⟩ => ⟨S5632x1024, .bf16⟩
  | .hbm, ⟨6, _⟩ => ⟨S4096x1024, .bf16⟩
  | .hbm, ⟨7, _⟩ => ⟨S4096x5632, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S5632x1024, .bf16⟩
  | .local _ .vmem, ⟨6, _⟩ => ⟨S512x1024, .bf16⟩
  | .local _ .vmem, ⟨7, _⟩ => ⟨S512x1024, .bf16⟩
  | .local _ .vmem, ⟨8, _⟩ => ⟨S512x5632, .bf16⟩
  | .local _ .vmem, ⟨9, _⟩ => ⟨S512x5632, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpFrefIdeal.lean ====
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S1024x5632, .f32⟩
  | .hbm, ⟨29, _⟩ => ⟨S4096x5632, .f32⟩
  | .hbm, ⟨30, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== OddFwd.lean ====
abbrev S4096x1024 : Shape := ⟨2, ![4096, 1024]⟩
abbrev S1x1024 : Shape := ⟨2, ![1, 1024]⟩
abbrev S1024x2048 : Shape := ⟨2, ![1024, 2048]⟩
abbrev S2048x1024 : Shape := ⟨2, ![2048, 1024]⟩
abbrev S4096x2048 : Shape := ⟨2, ![4096, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .bf16⟩
  | .hbm, ⟨5, _⟩ => ⟨S2048x1024, .bf16⟩
  | .hbm, ⟨6, _⟩ => ⟨S4096x1024, .bf16⟩
  | .hbm, ⟨7, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S2048x1024, .bf16⟩
  | .local _ .vmem, ⟨6, _⟩ => ⟨S512x1024, .bf16⟩
  | .local _ .vmem, ⟨7, _⟩ => ⟨S512x1024, .bf16⟩
  | .local _ .vmem, ⟨8, _⟩ => ⟨S512x2048, .bf16⟩
  | .local _ .vmem, ⟨9, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OddFrefIdeal.lean ====
abbrev S4096x1024 : Shape := ⟨2, ![4096, 1024]⟩
abbrev S1x1024 : Shape := ⟨2, ![1, 1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S1024x2048, .f32⟩
  | .hbm, ⟨29, _⟩ => ⟨S4096x2048, .f32⟩
  | .hbm, ⟨30, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== DownFwd.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .bf16⟩
  | .hbm, ⟨6, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownFrefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== OutFwd.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .bf16⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutFrefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== MixFwd.lean ====
abbrev S4096x512 : Shape := ⟨2, ![4096, 512]⟩
abbrev S1024x1024 : Shape := ⟨2, ![1024, 1024]⟩
abbrev S4096x1024 : Shape := ⟨2, ![4096, 1024]⟩
abbrev S1x1024 : Shape := ⟨2, ![1, 1024]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S1024x1024, .bf16⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .bf16⟩
  | .hbm, ⟨7, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixFrefIdeal.lean ====
abbrev S4096x512 : Shape := ⟨2, ![4096, 512]⟩
abbrev S1024x1024 : Shape := ⟨2, ![1024, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S1024x1024, .bf16⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .bf16⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x1024, .bf16⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== LastFwd.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x1 : Shape := ⟨2, ![1, 1]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 9
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S1x1, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S1x1, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LastFrefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x2816, .f32⟩
  | .hbm, ⟨7, _⟩ => ⟨S2816x1024, .f32⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S1x1, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_cst_7 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== OddAdam.lean ====
abbrev S1x1024x256 : Shape := ⟨3, ![1, 1024, 256]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S1x1024x256, .f32⟩
  | .hbm, ⟨1, _⟩ => ⟨S1x1024x256, .f32⟩
  | .hbm, ⟨2, _⟩ => ⟨S1x1024x256, .f32⟩
  | .hbm, ⟨3, _⟩ => ⟨S8x256x1024, .bf16⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S8x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S1x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c1_i32 : BitVec 32 := 1#32
  let v1 : BitVec 32 := Scalar.muli v0 c1_i32
  let v2 : BitVec 32 := Scalar.addi arg1 v1
  let c0_i32_0 : BitVec 32 := 0#32
  let c0_i32_1 : BitVec 32 := 0#32
  let v3 : BitVec 32 := Scalar.maxsi c0_i32_0 v2
  let v4 : BitVec 32 := Scalar.minsi c0_i32_1 v3
  let c0_i32_2 : BitVec 32 := 0#32
  let c0_i32_3 : BitVec 32 := 0#32
  let c0_i32_4 : BitVec 32 := 0#32
  ![c0_i32_2.toNat, v4.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== OddArefIdeal.lean ====
abbrev S1x1024x256 : Shape := ⟨3, ![1, 1024, 256]⟩
abbrev S8x256x1024 : Shape := ⟨3, ![8, 256, 1024]⟩
abbrev S1x256x1024 : Shape := ⟨3, ![1, 256, 1024]⟩
abbrev S_ : Shape := ⟨0, ![]⟩
abbrev S256x1024 : Shape := ⟨2, ![256, 1024]⟩

abbrev nBuf : Space → Nat
  | .hbm => 44
  | .vmem => 0
  | .smem => 0
  | _ => 0

abbrev bufTy : (tb : Table) → Fin (tcTables nBuf tb) → BufTy
  | .hbm, ⟨0, _⟩ => ⟨S1x1024x256, .f32⟩
  | .hbm, ⟨1, _⟩ => ⟨S1x1024x256, .f32⟩
  | .hbm, ⟨2, _⟩ => ⟨S1x1024x256, .f32⟩
  | .hbm, ⟨3, _⟩ => ⟨S8x256x1024, .bf16⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S8x256x1024, .f32⟩
  | .hbm, ⟨8, _⟩ => ⟨S_, .f32⟩
  | .hbm, ⟨9, _⟩ => ⟨S256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S_, .f32⟩
  | .hbm, ⟨15, _⟩ => ⟨S1x256x1024, .f32⟩
  | .hbm, ⟨16, _⟩ => ⟨S1x256x1024, .f32⟩
  | .hbm, ⟨17, _⟩ => ⟨S1x256x1024, .f32⟩
  | .hbm, ⟨18, _⟩ => ⟨S_, .f32⟩
  | .hbm, ⟨19, _⟩ => ⟨S1x256x1024, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S_, .f32⟩
  | .hbm, ⟨30, _⟩ => ⟨S1x256x1024, .f32⟩
  | .hbm, ⟨31, _⟩ => ⟨S1x256x1024, .f32⟩
  | .hbm, ⟨32, _⟩ => ⟨S1x256x1024, .f32⟩
  | .hbm, ⟨33, _⟩ => ⟨S_, .f32⟩
  | .hbm, ⟨34, _⟩ => ⟨S1x256x1024, .f32⟩
  | .hbm, ⟨35, _⟩ => ⟨S1x256x1024, .f32⟩
  | .hbm, ⟨36, _⟩ => ⟨S1x256x1024, .f32⟩
  | .hbm, ⟨37, _⟩ => ⟨S_, .f32⟩
  | .hbm, ⟨38, _⟩ => ⟨S1x256x1024, .f32⟩
  | .hbm, ⟨39, _⟩ => ⟨S1x256x1024, .f32⟩
  | .hbm, ⟨40, _⟩ => ⟨S1x256x1024, .f32⟩
  | .hbm, ⟨41, _⟩ => ⟨S_, .f32⟩
  | .hbm, ⟨42, _⟩ => ⟨S1x256x1024, .f32⟩
  | .hbm, ⟨43, _⟩ => ⟨S1x256x1024, .f32⟩
  | _, _ => ⟨S1x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== InAdam.lean ====
abbrev S1x1024x160 : Shape := ⟨3, ![1, 1024, 160]⟩
abbrev S8x160x1024 : Shape := ⟨3, ![8, 160, 1024]⟩
abbrev S1x160x1024 : Shape := ⟨3, ![1, 160, 1024]⟩
abbrev S160x1024 : Shape := ⟨2, ![160, 1024]⟩

abbrev nBuf : Space → Nat
  | .hbm => 11
  | .vmem => 8
  | .smem => 0
  | _ => 0

abbrev bufTy : (tb : Table) → Fin (tcTables nBuf tb) → BufTy
  | .hbm, ⟨0, _⟩ => ⟨S1x1024x160, .f32⟩
  | .hbm, ⟨1, _⟩ => ⟨S1x1024x160, .f32⟩
  | .hbm, ⟨2, _⟩ => ⟨S1x1024x160, .f32⟩
  | .hbm, ⟨3, _⟩ => ⟨S8x160x1024, .bf16⟩
  | .hbm, ⟨4, _⟩ => ⟨S1x160x1024, .f32⟩
  | .hbm, ⟨5, _⟩ => ⟨S1x160x1024, .f32⟩
  | .hbm, ⟨6, _⟩ => ⟨S1x160x1024, .f32⟩
  | .hbm, ⟨7, _⟩ => ⟨S1x160x1024, .f32⟩
  | .hbm, ⟨8, _⟩ => ⟨S1x160x1024, .f32⟩
  | .hbm, ⟨9, _⟩ => ⟨S1x160x1024, .f32⟩
  | .hbm, ⟨10, _⟩ => ⟨S1x160x1024, .f32⟩
  | .local _ .vmem, ⟨0, _⟩ => ⟨S1x160x1024, .f32⟩
  | .local _ .vmem, ⟨1, _⟩ => ⟨S1x160x1024, .f32⟩
  | .local _ .vmem, ⟨2, _⟩ => ⟨S1x160x1024, .f32⟩
  | .local _ .vmem, ⟨3, _⟩ => ⟨S8x160x1024, .bf16⟩
  | .local _ .vmem, ⟨4, _⟩ => ⟨S1x160x1024, .f32⟩
  | .local _ .vmem, ⟨5, _⟩ => ⟨S1x160x1024, .f32⟩
  | .local _ .vmem, ⟨6, _⟩ => ⟨S1x160x1024, .f32⟩
  | .local _ .vmem, ⟨7, _⟩ => ⟨S1x160x1024, .f32⟩
  | _, _ => ⟨S1x1024x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c1_i32 : BitVec 32 := 1#32
  let v1 : BitVec 32 := Scalar.muli v0 c1_i32
  let v2 : BitVec 32 := Scalar.addi arg1 v1
  let c0_i32_0 : BitVec 32 := 0#32
  let c0_i32_1 : BitVec 32 := 0#32
  let v3 : BitVec 32 := Scalar.maxsi c0_i32_0 v2
  let v4 : BitVec 32 := Scalar.minsi c0_i32_1 v3
  let c0_i32_2 : BitVec 32 := 0#32
  let c0_i32_3 : BitVec 32 := 0#32
  let c0_i32_4 : BitVec 32 := 0#32
  ![c0_i32_2.toNat, v4.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x160x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x160x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x160x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x160x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x160x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x160x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x160x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x160x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== InArefIdeal.lean ====
abbrev S1x1024x160 : Shape := ⟨3, ![1, 1024, 160]⟩
abbrev S8x160x1024 : Shape := ⟨3, ![8, 160, 1024]⟩
abbrev S1x160x1024 : Shape := ⟨3, ![1, 160, 1024]⟩
abbrev S_ : Shape := ⟨0, ![]⟩
abbrev S160x1024 : Shape := ⟨2, ![160, 1024]⟩

abbrev nBuf : Space → Nat
  | .hbm => 44
  | .vmem => 0
  | .smem => 0
  | _ => 0

abbrev bufTy : (tb : Table) → Fin (tcTables nBuf tb) → BufTy
  | .hbm, ⟨0, _⟩ => ⟨S1x1024x160, .f32⟩
  | .hbm, ⟨1, _⟩ => ⟨S1x1024x160, .f32⟩
  | .hbm, ⟨2, _⟩ => ⟨S1x1024x160, .f32⟩
  | .hbm, ⟨3, _⟩ => ⟨S8x160x1024, .bf16⟩
  | .hbm, ⟨4, _⟩ => ⟨S1x160x1024, .f32⟩
  | .hbm, ⟨5, _⟩ => ⟨S1x160x1024, .f32⟩
  | .hbm, ⟨6, _⟩ => ⟨S1x160x1024, .f32⟩
  | .hbm, ⟨7, _⟩ => ⟨S8x160x1024, .f32⟩
  | .hbm, ⟨8, _⟩ => ⟨S_, .f32⟩
  | .hbm, ⟨9, _⟩ => ⟨S160x1024, .f32⟩
  | .hbm, ⟨10, _⟩ => ⟨S1x160x1024, .f32⟩
  | .hbm, ⟨11, _⟩ => ⟨S_, .f32⟩
  | .hbm, ⟨12, _⟩ => ⟨S1x160x1024, .f32⟩
  | .hbm, ⟨13, _⟩ => ⟨S1x160x1024, .f32⟩
  | .hbm, ⟨14, _⟩ => ⟨S_, .f32⟩
  | .hbm, ⟨15, _⟩ => ⟨S1x160x1024, .f32⟩
  | .hbm, ⟨16, _⟩ => ⟨S1x160x1024, .f32⟩
  | .hbm, ⟨17, _⟩ => ⟨S1x160x1024, .f32⟩
  | .hbm, ⟨18, _⟩ => ⟨S_, .f32⟩
  | .hbm, ⟨19, _⟩ => ⟨S1x160x1024, .f32⟩
  | .hbm, ⟨20, _⟩ => ⟨S1x160x1024, .f32⟩
  | .hbm, ⟨21, _⟩ => ⟨S1x160x1024, .f32⟩
  | .hbm, ⟨22, _⟩ => ⟨S_, .f32⟩
  | .hbm, ⟨23, _⟩ => ⟨S1x160x1024, .f32⟩
  | .hbm, ⟨24, _⟩ => ⟨S1x160x1024, .f32⟩
  | .hbm, ⟨25, _⟩ => ⟨S1x160x1024, .f32⟩
  | .hbm, ⟨26, _⟩ => ⟨S_, .f32⟩
  | .hbm, ⟨27, _⟩ => ⟨S1x160x1024, .f32⟩
  | .hbm, ⟨28, _⟩ => ⟨S1x160x1024, .f32⟩
  | .hbm, ⟨29, _⟩ => ⟨S_, .f32⟩
  | .hbm, ⟨30, _⟩ => ⟨S1x160x1024, .f32⟩
  | .hbm, ⟨31, _⟩ => ⟨S1x160x1024, .f32⟩
  | .hbm, ⟨32, _⟩ => ⟨S1x160x1024, .f32⟩
  | .hbm, ⟨33, _⟩ => ⟨S_, .f32⟩
  | .hbm, ⟨34, _⟩ => ⟨S1x160x1024, .f32⟩
  | .hbm, ⟨35, _⟩ => ⟨S1x160x1024, .f32⟩
  | .hbm, ⟨36, _⟩ => ⟨S1x160x1024, .f32⟩
  | .hbm, ⟨37, _⟩ => ⟨S_, .f32⟩
  | .hbm, ⟨38, _⟩ => ⟨S1x160x1024, .f32⟩
  | .hbm, ⟨39, _⟩ => ⟨S1x160x1024, .f32⟩
  | .hbm, ⟨40, _⟩ => ⟨S1x160x1024, .f32⟩
  | .hbm, ⟨41, _⟩ => ⟨S_, .f32⟩
  | .hbm, ⟨42, _⟩ => ⟨S1x160x1024, .f32⟩
  | .hbm, ⟨43, _⟩ => ⟨S1x160x1024, .f32⟩
  | _, _ => ⟨S1x1024x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== OutAdam.lean ====
abbrev S1x128x1024 : Shape := ⟨3, ![1, 128, 1024]⟩
abbrev S8x128x1024 : Shape := ⟨3, ![8, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S8x128x1024, .bf16⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c1_i32 : BitVec 32 := 1#32
  let v1 : BitVec 32 := Scalar.muli v0 c1_i32
  let v2 : BitVec 32 := Scalar.addi arg1 v1
  let c0_i32_0 : BitVec 32 := 0#32
  let c0_i32_1 : BitVec 32 := 0#32
  let v3 : BitVec 32 := Scalar.maxsi c0_i32_0 v2
  let v4 : BitVec 32 := Scalar.minsi c0_i32_1 v3
  let c0_i32_2 : BitVec 32 := 0#32
  let c0_i32_3 : BitVec 32 := 0#32
  let c0_i32_4 : BitVec 32 := 0#32
  ![c0_i32_2.toNat, v4.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== OutArefIdeal.lean ====
abbrev S1x128x1024 : Shape := ⟨3, ![1, 128, 1024]⟩
abbrev S8x128x1024 : Shape := ⟨3, ![8, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S8x128x1024, .bf16⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== UpAdam.lean ====
abbrev S2x1024x704 : Shape := ⟨3, ![2, 1024, 704]⟩
abbrev S8x704x1024 : Shape := ⟨3, ![8, 704, 1024]⟩
abbrev S2x704x1024 : Shape := ⟨3, ![2, 704, 1024]⟩
abbrev S1x176x1024 : Shape := ⟨3, ![1, 176, 1024]⟩
abbrev S8x176x1024 : Shape := ⟨3, ![8, 176, 1024]⟩
abbrev S176x1024 : Shape := ⟨2, ![176, 1024]⟩

abbrev nBuf : Space → Nat
  | .hbm => 12
  | .vmem => 18
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S8x704x1024, .bf16⟩
  | .hbm, ⟨4, _⟩ => ⟨S8x704x1024, .bf16⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S8x176x1024, .bf16⟩
  | .local _ .vmem, ⟨7, _⟩ => ⟨S8x176x1024, .bf16⟩
  | .local _ .vmem, ⟨8, _⟩ => ⟨S8x176x1024, .bf16⟩
  | .local _ .vmem, ⟨9, _⟩ => ⟨S8x176x1024, .bf16⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c4_i32 : BitVec 32 := 4#32
  let v1 : BitVec 32 := Scalar.muli v0 c4_i32
  let v2 : BitVec 32 := Scalar.addi arg1 v1
  let c0_i32_0 : BitVec 32 := 0#32
  let c3_i32 : BitVec 32 := 3#32
  let v3 : BitVec 32 := Scalar.maxsi c0_i32_0 v2
  let v4 : BitVec 32 := Scalar.minsi c3_i32 v3
  let c0_i32_1 : BitVec 32 := 0#32
  let c0_i32_2 : BitVec 32 := 0#32
  let c0_i32_3 : BitVec 32 := 0#32
  ![c0_i32_1.toNat, v4.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c4_i32 : BitVec 32 := 4#32
  let v1 : BitVec 32 := Scalar.muli v0 c4_i32
  let v2 : BitVec 32 := Scalar.addi arg1 v1
  let c0_i32 : BitVec 32 := 0#32
  let c3_i32 : BitVec 32 := 3#32
  let v3 : BitVec 32 := Scalar.maxsi c0_i32 v2
  let v4 : BitVec 32 := Scalar.minsi c3_i32 v3
  let c0_i32_0 : BitVec 32 := 0#32
  let c0_i32_1 : BitVec 32 := 0#32
  let c0_i32_2 : BitVec 32 := 0#32
  ![c0_i32_0.toNat, v4.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UpArefIdeal.lean ====
abbrev S2x1024x704 : Shape := ⟨3, ![2, 1024, 704]⟩
abbrev S8x704x1024 : Shape := ⟨3, ![8, 704, 1024]⟩
abbrev S2x704x1024 : Shape := ⟨3, ![2, 704, 1024]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S8x704x1024, .bf16⟩
  | .hbm, ⟨4, _⟩ => ⟨S8x704x1024, .bf16⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S8x704x1024, .f32⟩
  | .hbm, ⟨9, _⟩ => ⟨S_, .f32⟩
  | .hbm, ⟨10, _⟩ => ⟨S704x1024, .f32⟩
  | .hbm, ⟨11, _⟩ => ⟨S8x704x1024, .f32⟩
  | .hbm, ⟨12, _⟩ => ⟨S_, .f32⟩
  | .hbm, ⟨13, _⟩ => ⟨S704x1024, .f32⟩
  | .hbm, ⟨14, _⟩ => ⟨S1x704x1024, .f32⟩
  | .hbm, ⟨15, _⟩ => ⟨S1x704x1024, .f32⟩
  | .hbm, ⟨16, _⟩ => ⟨S2x704x1024, .f32⟩
  | .hbm, ⟨17, _⟩ => ⟨S_, .f32⟩
  | .hbm, ⟨18, _⟩ => ⟨S2x704x1024, .f32⟩
  | .hbm, ⟨19, _⟩ => ⟨S2x704x1024, .f32⟩
  | .hbm, ⟨20, _⟩ => ⟨S_, .f32⟩
  | .hbm, ⟨21, _⟩ => ⟨S2x704x1024, .f32⟩
  | .hbm, ⟨22, _⟩ => ⟨S2x704x1024, .f32⟩
  | .hbm, ⟨23, _⟩ => ⟨S2x704x1024, .f32⟩
  | .hbm, ⟨24, _⟩ => ⟨S_, .f32⟩
  | .hbm, ⟨25, _⟩ => ⟨S2x704x1024, .f32⟩
  | .hbm, ⟨26, _⟩ => ⟨S2x704x1024, .f32⟩
  | .hbm, ⟨27, _⟩ => ⟨S2x704x1024, .f32⟩
  | .hbm, ⟨28, _⟩ => ⟨S_, .f32⟩
  | .hbm, ⟨29, _⟩ => ⟨S2x704x1024, .f32⟩
  | .hbm, ⟨30, _⟩ => ⟨S2x704x1024, .f32⟩
  | .hbm, ⟨31, _⟩ => ⟨S2x704x1024, .f32⟩
  | .hbm, ⟨32, _⟩ => ⟨S_, .f32⟩
  | .hbm, ⟨33, _⟩ => ⟨S2x704x1024, .f32⟩
  | .hbm, ⟨34, _⟩ => ⟨S2x704x1024, .f32⟩
  | .hbm, ⟨35, _⟩ => ⟨S_, .f32⟩
  | .hbm, ⟨36, _⟩ => ⟨S2x704x1024, .f32⟩
  | .hbm, ⟨37, _⟩ => ⟨S2x704x1024, .f32⟩
  | .hbm, ⟨38, _⟩ => ⟨S2x704x1024, .f32⟩
  | .hbm, ⟨39, _⟩ => ⟨S_, .f32⟩
  | .hbm, ⟨40, _⟩ => ⟨S2x704x1024, .f32⟩
  | .hbm, ⟨41, _⟩ => ⟨S2x704x1024, .f32⟩
  | .hbm, ⟨42, _⟩ => ⟨S2x704x1024, .f32⟩
  | .hbm, ⟨43, _⟩ => ⟨S_, .f32⟩
  | .hbm, ⟨44, _⟩ => ⟨S2x704x1024, .f32⟩
  | .hbm, ⟨45, _⟩ => ⟨S2x704x1024, .f32⟩
  | .hbm, ⟨46, _⟩ => ⟨S2x704x1024, .f32⟩
  | .hbm, ⟨47, _⟩ => ⟨S_, .f32⟩
  | .hbm, ⟨48, _⟩ => ⟨S2x704x1024, .f32⟩
  | .hbm, ⟨49, _⟩ => ⟨S2x704x1024, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== DownAdam.lean ====
abbrev S2x352x1024 : Shape := ⟨3, ![2, 352, 1024]⟩
abbrev S8x352x1024 : Shape := ⟨3, ![8, 352, 1024]⟩
abbrev S1x352x1024 : Shape := ⟨3, ![1, 352, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S8x352x1024, .bf16⟩
  | .hbm, ⟨4, _⟩ => ⟨S8x352x1024, .bf16⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S8x352x1024, .bf16⟩
  | .local _ .vmem, ⟨7, _⟩ => ⟨S8x352x1024, .bf16⟩
  | .local _ .vmem, ⟨8, _⟩ => ⟨S8x352x1024, .bf16⟩
  | .local _ .vmem, ⟨9, _⟩ => ⟨S8x352x1024, .bf16⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c1_i32 : BitVec 32 := 1#32
  let v1 : BitVec 32 := Scalar.muli v0 c1_i32
  let v2 : BitVec 32 := Scalar.addi arg1 v1
  let c0_i32_0 : BitVec 32 := 0#32
  let c0_i32_1 : BitVec 32 := 0#32
  let v3 : BitVec 32 := Scalar.maxsi c0_i32_0 v2
  let v4 : BitVec 32 := Scalar.minsi c0_i32_1 v3
  let c0_i32_2 : BitVec 32 := 0#32
  let c0_i32_3 : BitVec 32 := 0#32
  let c0_i32_4 : BitVec 32 := 0#32
  ![c0_i32_2.toNat, v4.toNat, c0_i32_3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c1_i32_0 : BitVec 32 := 1#32
  let v1 : BitVec 32 := Scalar.muli v0 c1_i32_0
  let v2 : BitVec 32 := Scalar.addi arg1 v1
  let c0_i32 : BitVec 32 := 0#32
  let c0_i32_1 : BitVec 32 := 0#32
  let v3 : BitVec 32 := Scalar.maxsi c0_i32 v2
  let v4 : BitVec 32 := Scalar.minsi c0_i32_1 v3
  let c0_i32_2 : BitVec 32 := 0#32
  let c0_i32_3 : BitVec 32 := 0#32
  let c0_i32_4 : BitVec 32 := 0#32
  ![c0_i32_2.toNat, v4.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DownArefIdeal.lean ====
abbrev S2x352x1024 : Shape := ⟨3, ![2, 352, 1024]⟩
abbrev S8x352x1024 : Shape := ⟨3, ![8, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S8x352x1024, .bf16⟩
  | .hbm, ⟨4, _⟩ => ⟨S8x352x1024, .bf16⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdaAdam.lean ====
abbrev S2x1024x768 : Shape := ⟨3, ![2, 1024, 768]⟩
abbrev S1x1024x768 : Shape := ⟨3, ![1, 1024, 768]⟩
abbrev S1x256x768 : Shape := ⟨3, ![1, 256, 768]⟩
abbrev S256x768 : Shape := ⟨2, ![256, 768]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S1x1024x768, .f32⟩
  | .hbm, ⟨4, _⟩ => ⟨S1x1024x768, .f32⟩
  | .hbm, ⟨5, _⟩ => ⟨S2x1024x768, .f32⟩
  | .hbm, ⟨6, _⟩ => ⟨S2x1024x768, .f32⟩
  | .hbm, ⟨7, _⟩ => ⟨S2x1024x768, .f32⟩
  | .hbm, ⟨8, _⟩ => ⟨S2x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c4_i32 : BitVec 32 := 4#32
  let v1 : BitVec 32 := Scalar.muli v0 c4_i32
  let v2 : BitVec 32 := Scalar.addi arg1 v1
  let c0_i32_0 : BitVec 32 := 0#32
  let c3_i32 : BitVec 32 := 3#32
  let v3 : BitVec 32 := Scalar.maxsi c0_i32_0 v2
  let v4 : BitVec 32 := Scalar.minsi c3_i32 v3
  let c0_i32_1 : BitVec 32 := 0#32
  let c0_i32_2 : BitVec 32 := 0#32
  let c0_i32_3 : BitVec 32 := 0#32
  ![c0_i32_1.toNat, v4.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c4_i32 : BitVec 32 := 4#32
  let v1 : BitVec 32 := Scalar.muli v0 c4_i32
  let v2 : BitVec 32 := Scalar.addi arg1 v1
  let c0_i32 : BitVec 32 := 0#32
  let c3_i32 : BitVec 32 := 3#32
  let v3 : BitVec 32 := Scalar.maxsi c0_i32 v2
  let v4 : BitVec 32 := Scalar.minsi c3_i32 v3
  let c0_i32_0 : BitVec 32 := 0#32
  let c0_i32_1 : BitVec 32 := 0#32
  let c0_i32_2 : BitVec 32 := 0#32
  ![c0_i32_0.toNat, v4.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdaArefIdeal.lean ====
abbrev S2x1024x768 : Shape := ⟨3, ![2, 1024, 768]⟩
abbrev S1x1024x768 : Shape := ⟨3, ![1, 1024, 768]⟩
abbrev S_ : Shape := ⟨0, ![]⟩
abbrev S1024x768 : Shape := ⟨2, ![1024, 768]⟩

abbrev nBuf : Space → Nat
  | .hbm => 45
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S1x1024x768, .f32⟩
  | .hbm, ⟨4, _⟩ => ⟨S1x1024x768, .f32⟩
  | .hbm, ⟨5, _⟩ => ⟨S_, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1x1024x768, .f32⟩
  | .hbm, ⟨10, _⟩ => ⟨S1x1024x768, .f32⟩
  | .hbm, ⟨11, _⟩ => ⟨S2x1024x768, .f32⟩
  | .hbm, ⟨12, _⟩ => ⟨S_, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S2x1024x768, .f32⟩
  | .hbm, ⟨23, _⟩ => ⟨S_, .f32⟩
  | .hbm, ⟨24, _⟩ => ⟨S2x1024x768, .f32⟩
  | .hbm, ⟨25, _⟩ => ⟨S2x1024x768, .f32⟩
  | .hbm, ⟨26, _⟩ => ⟨S2x1024x768, .f32⟩
  | .hbm, ⟨27, _⟩ => ⟨S_, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | .hbm, ⟨37, _⟩ => ⟨S2x1024x768, .f32⟩
  | .hbm, ⟨38, _⟩ => ⟨S_, .f32⟩
  | .hbm, ⟨39, _⟩ => ⟨S2x1024x768, .f32⟩
  | .hbm, ⟨40, _⟩ => ⟨S2x1024x768, .f32⟩
  | .hbm, ⟨41, _⟩ => ⟨S2x1024x768, .f32⟩
  | .hbm, ⟨42, _⟩ => ⟨S_, .f32⟩
  | .hbm, ⟨43, _⟩ => ⟨S2x1024x768, .f32⟩
  | .hbm, ⟨44, _⟩ => ⟨S2x1024x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Proof.ConvTrip.lean ====
/- One trip of the loop of `conv_bwd`, and the loop by its invariant.

   A trip takes 1024 rows of the columns of one grid step, with a halo of 16 rows on either side. It writes
   the gradient of those rows of the two halves of the hidden row, and adds the rows' part to the gradients
   of the taps and of the bias. The invariant states what the six outputs read before trip `k`, as a
   recursion over `k` from what they read before the loop. -/
module

public import proofs.«01_k».proof.Proof.Gen.ConvBwdIdeal.Skeleton
public import proofs.«01_k».proof.Proof.Gen.ConvBwdIdeal.Loops
public import Idealize.ShloMosaic.Lib.Exec
public import Idealize.ShloMosaic.Lib.Tactic
public import Idealize.ShloMosaic.Lib.VecWindow
public import Idealize.ShloMosaic.Lib.Pipeline.Kit

@[expose] public section

set_option maxRecDepth 8192
set_option maxHeartbeats 4000000

noncomputable section

namespace Cert.ConvBwdIdeal.Grad

open Cert.ConvBwdIdeal Cert.ConvBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)

variable {F : FTy → Type} [FloatOps F]

local notation "𝕄" => MT nD τ sig Unit (Elt F) ℕ (UR sig nD τ) ℕ

/-! ## The values of one trip -/

/-- The first row of trip `k`, as the kernel computes it. -/
abbrev start (k : Fin k0_t1_loop.trips) : BitVec 32 := Scalar.muli (Scf.iv 0#32 1#32 k) 1024#32

/-- The 16 rows loaded before the trip's rows. -/
abbrev before (x : Vec F S4096x256 .bf16) (k : Fin k0_t1_loop.trips) : Vec F S16x256 .bf16 :=
  ld (Val := Elt F) x (Rect.unit (s := S4096x256) (k0_off1 k) S16x256.size (k0_off1_inb k))

/-- The trip's own 1024 rows. -/
abbrev own (x : Vec F S4096x256 .bf16) (k : Fin k0_t1_loop.trips) : Vec F S1024x256 .bf16 :=
  ld (Val := Elt F) x (Rect.unit (s := S4096x256) (k0_off2 k) S1024x256.size (k0_off2_inb k))

/-- The 16 rows loaded after the trip's rows. -/
abbrev after (x : Vec F S4096x256 .bf16) (k : Fin k0_t1_loop.trips) : Vec F S16x256 .bf16 :=
  ld (Val := Elt F) x (Rect.unit (s := S4096x256) (k0_off3 k) S16x256.size (k0_off3_inb k))

/-- The trip's rows of `x` with the halo, zero outside the array, as numbers of the wide type. -/
def halo (x : Vec F S4096x256 .bf16) (k : Fin k0_t1_loop.trips) : FVec F S1056x256 .f32 :=
  k0_pay8 0#32 1#32 k (before x k) (own x k) (after x k)

/-- The gradient of the convolution's result one row below, at it, and one row above each of the trip's
    rows: the product of the incoming gradient `a` with the saved factor `s`. -/
def below (a s : Vec F S4096x256 .bf16) (k : Fin k0_t1_loop.trips) : FVec F S1024x256 .f32 :=
  k0_pay13 (start k) (halo a k) (k0_pay9 (before s k)) (k0_pay10 (own s k)) (k0_pay11 (after s k)) 0#32
@[inherit_doc below] def above (a s : Vec F S4096x256 .bf16) (k : Fin k0_t1_loop.trips) : FVec F S1024x256 .f32 :=
  k0_pay14 (start k) (halo a k) (k0_pay9 (before s k)) (k0_pay10 (own s k)) (k0_pay11 (after s k)) 0#32
@[inherit_doc below] def atRow (a s : Vec F S4096x256 .bf16) (k : Fin k0_t1_loop.trips) : FVec F S1024x256 .f32 :=
  k0_pay15 (start k) (halo a k) (k0_pay9 (before s k)) (k0_pay10 (own s k)) (k0_pay11 (after s k)) 0#32

/-- The gradient of the trip's rows of one half of the hidden row. -/
def dRows (a s : Vec F S4096x256 .bf16) (w : Vec F S3x256 .f32) (k : Fin k0_t1_loop.trips) : FVec F S1024x256 .bf16 :=
  k0_pay17 (start k) (halo a k) (k0_pay9 (before s k)) (k0_pay10 (own s k)) (k0_pay11 (after s k)) 0#32 w

/-- The sum of `d` over the rows, added to what is there. -/
def addSum (d : FVec F S1024x256 .f32) (v : Vec F S1x256 .f32) : FVec F S1x256 .f32 :=
  addf (shapeCast S1x256 v shapeCasts_S1x256_S1x256)
    (shapeCast S1x256 (multiReduction .add [0] S256 d 0x00000000#32 reduces_S1024x256_S256 (.inl rfl) rfl) shapeCasts_S256_S1x256)

/-- One tap's gradient: the rows' products with `x`, summed and added to what is there. -/
def addTap (d : FVec F S1024x256 .f32) (x : FVec F S1024x256 .bf16) (v : Vec F S1x256 .f32) : FVec F S1x256 .f32 :=
  addSum (mulf d (extf .f32 x bitsLt_bf16_f32)) v

/-- Row `r` of a three-row array. -/
abbrev tap0 (w : Vec F S3x256 .f32) : Vec F S1x256 .f32 := ld (Val := Elt F) w (Rect.unit (s := S3x256) ![0, 0] S1x256.size inb_S3x256_S1x256_0_0)
@[inherit_doc tap0] abbrev tap1 (w : Vec F S3x256 .f32) : Vec F S1x256 .f32 := ld (Val := Elt F) w (Rect.unit (s := S3x256) ![1, 0] S1x256.size inb_S3x256_S1x256_1_0)
@[inherit_doc tap0] abbrev tap2 (w : Vec F S3x256 .f32) : Vec F S1x256 .f32 := ld (Val := Elt F) w (Rect.unit (s := S3x256) ![2, 0] S1x256.size inb_S3x256_S1x256_2_0)

/-! ## What the outputs read before trip `k` -/

/-- The rows' gradient: the rows of the trips before `k` put over what was there. -/
def rowsTo (a s : Vec F S4096x256 .bf16) (w : Vec F S3x256 .f32) (g : Vec F S4096x256 .bf16) : ℕ → Vec F S4096x256 .bf16
  | 0 => g
  | k + 1 => if h : k < k0_t1_loop.trips then
      VecWindow.put (α := Elt F .bf16) (rowsTo a s w g k) ![1024 * k, 0] S1024x256.size (dRows a s w ⟨k, h⟩)
    else rowsTo a s w g k

/-- The bias's gradient. -/
def biasTo (a s : Vec F S4096x256 .bf16) (g : Vec F S1x256 .f32) : ℕ → Vec F S1x256 .f32
  | 0 => g
  | k + 1 => if h : k < k0_t1_loop.trips then addSum (atRow a s ⟨k, h⟩) (biasTo a s g k) else biasTo a s g k

/-- The taps' gradient, one row per tap. -/
def tapsTo (a s x : Vec F S4096x256 .bf16) (g : Vec F S3x256 .f32) : ℕ → Vec F S3x256 .f32
  | 0 => g
  | k + 1 => if h : k < k0_t1_loop.trips then
      VecWindow.put (α := Elt F .f32)
        (VecWindow.put (α := Elt F .f32)
          (VecWindow.put (α := Elt F .f32) (tapsTo a s x g k)
            ![0, 0] S1x256.size (addTap (below a s ⟨k, h⟩) (own x ⟨k, h⟩) (tap0 (tapsTo a s x g k))))
          ![1, 0] S1x256.size (addTap (atRow a s ⟨k, h⟩) (own x ⟨k, h⟩) (tap1 (tapsTo a s x g k))))
        ![2, 0] S1x256.size (addTap (above a s ⟨k, h⟩) (own x ⟨k, h⟩) (tap2 (tapsTo a s x g k)))
    else tapsTo a s x g k

theorem rowsTo_succ (a s : Vec F S4096x256 .bf16) (w : Vec F S3x256 .f32) (g : Vec F S4096x256 .bf16) (k : Fin k0_t1_loop.trips) :
    rowsTo a s w g (k.val + 1)
      = VecWindow.put (α := Elt F .bf16) (rowsTo a s w g k.val) ![1024 * k.val, 0] S1024x256.size (dRows a s w k) := dif_pos k.isLt

theorem biasTo_succ (a s : Vec F S4096x256 .bf16) (g : Vec F S1x256 .f32) (k : Fin k0_t1_loop.trips) :
    biasTo a s g (k.val + 1) = addSum (atRow a s k) (biasTo a s g k.val) := dif_pos k.isLt

theorem tapsTo_succ (a s x : Vec F S4096x256 .bf16) (g : Vec F S3x256 .f32) (k : Fin k0_t1_loop.trips) :
    tapsTo a s x g (k.val + 1)
      = VecWindow.put (α := Elt F .f32)
          (VecWindow.put (α := Elt F .f32)
            (VecWindow.put (α := Elt F .f32) (tapsTo a s x g k.val)
              ![0, 0] S1x256.size (addTap (below a s k) (own x k) (tap0 (tapsTo a s x g k.val))))
            ![1, 0] S1x256.size (addTap (atRow a s k) (own x k) (tap1 (tapsTo a s x g k.val))))
          ![2, 0] S1x256.size (addTap (above a s k) (own x k) (tap2 (tapsTo a s x g k.val))) := dif_pos k.isLt

/-! ## The invariant -/

/-- A staging buffer of the core held whole at contents `f`. -/
abbrev held {s : Shape} {e : EltTy} (c : Dev nD) (m : Memref sig .tc .vmem s e) (f : BufTy.Contents (Elt F) m.view.ty) : sProp 𝕄 :=
  iprop(m.view.loc (c : Thread nD τ) ↦[m.view.set]{fullShare} f)

/-- The same at some contents that read `x`. -/
abbrev heldAt {s : Shape} {e : EltTy} (c : Dev nD) (m : Memref sig .tc .vmem s e) (x : Vec F s e) : sProp 𝕄 :=
  iprop(∃ f, (m.view.loc (c : Thread nD τ) ↦[m.view.set]{fullShare} f) ∗ ⌜m.view.read (Elt F) f = x⌝)

section

variable (c : Dev nD) (i : grid0.Coords)
  (arg1 : Memref sig .tc .vmem S4096x256 .bf16) (harg1 : arg1.IsWhole) (arg2 : Memref sig .tc .vmem S4096x256 .bf16) (harg2 : arg2.IsWhole)
  (arg3 : Memref sig .tc .vmem S4096x256 .bf16) (harg3 : arg3.IsWhole) (arg4 : Memref sig .tc .vmem S4096x256 .bf16) (harg4 : arg4.IsWhole)
  (arg5 : Memref sig .tc .vmem S4096x256 .bf16) (harg5 : arg5.IsWhole) (arg6 : Memref sig .tc .vmem S3x256 .f32) (harg6 : arg6.IsWhole)
  (arg7 : Memref sig .tc .vmem S3x256 .f32) (harg7 : arg7.IsWhole) (arg8 : Memref sig .tc .vmem S4096x256 .bf16) (harg8 : arg8.IsWhole)
  (arg9 : Memref sig .tc .vmem S4096x256 .bf16) (harg9 : arg9.IsWhole) (arg10 : Memref sig .tc .vmem S3x256 .f32) (harg10 : arg10.IsWhole)
  (arg11 : Memref sig .tc .vmem S3x256 .f32) (harg11 : arg11.IsWhole) (arg12 : Memref sig .tc .vmem S1x256 .f32) (harg12 : arg12.IsWhole)
  (arg13 : Memref sig .tc .vmem S1x256 .f32) (harg13 : arg13.IsWhole)
  (X1 : BufTy.Contents (Elt F) arg1.view.ty) (X2 : BufTy.Contents (Elt F) arg2.view.ty) (X3 : BufTy.Contents (Elt F) arg3.view.ty)
  (X4 : BufTy.Contents (Elt F) arg4.view.ty) (X5 : BufTy.Contents (Elt F) arg5.view.ty) (X6 : BufTy.Contents (Elt F) arg6.view.ty)
  (X7 : BufTy.Contents (Elt F) arg7.view.ty) (G8 : BufTy.Contents (Elt F) arg8.view.ty) (G9 : BufTy.Contents (Elt F) arg9.view.ty)
  (G10 : BufTy.Contents (Elt F) arg10.view.ty) (G11 : BufTy.Contents (Elt F) arg11.view.ty) (G12 : BufTy.Contents (Elt F) arg12.view.ty)
  (G13 : BufTy.Contents (Elt F) arg13.view.ty)

/-- Before trip `k`: the inputs as they were, each output at contents that read what the trips before `k`
    leave. -/
abbrev inv (k : ℕ) (_ : PUnit) : sProp 𝕄 :=
  iprop(held c arg1 X1 ∗ held c arg2 X2 ∗ held c arg3 X3 ∗ held c arg4 X4 ∗ held c arg5 X5 ∗ held c arg6 X6 ∗ held c arg7 X7
    ∗ heldAt c arg8 (rowsTo (arg1.view.read (Elt F) X1) (arg3.view.read (Elt F) X3) (arg6.view.read (Elt F) X6) (arg8.view.read (Elt F) G8) k)
    ∗ heldAt c arg9 (rowsTo (arg1.view.read (Elt F) X1) (arg2.view.read (Elt F) X2) (arg7.view.read (Elt F) X7) (arg9.view.read (Elt F) G9) k)
    ∗ heldAt c arg10 (tapsTo (arg1.view.read (Elt F) X1) (arg3.view.read (Elt F) X3) (arg4.view.read (Elt F) X4) (arg10.view.read (Elt F) G10) k)
    ∗ heldAt c arg11 (tapsTo (arg1.view.read (Elt F) X1) (arg2.view.read (Elt F) X2) (arg5.view.read (Elt F) X5) (arg11.view.read (Elt F) G11) k)
    ∗ heldAt c arg12 (biasTo (arg1.view.read (Elt F) X1) (arg3.view.read (Elt F) X3) (arg12.view.read (Elt F) G12) k)
    ∗ heldAt c arg13 (biasTo (arg1.view.read (Elt F) X1) (arg2.view.read (Elt F) X2) (arg13.view.read (Elt F) G13) k))

/-- One trip takes the invariant from `k` to `k + 1`. -/
theorem trip (k : Fin k0_t1_loop.trips) (acc : PUnit) :
    inv c arg1 arg2 arg3 arg4 arg5 arg6 arg7 arg8 arg9 arg10 arg11 arg12 arg13 X1 X2 X3 X4 X5 X6 X7 G8 G9 G10 G11 G12 G13 k.val acc
      ⊢ wp frame (wpE (defs₀ (F := F)) Variants.none (c : Thread nD τ) none) Set.univ
        (k0_t1_body (F := F) i arg1 harg1 arg2 harg2 arg3 harg3 arg4 harg4 arg5 harg5 arg6 harg6 arg7 harg7 arg8 harg8 arg9 harg9
          arg10 harg10 arg11 harg11 arg12 harg12 arg13 harg13 k acc)
        (inv c arg1 arg2 arg3 arg4 arg5 arg6 arg7 arg8 arg9 arg10 arg11 arg12 arg13 X1 X2 X3 X4 X5 X6 X7 G8 G9 G10 G11 G12 G13 (k.val + 1)) := by
  have hk : k.val < 4 := Nat.lt_of_lt_of_le k.isLt k0_t1_abs.2.1
  unfold k0_t1_body
  iintro ⟨H1, H2, H3, H4, H5, H6, H7, ⟨%f8, H8, %h8⟩, ⟨%f9, H9, %h9⟩, ⟨%f10, H10, %h10⟩, ⟨%f11, H11, %h11⟩, ⟨%f12, H12, %h12⟩, ⟨%f13, H13, %h13⟩⟩
  sl_exec
  sl_step
  unfold inv heldAt
  rw [rowsTo_succ, rowsTo_succ, tapsTo_succ, tapsTo_succ, biasTo_succ, biasTo_succ, ← h8, ← h9, ← h10, ← h11, ← h12, ← h13]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitl [H8]; · iexact H8
    ipureintro
    rw [View.read_writes_cons_put _ _ _ _ _ (k0_off2_eq k), View.readAt_full]; rfl
  isplitl [H9]
  · iexists _; isplitl [H9]; · iexact H9
    ipureintro
    rw [View.read_writes_cons_put _ _ _ _ _ (k0_off2_eq k), View.readAt_full]; rfl
  isplitl [H10]
  · iexists _; isplitl [H10]; · iexact H10
    ipureintro
    rw [View.read_writes_cons_put _ _ _ _ _ rfl, View.read_writes_cons_put _ _ _ _ _ rfl, View.read_writes_cons_put _ _ _ _ _ rfl]; rfl
  isplitl [H11]
  · iexists _; isplitl [H11]; · iexact H11
    ipureintro
    rw [View.read_writes_cons_put _ _ _ _ _ rfl, View.read_writes_cons_put _ _ _ _ _ rfl, View.read_writes_cons_put _ _ _ _ _ rfl]; rfl
  isplitl [H12]
  · iexists _; isplitl [H12]; · iexact H12
    ipureintro
    rw [View.read_writes_full, View.readAt_full]; rfl
  iexists _; isplitl [H13]; · iexact H13
  ipureintro
  rw [View.read_writes_full, View.readAt_full]; rfl

end

set_option warn.classDefReducibility false in
/-- The loop by its invariant. -/
@[sl_loop] def loop (c : Dev nD) (i : grid0.Coords)
    (arg1 : Memref sig .tc .vmem S4096x256 .bf16) (harg1 : arg1.IsWhole) (arg2 : Memref sig .tc .vmem S4096x256 .bf16) (harg2 : arg2.IsWhole)
    (arg3 : Memref sig .tc .vmem S4096x256 .bf16) (harg3 : arg3.IsWhole) (arg4 : Memref sig .tc .vmem S4096x256 .bf16) (harg4 : arg4.IsWhole)
    (arg5 : Memref sig .tc .vmem S4096x256 .bf16) (harg5 : arg5.IsWhole) (arg6 : Memref sig .tc .vmem S3x256 .f32) (harg6 : arg6.IsWhole)
    (arg7 : Memref sig .tc .vmem S3x256 .f32) (harg7 : arg7.IsWhole) (arg8 : Memref sig .tc .vmem S4096x256 .bf16) (harg8 : arg8.IsWhole)
    (arg9 : Memref sig .tc .vmem S4096x256 .bf16) (harg9 : arg9.IsWhole) (arg10 : Memref sig .tc .vmem S3x256 .f32) (harg10 : arg10.IsWhole)
    (arg11 : Memref sig .tc .vmem S3x256 .f32) (harg11 : arg11.IsWhole) (arg12 : Memref sig .tc .vmem S1x256 .f32) (harg12 : arg12.IsWhole)
    (arg13 : Memref sig .tc .vmem S1x256 .f32) (harg13 : arg13.IsWhole)
    (X1 : BufTy.Contents (Elt F) arg1.view.ty) (X2 : BufTy.Contents (Elt F) arg2.view.ty) (X3 : BufTy.Contents (Elt F) arg3.view.ty)
    (X4 : BufTy.Contents (Elt F) arg4.view.ty) (X5 : BufTy.Contents (Elt F) arg5.view.ty) (X6 : BufTy.Contents (Elt F) arg6.view.ty)
    (X7 : BufTy.Contents (Elt F) arg7.view.ty) (G8 : BufTy.Contents (Elt F) arg8.view.ty) (G9 : BufTy.Contents (Elt F) arg9.view.ty)
    (G10 : BufTy.Contents (Elt F) arg10.view.ty) (G11 : BufTy.Contents (Elt F) arg11.view.ty) (G12 : BufTy.Contents (Elt F) arg12.view.ty)
    (G13 : BufTy.Contents (Elt F) arg13.view.ty) :
    LoopInvTy_k0_t1 (F := F) Unit ℕ (UR sig nD τ) ℕ Variants.none c none Set.univ i arg1 harg1 arg2 harg2 arg3 harg3 arg4 harg4 arg5 harg5
      arg6 harg6 arg7 harg7 arg8 harg8 arg9 harg9 arg10 harg10 arg11 harg11 arg12 harg12 arg13 harg13 where
  inv := inv c arg1 arg2 arg3 arg4 arg5 arg6 arg7 arg8 arg9 arg10 arg11 arg12 arg13 X1 X2 X3 X4 X5 X6 X7 G8 G9 G10 G11 G12 G13
  step := trip c i arg1 harg1 arg2 harg2 arg3 harg3 arg4 harg4 arg5 harg5 arg6 harg6 arg7 harg7 arg8 harg8 arg9 harg9 arg10 harg10
    arg11 harg11 arg12 harg12 arg13 harg13 X1 X2 X3 X4 X5 X6 X7 G8 G9 G10 G11 G12 G13

end Cert.ConvBwdIdeal.Grad

end
-- ==== Proof.ConvRun.lean ====
/- The launch of `conv_bwd`: the body's triple with the values it leaves, the proof data of the pipeline, and the
   run, over any reading `F` of the float types.

   A grid step takes 256 columns of either half of the hidden row. Its outputs do not depend on what the buffers
   held before: the four trips write every row, and the three sums start from zero. -/
module

public import proofs.«01_k».proof.Proof.ConvTrip
public import proofs.«01_k».proof.Proof.Gen.ConvBwdIdeal.Frame
public import Idealize.ShloMosaic.Lib.Claim

@[expose] public section

set_option maxRecDepth 16384

noncomputable section

namespace Cert.ConvBwdIdeal.Grad

open Cert.ConvBwdIdeal Cert.ConvBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a grid step leaves -/

theorem trips_eq : k0_t1_loop.trips = 4 := by decide

/-- The trip that writes row `y`. -/
def tripOf (y : S4096x256.Idx) : Fin k0_t1_loop.trips := ⟨(y 0).val / 1024, by
  have h : (y 0).val < 4096 := (y 0).isLt
  rw [trips_eq]; omega⟩

/-- The row's place among its trip's rows. -/
def inTrip (y : S4096x256.Idx) : S1024x256.Idx :=
  Rect.unitLocal (s := S4096x256) (off := ![1024 * (tripOf y).val, 0]) (size := S1024x256.size) y (fun a => by
    have h : (y 0).val < 4096 := (y 0).isLt
    have h1 : (y 1).val < 256 := (y 1).isLt
    fin_cases a
    · show 1024 * ((y 0).val / 1024) ≤ (y 0).val ∧ (y 0).val < 1024 * ((y 0).val / 1024) + 1024
      omega
    · show 0 ≤ (y 1).val ∧ (y 1).val < 0 + 256
      omega)

/-- The rows' gradient of one half of the hidden row, at every row. -/
def rowsAll (a s : Vec F S4096x256 .bf16) (w : Vec F S3x256 .f32) : Vec F S4096x256 .bf16 := fun y => dRows a s w (tripOf y) (inTrip y)

/-- The taps' gradient, from zero, over the four trips. -/
def tapsAll (a s x : Vec F S4096x256 .bf16) : Vec F S3x256 .f32 := tapsTo a s x (k0_pay1 (F := F)) 4

/-- The bias's gradient, from zero, over the four trips. -/
def biasAll (a s : Vec F S4096x256 .bf16) : Vec F S1x256 .f32 := biasTo a s (k0_pay3 (F := F)) 4

/-- Before trip `k` the rows of the earlier trips are final, whatever the buffer held. -/
theorem rowsTo_apply (a s : Vec F S4096x256 .bf16) (w : Vec F S3x256 .f32) (g : Vec F S4096x256 .bf16) (y : S4096x256.Idx) :
    ∀ k : ℕ, k ≤ 4 → (y 0).val < 1024 * k → rowsTo a s w g k y = rowsAll a s w y
  | 0, _, h => absurd h (by omega)
  | k + 1, hk, h => by
    have hk' : k < k0_t1_loop.trips := by rw [trips_eq]; omega
    have e := congrFun (rowsTo_succ a s w g ⟨k, hk'⟩) y
    refine e.trans ?_
    have h1 : (y 1).val < 256 := (y 1).isLt
    by_cases hy : (y 0).val < 1024 * k
    · have hn : ¬ ∀ b, (![1024 * k, 0] : Fin 2 → ℕ) b ≤ (y b).val ∧ (y b).val < (![1024 * k, 0] : Fin 2 → ℕ) b + S1024x256.size b := fun hb => by
        have := (hb 0).1
        have e0 : (![1024 * k, 0] : Fin 2 → ℕ) 0 = 1024 * k := rfl
        omega
      exact (dif_neg hn).trans (rowsTo_apply a s w g y k (by omega) hy)
    · have ht : tripOf y = ⟨k, hk'⟩ := Fin.ext (show (y 0).val / 1024 = k by omega)
      have hb : ∀ b, (![1024 * k, 0] : Fin 2 → ℕ) b ≤ (y b).val ∧ (y b).val < (![1024 * k, 0] : Fin 2 → ℕ) b + S1024x256.size b := fun b => by
        fin_cases b
        · show 1024 * k ≤ (y 0).val ∧ (y 0).val < 1024 * k + 1024
          omega
        · show 0 ≤ (y 1).val ∧ (y 1).val < 0 + 256
          omega
      refine (dif_pos hb).trans ?_
      have hi : (Rect.unitLocal (s := S4096x256) (off := ![1024 * k, 0]) (size := S1024x256.size) y hb : S1024x256.Idx) = inTrip y :=
        funext fun b => Fin.ext (by
          show (y b).val - (![1024 * k, 0] : Fin 2 → ℕ) b = (y b).val - (![1024 * ((y 0).val / 1024), 0] : Fin 2 → ℕ) b
          rw [show (y 0).val / 1024 = k by omega])
      unfold rowsAll
      rw [ht]
      exact congrArg (dRows a s w ⟨k, hk'⟩) hi

theorem rowsTo_all (a s : Vec F S4096x256 .bf16) (w : Vec F S3x256 .f32) (g : Vec F S4096x256 .bf16) : rowsTo a s w g 4 = rowsAll a s w :=
  funext fun y => rowsTo_apply a s w g y 4 le_rfl (by have : (y 0).val < 4096 := (y 0).isLt; omega)

/-! ## The body -/

set_option maxHeartbeats 4000000 in
/-- The body's triple: on whole staging buffers, the inputs at their contents and the outputs at anything, the
    body ends with the inputs as they were and each output at the value named above. -/
theorem body (c : Dev nD) (i : grid0.Coords)
    (arg1 : Memref sig .tc .vmem S4096x256 .bf16) (harg1 : arg1.IsWhole)
    (arg2 : Memref sig .tc .vmem S4096x256 .bf16) (harg2 : arg2.IsWhole)
    (arg3 : Memref sig .tc .vmem S4096x256 .bf16) (harg3 : arg3.IsWhole)
    (arg4 : Memref sig .tc .vmem S4096x256 .bf16) (harg4 : arg4.IsWhole)
    (arg5 : Memref sig .tc .vmem S4096x256 .bf16) (harg5 : arg5.IsWhole)
    (arg6 : Memref sig .tc .vmem S3x256 .f32) (harg6 : arg6.IsWhole)
    (arg7 : Memref sig .tc .vmem S3x256 .f32) (harg7 : arg7.IsWhole)
    (arg8 : Memref sig .tc .vmem S4096x256 .bf16) (harg8 : arg8.IsWhole)
    (arg9 : Memref sig .tc .vmem S4096x256 .bf16) (harg9 : arg9.IsWhole)
    (arg10 : Memref sig .tc .vmem S3x256 .f32) (harg10 : arg10.IsWhole)
    (arg11 : Memref sig .tc .vmem S3x256 .f32) (harg11 : arg11.IsWhole)
    (arg12 : Memref sig .tc .vmem S1x256 .f32) (harg12 : arg12.IsWhole)
    (arg13 : Memref sig .tc .vmem S1x256 .f32) (harg13 : arg13.IsWhole)
    (x0 x1 x2 x3 x4 : Vec F S4096x256 .bf16) (x5 x6 : Vec F S3x256 .f32) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (x6) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (x6) ∗ owns (c : Thread nD τ) arg8 fullShare (rowsAll x0 x2 x5) ∗ owns (c : Thread nD τ) arg9 fullShare (rowsAll x0 x1 x6) ∗ owns (c : Thread nD τ) arg10 fullShare (tapsAll x0 x2 x3) ∗ owns (c : Thread nD τ) arg11 fullShare (tapsAll x0 x1 x4) ∗ owns (c : Thread nD τ) arg12 fullShare (biasAll x0 x2) ∗ owns (c : Thread nD τ) arg13 fullShare (biasAll x0 x1)) -∗ K ⟨⟩))
      ⊢ wp frame (wpE (defs₀ (F := F)) Variants.none c none) Set.univ (cc0_conv_bwd i arg1 harg1 arg2 harg2 arg3 harg3 arg4 harg4 arg5 harg5 arg6 harg6 arg7 harg7 arg8 harg8 arg9 harg9 arg10 harg10 arg11 harg11 arg12 harg12 arg13 harg13) K := by
  simp only [cc0_conv_bwd_eq_skeleton]; unfold cc0_conv_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec
  sl_step
  have hT : Scf.trips k0_t1_loop.lb k0_t1_loop.ub k0_t1_loop.st = 4 := trips_eq
  simp only [hT, harg1.read_unread, harg2.read_unread, harg3.read_unread, harg4.read_unread, harg5.read_unread, harg6.read_unread, harg7.read_unread] at hL8 hL10 hL12 hL14 hL16 hL18
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro; exact hL8.trans (rowsTo_all _ _ _ _)
  isplitl [H8]
  · iexists _; isplitr; swap; · iexact H8
    ipureintro; exact hL10.trans (rowsTo_all _ _ _ _)
  isplitl [H9]
  · iexists _; isplitr; swap; · iexact H9
    ipureintro; refine hL12.trans ?_; unfold body.sl.H9_1; rw [View.read_writes_full]; rfl
  isplitl [H10]
  · iexists _; isplitr; swap; · iexact H10
    ipureintro; refine hL14.trans ?_; unfold body.sl.H10_1; rw [View.read_writes_full]; rfl
  isplitl [H11]
  · iexists _; isplitr; swap; · iexact H11
    ipureintro; refine hL16.trans ?_; unfold body.sl.H11_1; rw [View.read_writes_full]; rfl
  iexists _; isplitr; swap; · iexact H12
  ipureintro; refine hL18.trans ?_; unfold body.sl.H12_1; rw [View.read_writes_full]; rfl

/-! ## The proof data of the pipeline -/

variable (m : (ℓ : Loc nD τ sig) → Buf (Elt F) ℓ) (ρ : Dev nD → PrngReg)

/-- What the buffers hold after the body at a point: an input its block, an output its value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => rowsAll (iblk m c 0 t) (iblk m c 2 t) (iblk m c 5 t)
    | ⟨8, _⟩ => rowsAll (iblk m c 0 t) (iblk m c 1 t) (iblk m c 6 t)
    | ⟨9, _⟩ => tapsAll (iblk m c 0 t) (iblk m c 2 t) (iblk m c 3 t)
    | ⟨10, _⟩ => tapsAll (iblk m c 0 t) (iblk m c 1 t) (iblk m c 4 t)
    | ⟨11, _⟩ => biasAll (iblk m c 0 t) (iblk m c 2 t)
    | ⟨12, _⟩ => biasAll (iblk m c 0 t) (iblk m c 1 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = rowsAll (iblk m c 0 t) (iblk m c 2 t) (iblk m c 5 t) := by dsimp only [dats]
theorem after_8 (c : Dev nD) (t : Fin cfg0.N) : (dats m 0 c).after 8 t = rowsAll (iblk m c 0 t) (iblk m c 1 t) (iblk m c 6 t) := by dsimp only [dats]
theorem after_9 (c : Dev nD) (t : Fin cfg0.N) : (dats m 0 c).after 9 t = tapsAll (iblk m c 0 t) (iblk m c 2 t) (iblk m c 3 t) := by dsimp only [dats]
theorem after_10 (c : Dev nD) (t : Fin cfg0.N) : (dats m 0 c).after 10 t = tapsAll (iblk m c 0 t) (iblk m c 1 t) (iblk m c 4 t) := by dsimp only [dats]
theorem after_11 (c : Dev nD) (t : Fin cfg0.N) : (dats m 0 c).after 11 t = biasAll (iblk m c 0 t) (iblk m c 2 t) := by dsimp only [dats]
theorem after_12 (c : Dev nD) (t : Fin cfg0.N) : (dats m 0 c).after 12 t = biasAll (iblk m c 0 t) (iblk m c 1 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0) : Memref sig .tc .vmem S4096x256 .bf16) fullShare ((dats m 0 c).before 0 t d))
    ∗ (∃ d, owns (c : Thread nD τ) (win0_1.stage (cfg0.slots t 1) : Memref sig .tc .vmem S4096x256 .bf16) fullShare ((dats m 0 c).before 1 t d))
    ∗ (∃ d, owns (c : Thread nD τ) (win0_2.stage (cfg0.slots t 2) : Memref sig .tc .vmem S4096x256 .bf16) fullShare ((dats m 0 c).before 2 t d))
    ∗ (∃ d, owns (c : Thread nD τ) (win0_3.stage (cfg0.slots t 3) : Memref sig .tc .vmem S4096x256 .bf16) fullShare ((dats m 0 c).before 3 t d))
    ∗ (∃ d, owns (c : Thread nD τ) (win0_4.stage (cfg0.slots t 4) : Memref sig .tc .vmem S4096x256 .bf16) fullShare ((dats m 0 c).before 4 t d))
    ∗ (∃ d, owns (c : Thread nD τ) (win0_5.stage (cfg0.slots t 5) : Memref sig .tc .vmem S3x256 .f32) fullShare ((dats m 0 c).before 5 t d))
    ∗ (∃ d, owns (c : Thread nD τ) (win0_6.stage (cfg0.slots t 6) : Memref sig .tc .vmem S3x256 .f32) fullShare ((dats m 0 c).before 6 t d))
    ∗ (∃ d, owns (c : Thread nD τ) (win0_7.stage (cfg0.slots t 7) : Memref sig .tc .vmem S4096x256 .bf16) fullShare ((dats m 0 c).before 7 t d))
    ∗ (∃ d, owns (c : Thread nD τ) (win0_8.stage (cfg0.slots t 8) : Memref sig .tc .vmem S4096x256 .bf16) fullShare ((dats m 0 c).before 8 t d))
    ∗ (∃ d, owns (c : Thread nD τ) (win0_9.stage (cfg0.slots t 9) : Memref sig .tc .vmem S3x256 .f32) fullShare ((dats m 0 c).before 9 t d))
    ∗ (∃ d, owns (c : Thread nD τ) (win0_10.stage (cfg0.slots t 10) : Memref sig .tc .vmem S3x256 .f32) fullShare ((dats m 0 c).before 10 t d))
    ∗ (∃ d, owns (c : Thread nD τ) (win0_11.stage (cfg0.slots t 11) : Memref sig .tc .vmem S1x256 .f32) fullShare ((dats m 0 c).before 11 t d))
    ∗ (∃ d, owns (c : Thread nD τ) (win0_12.stage (cfg0.slots t 12) : Memref sig .tc .vmem S1x256 .f32) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0) : Memref sig .tc .vmem S4096x256 .bf16) fullShare ((dats m 0 c).after 0 t)
    ∗ owns (c : Thread nD τ) (win0_1.stage (cfg0.slots t 1) : Memref sig .tc .vmem S4096x256 .bf16) fullShare ((dats m 0 c).after 1 t)
    ∗ owns (c : Thread nD τ) (win0_2.stage (cfg0.slots t 2) : Memref sig .tc .vmem S4096x256 .bf16) fullShare ((dats m 0 c).after 2 t)
    ∗ owns (c : Thread nD τ) (win0_3.stage (cfg0.slots t 3) : Memref sig .tc .vmem S4096x256 .bf16) fullShare ((dats m 0 c).after 3 t)
    ∗ owns (c : Thread nD τ) (win0_4.stage (cfg0.slots t 4) : Memref sig .tc .vmem S4096x256 .bf16) fullShare ((dats m 0 c).after 4 t)
    ∗ owns (c : Thread nD τ) (win0_5.stage (cfg0.slots t 5) : Memref sig .tc .vmem S3x256 .f32) fullShare ((dats m 0 c).after 5 t)
    ∗ owns (c : Thread nD τ) (win0_6.stage (cfg0.slots t 6) : Memref sig .tc .vmem S3x256 .f32) fullShare ((dats m 0 c).after 6 t)
    ∗ owns (c : Thread nD τ) (win0_7.stage (cfg0.slots t 7) : Memref sig .tc .vmem S4096x256 .bf16) fullShare ((dats m 0 c).after 7 t)
    ∗ owns (c : Thread nD τ) (win0_8.stage (cfg0.slots t 8) : Memref sig .tc .vmem S4096x256 .bf16) fullShare ((dats m 0 c).after 8 t)
    ∗ owns (c : Thread nD τ) (win0_9.stage (cfg0.slots t 9) : Memref sig .tc .vmem S3x256 .f32) fullShare ((dats m 0 c).after 9 t)
    ∗ owns (c : Thread nD τ) (win0_10.stage (cfg0.slots t 10) : Memref sig .tc .vmem S3x256 .f32) fullShare ((dats m 0 c).after 10 t)
    ∗ owns (c : Thread nD τ) (win0_11.stage (cfg0.slots t 11) : Memref sig .tc .vmem S1x256 .f32) fullShare ((dats m 0 c).after 11 t)
    ∗ owns (c : Thread nD τ) (win0_12.stage (cfg0.slots t 12) : Memref sig .tc .vmem S1x256 .f32) fullShare ((dats m 0 c).after 12 t))

set_option maxHeartbeats 1200000 in
/-- The body at any point: the inputs' buffers hold their blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) : defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every run of the program ends with each array of the pipeline at its final contents, every other buffer as the
    pipeline found it, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end as they were and every counter is zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.ConvBwdIdeal.Grad

end
-- ==== Proof.ConvBits.lean ====
/- The frame of `conv_bwd` as compiled. `ConvBwd` and `ConvBwdIdeal` are one text, so their bodies, body tables and
   host parts are equal, and the run of the one is the run of the other. -/
module

public import proofs.«01_k».proof.Defs
public import proofs.«01_k».proof.Proof.Gen.ConvBwd
public import proofs.«01_k».proof.Proof.ConvRun

@[expose] public section

set_option maxRecDepth 65536
set_option maxHeartbeats 4000000

noncomputable section

namespace Cert.Proof.ConvBits

open Idealize.ShloMosaic Idealize.SL.Sem

theorem defs₀_eq : Cert.ConvBwdIdeal.defs₀ (F := Bits) = Cert.ConvBwd.defs₀ (F := Bits) := by
  unfold Cert.ConvBwdIdeal.defs₀ Cert.ConvBwd.defs₀
  refine congrArg (Defs.onTc (nD := Cert.ConvBwd.nD) (τ := Cert.ConvBwd.τ) (sig := Cert.ConvBwd.sig) (Val := Elt Bits) (Λ := Cert.ConvBwd.Λ₀))
    (funext fun l => funext fun a => ?_)
  obtain ⟨l, hl⟩ := l
  cases l with
  | zero => rfl
  | succ l => exact absurd hl (by omega)

theorem defs_eq : Cert.ConvBwdIdeal.defs (F := Bits) = Cert.ConvBwd.defs (F := Bits) := congrArg (Pipeline.defs Cert.ConvBwd.pcfgs) defs₀_eq

theorem main_eq : Cert.ConvBwdIdeal.main (F := Bits) = Cert.ConvBwd.main (F := Bits) := rfl

/-- A run carried along equal body tables and equal programs. -/
theorem θ_run_of_eq {Λ : Labels} {defs defs' : Defs Cert.ConvBwd.nD Cert.ConvBwd.τ Cert.ConvBwd.sig (Elt Bits) Λ}
    {main main' : Dev Cert.ConvBwd.nD → Prog (TpuEff Cert.ConvBwd.nD Cert.ConvBwd.τ Cert.ConvBwd.sig (Elt Bits) Λ .tc) PUnit}
    (hd : defs = defs') (hm : main = main') {s : MemSt Cert.ConvBwd.nD Cert.ConvBwd.τ Cert.ConvBwd.sig (Elt Bits)}
    {Q : PUnit × MemSt Cert.ConvBwd.nD Cert.ConvBwd.τ Cert.ConvBwd.sig (Elt Bits) → Prop}
    (h : θ_run defs (onTc main) s Q) : θ_run defs' (onTc main') s Q := by
  subst hd hm; exact h

theorem frame : Cert.quiescent_ConvBwd := fun m ρ _ =>
  θ_run_of_eq defs_eq main_eq (Cert.ConvBwdIdeal.Grad.run_frame (F := Bits) m ρ)

end Cert.Proof.ConvBits

end
-- ==== Proof.ConvBlock.lean ====
/- What one grid step of `conv_bwd` computes, over the extended reals.

   `D` is the gradient of the convolution's result, the product of the incoming gradient with the saved factor.
   A trip forms it for its own 1024 rows and for the rows next to them. The rows' gradient combines three
   neighbouring rows of `D`, the taps' gradients are three sums of products over all 4096 rows, and the bias's
   gradient is the sum of `D`. -/
module

public import proofs.«01_k».proof.Proof.ConvRun
public import Idealize.ShloMosaic.Lib.Pointwise
public import Idealize.ShloMosaic.Lib.KernelVsHost

@[expose] public section

set_option maxRecDepth 16384

noncomputable section

namespace Cert.ConvBwdIdeal.Grad

open Cert.ConvBwdIdeal Cert.ConvBwdIdeal.Gen
open Idealize.ShloMosaic
open Idealize.ShloMosaic.View (ld)

/-- Row `n` of `x` where the rows are counted from 16, zero outside the array. -/
def rowAt (x : Vec Ideal S4096x256 .bf16) (n : ℕ) (l : Fin 256) : EReal :=
  if h : 16 ≤ n ∧ n - 16 < 4096 then x (ix2 (⟨n - 16, h.2⟩ : Fin 4096) l) else 0

/-- Row `n` of the gradient of the convolution's result, counted from 1, zero outside the array. -/
def grad (a s : Vec Ideal S4096x256 .bf16) (n : ℕ) (l : Fin 256) : EReal := rowAt a (n + 15) l * rowAt s (n + 15) l

theorem trip_lt (k : Fin k0_t1_loop.trips) : k.val < 4 := trips_eq ▸ k.isLt

/-- The first rows are taken unless the trip is the first. -/
theorem first_trip : ∀ k : Fin k0_t1_loop.trips, Scalar.cmpi .sgt (start k) 0#32 = if k.val = 0 then 0#1 else 1#1 := by
  decide +kernel

/-- The last rows are taken unless the trip is the last. -/
theorem last_trip : ∀ k : Fin k0_t1_loop.trips,
    Scalar.cmpi .slt (Scalar.addi (start k) 1024#32) 4096#32 = if k.val = 3 then 0#1 else 1#1 := by
  decide +kernel

theorem off1_eq : ∀ k : Fin k0_t1_loop.trips, k0_off1 k = ![1024 * k.val - 16, 0] := by decide +kernel

/-- A rectangle's load at an index, the rectangle starting at `(o, 0)`. -/
theorem rowAt_ld {n : ℕ} (x : Vec Ideal S4096x256 .bf16) (off : Fin 2 → ℕ) (size : Fin 2 → ℕ)
    (inb : ∀ a, off a + size a ≤ S4096x256.size a) (o : ℕ) (ho : off = ![o, 0]) (j : (⟨2, size⟩ : Shape).Idx)
    (l : Fin 256) (hn : 16 ≤ n ∧ n - 16 < 4096) (h0 : o + (j 0).val = n - 16) (h1 : (j 1).val = l.val) :
    ld (Val := Elt Ideal) (e' := .bf16) x (Rect.unit (s := S4096x256) off size inb) j = rowAt x n l := by
  subst ho
  unfold rowAt
  rw [dif_pos hn]
  refine congrArg x (funext fun b => Fin.ext ?_)
  match b with
  | 0 => show o + 1 * (j 0).val = n - 16; omega
  | 1 => show 0 + 1 * (j 1).val = l.val; omega

theorem own_apply (x : Vec Ideal S4096x256 .bf16) (k : Fin k0_t1_loop.trips) (r : Fin 1024) (l : Fin 256) :
    own x k (ix2 r l) = rowAt x (1024 * k.val + r.val + 16) l := by
  have hk := trip_lt k
  have hr := r.isLt
  exact rowAt_ld (n := 1024 * k.val + r.val + 16) x _ _ _ _ (k0_off2_eq k) (ix2 r l) l (by omega) (by show 1024 * k.val + r.val = _; omega) rfl

theorem before_apply (x : Vec Ideal S4096x256 .bf16) (k : Fin k0_t1_loop.trips) (hk0 : k.val ≠ 0) (q : Fin 16) (l : Fin 256) :
    before x k (ix2 q l) = rowAt x (1024 * k.val + q.val) l := by
  have hk := trip_lt k
  have hq := q.isLt
  exact rowAt_ld (n := 1024 * k.val + q.val) x _ _ _ _ (off1_eq k) (ix2 q l) l (by omega) (by show 1024 * k.val - 16 + q.val = _; omega) rfl

theorem after_apply (x : Vec Ideal S4096x256 .bf16) (k : Fin k0_t1_loop.trips) (hk3 : k.val ≠ 3) (q : Fin 16) (l : Fin 256) :
    after x k (ix2 q l) = rowAt x (1024 * k.val + 1040 + q.val) l := by
  have hk := trip_lt k
  have hq := q.isLt
  exact rowAt_ld (n := 1024 * k.val + 1040 + q.val) x _ _ _ _ (k0_off3_eq k) (ix2 q l) l (by omega)
    (by show min (1024 * k.val + 1024) 4080 + q.val = _; omega) rfl

/-- The trip's rows with the halo, at an index. -/
theorem halo_apply (x : Vec Ideal S4096x256 .bf16) (k : Fin k0_t1_loop.trips) (q : Fin 1056) (l : Fin 256) :
    halo x k (ix2 q l) = rowAt x (1024 * k.val + q.val) l := by
  have hk := trip_lt k
  have hq := q.isLt
  have hz : (Scalar.ofBits (F := Ideal) .bf16 0x0000#16) = (0 : EReal) := Idealize.ShloMosaic.Ideal.ofBits_zero_bf16
  show concatenate S1056x256 0 [⟨S16x256, Scalar.select (Scalar.cmpi .sgt (start k) 0#32) (before x k) (broadcast S16x256 (Scalar.ofBits (F := Ideal) .bf16 0x0000#16))⟩,
    ⟨S1024x256, own x k⟩,
    ⟨S16x256, Scalar.select (Scalar.cmpi .slt (Scalar.addi (start k) 1024#32) 4096#32) (after x k) (broadcast S16x256 (Scalar.ofBits (F := Ideal) .bf16 0x0000#16))⟩] concatenates_S16x256_S1024x256_S16x256_S1056x256_d0 (ix2 q l) = _
  rw [first_trip, last_trip]
  by_cases h1 : q.val < 16
  · refine Eq.trans (concatenate_apply_piece (0 : Fin 2) _ _ (ix2 q l) 0 (by show 0 < 3; decide) S16x256 _ rfl rfl 0 rfl (ix2 (⟨q.val, h1⟩ : Fin 16) l)
      (fun b hb => ?_) (Nat.zero_add _)) ?_
    · match b with
      | 0 => exact absurd rfl hb
      | 1 => rfl
    · by_cases hk0 : k.val = 0
      · rw [if_pos hk0]
        refine hz.trans ?_
        unfold rowAt
        rw [dif_neg (by omega)]
      · rw [if_neg hk0]
        exact before_apply x k hk0 ⟨q.val, h1⟩ l
  · by_cases h2 : q.val < 1040
    · refine Eq.trans (concatenate_apply_piece (0 : Fin 2) _ _ (ix2 q l) 1 (by show 1 < 3; decide) S1024x256 _ rfl rfl 16 rfl
        (ix2 (⟨q.val - 16, by omega⟩ : Fin 1024) l) (fun b hb => ?_) (show 16 + (q.val - 16) = q.val by omega)) ?_
      · match b with
        | 0 => exact absurd rfl hb
        | 1 => rfl
      · rw [own_apply]
        exact congrArg (rowAt x · l) (show 1024 * k.val + (q.val - 16) + 16 = _ by omega)
    · refine Eq.trans (concatenate_apply_piece (0 : Fin 2) _ _ (ix2 q l) 2 (by show 2 < 3; decide) S16x256 _ rfl rfl 1040 rfl
        (ix2 (⟨q.val - 1040, by omega⟩ : Fin 16) l) (fun b hb => ?_) (show 1040 + (q.val - 1040) = q.val by omega)) ?_
      · match b with
        | 0 => exact absurd rfl hb
        | 1 => rfl
      · by_cases hk3 : k.val = 3
        · rw [if_pos hk3]
          refine hz.trans ?_
          unfold rowAt
          rw [dif_neg (by omega)]
        · rw [if_neg hk3]
          refine (after_apply x k hk3 ⟨q.val - 1040, by omega⟩ l).trans ?_
          exact congrArg (rowAt x · l) (show 1024 * k.val + 1040 + (q.val - 1040) = _ by omega)

/-! ## The gradient of the convolution's result, for a trip's rows -/

/-- The products of the two haloed arrays. -/
theorem products (a s : Vec Ideal S4096x256 .bf16) (k : Fin k0_t1_loop.trips) :
    k0_pay12 (start k) (halo a k) (k0_pay9 (before s k)) (k0_pay10 (own s k)) (k0_pay11 (after s k)) 0#32
      = mulf (halo a k) (halo s k) := by
  unfold k0_pay9 k0_pay10 k0_pay11
  simp only [shapeCast_self]
  rfl

theorem products_apply (a s : Vec Ideal S4096x256 .bf16) (k : Fin k0_t1_loop.trips) (q : Fin 1056) (l : Fin 256) :
    k0_pay12 (start k) (halo a k) (k0_pay9 (before s k)) (k0_pay10 (own s k)) (k0_pay11 (after s k)) 0#32 (ix2 q l)
      = rowAt a (1024 * k.val + q.val) l * rowAt s (1024 * k.val + q.val) l := by
  rw [products]
  show halo a k (ix2 q l) * halo s k (ix2 q l) = _
  rw [halo_apply, halo_apply]

theorem atRow_apply (a s : Vec Ideal S4096x256 .bf16) (k : Fin k0_t1_loop.trips) (r : Fin 1024) (l : Fin 256) :
    atRow a s k (ix2 r l) = grad a s (1024 * k.val + r.val + 1) l := by
  have hr := r.isLt
  unfold atRow k0_pay15
  refine (extractStridedSlice_apply ![16, 0] _ _ (ix2 r l) (ix2 (⟨16 + r.val, by omega⟩ : Fin 1056) l) (fun b => ?_)).trans ?_
  · match b with
    | 0 => rfl
    | 1 => exact (Nat.zero_add _).symm
  · rw [products_apply]
    show rowAt a (1024 * k.val + (16 + r.val)) l * rowAt s (1024 * k.val + (16 + r.val)) l = _
    rw [show 1024 * k.val + (16 + r.val) = 1024 * k.val + r.val + 1 + 15 by omega]
    rfl

theorem below_apply (a s : Vec Ideal S4096x256 .bf16) (k : Fin k0_t1_loop.trips) (r : Fin 1024) (l : Fin 256) :
    below a s k (ix2 r l) = grad a s (1024 * k.val + r.val + 2) l := by
  have hr := r.isLt
  unfold below k0_pay13
  refine (extractStridedSlice_apply ![16, 0] _ _ (ix2 r l) (ix2 (⟨16 + r.val, by omega⟩ : Fin 1056) l) (fun b => ?_)).trans ?_
  · match b with
    | 0 => rfl
    | 1 => exact (Nat.zero_add _).symm
  · refine (dynamicRotate_apply (0 : Fin 2) _ _ _ _ (ix2 (⟨17 + r.val, by omega⟩ : Fin 1056) l) (fun b => ?_)).trans ?_
    · match b with
      | 0 => show 17 + r.val = (16 + r.val + 1056 - 1055 % 1056) % 1056; omega
      | 1 => rfl
    · rw [products_apply]
      show rowAt a (1024 * k.val + (17 + r.val)) l * rowAt s (1024 * k.val + (17 + r.val)) l = _
      rw [show 1024 * k.val + (17 + r.val) = 1024 * k.val + r.val + 2 + 15 by omega]
      rfl

theorem above_apply (a s : Vec Ideal S4096x256 .bf16) (k : Fin k0_t1_loop.trips) (r : Fin 1024) (l : Fin 256) :
    above a s k (ix2 r l) = grad a s (1024 * k.val + r.val) l := by
  have hr := r.isLt
  unfold above k0_pay14
  refine (extractStridedSlice_apply ![16, 0] _ _ (ix2 r l) (ix2 (⟨16 + r.val, by omega⟩ : Fin 1056) l) (fun b => ?_)).trans ?_
  · match b with
    | 0 => rfl
    | 1 => exact (Nat.zero_add _).symm
  · refine (dynamicRotate_apply (0 : Fin 2) _ _ _ _ (ix2 (⟨15 + r.val, by omega⟩ : Fin 1056) l) (fun b => ?_)).trans ?_
    · match b with
      | 0 => show 15 + r.val = (16 + r.val + 1056 - 1 % 1056) % 1056; omega
      | 1 => rfl
    · rw [products_apply]
      show rowAt a (1024 * k.val + (15 + r.val)) l * rowAt s (1024 * k.val + (15 + r.val)) l = _
      rw [show 1024 * k.val + (15 + r.val) = 1024 * k.val + r.val + 15 by omega]
      rfl

theorem dRows_apply (a s : Vec Ideal S4096x256 .bf16) (w : Vec Ideal S3x256 .f32) (k : Fin k0_t1_loop.trips) (r : Fin 1024) (l : Fin 256) :
    dRows a s w k (ix2 r l)
      = w (ix2 (0 : Fin 3) l) * grad a s (1024 * k.val + r.val + 2) l + w (ix2 (1 : Fin 3) l) * grad a s (1024 * k.val + r.val + 1) l
        + w (ix2 (2 : Fin 3) l) * grad a s (1024 * k.val + r.val) l := by
  rw [← below_apply, ← atRow_apply, ← above_apply]
  unfold dRows k0_pay17 below atRow above
  generalize k0_pay13 (F := Ideal) _ _ _ _ _ _ = A
  generalize k0_pay15 (F := Ideal) _ _ _ _ _ _ = B
  generalize k0_pay14 (F := Ideal) _ _ _ _ _ _ = C
  pointwise

end Cert.ConvBwdIdeal.Grad

end
-- ==== Proof.ConvSums.lean ====
/- The outputs of one grid step of `conv_bwd` at an index: the rows' gradient as three products, and the gradients of
   the taps and of the bias as sums over all 4096 rows. -/
module

public import proofs.«01_k».proof.Proof.ConvBlock

@[expose] public section

set_option maxRecDepth 16384

noncomputable section

namespace Cert.ConvBwdIdeal.Grad

open Cert.ConvBwdIdeal Cert.ConvBwdIdeal.Gen
open Idealize.ShloMosaic
open Idealize.ShloMosaic.View (ld)

theorem inTrip_eq (t : Fin 4096) (l : Fin 256) : inTrip (ix2 t l) = ix2 (⟨t.val % 1024, Nat.mod_lt _ (by decide)⟩ : Fin 1024) l :=
  funext fun b => Fin.ext (by
    match b with
    | 0 => show t.val - 1024 * (t.val / 1024) = t.val % 1024; omega
    | 1 => show l.val - 0 = l.val; omega)

/-- The rows' gradient at row `t`. -/
theorem rowsAll_apply (a s : Vec Ideal S4096x256 .bf16) (w : Vec Ideal S3x256 .f32) (t : Fin 4096) (l : Fin 256) :
    rowsAll a s w (ix2 t l)
      = w (ix2 (0 : Fin 3) l) * grad a s (t.val + 2) l + w (ix2 (1 : Fin 3) l) * grad a s (t.val + 1) l
        + w (ix2 (2 : Fin 3) l) * grad a s t.val l := by
  show dRows a s w (tripOf (ix2 t l)) (inTrip (ix2 t l)) = _
  rw [inTrip_eq, dRows_apply]
  have e : 1024 * (tripOf (ix2 t l)).val + t.val % 1024 = t.val := by
    show 1024 * (t.val / 1024) + t.val % 1024 = t.val
    omega
  show w _ * grad a s (1024 * (tripOf (ix2 t l)).val + t.val % 1024 + 2) l + w _ * grad a s (1024 * (tripOf (ix2 t l)).val + t.val % 1024 + 1) l
    + w _ * grad a s (1024 * (tripOf (ix2 t l)).val + t.val % 1024) l = _
  rw [e]

theorem addSum_apply (d : FVec Ideal S1024x256 .f32) (v : Vec Ideal S1x256 .f32) (l : Fin 256) :
    addSum d v (ix2 (0 : Fin 1) l) = v (ix2 (0 : Fin 1) l) + ∑ r : Fin 1024, d (ix2 r l) := by
  pointwise [addSum]

theorem addTap_apply (d : FVec Ideal S1024x256 .f32) (x : FVec Ideal S1024x256 .bf16) (v : Vec Ideal S1x256 .f32) (l : Fin 256) :
    addTap d x v (ix2 (0 : Fin 1) l) = v (ix2 (0 : Fin 1) l) + ∑ r : Fin 1024, d (ix2 r l) * x (ix2 r l) := by
  unfold addTap
  rw [addSum_apply]
  rfl

/-- A sum over the rows of the first `k + 1` trips. -/
theorem sum_trip (f : ℕ → EReal) (k : ℕ) :
    ∑ n ∈ Finset.range (1024 * (k + 1)), f n = ∑ n ∈ Finset.range (1024 * k), f n + ∑ r : Fin 1024, f (1024 * k + r.val) := by
  rw [show 1024 * (k + 1) = 1024 * k + 1024 by ring, Finset.sum_range_add]
  exact congrArg _ (Fin.sum_univ_eq_sum_range (fun r => f (1024 * k + r)) 1024).symm

theorem biasTo_apply (a s : Vec Ideal S4096x256 .bf16) (g : Vec Ideal S1x256 .f32) (l : Fin 256) : ∀ k : ℕ, k ≤ 4 →
    biasTo a s g k (ix2 (0 : Fin 1) l) = g (ix2 (0 : Fin 1) l) + ∑ n ∈ Finset.range (1024 * k), grad a s (n + 1) l
  | 0, _ => by
    show g _ = _
    rw [Nat.mul_zero, Finset.sum_range_zero, add_zero]
  | k + 1, hk => by
    have hk' : k < k0_t1_loop.trips := by rw [trips_eq]; omega
    have e := congrFun (biasTo_succ a s g ⟨k, hk'⟩) (ix2 (0 : Fin 1) l)
    refine e.trans ?_
    rw [addSum_apply, biasTo_apply a s g l k (by omega), sum_trip, add_assoc]
    refine congrArg _ (congrArg _ (Finset.sum_congr rfl fun r _ => ?_))
    exact atRow_apply a s ⟨k, hk'⟩ r l

/-- The bias's gradient. -/
theorem biasAll_apply (a s : Vec Ideal S4096x256 .bf16) (l : Fin 256) :
    biasAll a s (ix2 (0 : Fin 1) l) = ∑ n ∈ Finset.range 4096, grad a s (n + 1) l := by
  have h0 : k0_pay3 (F := Ideal) (ix2 (0 : Fin 1) l) = (0 : EReal) := Ideal.ofBits_zero_f32
  refine (biasTo_apply a s _ l 4 le_rfl).trans ?_
  rw [h0, zero_add]

/-- Tap `i` meets the row `2 - i` rows further down than the row it is at. -/
theorem tapsTo_apply (a s x : Vec Ideal S4096x256 .bf16) (g : Vec Ideal S3x256 .f32) (i : Fin 3) (l : Fin 256) : ∀ k : ℕ, k ≤ 4 →
    tapsTo a s x g k (ix2 i l)
      = g (ix2 i l) + ∑ n ∈ Finset.range (1024 * k), grad a s (n + (2 - i.val)) l * rowAt x (n + 16) l
  | 0, _ => by
    show g _ = _
    rw [Nat.mul_zero, Finset.sum_range_zero, add_zero]
  | k + 1, hk => by
    have hk' : k < k0_t1_loop.trips := by rw [trips_eq]; omega
    have e := congrFun (tapsTo_succ a s x g ⟨k, hk'⟩) (ix2 i l)
    refine e.trans ?_
    have ih := tapsTo_apply a s x g i l k (by omega)
    rw [sum_trip, ← add_assoc, ← ih]
    have hin (o : Fin 3) (i : Fin 3) (h : i = o) : ∀ b, (![o.val, 0] : Fin 2 → ℕ) b ≤ ((ix2 i l : S3x256.Idx) b).val
        ∧ ((ix2 i l : S3x256.Idx) b).val < (![o.val, 0] : Fin 2 → ℕ) b + S1x256.size b := fun b => by
      have := l.isLt
      match b with
      | 0 => subst h; exact ⟨le_rfl, Nat.lt_succ_self _⟩
      | 1 => exact ⟨Nat.zero_le _, by show l.val < 0 + 256; omega⟩
    have hout (o : Fin 3) (i : Fin 3) (h : i ≠ o) : ¬ ∀ b, (![o.val, 0] : Fin 2 → ℕ) b ≤ ((ix2 i l : S3x256.Idx) b).val
        ∧ ((ix2 i l : S3x256.Idx) b).val < (![o.val, 0] : Fin 2 → ℕ) b + S1x256.size b := fun hb => h (Fin.ext (by
      have h0 : o.val ≤ i.val ∧ i.val < o.val + 1 := hb 0
      omega))
    have hix (o : Fin 3) (hb : ∀ b, (![o.val, 0] : Fin 2 → ℕ) b ≤ ((ix2 o l : S3x256.Idx) b).val
        ∧ ((ix2 o l : S3x256.Idx) b).val < (![o.val, 0] : Fin 2 → ℕ) b + S1x256.size b) :
        (Rect.unitLocal (s := S3x256) (off := ![o.val, 0]) (size := S1x256.size) (ix2 o l) hb : S1x256.Idx) = ix2 (0 : Fin 1) l :=
      funext fun b => Fin.ext (by
        match b with
        | 0 => show o.val - o.val = 0; omega
        | 1 => show l.val - 0 = l.val; omega)
    have hr (o : Fin 3) (inb) (v : Vec Ideal S3x256 .f32) :
        ld (Val := Elt Ideal) (e' := .f32) v (Rect.unit (s := S3x256) ![o.val, 0] S1x256.size inb) (ix2 (0 : Fin 1) l) = v (ix2 o l) :=
      congrArg v (funext fun b => Fin.ext (by
        match b with
        | 0 => show o.val + 1 * 0 = o.val; omega
        | 1 => show 0 + 1 * l.val = l.val; omega))
    have hx (r : Fin 1024) : own x ⟨k, hk'⟩ (ix2 r l) = rowAt x (1024 * k + r.val + 16) l := own_apply x ⟨k, hk'⟩ r l
    match i with
    | 0 =>
      refine (dif_neg (hout 2 0 (by decide))).trans ((dif_neg (hout 1 0 (by decide))).trans ((dif_pos (hin 0 0 rfl)).trans ?_))
      rw [hix 0, addTap_apply]
      refine congrArg₂ (· + ·) (hr 0 _ _) (Finset.sum_congr rfl fun r _ => ?_)
      rw [below_apply, hx]
      rfl
    | 1 =>
      refine (dif_neg (hout 2 1 (by decide))).trans ((dif_pos (hin 1 1 rfl)).trans ?_)
      rw [hix 1, addTap_apply]
      refine congrArg₂ (· + ·) (hr 1 _ _) (Finset.sum_congr rfl fun r _ => ?_)
      rw [atRow_apply, hx]
      rfl
    | 2 =>
      refine (dif_pos (hin 2 2 rfl)).trans ?_
      rw [hix 2, addTap_apply]
      refine congrArg₂ (· + ·) (hr 2 _ _) (Finset.sum_congr rfl fun r _ => ?_)
      rw [above_apply, hx]
      rfl

/-- The taps' gradient. -/
theorem tapsAll_apply (a s x : Vec Ideal S4096x256 .bf16) (i : Fin 3) (l : Fin 256) :
    tapsAll a s x (ix2 i l) = ∑ n ∈ Finset.range 4096, grad a s (n + (2 - i.val)) l * rowAt x (n + 16) l := by
  have h0 : k0_pay1 (F := Ideal) (ix2 i l) = (0 : EReal) := Ideal.ofBits_zero_f32
  refine (tapsTo_apply a s x _ i l 4 le_rfl).trans ?_
  rw [h0, zero_add]

end Cert.ConvBwdIdeal.Grad

end
-- ==== Proof.ConvArray.lean ====
/- What the result arrays of `conv_bwd` hold, over the extended reals, as functions of the whole arrays that it reads.

   Grid step `t` takes the 256 columns from `256 t` of every array; the second half of the convolution's channels lies
   2816 columns to the right in its input and its taps. -/
module

public import proofs.«01_k».proof.Proof.ConvSums
public import Idealize.ShloMosaic.Lib.Pipeline.ValueKit

@[expose] public section

set_option maxRecDepth 16384

noncomputable section

namespace Cert.ConvBwdIdeal.Grad

open Cert.ConvBwdIdeal Cert.ConvBwdIdeal.Gen
open Idealize.ShloMosaic Idealize.ShloMosaic.TcCoe Idealize.ShloMosaic.Tactic

/-- Row `n` of a whole array where the rows are counted from 1, zero outside the array. -/
def rowOf {C : ℕ} (x : Vec Ideal ⟨2, ![4096, C]⟩ .bf16) (n : ℕ) (j : Fin C) : EReal :=
  if h : 1 ≤ n ∧ n - 1 < 4096 then x (ix2 (⟨n - 1, h.2⟩ : Fin 4096) j) else 0

/-- Row `n` of the gradient of the convolution's result, whole arrays. -/
def gradOf (a s : Vec Ideal S4096x2816 .bf16) (n : ℕ) (j : Fin 2816) : EReal := rowOf a n j * rowOf s n j

/-- Column `j` of the left half of the channels, and of the right half. -/
def left (j : Fin 2816) : Fin 5632 := ⟨j.val, by omega⟩
@[inherit_doc left] def right (j : Fin 2816) : Fin 5632 := ⟨2816 + j.val, by omega⟩

/-- The gradient with respect to the convolution's input, -/
def rowsArr (half : Fin 2816 → Fin 5632) (a s : Vec Ideal S4096x2816 .bf16) (w : Vec Ideal S3x5632 .f32) : Vec Ideal S4096x2816 .bf16 := fun y =>
  w (ix2 (0 : Fin 3) (half (y 1))) * gradOf a s ((y 0).val + 2) (y 1) + w (ix2 (1 : Fin 3) (half (y 1))) * gradOf a s ((y 0).val + 1) (y 1)
    + w (ix2 (2 : Fin 3) (half (y 1))) * gradOf a s (y 0).val (y 1)

/-- to its taps, -/
def tapsArr (half : Fin 2816 → Fin 5632) (a s : Vec Ideal S4096x2816 .bf16) (x : Vec Ideal S4096x5632 .bf16) : Vec Ideal S3x2816 .f32 := fun y =>
  ∑ n ∈ Finset.range 4096, gradOf a s (n + (2 - (y 0).val)) (y 1) * rowOf x (n + 1) (half (y 1))

/-- and to its bias. -/
def biasArr (a s : Vec Ideal S4096x2816 .bf16) : Vec Ideal S1x2816 .f32 := fun y =>
  ∑ n ∈ Finset.range 4096, gradOf a s (n + 1) (y 1)

/-! ## The blocks of a grid step in the whole arrays -/

section Blocks
variable (m : (ℓ : Loc nD τ sig) → Buf (Elt Ideal) ℓ) (c : Dev nD) (t : Fin cfg0.N)

theorem idx : ∀ t : Fin cfg0.N, win0_0.index t = ![0, t.val] ∧ win0_1.index t = ![0, t.val] ∧ win0_2.index t = ![0, t.val]
    ∧ win0_3.index t = ![0, t.val] ∧ win0_4.index t = ![0, t.val + 11] ∧ win0_5.index t = ![0, t.val] ∧ win0_6.index t = ![0, t.val + 11]
    ∧ win0_7.index t = ![0, t.val] ∧ win0_8.index t = ![0, t.val] ∧ win0_9.index t = ![0, t.val] ∧ win0_10.index t = ![0, t.val]
    ∧ win0_11.index t = ![0, t.val] ∧ win0_12.index t = ![0, t.val] := by decide +kernel

theorem point_lt : t.val < 11 := t.isLt

/-- Column `l` of step `t`. -/
def col (t : Fin cfg0.N) (l : Fin 256) : Fin 2816 := ⟨256 * t.val + l.val, by have := point_lt t; omega⟩

theorem rowAt_block {C : ℕ} (b : Vec Ideal S4096x256 .bf16) (x : Vec Ideal ⟨2, ![4096, C]⟩ .bf16) (l : Fin 256) (j : Fin C)
    (h : ∀ r : Fin 4096, b (ix2 r l) = x (ix2 r j)) (n : ℕ) : rowAt b (n + 15) l = rowOf x n j := by
  unfold rowAt rowOf
  by_cases hn : 1 ≤ n ∧ n - 1 < 4096
  · rw [dif_pos hn, dif_pos (by omega), ← h]
    exact congrArg (fun r : Fin 4096 => b (ix2 r l)) (Fin.ext (by show n + 15 - 16 = n - 1; omega))
  · rw [dif_neg hn, dif_neg (by omega)]

theorem block0 (r : Fin 4096) (l : Fin 256) : (iblk m c 0 t : Vec Ideal S4096x256 .bf16) (ix2 r l) = V m c main_arg3 (ix2 r (col t l)) := by
  unfold col; blk_ext [iblk, idx t]
theorem block1 (r : Fin 4096) (l : Fin 256) : (iblk m c 1 t : Vec Ideal S4096x256 .bf16) (ix2 r l) = V m c main_v23 (ix2 r (col t l)) := by
  unfold col; blk_ext [iblk, idx t]
theorem block2 (r : Fin 4096) (l : Fin 256) : (iblk m c 2 t : Vec Ideal S4096x256 .bf16) (ix2 r l) = V m c main_v24 (ix2 r (col t l)) := by
  unfold col; blk_ext [iblk, idx t]
theorem block3 (r : Fin 4096) (l : Fin 256) : (iblk m c 3 t : Vec Ideal S4096x256 .bf16) (ix2 r l) = V m c main_arg0 (ix2 r (left (col t l))) := by
  unfold left col; blk_ext [iblk, idx t]
theorem block4 (r : Fin 4096) (l : Fin 256) : (iblk m c 4 t : Vec Ideal S4096x256 .bf16) (ix2 r l) = V m c main_arg0 (ix2 r (right (col t l))) := by
  unfold right col; blk_ext [iblk, idx t]
theorem block5 (r : Fin 3) (l : Fin 256) : (iblk m c 5 t : Vec Ideal S3x256 .f32) (ix2 r l) = V m c main_arg1 (ix2 r (left (col t l))) := by
  unfold left col; blk_ext [iblk, idx t]
theorem block6 (r : Fin 3) (l : Fin 256) : (iblk m c 6 t : Vec Ideal S3x256 .f32) (ix2 r l) = V m c main_arg1 (ix2 r (right (col t l))) := by
  unfold right col; blk_ext [iblk, idx t]

theorem grad_gate (n : ℕ) (l : Fin 256) : grad (iblk m c 0 t) (iblk m c 2 t) n l = gradOf (V m c main_arg3) (V m c main_v24) n (col t l) :=
  congrArg₂ _ (rowAt_block _ _ l _ (fun r => block0 m c t r l) n) (rowAt_block _ _ l _ (fun r => block2 m c t r l) n)
theorem grad_up (n : ℕ) (l : Fin 256) : grad (iblk m c 0 t) (iblk m c 1 t) n l = gradOf (V m c main_arg3) (V m c main_v23) n (col t l) :=
  congrArg₂ _ (rowAt_block _ _ l _ (fun r => block0 m c t r l) n) (rowAt_block _ _ l _ (fun r => block1 m c t r l) n)

end Blocks

/-! ## The result arrays -/

section Arrays
variable (m : (ℓ : Loc nD τ sig) → Buf (Elt Ideal) ℓ) (c : Dev nD)

theorem eta {R C : ℕ} (y : (⟨2, ![R, C]⟩ : Shape).Idx) : y = ix2 (y 0) (y 1) := by
  funext a; match a with | 0 => rfl | 1 => rfl

theorem final7 : (dats m 0 c).arrAt 7 cfg0.N = rowsArr left (V m c main_arg3) (V m c main_v24) (V m c main_arg1) := by
  refine (dats m 0 c).arrAt_eq_of_covers 7 _ (by decide +kernel) fun t hf (y : S4096x256.Idx) => ?_
  obtain ⟨r, l, rfl⟩ : ∃ (r : Fin 4096) (l : Fin 256), y = ix2 r l := ⟨y 0, y 1, eta y⟩
  have he : (win0_7.blk t).view.emb (ix2 r l : S4096x256.Idx) = (ix2 r (col t l) : S4096x2816.Idx) := by unfold col; blk_ext [idx t]
  blk_simp
  rw [after_7, he]
  refine (rowsAll_apply _ _ _ r l).trans ?_
  rw [grad_gate, grad_gate, grad_gate, block5, block5, block5]
  rfl

theorem final8 : (dats m 0 c).arrAt 8 cfg0.N = rowsArr right (V m c main_arg3) (V m c main_v23) (V m c main_arg1) := by
  refine (dats m 0 c).arrAt_eq_of_covers 8 _ (by decide +kernel) fun t hf (y : S4096x256.Idx) => ?_
  obtain ⟨r, l, rfl⟩ : ∃ (r : Fin 4096) (l : Fin 256), y = ix2 r l := ⟨y 0, y 1, eta y⟩
  have he : (win0_8.blk t).view.emb (ix2 r l : S4096x256.Idx) = (ix2 r (col t l) : S4096x2816.Idx) := by unfold col; blk_ext [idx t]
  blk_simp
  rw [after_8, he]
  refine (rowsAll_apply _ _ _ r l).trans ?_
  rw [grad_up, grad_up, grad_up, block6, block6, block6]
  rfl

theorem final9 : (dats m 0 c).arrAt 9 cfg0.N = tapsArr left (V m c main_arg3) (V m c main_v24) (V m c main_arg0) := by
  refine (dats m 0 c).arrAt_eq_of_covers 9 _ (by decide +kernel) fun t hf (y : S3x256.Idx) => ?_
  obtain ⟨r, l, rfl⟩ : ∃ (r : Fin 3) (l : Fin 256), y = ix2 r l := ⟨y 0, y 1, eta y⟩
  have he : (win0_9.blk t).view.emb (ix2 r l : S3x256.Idx) = (ix2 r (col t l) : S3x2816.Idx) := by unfold col; blk_ext [idx t]
  blk_simp
  rw [after_9, he]
  refine (tapsAll_apply _ _ _ r l).trans (Finset.sum_congr rfl fun n _ => ?_)
  exact congrArg₂ _ (grad_gate m c t _ _) (rowAt_block _ _ l _ (fun r => block3 m c t r l) (n + 1))

theorem final10 : (dats m 0 c).arrAt 10 cfg0.N = tapsArr right (V m c main_arg3) (V m c main_v23) (V m c main_arg0) := by
  refine (dats m 0 c).arrAt_eq_of_covers 10 _ (by decide +kernel) fun t hf (y : S3x256.Idx) => ?_
  obtain ⟨r, l, rfl⟩ : ∃ (r : Fin 3) (l : Fin 256), y = ix2 r l := ⟨y 0, y 1, eta y⟩
  have he : (win0_10.blk t).view.emb (ix2 r l : S3x256.Idx) = (ix2 r (col t l) : S3x2816.Idx) := by unfold col; blk_ext [idx t]
  blk_simp
  rw [after_10, he]
  refine (tapsAll_apply _ _ _ r l).trans (Finset.sum_congr rfl fun n _ => ?_)
  exact congrArg₂ _ (grad_up m c t _ _) (rowAt_block _ _ l _ (fun r => block4 m c t r l) (n + 1))

theorem final11 : (dats m 0 c).arrAt 11 cfg0.N = biasArr (V m c main_arg3) (V m c main_v24) := by
  refine (dats m 0 c).arrAt_eq_of_covers 11 _ (by decide +kernel) fun t hf (y : S1x256.Idx) => ?_
  obtain ⟨r, l, rfl⟩ : ∃ (r : Fin 1) (l : Fin 256), y = ix2 r l := ⟨y 0, y 1, eta y⟩
  have he : (win0_11.blk t).view.emb (ix2 r l : S1x256.Idx) = (ix2 r (col t l) : S1x2816.Idx) := by unfold col; blk_ext [idx t]
  blk_simp
  rw [after_11, he]
  obtain rfl : r = 0 := Subsingleton.elim _ _
  exact (biasAll_apply _ _ l).trans (Finset.sum_congr rfl fun n _ => grad_gate m c t _ _)

theorem final12 : (dats m 0 c).arrAt 12 cfg0.N = biasArr (V m c main_arg3) (V m c main_v23) := by
  refine (dats m 0 c).arrAt_eq_of_covers 12 _ (by decide +kernel) fun t hf (y : S1x256.Idx) => ?_
  obtain ⟨r, l, rfl⟩ : ∃ (r : Fin 1) (l : Fin 256), y = ix2 r l := ⟨y 0, y 1, eta y⟩
  have he : (win0_12.blk t).view.emb (ix2 r l : S1x256.Idx) = (ix2 r (col t l) : S1x2816.Idx) := by unfold col; blk_ext [idx t]
  blk_simp
  rw [after_12, he]
  obtain rfl : r = 0 := Subsingleton.elim _ _
  exact (biasAll_apply _ _ l).trans (Finset.sum_congr rfl fun n _ => grad_up m c t _ _)

end Arrays

end Cert.ConvBwdIdeal.Grad

end
-- ==== Proof.ConvRef.lean ====
/- The gradient of the gated convolution as the reference writes it, in named steps, and each step at an index over
   the extended reals.

   `hidden` is the convolution's result, of which the left half is the gate and the right half is gated. `dHidden` is
   the gradient with respect to it, `dInput` the one with respect to the convolution's input, `dTaps` with respect to
   its taps, and `total` its sum over the rows, which is the gradient with respect to the bias. -/
module

public import proofs.«01_k».proof.Proof.Gen.ConvRefIdeal.Run
public import Idealize.ShloMosaic.Lib.Pointwise
public import Idealize.ShloMosaic.Lib.KernelVsHost

@[expose] public section

set_option maxRecDepth 16384

noncomputable section

namespace Cert.ConvRefIdeal.Grad

open Cert.ConvRefIdeal Cert.ConvRefIdeal.Gen
open Idealize.ShloMosaic

/-! ## The steps -/

abbrev zero : FVec Ideal S_ .f32 := constant S_ .f32 0x00000000#32

/-- The input with a row of zeros on either side. -/
def padded (hu : FVec Ideal S4096x5632 .bf16) : FVec Ideal S4098x5632 .f32 :=
  concatenate S4098x5632 0 [⟨S1x5632, broadcastInDim S1x5632 ![] bcast_S_S1x5632 zero⟩, ⟨S4096x5632, extf .f32 hu bitsLt_bf16_f32⟩,
    ⟨S1x5632, broadcastInDim S1x5632 ![] bcast_S_S1x5632 zero⟩] concatenates_S1x5632_S4096x5632_S1x5632_S4098x5632_d0

abbrev rows0 (p : FVec Ideal S4098x5632 .f32) : FVec Ideal S4096x5632 .f32 := extractStridedSlice S4096x5632 ![0, 0] p slices_S4098x5632_S4096x5632_0_0
abbrev rows1 (p : FVec Ideal S4098x5632 .f32) : FVec Ideal S4096x5632 .f32 := extractStridedSlice S4096x5632 ![1, 0] p slices_S4098x5632_S4096x5632_1_0
abbrev rows2 (p : FVec Ideal S4098x5632 .f32) : FVec Ideal S4096x5632 .f32 := extractStridedSlice S4096x5632 ![2, 0] p slices_S4098x5632_S4096x5632_2_0

/-- A row over all rows. -/
abbrev spread (x : FVec Ideal S1x5632 .f32) : FVec Ideal S4096x5632 .f32 := broadcastInDim S4096x5632 ![0, 1] bcast_S1x5632_S4096x5632_0_1 x
abbrev tap0 (w : FVec Ideal S3x5632 .f32) : FVec Ideal S4096x5632 .f32 := spread (extractStridedSlice S1x5632 ![0, 0] w slices_S3x5632_S1x5632_0_0)
abbrev tap1 (w : FVec Ideal S3x5632 .f32) : FVec Ideal S4096x5632 .f32 := spread (extractStridedSlice S1x5632 ![1, 0] w slices_S3x5632_S1x5632_1_0)
abbrev tap2 (w : FVec Ideal S3x5632 .f32) : FVec Ideal S4096x5632 .f32 := spread (extractStridedSlice S1x5632 ![2, 0] w slices_S3x5632_S1x5632_2_0)

def hidden (hu : FVec Ideal S4096x5632 .bf16) (w : FVec Ideal S3x5632 .f32) (b : FVec Ideal S1x5632 .f32) : FVec Ideal S4096x5632 .f32 :=
  addf (addf (addf (mulf (tap0 w) (rows0 (padded hu))) (mulf (tap1 w) (rows1 (padded hu)))) (mulf (tap2 w) (rows2 (padded hu)))) (spread b)

abbrev gate (h : FVec Ideal S4096x5632 .f32) : FVec Ideal S4096x2816 .f32 := extractStridedSlice S4096x2816 ![0, 0] h slices_S4096x5632_S4096x2816_0_0
abbrev up (h : FVec Ideal S4096x5632 .f32) : FVec Ideal S4096x2816 .f32 := extractStridedSlice S4096x2816 ![0, 2816] h slices_S4096x5632_S4096x2816_0_2816
abbrev ones : FVec Ideal S4096x2816 .f32 := broadcastInDim S4096x2816 ![] bcast_S_S4096x2816 (constant S_ .f32 0x3F800000#32)

/-- The logistic function, and its derivative in terms of it. -/
def sigma (g : FVec Ideal S4096x2816 .f32) : FVec Ideal S4096x2816 .f32 := Host.divf ones (addf ones (Host.exp (Host.negf g)))
@[inherit_doc sigma] def slope (g : FVec Ideal S4096x2816 .f32) : FVec Ideal S4096x2816 .f32 := mulf (sigma g) (subf ones (sigma g))

def dUp (g : FVec Ideal S4096x2816 .f32) (da : FVec Ideal S4096x2816 .bf16) : FVec Ideal S4096x2816 .f32 :=
  mulf (mulf g (sigma g)) (extf .f32 da bitsLt_bf16_f32)
def dGate (g u : FVec Ideal S4096x2816 .f32) (da : FVec Ideal S4096x2816 .bf16) : FVec Ideal S4096x2816 .f32 :=
  addf (mulf (mulf (extf .f32 da bitsLt_bf16_f32) u) (sigma g)) (mulf (mulf g (mulf (extf .f32 da bitsLt_bf16_f32) u)) (slope g))

def dHidden (g u : FVec Ideal S4096x2816 .f32) (da : FVec Ideal S4096x2816 .bf16) : FVec Ideal S4096x5632 .f32 :=
  addf (pad S4096x5632 ![0, 2816] ![0, 0] ![0, 0] (dUp g da) zero pads_S4096x2816_S4096x5632_000_281600 h_S_)
    (pad S4096x5632 ![0, 0] ![0, 2816] ![0, 0] (dGate g u da) zero pads_S4096x2816_S4096x5632_000_028160 h_S_)

def total (d : FVec Ideal S4096x5632 .f32) : FVec Ideal S1x5632 .f32 :=
  shapeCast S1x5632 (Host.reduceAdd d zero reducesTo_S4096x5632_S5632_d0 h_S_) shapeCasts_S5632_S1x5632

def dTaps (d : FVec Ideal S4096x5632 .f32) (p : FVec Ideal S4098x5632 .f32) : FVec Ideal S3x5632 .f32 :=
  addf (addf (pad S3x5632 ![2, 0] ![0, 0] ![0, 0] (total (mulf d (rows2 p))) zero pads_S1x5632_S3x5632_200_000 h_S_)
      (pad S3x5632 ![1, 0] ![1, 0] ![0, 0] (total (mulf d (rows1 p))) zero pads_S1x5632_S3x5632_110_000 h_S_))
    (pad S3x5632 ![0, 0] ![2, 0] ![0, 0] (total (mulf d (rows0 p))) zero pads_S1x5632_S3x5632_020_000 h_S_)

def dInput (w : FVec Ideal S3x5632 .f32) (d : FVec Ideal S4096x5632 .f32) : FVec Ideal S4096x5632 .f32 :=
  extractStridedSlice S4096x5632 ![1, 0]
    (addf (addf (pad S4098x5632 ![2, 0] ![0, 0] ![0, 0] (mulf (tap2 w) d) zero pads_S4096x5632_S4098x5632_200_000 h_S_)
        (pad S4098x5632 ![1, 0] ![1, 0] ![0, 0] (mulf (tap1 w) d) zero pads_S4096x5632_S4098x5632_110_000 h_S_))
      (pad S4098x5632 ![0, 0] ![2, 0] ![0, 0] (mulf (tap0 w) d) zero pads_S4096x5632_S4098x5632_020_000 h_S_))
    slices_S4098x5632_S4096x5632_1_0

/-! ## The reference's results in these steps -/

section Results
variable (m : (ℓ : Loc nD τ sig) → Buf (Elt Ideal) ℓ) (c : Dev nD)

abbrev hu : FVec Ideal S4096x5632 .bf16 := m ((c.tc : Thread nD τ).loc main_arg0)
abbrev cw : FVec Ideal S3x5632 .f32 := m ((c.tc : Thread nD τ).loc main_arg1)
abbrev cb : FVec Ideal S1x5632 .f32 := m ((c.tc : Thread nD τ).loc main_arg2)
abbrev da : FVec Ideal S4096x2816 .bf16 := m ((c.tc : Thread nD τ).loc main_arg3)
abbrev dH : FVec Ideal S4096x5632 .f32 :=
  dHidden (gate (hidden (hu m c) (cw m c) (cb m c))) (up (hidden (hu m c) (cw m c) (cb m c))) (da m c)

set_option maxHeartbeats 4000000

theorem out0_eq : Value.res_out0 m c = truncf .bf16 (extractStridedSlice S4096x2816 ![0, 0] (dInput (cw m c) (dH m c)) slices_S4096x5632_S4096x2816_0_0) bitsLt_bf16_f32 := rfl
theorem out1_eq : Value.res_out1 m c = truncf .bf16 (extractStridedSlice S4096x2816 ![0, 2816] (dInput (cw m c) (dH m c)) slices_S4096x5632_S4096x2816_0_2816) bitsLt_bf16_f32 := rfl
theorem out2_eq : Value.res_out2 m c = extractStridedSlice S3x2816 ![0, 0] (dTaps (dH m c) (padded (hu m c))) slices_S3x5632_S3x2816_0_0 := rfl
theorem out3_eq : Value.res_out3 m c = extractStridedSlice S3x2816 ![0, 2816] (dTaps (dH m c) (padded (hu m c))) slices_S3x5632_S3x2816_0_2816 := rfl
theorem out4_eq : Value.res_out4 m c = extractStridedSlice S1x2816 ![0, 0] (total (dH m c)) slices_S1x5632_S1x2816_0_0 := rfl
theorem out5_eq : Value.res_out5 m c = extractStridedSlice S1x2816 ![0, 2816] (total (dH m c)) slices_S1x5632_S1x2816_0_2816 := rfl

end Results

/-! ## The steps at an index -/

section Pads
variable {R C R' C' : ℕ} (x : FVec Ideal ⟨2, ![R, C]⟩ .f32)

/-- Rows of zeros on either side, at an index. -/
theorem padRows_apply (lo hi : ℕ) (h : (⟨2, ![R, C]⟩ : Shape).Pads ![lo, 0] ![hi, 0] ![0, 0] ⟨2, ![R', C]⟩) (n : Fin R') (j : Fin C) :
    pad ⟨2, ![R', C]⟩ ![lo, 0] ![hi, 0] ![0, 0] x zero h h_S_ (ix2 n j)
      = if h : lo ≤ n.val ∧ n.val - lo < R then x (ix2 (⟨n.val - lo, h.2⟩ : Fin R) j) else (0 : EReal) := by
  by_cases hn : lo ≤ n.val ∧ n.val - lo < R
  · rw [dif_pos hn]
    refine pad_apply_of_inside _ _ _ x zero h h_S_ (ix2 n j) (ix2 (⟨n.val - lo, hn.2⟩ : Fin R) j) (fun a => ?_)
    match a with
    | 0 => show n.val = lo + (n.val - lo) * 1; omega
    | 1 => show j.val = 0 + j.val * 1; omega
  · rw [dif_neg hn]
    refine (pad_apply_of_not_inside _ _ _ x zero h h_S_ (ix2 n j) (0 : Fin 2) (fun hc => hn ⟨hc.1, ?_⟩)).trans Ideal.ofBits_zero_f32
    have : (n.val - lo) / 1 < R := hc.2.2
    omega

/-- Columns of zeros on either side, at an index. -/
theorem padCols_apply (lo hi : ℕ) (h : (⟨2, ![R, C]⟩ : Shape).Pads ![0, lo] ![0, hi] ![0, 0] ⟨2, ![R, C']⟩) (n : Fin R) (j : Fin C') :
    pad ⟨2, ![R, C']⟩ ![0, lo] ![0, hi] ![0, 0] x zero h h_S_ (ix2 n j)
      = if h : lo ≤ j.val ∧ j.val - lo < C then x (ix2 n (⟨j.val - lo, h.2⟩ : Fin C)) else (0 : EReal) := by
  by_cases hn : lo ≤ j.val ∧ j.val - lo < C
  · rw [dif_pos hn]
    refine pad_apply_of_inside _ _ _ x zero h h_S_ (ix2 n j) (ix2 n (⟨j.val - lo, hn.2⟩ : Fin C)) (fun a => ?_)
    match a with
    | 0 => show n.val = 0 + n.val * 1; omega
    | 1 => show j.val = lo + (j.val - lo) * 1; omega
  · rw [dif_neg hn]
    refine (pad_apply_of_not_inside _ _ _ x zero h h_S_ (ix2 n j) (1 : Fin 2) (fun hc => hn ⟨hc.1, ?_⟩)).trans Ideal.ofBits_zero_f32
    have : (j.val - lo) / 1 < C := hc.2.2
    omega

end Pads

/-- Row `n` of `x` where the rows are counted from 1, zero outside the array. -/
def rowOf {C : ℕ} (x : FVec Ideal ⟨2, ![4096, C]⟩ .f32) (n : ℕ) (j : Fin C) : EReal :=
  if h : 1 ≤ n ∧ n - 1 < 4096 then x (ix2 (⟨n - 1, h.2⟩ : Fin 4096) j) else 0

theorem rowOf_succ {C : ℕ} (x : FVec Ideal ⟨2, ![4096, C]⟩ .f32) (t : Fin 4096) (j : Fin C) : rowOf x (t.val + 1) j = x (ix2 t j) :=
  dif_pos ⟨Nat.le_add_left _ _, t.isLt⟩

theorem padded_apply (hu : FVec Ideal S4096x5632 .bf16) (n : Fin 4098) (j : Fin 5632) :
    padded hu (ix2 n j) = rowOf (extf .f32 hu bitsLt_bf16_f32 : FVec Ideal S4096x5632 .f32) n.val j := by
  have hq := n.isLt
  unfold padded rowOf
  by_cases h1 : n.val < 1
  · rw [dif_neg (by omega)]
    refine Eq.trans (concatenate_apply_piece (0 : Fin 2) _ _ (ix2 n j) 0 (by show 0 < 3; decide) S1x5632 _ rfl rfl 0 rfl (ix2 (⟨n.val, h1⟩ : Fin 1) j)
      (fun b hb => ?_) (Nat.zero_add _)) ?_
    rotate_left
    · exact Ideal.ofBits_zero_f32
    match b with
    | 0 => exact absurd rfl hb
    | 1 => rfl
  · by_cases h2 : n.val < 4097
    · rw [dif_pos ⟨by omega, by omega⟩]
      refine concatenate_apply_piece (0 : Fin 2) _ _ (ix2 n j) 1 (by show 1 < 3; decide) S4096x5632 _ rfl rfl 1 rfl
        (ix2 (⟨n.val - 1, by omega⟩ : Fin 4096) j) (fun b hb => ?_) (show 1 + (n.val - 1) = n.val by omega)
      match b with
      | 0 => exact absurd rfl hb
      | 1 => rfl
    · rw [dif_neg (by omega)]
      refine Eq.trans (concatenate_apply_piece (0 : Fin 2) _ _ (ix2 n j) 2 (by show 2 < 3; decide) S1x5632 _ rfl rfl 4097 rfl
        (ix2 (⟨n.val - 4097, by omega⟩ : Fin 1) j) (fun b hb => ?_) (show 4097 + (n.val - 4097) = n.val by omega)) Ideal.ofBits_zero_f32
      match b with
      | 0 => exact absurd rfl hb
      | 1 => rfl

theorem hidden_apply (hu : FVec Ideal S4096x5632 .bf16) (w : FVec Ideal S3x5632 .f32) (b : FVec Ideal S1x5632 .f32) (t : Fin 4096) (j : Fin 5632) :
    hidden hu w b (ix2 t j)
      = w (ix2 (0 : Fin 3) j) * rowOf (extf .f32 hu bitsLt_bf16_f32 : FVec Ideal S4096x5632 .f32) t.val j
        + w (ix2 (1 : Fin 3) j) * rowOf (extf .f32 hu bitsLt_bf16_f32 : FVec Ideal S4096x5632 .f32) (t.val + 1) j
        + w (ix2 (2 : Fin 3) j) * rowOf (extf .f32 hu bitsLt_bf16_f32 : FVec Ideal S4096x5632 .f32) (t.val + 2) j + b (ix2 (0 : Fin 1) j) := by
  have ht := t.isLt
  have e (n : ℕ) (hn : n < 4098) : rowOf (extf .f32 hu bitsLt_bf16_f32 : FVec Ideal S4096x5632 .f32) n j = padded hu (ix2 (⟨n, hn⟩ : Fin 4098) j) :=
    (padded_apply hu ⟨n, hn⟩ j).symm
  rw [e t.val (by omega), e (t.val + 1) (by omega), e (t.val + 2) (by omega)]
  unfold hidden
  generalize padded hu = p
  pointwise
  simp only [Nat.add_comm 1, Nat.add_comm 2]

theorem total_apply (d : FVec Ideal S4096x5632 .f32) (j : Fin 5632) : total d (ix2 (0 : Fin 1) j) = ∑ n ∈ Finset.range 4096, rowOf d (n + 1) j := by
  rw [← Fin.sum_univ_eq_sum_range (fun n => rowOf d (n + 1) j)]
  simp only [rowOf_succ]
  pointwise [total]

/-- The gradient of tap `i`. -/
theorem dTaps_apply (d : FVec Ideal S4096x5632 .f32) (hu : FVec Ideal S4096x5632 .bf16) (i : Fin 3) (j : Fin 5632) :
    dTaps d (padded hu) (ix2 i j)
      = ∑ n ∈ Finset.range 4096, rowOf d (n + 1) j * rowOf (extf .f32 hu bitsLt_bf16_f32 : FVec Ideal S4096x5632 .f32) (n + i.val) j := by
  have hs (o : ℕ) (ho : o ≤ 2) (h : S4098x5632.Slices ![o, 0] S4096x5632) :
      total (mulf d (extractStridedSlice S4096x5632 ![o, 0] (padded hu) h)) (ix2 (0 : Fin 1) j)
        = ∑ n ∈ Finset.range 4096, rowOf d (n + 1) j * rowOf (extf .f32 hu bitsLt_bf16_f32 : FVec Ideal S4096x5632 .f32) (n + o) j := by
    rw [total_apply]
    refine Finset.sum_congr rfl fun n hn => ?_
    have hn' : n < 4096 := Finset.mem_range.1 hn
    rw [rowOf_succ (t := (⟨n, hn'⟩ : Fin 4096)), rowOf_succ (t := (⟨n, hn'⟩ : Fin 4096))]
    refine congrArg (d (ix2 (⟨n, hn'⟩ : Fin 4096) j) * ·) ?_
    refine (extractStridedSlice_apply ![o, 0] _ h _ (ix2 (⟨n + o, by omega⟩ : Fin 4098) j) (fun b => ?_)).trans (padded_apply hu _ j)
    match b with
    | 0 => exact Nat.add_comm _ _
    | 1 => exact (Nat.zero_add _).symm
  unfold dTaps
  show pad S3x5632 _ _ _ _ _ _ _ (ix2 i j) + pad S3x5632 _ _ _ _ _ _ _ (ix2 i j) + pad S3x5632 _ _ _ _ _ _ _ (ix2 i j) = _
  rw [padRows_apply, padRows_apply, padRows_apply]
  match i with
  | 0 =>
    rw [dif_neg (by decide), dif_neg (by decide), dif_pos (by decide), zero_add, zero_add]
    exact hs 0 (by decide) _
  | 1 =>
    rw [dif_neg (by decide), dif_pos (by decide), dif_neg (by decide), zero_add, add_zero]
    exact hs 1 (by decide) _
  | 2 =>
    rw [dif_pos (by decide), dif_neg (by decide), dif_neg (by decide), add_zero, add_zero]
    exact hs 2 (by decide) _

/-- The gradient of the input: three neighbouring rows, each with its tap. -/
theorem dInput_apply (w : FVec Ideal S3x5632 .f32) (d : FVec Ideal S4096x5632 .f32) (t : Fin 4096) (j : Fin 5632) :
    dInput w d (ix2 t j)
      = w (ix2 (2 : Fin 3) j) * rowOf d t.val j + w (ix2 (1 : Fin 3) j) * rowOf d (t.val + 1) j + w (ix2 (0 : Fin 3) j) * rowOf d (t.val + 2) j := by
  have ht := t.isLt
  have hw (o : Fin 3) (h : S3x5632.Slices ![o.val, 0] S1x5632) (r : Fin 4096) :
      spread (extractStridedSlice S1x5632 ![o.val, 0] w h) (ix2 r j) = w (ix2 o j) := by
    refine (broadcastInDim_apply _ _ _ (ix2 r j) (ix2 (0 : Fin 1) j) (fun b => ?_)).trans (extractStridedSlice_apply _ _ h _ (ix2 o j) (fun b => ?_))
    · match b with
      | 0 => rfl
      | 1 => rfl
    · match b with
      | 0 => rfl
      | 1 => exact (Nat.zero_add _).symm
  unfold dInput
  refine (extractStridedSlice_apply ![1, 0] _ _ (ix2 t j) (ix2 (⟨t.val + 1, by omega⟩ : Fin 4098) j) (fun b => ?_)).trans ?_
  · match b with
    | 0 => exact Nat.add_comm _ _
    | 1 => exact (Nat.zero_add _).symm
  show pad S4098x5632 _ _ _ _ _ _ _ (ix2 _ j) + pad S4098x5632 _ _ _ _ _ _ _ (ix2 _ j) + pad S4098x5632 _ _ _ _ _ _ _ (ix2 _ j) = _
  rw [padRows_apply, padRows_apply, padRows_apply]
  have hm (o : Fin 3) (h : S3x5632.Slices ![o.val, 0] S1x5632) (lo : ℕ) (n : ℕ) (hn : t.val + 2 = n + lo) (hp : Decidable (lo ≤ t.val + 1 ∧ t.val + 1 - lo < 4096)) :
      (if h' : lo ≤ t.val + 1 ∧ t.val + 1 - lo < 4096 then mulf (spread (extractStridedSlice S1x5632 ![o.val, 0] w h)) d (ix2 (⟨t.val + 1 - lo, h'.2⟩ : Fin 4096) j) else (0 : EReal))
        = w (ix2 o j) * rowOf d n j := by
    unfold rowOf
    by_cases hc : lo ≤ t.val + 1 ∧ t.val + 1 - lo < 4096
    · rw [dif_pos hc, dif_pos (by omega)]
      refine congrArg₂ (· * ·) (hw o h _) (congrArg d (congrArg (ix2 · j) (Fin.ext ?_)))
      show t.val + 1 - lo = n - 1
      omega
    · rw [dif_neg hc, dif_neg (by omega), mul_zero]
  exact congrArg₂ (· + ·) (congrArg₂ (· + ·) (hm 2 _ 2 _ rfl _) (hm 1 _ 1 _ rfl _)) (hm 0 _ 0 _ rfl _)

/-- The left half of the gradient of the convolution's result. -/
theorem dHidden_left (g u : FVec Ideal S4096x2816 .f32) (da : FVec Ideal S4096x2816 .bf16) (t : Fin 4096) (j : Fin 2816) :
    dHidden g u da (ix2 t (⟨j.val, by omega⟩ : Fin 5632)) = dGate g u da (ix2 t j) := by
  unfold dHidden
  show pad S4096x5632 _ _ _ _ _ _ _ (ix2 t _) + pad S4096x5632 _ _ _ _ _ _ _ (ix2 t _) = _
  have hj := j.isLt
  rw [padCols_apply, padCols_apply, dif_neg (by show ¬ (2816 ≤ j.val ∧ _); omega), dif_pos ⟨Nat.zero_le _, hj⟩, zero_add]
  rfl

/-- The right half of the gradient of the convolution's result. -/
theorem dHidden_right (g u : FVec Ideal S4096x2816 .f32) (da : FVec Ideal S4096x2816 .bf16) (t : Fin 4096) (j : Fin 2816) :
    dHidden g u da (ix2 t (⟨2816 + j.val, by omega⟩ : Fin 5632)) = dUp g da (ix2 t j) := by
  unfold dHidden
  show pad S4096x5632 _ _ _ _ _ _ _ (ix2 t _) + pad S4096x5632 _ _ _ _ _ _ _ (ix2 t _) = _
  have hj := j.isLt
  rw [padCols_apply, padCols_apply, dif_pos ⟨by show 2816 ≤ 2816 + j.val; omega, by show 2816 + j.val - 2816 < 2816; omega⟩,
    dif_neg (by show ¬ (0 ≤ 2816 + j.val ∧ 2816 + j.val - 0 < 2816); omega), add_zero]
  exact congrArg (fun i => dUp g da (ix2 t i)) (Fin.ext (show 2816 + j.val - 2816 = j.val by omega))

end Cert.ConvRefIdeal.Grad

end
-- ==== Proof.ConvEq.lean ====
/- The arrays of `conv_bwd` are the reference's, over the extended reals.

   For one half of the channels: once the product of the incoming gradient with the saved factor is the reference's
   gradient of the convolution's result there (`gradOf_eq`), the three results of that half agree. The kernel adds the
   three taps of the input's gradient in another order, and numbers the rows of a tap's sum from the other end. -/
module

public import proofs.«01_k».proof.Proof.ConvArray
public import proofs.«01_k».proof.Proof.ConvRef

@[expose] public section

set_option maxRecDepth 16384

noncomputable section

namespace Cert.ConvBwdIdeal.Grad

open Cert.ConvBwdIdeal Cert.ConvBwdIdeal.Gen
open Idealize.ShloMosaic

theorem rowOf_zero {C : ℕ} (x : FVec Ideal ⟨2, ![4096, C]⟩ .f32) (j : Fin C) : ConvRefIdeal.Grad.rowOf x 0 j = 0 :=
  dif_neg (by omega)
theorem rowOf_last {C : ℕ} (x : FVec Ideal ⟨2, ![4096, C]⟩ .f32) (j : Fin C) : ConvRefIdeal.Grad.rowOf x 4097 j = 0 :=
  dif_neg (by omega)

/-- A sum over 4096 rows may start one row later where the rows at both ends are zero. -/
theorem sum_shift (f : ℕ → EReal) (h0 : f 0 = 0) (h1 : f 4096 = 0) :
    ∑ n ∈ Finset.range 4096, f (n + 1) = ∑ n ∈ Finset.range 4096, f n := by
  have e := (Finset.sum_range_succ' f 4096).symm.trans (Finset.sum_range_succ f 4096)
  rwa [h0, h1, add_zero, add_zero] at e

section Half
variable (half : Fin 2816 → Fin 5632) (a s : Vec Ideal S4096x2816 .bf16) (d : FVec Ideal S4096x5632 .f32)
  (h : ∀ (t : Fin 4096) (j : Fin 2816), (a (ix2 t j) : EReal) * s (ix2 t j) = d (ix2 t (half j)))
include h

theorem gradOf_eq (n : ℕ) (j : Fin 2816) : gradOf a s n j = ConvRefIdeal.Grad.rowOf d n (half j) := by
  unfold gradOf rowOf ConvRefIdeal.Grad.rowOf
  by_cases hn : 1 ≤ n ∧ n - 1 < 4096
  · rw [dif_pos hn, dif_pos hn, dif_pos hn]; exact h _ j
  · rw [dif_neg hn, dif_neg hn, dif_neg hn]; exact zero_mul _

/-- The input's gradient: the same three rows, in the other order. -/
theorem rows_eq (w : Vec Ideal S3x5632 .f32) (t : Fin 4096) (j : Fin 2816) :
    rowsArr half a s w (ix2 t j) = ConvRefIdeal.Grad.dInput w d (ix2 t (half j)) := by
  rw [ConvRefIdeal.Grad.dInput_apply, ← gradOf_eq half a s d h, ← gradOf_eq half a s d h, ← gradOf_eq half a s d h]
  show (w (ix2 (0 : Fin 3) (half j)) * gradOf a s (t.val + 2) j + w (ix2 (1 : Fin 3) (half j)) * gradOf a s (t.val + 1) j
    + w (ix2 (2 : Fin 3) (half j)) * gradOf a s t.val j : EReal) = _
  rw [add_comm, ← add_assoc, add_right_comm]

theorem bias_eq (j : Fin 2816) : biasArr a s (ix2 (0 : Fin 1) j) = ConvRefIdeal.Grad.total d (ix2 (0 : Fin 1) (half j)) := by
  rw [ConvRefIdeal.Grad.total_apply]
  exact Finset.sum_congr rfl fun n _ => gradOf_eq half a s d h (n + 1) j

/-- The taps' gradients. -/
theorem taps_eq (x : Vec Ideal S4096x5632 .bf16) (i : Fin 3) (j : Fin 2816) :
    tapsArr half a s x (ix2 i j) = ConvRefIdeal.Grad.dTaps d (ConvRefIdeal.Grad.padded x) (ix2 i (half j)) := by
  rw [ConvRefIdeal.Grad.dTaps_apply]
  have e : tapsArr half a s x (ix2 i j) = ∑ n ∈ Finset.range 4096, ConvRefIdeal.Grad.rowOf d (n + (2 - i.val)) (half j)
      * ConvRefIdeal.Grad.rowOf (extf .f32 x bitsLt_bf16_f32 : FVec Ideal S4096x5632 .f32) (n + 1) (half j) :=
    Finset.sum_congr rfl fun n _ => congrArg₂ _ (gradOf_eq half a s d h _ j) rfl
  rw [e]
  match i with
  | 0 =>
    exact sum_shift (fun n => ConvRefIdeal.Grad.rowOf d (n + 1) (half j)
      * ConvRefIdeal.Grad.rowOf (extf .f32 x bitsLt_bf16_f32 : FVec Ideal S4096x5632 .f32) n (half j))
      (by show _ * _ = _; rw [rowOf_zero, mul_zero]) (by show ConvRefIdeal.Grad.rowOf d 4097 _ * _ = _; rw [rowOf_last, zero_mul])
  | 1 => rfl
  | 2 =>
    exact (sum_shift (fun n => ConvRefIdeal.Grad.rowOf d n (half j)
      * ConvRefIdeal.Grad.rowOf (extf .f32 x bitsLt_bf16_f32 : FVec Ideal S4096x5632 .f32) (n + 1) (half j))
      (by show _ * _ = _; rw [rowOf_zero, zero_mul])
      (by show _ * ConvRefIdeal.Grad.rowOf _ 4097 _ = _; rw [rowOf_last, mul_zero])).symm

end Half

end Cert.ConvBwdIdeal.Grad

end
-- ==== Proof.ConvFinite.lean ====
/- Where the convolution's input, taps and bias and the incoming gradient are finite, the product of the incoming
   gradient with the kernel's saved factors is the reference's gradient of the convolution's result.

   The kernel multiplies the incoming gradient by the factor `u σ + (g u) (σ (1 - σ))`, the reference multiplies each of
   its two terms: an identity of real numbers. -/
module

public import proofs.«01_k».proof.Proof.ConvRef
public import proofs.«01_k».proof.Proof.Gen.Pre_conv_finite
public import Idealize.ShloMosaic.Lib.ReduceAll
public import Idealize.ShloMosaic.Lib.IdealHost

@[expose] public section

set_option maxRecDepth 16384

noncomputable section

namespace Cert.ConvRefIdeal.Grad

open Cert.ConvRefIdeal Cert.ConvRefIdeal.Gen
open Idealize.ShloMosaic

/-- `x` is a real number. -/
def Real' (x : EReal) : Prop := ∃ r : ℝ, x = r

theorem Real'.add {x y : EReal} : Real' x → Real' y → Real' (x + y)
  | ⟨a, ha⟩, ⟨b, hb⟩ => ⟨a + b, by rw [ha, hb]; exact (EReal.coe_add a b).symm⟩
theorem Real'.mul {x y : EReal} : Real' x → Real' y → Real' (x * y)
  | ⟨a, ha⟩, ⟨b, hb⟩ => ⟨a * b, by rw [ha, hb]; exact (EReal.coe_mul a b).symm⟩

/-- A number whose absolute value is below the infinity's pattern is real. -/
theorem real_of_abs_lt (x : EReal) (h : Ideal.cmp .olt (max x (-x)) (Ideal.ofBits .f32 0x7F800000#32) = 1#1) : Real' x := by
  have hi : Ideal.ofBits .f32 0x7F800000#32 = ⊤ := by simp [Ideal.ofBits, Ideal.ieee]
  rw [hi] at h
  induction x with
  | bot => exfalso; revert h; simp [Ideal.cmp]
  | top => exfalso; revert h; simp [Ideal.cmp]
  | coe r => exact ⟨r, rfl⟩

section
variable (hu : FVec Ideal S4096x5632 .bf16) (w : FVec Ideal S3x5632 .f32) (b : FVec Ideal S1x5632 .f32) (a : FVec Ideal S4096x2816 .bf16)

/-- What the precondition says, element by element. -/
theorem finite_of_pre (h : Cert.Pre_conv_finite.fn (F := Ideal) hu w b a = fun _ => 1#1) :
    (∀ i, Real' (hu i)) ∧ (∀ i, Real' (w i)) ∧ (∀ i, Real' (b i)) ∧ (∀ i, Real' (a i)) := by
  have h0 := congrFun h (fun x => x.elim0)
  unfold Cert.Pre_conv_finite.fn Cert.Pre_conv_finite.fn_part1 at h0
  obtain ⟨h1, ha⟩ := IntOp.andi_eq_one.1 h0
  obtain ⟨h2, hb⟩ := IntOp.andi_eq_one.1 h1
  obtain ⟨hh, hw⟩ := IntOp.andi_eq_one.1 h2
  exact ⟨fun i => real_of_abs_lt _ (Host.reduce_andi_all _ _ _ _ _ hh i), fun i => real_of_abs_lt _ (Host.reduce_andi_all _ _ _ _ _ hw i),
    fun i => real_of_abs_lt _ (Host.reduce_andi_all _ _ _ _ _ hb i), fun i => real_of_abs_lt _ (Host.reduce_andi_all _ _ _ _ _ ha i)⟩

theorem hidden_real (hhu : ∀ i, Real' (hu i)) (hw : ∀ i, Real' (w i)) (hb : ∀ i, Real' (b i)) (t : Fin 4096) (j : Fin 5632) :
    Real' (hidden hu w b (ix2 t j)) := by
  have hr (n : ℕ) : Real' (rowOf (extf .f32 hu bitsLt_bf16_f32 : FVec Ideal S4096x5632 .f32) n j) := by
    unfold rowOf
    split
    · exact hhu _
    · exact ⟨0, rfl⟩
  rw [hidden_apply]
  exact ((((hw _).mul (hr _)).add ((hw _).mul (hr _))).add ((hw _).mul (hr _))).add (hb _)

theorem sigma_apply (g : FVec Ideal S4096x2816 .f32) (t : Fin 4096) (j : Fin 2816) : sigma g (ix2 t j) = Ideal.logistic (g (ix2 t j)) := by
  unfold sigma
  pointwise
  rfl

/-- The kernel's saved factor for the gate, -/
def gateFactor (g u : FVec Ideal S4096x2816 .f32) : FVec Ideal S4096x2816 .f32 := addf (mulf u (sigma g)) (mulf (mulf g u) (slope g))

/-- times the incoming gradient, for real numbers, -/
theorem gate_mul (g u : FVec Ideal S4096x2816 .f32) (t : Fin 4096) (j : Fin 2816) (hg : Real' (g (ix2 t j))) (hu : Real' (u (ix2 t j)))
    (ha : Real' (a (ix2 t j))) : (a (ix2 t j) : EReal) * gateFactor g u (ix2 t j) = dGate g u a (ix2 t j) := by
  obtain ⟨x, hx⟩ := hg
  obtain ⟨y, hy⟩ := hu
  obtain ⟨z, hz⟩ := ha
  have h1 : (ones (ix2 t j) : EReal) = ((1 : ℝ) : EReal) := by
    refine Eq.trans ?_ EReal.coe_one.symm
    unfold ones; pointwise
  show a (ix2 t j) * (u (ix2 t j) * sigma g (ix2 t j) + (g (ix2 t j) * u (ix2 t j)) * (sigma g (ix2 t j) * (ones (ix2 t j) - sigma g (ix2 t j))))
    = (a (ix2 t j) * u (ix2 t j)) * sigma g (ix2 t j) + (g (ix2 t j) * (a (ix2 t j) * u (ix2 t j))) * (sigma g (ix2 t j) * (ones (ix2 t j) - sigma g (ix2 t j)))
  rw [sigma_apply, hx, hy, hz, h1, Ideal.logistic_coe]
  generalize (1 + Real.exp (-x))⁻¹ = s
  norm_cast
  ring

/-- and for the gated half, whatever the numbers. -/
theorem up_mul (g : FVec Ideal S4096x2816 .f32) (t : Fin 4096) (j : Fin 2816) :
    (a (ix2 t j) : EReal) * mulf g (sigma g) (ix2 t j) = dUp g a (ix2 t j) := mul_comm _ _

end

end Cert.ConvRefIdeal.Grad

end
-- ==== Proof.ConvHost.lean ====
/- The two saved factors that `conv_bwd` is launched with, as the host computes them from the convolution's input, taps
   and bias. -/
module

public import proofs.«01_k».proof.Proof.ConvArray
public import proofs.«01_k».proof.Proof.ConvFinite

@[expose] public section

set_option maxRecDepth 16384

noncomputable section

namespace Cert.ConvBwdIdeal.Grad

open Cert.ConvBwdIdeal Cert.ConvBwdIdeal.Gen
open Idealize.ShloMosaic Idealize.ShloMosaic.TcCoe Idealize.ShloMosaic.Tactic
open Cert.ConvRefIdeal.Grad (hidden gate up sigma gateFactor)

variable (m : (ℓ : Loc nD τ sig) → Buf (Elt Ideal) ℓ) (c : Dev nD)

abbrev hu : FVec Ideal S4096x5632 .bf16 := m ((c.tc : Thread nD τ).loc main_arg0)
abbrev cw : FVec Ideal S3x5632 .f32 := m ((c.tc : Thread nD τ).loc main_arg1)
abbrev cb : FVec Ideal S1x5632 .f32 := m ((c.tc : Thread nD τ).loc main_arg2)
abbrev da : FVec Ideal S4096x2816 .bf16 := m ((c.tc : Thread nD τ).loc main_arg3)

set_option maxHeartbeats 4000000

theorem V_up : V m c main_v23 = truncf .bf16 (mulf (gate (hidden (hu m c) (cw m c) (cb m c)))
    (sigma (gate (hidden (hu m c) (cw m c) (cb m c))))) bitsLt_bf16_f32 := by
  entry_read
  rfl

theorem V_gate : V m c main_v24 = truncf .bf16 (gateFactor (gate (hidden (hu m c) (cw m c) (cb m c)))
    (up (hidden (hu m c) (cw m c) (cb m c)))) bitsLt_bf16_f32 := by
  entry_read
  rfl

end Cert.ConvBwdIdeal.Grad

end
-- ==== Proof.ConvValue.lean ====
/- The six results of `conv_bwd` are the reference's, and both programs leave their arguments as they were. -/
module

public import proofs.«01_k».proof.Proof.ConvEq
public import proofs.«01_k».proof.Proof.ConvHost
public import proofs.«01_k».proof.Defs
public import proofs.«01_k».proof.Proof.Gen.ConvBwdIdeal
public import proofs.«01_k».proof.Proof.Gen.ConvRefIdeal
public import Idealize.ShloMosaic.Lib.Claim

@[expose] public section

set_option maxRecDepth 16384

noncomputable section

namespace Cert.Proof.ConvValue

open Cert.ConvBwdIdeal Cert.ConvBwdIdeal.Gen Cert.ConvBwdIdeal.Grad
open Idealize.ShloMosaic Idealize.ShloMosaic.TcCoe Idealize.ShloMosaic.Tactic Idealize.SL.Sem
open Cert.ConvRefIdeal.Grad (hidden gate up sigma gateFactor dHidden dInput dTaps total padded)

theorem ref_frame (m : (ℓ : Loc Cert.ConvRefIdeal.nD Cert.ConvRefIdeal.τ Cert.ConvRefIdeal.sig) → Buf (Elt Ideal) ℓ)
    (ρ : Dev Cert.ConvRefIdeal.nD → PrngReg) :
    θ_run Cert.ConvRefIdeal.defs (onTc (τ := Cert.ConvRefIdeal.τ) (Cert.ConvRefIdeal.main (F := Ideal))) ⟨m, fun _ => 0, ρ⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0) :=
  (θ_run _ _ _).mono (fun r h => ⟨fun c => (h c).2.2.2.2.2.2, sem_eq_zero_of_no_sems (by decide) r.2⟩) (Cert.ConvRefIdeal.Value.run (F := Ideal) m ρ)

section Values
variable (m : (ℓ : Loc nD τ sig) → Buf (Elt Ideal) ℓ) (c : Dev nD)

/-- The reference's gradient of the convolution's result, of the kernel's arguments. -/
abbrev dH : FVec Ideal S4096x5632 .f32 :=
  dHidden (gate (hidden (hu m c) (cw m c) (cb m c))) (up (hidden (hu m c) (cw m c) (cb m c))) (da m c)

abbrev inDa : Vec Ideal S4096x2816 .bf16 := V m c main_arg3
abbrev inUp : Vec Ideal S4096x2816 .bf16 := V m c main_v23
abbrev inGate : Vec Ideal S4096x2816 .bf16 := V m c main_v24

theorem up_factor (t : Fin 4096) (j : Fin 2816) : (inDa m c (ix2 t j) : EReal) * inUp m c (ix2 t j) = dH m c (ix2 t (right j)) := by
  unfold inDa inUp
  rw [V_main_arg3, V_up]
  exact (ConvRefIdeal.Grad.up_mul _ _ t j).trans (ConvRefIdeal.Grad.dHidden_right _ _ _ t j).symm

variable (h : Cert.Pre_conv_finite.fn (F := Ideal) (hu m c) (cw m c) (cb m c) (da m c) = fun _ => 1#1)
include h

theorem gate_factor (t : Fin 4096) (j : Fin 2816) : (inDa m c (ix2 t j) : EReal) * inGate m c (ix2 t j) = dH m c (ix2 t (left j)) := by
  obtain ⟨h0, h1, h2, h3⟩ := ConvRefIdeal.Grad.finite_of_pre _ _ _ _ h
  have hr := ConvRefIdeal.Grad.hidden_real _ _ _ h0 h1 h2
  have hg : ConvRefIdeal.Grad.Real' (gate (hidden (hu m c) (cw m c) (cb m c)) (ix2 t j)) := by
    pointwise; exact hr _ _
  have hu : ConvRefIdeal.Grad.Real' (up (hidden (hu m c) (cw m c) (cb m c)) (ix2 t j)) := by
    pointwise; exact hr _ _
  unfold inDa inGate
  rw [V_main_arg3, V_gate]
  exact (ConvRefIdeal.Grad.gate_mul _ _ _ t j hg hu (h3 _)).trans (ConvRefIdeal.Grad.dHidden_left _ _ _ t j).symm

/-! ## The six arrays -/

theorem out0_eq : (dats m 0 c).arrAt 7 cfg0.N = truncf .bf16 (extractStridedSlice S4096x2816 ![0, 0] (dInput (cw m c) (dH m c)) slices_S4096x5632_S4096x2816_0_0) bitsLt_bf16_f32 := by
  rw [final7]
  funext (y : S4096x2816.Idx)
  obtain ⟨r, j, rfl⟩ : ∃ (r : Fin 4096) (j : Fin 2816), y = ix2 r j := ⟨y 0, y 1, eta y⟩
  rw [V_main_arg1]
  refine (rows_eq left (inDa m c) (inGate m c) (dH m c) (gate_factor m c h) (cw m c) r j).trans ?_
  unfold left
  generalize dInput (cw m c) (dH m c) = z
  pointwise

omit h in
theorem out1_eq : (dats m 0 c).arrAt 8 cfg0.N = truncf .bf16 (extractStridedSlice S4096x2816 ![0, 2816] (dInput (cw m c) (dH m c)) slices_S4096x5632_S4096x2816_0_2816) bitsLt_bf16_f32 := by
  rw [final8]
  funext (y : S4096x2816.Idx)
  obtain ⟨r, j, rfl⟩ : ∃ (r : Fin 4096) (j : Fin 2816), y = ix2 r j := ⟨y 0, y 1, eta y⟩
  rw [V_main_arg1]
  refine (rows_eq right (inDa m c) (inUp m c) (dH m c) (up_factor m c) (cw m c) r j).trans ?_
  unfold right
  generalize dInput (cw m c) (dH m c) = z
  pointwise

theorem out2_eq : (dats m 0 c).arrAt 9 cfg0.N = extractStridedSlice S3x2816 ![0, 0] (dTaps (dH m c) (padded (hu m c))) ConvRefIdeal.Gen.slices_S3x5632_S3x2816_0_0 := by
  rw [final9]
  funext (y : S3x2816.Idx)
  obtain ⟨r, j, rfl⟩ : ∃ (r : Fin 3) (j : Fin 2816), y = ix2 r j := ⟨y 0, y 1, eta y⟩
  rw [V_main_arg0]
  refine (taps_eq left (inDa m c) (inGate m c) (dH m c) (gate_factor m c h) (hu m c) r j).trans ?_
  unfold left
  generalize dTaps (dH m c) (padded (hu m c)) = z
  pointwise

omit h in
theorem out3_eq : (dats m 0 c).arrAt 10 cfg0.N = extractStridedSlice S3x2816 ![0, 2816] (dTaps (dH m c) (padded (hu m c))) ConvRefIdeal.Gen.slices_S3x5632_S3x2816_0_2816 := by
  rw [final10]
  funext (y : S3x2816.Idx)
  obtain ⟨r, j, rfl⟩ : ∃ (r : Fin 3) (j : Fin 2816), y = ix2 r j := ⟨y 0, y 1, eta y⟩
  rw [V_main_arg0]
  refine (taps_eq right (inDa m c) (inUp m c) (dH m c) (up_factor m c) (hu m c) r j).trans ?_
  unfold right
  generalize dTaps (dH m c) (padded (hu m c)) = z
  pointwise

theorem out4_eq : (dats m 0 c).arrAt 11 cfg0.N = extractStridedSlice S1x2816 ![0, 0] (total (dH m c)) ConvRefIdeal.Gen.slices_S1x5632_S1x2816_0_0 := by
  rw [final11]
  funext (y : S1x2816.Idx)
  obtain ⟨r, j, rfl⟩ : ∃ (r : Fin 1) (j : Fin 2816), y = ix2 r j := ⟨y 0, y 1, eta y⟩
  obtain rfl : r = 0 := Subsingleton.elim _ _
  refine (bias_eq left (inDa m c) (inGate m c) (dH m c) (gate_factor m c h) j).trans ?_
  unfold left
  generalize total (dH m c) = z
  pointwise

omit h in
theorem out5_eq : (dats m 0 c).arrAt 12 cfg0.N = extractStridedSlice S1x2816 ![0, 2816] (total (dH m c)) ConvRefIdeal.Gen.slices_S1x5632_S1x2816_0_2816 := by
  rw [final12]
  funext (y : S1x2816.Idx)
  obtain ⟨r, j, rfl⟩ : ∃ (r : Fin 1) (j : Fin 2816), y = ix2 r j := ⟨y 0, y 1, eta y⟩
  obtain rfl : r = 0 := Subsingleton.elim _ _
  refine (bias_eq right (inDa m c) (inUp m c) (dH m c) (up_factor m c) j).trans ?_
  unfold right
  generalize total (dH m c) = z
  pointwise

end Values

/-! ## The claim -/

/-- The kernel's run: every result array, and the arguments as they were. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25_0) = (dats m 0 c).arrAt 7 cfg0.N
      ∧ r.2.mem ((c.tc : Thread nD τ).loc main_v25_1) = (dats m 0 c).arrAt 8 cfg0.N
      ∧ r.2.mem ((c.tc : Thread nD τ).loc main_v25_2) = (dats m 0 c).arrAt 9 cfg0.N
      ∧ r.2.mem ((c.tc : Thread nD τ).loc main_v25_3) = (dats m 0 c).arrAt 10 cfg0.N
      ∧ r.2.mem ((c.tc : Thread nD τ).loc main_v25_4) = (dats m 0 c).arrAt 11 cfg0.N
      ∧ r.2.mem ((c.tc : Thread nD τ).loc main_v25_5) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h.1.1 c).1 7, (h.1.1 c).1 8, (h.1.1 c).1 9, (h.1.1 c).1 10, (h.1.1 c).1 11, (h.1.1 c).1 12, h.2.1 c⟩)
    (θ_run_and (run_main m ρ) (run_frame m ρ))

set_option maxHeartbeats 4000000 in
theorem algebraic : Cert.algebraic_ConvBwdIdeal_ConvRefIdeal_pre_conv_finite := by
  intro m g m' g' hpre hagree
  refine ⟨fun c => (dats m 0 c).arrAt 7 cfg0.N, fun c => (dats m 0 c).arrAt 8 cfg0.N, fun c => (dats m 0 c).arrAt 9 cfg0.N, fun c => (dats m 0 c).arrAt 10 cfg0.N, fun c => (dats m 0 c).arrAt 11 cfg0.N, fun c => (dats m 0 c).arrAt 12 cfg0.N,
    kernel_run m g, (θ_run _ _ _).mono (fun r h c => ?_) (Cert.ConvRefIdeal.Value.run (F := Ideal) m' g')⟩
  obtain ⟨e0, e1, e2, e3⟩ := hagree c
  obtain ⟨h0, h1, h2, h3, h4, h5, h6⟩ := h c
  have eH : ConvRefIdeal.Grad.dH m' c = dH m c := by
    unfold ConvRefIdeal.Grad.dH ConvRefIdeal.Grad.hu ConvRefIdeal.Grad.cw ConvRefIdeal.Grad.cb ConvRefIdeal.Grad.da
    rw [e0, e1, e2, e3]
  have eh : ConvRefIdeal.Grad.hu m' c = hu m c := e0
  have ew : ConvRefIdeal.Grad.cw m' c = cw m c := e1
  refine ⟨h0.trans ?_, h1.trans ?_, h2.trans ?_, h3.trans ?_, h4.trans ?_, h5.trans ?_, h6⟩
  · exact (ConvRefIdeal.Grad.out0_eq m' c).trans (by rw [eH, ew]; exact (out0_eq m c (hpre c)).symm)
  · exact (ConvRefIdeal.Grad.out1_eq m' c).trans (by rw [eH, ew]; exact (out1_eq m c).symm)
  · exact (ConvRefIdeal.Grad.out2_eq m' c).trans (by rw [eH, eh]; exact (out2_eq m c (hpre c)).symm)
  · exact (ConvRefIdeal.Grad.out3_eq m' c).trans (by rw [eH, eh]; exact (out3_eq m c).symm)
  · exact (ConvRefIdeal.Grad.out4_eq m' c).trans (by rw [eH]; exact (out4_eq m c (hpre c)).symm)
  · exact (ConvRefIdeal.Grad.out5_eq m' c).trans (by rw [eH]; exact (out5_eq m c).symm)

end Cert.Proof.ConvValue

end
-- ==== Proof.Rms.lean ====
/- The gradient of the root mean square normalisation `x / √(mean x² + ε)` of rows of 1024 numbers: the kernels' form
   of it and the reference's are the same real number.

   With `r = 1 / √(mean x² + ε)`, `n = x r` and `d` the gradient of `n`, a kernel computes `r (d - n mean(d n))`; the
   reference, differentiating operation by operation, `d r + x q + q x` with `q = (Σ x d) (-½ r / (mean x² + ε)) / 1024`. -/
module

public import proofs.«01_k».proof.Proof.ConvFinite
public import proofs.«01_k».proof.Proof.Gen.InRefIdeal.Run
public import Idealize.ShloMosaic.Lib.Pipeline.ValueKit
public import Idealize.ShloMosaic.Lib.IdealHost

@[expose] public section

set_option maxRecDepth 16384

noncomputable section

namespace Cert.Proof.Rms

open Cert.InRefIdeal Cert.InRefIdeal.Gen Cert.ConvRefIdeal.Grad
open Idealize.ShloMosaic Idealize.ShloMosaic.Tactic

/-- The length of a row, `ε` and `-½` as the programs write them. -/
abbrev c1024 : EReal := Ideal.ofBits .f32 0x44800000#32
abbrev eps : EReal := Ideal.ofBits .f32 0x358637BD#32
abbrev half : EReal := Ideal.ofBits .f32 0xBF000000#32

theorem c1024_eq : c1024 = ((1024 : ℝ) : EReal) := by
  simp [c1024, Ideal.ofBits, Ideal.ieee]
  rw [← EReal.coe_mul]
  norm_num
theorem half_eq : half = ((-(1 / 2) : ℝ) : EReal) := by
  simp [half, Ideal.ofBits, Ideal.ieee]
  rw [← EReal.coe_mul]
  norm_num
/-- The number one as the programs write it. -/
def one : EReal := Ideal.ofBits .f32 0x3F800000#32
theorem one_real : Real' one := ⟨_, by simp [one, Ideal.ofBits, Ideal.ieee]; rfl⟩
theorem eps_pos : ∃ e : ℝ, 0 < e ∧ eps = (e : EReal) := by
  refine ⟨_, ?_, by simp [eps, Ideal.ofBits, Ideal.ieee]; rfl⟩
  norm_num

/-- `mean x² + ε` of a row, -/
def var (x : Fin 1024 → EReal) : EReal := Ideal.div (∑ k, x k * x k) c1024 + eps
/-- and one over its square root. -/
def inv (x : Fin 1024 → EReal) : EReal := Ideal.rsqrt (var x)
/-- What the reference multiplies the row by, twice. -/
def back (x d : Fin 1024 → EReal) : EReal := Ideal.div ((∑ k, x k * d k) * (half * Ideal.div (inv x) (var x))) c1024

theorem real_fun {n : ℕ} (x : Fin n → EReal) (h : ∀ k, Real' (x k)) : ∃ X : Fin n → ℝ, x = fun k => (X k : EReal) :=
  ⟨fun k => (h k).choose, funext fun k => (h k).choose_spec⟩

theorem coe_sum {n : ℕ} (f : Fin n → ℝ) : (∑ k, (f k : EReal)) = ((∑ k, f k : ℝ) : EReal) := by
  induction n with
  | zero => simp
  | succ n ih => rw [Fin.sum_univ_succ, Fin.sum_univ_succ, ih, EReal.coe_add]

theorem sum_real {n : ℕ} (x : Fin n → EReal) (h : ∀ k, Real' (x k)) : Real' (∑ k, x k) := by
  obtain ⟨X, rfl⟩ := real_fun x h
  exact ⟨_, coe_sum X⟩

/-- The two forms agree on real numbers. -/
theorem row_eq (x d : Fin 1024 → EReal) (hx : ∀ k, Real' (x k)) (hd : ∀ k, Real' (d k)) (j : Fin 1024) :
    (d j * inv x + x j * back x d) + back x d * x j = inv x * (d j - (x j * inv x) * Ideal.div (∑ k, d k * (x k * inv x)) c1024) := by
  obtain ⟨X, rfl⟩ := real_fun x hx
  obtain ⟨D, rfl⟩ := real_fun d hd
  obtain ⟨e, he, hee⟩ := eps_pos
  have hv : var (fun k => (X k : EReal)) = (((∑ k, X k * X k) * (1 / 1024) + e : ℝ) : EReal) := by
    unfold var
    rw [hee, c1024_eq, Ideal.div_coe (by norm_num), EReal.coe_add, EReal.coe_mul, ← coe_sum]
    simp only [EReal.coe_mul]
  have hp : 0 < (∑ k, X k * X k) * (1 / 1024) + e := by
    have : 0 ≤ ∑ k, X k * X k := Finset.sum_nonneg fun k _ => mul_self_nonneg _
    positivity
  have hr : inv (fun k => (X k : EReal)) = (((Real.sqrt ((∑ k, X k * X k) * (1 / 1024) + e))⁻¹ : ℝ) : EReal) := by
    unfold inv
    rw [hv, Ideal.rsqrt_coe, if_neg (not_lt.2 hp.le), if_neg hp.ne']
  have hs := Real.mul_self_sqrt hp.le
  have hs0 := (Real.sqrt_pos.2 hp).ne'
  unfold back
  dsimp only
  have h0 : (1024 : ℝ) ≠ 0 := by norm_num
  rw [hr, hv, half_eq, c1024_eq]
  simp only [Ideal.div_coe h0, Ideal.div_coe hp.ne']
  revert hs hs0 hp
  generalize (∑ k, X k * X k) * (1 / 1024) + e = v
  generalize Real.sqrt v = s
  intro hp hs hs0
  have h1 : (∑ k, (X k : EReal) * (D k : EReal)) = ((∑ k, X k * D k : ℝ) : EReal) := by
    rw [← coe_sum]; simp only [EReal.coe_mul]
  have h2 : (∑ k, (D k : EReal) * ((X k : EReal) * (s⁻¹ : ℝ))) = (((∑ k, X k * D k) * s⁻¹ : ℝ) : EReal) := by
    rw [Finset.sum_mul, ← coe_sum]
    refine Finset.sum_congr rfl fun k _ => ?_
    norm_cast
    ring
  rw [h1, h2]
  generalize (∑ k, X k * D k) = p
  norm_cast
  subst hs
  field_simp
  ring

/-! ## The reference's operations -/

abbrev Mat : Type := FVec Ideal S4096x1024 .f32
abbrev Col : Type := FVec Ideal S4096x1 .f32

def zero : FVec Ideal S_ .f32 := constant S_ .f32 0x00000000#32
def len : Col := broadcastInDim S4096x1 ![] bcast_S_S4096x1 (constant S_ .f32 0x44800000#32)

/-- `mean x² + ε` of every row, -/
def varCol (x : Mat) : Col :=
  addf (Host.divf (broadcastInDim S4096x1 ![0] bcast_S4096_S4096x1_0 (Host.reduceAdd (mulf x x) zero reducesTo_S4096x1024_S4096_d1 h_S_)) len)
    (broadcastInDim S4096x1 ![] bcast_S_S4096x1 (constant S_ .f32 0x358637BD#32))
def invCol (x : Mat) : Col := Host.rsqrt (varCol x)
/-- every row times its `r`, -/
def scaled (d x : Mat) : Mat := mulf d (broadcastInDim S4096x1024 ![0, 1] bcast_S4096x1_S4096x1024_0_1 (invCol x))
/-- and what the reference multiplies every row by, twice. -/
def backMat (x d : Mat) : Mat :=
  broadcastInDim S4096x1024 ![0] bcast_S4096_S4096x1024_0 (Host.reduceAdd (Host.divf (mulf
    (shapeCast S4096x1 (Host.reduceAdd (mulf x d) zero reducesTo_S4096x1024_S4096_d1 h_S_) shapeCasts_S4096_S4096x1)
    (mulf (broadcastInDim S4096x1 ![] bcast_S_S4096x1 (constant S_ .f32 0xBF000000#32)) (Host.divf (invCol x) (varCol x)))) len)
    zero reducesTo_S4096x1_S4096_d1 h_S_)

theorem varCol_apply (x : Mat) (t : Fin 4096) (k : Fin 1) : varCol x (ix2 t k) = var fun k => x (ix2 t k) := by
  unfold varCol var len zero
  pointwise
theorem invCol_apply (x : Mat) (t : Fin 4096) (k : Fin 1) : invCol x (ix2 t k) = inv fun k => x (ix2 t k) := by
  rw [inv, ← varCol_apply x t k]
  unfold invCol
  pointwise
theorem scaled_apply (d x : Mat) (t : Fin 4096) (j : Fin 1024) : scaled d x (ix2 t j) = d (ix2 t j) * inv fun k => x (ix2 t k) := by
  unfold scaled
  pointwise
  rw [invCol_apply]
theorem backMat_apply (x d : Mat) (t : Fin 4096) (j : Fin 1024) :
    backMat x d (ix2 t j) = back (fun k => x (ix2 t k)) (fun k => d (ix2 t k)) := by
  unfold backMat back len zero
  pointwise
  refine (Fin.sum_univ_one _).trans ?_
  rw [invCol_apply, varCol_apply]

/-! ## The reference's gradients of `(n g) (1 + s) + h`, from the gradient `d` of it -/

abbrev Row : Type := FVec Ideal S1x1024 .f32

/-- A row of numbers under every row, -/
def rows (v : Row) : Mat := broadcastInDim S4096x1024 ![0, 1] bcast_S1x1024_S4096x1024_0_1 v
/-- `1 + s`, -/
def plusOne (s : Row) : Row := addf (broadcastInDim S1x1024 ![] bcast_S_S1x1024 (constant S_ .f32 0x3F800000#32)) s
/-- the sum of all rows, -/
def total (a : Mat) : Row := shapeCast S1x1024 (Host.reduceAdd a zero reducesTo_S4096x1024_S1024_d0 h_S_) shapeCasts_S1024_S1x1024
/-- the gradient of `n`, -/
def dNormed (d : Mat) (g s : Row) : Mat := mulf (mulf d (rows (plusOne s))) (rows g)
/-- of `x` from that of `n` and another one, -/
def dInput (x dn dres : Mat) : Mat := addf (addf (addf dres (scaled dn x)) (mulf x (backMat x dn))) (mulf (backMat x dn) x)
/-- of `g`, -/
def dGain (d x : Mat) (s : Row) : Row := total (mulf (scaled x x) (mulf d (rows (plusOne s))))
/-- and of `s`. -/
def dScale (d x : Mat) (g : Row) : Row := total (mulf (mulf (scaled x x) (rows g)) d)

theorem rows_apply (v : Row) (t : Fin 4096) (j : Fin 1024) : rows v (ix2 t j) = v (ix2 0 j) := by
  unfold rows
  pointwise
theorem plusOne_apply (s : Row) (k : Fin 1) (j : Fin 1024) : plusOne s (ix2 k j) = one + s (ix2 k j) := by
  unfold plusOne one
  pointwise
theorem total_apply (a : Mat) (k : Fin 1) (j : Fin 1024) : total a (ix2 k j) = ∑ t : Fin 4096, a (ix2 t j) := by
  unfold total zero
  pointwise
theorem dNormed_apply (d : Mat) (g s : Row) (t : Fin 4096) (j : Fin 1024) :
    dNormed d g s (ix2 t j) = d (ix2 t j) * (g (ix2 0 j) * (one + s (ix2 0 j))) := by
  show d (ix2 t j) * rows (plusOne s) (ix2 t j) * rows g (ix2 t j) = _
  rw [rows_apply, rows_apply, plusOne_apply, mul_assoc, mul_comm (G := EReal) (one + _)]

/-- The reference's gradient of `x` is the kernels' where `x` and the gradient of `n` are real numbers, -/
theorem dInput_apply (x dn dres : Mat) (t : Fin 4096) (j : Fin 1024) (hx : ∀ k : Fin 1024, Real' (x (ix2 t k)))
    (hd : ∀ k : Fin 1024, Real' (dn (ix2 t k))) :
    dInput x dn dres (ix2 t j) = inv (fun k => x (ix2 t k)) * (dn (ix2 t j) - (x (ix2 t j) * inv fun k => x (ix2 t k))
      * Ideal.div (∑ k : Fin 1024, dn (ix2 t k) * (x (ix2 t k) * inv fun k => x (ix2 t k))) c1024) + dres (ix2 t j) := by
  refine Eq.trans ?_ (congrArg (· + dres (ix2 t j) : EReal → EReal) (row_eq (fun k => x (ix2 t k)) (fun k => dn (ix2 t k)) hx hd j))
  show ((dres (ix2 t j) + scaled dn x (ix2 t j)) + x (ix2 t j) * backMat x dn (ix2 t j)) + backMat x dn (ix2 t j) * x (ix2 t j) = _
  rw [scaled_apply, backMat_apply, add_assoc, add_assoc, add_comm (G := EReal) _ (dres (ix2 t j)), add_assoc]

/-- and those of `g` and `s` are the kernels' sums over the rows. -/
theorem dGain_apply (d x : Mat) (s : Row) (k : Fin 1) (j : Fin 1024) : dGain d x s (ix2 k j)
    = ∑ t : Fin 4096, (d (ix2 t j) * (one + s (ix2 0 j))) * (x (ix2 t j) * inv fun k => x (ix2 t k)) := by
  unfold dGain
  rw [total_apply]
  refine Fin.sum_fin_congr fun t => ?_
  show scaled x x (ix2 t j) * (d (ix2 t j) * rows (plusOne s) (ix2 t j)) = _
  rw [scaled_apply, rows_apply, plusOne_apply, mul_comm (G := EReal)]
theorem dScale_apply (d x : Mat) (g : Row) (k : Fin 1) (j : Fin 1024) : dScale d x g (ix2 k j)
    = ∑ t : Fin 4096, (d (ix2 t j) * (x (ix2 t j) * inv fun k => x (ix2 t k))) * g (ix2 0 j) := by
  unfold dScale
  rw [total_apply]
  refine Fin.sum_fin_congr fun t => ?_
  show (scaled x x (ix2 t j) * rows g (ix2 t j)) * d (ix2 t j) = _
  rw [scaled_apply, rows_apply, mul_comm (G := EReal), ← mul_assoc (G := EReal)]

end Cert.Proof.Rms

end
-- ==== Proof.UpBwd.lean ====
/- The gradient of the FFN's input through its normalisation and its up projection: the kernel's blocks are the
   reference's gradients.

   Every grid step takes 512 rows: the two halves of the incoming gradient, each times its half of the transposed weight,
   then the gradient of the normalisation of those rows (`Rms`), and it adds the rows' terms to the three sums over all
   rows. -/
module

public import proofs.«01_k».proof.Defs
public import proofs.«01_k».proof.Proof.Rms
public import proofs.«01_k».proof.Proof.Gen.UpBwdIdeal.Value
public import proofs.«01_k».proof.Proof.Gen.UpRefIdeal.Run
public import proofs.«01_k».proof.Proof.Gen.Pre_up_finite
public import Idealize.ShloMosaic.Lib.Pipeline.ValueKit
public import Idealize.ShloMosaic.Lib.ReduceAll
public import Idealize.ShloMosaic.Lib.IdealHost
public import Idealize.ShloMosaic.Lib.Claim

@[expose] public section

set_option maxRecDepth 16384

noncomputable section

namespace Cert.Proof.UpBwd

open Cert.UpBwdIdeal Cert.UpBwdIdeal.Gen Cert.ConvRefIdeal.Grad
open Idealize.ShloMosaic Idealize.ShloMosaic.TcCoe Idealize.ShloMosaic.Tactic Idealize.SL.Sem

theorem idx : ∀ t : Fin cfg0.N, win0_0.index t = ![t.val, 0] ∧ win0_1.index t = ![t.val, 0] ∧ win0_2.index t = ![0, 0]
    ∧ win0_3.index t = ![1, 0] ∧ win0_4.index t = ![t.val, 0] ∧ win0_5.index t = ![t.val, 0] ∧ win0_6.index t = ![0, 0]
    ∧ win0_7.index t = ![0, 0] ∧ win0_8.index t = ![t.val, 0] ∧ win0_9.index t = ![0, 0] ∧ win0_10.index t = ![0, 0]
    ∧ win0_11.index t = ![0, 0] := by
  decide +kernel

/-- Row `p` of grid step `t`'s block in the whole array. -/
def row (t : Fin cfg0.N) (p : Fin 512) : Fin 4096 := ⟨t.val * 512 + p.val, by have : t.val < 8 := t.isLt; omega⟩

/-! ## The arguments -/

section
variable (m : (ℓ : Loc nD τ sig) → Buf (Elt Ideal) ℓ) (c : Dev nD)

abbrev dzg : FVec Ideal Cert.UpRefIdeal.S4096x2816 .bf16 := m ((c.tc : Thread nD τ).loc main_arg0)
abbrev dzu : FVec Ideal Cert.UpRefIdeal.S4096x2816 .bf16 := m ((c.tc : Thread nD τ).loc main_arg1)
abbrev wt : FVec Ideal Cert.UpRefIdeal.S1024x5632 .bf16 := m ((c.tc : Thread nD τ).loc main_arg2)
abbrev inp : Rms.Mat := m ((c.tc : Thread nD τ).loc main_arg3)
abbrev dres : Rms.Mat := m ((c.tc : Thread nD τ).loc main_arg4)
abbrev gain : Rms.Row := m ((c.tc : Thread nD τ).loc main_arg5)
abbrev scl : Rms.Row := m ((c.tc : Thread nD τ).loc main_arg6)

/-- The gradient of the projection's input, -/
def dh : Rms.Mat := Host.dotGeneral (F := Ideal) Cert.UpRefIdeal.dot_S4096x5632_S1024x5632_S4096x1024_1_1_0_0_n_n none
  (extf .f32 (concatenate Cert.UpRefIdeal.S4096x5632 1 [⟨S4096x2816, dzg m c⟩, ⟨S4096x2816, dzu m c⟩]
    Cert.UpRefIdeal.Gen.concatenates_S4096x2816_S4096x2816_S4096x5632_d1) Cert.UpRefIdeal.Gen.bitsLt_bf16_f32)
  (extf .f32 (wt m c) Cert.UpRefIdeal.Gen.bitsLt_bf16_f32)
/-- and of the normalised rows. -/
def dn : Rms.Mat := Rms.dNormed (dh m c) (gain m c) (scl m c)

/-- the product with the whole weight is the sum of the products with its two halves. -/
theorem dh_apply (i : Fin 4096) (j : Fin 1024) : dh m c (ix2 i j)
    = (∑ k : Fin 2816, (dzg m c (ix2 i k) : EReal) * wt m c (ix2 j ⟨k.val, by omega⟩))
      + ∑ k : Fin 2816, (dzu m c (ix2 i k) : EReal) * wt m c (ix2 j ⟨2816 + k.val, by omega⟩) := by
  unfold dh
  pointwise

/-! ## The blocks the kernel reads -/

variable (t : Fin cfg0.N)

theorem weight_array : V m c main_v0 = transpose S5632x1024 [1, 0] (m ((c.tc : Thread nD τ).loc main_arg2)) transposes_S1024x5632_S5632x1024_1_0 := by
  entry_read; rfl
theorem gate_weight_block (k : Fin 2816) (j : Fin 1024) : iblk m c 2 t (ix2 k j) = wt m c (ix2 j ⟨k.val, by omega⟩) := by
  have he : ((win0_2.blk t).view.emb (ix2 k j)) = ix2 (⟨k.val, by omega⟩ : Fin 5632) j := by
    blk_ext [idx t]
  show V m c main_v0 ((win0_2.blk t).view.emb (ix2 k j)) = _
  rw [weight_array, he]
  pointwise
theorem up_weight_block (k : Fin 2816) (j : Fin 1024) : iblk m c 3 t (ix2 k j) = wt m c (ix2 j ⟨2816 + k.val, by omega⟩) := by
  have he : ((win0_3.blk t).view.emb (ix2 k j)) = ix2 (⟨2816 + k.val, by omega⟩ : Fin 5632) j := by
    blk_ext [idx t]
  show V m c main_v0 ((win0_3.blk t).view.emb (ix2 k j)) = _
  rw [weight_array, he]
  pointwise
theorem dh_block (p : Fin 512) (j : Fin 1024) :
    k0_pay7 (iblk m c 0 t) (iblk m c 2 t) (iblk m c 1 t) (iblk m c 3 t) (ix2 p j) = dh m c (ix2 (row t p) j) := by
  rw [dh_apply]
  unfold k0_pay7
  pointwise
  refine congrArg₂ (· + · : EReal → EReal → EReal) ?_ ?_
  · refine Fin.sum_fin_congr fun k => ?_
    refine congrArg₂ (· * · : EReal → EReal → EReal) ?_ (gate_weight_block m c t k j)
    blk_ext [iblk, idx t, V_main_arg0, row]
  · refine Fin.sum_fin_congr fun k => ?_
    refine congrArg₂ (· * · : EReal → EReal → EReal) ?_ (up_weight_block m c t k j)
    blk_ext [iblk, idx t, V_main_arg1, row]
theorem inp_block (p : Fin 512) (k : Fin 1024) : iblk m c 4 t (ix2 p k) = inp m c (ix2 (row t p) k) := by
  blk_ext [iblk, idx t, V_main_arg3, row]
theorem dres_block (p : Fin 512) (k : Fin 1024) : iblk m c 5 t (ix2 p k) = dres m c (ix2 (row t p) k) := by
  blk_ext [iblk, idx t, V_main_arg4, row]
theorem gain_block (p : Fin 1) (k : Fin 1024) : iblk m c 6 t (ix2 p k) = gain m c (ix2 0 k) := by
  blk_ext [iblk, idx t, V_main_arg5]
theorem scl_block (p : Fin 1) (k : Fin 1024) : k0_pay10 (iblk m c 7 t) (ix2 p k) = Rms.one + scl m c (ix2 0 k) := by
  unfold k0_pay10 Rms.one
  pointwise
  refine congrArg (_ + · : EReal → EReal) ?_
  blk_ext [iblk, idx t, V_main_arg6]
theorem inv_block (p : Fin 512) (k : Fin 1) : k0_pay8 (iblk m c 4 t) (ix2 p k) = Rms.inv fun j => inp m c (ix2 (row t p) j) := by
  unfold k0_pay8 Rms.inv Rms.var
  pointwise
  simp only [inp_block]
theorem normed_block (p : Fin 512) (j : Fin 1024) :
    k0_pay9 (iblk m c 4 t) (ix2 p j) = inp m c (ix2 (row t p) j) * Rms.inv fun j => inp m c (ix2 (row t p) j) := by
  unfold k0_pay9
  pointwise
  rw [inp_block, inv_block]

/-! ## The arrays the kernel leaves -/

/-- A block of the gradient of the rows, -/
theorem dx_block (hx : ∀ i, Real' (inp m c i)) (hd : ∀ i, Real' (dn m c i)) (p : Fin 512) (j : Fin 1024) :
    k0_pay3 (k0_pay7 (iblk m c 0 t) (iblk m c 2 t) (iblk m c 1 t) (iblk m c 3 t)) (k0_pay8 (iblk m c 4 t)) (k0_pay9 (iblk m c 4 t)) (iblk m c 6 t)
      (k0_pay10 (iblk m c 7 t)) (iblk m c 5 t) (ix2 p j) = Rms.dInput (inp m c) (dn m c) (dres m c) (ix2 (row t p) j) := by
  rw [Rms.dInput_apply _ _ _ _ _ (fun k => hx _) (fun k => hd _)]
  unfold k0_pay3 dn
  pointwise
  simp only [inp_block, dres_block, gain_block, scl_block, inv_block, normed_block, dh_block, Rms.dNormed_apply]

theorem dx_final (hx : ∀ i, Real' (inp m c i)) (hd : ∀ i, Real' (dn m c i)) :
    (dats m 0 c).arrAt 8 cfg0.N = Rms.dInput (inp m c) (dn m c) (dres m c) := by
  refine (dats m 0 c).arrAt_eq_of_covers 8 _ (by decide +kernel) fun t hf (y : S512x1024.Idx) => ?_
  have hy : y = ix2 (y 0) (y 1) := by funext a; fin_cases a <;> rfl
  have he : ((win0_8.blk t).view.emb y) = ix2 (row t (y 0)) (y 1) := by
    blk_ext [idx t, row]
  refine Eq.trans ?_ (congrArg (Rms.dInput (inp m c) (dn m c) (dres m c)) he.symm)
  refine Eq.trans ?_ (dx_block m c t hx hd (y 0) (y 1))
  blk_simp
  rw [after0_8]
  by_cases h0 : t.val % 8 = 0
  · rw [outsAt0_A m c t h0]
    frame_out
    exact congrArg _ hy
  · rw [outsAt0_B m c t h0]
    frame_out
    exact congrArg _ hy

/-- The column of an index of a row of numbers. -/
def col (j : S1x1024.Idx) : Fin 1024 := j 1
theorem col_spec (j : S1x1024.Idx) : ∃ (k : Fin 1) (q : Fin 1024), j = ix2 k q := ⟨j 0, j 1, by funext a; fin_cases a <;> rfl⟩

/-- The terms one grid step adds to the three sums, -/
def gainTerm (p : Fin cfg0.N) (j : Fin 1024) : EReal := ∑ x : Fin 512, (dh m c (ix2 (row p x) j) * (Rms.one + scl m c (ix2 0 j)))
  * (inp m c (ix2 (row p x) j) * Rms.inv fun k => inp m c (ix2 (row p x) k))
def shiftTerm (p : Fin cfg0.N) (j : Fin 1024) : EReal := ∑ x : Fin 512, dh m c (ix2 (row p x) j)
def scaleTerm (p : Fin cfg0.N) (j : Fin 1024) : EReal := ∑ x : Fin 512, (dh m c (ix2 (row p x) j)
  * (inp m c (ix2 (row p x) j) * Rms.inv fun k => inp m c (ix2 (row p x) k))) * gain m c (ix2 0 j)

theorem gain_step (a : Vec Ideal S1x1024 .f32) (j : S1x1024.Idx) :
    k0_pay2 (k0_pay7 (iblk m c 0 t) (iblk m c 2 t) (iblk m c 1 t) (iblk m c 3 t)) (k0_pay9 (iblk m c 4 t)) (k0_pay10 (iblk m c 7 t)) a j = (a j + gainTerm m c t (col j) : EReal) := by
  obtain ⟨z, q, rfl⟩ := col_spec j
  show _ = (_ + gainTerm m c t q : EReal)
  unfold k0_pay2 gainTerm
  pointwise
  simp only [inp_block, gain_block, scl_block, inv_block, normed_block, dh_block]
theorem shift_step (a : Vec Ideal S1x1024 .f32) (j : S1x1024.Idx) :
    k0_pay11 (iblk m c 0 t) (iblk m c 2 t) (iblk m c 1 t) (iblk m c 3 t) a j = (a j + shiftTerm m c t (col j) : EReal) := by
  obtain ⟨z, q, rfl⟩ := col_spec j
  show _ = (_ + shiftTerm m c t q : EReal)
  unfold k0_pay11 shiftTerm
  pointwise
  simp only [dh_block]
theorem scale_step (a : Vec Ideal S1x1024 .f32) (j : S1x1024.Idx) :
    k0_pay1 (k0_pay7 (iblk m c 0 t) (iblk m c 2 t) (iblk m c 1 t) (iblk m c 3 t)) (k0_pay9 (iblk m c 4 t)) (iblk m c 6 t) a j = (a j + scaleTerm m c t (col j) : EReal) := by
  obtain ⟨z, q, rfl⟩ := col_spec j
  show _ = (_ + scaleTerm m c t q : EReal)
  unfold k0_pay1 scaleTerm
  pointwise
  simp only [inp_block, gain_block, scl_block, inv_block, normed_block, dh_block]

/-- and the three sums over all rows. -/
theorem dGain_final : (dats m 0 c).arrAt 9 cfg0.N = Rms.dGain (dh m c) (inp m c) (scl m c) := by
  refine (dats m 0 c).arrAt_eq_of_after_last 9 (⟨7, by decide⟩ : Fin cfg0.N) (by decide +kernel) _ fun (j : S1x1024.Idx) => ?_
  obtain ⟨z, q, rfl⟩ := col_spec j
  blk_simp
  refine (congrFun (after0_9 m c _) _).trans ?_
  refine (Pipeline.eq_sum_fin_of_reset_step_apply_last (fun n h => (outsAt0 m c n h).2.1) 8 (fun _ => (0 : EReal)) (fun p j => gainTerm m c p (col j)) ?_ ?_ (by decide) ⟨7, by decide⟩ rfl _).trans ?_
  · intro t h j
    rw [outsAt0_A m c t h]
    frame_out
    refine (gain_step m c t _ j).trans (congrArg (· + gainTerm m c t (col j) : EReal → EReal) ?_)
    unfold k0_pay4; pointwise
  · intro t h j
    rw [outsAt0_B m c t h]
    frame_out
    exact gain_step m c t _ j
  · refine (zero_add (M := EReal) _).trans (Eq.trans ?_ (Rms.dGain_apply _ _ _ _ q).symm)
    exact Fin.sum_mul_add_congr fun s k hl => rfl

theorem dShift_final : (dats m 0 c).arrAt 10 cfg0.N = Rms.total (dh m c) := by
  refine (dats m 0 c).arrAt_eq_of_after_last 10 (⟨7, by decide⟩ : Fin cfg0.N) (by decide +kernel) _ fun (j : S1x1024.Idx) => ?_
  obtain ⟨z, q, rfl⟩ := col_spec j
  blk_simp
  refine (congrFun (after0_10 m c _) _).trans ?_
  refine (Pipeline.eq_sum_fin_of_reset_step_apply_last (fun n h => (outsAt0 m c n h).2.2.1) 8 (fun _ => (0 : EReal)) (fun p j => shiftTerm m c p (col j)) ?_ ?_ (by decide) ⟨7, by decide⟩ rfl _).trans ?_
  · intro t h j
    rw [outsAt0_A m c t h]
    frame_out
    refine (shift_step m c t _ j).trans (congrArg (· + shiftTerm m c t (col j) : EReal → EReal) ?_)
    unfold k0_pay5; pointwise
  · intro t h j
    rw [outsAt0_B m c t h]
    frame_out
    exact shift_step m c t _ j
  · refine (zero_add (M := EReal) _).trans (Eq.trans ?_ (Rms.total_apply _ _ q).symm)
    exact Fin.sum_mul_add_congr fun s k hl => rfl

theorem dScale_final : (dats m 0 c).arrAt 11 cfg0.N = Rms.dScale (dh m c) (inp m c) (gain m c) := by
  refine (dats m 0 c).arrAt_eq_of_after_last 11 (⟨7, by decide⟩ : Fin cfg0.N) (by decide +kernel) _ fun (j : S1x1024.Idx) => ?_
  obtain ⟨z, q, rfl⟩ := col_spec j
  blk_simp
  refine (congrFun (after0_11 m c _) _).trans ?_
  refine (Pipeline.eq_sum_fin_of_reset_step_apply_last (fun n h => (outsAt0 m c n h).2.2.2) 8 (fun _ => (0 : EReal)) (fun p j => scaleTerm m c p (col j)) ?_ ?_ (by decide) ⟨7, by decide⟩ rfl _).trans ?_
  · intro t h j
    rw [outsAt0_A m c t h]
    frame_out
    refine (scale_step m c t _ j).trans (congrArg (· + scaleTerm m c t (col j) : EReal → EReal) ?_)
    unfold k0_pay6; pointwise
  · intro t h j
    rw [outsAt0_B m c t h]
    frame_out
    exact scale_step m c t _ j
  · refine (zero_add (M := EReal) _).trans (Eq.trans ?_ (Rms.dScale_apply _ _ _ _ q).symm)
    exact Fin.sum_mul_add_congr fun s k hl => rfl

/-! ## Where the arguments are finite -/

theorem finite_of_pre (h : Cert.Pre_up_finite.fn (F := Ideal) (dzg m c) (dzu m c) (wt m c) (inp m c) (dres m c) (gain m c) (scl m c) = fun _ => 1#1) :
    (∀ i, Real' (dzg m c i)) ∧ (∀ i, Real' (dzu m c i)) ∧ (∀ i, Real' (wt m c i)) ∧ (∀ i, Real' (inp m c i)) ∧ (∀ i, Real' (gain m c i)) ∧ (∀ i, Real' (scl m c i)) := by
  have h0 := congrFun h (fun x => x.elim0)
  unfold Cert.Pre_up_finite.fn Cert.Pre_up_finite.fn_part1 at h0
  obtain ⟨h1, hs⟩ := IntOp.andi_eq_one.1 h0
  obtain ⟨h2, hg⟩ := IntOp.andi_eq_one.1 h1
  obtain ⟨h3, _⟩ := IntOp.andi_eq_one.1 h2
  obtain ⟨h4, hx⟩ := IntOp.andi_eq_one.1 h3
  obtain ⟨h5, hw⟩ := IntOp.andi_eq_one.1 h4
  obtain ⟨hz, hu⟩ := IntOp.andi_eq_one.1 h5
  exact ⟨fun i => real_of_abs_lt _ (Host.reduce_andi_all _ _ _ _ _ hz i), fun i => real_of_abs_lt _ (Host.reduce_andi_all _ _ _ _ _ hu i),
    fun i => real_of_abs_lt _ (Host.reduce_andi_all _ _ _ _ _ hw i),
    fun i => real_of_abs_lt _ (Host.reduce_andi_all _ _ _ _ _ hx i), fun i => real_of_abs_lt _ (Host.reduce_andi_all _ _ _ _ _ hg i),
    fun i => real_of_abs_lt _ (Host.reduce_andi_all _ _ _ _ _ hs i)⟩

theorem dn_real (hz : ∀ i, Real' (dzg m c i)) (hu : ∀ i, Real' (dzu m c i)) (hw : ∀ i, Real' (wt m c i)) (hg : ∀ i, Real' (gain m c i)) (hs : ∀ i, Real' (scl m c i)) (i) :
    Real' (dn m c i) := by
  obtain ⟨p, q, rfl⟩ : ∃ (p : Fin 4096) (q : Fin 1024), i = ix2 p q := ⟨i 0, i 1, by funext a; fin_cases a <;> rfl⟩
  rw [dn, Rms.dNormed_apply, dh_apply]
  exact ((Rms.sum_real _ fun k => (hz _).mul (hw _)).add (Rms.sum_real _ fun k => (hu _).mul (hw _))).mul ((hg _).mul (Rms.one_real.add (hs _)))

end

/-! ## The claims -/

/-- The reference leaves its arguments as they were. -/
theorem ref_frame (m : (ℓ : Loc Cert.UpRefIdeal.nD Cert.UpRefIdeal.τ Cert.UpRefIdeal.sig) → Buf (Elt Ideal) ℓ)
    (ρ : Dev Cert.UpRefIdeal.nD → PrngReg) :
    θ_run Cert.UpRefIdeal.defs (onTc (τ := Cert.UpRefIdeal.τ) (Cert.UpRefIdeal.main (F := Ideal))) ⟨m, fun _ => 0, ρ⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6))
      ∧ r.2.sem = fun _ => 0) :=
  (θ_run _ _ _).mono (fun r h => ⟨fun c => (h c).2.2.2.2, sem_eq_zero_of_no_sems (by decide) r.2⟩) (Cert.UpRefIdeal.Value.run (F := Ideal) m ρ)

set_option maxHeartbeats 4000000 in
/-- Where the arguments are finite, the kernel and the reference leave the same four gradients. -/
theorem algebraic : Cert.algebraic_UpBwdIdeal_UpRefIdeal_pre_up_finite := by
  intro m g m' g' hpre hagree
  refine ⟨fun c => Rms.dInput (inp m c) (dn m c) (dres m c), fun c => Rms.dGain (dh m c) (inp m c) (scl m c), fun c => Rms.total (dh m c),
    fun c => Rms.dScale (dh m c) (inp m c) (gain m c),
    (θ_run _ _ _).mono (fun r h c => ?_) (Cert.UpBwdIdeal.Value.run_blocks m g),
    (θ_run _ _ _).mono (fun r h c => ?_) (Cert.UpRefIdeal.Value.run (F := Ideal) m' g')⟩
  · obtain ⟨hz, hu, hw, hx, hg, hs⟩ := finite_of_pre m c (hpre c)
    exact ⟨(h c).1.trans (dx_final m c hx (dn_real m c hz hu hw hg hs)), (h c).2.1.trans (dGain_final m c), (h c).2.2.1.trans (dShift_final m c),
      (h c).2.2.2.1.trans (dScale_final m c), (h c).2.2.2.2⟩
  · obtain ⟨e0, e1, e2, e3, e4, e5, e6⟩ := hagree c
    refine ⟨(h c).1.trans ?_, (h c).2.1.trans ?_, (h c).2.2.1.trans ?_, (h c).2.2.2.1.trans ?_, (h c).2.2.2.2⟩
    · unfold Cert.UpRefIdeal.Value.res_main_v53
      rw [e0, e1, e2, e3, e4, e5, e6]
      rfl
    · rw [e0, e1, e2, e3, e6]
      rfl
    · rw [e0, e1, e2]
      rfl
    · rw [e0, e1, e2, e3, e5]
      rfl

end Cert.Proof.UpBwd

end
-- ==== Proof.InBwd.lean ====
/- The gradient of the step's input through layer 0's normalisation and its input projection: the kernel's blocks are the
   reference's gradients.

   Every grid step takes 512 rows: the incoming gradient times the transposed weight, then the gradient of the
   normalisation of those rows (`Rms`), and it adds the rows' terms to the three sums over all rows. -/
module

public import proofs.«01_k».proof.Defs
public import proofs.«01_k».proof.Proof.Rms
public import proofs.«01_k».proof.Proof.Gen.InBwdIdeal.Value
public import proofs.«01_k».proof.Proof.Gen.InRefIdeal.Run
public import proofs.«01_k».proof.Proof.Gen.Pre_in_finite
public import Idealize.ShloMosaic.Lib.Pipeline.ValueKit
public import Idealize.ShloMosaic.Lib.ReduceAll
public import Idealize.ShloMosaic.Lib.IdealHost
public import Idealize.ShloMosaic.Lib.Claim

@[expose] public section

set_option maxRecDepth 16384

noncomputable section

namespace Cert.Proof.InBwd

open Cert.InBwdIdeal Cert.InBwdIdeal.Gen Cert.ConvRefIdeal.Grad
open Idealize.ShloMosaic Idealize.ShloMosaic.TcCoe Idealize.ShloMosaic.Tactic Idealize.SL.Sem

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] ∧ win0_8.index t = ![0, 0] ∧ win0_9.index t = ![0, 0] := by
  decide +kernel

/-- Row `p` of grid step `t`'s block in the whole array. -/
def row (t : Fin cfg0.N) (p : Fin 512) : Fin 4096 := ⟨t.val * 512 + p.val, by have : t.val < 8 := t.isLt; omega⟩

/-! ## The arguments -/

section
variable (m : (ℓ : Loc nD τ sig) → Buf (Elt Ideal) ℓ) (c : Dev nD)

abbrev dz : FVec Ideal Cert.InRefIdeal.S4096x1280 .bf16 := m ((c.tc : Thread nD τ).loc main_arg0)
abbrev wt : FVec Ideal Cert.InRefIdeal.S1024x1280 .bf16 := m ((c.tc : Thread nD τ).loc main_arg1)
abbrev inp : Rms.Mat := m ((c.tc : Thread nD τ).loc main_arg2)
abbrev dres : Rms.Mat := m ((c.tc : Thread nD τ).loc main_arg3)
abbrev gain : Rms.Row := m ((c.tc : Thread nD τ).loc main_arg4)
abbrev scl : Rms.Row := m ((c.tc : Thread nD τ).loc main_arg5)

/-- The gradient of the projection's input, -/
def dh : Rms.Mat := Host.dotGeneral (F := Ideal) Cert.InRefIdeal.dot_S4096x1280_S1024x1280_S4096x1024_1_1_0_0_n_n none
  (extf .f32 (dz m c) Cert.InRefIdeal.Gen.bitsLt_bf16_f32) (extf .f32 (wt m c) Cert.InRefIdeal.Gen.bitsLt_bf16_f32)
/-- and of the normalised rows. -/
def dn : Rms.Mat := Rms.dNormed (dh m c) (gain m c) (scl m c)

theorem dh_apply (i : Fin 4096) (j : Fin 1024) : dh m c (ix2 i j) = ∑ k : Fin 1280, (dz m c (ix2 i k) : EReal) * wt m c (ix2 j k) := by
  unfold dh
  pointwise

/-! ## The blocks the kernel reads -/

variable (t : Fin cfg0.N)

theorem weight_block (k : Fin 1280) (j : Fin 1024) : iblk m c 1 t (ix2 k j) = wt m c (ix2 j k) := by
  have hw : V m c main_v0 = transpose S1280x1024 [1, 0] (m ((c.tc : Thread nD τ).loc main_arg1)) transposes_S1024x1280_S1280x1024_1_0 := by
    entry_read; rfl
  have he : ((win0_1.blk t).view.emb (ix2 k j)) = ix2 k j := by
    blk_ext [idx t]
  show V m c main_v0 ((win0_1.blk t).view.emb (ix2 k j)) = _
  rw [hw, he]
  pointwise
theorem dh_block (p : Fin 512) (j : Fin 1024) : k0_pay7 (iblk m c 0 t) (iblk m c 1 t) (ix2 p j) = dh m c (ix2 (row t p) j) := by
  rw [dh_apply]
  unfold k0_pay7
  pointwise
  refine Fin.sum_fin_congr fun k => ?_
  refine congrArg₂ (· * · : EReal → EReal → EReal) ?_ (weight_block m c t k j)
  blk_ext [iblk, idx t, V_main_arg0, row]
theorem inp_block (p : Fin 512) (k : Fin 1024) : iblk m c 2 t (ix2 p k) = inp m c (ix2 (row t p) k) := by
  blk_ext [iblk, idx t, V_main_arg2, row]
theorem dres_block (p : Fin 512) (k : Fin 1024) : iblk m c 3 t (ix2 p k) = dres m c (ix2 (row t p) k) := by
  blk_ext [iblk, idx t, V_main_arg3, row]
theorem gain_block (p : Fin 1) (k : Fin 1024) : iblk m c 4 t (ix2 p k) = gain m c (ix2 0 k) := by
  blk_ext [iblk, idx t, V_main_arg4]
theorem scl_block (p : Fin 1) (k : Fin 1024) : k0_pay10 (iblk m c 5 t) (ix2 p k) = Rms.one + scl m c (ix2 0 k) := by
  unfold k0_pay10 Rms.one
  pointwise
  refine congrArg (_ + · : EReal → EReal) ?_
  blk_ext [iblk, idx t, V_main_arg5]
theorem inv_block (p : Fin 512) (k : Fin 1) : k0_pay8 (iblk m c 2 t) (ix2 p k) = Rms.inv fun j => inp m c (ix2 (row t p) j) := by
  unfold k0_pay8 Rms.inv Rms.var
  pointwise
  simp only [inp_block]
theorem normed_block (p : Fin 512) (j : Fin 1024) :
    k0_pay9 (iblk m c 2 t) (ix2 p j) = inp m c (ix2 (row t p) j) * Rms.inv fun j => inp m c (ix2 (row t p) j) := by
  unfold k0_pay9
  pointwise
  rw [inp_block, inv_block]

/-! ## The arrays the kernel leaves -/

/-- A block of the gradient of the rows, -/
theorem dx_block (hx : ∀ i, Real' (inp m c i)) (hd : ∀ i, Real' (dn m c i)) (p : Fin 512) (j : Fin 1024) :
    k0_pay3 (k0_pay7 (iblk m c 0 t) (iblk m c 1 t)) (k0_pay8 (iblk m c 2 t)) (k0_pay9 (iblk m c 2 t)) (iblk m c 4 t)
      (k0_pay10 (iblk m c 5 t)) (iblk m c 3 t) (ix2 p j) = Rms.dInput (inp m c) (dn m c) (dres m c) (ix2 (row t p) j) := by
  rw [Rms.dInput_apply _ _ _ _ _ (fun k => hx _) (fun k => hd _)]
  unfold k0_pay3 dn
  pointwise
  simp only [inp_block, dres_block, gain_block, scl_block, inv_block, normed_block, dh_block, Rms.dNormed_apply]

theorem dx_final (hx : ∀ i, Real' (inp m c i)) (hd : ∀ i, Real' (dn m c i)) :
    (dats m 0 c).arrAt 6 cfg0.N = Rms.dInput (inp m c) (dn m c) (dres m c) := by
  refine (dats m 0 c).arrAt_eq_of_covers 6 _ (by decide +kernel) fun t hf (y : S512x1024.Idx) => ?_
  have hy : y = ix2 (y 0) (y 1) := by funext a; fin_cases a <;> rfl
  have he : ((win0_6.blk t).view.emb y) = ix2 (row t (y 0)) (y 1) := by
    blk_ext [idx t, row]
  refine Eq.trans ?_ (congrArg (Rms.dInput (inp m c) (dn m c) (dres m c)) he.symm)
  refine Eq.trans ?_ (dx_block m c t hx hd (y 0) (y 1))
  blk_simp
  rw [after0_6]
  by_cases h0 : t.val % 8 = 0
  · rw [outsAt0_A m c t h0]
    frame_out
    exact congrArg _ hy
  · rw [outsAt0_B m c t h0]
    frame_out
    exact congrArg _ hy

/-- The column of an index of a row of numbers. -/
def col (j : S1x1024.Idx) : Fin 1024 := j 1
theorem col_spec (j : S1x1024.Idx) : ∃ (k : Fin 1) (q : Fin 1024), j = ix2 k q := ⟨j 0, j 1, by funext a; fin_cases a <;> rfl⟩

/-- The terms one grid step adds to the three sums, -/
def gainTerm (p : Fin cfg0.N) (j : Fin 1024) : EReal := ∑ x : Fin 512, (dh m c (ix2 (row p x) j) * (Rms.one + scl m c (ix2 0 j)))
  * (inp m c (ix2 (row p x) j) * Rms.inv fun k => inp m c (ix2 (row p x) k))
def shiftTerm (p : Fin cfg0.N) (j : Fin 1024) : EReal := ∑ x : Fin 512, dh m c (ix2 (row p x) j)
def scaleTerm (p : Fin cfg0.N) (j : Fin 1024) : EReal := ∑ x : Fin 512, (dh m c (ix2 (row p x) j)
  * (inp m c (ix2 (row p x) j) * Rms.inv fun k => inp m c (ix2 (row p x) k))) * gain m c (ix2 0 j)

theorem gain_step (a : Vec Ideal S1x1024 .f32) (j : S1x1024.Idx) :
    k0_pay2 (k0_pay7 (iblk m c 0 t) (iblk m c 1 t)) (k0_pay9 (iblk m c 2 t)) (k0_pay10 (iblk m c 5 t)) a j = (a j + gainTerm m c t (col j) : EReal) := by
  obtain ⟨z, q, rfl⟩ := col_spec j
  show _ = (_ + gainTerm m c t q : EReal)
  unfold k0_pay2 gainTerm
  pointwise
  simp only [inp_block, gain_block, scl_block, inv_block, normed_block, dh_block]
theorem shift_step (a : Vec Ideal S1x1024 .f32) (j : S1x1024.Idx) :
    k0_pay11 (iblk m c 0 t) (iblk m c 1 t) a j = (a j + shiftTerm m c t (col j) : EReal) := by
  obtain ⟨z, q, rfl⟩ := col_spec j
  show _ = (_ + shiftTerm m c t q : EReal)
  unfold k0_pay11 shiftTerm
  pointwise
  simp only [dh_block]
theorem scale_step (a : Vec Ideal S1x1024 .f32) (j : S1x1024.Idx) :
    k0_pay1 (k0_pay12 a) (k0_pay13 (iblk m c 0 t) (iblk m c 1 t) (iblk m c 2 t) (iblk m c 4 t)) j = (a j + scaleTerm m c t (col j) : EReal) := by
  obtain ⟨z, q, rfl⟩ := col_spec j
  show _ = (_ + scaleTerm m c t q : EReal)
  unfold k0_pay1 k0_pay12 k0_pay13 scaleTerm
  pointwise
  simp only [inp_block, gain_block, scl_block, inv_block, normed_block, dh_block]

/-- and the three sums over all rows. -/
theorem dGain_final : (dats m 0 c).arrAt 7 cfg0.N = Rms.dGain (dh m c) (inp m c) (scl m c) := by
  refine (dats m 0 c).arrAt_eq_of_after_last 7 (⟨7, by decide⟩ : Fin cfg0.N) (by decide +kernel) _ fun (j : S1x1024.Idx) => ?_
  obtain ⟨z, q, rfl⟩ := col_spec j
  blk_simp
  refine (congrFun (after0_7 m c _) _).trans ?_
  refine (Pipeline.eq_sum_fin_of_reset_step_apply_last (fun n h => (outsAt0 m c n h).2.1) 8 (fun _ => (0 : EReal)) (fun p j => gainTerm m c p (col j)) ?_ ?_ (by decide) ⟨7, by decide⟩ rfl _).trans ?_
  · intro t h j
    rw [outsAt0_A m c t h]
    frame_out
    refine (gain_step m c t _ j).trans (congrArg (· + gainTerm m c t (col j) : EReal → EReal) ?_)
    unfold k0_pay4; pointwise
  · intro t h j
    rw [outsAt0_B m c t h]
    frame_out
    exact gain_step m c t _ j
  · refine (zero_add (M := EReal) _).trans (Eq.trans ?_ (Rms.dGain_apply _ _ _ _ q).symm)
    exact Fin.sum_mul_add_congr fun s k hl => rfl

theorem dShift_final : (dats m 0 c).arrAt 8 cfg0.N = Rms.total (dh m c) := by
  refine (dats m 0 c).arrAt_eq_of_after_last 8 (⟨7, by decide⟩ : Fin cfg0.N) (by decide +kernel) _ fun (j : S1x1024.Idx) => ?_
  obtain ⟨z, q, rfl⟩ := col_spec j
  blk_simp
  refine (congrFun (after0_8 m c _) _).trans ?_
  refine (Pipeline.eq_sum_fin_of_reset_step_apply_last (fun n h => (outsAt0 m c n h).2.2.1) 8 (fun _ => (0 : EReal)) (fun p j => shiftTerm m c p (col j)) ?_ ?_ (by decide) ⟨7, by decide⟩ rfl _).trans ?_
  · intro t h j
    rw [outsAt0_A m c t h]
    frame_out
    refine (shift_step m c t _ j).trans (congrArg (· + shiftTerm m c t (col j) : EReal → EReal) ?_)
    unfold k0_pay5; pointwise
  · intro t h j
    rw [outsAt0_B m c t h]
    frame_out
    exact shift_step m c t _ j
  · refine (zero_add (M := EReal) _).trans (Eq.trans ?_ (Rms.total_apply _ _ q).symm)
    exact Fin.sum_mul_add_congr fun s k hl => rfl

theorem dScale_final : (dats m 0 c).arrAt 9 cfg0.N = Rms.dScale (dh m c) (inp m c) (gain m c) := by
  refine (dats m 0 c).arrAt_eq_of_after_last 9 (⟨7, by decide⟩ : Fin cfg0.N) (by decide +kernel) _ fun (j : S1x1024.Idx) => ?_
  obtain ⟨z, q, rfl⟩ := col_spec j
  blk_simp
  refine (congrFun (after0_9 m c _) _).trans ?_
  refine (Pipeline.eq_sum_fin_of_reset_step_apply_last (fun n h => (outsAt0 m c n h).2.2.2) 8 (fun _ => (0 : EReal)) (fun p j => scaleTerm m c p (col j)) ?_ ?_ (by decide) ⟨7, by decide⟩ rfl _).trans ?_
  · intro t h j
    rw [outsAt0_A m c t h]
    frame_out
    refine (scale_step m c t _ j).trans (congrArg (· + scaleTerm m c t (col j) : EReal → EReal) ?_)
    unfold k0_pay6; pointwise
  · intro t h j
    rw [outsAt0_B m c t h]
    frame_out
    exact scale_step m c t _ j
  · refine (zero_add (M := EReal) _).trans (Eq.trans ?_ (Rms.dScale_apply _ _ _ _ q).symm)
    exact Fin.sum_mul_add_congr fun s k hl => rfl

/-! ## Where the arguments are finite -/

theorem finite_of_pre (h : Cert.Pre_in_finite.fn (F := Ideal) (dz m c) (wt m c) (inp m c) (dres m c) (gain m c) (scl m c) = fun _ => 1#1) :
    (∀ i, Real' (dz m c i)) ∧ (∀ i, Real' (wt m c i)) ∧ (∀ i, Real' (inp m c i)) ∧ (∀ i, Real' (gain m c i)) ∧ (∀ i, Real' (scl m c i)) := by
  have h0 := congrFun h (fun x => x.elim0)
  unfold Cert.Pre_in_finite.fn Cert.Pre_in_finite.fn_part1 at h0
  obtain ⟨h1, hs⟩ := IntOp.andi_eq_one.1 h0
  obtain ⟨h2, hg⟩ := IntOp.andi_eq_one.1 h1
  obtain ⟨h3, _⟩ := IntOp.andi_eq_one.1 h2
  obtain ⟨h4, hx⟩ := IntOp.andi_eq_one.1 h3
  obtain ⟨hz, hw⟩ := IntOp.andi_eq_one.1 h4
  exact ⟨fun i => real_of_abs_lt _ (Host.reduce_andi_all _ _ _ _ _ hz i), fun i => real_of_abs_lt _ (Host.reduce_andi_all _ _ _ _ _ hw i),
    fun i => real_of_abs_lt _ (Host.reduce_andi_all _ _ _ _ _ hx i), fun i => real_of_abs_lt _ (Host.reduce_andi_all _ _ _ _ _ hg i),
    fun i => real_of_abs_lt _ (Host.reduce_andi_all _ _ _ _ _ hs i)⟩

theorem dn_real (hz : ∀ i, Real' (dz m c i)) (hw : ∀ i, Real' (wt m c i)) (hg : ∀ i, Real' (gain m c i)) (hs : ∀ i, Real' (scl m c i)) (i) :
    Real' (dn m c i) := by
  obtain ⟨p, q, rfl⟩ : ∃ (p : Fin 4096) (q : Fin 1024), i = ix2 p q := ⟨i 0, i 1, by funext a; fin_cases a <;> rfl⟩
  rw [dn, Rms.dNormed_apply, dh_apply]
  exact (Rms.sum_real _ fun k => (hz _).mul (hw _)).mul ((hg _).mul (Rms.one_real.add (hs _)))

end

/-! ## The claims -/

/-- The reference leaves its arguments as they were. -/
theorem ref_frame (m : (ℓ : Loc Cert.InRefIdeal.nD Cert.InRefIdeal.τ Cert.InRefIdeal.sig) → Buf (Elt Ideal) ℓ)
    (ρ : Dev Cert.InRefIdeal.nD → PrngReg) :
    θ_run Cert.InRefIdeal.defs (onTc (τ := Cert.InRefIdeal.τ) (Cert.InRefIdeal.main (F := Ideal))) ⟨m, fun _ => 0, ρ⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0) :=
  (θ_run _ _ _).mono (fun r h => ⟨fun c => (h c).2.2.2.2, sem_eq_zero_of_no_sems (by decide) r.2⟩) (Cert.InRefIdeal.Value.run (F := Ideal) m ρ)

set_option maxHeartbeats 4000000 in
/-- Where the arguments are finite, the kernel and the reference leave the same four gradients. -/
theorem algebraic : Cert.algebraic_InBwdIdeal_InRefIdeal_pre_in_finite := by
  intro m g m' g' hpre hagree
  refine ⟨fun c => Rms.dInput (inp m c) (dn m c) (dres m c), fun c => Rms.dGain (dh m c) (inp m c) (scl m c), fun c => Rms.total (dh m c),
    fun c => Rms.dScale (dh m c) (inp m c) (gain m c),
    (θ_run _ _ _).mono (fun r h c => ?_) (Cert.InBwdIdeal.Value.run_blocks m g),
    (θ_run _ _ _).mono (fun r h c => ?_) (Cert.InRefIdeal.Value.run (F := Ideal) m' g')⟩
  · obtain ⟨hz, hw, hx, hg, hs⟩ := finite_of_pre m c (hpre c)
    exact ⟨(h c).1.trans (dx_final m c hx (dn_real m c hz hw hg hs)), (h c).2.1.trans (dGain_final m c), (h c).2.2.1.trans (dShift_final m c),
      (h c).2.2.2.1.trans (dScale_final m c), (h c).2.2.2.2⟩
  · obtain ⟨e0, e1, e2, e3, e4, e5⟩ := hagree c
    refine ⟨(h c).1.trans ?_, (h c).2.1.trans ?_, (h c).2.2.1.trans ?_, (h c).2.2.2.1.trans ?_, (h c).2.2.2.2⟩
    · unfold Cert.InRefIdeal.Value.res_main_v52
      rw [e0, e1, e2, e3, e4, e5]
      rfl
    · rw [e0, e1, e2, e5]
      rfl
    · rw [e0, e1]
      rfl
    · rw [e0, e1, e2, e4]
      rfl

end Cert.Proof.InBwd

end
-- ==== Proof.UpWgrad.lean ====
/- The gradient of the FFN's up projection with respect to its weight: the kernel's row blocks are the row blocks of the
   reference's one product.

   The incoming gradient comes in two halves, for the gate and for the gated values. Grid steps 0 to 10 multiply 256 columns
   of the first, transposed, with the whole input of the projection, steps 11 to 21 those of the second. -/
module

public import proofs.«01_k».proof.Defs
public import proofs.«01_k».proof.Proof.Gen.UpWgradIdeal.Value
public import proofs.«01_k».proof.Proof.Gen.UpWrefIdeal.Run
public import Idealize.ShloMosaic.Lib.Pipeline.ValueKit
public import Idealize.ShloMosaic.Lib.Claim

@[expose] public section

set_option maxRecDepth 16384

noncomputable section

namespace Cert.Proof.UpWgrad

open Cert.UpWgradIdeal Cert.UpWgradIdeal.Gen
open Idealize.ShloMosaic Idealize.ShloMosaic.TcCoe Idealize.ShloMosaic.Tactic Idealize.SL.Sem

theorem idx : ∀ t : Fin cfg0.N, win0_0.index t = ![0, min t.val 10] ∧ win0_1.index t = ![0, t.val - 11] ∧ win0_2.index t = ![0, 0]
    ∧ win0_3.index t = ![t.val, 0] := by
  decide +kernel

variable (m : (ℓ : Loc nD τ sig) → Buf (Elt Ideal) ℓ) (c : Dev nD)

/-- The reference's product of the kernel's arguments. -/
def product : Vec Ideal S5632x1024 .bf16 :=
  transpose S5632x1024 [1, 0] (truncf .bf16 (transpose Cert.UpWrefIdeal.S1024x5632 [1, 0]
    (Host.dotGeneral (F := Ideal) Cert.UpWrefIdeal.dot_S4096x5632_S4096x1024_S5632x1024_0_0_1_1_n_n none
      (extf .f32 (concatenate Cert.UpWrefIdeal.S4096x5632 1 [⟨S4096x2816, (m ((c.tc : Thread nD τ).loc main_arg0))⟩, ⟨S4096x2816, (m ((c.tc : Thread nD τ).loc main_arg1))⟩]
        Cert.UpWrefIdeal.Gen.concatenates_S4096x2816_S4096x2816_S4096x5632_d1) Cert.UpWrefIdeal.Gen.bitsLt_bf16_f32)
      (extf .f32 (m ((c.tc : Thread nD τ).loc main_arg2)) Cert.UpWrefIdeal.Gen.bitsLt_bf16_f32))
    Cert.UpWrefIdeal.Gen.transposes_S5632x1024_S1024x5632_1_0) Cert.UpWrefIdeal.Gen.bitsLt_bf16_f32) Cert.UpWrefIdeal.Gen.transposes_S1024x5632_S5632x1024_1_0

theorem final : (dats m 0 c).arrAt 3 cfg0.N = product m c := by
  refine (dats m 0 c).arrAt_eq_of_covers 3 _ (by decide +kernel) fun t hf (y : S256x1024.Idx) => ?_
  have hy : (y 0).val < 256 := (y 0).isLt
  have ht : t.val < 22 := t.isLt
  have he : (((win0_3.blk t).view.emb y) 0 : ℕ) = t.val * 256 + (y 0).val := by blk_simp [idx t]
  blk_simp
  rw [after0_3]
  by_cases h0 : t.val < 11
  · rw [outsAt0_A m c t h0 (by omega)]
    frame_out
    unfold k0_pay2 product
    pointwise
    refine Fin.sum_fin_congr fun k => ?_
    rw [dif_pos (by rw [he]; omega)]
    refine congrArg₂ (· * · : EReal → EReal → EReal) ?_ ?_ <;> blk_ext [iblk, idx t, V_main_arg0, V_main_arg1, V_main_arg2]
  · rw [outsAt0_B m c t h0 (by omega)]
    frame_out
    unfold k0_pay1 product
    pointwise
    refine Fin.sum_fin_congr fun k => ?_
    rw [dif_neg (by rw [he]; omega)]
    refine congrArg₂ (· * · : EReal → EReal → EReal) ?_ ?_ <;> blk_ext [iblk, idx t, V_main_arg0, V_main_arg1, V_main_arg2]

/-- The reference leaves its arguments as they were. -/
theorem ref_frame (m : (ℓ : Loc Cert.UpWrefIdeal.nD Cert.UpWrefIdeal.τ Cert.UpWrefIdeal.sig) → Buf (Elt Ideal) ℓ)
    (ρ : Dev Cert.UpWrefIdeal.nD → PrngReg) :
    θ_run Cert.UpWrefIdeal.defs (onTc (τ := Cert.UpWrefIdeal.τ) (Cert.UpWrefIdeal.main (F := Ideal))) ⟨m, fun _ => 0, ρ⟩ (fun r => (∀ c : Dev Cert.UpWrefIdeal.nD,
      r.2.mem ((c.tc : Thread Cert.UpWrefIdeal.nD Cert.UpWrefIdeal.τ).loc Cert.UpWrefIdeal.main_arg0) = m ((c.tc : Thread Cert.UpWrefIdeal.nD Cert.UpWrefIdeal.τ).loc Cert.UpWrefIdeal.main_arg0)
      ∧ r.2.mem ((c.tc : Thread Cert.UpWrefIdeal.nD Cert.UpWrefIdeal.τ).loc Cert.UpWrefIdeal.main_arg1) = m ((c.tc : Thread Cert.UpWrefIdeal.nD Cert.UpWrefIdeal.τ).loc Cert.UpWrefIdeal.main_arg1)
      ∧ r.2.mem ((c.tc : Thread Cert.UpWrefIdeal.nD Cert.UpWrefIdeal.τ).loc Cert.UpWrefIdeal.main_arg2) = m ((c.tc : Thread Cert.UpWrefIdeal.nD Cert.UpWrefIdeal.τ).loc Cert.UpWrefIdeal.main_arg2))
      ∧ r.2.sem = fun _ => 0) :=
  (θ_run _ _ _).mono (fun r h => ⟨fun c => (h c).2, sem_eq_zero_of_no_sems (by decide) r.2⟩) (Cert.UpWrefIdeal.Value.run (F := Ideal) m ρ)

set_option maxHeartbeats 4000000 in
theorem algebraic : Cert.algebraic_UpWgradIdeal_UpWrefIdeal := by
  intro m g m' g' _ hagree
  refine ⟨fun c => product m c, (θ_run _ _ _).mono (fun r h c => ⟨(h c).1.trans (final m c), (h c).2⟩) (Cert.UpWgradIdeal.Value.run_blocks m g),
    (θ_run _ _ _).mono (fun r h c => ?_) (Cert.UpWrefIdeal.Value.run (F := Ideal) m' g')⟩
  obtain ⟨e0, e1, e2⟩ := hagree c
  refine ⟨(h c).1.trans ?_, (h c).2⟩
  rw [e0, e1, e2]
  rfl

end Cert.Proof.UpWgrad

end
-- ==== Proof.DownWgrad.lean ====
/- The gradient of the FFN's down projection with respect to its weight: the kernel's row blocks are the row blocks of the
   reference's one product.

   Grid step `t` multiplies 256 columns of the activations, transposed, with the whole incoming gradient. -/
module

public import proofs.«01_k».proof.Defs
public import proofs.«01_k».proof.Proof.Gen.DownWgradIdeal.Value
public import proofs.«01_k».proof.Proof.Gen.DownWrefIdeal.Run
public import Idealize.ShloMosaic.Lib.Pipeline.ValueKit
public import Idealize.ShloMosaic.Lib.Claim

@[expose] public section

set_option maxRecDepth 16384

noncomputable section

namespace Cert.Proof.DownWgrad

open Cert.DownWgradIdeal Cert.DownWgradIdeal.Gen
open Idealize.ShloMosaic Idealize.ShloMosaic.TcCoe Idealize.ShloMosaic.Tactic Idealize.SL.Sem

theorem idx : ∀ t : Fin cfg0.N, win0_0.index t = ![0, t.val] ∧ win0_1.index t = ![0, 0] ∧ win0_2.index t = ![t.val, 0] := by
  decide +kernel

variable (m : (ℓ : Loc nD τ sig) → Buf (Elt Ideal) ℓ) (c : Dev nD)

/-- The reference's product of the kernel's arguments. -/
def product : Vec Ideal S2816x1024 .bf16 :=
  truncf .bf16 (transpose S2816x1024 [1, 0] (Host.dotGeneral (F := Ideal) Cert.DownWrefIdeal.dot_S4096x1024_S4096x2816_S1024x2816_0_0_1_1_n_n none
    (extf .f32 (m ((c.tc : Thread nD τ).loc main_arg1)) Cert.DownWrefIdeal.Gen.bitsLt_bf16_f32)
    (extf .f32 (m ((c.tc : Thread nD τ).loc main_arg0)) Cert.DownWrefIdeal.Gen.bitsLt_bf16_f32)) Cert.DownWrefIdeal.Gen.transposes_S1024x2816_S2816x1024_1_0)
    Cert.DownWrefIdeal.Gen.bitsLt_bf16_f32

theorem final : (dats m 0 c).arrAt 2 cfg0.N = product m c := by
  refine (dats m 0 c).arrAt_eq_of_covers 2 _ (by decide +kernel) fun t hf (y : S256x1024.Idx) => ?_
  blk_simp
  rw [after0_2]
  unfold outsAt0
  frame_out
  unfold k0_pay1 product
  pointwise
  refine Fin.sum_fin_congr fun k => ?_
  refine (mul_comm (G := EReal) _ _).trans (congrArg₂ (· * · : EReal → EReal → EReal) ?_ ?_) <;> blk_ext [iblk, idx t, V_main_arg0, V_main_arg1]

/-- The reference leaves its arguments as they were. -/
theorem ref_frame (m : (ℓ : Loc Cert.DownWrefIdeal.nD Cert.DownWrefIdeal.τ Cert.DownWrefIdeal.sig) → Buf (Elt Ideal) ℓ)
    (ρ : Dev Cert.DownWrefIdeal.nD → PrngReg) :
    θ_run Cert.DownWrefIdeal.defs (onTc (τ := Cert.DownWrefIdeal.τ) (Cert.DownWrefIdeal.main (F := Ideal))) ⟨m, fun _ => 0, ρ⟩ (fun r => (∀ c : Dev Cert.DownWrefIdeal.nD,
      r.2.mem ((c.tc : Thread Cert.DownWrefIdeal.nD Cert.DownWrefIdeal.τ).loc Cert.DownWrefIdeal.main_arg0) = m ((c.tc : Thread Cert.DownWrefIdeal.nD Cert.DownWrefIdeal.τ).loc Cert.DownWrefIdeal.main_arg0)
      ∧ r.2.mem ((c.tc : Thread Cert.DownWrefIdeal.nD Cert.DownWrefIdeal.τ).loc Cert.DownWrefIdeal.main_arg1) = m ((c.tc : Thread Cert.DownWrefIdeal.nD Cert.DownWrefIdeal.τ).loc Cert.DownWrefIdeal.main_arg1))
      ∧ r.2.sem = fun _ => 0) :=
  (θ_run _ _ _).mono (fun r h => ⟨fun c => (h c).2, sem_eq_zero_of_no_sems (by decide) r.2⟩) (Cert.DownWrefIdeal.Value.run (F := Ideal) m ρ)

set_option maxHeartbeats 4000000 in
theorem algebraic : Cert.algebraic_DownWgradIdeal_DownWrefIdeal := by
  intro m g m' g' _ hagree
  refine ⟨fun c => product m c, (θ_run _ _ _).mono (fun r h c => ⟨(h c).1.trans (final m c), (h c).2⟩) (Cert.DownWgradIdeal.Value.run_blocks m g),
    (θ_run _ _ _).mono (fun r h c => ?_) (Cert.DownWrefIdeal.Value.run (F := Ideal) m' g')⟩
  obtain ⟨e0, e1⟩ := hagree c
  refine ⟨(h c).1.trans ?_, (h c).2⟩
  rw [e0, e1]
  rfl

end Cert.Proof.DownWgrad

end
-- ==== Proof.DownBwd.lean ====
/- The gradient of the FFN's down projection `a w`, of its normalisation and of the gate on it: the kernel's blocks are
   the reference's gradients.

   Every grid step takes 512 rows: the gradient of the normalisation of those rows (`Rms`), its product with the transposed
   weight, and it adds the rows' terms to the two sums over all rows. -/
module

public import proofs.«01_k».proof.Defs
public import proofs.«01_k».proof.Proof.Rms
public import proofs.«01_k».proof.Proof.Gen.DownBwdIdeal.Value
public import proofs.«01_k».proof.Proof.Gen.DownRefIdeal.Run
public import proofs.«01_k».proof.Proof.Gen.Pre_down_finite
public import Idealize.ShloMosaic.Lib.Pipeline.ValueKit
public import Idealize.ShloMosaic.Lib.ReduceAll
public import Idealize.ShloMosaic.Lib.IdealHost
public import Idealize.ShloMosaic.Lib.Claim

@[expose] public section

set_option maxRecDepth 16384

noncomputable section

namespace Cert.Proof.DownBwd

open Cert.DownBwdIdeal Cert.DownBwdIdeal.Gen Cert.ConvRefIdeal.Grad
open Idealize.ShloMosaic Idealize.ShloMosaic.TcCoe Idealize.ShloMosaic.Tactic Idealize.SL.Sem

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] := by
  decide +kernel

/-- Row `p` of grid step `t`'s block in the whole array. -/
def row (t : Fin cfg0.N) (p : Fin 512) : Fin 4096 := ⟨t.val * 512 + p.val, by have : t.val < 8 := t.isLt; omega⟩

/-! ## The gradient of a normalised matrix that has no other use -/

/-- The reference's, operation by operation, -/
def dPlain (x dn : Rms.Mat) : Rms.Mat := addf (addf (Rms.scaled dn x) (mulf x (Rms.backMat x dn))) (mulf (Rms.backMat x dn) x)
/-- is the kernel's on real numbers. -/
theorem dPlain_apply (x dn : Rms.Mat) (t : Fin 4096) (j : Fin 1024) (hx : ∀ k : Fin 1024, Real' (x (ix2 t k)))
    (hd : ∀ k : Fin 1024, Real' (dn (ix2 t k))) :
    dPlain x dn (ix2 t j) = Rms.inv (fun k => x (ix2 t k)) * (dn (ix2 t j) - (x (ix2 t j) * Rms.inv fun k => x (ix2 t k))
      * Ideal.div (∑ k : Fin 1024, dn (ix2 t k) * (x (ix2 t k) * Rms.inv fun k => x (ix2 t k))) Rms.c1024) := by
  refine Eq.trans ?_ (Rms.row_eq (fun k => x (ix2 t k)) (fun k => dn (ix2 t k)) hx hd j)
  show (Rms.scaled dn x (ix2 t j) + x (ix2 t j) * Rms.backMat x dn (ix2 t j)) + Rms.backMat x dn (ix2 t j) * x (ix2 t j) = _
  rw [Rms.scaled_apply, Rms.backMat_apply]

/-! ## The arguments -/

section
variable (m : (ℓ : Loc nD τ sig) → Buf (Elt Ideal) ℓ) (c : Dev nD)

abbrev dxn : Rms.Mat := m ((c.tc : Thread nD τ).loc main_arg0)
abbrev act : FVec Ideal Cert.DownRefIdeal.S4096x2816 .bf16 := m ((c.tc : Thread nD τ).loc main_arg1)
abbrev wt : FVec Ideal Cert.DownRefIdeal.S2816x1024 .bf16 := m ((c.tc : Thread nD τ).loc main_arg2)
abbrev gain : Rms.Row := m ((c.tc : Thread nD τ).loc main_arg3)
abbrev gate : Rms.Row := m ((c.tc : Thread nD τ).loc main_arg4)

/-- The projection, -/
def proj : Rms.Mat := Host.dotGeneral (F := Ideal) Cert.DownRefIdeal.dot_S4096x2816_S2816x1024_S4096x1024_1_0_0_1_n_n none
  (extf .f32 (act m c) Cert.DownRefIdeal.Gen.bitsLt_bf16_f32) (extf .f32 (wt m c) Cert.DownRefIdeal.Gen.bitsLt_bf16_f32)
/-- the gradient of its normalised rows, -/
def dn : Rms.Mat := mulf (mulf (Rms.rows (gate m c)) (dxn m c)) (Rms.rows (gain m c))
/-- of the projection, -/
def dProj : Rms.Mat := dPlain (proj m c) (dn m c)
def dy : FVec Ideal Cert.DownRefIdeal.S4096x1024 .bf16 := truncf .bf16 (dProj m c) Cert.DownRefIdeal.Gen.bitsLt_bf16_f32
/-- of what is projected, -/
def dAct : FVec Ideal Cert.DownRefIdeal.S4096x2816 .bf16 := truncf .bf16
  (Host.dotGeneral (F := Ideal) Cert.DownRefIdeal.dot_S4096x1024_S2816x1024_S4096x2816_1_1_0_0_n_n none (dProj m c)
    (extf .f32 (wt m c) Cert.DownRefIdeal.Gen.bitsLt_bf16_f32)) Cert.DownRefIdeal.Gen.bitsLt_bf16_f32
/-- of the normalisation's gain -/
def dGain : Rms.Row := Rms.total (mulf (Rms.scaled (proj m c) (proj m c)) (mulf (Rms.rows (gate m c)) (dxn m c)))
/-- and of the gate. -/
def dGate : Rms.Row := Rms.total (mulf (dxn m c) (mulf (Rms.scaled (proj m c) (proj m c)) (Rms.rows (gain m c))))

theorem proj_apply (i : Fin 4096) (j : Fin 1024) :
    proj m c (ix2 i j) = ∑ k : Fin 2816, (act m c (ix2 i k) : EReal) * wt m c (ix2 k j) := by
  unfold proj
  pointwise
theorem dn_apply (i : Fin 4096) (j : Fin 1024) :
    dn m c (ix2 i j) = dxn m c (ix2 i j) * (gate m c (ix2 0 j) * gain m c (ix2 0 j)) := by
  show Rms.rows (gate m c) (ix2 i j) * dxn m c (ix2 i j) * Rms.rows (gain m c) (ix2 i j) = _
  rw [Rms.rows_apply, Rms.rows_apply, mul_comm (G := EReal) (gate m c _), mul_assoc (G := EReal)]
theorem dAct_apply (i : Fin 4096) (j : Fin 2816) :
    dAct m c (ix2 i j) = ∑ k : Fin 1024, (dProj m c (ix2 i k) : EReal) * wt m c (ix2 j k) := by
  unfold dAct
  pointwise
theorem dGain_apply (k : Fin 1) (j : Fin 1024) : dGain m c (ix2 k j) = ∑ t : Fin 4096, (dxn m c (ix2 t j) * gate m c (ix2 0 j))
    * (proj m c (ix2 t j) * Rms.inv fun k => proj m c (ix2 t k)) := by
  unfold dGain
  rw [Rms.total_apply]
  refine Fin.sum_fin_congr fun t => ?_
  show Rms.scaled (proj m c) (proj m c) (ix2 t j) * (Rms.rows (gate m c) (ix2 t j) * dxn m c (ix2 t j)) = _
  rw [Rms.scaled_apply, Rms.rows_apply, mul_comm (G := EReal), mul_comm (G := EReal) (gate m c _)]
theorem dGate_apply (k : Fin 1) (j : Fin 1024) : dGate m c (ix2 k j) = ∑ t : Fin 4096, (dxn m c (ix2 t j) * gain m c (ix2 0 j))
    * (proj m c (ix2 t j) * Rms.inv fun k => proj m c (ix2 t k)) := by
  unfold dGate
  rw [Rms.total_apply]
  refine Fin.sum_fin_congr fun t => ?_
  show dxn m c (ix2 t j) * (Rms.scaled (proj m c) (proj m c) (ix2 t j) * Rms.rows (gain m c) (ix2 t j)) = _
  rw [Rms.scaled_apply, Rms.rows_apply, mul_comm (G := EReal) _ (gain m c _), mul_assoc (G := EReal)]

/-! ## The blocks the kernel reads -/

variable (t : Fin cfg0.N)

theorem proj_array : V m c main_v1 = truncf .bf16 (Host.dotGeneral (F := Ideal) (φ₁ := .bf16) (φ₂ := .bf16) dot_S4096x2816_S2816x1024_S4096x1024_1_0_0_1_n_n none
    (m ((c.tc : Thread nD τ).loc main_arg1)) (m ((c.tc : Thread nD τ).loc main_arg2))) bitsLt_bf16_f32 := by
  entry_read; rfl
theorem proj_block (p : Fin 512) (j : Fin 1024) : iblk m c 1 t (ix2 p j) = proj m c (ix2 (row t p) j) := by
  have he : ((win0_1.blk t).view.emb (ix2 p j)) = ix2 (row t p) j := by
    blk_ext [idx t, row]
  show V m c main_v1 ((win0_1.blk t).view.emb (ix2 p j)) = _
  rw [proj_array, he, proj_apply]
  pointwise
theorem weight_block (k : Fin 2816) (j : Fin 1024) : iblk m c 4 t (ix2 k j) = wt m c (ix2 k j) := by
  blk_ext [iblk, idx t, V_main_arg2]
theorem dxn_block (p : Fin 512) (k : Fin 1024) : iblk m c 0 t (ix2 p k) = dxn m c (ix2 (row t p) k) := by
  blk_ext [iblk, idx t, V_main_arg0, row]
theorem gain_block (p : Fin 1) (k : Fin 1024) : iblk m c 2 t (ix2 p k) = gain m c (ix2 0 k) := by
  blk_ext [iblk, idx t, V_main_arg3]
theorem gate_block (p : Fin 1) (k : Fin 1024) : iblk m c 3 t (ix2 p k) = gate m c (ix2 0 k) := by
  blk_ext [iblk, idx t, V_main_arg4]
theorem read_block (p : Fin 512) (j : Fin 1024) : k0_pay5 (iblk m c 1 t) (ix2 p j) = proj m c (ix2 (row t p) j) := by
  unfold k0_pay5
  pointwise
  exact proj_block m c t p j
theorem inv_block (p : Fin 512) (k : Fin 1) : k0_pay6 (iblk m c 1 t) (ix2 p k) = Rms.inv fun j => proj m c (ix2 (row t p) j) := by
  unfold k0_pay6 Rms.inv Rms.var
  pointwise
  simp only [read_block]
theorem normed_block (p : Fin 512) (j : Fin 1024) :
    k0_pay7 (iblk m c 1 t) (ix2 p j) = proj m c (ix2 (row t p) j) * Rms.inv fun j => proj m c (ix2 (row t p) j) := by
  unfold k0_pay7
  pointwise
  rw [read_block, inv_block]

/-! ## The arrays the kernel leaves -/

/-- A block of the gradient of the projection, -/
theorem dy_block (hx : ∀ i, Real' (proj m c i)) (hd : ∀ i, Real' (dn m c i)) (p : Fin 512) (j : Fin 1024) :
    k0_pay1 (iblk m c 0 t) (k0_pay6 (iblk m c 1 t)) (k0_pay7 (iblk m c 1 t)) (iblk m c 2 t) (iblk m c 3 t) (ix2 p j)
      = dProj m c (ix2 (row t p) j) := by
  rw [dProj, dPlain_apply _ _ _ _ (fun k => hx _) (fun k => hd _)]
  unfold k0_pay1
  pointwise
  simp only [dxn_block, gain_block, gate_block, inv_block, normed_block, dn_apply]
/-- of what is projected. -/
theorem dAct_block (hx : ∀ i, Real' (proj m c i)) (hd : ∀ i, Real' (dn m c i)) (p : Fin 512) (j : Fin 2816) :
    k0_pay2 (iblk m c 0 t) (k0_pay6 (iblk m c 1 t)) (k0_pay7 (iblk m c 1 t)) (iblk m c 2 t) (iblk m c 3 t) (iblk m c 4 t) (ix2 p j)
      = dAct m c (ix2 (row t p) j) := by
  rw [dAct_apply]
  unfold k0_pay2
  pointwise
  simp only [dy_block m c t hx hd, weight_block]

theorem dy_final (hx : ∀ i, Real' (proj m c i)) (hd : ∀ i, Real' (dn m c i)) : (dats m 0 c).arrAt 5 cfg0.N = dy m c := by
  refine (dats m 0 c).arrAt_eq_of_covers 5 _ (by decide +kernel) fun t hf (y : S512x1024.Idx) => ?_
  have hy : y = ix2 (y 0) (y 1) := by funext a; fin_cases a <;> rfl
  have he : ((win0_5.blk t).view.emb y) = ix2 (row t (y 0)) (y 1) := by
    blk_ext [idx t, row]
  refine Eq.trans ?_ (congrArg (dy m c) he.symm)
  refine Eq.trans ?_ (dy_block m c t hx hd (y 0) (y 1))
  blk_simp
  rw [after0_5]
  by_cases h0 : t.val % 8 = 0
  · rw [outsAt0_A m c t h0]
    frame_out
    exact congrArg _ hy
  · rw [outsAt0_B m c t h0]
    frame_out
    exact congrArg _ hy

theorem dAct_final (hx : ∀ i, Real' (proj m c i)) (hd : ∀ i, Real' (dn m c i)) : (dats m 0 c).arrAt 6 cfg0.N = dAct m c := by
  refine (dats m 0 c).arrAt_eq_of_covers 6 _ (by decide +kernel) fun t hf (y : S512x2816.Idx) => ?_
  have hy : y = ix2 (y 0) (y 1) := by funext a; fin_cases a <;> rfl
  have he : ((win0_6.blk t).view.emb y) = ix2 (row t (y 0)) (y 1) := by
    blk_ext [idx t, row]
  refine Eq.trans ?_ (congrArg (dAct m c) he.symm)
  refine Eq.trans ?_ (dAct_block m c t hx hd (y 0) (y 1))
  blk_simp
  rw [after0_6]
  by_cases h0 : t.val % 8 = 0
  · rw [outsAt0_A m c t h0]
    frame_out
    exact congrArg _ hy
  · rw [outsAt0_B m c t h0]
    frame_out
    exact congrArg _ hy

/-- The column of an index of a row of numbers. -/
def col (j : S1x1024.Idx) : Fin 1024 := j 1
theorem col_spec (j : S1x1024.Idx) : ∃ (k : Fin 1) (q : Fin 1024), j = ix2 k q := ⟨j 0, j 1, by funext a; fin_cases a <;> rfl⟩

/-- The terms one grid step adds to the two sums, -/
def gainTerm (p : Fin cfg0.N) (j : Fin 1024) : EReal := ∑ x : Fin 512, (dxn m c (ix2 (row p x) j) * gate m c (ix2 0 j))
  * (proj m c (ix2 (row p x) j) * Rms.inv fun k => proj m c (ix2 (row p x) k))
def gateTerm (p : Fin cfg0.N) (j : Fin 1024) : EReal := ∑ x : Fin 512, (dxn m c (ix2 (row p x) j) * gain m c (ix2 0 j))
  * (proj m c (ix2 (row p x) j) * Rms.inv fun k => proj m c (ix2 (row p x) k))

theorem gain_step (a : Vec Ideal S1x1024 .f32) (j : S1x1024.Idx) :
    k0_pay8 (iblk m c 0 t) (iblk m c 1 t) (iblk m c 3 t) a j = (a j + gainTerm m c t (col j) : EReal) := by
  obtain ⟨z, q, rfl⟩ := col_spec j
  show _ = (_ + gainTerm m c t q : EReal)
  unfold k0_pay8 gainTerm
  pointwise
  simp only [dxn_block, gate_block, normed_block]
theorem gate_step (a : Vec Ideal S1x1024 .f32) (j : S1x1024.Idx) :
    k0_pay9 (iblk m c 0 t) (iblk m c 1 t) (iblk m c 2 t) a j = (a j + gateTerm m c t (col j) : EReal) := by
  obtain ⟨z, q, rfl⟩ := col_spec j
  show _ = (_ + gateTerm m c t q : EReal)
  unfold k0_pay9 gateTerm
  pointwise
  simp only [dxn_block, gain_block, normed_block]

/-- and the two sums over all rows. -/
theorem dGain_final : (dats m 0 c).arrAt 7 cfg0.N = dGain m c := by
  refine (dats m 0 c).arrAt_eq_of_after_last 7 (⟨7, by decide⟩ : Fin cfg0.N) (by decide +kernel) _ fun (j : S1x1024.Idx) => ?_
  obtain ⟨z, q, rfl⟩ := col_spec j
  blk_simp
  refine (congrFun (after0_7 m c _) _).trans ?_
  refine (Pipeline.eq_sum_fin_of_reset_step_apply_last (fun n h => (outsAt0 m c n h).2.2.1) 8 (fun _ => (0 : EReal)) (fun p j => gainTerm m c p (col j)) ?_ ?_ (by decide) ⟨7, by decide⟩ rfl _).trans ?_
  · intro t h j
    rw [outsAt0_A m c t h]
    frame_out
    refine (gain_step m c t _ j).trans (congrArg (· + gainTerm m c t (col j) : EReal → EReal) ?_)
    unfold k0_pay3; pointwise
  · intro t h j
    rw [outsAt0_B m c t h]
    frame_out
    exact gain_step m c t _ j
  · refine (zero_add (M := EReal) _).trans (Eq.trans ?_ (dGain_apply m c _ q).symm)
    exact Fin.sum_mul_add_congr fun s k hl => rfl

theorem dGate_final : (dats m 0 c).arrAt 8 cfg0.N = dGate m c := by
  refine (dats m 0 c).arrAt_eq_of_after_last 8 (⟨7, by decide⟩ : Fin cfg0.N) (by decide +kernel) _ fun (j : S1x1024.Idx) => ?_
  obtain ⟨z, q, rfl⟩ := col_spec j
  blk_simp
  refine (congrFun (after0_8 m c _) _).trans ?_
  refine (Pipeline.eq_sum_fin_of_reset_step_apply_last (fun n h => (outsAt0 m c n h).2.2.2) 8 (fun _ => (0 : EReal)) (fun p j => gateTerm m c p (col j)) ?_ ?_ (by decide) ⟨7, by decide⟩ rfl _).trans ?_
  · intro t h j
    rw [outsAt0_A m c t h]
    frame_out
    refine (gate_step m c t _ j).trans (congrArg (· + gateTerm m c t (col j) : EReal → EReal) ?_)
    unfold k0_pay4; pointwise
  · intro t h j
    rw [outsAt0_B m c t h]
    frame_out
    exact gate_step m c t _ j
  · refine (zero_add (M := EReal) _).trans (Eq.trans ?_ (dGate_apply m c _ q).symm)
    exact Fin.sum_mul_add_congr fun s k hl => rfl

/-! ## Where the arguments are finite -/

theorem finite_of_pre (h : Cert.Pre_down_finite.fn (F := Ideal) (dxn m c) (act m c) (wt m c) (gain m c) (gate m c) = fun _ => 1#1) :
    (∀ i, Real' (dxn m c i)) ∧ (∀ i, Real' (act m c i)) ∧ (∀ i, Real' (wt m c i)) ∧ (∀ i, Real' (gain m c i)) ∧ (∀ i, Real' (gate m c i)) := by
  have h0 := congrFun h (fun x => x.elim0)
  unfold Cert.Pre_down_finite.fn Cert.Pre_down_finite.fn_part1 at h0
  obtain ⟨h1, hs⟩ := IntOp.andi_eq_one.1 h0
  obtain ⟨h2, hg⟩ := IntOp.andi_eq_one.1 h1
  obtain ⟨h3, hw⟩ := IntOp.andi_eq_one.1 h2
  obtain ⟨hx, ha⟩ := IntOp.andi_eq_one.1 h3
  exact ⟨fun i => real_of_abs_lt _ (Host.reduce_andi_all _ _ _ _ _ hx i), fun i => real_of_abs_lt _ (Host.reduce_andi_all _ _ _ _ _ ha i),
    fun i => real_of_abs_lt _ (Host.reduce_andi_all _ _ _ _ _ hw i), fun i => real_of_abs_lt _ (Host.reduce_andi_all _ _ _ _ _ hg i),
    fun i => real_of_abs_lt _ (Host.reduce_andi_all _ _ _ _ _ hs i)⟩

theorem proj_real (ha : ∀ i, Real' (act m c i)) (hw : ∀ i, Real' (wt m c i)) (i) : Real' (proj m c i) := by
  obtain ⟨p, q, rfl⟩ : ∃ (p : Fin 4096) (q : Fin 1024), i = ix2 p q := ⟨i 0, i 1, by funext a; fin_cases a <;> rfl⟩
  rw [proj_apply]
  exact Rms.sum_real _ fun k => (ha _).mul (hw _)
theorem dn_real (hx : ∀ i, Real' (dxn m c i)) (hg : ∀ i, Real' (gain m c i)) (hs : ∀ i, Real' (gate m c i)) (i) : Real' (dn m c i) := by
  obtain ⟨p, q, rfl⟩ : ∃ (p : Fin 4096) (q : Fin 1024), i = ix2 p q := ⟨i 0, i 1, by funext a; fin_cases a <;> rfl⟩
  rw [dn_apply]
  exact (hx _).mul ((hs _).mul (hg _))

end

/-! ## The claims -/

/-- The reference leaves its arguments as they were. -/
theorem ref_frame (m : (ℓ : Loc Cert.DownRefIdeal.nD Cert.DownRefIdeal.τ Cert.DownRefIdeal.sig) → Buf (Elt Ideal) ℓ)
    (ρ : Dev Cert.DownRefIdeal.nD → PrngReg) :
    θ_run Cert.DownRefIdeal.defs (onTc (τ := Cert.DownRefIdeal.τ) (Cert.DownRefIdeal.main (F := Ideal))) ⟨m, fun _ => 0, ρ⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0) :=
  (θ_run _ _ _).mono (fun r h => ⟨fun c => (h c).2.2.2.2, sem_eq_zero_of_no_sems (by decide) r.2⟩) (Cert.DownRefIdeal.Value.run (F := Ideal) m ρ)

set_option maxHeartbeats 4000000 in
/-- Where the arguments are finite, the kernel and the reference leave the same four gradients. -/
theorem algebraic : Cert.algebraic_DownBwdIdeal_DownRefIdeal_pre_down_finite := by
  intro m g m' g' hpre hagree
  refine ⟨fun c => dy m c, fun c => dAct m c, fun c => dGain m c, fun c => dGate m c,
    (θ_run _ _ _).mono (fun r h c => ?_) (Cert.DownBwdIdeal.Value.run_blocks m g),
    (θ_run _ _ _).mono (fun r h c => ?_) (Cert.DownRefIdeal.Value.run (F := Ideal) m' g')⟩
  · obtain ⟨hx, ha, hw, hg, hs⟩ := finite_of_pre m c (hpre c)
    exact ⟨(h c).1.trans (dy_final m c (proj_real m c ha hw) (dn_real m c hx hg hs)),
      (h c).2.1.trans (dAct_final m c (proj_real m c ha hw) (dn_real m c hx hg hs)), (h c).2.2.1.trans (dGain_final m c),
      (h c).2.2.2.1.trans (dGate_final m c), (h c).2.2.2.2⟩
  · obtain ⟨e0, e1, e2, e3, e4⟩ := hagree c
    refine ⟨(h c).1.trans ?_, (h c).2.1.trans ?_, (h c).2.2.1.trans ?_, (h c).2.2.2.1.trans ?_, (h c).2.2.2.2⟩
    · unfold Cert.DownRefIdeal.Value.res_main_v45
      rw [e0, e1, e2, e3, e4]
      rfl
    · unfold Cert.DownRefIdeal.Value.res_main_v46
      rw [e0, e1, e2, e3, e4]
      rfl
    · rw [e0, e1, e2, e4]
      rfl
    · rw [e0, e1, e2, e3]
      rfl

end Cert.Proof.DownBwd

end
-- ==== Proof.OddBwd.lean ====
/- The gradient of the step's input through layer 1's normalisation and its input projection: the kernel's blocks are the
   reference's gradients.

   Every grid step takes 512 rows: the incoming gradient times the transposed weight, then the gradient of the
   normalisation of those rows (`Rms`), and it adds the rows' terms to the three sums over all rows. -/
module

public import proofs.«01_k».proof.Defs
public import proofs.«01_k».proof.Proof.Rms
public import proofs.«01_k».proof.Proof.Gen.OddBwdIdeal.Value
public import proofs.«01_k».proof.Proof.Gen.OddRefIdeal.Run
public import proofs.«01_k».proof.Proof.Gen.Pre_odd_finite
public import Idealize.ShloMosaic.Lib.Pipeline.ValueKit
public import Idealize.ShloMosaic.Lib.ReduceAll
public import Idealize.ShloMosaic.Lib.IdealHost
public import Idealize.ShloMosaic.Lib.Claim

@[expose] public section

set_option maxRecDepth 16384

noncomputable section

namespace Cert.Proof.OddBwd

open Cert.OddBwdIdeal Cert.OddBwdIdeal.Gen Cert.ConvRefIdeal.Grad
open Idealize.ShloMosaic Idealize.ShloMosaic.TcCoe Idealize.ShloMosaic.Tactic Idealize.SL.Sem

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] ∧ win0_8.index t = ![0, 0] ∧ win0_9.index t = ![0, 0] := by
  decide +kernel

/-- Row `p` of grid step `t`'s block in the whole array. -/
def row (t : Fin cfg0.N) (p : Fin 512) : Fin 4096 := ⟨t.val * 512 + p.val, by have : t.val < 8 := t.isLt; omega⟩

/-! ## The arguments -/

section
variable (m : (ℓ : Loc nD τ sig) → Buf (Elt Ideal) ℓ) (c : Dev nD)

abbrev dz : FVec Ideal Cert.OddRefIdeal.S4096x2048 .bf16 := m ((c.tc : Thread nD τ).loc main_arg0)
abbrev wt : FVec Ideal Cert.OddRefIdeal.S1024x2048 .bf16 := m ((c.tc : Thread nD τ).loc main_arg1)
abbrev inp : Rms.Mat := m ((c.tc : Thread nD τ).loc main_arg2)
abbrev dres : Rms.Mat := m ((c.tc : Thread nD τ).loc main_arg3)
abbrev gain : Rms.Row := m ((c.tc : Thread nD τ).loc main_arg4)
abbrev scl : Rms.Row := m ((c.tc : Thread nD τ).loc main_arg5)

/-- The gradient of the projection's input, -/
def dh : Rms.Mat := Host.dotGeneral (F := Ideal) Cert.OddRefIdeal.dot_S4096x2048_S1024x2048_S4096x1024_1_1_0_0_n_n none
  (extf .f32 (dz m c) Cert.OddRefIdeal.Gen.bitsLt_bf16_f32) (extf .f32 (wt m c) Cert.OddRefIdeal.Gen.bitsLt_bf16_f32)
/-- and of the normalised rows. -/
def dn : Rms.Mat := Rms.dNormed (dh m c) (gain m c) (scl m c)

theorem dh_apply (i : Fin 4096) (j : Fin 1024) : dh m c (ix2 i j) = ∑ k : Fin 2048, (dz m c (ix2 i k) : EReal) * wt m c (ix2 j k) := by
  unfold dh
  pointwise

/-! ## The blocks the kernel reads -/

variable (t : Fin cfg0.N)

theorem weight_block (k : Fin 2048) (j : Fin 1024) : iblk m c 1 t (ix2 k j) = wt m c (ix2 j k) := by
  have hw : V m c main_v0 = transpose S2048x1024 [1, 0] (m ((c.tc : Thread nD τ).loc main_arg1)) transposes_S1024x2048_S2048x1024_1_0 := by
    entry_read; rfl
  have he : ((win0_1.blk t).view.emb (ix2 k j)) = ix2 k j := by
    blk_ext [idx t]
  show V m c main_v0 ((win0_1.blk t).view.emb (ix2 k j)) = _
  rw [hw, he]
  pointwise
theorem dh_block (p : Fin 512) (j : Fin 1024) : k0_pay7 (iblk m c 0 t) (iblk m c 1 t) (ix2 p j) = dh m c (ix2 (row t p) j) := by
  rw [dh_apply]
  unfold k0_pay7
  pointwise
  refine Fin.sum_fin_congr fun k => ?_
  refine congrArg₂ (· * · : EReal → EReal → EReal) ?_ (weight_block m c t k j)
  blk_ext [iblk, idx t, V_main_arg0, row]
theorem inp_block (p : Fin 512) (k : Fin 1024) : iblk m c 2 t (ix2 p k) = inp m c (ix2 (row t p) k) := by
  blk_ext [iblk, idx t, V_main_arg2, row]
theorem dres_block (p : Fin 512) (k : Fin 1024) : iblk m c 3 t (ix2 p k) = dres m c (ix2 (row t p) k) := by
  blk_ext [iblk, idx t, V_main_arg3, row]
theorem gain_block (p : Fin 1) (k : Fin 1024) : iblk m c 4 t (ix2 p k) = gain m c (ix2 0 k) := by
  blk_ext [iblk, idx t, V_main_arg4]
theorem scl_block (p : Fin 1) (k : Fin 1024) : k0_pay10 (iblk m c 5 t) (ix2 p k) = Rms.one + scl m c (ix2 0 k) := by
  unfold k0_pay10 Rms.one
  pointwise
  refine congrArg (_ + · : EReal → EReal) ?_
  blk_ext [iblk, idx t, V_main_arg5]
theorem inv_block (p : Fin 512) (k : Fin 1) : k0_pay8 (iblk m c 2 t) (ix2 p k) = Rms.inv fun j => inp m c (ix2 (row t p) j) := by
  unfold k0_pay8 Rms.inv Rms.var
  pointwise
  simp only [inp_block]
theorem normed_block (p : Fin 512) (j : Fin 1024) :
    k0_pay9 (iblk m c 2 t) (ix2 p j) = inp m c (ix2 (row t p) j) * Rms.inv fun j => inp m c (ix2 (row t p) j) := by
  unfold k0_pay9
  pointwise
  rw [inp_block, inv_block]

/-! ## The arrays the kernel leaves -/

/-- A block of the gradient of the rows, -/
theorem dx_block (hx : ∀ i, Real' (inp m c i)) (hd : ∀ i, Real' (dn m c i)) (p : Fin 512) (j : Fin 1024) :
    k0_pay3 (k0_pay7 (iblk m c 0 t) (iblk m c 1 t)) (k0_pay8 (iblk m c 2 t)) (k0_pay9 (iblk m c 2 t)) (iblk m c 4 t)
      (k0_pay10 (iblk m c 5 t)) (iblk m c 3 t) (ix2 p j) = Rms.dInput (inp m c) (dn m c) (dres m c) (ix2 (row t p) j) := by
  rw [Rms.dInput_apply _ _ _ _ _ (fun k => hx _) (fun k => hd _)]
  unfold k0_pay3 dn
  pointwise
  simp only [inp_block, dres_block, gain_block, scl_block, inv_block, normed_block, dh_block, Rms.dNormed_apply]

theorem dx_final (hx : ∀ i, Real' (inp m c i)) (hd : ∀ i, Real' (dn m c i)) :
    (dats m 0 c).arrAt 6 cfg0.N = Rms.dInput (inp m c) (dn m c) (dres m c) := by
  refine (dats m 0 c).arrAt_eq_of_covers 6 _ (by decide +kernel) fun t hf (y : S512x1024.Idx) => ?_
  have hy : y = ix2 (y 0) (y 1) := by funext a; fin_cases a <;> rfl
  have he : ((win0_6.blk t).view.emb y) = ix2 (row t (y 0)) (y 1) := by
    blk_ext [idx t, row]
  refine Eq.trans ?_ (congrArg (Rms.dInput (inp m c) (dn m c) (dres m c)) he.symm)
  refine Eq.trans ?_ (dx_block m c t hx hd (y 0) (y 1))
  blk_simp
  rw [after0_6]
  by_cases h0 : t.val % 8 = 0
  · rw [outsAt0_A m c t h0]
    frame_out
    exact congrArg _ hy
  · rw [outsAt0_B m c t h0]
    frame_out
    exact congrArg _ hy

/-- The column of an index of a row of numbers. -/
def col (j : S1x1024.Idx) : Fin 1024 := j 1
theorem col_spec (j : S1x1024.Idx) : ∃ (k : Fin 1) (q : Fin 1024), j = ix2 k q := ⟨j 0, j 1, by funext a; fin_cases a <;> rfl⟩

/-- The terms one grid step adds to the three sums, -/
def gainTerm (p : Fin cfg0.N) (j : Fin 1024) : EReal := ∑ x : Fin 512, (dh m c (ix2 (row p x) j) * (Rms.one + scl m c (ix2 0 j)))
  * (inp m c (ix2 (row p x) j) * Rms.inv fun k => inp m c (ix2 (row p x) k))
def shiftTerm (p : Fin cfg0.N) (j : Fin 1024) : EReal := ∑ x : Fin 512, dh m c (ix2 (row p x) j)
def scaleTerm (p : Fin cfg0.N) (j : Fin 1024) : EReal := ∑ x : Fin 512, (dh m c (ix2 (row p x) j)
  * (inp m c (ix2 (row p x) j) * Rms.inv fun k => inp m c (ix2 (row p x) k))) * gain m c (ix2 0 j)

theorem gain_step (a : Vec Ideal S1x1024 .f32) (j : S1x1024.Idx) :
    k0_pay2 (k0_pay7 (iblk m c 0 t) (iblk m c 1 t)) (k0_pay9 (iblk m c 2 t)) (k0_pay10 (iblk m c 5 t)) a j = (a j + gainTerm m c t (col j) : EReal) := by
  obtain ⟨z, q, rfl⟩ := col_spec j
  show _ = (_ + gainTerm m c t q : EReal)
  unfold k0_pay2 gainTerm
  pointwise
  simp only [inp_block, gain_block, scl_block, inv_block, normed_block, dh_block]
theorem shift_step (a : Vec Ideal S1x1024 .f32) (j : S1x1024.Idx) :
    k0_pay11 (iblk m c 0 t) (iblk m c 1 t) a j = (a j + shiftTerm m c t (col j) : EReal) := by
  obtain ⟨z, q, rfl⟩ := col_spec j
  show _ = (_ + shiftTerm m c t q : EReal)
  unfold k0_pay11 shiftTerm
  pointwise
  simp only [dh_block]
theorem scale_step (a : Vec Ideal S1x1024 .f32) (j : S1x1024.Idx) :
    k0_pay1 (k0_pay12 a) (k0_pay13 (iblk m c 0 t) (iblk m c 1 t) (iblk m c 2 t) (iblk m c 4 t)) j = (a j + scaleTerm m c t (col j) : EReal) := by
  obtain ⟨z, q, rfl⟩ := col_spec j
  show _ = (_ + scaleTerm m c t q : EReal)
  unfold k0_pay1 k0_pay12 k0_pay13 scaleTerm
  pointwise
  simp only [inp_block, gain_block, scl_block, inv_block, normed_block, dh_block]

/-- and the three sums over all rows. -/
theorem dGain_final : (dats m 0 c).arrAt 7 cfg0.N = Rms.dGain (dh m c) (inp m c) (scl m c) := by
  refine (dats m 0 c).arrAt_eq_of_after_last 7 (⟨7, by decide⟩ : Fin cfg0.N) (by decide +kernel) _ fun (j : S1x1024.Idx) => ?_
  obtain ⟨z, q, rfl⟩ := col_spec j
  blk_simp
  refine (congrFun (after0_7 m c _) _).trans ?_
  refine (Pipeline.eq_sum_fin_of_reset_step_apply_last (fun n h => (outsAt0 m c n h).2.1) 8 (fun _ => (0 : EReal)) (fun p j => gainTerm m c p (col j)) ?_ ?_ (by decide) ⟨7, by decide⟩ rfl _).trans ?_
  · intro t h j
    rw [outsAt0_A m c t h]
    frame_out
    refine (gain_step m c t _ j).trans (congrArg (· + gainTerm m c t (col j) : EReal → EReal) ?_)
    unfold k0_pay4; pointwise
  · intro t h j
    rw [outsAt0_B m c t h]
    frame_out
    exact gain_step m c t _ j
  · refine (zero_add (M := EReal) _).trans (Eq.trans ?_ (Rms.dGain_apply _ _ _ _ q).symm)
    exact Fin.sum_mul_add_congr fun s k hl => rfl

theorem dShift_final : (dats m 0 c).arrAt 8 cfg0.N = Rms.total (dh m c) := by
  refine (dats m 0 c).arrAt_eq_of_after_last 8 (⟨7, by decide⟩ : Fin cfg0.N) (by decide +kernel) _ fun (j : S1x1024.Idx) => ?_
  obtain ⟨z, q, rfl⟩ := col_spec j
  blk_simp
  refine (congrFun (after0_8 m c _) _).trans ?_
  refine (Pipeline.eq_sum_fin_of_reset_step_apply_last (fun n h => (outsAt0 m c n h).2.2.1) 8 (fun _ => (0 : EReal)) (fun p j => shiftTerm m c p (col j)) ?_ ?_ (by decide) ⟨7, by decide⟩ rfl _).trans ?_
  · intro t h j
    rw [outsAt0_A m c t h]
    frame_out
    refine (shift_step m c t _ j).trans (congrArg (· + shiftTerm m c t (col j) : EReal → EReal) ?_)
    unfold k0_pay5; pointwise
  · intro t h j
    rw [outsAt0_B m c t h]
    frame_out
    exact shift_step m c t _ j
  · refine (zero_add (M := EReal) _).trans (Eq.trans ?_ (Rms.total_apply _ _ q).symm)
    exact Fin.sum_mul_add_congr fun s k hl => rfl

theorem dScale_final : (dats m 0 c).arrAt 9 cfg0.N = Rms.dScale (dh m c) (inp m c) (gain m c) := by
  refine (dats m 0 c).arrAt_eq_of_after_last 9 (⟨7, by decide⟩ : Fin cfg0.N) (by decide +kernel) _ fun (j : S1x1024.Idx) => ?_
  obtain ⟨z, q, rfl⟩ := col_spec j
  blk_simp
  refine (congrFun (after0_9 m c _) _).trans ?_
  refine (Pipeline.eq_sum_fin_of_reset_step_apply_last (fun n h => (outsAt0 m c n h).2.2.2) 8 (fun _ => (0 : EReal)) (fun p j => scaleTerm m c p (col j)) ?_ ?_ (by decide) ⟨7, by decide⟩ rfl _).trans ?_
  · intro t h j
    rw [outsAt0_A m c t h]
    frame_out
    refine (scale_step m c t _ j).trans (congrArg (· + scaleTerm m c t (col j) : EReal → EReal) ?_)
    unfold k0_pay6; pointwise
  · intro t h j
    rw [outsAt0_B m c t h]
    frame_out
    exact scale_step m c t _ j
  · refine (zero_add (M := EReal) _).trans (Eq.trans ?_ (Rms.dScale_apply _ _ _ _ q).symm)
    exact Fin.sum_mul_add_congr fun s k hl => rfl

/-! ## Where the arguments are finite -/

theorem finite_of_pre (h : Cert.Pre_odd_finite.fn (F := Ideal) (dz m c) (wt m c) (inp m c) (dres m c) (gain m c) (scl m c) = fun _ => 1#1) :
    (∀ i, Real' (dz m c i)) ∧ (∀ i, Real' (wt m c i)) ∧ (∀ i, Real' (inp m c i)) ∧ (∀ i, Real' (gain m c i)) ∧ (∀ i, Real' (scl m c i)) := by
  have h0 := congrFun h (fun x => x.elim0)
  unfold Cert.Pre_odd_finite.fn Cert.Pre_odd_finite.fn_part1 at h0
  obtain ⟨h1, hs⟩ := IntOp.andi_eq_one.1 h0
  obtain ⟨h2, hg⟩ := IntOp.andi_eq_one.1 h1
  obtain ⟨h3, _⟩ := IntOp.andi_eq_one.1 h2
  obtain ⟨h4, hx⟩ := IntOp.andi_eq_one.1 h3
  obtain ⟨hz, hw⟩ := IntOp.andi_eq_one.1 h4
  exact ⟨fun i => real_of_abs_lt _ (Host.reduce_andi_all _ _ _ _ _ hz i), fun i => real_of_abs_lt _ (Host.reduce_andi_all _ _ _ _ _ hw i),
    fun i => real_of_abs_lt _ (Host.reduce_andi_all _ _ _ _ _ hx i), fun i => real_of_abs_lt _ (Host.reduce_andi_all _ _ _ _ _ hg i),
    fun i => real_of_abs_lt _ (Host.reduce_andi_all _ _ _ _ _ hs i)⟩

theorem dn_real (hz : ∀ i, Real' (dz m c i)) (hw : ∀ i, Real' (wt m c i)) (hg : ∀ i, Real' (gain m c i)) (hs : ∀ i, Real' (scl m c i)) (i) :
    Real' (dn m c i) := by
  obtain ⟨p, q, rfl⟩ : ∃ (p : Fin 4096) (q : Fin 1024), i = ix2 p q := ⟨i 0, i 1, by funext a; fin_cases a <;> rfl⟩
  rw [dn, Rms.dNormed_apply, dh_apply]
  exact (Rms.sum_real _ fun k => (hz _).mul (hw _)).mul ((hg _).mul (Rms.one_real.add (hs _)))

end

/-! ## The claims -/

/-- The reference leaves its arguments as they were. -/
theorem ref_frame (m : (ℓ : Loc Cert.OddRefIdeal.nD Cert.OddRefIdeal.τ Cert.OddRefIdeal.sig) → Buf (Elt Ideal) ℓ)
    (ρ : Dev Cert.OddRefIdeal.nD → PrngReg) :
    θ_run Cert.OddRefIdeal.defs (onTc (τ := Cert.OddRefIdeal.τ) (Cert.OddRefIdeal.main (F := Ideal))) ⟨m, fun _ => 0, ρ⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5))
      ∧ r.2.sem = fun _ => 0) :=
  (θ_run _ _ _).mono (fun r h => ⟨fun c => (h c).2.2.2.2, sem_eq_zero_of_no_sems (by decide) r.2⟩) (Cert.OddRefIdeal.Value.run (F := Ideal) m ρ)

set_option maxHeartbeats 4000000 in
/-- Where the arguments are finite, the kernel and the reference leave the same four gradients. -/
theorem algebraic : Cert.algebraic_OddBwdIdeal_OddRefIdeal_pre_odd_finite := by
  intro m g m' g' hpre hagree
  refine ⟨fun c => Rms.dInput (inp m c) (dn m c) (dres m c), fun c => Rms.dGain (dh m c) (inp m c) (scl m c), fun c => Rms.total (dh m c),
    fun c => Rms.dScale (dh m c) (inp m c) (gain m c),
    (θ_run _ _ _).mono (fun r h c => ?_) (Cert.OddBwdIdeal.Value.run_blocks m g),
    (θ_run _ _ _).mono (fun r h c => ?_) (Cert.OddRefIdeal.Value.run (F := Ideal) m' g')⟩
  · obtain ⟨hz, hw, hx, hg, hs⟩ := finite_of_pre m c (hpre c)
    exact ⟨(h c).1.trans (dx_final m c hx (dn_real m c hz hw hg hs)), (h c).2.1.trans (dGain_final m c), (h c).2.2.1.trans (dShift_final m c),
      (h c).2.2.2.1.trans (dScale_final m c), (h c).2.2.2.2⟩
  · obtain ⟨e0, e1, e2, e3, e4, e5⟩ := hagree c
    refine ⟨(h c).1.trans ?_, (h c).2.1.trans ?_, (h c).2.2.1.trans ?_, (h c).2.2.2.1.trans ?_, (h c).2.2.2.2⟩
    · unfold Cert.OddRefIdeal.Value.res_main_v52
      rw [e0, e1, e2, e3, e4, e5]
      rfl
    · rw [e0, e1, e2, e5]
      rfl
    · rw [e0, e1]
      rfl
    · rw [e0, e1, e2, e4]
      rfl

end Cert.Proof.OddBwd

end
-- ==== Proof.OutBwd.lean ====
/- The gradient of a mixer's output projection `a w`, of its normalisation and of the gate on it: the kernel's blocks are
   the reference's gradients.

   Every grid step takes 1024 rows: the gradient of the normalisation of those rows (`Rms`), its product with the transposed
   weight, and it adds the rows' terms to the two sums over all rows. -/
module

public import proofs.«01_k».proof.Defs
public import proofs.«01_k».proof.Proof.DownBwd
public import proofs.«01_k».proof.Proof.Gen.OutBwdIdeal.Value
public import proofs.«01_k».proof.Proof.Gen.OutRefIdeal.Run
public import proofs.«01_k».proof.Proof.Gen.Pre_out_finite
public import Idealize.ShloMosaic.Lib.Pipeline.ValueKit
public import Idealize.ShloMosaic.Lib.ReduceAll
public import Idealize.ShloMosaic.Lib.IdealHost
public import Idealize.ShloMosaic.Lib.Claim

@[expose] public section

set_option maxRecDepth 16384

noncomputable section

namespace Cert.Proof.OutBwd

open Cert.OutBwdIdeal Cert.OutBwdIdeal.Gen Cert.ConvRefIdeal.Grad
open Idealize.ShloMosaic Idealize.ShloMosaic.TcCoe Idealize.ShloMosaic.Tactic Idealize.SL.Sem

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] := by
  decide +kernel

/-- Row `p` of grid step `t`'s block in the whole array. -/
def row (t : Fin cfg0.N) (p : Fin 1024) : Fin 4096 := ⟨t.val * 1024 + p.val, by have : t.val < 4 := t.isLt; omega⟩

/-! ## The arguments -/

section
variable (m : (ℓ : Loc nD τ sig) → Buf (Elt Ideal) ℓ) (c : Dev nD)

abbrev dxn : Rms.Mat := m ((c.tc : Thread nD τ).loc main_arg0)
abbrev act : FVec Ideal Cert.OutRefIdeal.S4096x1024 .bf16 := m ((c.tc : Thread nD τ).loc main_arg1)
abbrev wt : FVec Ideal Cert.OutRefIdeal.S1024x1024 .bf16 := m ((c.tc : Thread nD τ).loc main_arg2)
abbrev gain : Rms.Row := m ((c.tc : Thread nD τ).loc main_arg3)
abbrev gate : Rms.Row := m ((c.tc : Thread nD τ).loc main_arg4)

/-- The projection, -/
def proj : Rms.Mat := Host.dotGeneral (F := Ideal) Cert.OutRefIdeal.dot_S4096x1024_S1024x1024_S4096x1024_1_0_0_1_n_n none
  (extf .f32 (act m c) Cert.OutRefIdeal.Gen.bitsLt_bf16_f32) (extf .f32 (wt m c) Cert.OutRefIdeal.Gen.bitsLt_bf16_f32)
/-- the gradient of its normalised rows, -/
def dn : Rms.Mat := mulf (mulf (Rms.rows (gate m c)) (dxn m c)) (Rms.rows (gain m c))
/-- of the projection, -/
def dProj : Rms.Mat := DownBwd.dPlain (proj m c) (dn m c)
def dy : FVec Ideal Cert.OutRefIdeal.S4096x1024 .bf16 := truncf .bf16 (dProj m c) Cert.OutRefIdeal.Gen.bitsLt_bf16_f32
/-- of what is projected, -/
def dAct : FVec Ideal Cert.OutRefIdeal.S4096x1024 .bf16 := truncf .bf16
  (Host.dotGeneral (F := Ideal) Cert.OutRefIdeal.dot_S4096x1024_S1024x1024_S4096x1024_1_1_0_0_n_n none (dProj m c)
    (extf .f32 (wt m c) Cert.OutRefIdeal.Gen.bitsLt_bf16_f32)) Cert.OutRefIdeal.Gen.bitsLt_bf16_f32
/-- of the normalisation's gain -/
def dGain : Rms.Row := Rms.total (mulf (Rms.scaled (proj m c) (proj m c)) (mulf (Rms.rows (gate m c)) (dxn m c)))
/-- and of the gate. -/
def dGate : Rms.Row := Rms.total (mulf (dxn m c) (mulf (Rms.scaled (proj m c) (proj m c)) (Rms.rows (gain m c))))

theorem proj_apply (i : Fin 4096) (j : Fin 1024) :
    proj m c (ix2 i j) = ∑ k : Fin 1024, (act m c (ix2 i k) : EReal) * wt m c (ix2 k j) := by
  unfold proj
  pointwise
theorem dn_apply (i : Fin 4096) (j : Fin 1024) :
    dn m c (ix2 i j) = dxn m c (ix2 i j) * (gate m c (ix2 0 j) * gain m c (ix2 0 j)) := by
  show Rms.rows (gate m c) (ix2 i j) * dxn m c (ix2 i j) * Rms.rows (gain m c) (ix2 i j) = _
  rw [Rms.rows_apply, Rms.rows_apply, mul_comm (G := EReal) (gate m c _), mul_assoc (G := EReal)]
theorem dAct_apply (i : Fin 4096) (j : Fin 1024) :
    dAct m c (ix2 i j) = ∑ k : Fin 1024, (dProj m c (ix2 i k) : EReal) * wt m c (ix2 j k) := by
  unfold dAct
  pointwise
theorem dGain_apply (k : Fin 1) (j : Fin 1024) : dGain m c (ix2 k j) = ∑ t : Fin 4096, (dxn m c (ix2 t j) * gate m c (ix2 0 j))
    * (proj m c (ix2 t j) * Rms.inv fun k => proj m c (ix2 t k)) := by
  unfold dGain
  rw [Rms.total_apply]
  refine Fin.sum_fin_congr fun t => ?_
  show Rms.scaled (proj m c) (proj m c) (ix2 t j) * (Rms.rows (gate m c) (ix2 t j) * dxn m c (ix2 t j)) = _
  rw [Rms.scaled_apply, Rms.rows_apply, mul_comm (G := EReal), mul_comm (G := EReal) (gate m c _)]
theorem dGate_apply (k : Fin 1) (j : Fin 1024) : dGate m c (ix2 k j) = ∑ t : Fin 4096, (dxn m c (ix2 t j) * gain m c (ix2 0 j))
    * (proj m c (ix2 t j) * Rms.inv fun k => proj m c (ix2 t k)) := by
  unfold dGate
  rw [Rms.total_apply]
  refine Fin.sum_fin_congr fun t => ?_
  show dxn m c (ix2 t j) * (Rms.scaled (proj m c) (proj m c) (ix2 t j) * Rms.rows (gain m c) (ix2 t j)) = _
  rw [Rms.scaled_apply, Rms.rows_apply, mul_comm (G := EReal) _ (gain m c _), mul_assoc (G := EReal)]

/-! ## The blocks the kernel reads -/

variable (t : Fin cfg0.N)

theorem proj_array : V m c main_v1 = truncf .bf16 (Host.dotGeneral (F := Ideal) (φ₁ := .bf16) (φ₂ := .bf16) dot_S4096x1024_S1024x1024_S4096x1024_1_0_0_1_n_n none
    (m ((c.tc : Thread nD τ).loc main_arg1)) (m ((c.tc : Thread nD τ).loc main_arg2))) bitsLt_bf16_f32 := by
  entry_read; rfl
theorem proj_block (p : Fin 1024) (j : Fin 1024) : iblk m c 1 t (ix2 p j) = proj m c (ix2 (row t p) j) := by
  have he : ((win0_1.blk t).view.emb (ix2 p j)) = ix2 (row t p) j := by
    blk_ext [idx t, row]
  show V m c main_v1 ((win0_1.blk t).view.emb (ix2 p j)) = _
  rw [proj_array, he, proj_apply]
  pointwise
theorem weight_block (k : Fin 1024) (j : Fin 1024) : iblk m c 4 t (ix2 k j) = wt m c (ix2 k j) := by
  blk_ext [iblk, idx t, V_main_arg2]
theorem dxn_block (p : Fin 1024) (k : Fin 1024) : iblk m c 0 t (ix2 p k) = dxn m c (ix2 (row t p) k) := by
  blk_ext [iblk, idx t, V_main_arg0, row]
theorem gain_block (p : Fin 1) (k : Fin 1024) : iblk m c 2 t (ix2 p k) = gain m c (ix2 0 k) := by
  blk_ext [iblk, idx t, V_main_arg3]
theorem gate_block (p : Fin 1) (k : Fin 1024) : iblk m c 3 t (ix2 p k) = gate m c (ix2 0 k) := by
  blk_ext [iblk, idx t, V_main_arg4]
theorem read_block (p : Fin 1024) (j : Fin 1024) : k0_pay5 (iblk m c 1 t) (ix2 p j) = proj m c (ix2 (row t p) j) := by
  unfold k0_pay5
  pointwise
  exact proj_block m c t p j
theorem inv_block (p : Fin 1024) (k : Fin 1) : k0_pay6 (iblk m c 1 t) (ix2 p k) = Rms.inv fun j => proj m c (ix2 (row t p) j) := by
  unfold k0_pay6 Rms.inv Rms.var
  pointwise
  simp only [read_block]
theorem normed_block (p : Fin 1024) (j : Fin 1024) :
    k0_pay7 (iblk m c 1 t) (ix2 p j) = proj m c (ix2 (row t p) j) * Rms.inv fun j => proj m c (ix2 (row t p) j) := by
  unfold k0_pay7
  pointwise
  rw [read_block, inv_block]

/-! ## The arrays the kernel leaves -/

/-- A block of the gradient of the projection, -/
theorem dy_block (hx : ∀ i, Real' (proj m c i)) (hd : ∀ i, Real' (dn m c i)) (p : Fin 1024) (j : Fin 1024) :
    k0_pay1 (iblk m c 0 t) (k0_pay6 (iblk m c 1 t)) (k0_pay7 (iblk m c 1 t)) (iblk m c 2 t) (iblk m c 3 t) (ix2 p j)
      = dProj m c (ix2 (row t p) j) := by
  rw [dProj, DownBwd.dPlain_apply _ _ _ _ (fun k => hx _) (fun k => hd _)]
  unfold k0_pay1
  pointwise
  simp only [dxn_block, gain_block, gate_block, inv_block, normed_block, dn_apply]
/-- of what is projected. -/
theorem dAct_block (hx : ∀ i, Real' (proj m c i)) (hd : ∀ i, Real' (dn m c i)) (p : Fin 1024) (j : Fin 1024) :
    k0_pay2 (iblk m c 0 t) (k0_pay6 (iblk m c 1 t)) (k0_pay7 (iblk m c 1 t)) (iblk m c 2 t) (iblk m c 3 t) (iblk m c 4 t) (ix2 p j)
      = dAct m c (ix2 (row t p) j) := by
  rw [dAct_apply]
  unfold k0_pay2
  pointwise
  simp only [dy_block m c t hx hd, weight_block]

theorem dy_final (hx : ∀ i, Real' (proj m c i)) (hd : ∀ i, Real' (dn m c i)) : (dats m 0 c).arrAt 5 cfg0.N = dy m c := by
  refine (dats m 0 c).arrAt_eq_of_covers 5 _ (by decide +kernel) fun t hf (y : S1024x1024.Idx) => ?_
  have hy : y = ix2 (y 0) (y 1) := by funext a; fin_cases a <;> rfl
  have he : ((win0_5.blk t).view.emb y) = ix2 (row t (y 0)) (y 1) := by
    blk_ext [idx t, row]
  refine Eq.trans ?_ (congrArg (dy m c) he.symm)
  refine Eq.trans ?_ (dy_block m c t hx hd (y 0) (y 1))
  blk_simp
  rw [after0_5]
  by_cases h0 : t.val % 4 = 0
  · rw [outsAt0_A m c t h0]
    frame_out
    exact congrArg _ hy
  · rw [outsAt0_B m c t h0]
    frame_out
    exact congrArg _ hy

theorem dAct_final (hx : ∀ i, Real' (proj m c i)) (hd : ∀ i, Real' (dn m c i)) : (dats m 0 c).arrAt 6 cfg0.N = dAct m c := by
  refine (dats m 0 c).arrAt_eq_of_covers 6 _ (by decide +kernel) fun t hf (y : S1024x1024.Idx) => ?_
  have hy : y = ix2 (y 0) (y 1) := by funext a; fin_cases a <;> rfl
  have he : ((win0_6.blk t).view.emb y) = ix2 (row t (y 0)) (y 1) := by
    blk_ext [idx t, row]
  refine Eq.trans ?_ (congrArg (dAct m c) he.symm)
  refine Eq.trans ?_ (dAct_block m c t hx hd (y 0) (y 1))
  blk_simp
  rw [after0_6]
  by_cases h0 : t.val % 4 = 0
  · rw [outsAt0_A m c t h0]
    frame_out
    exact congrArg _ hy
  · rw [outsAt0_B m c t h0]
    frame_out
    exact congrArg _ hy

/-- The column of an index of a row of numbers. -/
def col (j : S1x1024.Idx) : Fin 1024 := j 1
theorem col_spec (j : S1x1024.Idx) : ∃ (k : Fin 1) (q : Fin 1024), j = ix2 k q := ⟨j 0, j 1, by funext a; fin_cases a <;> rfl⟩

/-- The terms one grid step adds to the two sums, -/
def gainTerm (p : Fin cfg0.N) (j : Fin 1024) : EReal := ∑ x : Fin 1024, (dxn m c (ix2 (row p x) j) * gate m c (ix2 0 j))
  * (proj m c (ix2 (row p x) j) * Rms.inv fun k => proj m c (ix2 (row p x) k))
def gateTerm (p : Fin cfg0.N) (j : Fin 1024) : EReal := ∑ x : Fin 1024, (dxn m c (ix2 (row p x) j) * gain m c (ix2 0 j))
  * (proj m c (ix2 (row p x) j) * Rms.inv fun k => proj m c (ix2 (row p x) k))

theorem gain_step (a : Vec Ideal S1x1024 .f32) (j : S1x1024.Idx) :
    k0_pay8 (iblk m c 0 t) (iblk m c 1 t) (iblk m c 3 t) a j = (a j + gainTerm m c t (col j) : EReal) := by
  obtain ⟨z, q, rfl⟩ := col_spec j
  show _ = (_ + gainTerm m c t q : EReal)
  unfold k0_pay8 gainTerm
  pointwise
  simp only [dxn_block, gate_block, normed_block]
theorem gate_step (a : Vec Ideal S1x1024 .f32) (j : S1x1024.Idx) :
    k0_pay9 (iblk m c 0 t) (iblk m c 1 t) (iblk m c 2 t) a j = (a j + gateTerm m c t (col j) : EReal) := by
  obtain ⟨z, q, rfl⟩ := col_spec j
  show _ = (_ + gateTerm m c t q : EReal)
  unfold k0_pay9 gateTerm
  pointwise
  simp only [dxn_block, gain_block, normed_block]

/-- and the two sums over all rows. -/
theorem dGain_final : (dats m 0 c).arrAt 7 cfg0.N = dGain m c := by
  refine (dats m 0 c).arrAt_eq_of_after_last 7 (⟨3, by decide⟩ : Fin cfg0.N) (by decide +kernel) _ fun (j : S1x1024.Idx) => ?_
  obtain ⟨z, q, rfl⟩ := col_spec j
  blk_simp
  refine (congrFun (after0_7 m c _) _).trans ?_
  refine (Pipeline.eq_sum_fin_of_reset_step_apply_last (fun n h => (outsAt0 m c n h).2.2.1) 4 (fun _ => (0 : EReal)) (fun p j => gainTerm m c p (col j)) ?_ ?_ (by decide) ⟨3, by decide⟩ rfl _).trans ?_
  · intro t h j
    rw [outsAt0_A m c t h]
    frame_out
    refine (gain_step m c t _ j).trans (congrArg (· + gainTerm m c t (col j) : EReal → EReal) ?_)
    unfold k0_pay3; pointwise
  · intro t h j
    rw [outsAt0_B m c t h]
    frame_out
    exact gain_step m c t _ j
  · refine (zero_add (M := EReal) _).trans (Eq.trans ?_ (dGain_apply m c _ q).symm)
    exact Fin.sum_mul_add_congr fun s k hl => rfl

theorem dGate_final : (dats m 0 c).arrAt 8 cfg0.N = dGate m c := by
  refine (dats m 0 c).arrAt_eq_of_after_last 8 (⟨3, by decide⟩ : Fin cfg0.N) (by decide +kernel) _ fun (j : S1x1024.Idx) => ?_
  obtain ⟨z, q, rfl⟩ := col_spec j
  blk_simp
  refine (congrFun (after0_8 m c _) _).trans ?_
  refine (Pipeline.eq_sum_fin_of_reset_step_apply_last (fun n h => (outsAt0 m c n h).2.2.2) 4 (fun _ => (0 : EReal)) (fun p j => gateTerm m c p (col j)) ?_ ?_ (by decide) ⟨3, by decide⟩ rfl _).trans ?_
  · intro t h j
    rw [outsAt0_A m c t h]
    frame_out
    refine (gate_step m c t _ j).trans (congrArg (· + gateTerm m c t (col j) : EReal → EReal) ?_)
    unfold k0_pay4; pointwise
  · intro t h j
    rw [outsAt0_B m c t h]
    frame_out
    exact gate_step m c t _ j
  · refine (zero_add (M := EReal) _).trans (Eq.trans ?_ (dGate_apply m c _ q).symm)
    exact Fin.sum_mul_add_congr fun s k hl => rfl

/-! ## Where the arguments are finite -/

theorem finite_of_pre (h : Cert.Pre_out_finite.fn (F := Ideal) (dxn m c) (act m c) (wt m c) (gain m c) (gate m c) = fun _ => 1#1) :
    (∀ i, Real' (dxn m c i)) ∧ (∀ i, Real' (act m c i)) ∧ (∀ i, Real' (wt m c i)) ∧ (∀ i, Real' (gain m c i)) ∧ (∀ i, Real' (gate m c i)) := by
  have h0 := congrFun h (fun x => x.elim0)
  unfold Cert.Pre_out_finite.fn Cert.Pre_out_finite.fn_part1 at h0
  obtain ⟨h1, hs⟩ := IntOp.andi_eq_one.1 h0
  obtain ⟨h2, hg⟩ := IntOp.andi_eq_one.1 h1
  obtain ⟨h3, hw⟩ := IntOp.andi_eq_one.1 h2
  obtain ⟨hx, ha⟩ := IntOp.andi_eq_one.1 h3
  exact ⟨fun i => real_of_abs_lt _ (Host.reduce_andi_all _ _ _ _ _ hx i), fun i => real_of_abs_lt _ (Host.reduce_andi_all _ _ _ _ _ ha i),
    fun i => real_of_abs_lt _ (Host.reduce_andi_all _ _ _ _ _ hw i), fun i => real_of_abs_lt _ (Host.reduce_andi_all _ _ _ _ _ hg i),
    fun i => real_of_abs_lt _ (Host.reduce_andi_all _ _ _ _ _ hs i)⟩

theorem proj_real (ha : ∀ i, Real' (act m c i)) (hw : ∀ i, Real' (wt m c i)) (i) : Real' (proj m c i) := by
  obtain ⟨p, q, rfl⟩ : ∃ (p : Fin 4096) (q : Fin 1024), i = ix2 p q := ⟨i 0, i 1, by funext a; fin_cases a <;> rfl⟩
  rw [proj_apply]
  exact Rms.sum_real _ fun k => (ha _).mul (hw _)
theorem dn_real (hx : ∀ i, Real' (dxn m c i)) (hg : ∀ i, Real' (gain m c i)) (hs : ∀ i, Real' (gate m c i)) (i) : Real' (dn m c i) := by
  obtain ⟨p, q, rfl⟩ : ∃ (p : Fin 4096) (q : Fin 1024), i = ix2 p q := ⟨i 0, i 1, by funext a; fin_cases a <;> rfl⟩
  rw [dn_apply]
  exact (hx _).mul ((hs _).mul (hg _))

end

/-! ## The claims -/

/-- The reference leaves its arguments as they were. -/
theorem ref_frame (m : (ℓ : Loc Cert.OutRefIdeal.nD Cert.OutRefIdeal.τ Cert.OutRefIdeal.sig) → Buf (Elt Ideal) ℓ)
    (ρ : Dev Cert.OutRefIdeal.nD → PrngReg) :
    θ_run Cert.OutRefIdeal.defs (onTc (τ := Cert.OutRefIdeal.τ) (Cert.OutRefIdeal.main (F := Ideal))) ⟨m, fun _ => 0, ρ⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0) :=
  (θ_run _ _ _).mono (fun r h => ⟨fun c => (h c).2.2.2.2, sem_eq_zero_of_no_sems (by decide) r.2⟩) (Cert.OutRefIdeal.Value.run (F := Ideal) m ρ)

set_option maxHeartbeats 4000000 in
/-- Where the arguments are finite, the kernel and the reference leave the same four gradients. -/
theorem algebraic : Cert.algebraic_OutBwdIdeal_OutRefIdeal_pre_out_finite := by
  intro m g m' g' hpre hagree
  refine ⟨fun c => dy m c, fun c => dAct m c, fun c => dGain m c, fun c => dGate m c,
    (θ_run _ _ _).mono (fun r h c => ?_) (Cert.OutBwdIdeal.Value.run_blocks m g),
    (θ_run _ _ _).mono (fun r h c => ?_) (Cert.OutRefIdeal.Value.run (F := Ideal) m' g')⟩
  · obtain ⟨hx, ha, hw, hg, hs⟩ := finite_of_pre m c (hpre c)
    exact ⟨(h c).1.trans (dy_final m c (proj_real m c ha hw) (dn_real m c hx hg hs)),
      (h c).2.1.trans (dAct_final m c (proj_real m c ha hw) (dn_real m c hx hg hs)), (h c).2.2.1.trans (dGain_final m c),
      (h c).2.2.2.1.trans (dGate_final m c), (h c).2.2.2.2⟩
  · obtain ⟨e0, e1, e2, e3, e4⟩ := hagree c
    refine ⟨(h c).1.trans ?_, (h c).2.1.trans ?_, (h c).2.2.1.trans ?_, (h c).2.2.2.1.trans ?_, (h c).2.2.2.2⟩
    · unfold Cert.OutRefIdeal.Value.res_main_v45
      rw [e0, e1, e2, e3, e4]
      rfl
    · unfold Cert.OutRefIdeal.Value.res_main_v46
      rw [e0, e1, e2, e3, e4]
      rfl
    · rw [e0, e1, e2, e4]
      rfl
    · rw [e0, e1, e2, e3]
      rfl

end Cert.Proof.OutBwd

end
-- ==== Proof.OutWgrad.lean ====
/- The gradient of a mixer's output projection with respect to its weight: the kernel's row blocks are the row blocks of the
   reference's one product.

   Grid step `t` multiplies 512 columns of the activations, transposed, with the whole incoming gradient. -/
module

public import proofs.«01_k».proof.Defs
public import proofs.«01_k».proof.Proof.Gen.OutWgradIdeal.Value
public import proofs.«01_k».proof.Proof.Gen.OutWrefIdeal.Run
public import Idealize.ShloMosaic.Lib.Pipeline.ValueKit
public import Idealize.ShloMosaic.Lib.Claim

@[expose] public section

set_option maxRecDepth 16384

noncomputable section

namespace Cert.Proof.OutWgrad

open Cert.OutWgradIdeal Cert.OutWgradIdeal.Gen
open Idealize.ShloMosaic Idealize.ShloMosaic.TcCoe Idealize.ShloMosaic.Tactic Idealize.SL.Sem

theorem idx : ∀ t : Fin cfg0.N, win0_0.index t = ![0, t.val] ∧ win0_1.index t = ![0, 0] ∧ win0_2.index t = ![t.val, 0] := by
  decide +kernel

variable (m : (ℓ : Loc nD τ sig) → Buf (Elt Ideal) ℓ) (c : Dev nD)

/-- The reference's product of the kernel's arguments. -/
def product : Vec Ideal S1024x1024 .bf16 :=
  truncf .bf16 (transpose S1024x1024 [1, 0] (Host.dotGeneral (F := Ideal) Cert.OutWrefIdeal.dot_S4096x1024_S4096x1024_S1024x1024_0_0_1_1_n_n none
    (extf .f32 (m ((c.tc : Thread nD τ).loc main_arg1)) Cert.OutWrefIdeal.Gen.bitsLt_bf16_f32)
    (extf .f32 (m ((c.tc : Thread nD τ).loc main_arg0)) Cert.OutWrefIdeal.Gen.bitsLt_bf16_f32)) Cert.OutWrefIdeal.Gen.transposes_S1024x1024_S1024x1024_1_0)
    Cert.OutWrefIdeal.Gen.bitsLt_bf16_f32

theorem final : (dats m 0 c).arrAt 2 cfg0.N = product m c := by
  refine (dats m 0 c).arrAt_eq_of_covers 2 _ (by decide +kernel) fun t hf (y : S512x1024.Idx) => ?_
  blk_simp
  rw [after0_2]
  unfold outsAt0
  frame_out
  unfold k0_pay1 product
  pointwise
  refine Fin.sum_fin_congr fun k => ?_
  refine (mul_comm (G := EReal) _ _).trans (congrArg₂ (· * · : EReal → EReal → EReal) ?_ ?_) <;> blk_ext [iblk, idx t, V_main_arg0, V_main_arg1]

/-- The reference leaves its arguments as they were. -/
theorem ref_frame (m : (ℓ : Loc Cert.OutWrefIdeal.nD Cert.OutWrefIdeal.τ Cert.OutWrefIdeal.sig) → Buf (Elt Ideal) ℓ)
    (ρ : Dev Cert.OutWrefIdeal.nD → PrngReg) :
    θ_run Cert.OutWrefIdeal.defs (onTc (τ := Cert.OutWrefIdeal.τ) (Cert.OutWrefIdeal.main (F := Ideal))) ⟨m, fun _ => 0, ρ⟩ (fun r => (∀ c : Dev Cert.OutWrefIdeal.nD,
      r.2.mem ((c.tc : Thread Cert.OutWrefIdeal.nD Cert.OutWrefIdeal.τ).loc Cert.OutWrefIdeal.main_arg0) = m ((c.tc : Thread Cert.OutWrefIdeal.nD Cert.OutWrefIdeal.τ).loc Cert.OutWrefIdeal.main_arg0)
      ∧ r.2.mem ((c.tc : Thread Cert.OutWrefIdeal.nD Cert.OutWrefIdeal.τ).loc Cert.OutWrefIdeal.main_arg1) = m ((c.tc : Thread Cert.OutWrefIdeal.nD Cert.OutWrefIdeal.τ).loc Cert.OutWrefIdeal.main_arg1))
      ∧ r.2.sem = fun _ => 0) :=
  (θ_run _ _ _).mono (fun r h => ⟨fun c => (h c).2, sem_eq_zero_of_no_sems (by decide) r.2⟩) (Cert.OutWrefIdeal.Value.run (F := Ideal) m ρ)

set_option maxHeartbeats 4000000 in
theorem algebraic : Cert.algebraic_OutWgradIdeal_OutWrefIdeal := by
  intro m g m' g' _ hagree
  refine ⟨fun c => product m c, (θ_run _ _ _).mono (fun r h c => ⟨(h c).1.trans (final m c), (h c).2⟩) (Cert.OutWgradIdeal.Value.run_blocks m g),
    (θ_run _ _ _).mono (fun r h c => ?_) (Cert.OutWrefIdeal.Value.run (F := Ideal) m' g')⟩
  obtain ⟨e0, e1⟩ := hagree c
  refine ⟨(h c).1.trans ?_, (h c).2⟩
  rw [e0, e1]
  rfl

end Cert.Proof.OutWgrad

end
-- ==== Proof.OddWgrad.lean ====
/- The gradient of layer 1's input projection with respect to its weight: the kernel's row blocks are the row blocks of the
   reference's one product.

   Grid step `t` multiplies 512 columns of the incoming gradient, transposed, with the whole input of the projection. -/
module

public import proofs.«01_k».proof.Defs
public import proofs.«01_k».proof.Proof.Gen.OddWgradIdeal.Value
public import proofs.«01_k».proof.Proof.Gen.OddWrefIdeal.Run
public import Idealize.ShloMosaic.Lib.Pipeline.ValueKit
public import Idealize.ShloMosaic.Lib.Claim

@[expose] public section

set_option maxRecDepth 16384

noncomputable section

namespace Cert.Proof.OddWgrad

open Cert.OddWgradIdeal Cert.OddWgradIdeal.Gen
open Idealize.ShloMosaic Idealize.ShloMosaic.TcCoe Idealize.ShloMosaic.Tactic Idealize.SL.Sem

theorem idx : ∀ t : Fin cfg0.N, win0_0.index t = ![0, t.val] ∧ win0_1.index t = ![0, 0] ∧ win0_2.index t = ![t.val, 0] := by
  decide +kernel

variable (m : (ℓ : Loc nD τ sig) → Buf (Elt Ideal) ℓ) (c : Dev nD)

/-- The reference's product of the kernel's arguments. -/
def product : Vec Ideal S2048x1024 .bf16 :=
  transpose S2048x1024 [1, 0] (truncf .bf16 (transpose Cert.OddWrefIdeal.S1024x2048 [1, 0]
    (Host.dotGeneral (F := Ideal) Cert.OddWrefIdeal.dot_S4096x2048_S4096x1024_S2048x1024_0_0_1_1_n_n none
      (extf .f32 (m ((c.tc : Thread nD τ).loc main_arg0)) Cert.OddWrefIdeal.Gen.bitsLt_bf16_f32)
      (extf .f32 (m ((c.tc : Thread nD τ).loc main_arg1)) Cert.OddWrefIdeal.Gen.bitsLt_bf16_f32))
    Cert.OddWrefIdeal.Gen.transposes_S2048x1024_S1024x2048_1_0) Cert.OddWrefIdeal.Gen.bitsLt_bf16_f32) Cert.OddWrefIdeal.Gen.transposes_S1024x2048_S2048x1024_1_0

theorem final : (dats m 0 c).arrAt 2 cfg0.N = product m c := by
  refine (dats m 0 c).arrAt_eq_of_covers 2 _ (by decide +kernel) fun t hf (y : S512x1024.Idx) => ?_
  blk_simp
  rw [after0_2]
  unfold outsAt0
  frame_out
  unfold k0_pay1 product
  pointwise
  refine Fin.sum_fin_congr fun k => ?_
  refine (congrArg₂ (· * · : EReal → EReal → EReal) ?_ ?_) <;> blk_ext [iblk, idx t, V_main_arg0, V_main_arg1]

/-- The reference leaves its arguments as they were. -/
theorem ref_frame (m : (ℓ : Loc Cert.OddWrefIdeal.nD Cert.OddWrefIdeal.τ Cert.OddWrefIdeal.sig) → Buf (Elt Ideal) ℓ)
    (ρ : Dev Cert.OddWrefIdeal.nD → PrngReg) :
    θ_run Cert.OddWrefIdeal.defs (onTc (τ := Cert.OddWrefIdeal.τ) (Cert.OddWrefIdeal.main (F := Ideal))) ⟨m, fun _ => 0, ρ⟩ (fun r => (∀ c : Dev Cert.OddWrefIdeal.nD,
      r.2.mem ((c.tc : Thread Cert.OddWrefIdeal.nD Cert.OddWrefIdeal.τ).loc Cert.OddWrefIdeal.main_arg0) = m ((c.tc : Thread Cert.OddWrefIdeal.nD Cert.OddWrefIdeal.τ).loc Cert.OddWrefIdeal.main_arg0)
      ∧ r.2.mem ((c.tc : Thread Cert.OddWrefIdeal.nD Cert.OddWrefIdeal.τ).loc Cert.OddWrefIdeal.main_arg1) = m ((c.tc : Thread Cert.OddWrefIdeal.nD Cert.OddWrefIdeal.τ).loc Cert.OddWrefIdeal.main_arg1))
      ∧ r.2.sem = fun _ => 0) :=
  (θ_run _ _ _).mono (fun r h => ⟨fun c => (h c).2, sem_eq_zero_of_no_sems (by decide) r.2⟩) (Cert.OddWrefIdeal.Value.run (F := Ideal) m ρ)

set_option maxHeartbeats 4000000 in
theorem algebraic : Cert.algebraic_OddWgradIdeal_OddWrefIdeal := by
  intro m g m' g' _ hagree
  refine ⟨fun c => product m c, (θ_run _ _ _).mono (fun r h c => ⟨(h c).1.trans (final m c), (h c).2⟩) (Cert.OddWgradIdeal.Value.run_blocks m g),
    (θ_run _ _ _).mono (fun r h c => ?_) (Cert.OddWrefIdeal.Value.run (F := Ideal) m' g')⟩
  obtain ⟨e0, e1⟩ := hagree c
  refine ⟨(h c).1.trans ?_, (h c).2⟩
  rw [e0, e1]
  rfl

end Cert.Proof.OddWgrad

end
-- ==== Proof.MixWgrad.lean ====
/- The gradient of the even mixer's output projection with respect to its weight: the kernel's row blocks are the row
   blocks of the reference's one product.

   The projection's input comes in two halves, from the pooling and from the attention. Grid step 0 multiplies the first,
   transposed, with the whole incoming gradient, step 1 the second. -/
module

public import proofs.«01_k».proof.Defs
public import proofs.«01_k».proof.Proof.Gen.MixWgradIdeal.Value
public import proofs.«01_k».proof.Proof.Gen.MixWrefIdeal.Run
public import Idealize.ShloMosaic.Lib.Pipeline.ValueKit
public import Idealize.ShloMosaic.Lib.Claim

@[expose] public section

set_option maxRecDepth 16384

noncomputable section

namespace Cert.Proof.MixWgrad

open Cert.MixWgradIdeal Cert.MixWgradIdeal.Gen
open Idealize.ShloMosaic Idealize.ShloMosaic.TcCoe Idealize.ShloMosaic.Tactic Idealize.SL.Sem

theorem idx : ∀ t : Fin cfg0.N, win0_0.index t = ![0, 0] ∧ win0_1.index t = ![0, 0] ∧ win0_2.index t = ![0, 0]
    ∧ win0_3.index t = ![t.val, 0] := by
  decide +kernel

variable (m : (ℓ : Loc nD τ sig) → Buf (Elt Ideal) ℓ) (c : Dev nD)

/-- The reference's product of the kernel's arguments. -/
def product : Vec Ideal S1024x1024 .bf16 :=
  truncf .bf16 (transpose Cert.MixWrefIdeal.S1024x1024 [1, 0]
    (Host.dotGeneral (F := Ideal) Cert.MixWrefIdeal.dot_S4096x1024_S4096x1024_S1024x1024_0_0_1_1_n_n none
      (extf .f32 (m ((c.tc : Thread nD τ).loc main_arg2)) Cert.MixWrefIdeal.Gen.bitsLt_bf16_f32)
      (extf .f32 (concatenate Cert.MixWrefIdeal.S4096x1024 1 [⟨S4096x512, (m ((c.tc : Thread nD τ).loc main_arg0))⟩, ⟨S4096x512, (m ((c.tc : Thread nD τ).loc main_arg1))⟩]
        Cert.MixWrefIdeal.Gen.concatenates_S4096x512_S4096x512_S4096x1024_d1) Cert.MixWrefIdeal.Gen.bitsLt_bf16_f32))
    Cert.MixWrefIdeal.Gen.transposes_S1024x1024_S1024x1024_1_0) Cert.MixWrefIdeal.Gen.bitsLt_bf16_f32

theorem final : (dats m 0 c).arrAt 3 cfg0.N = product m c := by
  refine (dats m 0 c).arrAt_eq_of_covers 3 _ (by decide +kernel) fun t hf (y : S512x1024.Idx) => ?_
  have hy : (y 0).val < 512 := (y 0).isLt
  have ht : t.val < 2 := t.isLt
  have he : (((win0_3.blk t).view.emb y) 0 : ℕ) = t.val * 512 + (y 0).val := by blk_simp [idx t]
  blk_simp
  rw [after0_3]
  by_cases h0 : t.val % 2 = 0
  · rw [outsAt0_A m c t h0 (by omega)]
    frame_out
    unfold k0_pay2 product
    pointwise
    refine Fin.sum_fin_congr fun k => ?_
    rw [dif_pos (by rw [he]; omega)]
    refine (mul_comm (G := EReal) _ _).trans ?_
    refine congrArg₂ (· * · : EReal → EReal → EReal) ?_ ?_ <;> blk_ext [iblk, idx t, V_main_arg0, V_main_arg1, V_main_arg2]
  · rw [outsAt0_B m c t h0 (by omega)]
    frame_out
    unfold k0_pay1 product
    pointwise
    refine Fin.sum_fin_congr fun k => ?_
    rw [dif_neg (by rw [he]; omega)]
    refine (mul_comm (G := EReal) _ _).trans ?_
    refine congrArg₂ (· * · : EReal → EReal → EReal) ?_ ?_ <;> blk_ext [iblk, idx t, V_main_arg0, V_main_arg1, V_main_arg2]

/-- The reference leaves its arguments as they were. -/
theorem ref_frame (m : (ℓ : Loc Cert.MixWrefIdeal.nD Cert.MixWrefIdeal.τ Cert.MixWrefIdeal.sig) → Buf (Elt Ideal) ℓ)
    (ρ : Dev Cert.MixWrefIdeal.nD → PrngReg) :
    θ_run Cert.MixWrefIdeal.defs (onTc (τ := Cert.MixWrefIdeal.τ) (Cert.MixWrefIdeal.main (F := Ideal))) ⟨m, fun _ => 0, ρ⟩ (fun r => (∀ c : Dev Cert.MixWrefIdeal.nD,
      r.2.mem ((c.tc : Thread Cert.MixWrefIdeal.nD Cert.MixWrefIdeal.τ).loc Cert.MixWrefIdeal.main_arg0) = m ((c.tc : Thread Cert.MixWrefIdeal.nD Cert.MixWrefIdeal.τ).loc Cert.MixWrefIdeal.main_arg0)
      ∧ r.2.mem ((c.tc : Thread Cert.MixWrefIdeal.nD Cert.MixWrefIdeal.τ).loc Cert.MixWrefIdeal.main_arg1) = m ((c.tc : Thread Cert.MixWrefIdeal.nD Cert.MixWrefIdeal.τ).loc Cert.MixWrefIdeal.main_arg1)
      ∧ r.2.mem ((c.tc : Thread Cert.MixWrefIdeal.nD Cert.MixWrefIdeal.τ).loc Cert.MixWrefIdeal.main_arg2) = m ((c.tc : Thread Cert.MixWrefIdeal.nD Cert.MixWrefIdeal.τ).loc Cert.MixWrefIdeal.main_arg2))
      ∧ r.2.sem = fun _ => 0) :=
  (θ_run _ _ _).mono (fun r h => ⟨fun c => (h c).2, sem_eq_zero_of_no_sems (by decide) r.2⟩) (Cert.MixWrefIdeal.Value.run (F := Ideal) m ρ)

set_option maxHeartbeats 4000000 in
theorem algebraic : Cert.algebraic_MixWgradIdeal_MixWrefIdeal := by
  intro m g m' g' _ hagree
  refine ⟨fun c => product m c, (θ_run _ _ _).mono (fun r h c => ⟨(h c).1.trans (final m c), (h c).2⟩) (Cert.MixWgradIdeal.Value.run_blocks m g),
    (θ_run _ _ _).mono (fun r h c => ?_) (Cert.MixWrefIdeal.Value.run (F := Ideal) m' g')⟩
  obtain ⟨e0, e1, e2⟩ := hagree c
  refine ⟨(h c).1.trans ?_, (h c).2⟩
  rw [e0, e1, e2]
  rfl

end Cert.Proof.MixWgrad

end
-- ==== Proof.InWgrad.lean ====
/- The gradient of the even mixer's input projection with respect to its weight: the kernel's row blocks are the row blocks
   of the reference's sum.

   Every grid step multiplies 256 columns of the incoming gradient, transposed, with the whole input of the projection, and adds
   the product of 256 columns of the context rows' gradient with the context: that gradient is zero but for the last 256 columns. -/
module

public import proofs.«01_k».proof.Defs
public import proofs.«01_k».proof.Proof.Gen.InWgradIdeal.Value
public import proofs.«01_k».proof.Proof.Gen.InWrefIdeal.Run
public import Idealize.ShloMosaic.Lib.Pipeline.ValueKit
public import Idealize.ShloMosaic.Lib.Claim

@[expose] public section

set_option maxRecDepth 16384

noncomputable section

namespace Cert.Proof.InWgrad

open Cert.InWgradIdeal Cert.InWgradIdeal.Gen
open Idealize.ShloMosaic Idealize.ShloMosaic.TcCoe Idealize.ShloMosaic.Tactic Idealize.SL.Sem

theorem idx : ∀ t : Fin cfg0.N, win0_0.index t = ![0, t.val] ∧ win0_1.index t = ![0, 0] ∧ win0_2.index t = ![0, t.val]
    ∧ win0_3.index t = ![0, 0] ∧ win0_4.index t = ![t.val, 0] := by
  decide +kernel

/-- Column `p` of grid step `t`'s block in the whole array. -/
def col (t : Fin cfg0.N) (p : Fin 256) : Fin 1280 := ⟨t.val * 256 + p.val, by have : t.val < 5 := t.isLt; omega⟩

variable (m : (ℓ : Loc nD τ sig) → Buf (Elt Ideal) ℓ) (c : Dev nD)

abbrev dz : FVec Ideal Cert.InWrefIdeal.S4096x1280 .bf16 := m ((c.tc : Thread nD τ).loc main_arg0)
abbrev inp : FVec Ideal Cert.InWrefIdeal.S4096x1024 .bf16 := m ((c.tc : Thread nD τ).loc main_arg1)
abbrev dctx : FVec Ideal Cert.InWrefIdeal.S256x256 .bf16 := m ((c.tc : Thread nD τ).loc main_arg2)
abbrev ctx : FVec Ideal Cert.InWrefIdeal.S256x1024 .bf16 := m ((c.tc : Thread nD τ).loc main_arg3)

/-- The reference's two products of the kernel's arguments, -/
def ownProduct : FVec Ideal Cert.InWrefIdeal.S1280x1024 .f32 := Host.dotGeneral (F := Ideal) Cert.InWrefIdeal.dot_S4096x1280_S4096x1024_S1280x1024_0_0_1_1_n_n none
  (extf .f32 (dz m c) Cert.InWrefIdeal.Gen.bitsLt_bf16_f32) (extf .f32 (inp m c) Cert.InWrefIdeal.Gen.bitsLt_bf16_f32)
def ctxProduct : FVec Ideal Cert.InWrefIdeal.S256x1024 .f32 := Host.dotGeneral (F := Ideal) Cert.InWrefIdeal.dot_S256x256_S256x1024_S256x1024_0_0_1_1_n_n none
  (extf .f32 (dctx m c) Cert.InWrefIdeal.Gen.bitsLt_bf16_f32) (extf .f32 (ctx m c) Cert.InWrefIdeal.Gen.bitsLt_bf16_f32)
/-- and their sum, the second put under 1024 columns of zeros. -/
def product : Vec Ideal S1280x1024 .bf16 := transpose Cert.InWrefIdeal.S1280x1024 [1, 0] (truncf .bf16 (addf
  (pad Cert.InWrefIdeal.S1024x1280 ![0, 1024] ![0, 0] ![0, 0] (transpose Cert.InWrefIdeal.S1024x256 [1, 0] (ctxProduct m c) Cert.InWrefIdeal.Gen.transposes_S256x1024_S1024x256_1_0)
    (constant Cert.InWrefIdeal.S_ .f32 0x00000000#32) Cert.InWrefIdeal.Gen.pads_S1024x256_S1024x1280_000_102400 Cert.InWrefIdeal.Gen.h_S_)
  (transpose Cert.InWrefIdeal.S1024x1280 [1, 0] (ownProduct m c) Cert.InWrefIdeal.Gen.transposes_S1280x1024_S1024x1280_1_0)) Cert.InWrefIdeal.Gen.bitsLt_bf16_f32)
  Cert.InWrefIdeal.Gen.transposes_S1024x1280_S1280x1024_1_0

theorem product_apply (i : Fin 1280) (j : Fin 1024) : product m c (ix2 i j)
    = (∑ k : Fin 4096, (dz m c (ix2 k i) : EReal) * inp m c (ix2 k j))
      + if h : 1024 ≤ i.val then ∑ k : Fin 256, (dctx m c (ix2 k ⟨i.val - 1024, by omega⟩) : EReal) * ctx m c (ix2 k j) else 0 := by
  unfold product
  pointwise
  refine (add_comm (G := EReal) _ _).trans (congrArg₂ (· + · : EReal → EReal → EReal) ?_ ?_)
  · unfold ownProduct
    pointwise
  · by_cases h : 1024 ≤ i.val
    · rw [dif_pos h, dif_pos ⟨h, by omega⟩]
      unfold ctxProduct
      pointwise
    · rw [dif_neg h, dif_neg fun h' => h h'.1]

theorem ctx_array : V m c main_v1 = concatenate S256x1280 1 [⟨S256x1024, (broadcastInDim S256x1024 ![] bcast_S_S256x1024 (constant S_ .bf16 0x0000#16) : FVec Ideal S256x1024 .bf16)⟩,
    ⟨S256x256, m ((c.tc : Thread nD τ).loc main_arg2)⟩] concatenates_S256x1024_S256x256_S256x1280_d1 := by
  entry_read; rfl
theorem dctx_block (t : Fin cfg0.N) (k : Fin 256) (p : Fin 256) : iblk m c 2 t (ix2 k p)
    = if h : 1024 ≤ (col t p).val then dctx m c (ix2 k ⟨(col t p).val - 1024, by omega⟩) else (0 : EReal) := by
  have he : ((win0_2.blk t).view.emb (ix2 k p)) = ix2 k (col t p) := by
    blk_ext [idx t, col]
  show V m c main_v1 ((win0_2.blk t).view.emb (ix2 k p)) = _
  rw [ctx_array, he]
  pointwise
  by_cases h : 1024 ≤ (col t p).val
  · rw [dif_pos h, dif_neg (by omega)]
  · rw [dif_neg h, dif_pos (by omega)]

theorem final : (dats m 0 c).arrAt 4 cfg0.N = product m c := by
  refine (dats m 0 c).arrAt_eq_of_covers 4 _ (by decide +kernel) fun t hf (y : S256x1024.Idx) => ?_
  have he : ((win0_4.blk t).view.emb y) = ix2 (col t (y 0)) (y 1) := by
    blk_ext [idx t, col]
  refine Eq.trans ?_ (congrArg (product m c) he.symm)
  refine Eq.trans ?_ (product_apply m c (col t (y 0)) (y 1)).symm
  blk_simp
  rw [after0_4]
  unfold outsAt0
  frame_out
  unfold k0_pay1
  pointwise
  refine congrArg₂ (· + · : EReal → EReal → EReal) ?_ ?_
  · refine Fin.sum_fin_congr fun k => ?_
    refine congrArg₂ (· * · : EReal → EReal → EReal) ?_ ?_ <;> blk_ext [iblk, idx t, V_main_arg0, V_main_arg1, col]
  · by_cases h : 1024 ≤ (col t (y 0)).val
    · rw [dif_pos h]
      refine Fin.sum_fin_congr fun k => ?_
      refine congrArg₂ (· * · : EReal → EReal → EReal) ?_ ?_
      · exact (dctx_block m c t k (y 0)).trans (dif_pos h)
      · blk_ext [iblk, idx t, V_main_arg3]
    · rw [dif_neg h]
      refine Eq.trans ?_ (Finset.sum_const_zero (s := (Finset.univ : Finset (Fin 256))))
      refine Fin.sum_fin_congr fun k => ?_
      refine (congrArg (· * _ : EReal → EReal) ((dctx_block m c t k (y 0)).trans (dif_neg h))).trans ?_
      exact zero_mul _

/-- The reference leaves its arguments as they were. -/
theorem ref_frame (m : (ℓ : Loc Cert.InWrefIdeal.nD Cert.InWrefIdeal.τ Cert.InWrefIdeal.sig) → Buf (Elt Ideal) ℓ)
    (ρ : Dev Cert.InWrefIdeal.nD → PrngReg) :
    θ_run Cert.InWrefIdeal.defs (onTc (τ := Cert.InWrefIdeal.τ) (Cert.InWrefIdeal.main (F := Ideal))) ⟨m, fun _ => 0, ρ⟩ (fun r => (∀ c : Dev Cert.InWrefIdeal.nD,
      r.2.mem ((c.tc : Thread Cert.InWrefIdeal.nD Cert.InWrefIdeal.τ).loc Cert.InWrefIdeal.main_arg0) = m ((c.tc : Thread Cert.InWrefIdeal.nD Cert.InWrefIdeal.τ).loc Cert.InWrefIdeal.main_arg0)
      ∧ r.2.mem ((c.tc : Thread Cert.InWrefIdeal.nD Cert.InWrefIdeal.τ).loc Cert.InWrefIdeal.main_arg1) = m ((c.tc : Thread Cert.InWrefIdeal.nD Cert.InWrefIdeal.τ).loc Cert.InWrefIdeal.main_arg1)
      ∧ r.2.mem ((c.tc : Thread Cert.InWrefIdeal.nD Cert.InWrefIdeal.τ).loc Cert.InWrefIdeal.main_arg2) = m ((c.tc : Thread Cert.InWrefIdeal.nD Cert.InWrefIdeal.τ).loc Cert.InWrefIdeal.main_arg2)
      ∧ r.2.mem ((c.tc : Thread Cert.InWrefIdeal.nD Cert.InWrefIdeal.τ).loc Cert.InWrefIdeal.main_arg3) = m ((c.tc : Thread Cert.InWrefIdeal.nD Cert.InWrefIdeal.τ).loc Cert.InWrefIdeal.main_arg3))
      ∧ r.2.sem = fun _ => 0) :=
  (θ_run _ _ _).mono (fun r h => ⟨fun c => (h c).2, sem_eq_zero_of_no_sems (by decide) r.2⟩) (Cert.InWrefIdeal.Value.run (F := Ideal) m ρ)

set_option maxHeartbeats 4000000 in
/-- The kernel and the reference leave the same gradient. -/
theorem algebraic : Cert.algebraic_InWgradIdeal_InWrefIdeal := by
  intro m g m' g' _ hagree
  refine ⟨fun c => product m c,
    (θ_run _ _ _).mono (fun r h c => ⟨(h c).1.trans (final m c), (h c).2⟩) (Cert.InWgradIdeal.Value.run_blocks m g),
    (θ_run _ _ _).mono (fun r h c => ?_) (Cert.InWrefIdeal.Value.run (F := Ideal) m' g')⟩
  obtain ⟨e0, e1, e2, e3⟩ := hagree c
  refine ⟨(h c).1.trans ?_, (h c).2⟩
  · rw [e0, e1, e2, e3]
    rfl

end Cert.Proof.InWgrad

end
-- ==== Proof.UpFwd.lean ====
/- The FFN's up projection and its normalisation: the kernel's row blocks are the reference's rows.

   Every grid step normalises 512 rows and multiplies them with the transposed weight, one half of its rows after the other. -/
module

public import proofs.«01_k».proof.Defs
public import proofs.«01_k».proof.Proof.Rms
public import proofs.«01_k».proof.Proof.Gen.UpFwdIdeal.Value
public import proofs.«01_k».proof.Proof.Gen.UpFrefIdeal.Run
public import Idealize.ShloMosaic.Lib.Pipeline.ValueKit
public import Idealize.ShloMosaic.Lib.Claim

@[expose] public section

set_option maxRecDepth 16384

noncomputable section

namespace Cert.Proof.UpFwd

open Cert.UpFwdIdeal Cert.UpFwdIdeal.Gen
open Idealize.ShloMosaic Idealize.ShloMosaic.TcCoe Idealize.ShloMosaic.Tactic Idealize.SL.Sem

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] := by
  decide +kernel

/-- Row `p` of grid step `t`'s block in the whole array. -/
def row (t : Fin cfg0.N) (p : Fin 512) : Fin 4096 := ⟨t.val * 512 + p.val, by have : t.val < 8 := t.isLt; omega⟩

variable (m : (ℓ : Loc nD τ sig) → Buf (Elt Ideal) ℓ) (c : Dev nD)

/-! ## The arguments -/

abbrev inp : Rms.Mat := m ((c.tc : Thread nD τ).loc main_arg0)
abbrev gain : Rms.Row := m ((c.tc : Thread nD τ).loc main_arg1)
abbrev shift : Rms.Row := m ((c.tc : Thread nD τ).loc main_arg2)
abbrev scl : Rms.Row := m ((c.tc : Thread nD τ).loc main_arg3)
abbrev wt : FVec Ideal Cert.UpFrefIdeal.S1024x5632 .bf16 := m ((c.tc : Thread nD τ).loc main_arg4)

/-- The reference's normalised rows, -/
def normed : Rms.Mat := addf (mulf (mulf (Rms.scaled (inp m c) (inp m c)) (Rms.rows (gain m c))) (Rms.rows (Rms.plusOne (scl m c)))) (Rms.rows (shift m c))
/-- as it returns them, -/
def normedOut : FVec Ideal S4096x1024 .bf16 := truncf .bf16 (normed m c) Cert.UpFrefIdeal.Gen.bitsLt_bf16_f32
/-- and their product with the weight. -/
def product : FVec Ideal S4096x5632 .bf16 := truncf .bf16 (Host.dotGeneral (F := Ideal) (φ₁ := .f32) (φ₂ := .f32) Cert.UpFrefIdeal.dot_S4096x1024_S1024x5632_S4096x5632_1_0_0_1_n_n none
  (normed m c) (extf .f32 (wt m c) Cert.UpFrefIdeal.Gen.bitsLt_bf16_f32)) Cert.UpFrefIdeal.Gen.bitsLt_bf16_f32

theorem normed_apply (i : Fin 4096) (j : Fin 1024) : normed m c (ix2 i j)
    = ((inp m c (ix2 i j) * Rms.inv fun k => inp m c (ix2 i k)) * gain m c (ix2 0 j)) * (Rms.one + scl m c (ix2 0 j)) + shift m c (ix2 0 j) := by
  show Rms.scaled (inp m c) (inp m c) (ix2 i j) * Rms.rows (gain m c) (ix2 i j) * Rms.rows (Rms.plusOne (scl m c)) (ix2 i j)
    + Rms.rows (shift m c) (ix2 i j) = _
  rw [Rms.scaled_apply, Rms.rows_apply, Rms.rows_apply, Rms.rows_apply, Rms.plusOne_apply]
theorem product_apply (i : Fin 4096) (j : Fin 5632) : product m c (ix2 i j) = ∑ k : Fin 1024, normed m c (ix2 i k) * wt m c (ix2 k j) := by
  unfold product
  pointwise

/-! ## The blocks the kernel reads -/

variable (t : Fin cfg0.N)

theorem inp_block (p : Fin 512) (k : Fin 1024) : iblk m c 0 t (ix2 p k) = inp m c (ix2 (row t p) k) := by
  blk_ext [iblk, idx t, V_main_arg0, row]
theorem gain_block (p : Fin 1) (k : Fin 1024) : iblk m c 1 t (ix2 p k) = gain m c (ix2 0 k) := by
  blk_ext [iblk, idx t, V_main_arg1]
theorem shift_block (p : Fin 1) (k : Fin 1024) : iblk m c 2 t (ix2 p k) = shift m c (ix2 0 k) := by
  blk_ext [iblk, idx t, V_main_arg2]
theorem scl_block (p : Fin 1) (k : Fin 1024) : iblk m c 3 t (ix2 p k) = scl m c (ix2 0 k) := by
  blk_ext [iblk, idx t, V_main_arg3]
theorem weight_array : V m c main_v0 = transpose S5632x1024 [1, 0] (m ((c.tc : Thread nD τ).loc main_arg4)) transposes_S1024x5632_S5632x1024_1_0 := by
  entry_read; rfl
theorem weight_block (k : Fin 5632) (j : Fin 1024) : iblk m c 4 t (ix2 k j) = wt m c (ix2 j k) := by
  have he : ((win0_4.blk t).view.emb (ix2 k j)) = ix2 k j := by
    blk_ext [idx t]
  show V m c main_v0 ((win0_4.blk t).view.emb (ix2 k j)) = _
  rw [weight_array, he]
  pointwise

/-- A block of normalised rows. -/
theorem normed_block (p : Fin 512) (j : Fin 1024) :
    k0_pay1 (iblk m c 0 t) (iblk m c 1 t) (iblk m c 3 t) (iblk m c 2 t) (ix2 p j) = normed m c (ix2 (row t p) j) := by
  rw [normed_apply]
  unfold k0_pay1 Rms.inv Rms.var Rms.one
  pointwise
  simp only [inp_block, gain_block, shift_block, scl_block]

/-! ## The arrays the kernel leaves -/

theorem normed_final : (dats m 0 c).arrAt 5 cfg0.N = normedOut m c := by
  refine (dats m 0 c).arrAt_eq_of_covers 5 _ (by decide +kernel) fun t hf (y : S512x1024.Idx) => ?_
  have hy : y = ix2 (y 0) (y 1) := by funext a; fin_cases a <;> rfl
  have he : ((win0_5.blk t).view.emb y) = ix2 (row t (y 0)) (y 1) := by
    blk_ext [idx t, row]
  refine Eq.trans ?_ (congrArg (normedOut m c) he.symm)
  refine Eq.trans ?_ (normed_block m c t (y 0) (y 1))
  blk_simp
  rw [after0_5]
  frame_out
  exact congrArg _ hy

/-- A half of a block of the product: the normalised rows times half of the rows of the transposed weight. -/
theorem half_block (w : Vec Ideal S2816x1024 .bf16) (x : S512x2816.Idx) (j : Fin 5632)
    (hw : ∀ k : Fin 1024, w (ix2 (x 1) k) = wt m c (ix2 k j)) :
    k0_pay2 (iblk m c 0 t) (iblk m c 1 t) (iblk m c 3 t) (iblk m c 2 t) w x = product m c (ix2 (row t (x 0)) j) := by
  rw [product_apply]
  unfold k0_pay2
  pointwise
  refine Fin.sum_fin_congr fun k => ?_
  exact congrArg₂ (· * · : EReal → EReal → EReal) (normed_block m c t (x 0) k) (hw k)

theorem product_final : (dats m 0 c).arrAt 6 cfg0.N = product m c := by
  refine (dats m 0 c).arrAt_eq_of_covers 6 _ (by decide +kernel) fun t hf (y : S512x5632.Idx) => ?_
  have he : ((win0_6.blk t).view.emb y) = ix2 (row t (y 0)) (y 1) := by
    blk_ext [idx t, row]
  refine Eq.trans ?_ (congrArg (product m c) he.symm)
  blk_simp
  rw [after0_6]
  canon_tiles x h
  · have e0 : row t (y 0) = row t (x 0) := congrArg (row t) (Fin.ext h0)
    rw [e0]
    refine Eq.trans ?_ (half_block m c t (View.ld (iblk m c 4 t) r0_4) x (y 1) fun k => ?_)
    · frame_out
      rfl
    · have e : r0_4.emb (ix2 (x 1) k) = ix2 (y 1) k := by blk_ext [r0_4, h1]
      show iblk m c 4 t (r0_4.emb (ix2 (x 1) k)) = _
      exact (congrArg (iblk m c 4 t) e).trans (weight_block m c t (y 1) k)
  · have e0 : row t (y 0) = row t (x 0) := congrArg (row t) (Fin.ext h0)
    rw [e0]
    refine Eq.trans ?_ (half_block m c t (View.ld (iblk m c 4 t) r0_2) x (y 1) fun k => ?_)
    · frame_out
      rfl
    · have e : r0_2.emb (ix2 (x 1) k) = ix2 (y 1) k := by blk_ext [r0_2, h1]
      show iblk m c 4 t (r0_2.emb (ix2 (x 1) k)) = _
      exact (congrArg (iblk m c 4 t) e).trans (weight_block m c t (y 1) k)

/-- The reference leaves its arguments as they were. -/
theorem ref_frame (m : (ℓ : Loc Cert.UpFrefIdeal.nD Cert.UpFrefIdeal.τ Cert.UpFrefIdeal.sig) → Buf (Elt Ideal) ℓ)
    (ρ : Dev Cert.UpFrefIdeal.nD → PrngReg) :
    θ_run Cert.UpFrefIdeal.defs (onTc (τ := Cert.UpFrefIdeal.τ) (Cert.UpFrefIdeal.main (F := Ideal))) ⟨m, fun _ => 0, ρ⟩ (fun r => (∀ c : Dev Cert.UpFrefIdeal.nD,
      r.2.mem ((c.tc : Thread Cert.UpFrefIdeal.nD Cert.UpFrefIdeal.τ).loc Cert.UpFrefIdeal.main_arg0) = m ((c.tc : Thread Cert.UpFrefIdeal.nD Cert.UpFrefIdeal.τ).loc Cert.UpFrefIdeal.main_arg0)
      ∧ r.2.mem ((c.tc : Thread Cert.UpFrefIdeal.nD Cert.UpFrefIdeal.τ).loc Cert.UpFrefIdeal.main_arg1) = m ((c.tc : Thread Cert.UpFrefIdeal.nD Cert.UpFrefIdeal.τ).loc Cert.UpFrefIdeal.main_arg1)
      ∧ r.2.mem ((c.tc : Thread Cert.UpFrefIdeal.nD Cert.UpFrefIdeal.τ).loc Cert.UpFrefIdeal.main_arg2) = m ((c.tc : Thread Cert.UpFrefIdeal.nD Cert.UpFrefIdeal.τ).loc Cert.UpFrefIdeal.main_arg2)
      ∧ r.2.mem ((c.tc : Thread Cert.UpFrefIdeal.nD Cert.UpFrefIdeal.τ).loc Cert.UpFrefIdeal.main_arg3) = m ((c.tc : Thread Cert.UpFrefIdeal.nD Cert.UpFrefIdeal.τ).loc Cert.UpFrefIdeal.main_arg3)
      ∧ r.2.mem ((c.tc : Thread Cert.UpFrefIdeal.nD Cert.UpFrefIdeal.τ).loc Cert.UpFrefIdeal.main_arg4) = m ((c.tc : Thread Cert.UpFrefIdeal.nD Cert.UpFrefIdeal.τ).loc Cert.UpFrefIdeal.main_arg4))
      ∧ r.2.sem = fun _ => 0) :=
  (θ_run _ _ _).mono (fun r h => ⟨fun c => (h c).2.2, sem_eq_zero_of_no_sems (by decide) r.2⟩) (Cert.UpFrefIdeal.Value.run (F := Ideal) m ρ)

set_option maxHeartbeats 4000000 in
/-- The kernel and the reference leave the same normalised rows and the same product. -/
theorem algebraic : Cert.algebraic_UpFwdIdeal_UpFrefIdeal := by
  intro m g m' g' _ hagree
  refine ⟨fun c => normedOut m c, fun c => product m c,
    (θ_run _ _ _).mono (fun r h c => ⟨(h c).1.trans (normed_final m c), (h c).2.1.trans (product_final m c), (h c).2.2⟩) (Cert.UpFwdIdeal.Value.run_blocks m g),
    (θ_run _ _ _).mono (fun r h c => ?_) (Cert.UpFrefIdeal.Value.run (F := Ideal) m' g')⟩
  obtain ⟨e0, e1, e2, e3, e4⟩ := hagree c
  refine ⟨(h c).1.trans ?_, (h c).2.1.trans ?_, (h c).2.2⟩
  · simp only [e0, e1, e2, e3, e4]
    rfl
  · simp only [e0, e1, e2, e3, e4]
    rfl

end Cert.Proof.UpFwd

end
-- ==== Proof.OddFwd.lean ====
/- The odd mixer's input projection and its normalisation: the kernel's row blocks are the reference's rows.

   Every grid step normalises 512 rows and multiplies them with the transposed weight, one half of its rows after the other. -/
module

public import proofs.«01_k».proof.Defs
public import proofs.«01_k».proof.Proof.Rms
public import proofs.«01_k».proof.Proof.Gen.OddFwdIdeal.Value
public import proofs.«01_k».proof.Proof.Gen.OddFrefIdeal.Run
public import Idealize.ShloMosaic.Lib.Pipeline.ValueKit
public import Idealize.ShloMosaic.Lib.Claim

@[expose] public section

set_option maxRecDepth 16384

noncomputable section

namespace Cert.Proof.OddFwd

open Cert.OddFwdIdeal Cert.OddFwdIdeal.Gen
open Idealize.ShloMosaic Idealize.ShloMosaic.TcCoe Idealize.ShloMosaic.Tactic Idealize.SL.Sem

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] := by
  decide +kernel

/-- Row `p` of grid step `t`'s block in the whole array. -/
def row (t : Fin cfg0.N) (p : Fin 512) : Fin 4096 := ⟨t.val * 512 + p.val, by have : t.val < 8 := t.isLt; omega⟩

variable (m : (ℓ : Loc nD τ sig) → Buf (Elt Ideal) ℓ) (c : Dev nD)

/-! ## The arguments -/

abbrev inp : Rms.Mat := m ((c.tc : Thread nD τ).loc main_arg0)
abbrev gain : Rms.Row := m ((c.tc : Thread nD τ).loc main_arg1)
abbrev shift : Rms.Row := m ((c.tc : Thread nD τ).loc main_arg2)
abbrev scl : Rms.Row := m ((c.tc : Thread nD τ).loc main_arg3)
abbrev wt : FVec Ideal Cert.OddFrefIdeal.S1024x2048 .bf16 := m ((c.tc : Thread nD τ).loc main_arg4)

/-- The reference's normalised rows, -/
def normed : Rms.Mat := addf (mulf (mulf (Rms.scaled (inp m c) (inp m c)) (Rms.rows (gain m c))) (Rms.rows (Rms.plusOne (scl m c)))) (Rms.rows (shift m c))
/-- as it returns them, -/
def normedOut : FVec Ideal S4096x1024 .bf16 := truncf .bf16 (normed m c) Cert.OddFrefIdeal.Gen.bitsLt_bf16_f32
/-- and their product with the weight. -/
def product : FVec Ideal S4096x2048 .bf16 := truncf .bf16 (Host.dotGeneral (F := Ideal) (φ₁ := .f32) (φ₂ := .f32) Cert.OddFrefIdeal.dot_S4096x1024_S1024x2048_S4096x2048_1_0_0_1_n_n none
  (normed m c) (extf .f32 (wt m c) Cert.OddFrefIdeal.Gen.bitsLt_bf16_f32)) Cert.OddFrefIdeal.Gen.bitsLt_bf16_f32

theorem normed_apply (i : Fin 4096) (j : Fin 1024) : normed m c (ix2 i j)
    = ((inp m c (ix2 i j) * Rms.inv fun k => inp m c (ix2 i k)) * gain m c (ix2 0 j)) * (Rms.one + scl m c (ix2 0 j)) + shift m c (ix2 0 j) := by
  show Rms.scaled (inp m c) (inp m c) (ix2 i j) * Rms.rows (gain m c) (ix2 i j) * Rms.rows (Rms.plusOne (scl m c)) (ix2 i j)
    + Rms.rows (shift m c) (ix2 i j) = _
  rw [Rms.scaled_apply, Rms.rows_apply, Rms.rows_apply, Rms.rows_apply, Rms.plusOne_apply]
theorem product_apply (i : Fin 4096) (j : Fin 2048) : product m c (ix2 i j) = ∑ k : Fin 1024, normed m c (ix2 i k) * wt m c (ix2 k j) := by
  unfold product
  pointwise

/-! ## The blocks the kernel reads -/

variable (t : Fin cfg0.N)

theorem inp_block (p : Fin 512) (k : Fin 1024) : iblk m c 0 t (ix2 p k) = inp m c (ix2 (row t p) k) := by
  blk_ext [iblk, idx t, V_main_arg0, row]
theorem gain_block (p : Fin 1) (k : Fin 1024) : iblk m c 1 t (ix2 p k) = gain m c (ix2 0 k) := by
  blk_ext [iblk, idx t, V_main_arg1]
theorem shift_block (p : Fin 1) (k : Fin 1024) : iblk m c 2 t (ix2 p k) = shift m c (ix2 0 k) := by
  blk_ext [iblk, idx t, V_main_arg2]
theorem scl_block (p : Fin 1) (k : Fin 1024) : iblk m c 3 t (ix2 p k) = scl m c (ix2 0 k) := by
  blk_ext [iblk, idx t, V_main_arg3]
theorem weight_array : V m c main_v0 = transpose S2048x1024 [1, 0] (m ((c.tc : Thread nD τ).loc main_arg4)) transposes_S1024x2048_S2048x1024_1_0 := by
  entry_read; rfl
theorem weight_block (k : Fin 2048) (j : Fin 1024) : iblk m c 4 t (ix2 k j) = wt m c (ix2 j k) := by
  have he : ((win0_4.blk t).view.emb (ix2 k j)) = ix2 k j := by
    blk_ext [idx t]
  show V m c main_v0 ((win0_4.blk t).view.emb (ix2 k j)) = _
  rw [weight_array, he]
  pointwise

/-- A block of normalised rows. -/
theorem normed_block (p : Fin 512) (j : Fin 1024) :
    k0_pay1 (iblk m c 0 t) (iblk m c 1 t) (iblk m c 3 t) (iblk m c 2 t) (ix2 p j) = normed m c (ix2 (row t p) j) := by
  rw [normed_apply]
  unfold k0_pay1 Rms.inv Rms.var Rms.one
  pointwise
  simp only [inp_block, gain_block, shift_block, scl_block]

/-! ## The arrays the kernel leaves -/

theorem normed_final : (dats m 0 c).arrAt 5 cfg0.N = normedOut m c := by
  refine (dats m 0 c).arrAt_eq_of_covers 5 _ (by decide +kernel) fun t hf (y : S512x1024.Idx) => ?_
  have hy : y = ix2 (y 0) (y 1) := by funext a; fin_cases a <;> rfl
  have he : ((win0_5.blk t).view.emb y) = ix2 (row t (y 0)) (y 1) := by
    blk_ext [idx t, row]
  refine Eq.trans ?_ (congrArg (normedOut m c) he.symm)
  refine Eq.trans ?_ (normed_block m c t (y 0) (y 1))
  blk_simp
  rw [after0_5]
  frame_out
  exact congrArg _ hy

/-- A half of a block of the product: the normalised rows times half of the rows of the transposed weight. -/
theorem half_block (w : Vec Ideal S1024x1024 .bf16) (x : S512x1024.Idx) (j : Fin 2048)
    (hw : ∀ k : Fin 1024, w (ix2 (x 1) k) = wt m c (ix2 k j)) :
    k0_pay2 (iblk m c 0 t) (iblk m c 1 t) (iblk m c 3 t) (iblk m c 2 t) w x = product m c (ix2 (row t (x 0)) j) := by
  rw [product_apply]
  unfold k0_pay2
  pointwise
  refine Fin.sum_fin_congr fun k => ?_
  exact congrArg₂ (· * · : EReal → EReal → EReal) (normed_block m c t (x 0) k) (hw k)

theorem product_final : (dats m 0 c).arrAt 6 cfg0.N = product m c := by
  refine (dats m 0 c).arrAt_eq_of_covers 6 _ (by decide +kernel) fun t hf (y : S512x2048.Idx) => ?_
  have he : ((win0_6.blk t).view.emb y) = ix2 (row t (y 0)) (y 1) := by
    blk_ext [idx t, row]
  refine Eq.trans ?_ (congrArg (product m c) he.symm)
  blk_simp
  rw [after0_6]
  canon_tiles x h
  · have e0 : row t (y 0) = row t (x 0) := congrArg (row t) (Fin.ext h0)
    rw [e0]
    refine Eq.trans ?_ (half_block m c t (View.ld (iblk m c 4 t) r0_4) x (y 1) fun k => ?_)
    · frame_out
      rfl
    · have e : r0_4.emb (ix2 (x 1) k) = ix2 (y 1) k := by blk_ext [r0_4, h1]
      show iblk m c 4 t (r0_4.emb (ix2 (x 1) k)) = _
      exact (congrArg (iblk m c 4 t) e).trans (weight_block m c t (y 1) k)
  · have e0 : row t (y 0) = row t (x 0) := congrArg (row t) (Fin.ext h0)
    rw [e0]
    refine Eq.trans ?_ (half_block m c t (View.ld (iblk m c 4 t) r0_2) x (y 1) fun k => ?_)
    · frame_out
      rfl
    · have e : r0_2.emb (ix2 (x 1) k) = ix2 (y 1) k := by blk_ext [r0_2, h1]
      show iblk m c 4 t (r0_2.emb (ix2 (x 1) k)) = _
      exact (congrArg (iblk m c 4 t) e).trans (weight_block m c t (y 1) k)

/-- The reference leaves its arguments as they were. -/
theorem ref_frame (m : (ℓ : Loc Cert.OddFrefIdeal.nD Cert.OddFrefIdeal.τ Cert.OddFrefIdeal.sig) → Buf (Elt Ideal) ℓ)
    (ρ : Dev Cert.OddFrefIdeal.nD → PrngReg) :
    θ_run Cert.OddFrefIdeal.defs (onTc (τ := Cert.OddFrefIdeal.τ) (Cert.OddFrefIdeal.main (F := Ideal))) ⟨m, fun _ => 0, ρ⟩ (fun r => (∀ c : Dev Cert.OddFrefIdeal.nD,
      r.2.mem ((c.tc : Thread Cert.OddFrefIdeal.nD Cert.OddFrefIdeal.τ).loc Cert.OddFrefIdeal.main_arg0) = m ((c.tc : Thread Cert.OddFrefIdeal.nD Cert.OddFrefIdeal.τ).loc Cert.OddFrefIdeal.main_arg0)
      ∧ r.2.mem ((c.tc : Thread Cert.OddFrefIdeal.nD Cert.OddFrefIdeal.τ).loc Cert.OddFrefIdeal.main_arg1) = m ((c.tc : Thread Cert.OddFrefIdeal.nD Cert.OddFrefIdeal.τ).loc Cert.OddFrefIdeal.main_arg1)
      ∧ r.2.mem ((c.tc : Thread Cert.OddFrefIdeal.nD Cert.OddFrefIdeal.τ).loc Cert.OddFrefIdeal.main_arg2) = m ((c.tc : Thread Cert.OddFrefIdeal.nD Cert.OddFrefIdeal.τ).loc Cert.OddFrefIdeal.main_arg2)
      ∧ r.2.mem ((c.tc : Thread Cert.OddFrefIdeal.nD Cert.OddFrefIdeal.τ).loc Cert.OddFrefIdeal.main_arg3) = m ((c.tc : Thread Cert.OddFrefIdeal.nD Cert.OddFrefIdeal.τ).loc Cert.OddFrefIdeal.main_arg3)
      ∧ r.2.mem ((c.tc : Thread Cert.OddFrefIdeal.nD Cert.OddFrefIdeal.τ).loc Cert.OddFrefIdeal.main_arg4) = m ((c.tc : Thread Cert.OddFrefIdeal.nD Cert.OddFrefIdeal.τ).loc Cert.OddFrefIdeal.main_arg4))
      ∧ r.2.sem = fun _ => 0) :=
  (θ_run _ _ _).mono (fun r h => ⟨fun c => (h c).2.2, sem_eq_zero_of_no_sems (by decide) r.2⟩) (Cert.OddFrefIdeal.Value.run (F := Ideal) m ρ)

set_option maxHeartbeats 4000000 in
/-- The kernel and the reference leave the same normalised rows and the same product. -/
theorem algebraic : Cert.algebraic_OddFwdIdeal_OddFrefIdeal := by
  intro m g m' g' _ hagree
  refine ⟨fun c => normedOut m c, fun c => product m c,
    (θ_run _ _ _).mono (fun r h c => ⟨(h c).1.trans (normed_final m c), (h c).2.1.trans (product_final m c), (h c).2.2⟩) (Cert.OddFwdIdeal.Value.run_blocks m g),
    (θ_run _ _ _).mono (fun r h c => ?_) (Cert.OddFrefIdeal.Value.run (F := Ideal) m' g')⟩
  obtain ⟨e0, e1, e2, e3, e4⟩ := hagree c
  refine ⟨(h c).1.trans ?_, (h c).2.1.trans ?_, (h c).2.2⟩
  · simp only [e0, e1, e2, e3, e4]
    rfl
  · simp only [e0, e1, e2, e3, e4]
    rfl

end Cert.Proof.OddFwd

end
-- ==== Proof.DownFwd.lean ====
/- The FFN's down projection, its normalisation and the residual sum: the kernel's row blocks are the reference's rows.

   Every grid step multiplies 512 rows with the whole weight, normalises the product and adds it, gated, to its input rows. -/
module

public import proofs.«01_k».proof.Defs
public import proofs.«01_k».proof.Proof.Rms
public import proofs.«01_k».proof.Proof.Gen.DownFwdIdeal.Value
public import proofs.«01_k».proof.Proof.Gen.DownFrefIdeal.Run
public import Idealize.ShloMosaic.Lib.Pipeline.ValueKit
public import Idealize.ShloMosaic.Lib.Claim

@[expose] public section

set_option maxRecDepth 16384

noncomputable section

namespace Cert.Proof.DownFwd

open Cert.DownFwdIdeal Cert.DownFwdIdeal.Gen
open Idealize.ShloMosaic Idealize.ShloMosaic.TcCoe Idealize.ShloMosaic.Tactic Idealize.SL.Sem

theorem idx : ∀ t : Fin cfg0.N, win0_0.index t = ![t.val, 0]
    ∧ win0_1.index t = ![0, 0]
    ∧ win0_2.index t = ![t.val, 0]
    ∧ win0_3.index t = ![0, 0]
    ∧ win0_4.index t = ![0, 0]
    ∧ win0_5.index t = ![t.val, 0]
    ∧ win0_6.index t = ![t.val, 0] := by
  decide +kernel

/-- Row `p` of grid step `t`'s block in the whole array. -/
def row (t : Fin cfg0.N) (p : Fin 512) : Fin 4096 := ⟨t.val * 512 + p.val, by have : t.val < 8 := t.isLt; omega⟩

variable (m : (ℓ : Loc nD τ sig) → Buf (Elt Ideal) ℓ) (c : Dev nD)

/-! ## The arguments -/

abbrev act : FVec Ideal Cert.DownFrefIdeal.S4096x2816 .bf16 := m ((c.tc : Thread nD τ).loc main_arg0)
abbrev wt : FVec Ideal Cert.DownFrefIdeal.S2816x1024 .bf16 := m ((c.tc : Thread nD τ).loc main_arg1)
abbrev res : Rms.Mat := m ((c.tc : Thread nD τ).loc main_arg2)
abbrev gain : Rms.Row := m ((c.tc : Thread nD τ).loc main_arg3)
abbrev gate : Rms.Row := m ((c.tc : Thread nD τ).loc main_arg4)

/-- The reference's product, -/
def proj : Rms.Mat := Host.dotGeneral (F := Ideal) Cert.DownFrefIdeal.dot_S4096x2816_S2816x1024_S4096x1024_1_0_0_1_n_n none
  (extf .f32 (act m c) Cert.DownFrefIdeal.Gen.bitsLt_bf16_f32)
  (extf .f32 (wt m c) Cert.DownFrefIdeal.Gen.bitsLt_bf16_f32)
/-- as it returns it, -/
def projOut : FVec Ideal S4096x1024 .bf16 := truncf .bf16 (proj m c) Cert.DownFrefIdeal.Gen.bitsLt_bf16_f32
/-- and the sum of the input rows and the normalised product. -/
def next : Rms.Mat := addf (res m c) (mulf (Rms.rows (gate m c)) (mulf (Rms.scaled (proj m c) (proj m c)) (Rms.rows (gain m c))))

theorem proj_apply (i : Fin 4096) (j : Fin 1024) : proj m c (ix2 i j) = ∑ k : Fin 2816, (act m c (ix2 i k) : EReal) * wt m c (ix2 k j) := by
  unfold proj
  pointwise
theorem next_apply (i : Fin 4096) (j : Fin 1024) : next m c (ix2 i j)
    = res m c (ix2 i j) + gate m c (ix2 0 j) * ((proj m c (ix2 i j) * Rms.inv fun k => proj m c (ix2 i k)) * gain m c (ix2 0 j)) := by
  show res m c (ix2 i j) + Rms.rows (gate m c) (ix2 i j) * (Rms.scaled (proj m c) (proj m c) (ix2 i j) * Rms.rows (gain m c) (ix2 i j)) = _
  rw [Rms.scaled_apply, Rms.rows_apply, Rms.rows_apply]

/-! ## The blocks the kernel reads -/

variable (t : Fin cfg0.N)

theorem res_block (p : Fin 512) (k : Fin 1024) : iblk m c 2 t (ix2 p k) = res m c (ix2 (row t p) k) := by
  blk_ext [iblk, idx t, V_main_arg2, row]
theorem gain_block (p : Fin 1) (k : Fin 1024) : iblk m c 3 t (ix2 p k) = gain m c (ix2 0 k) := by
  blk_ext [iblk, idx t, V_main_arg3]
theorem gate_block (p : Fin 1) (k : Fin 1024) : iblk m c 4 t (ix2 p k) = gate m c (ix2 0 k) := by
  blk_ext [iblk, idx t, V_main_arg4]
/-- A block of the product. -/
theorem proj_block (p : Fin 512) (j : Fin 1024) : k0_pay1 (iblk m c 0 t) (iblk m c 1 t) (ix2 p j) = proj m c (ix2 (row t p) j) := by
  rw [proj_apply]
  unfold k0_pay1
  pointwise
  refine Fin.sum_fin_congr fun k => ?_
  refine congrArg₂ (· * · : EReal → EReal → EReal) ?_ ?_ <;> blk_ext [iblk, idx t, V_main_arg0, V_main_arg1, row]
/-- A block of the sum. -/
theorem next_block (p : Fin 512) (j : Fin 1024) :
    k0_pay2 (iblk m c 0 t) (iblk m c 1 t) (iblk m c 2 t) (iblk m c 4 t) (iblk m c 3 t) (ix2 p j) = next m c (ix2 (row t p) j) := by
  rw [next_apply]
  unfold k0_pay2 Rms.inv Rms.var
  pointwise
  simp only [proj_block, res_block, gain_block, gate_block]

/-! ## The arrays the kernel leaves -/

theorem proj_final : (dats m 0 c).arrAt 5 cfg0.N = projOut m c := by
  refine (dats m 0 c).arrAt_eq_of_covers 5 _ (by decide +kernel) fun t hf (y : S512x1024.Idx) => ?_
  have hy : y = ix2 (y 0) (y 1) := by funext a; fin_cases a <;> rfl
  have he : ((win0_5.blk t).view.emb y) = ix2 (row t (y 0)) (y 1) := by
    blk_ext [idx t, row]
  refine Eq.trans ?_ (congrArg (projOut m c) he.symm)
  refine Eq.trans ?_ (proj_block m c t (y 0) (y 1))
  blk_simp
  rw [after0_5]
  frame_out
  exact congrArg _ hy
theorem next_final : (dats m 0 c).arrAt 6 cfg0.N = next m c := by
  refine (dats m 0 c).arrAt_eq_of_covers 6 _ (by decide +kernel) fun t hf (y : S512x1024.Idx) => ?_
  have hy : y = ix2 (y 0) (y 1) := by funext a; fin_cases a <;> rfl
  have he : ((win0_6.blk t).view.emb y) = ix2 (row t (y 0)) (y 1) := by
    blk_ext [idx t, row]
  refine Eq.trans ?_ (congrArg (next m c) he.symm)
  refine Eq.trans ?_ (next_block m c t (y 0) (y 1))
  blk_simp
  rw [after0_6]
  frame_out
  exact congrArg _ hy

/-- The reference leaves its arguments as they were. -/
theorem ref_frame (m : (ℓ : Loc Cert.DownFrefIdeal.nD Cert.DownFrefIdeal.τ Cert.DownFrefIdeal.sig) → Buf (Elt Ideal) ℓ)
    (ρ : Dev Cert.DownFrefIdeal.nD → PrngReg) :
    θ_run Cert.DownFrefIdeal.defs (onTc (τ := Cert.DownFrefIdeal.τ) (Cert.DownFrefIdeal.main (F := Ideal))) ⟨m, fun _ => 0, ρ⟩ (fun r => (∀ c : Dev Cert.DownFrefIdeal.nD,
      r.2.mem ((c.tc : Thread Cert.DownFrefIdeal.nD Cert.DownFrefIdeal.τ).loc Cert.DownFrefIdeal.main_arg0) = m ((c.tc : Thread Cert.DownFrefIdeal.nD Cert.DownFrefIdeal.τ).loc Cert.DownFrefIdeal.main_arg0)
      ∧ r.2.mem ((c.tc : Thread Cert.DownFrefIdeal.nD Cert.DownFrefIdeal.τ).loc Cert.DownFrefIdeal.main_arg1) = m ((c.tc : Thread Cert.DownFrefIdeal.nD Cert.DownFrefIdeal.τ).loc Cert.DownFrefIdeal.main_arg1)
      ∧ r.2.mem ((c.tc : Thread Cert.DownFrefIdeal.nD Cert.DownFrefIdeal.τ).loc Cert.DownFrefIdeal.main_arg2) = m ((c.tc : Thread Cert.DownFrefIdeal.nD Cert.DownFrefIdeal.τ).loc Cert.DownFrefIdeal.main_arg2)
      ∧ r.2.mem ((c.tc : Thread Cert.DownFrefIdeal.nD Cert.DownFrefIdeal.τ).loc Cert.DownFrefIdeal.main_arg3) = m ((c.tc : Thread Cert.DownFrefIdeal.nD Cert.DownFrefIdeal.τ).loc Cert.DownFrefIdeal.main_arg3)
      ∧ r.2.mem ((c.tc : Thread Cert.DownFrefIdeal.nD Cert.DownFrefIdeal.τ).loc Cert.DownFrefIdeal.main_arg4) = m ((c.tc : Thread Cert.DownFrefIdeal.nD Cert.DownFrefIdeal.τ).loc Cert.DownFrefIdeal.main_arg4))
      ∧ r.2.sem = fun _ => 0) :=
  (θ_run _ _ _).mono (fun r h => ⟨fun c => (h c).2.2, sem_eq_zero_of_no_sems (by decide) r.2⟩) (Cert.DownFrefIdeal.Value.run (F := Ideal) m ρ)

set_option maxHeartbeats 4000000 in
/-- The kernel and the reference leave the same product and the same sum. -/
theorem algebraic : Cert.algebraic_DownFwdIdeal_DownFrefIdeal := by
  intro m g m' g' _ hagree
  refine ⟨fun c => projOut m c, fun c => next m c,
    (θ_run _ _ _).mono (fun r h c => ⟨(h c).1.trans (proj_final m c), (h c).2.1.trans (next_final m c), (h c).2.2⟩) (Cert.DownFwdIdeal.Value.run_blocks m g),
    (θ_run _ _ _).mono (fun r h c => ?_) (Cert.DownFrefIdeal.Value.run (F := Ideal) m' g')⟩
  obtain ⟨e0, e1, e2, e3, e4⟩ := hagree c
  refine ⟨(h c).1.trans ?_, (h c).2.1.trans ?_, (h c).2.2⟩
  · simp only [e0, e1, e2, e3, e4]
    rfl
  · simp only [e0, e1, e2, e3, e4]
    rfl

end Cert.Proof.DownFwd

end
-- ==== Proof.OutFwd.lean ====
/- A mixer's output projection, its normalisation and the residual sum: the kernel's row blocks are the reference's rows.

   Every grid step multiplies 1024 rows with the whole weight, normalises the product and adds it, gated, to its input rows. -/
module

public import proofs.«01_k».proof.Defs
public import proofs.«01_k».proof.Proof.Rms
public import proofs.«01_k».proof.Proof.Gen.OutFwdIdeal.Value
public import proofs.«01_k».proof.Proof.Gen.OutFrefIdeal.Run
public import Idealize.ShloMosaic.Lib.Pipeline.ValueKit
public import Idealize.ShloMosaic.Lib.Claim

@[expose] public section

set_option maxRecDepth 16384

noncomputable section

namespace Cert.Proof.OutFwd

open Cert.OutFwdIdeal Cert.OutFwdIdeal.Gen
open Idealize.ShloMosaic Idealize.ShloMosaic.TcCoe Idealize.ShloMosaic.Tactic Idealize.SL.Sem

theorem idx : ∀ t : Fin cfg0.N, win0_0.index t = ![t.val, 0]
    ∧ win0_1.index t = ![0, 0]
    ∧ win0_2.index t = ![t.val, 0]
    ∧ win0_3.index t = ![0, 0]
    ∧ win0_4.index t = ![0, 0]
    ∧ win0_5.index t = ![t.val, 0]
    ∧ win0_6.index t = ![t.val, 0] := by
  decide +kernel

/-- Row `p` of grid step `t`'s block in the whole array. -/
def row (t : Fin cfg0.N) (p : Fin 1024) : Fin 4096 := ⟨t.val * 1024 + p.val, by have : t.val < 4 := t.isLt; omega⟩

variable (m : (ℓ : Loc nD τ sig) → Buf (Elt Ideal) ℓ) (c : Dev nD)

/-! ## The arguments -/

abbrev act : FVec Ideal Cert.OutFrefIdeal.S4096x1024 .bf16 := m ((c.tc : Thread nD τ).loc main_arg0)
abbrev wt : FVec Ideal Cert.OutFrefIdeal.S1024x1024 .bf16 := m ((c.tc : Thread nD τ).loc main_arg1)
abbrev res : Rms.Mat := m ((c.tc : Thread nD τ).loc main_arg2)
abbrev gain : Rms.Row := m ((c.tc : Thread nD τ).loc main_arg3)
abbrev gate : Rms.Row := m ((c.tc : Thread nD τ).loc main_arg4)

/-- The reference's product, -/
def proj : Rms.Mat := Host.dotGeneral (F := Ideal) Cert.OutFrefIdeal.dot_S4096x1024_S1024x1024_S4096x1024_1_0_0_1_n_n none
  (extf .f32 (act m c) Cert.OutFrefIdeal.Gen.bitsLt_bf16_f32)
  (extf .f32 (wt m c) Cert.OutFrefIdeal.Gen.bitsLt_bf16_f32)
/-- as it returns it, -/
def projOut : FVec Ideal S4096x1024 .bf16 := truncf .bf16 (proj m c) Cert.OutFrefIdeal.Gen.bitsLt_bf16_f32
/-- and the sum of the input rows and the normalised product. -/
def next : Rms.Mat := addf (res m c) (mulf (Rms.rows (gate m c)) (mulf (Rms.scaled (proj m c) (proj m c)) (Rms.rows (gain m c))))

theorem proj_apply (i : Fin 4096) (j : Fin 1024) : proj m c (ix2 i j) = ∑ k : Fin 1024, (act m c (ix2 i k) : EReal) * wt m c (ix2 k j) := by
  unfold proj
  pointwise
theorem next_apply (i : Fin 4096) (j : Fin 1024) : next m c (ix2 i j)
    = res m c (ix2 i j) + gate m c (ix2 0 j) * ((proj m c (ix2 i j) * Rms.inv fun k => proj m c (ix2 i k)) * gain m c (ix2 0 j)) := by
  show res m c (ix2 i j) + Rms.rows (gate m c) (ix2 i j) * (Rms.scaled (proj m c) (proj m c) (ix2 i j) * Rms.rows (gain m c) (ix2 i j)) = _
  rw [Rms.scaled_apply, Rms.rows_apply, Rms.rows_apply]

/-! ## The blocks the kernel reads -/

variable (t : Fin cfg0.N)

theorem res_block (p : Fin 1024) (k : Fin 1024) : iblk m c 2 t (ix2 p k) = res m c (ix2 (row t p) k) := by
  blk_ext [iblk, idx t, V_main_arg2, row]
theorem gain_block (p : Fin 1) (k : Fin 1024) : iblk m c 3 t (ix2 p k) = gain m c (ix2 0 k) := by
  blk_ext [iblk, idx t, V_main_arg3]
theorem gate_block (p : Fin 1) (k : Fin 1024) : iblk m c 4 t (ix2 p k) = gate m c (ix2 0 k) := by
  blk_ext [iblk, idx t, V_main_arg4]
/-- A block of the product. -/
theorem proj_block (p : Fin 1024) (j : Fin 1024) : k0_pay1 (iblk m c 0 t) (iblk m c 1 t) (ix2 p j) = proj m c (ix2 (row t p) j) := by
  rw [proj_apply]
  unfold k0_pay1
  pointwise
  refine Fin.sum_fin_congr fun k => ?_
  refine congrArg₂ (· * · : EReal → EReal → EReal) ?_ ?_ <;> blk_ext [iblk, idx t, V_main_arg0, V_main_arg1, row]
/-- A block of the sum. -/
theorem next_block (p : Fin 1024) (j : Fin 1024) :
    k0_pay2 (iblk m c 0 t) (iblk m c 1 t) (iblk m c 2 t) (iblk m c 4 t) (iblk m c 3 t) (ix2 p j) = next m c (ix2 (row t p) j) := by
  rw [next_apply]
  unfold k0_pay2 Rms.inv Rms.var
  pointwise
  simp only [proj_block, res_block, gain_block, gate_block]

/-! ## The arrays the kernel leaves -/

theorem proj_final : (dats m 0 c).arrAt 5 cfg0.N = projOut m c := by
  refine (dats m 0 c).arrAt_eq_of_covers 5 _ (by decide +kernel) fun t hf (y : S1024x1024.Idx) => ?_
  have hy : y = ix2 (y 0) (y 1) := by funext a; fin_cases a <;> rfl
  have he : ((win0_5.blk t).view.emb y) = ix2 (row t (y 0)) (y 1) := by
    blk_ext [idx t, row]
  refine Eq.trans ?_ (congrArg (projOut m c) he.symm)
  refine Eq.trans ?_ (proj_block m c t (y 0) (y 1))
  blk_simp
  rw [after0_5]
  frame_out
  exact congrArg _ hy
theorem next_final : (dats m 0 c).arrAt 6 cfg0.N = next m c := by
  refine (dats m 0 c).arrAt_eq_of_covers 6 _ (by decide +kernel) fun t hf (y : S1024x1024.Idx) => ?_
  have hy : y = ix2 (y 0) (y 1) := by funext a; fin_cases a <;> rfl
  have he : ((win0_6.blk t).view.emb y) = ix2 (row t (y 0)) (y 1) := by
    blk_ext [idx t, row]
  refine Eq.trans ?_ (congrArg (next m c) he.symm)
  refine Eq.trans ?_ (next_block m c t (y 0) (y 1))
  blk_simp
  rw [after0_6]
  frame_out
  exact congrArg _ hy

/-- The reference leaves its arguments as they were. -/
theorem ref_frame (m : (ℓ : Loc Cert.OutFrefIdeal.nD Cert.OutFrefIdeal.τ Cert.OutFrefIdeal.sig) → Buf (Elt Ideal) ℓ)
    (ρ : Dev Cert.OutFrefIdeal.nD → PrngReg) :
    θ_run Cert.OutFrefIdeal.defs (onTc (τ := Cert.OutFrefIdeal.τ) (Cert.OutFrefIdeal.main (F := Ideal))) ⟨m, fun _ => 0, ρ⟩ (fun r => (∀ c : Dev Cert.OutFrefIdeal.nD,
      r.2.mem ((c.tc : Thread Cert.OutFrefIdeal.nD Cert.OutFrefIdeal.τ).loc Cert.OutFrefIdeal.main_arg0) = m ((c.tc : Thread Cert.OutFrefIdeal.nD Cert.OutFrefIdeal.τ).loc Cert.OutFrefIdeal.main_arg0)
      ∧ r.2.mem ((c.tc : Thread Cert.OutFrefIdeal.nD Cert.OutFrefIdeal.τ).loc Cert.OutFrefIdeal.main_arg1) = m ((c.tc : Thread Cert.OutFrefIdeal.nD Cert.OutFrefIdeal.τ).loc Cert.OutFrefIdeal.main_arg1)
      ∧ r.2.mem ((c.tc : Thread Cert.OutFrefIdeal.nD Cert.OutFrefIdeal.τ).loc Cert.OutFrefIdeal.main_arg2) = m ((c.tc : Thread Cert.OutFrefIdeal.nD Cert.OutFrefIdeal.τ).loc Cert.OutFrefIdeal.main_arg2)
      ∧ r.2.mem ((c.tc : Thread Cert.OutFrefIdeal.nD Cert.OutFrefIdeal.τ).loc Cert.OutFrefIdeal.main_arg3) = m ((c.tc : Thread Cert.OutFrefIdeal.nD Cert.OutFrefIdeal.τ).loc Cert.OutFrefIdeal.main_arg3)
      ∧ r.2.mem ((c.tc : Thread Cert.OutFrefIdeal.nD Cert.OutFrefIdeal.τ).loc Cert.OutFrefIdeal.main_arg4) = m ((c.tc : Thread Cert.OutFrefIdeal.nD Cert.OutFrefIdeal.τ).loc Cert.OutFrefIdeal.main_arg4))
      ∧ r.2.sem = fun _ => 0) :=
  (θ_run _ _ _).mono (fun r h => ⟨fun c => (h c).2.2, sem_eq_zero_of_no_sems (by decide) r.2⟩) (Cert.OutFrefIdeal.Value.run (F := Ideal) m ρ)

set_option maxHeartbeats 4000000 in
/-- The kernel and the reference leave the same product and the same sum. -/
theorem algebraic : Cert.algebraic_OutFwdIdeal_OutFrefIdeal := by
  intro m g m' g' _ hagree
  refine ⟨fun c => projOut m c, fun c => next m c,
    (θ_run _ _ _).mono (fun r h c => ⟨(h c).1.trans (proj_final m c), (h c).2.1.trans (next_final m c), (h c).2.2⟩) (Cert.OutFwdIdeal.Value.run_blocks m g),
    (θ_run _ _ _).mono (fun r h c => ?_) (Cert.OutFrefIdeal.Value.run (F := Ideal) m' g')⟩
  obtain ⟨e0, e1, e2, e3, e4⟩ := hagree c
  refine ⟨(h c).1.trans ?_, (h c).2.1.trans ?_, (h c).2.2⟩
  · simp only [e0, e1, e2, e3, e4]
    rfl
  · simp only [e0, e1, e2, e3, e4]
    rfl

end Cert.Proof.OutFwd

end
-- ==== Proof.MixFwd.lean ====
/- The even mixer's output projection, its normalisation and the residual sum: the kernel's row blocks are the reference's
   rows.

   The projection's input comes in two halves, from the pooling and from the attention. Every grid step multiplies 1024 rows
   of each with its half of the weight, normalises the sum of the two products and adds it, gated, to its input rows. -/
module

public import proofs.«01_k».proof.Defs
public import proofs.«01_k».proof.Proof.Rms
public import proofs.«01_k».proof.Proof.Gen.MixFwdIdeal.Value
public import proofs.«01_k».proof.Proof.Gen.MixFrefIdeal.Run
public import Idealize.ShloMosaic.Lib.Pipeline.ValueKit
public import Idealize.ShloMosaic.Lib.Claim

@[expose] public section

set_option maxRecDepth 16384

noncomputable section

namespace Cert.Proof.MixFwd

open Cert.MixFwdIdeal Cert.MixFwdIdeal.Gen
open Idealize.ShloMosaic Idealize.ShloMosaic.TcCoe Idealize.ShloMosaic.Tactic Idealize.SL.Sem

theorem idx : ∀ t : Fin cfg0.N, win0_0.index t = ![t.val, 0]
    ∧ win0_1.index t = ![t.val, 0]
    ∧ win0_2.index t = ![0, 0]
    ∧ win0_3.index t = ![t.val, 0]
    ∧ win0_4.index t = ![0, 0]
    ∧ win0_5.index t = ![0, 0]
    ∧ win0_6.index t = ![t.val, 0]
    ∧ win0_7.index t = ![t.val, 0] := by
  decide +kernel

/-- Row `p` of grid step `t`'s block in the whole array. -/
def row (t : Fin cfg0.N) (p : Fin 1024) : Fin 4096 := ⟨t.val * 1024 + p.val, by have : t.val < 4 := t.isLt; omega⟩

variable (m : (ℓ : Loc nD τ sig) → Buf (Elt Ideal) ℓ) (c : Dev nD)

/-! ## The arguments -/

abbrev pooled : FVec Ideal Cert.MixFrefIdeal.S4096x512 .bf16 := m ((c.tc : Thread nD τ).loc main_arg0)
abbrev attended : FVec Ideal Cert.MixFrefIdeal.S4096x512 .bf16 := m ((c.tc : Thread nD τ).loc main_arg1)
abbrev wt : FVec Ideal Cert.MixFrefIdeal.S1024x1024 .bf16 := m ((c.tc : Thread nD τ).loc main_arg2)
abbrev res : Rms.Mat := m ((c.tc : Thread nD τ).loc main_arg3)
abbrev gain : Rms.Row := m ((c.tc : Thread nD τ).loc main_arg4)
abbrev gate : Rms.Row := m ((c.tc : Thread nD τ).loc main_arg5)

/-- The reference's product, -/
def proj : Rms.Mat := Host.dotGeneral (F := Ideal) Cert.MixFrefIdeal.dot_S4096x1024_S1024x1024_S4096x1024_1_0_0_1_n_n none
  (extf .f32 (concatenate Cert.MixFrefIdeal.S4096x1024 1 [⟨S4096x512, pooled m c⟩, ⟨S4096x512, attended m c⟩] Cert.MixFrefIdeal.Gen.concatenates_S4096x512_S4096x512_S4096x1024_d1) Cert.MixFrefIdeal.Gen.bitsLt_bf16_f32)
  (extf .f32 (wt m c) Cert.MixFrefIdeal.Gen.bitsLt_bf16_f32)
/-- as it returns it, -/
def projOut : FVec Ideal S4096x1024 .bf16 := truncf .bf16 (proj m c) Cert.MixFrefIdeal.Gen.bitsLt_bf16_f32
/-- and the sum of the input rows and the normalised product. -/
def next : Rms.Mat := addf (res m c) (mulf (Rms.rows (gate m c)) (mulf (Rms.scaled (proj m c) (proj m c)) (Rms.rows (gain m c))))

theorem proj_apply (i : Fin 4096) (j : Fin 1024) : proj m c (ix2 i j) = (∑ k : Fin 512, (pooled m c (ix2 i k) : EReal) * wt m c (ix2 ⟨k.val, by omega⟩ j))
      + ∑ k : Fin 512, (attended m c (ix2 i k) : EReal) * wt m c (ix2 ⟨512 + k.val, by omega⟩ j) := by
  unfold proj
  pointwise
theorem next_apply (i : Fin 4096) (j : Fin 1024) : next m c (ix2 i j)
    = res m c (ix2 i j) + gate m c (ix2 0 j) * ((proj m c (ix2 i j) * Rms.inv fun k => proj m c (ix2 i k)) * gain m c (ix2 0 j)) := by
  show res m c (ix2 i j) + Rms.rows (gate m c) (ix2 i j) * (Rms.scaled (proj m c) (proj m c) (ix2 i j) * Rms.rows (gain m c) (ix2 i j)) = _
  rw [Rms.scaled_apply, Rms.rows_apply, Rms.rows_apply]

/-! ## The blocks the kernel reads -/

variable (t : Fin cfg0.N)

theorem res_block (p : Fin 1024) (k : Fin 1024) : iblk m c 3 t (ix2 p k) = res m c (ix2 (row t p) k) := by
  blk_ext [iblk, idx t, V_main_arg3, row]
theorem gain_block (p : Fin 1) (k : Fin 1024) : iblk m c 4 t (ix2 p k) = gain m c (ix2 0 k) := by
  blk_ext [iblk, idx t, V_main_arg4]
theorem gate_block (p : Fin 1) (k : Fin 1024) : iblk m c 5 t (ix2 p k) = gate m c (ix2 0 k) := by
  blk_ext [iblk, idx t, V_main_arg5]
/-- A block of the product: the products of its two halves. -/
theorem proj_block (p : Fin 1024) (j : Fin 1024) : k0_pay1 (iblk m c 0 t) (View.ld (iblk m c 2 t) r0_1) (iblk m c 1 t) (View.ld (iblk m c 2 t) r0_2) (ix2 p j) = proj m c (ix2 (row t p) j) := by
  rw [proj_apply]
  unfold k0_pay1
  pointwise
  refine congrArg₂ (· + · : EReal → EReal → EReal) ?_ ?_
  · refine Fin.sum_fin_congr fun k => ?_
    refine congrArg₂ (· * · : EReal → EReal → EReal) ?_ ?_
    · blk_ext [iblk, idx t, V_main_arg0, row]
    · blk_ext [iblk, idx t, V_main_arg2, r0_1]
  · refine Fin.sum_fin_congr fun k => ?_
    refine congrArg₂ (· * · : EReal → EReal → EReal) ?_ ?_
    · blk_ext [iblk, idx t, V_main_arg1, row]
    · blk_ext [iblk, idx t, V_main_arg2, r0_2]
/-- A block of the sum. -/
theorem next_block (p : Fin 1024) (j : Fin 1024) :
    k0_pay2 (iblk m c 0 t) (View.ld (iblk m c 2 t) r0_1) (iblk m c 1 t) (View.ld (iblk m c 2 t) r0_2) (iblk m c 3 t) (iblk m c 5 t) (iblk m c 4 t) (ix2 p j) = next m c (ix2 (row t p) j) := by
  rw [next_apply]
  unfold k0_pay2 Rms.inv Rms.var
  pointwise
  simp only [proj_block, res_block, gain_block, gate_block]

/-! ## The arrays the kernel leaves -/

theorem proj_final : (dats m 0 c).arrAt 6 cfg0.N = projOut m c := by
  refine (dats m 0 c).arrAt_eq_of_covers 6 _ (by decide +kernel) fun t hf (y : S1024x1024.Idx) => ?_
  have hy : y = ix2 (y 0) (y 1) := by funext a; fin_cases a <;> rfl
  have he : ((win0_6.blk t).view.emb y) = ix2 (row t (y 0)) (y 1) := by
    blk_ext [idx t, row]
  refine Eq.trans ?_ (congrArg (projOut m c) he.symm)
  refine Eq.trans ?_ (proj_block m c t (y 0) (y 1))
  blk_simp
  rw [after0_6]
  frame_out
  exact congrArg _ hy
theorem next_final : (dats m 0 c).arrAt 7 cfg0.N = next m c := by
  refine (dats m 0 c).arrAt_eq_of_covers 7 _ (by decide +kernel) fun t hf (y : S1024x1024.Idx) => ?_
  have hy : y = ix2 (y 0) (y 1) := by funext a; fin_cases a <;> rfl
  have he : ((win0_7.blk t).view.emb y) = ix2 (row t (y 0)) (y 1) := by
    blk_ext [idx t, row]
  refine Eq.trans ?_ (congrArg (next m c) he.symm)
  refine Eq.trans ?_ (next_block m c t (y 0) (y 1))
  blk_simp
  rw [after0_7]
  frame_out
  exact congrArg _ hy

/-- The reference leaves its arguments as they were. -/
theorem ref_frame (m : (ℓ : Loc Cert.MixFrefIdeal.nD Cert.MixFrefIdeal.τ Cert.MixFrefIdeal.sig) → Buf (Elt Ideal) ℓ)
    (ρ : Dev Cert.MixFrefIdeal.nD → PrngReg) :
    θ_run Cert.MixFrefIdeal.defs (onTc (τ := Cert.MixFrefIdeal.τ) (Cert.MixFrefIdeal.main (F := Ideal))) ⟨m, fun _ => 0, ρ⟩ (fun r => (∀ c : Dev Cert.MixFrefIdeal.nD,
      r.2.mem ((c.tc : Thread Cert.MixFrefIdeal.nD Cert.MixFrefIdeal.τ).loc Cert.MixFrefIdeal.main_arg0) = m ((c.tc : Thread Cert.MixFrefIdeal.nD Cert.MixFrefIdeal.τ).loc Cert.MixFrefIdeal.main_arg0)
      ∧ r.2.mem ((c.tc : Thread Cert.MixFrefIdeal.nD Cert.MixFrefIdeal.τ).loc Cert.MixFrefIdeal.main_arg1) = m ((c.tc : Thread Cert.MixFrefIdeal.nD Cert.MixFrefIdeal.τ).loc Cert.MixFrefIdeal.main_arg1)
      ∧ r.2.mem ((c.tc : Thread Cert.MixFrefIdeal.nD Cert.MixFrefIdeal.τ).loc Cert.MixFrefIdeal.main_arg2) = m ((c.tc : Thread Cert.MixFrefIdeal.nD Cert.MixFrefIdeal.τ).loc Cert.MixFrefIdeal.main_arg2)
      ∧ r.2.mem ((c.tc : Thread Cert.MixFrefIdeal.nD Cert.MixFrefIdeal.τ).loc Cert.MixFrefIdeal.main_arg3) = m ((c.tc : Thread Cert.MixFrefIdeal.nD Cert.MixFrefIdeal.τ).loc Cert.MixFrefIdeal.main_arg3)
      ∧ r.2.mem ((c.tc : Thread Cert.MixFrefIdeal.nD Cert.MixFrefIdeal.τ).loc Cert.MixFrefIdeal.main_arg4) = m ((c.tc : Thread Cert.MixFrefIdeal.nD Cert.MixFrefIdeal.τ).loc Cert.MixFrefIdeal.main_arg4)
      ∧ r.2.mem ((c.tc : Thread Cert.MixFrefIdeal.nD Cert.MixFrefIdeal.τ).loc Cert.MixFrefIdeal.main_arg5) = m ((c.tc : Thread Cert.MixFrefIdeal.nD Cert.MixFrefIdeal.τ).loc Cert.MixFrefIdeal.main_arg5))
      ∧ r.2.sem = fun _ => 0) :=
  (θ_run _ _ _).mono (fun r h => ⟨fun c => (h c).2.2, sem_eq_zero_of_no_sems (by decide) r.2⟩) (Cert.MixFrefIdeal.Value.run (F := Ideal) m ρ)

set_option maxHeartbeats 4000000 in
/-- The kernel and the reference leave the same product and the same sum. -/
theorem algebraic : Cert.algebraic_MixFwdIdeal_MixFrefIdeal := by
  intro m g m' g' _ hagree
  refine ⟨fun c => projOut m c, fun c => next m c,
    (θ_run _ _ _).mono (fun r h c => ⟨(h c).1.trans (proj_final m c), (h c).2.1.trans (next_final m c), (h c).2.2⟩) (Cert.MixFwdIdeal.Value.run_blocks m g),
    (θ_run _ _ _).mono (fun r h c => ?_) (Cert.MixFrefIdeal.Value.run (F := Ideal) m' g')⟩
  obtain ⟨e0, e1, e2, e3, e4, e5⟩ := hagree c
  refine ⟨(h c).1.trans ?_, (h c).2.1.trans ?_, (h c).2.2⟩
  · rw [e0, e1, e2]
    rfl
  · rw [e0, e1, e2, e3, e4, e5]
    rfl

end Cert.Proof.MixFwd

end
-- ==== Proof.LastFwd.lean ====
/- The last layer's down projection, its normalisation, the residual sum and the loss: the kernel's row blocks are the
   reference's rows, and its sum over the blocks is the reference's loss.

   Every grid step multiplies 512 rows with the whole weight, normalises the product, adds it, gated, to its input rows and
   subtracts the target; it leaves these differences over 1024 as the gradient and adds half the sum of the rows' mean squares
   to the loss. -/
module

public import proofs.«01_k».proof.Defs
public import proofs.«01_k».proof.Proof.Rms
public import proofs.«01_k».proof.Proof.Gen.LastFwdIdeal.Value
public import proofs.«01_k».proof.Proof.Gen.LastFrefIdeal.Run
public import Idealize.ShloMosaic.Lib.Pipeline.ValueKit
public import Idealize.ShloMosaic.Lib.ReduceAll
public import Idealize.ShloMosaic.Lib.IdealHost
public import Idealize.ShloMosaic.Lib.Claim

@[expose] public section

set_option maxRecDepth 16384

noncomputable section

namespace Cert.Proof.LastFwd

open Cert.LastFwdIdeal Cert.LastFwdIdeal.Gen
open Idealize.ShloMosaic Idealize.ShloMosaic.TcCoe Idealize.ShloMosaic.Tactic Idealize.SL.Sem

theorem idx : ∀ t : Fin cfg0.N, win0_0.index t = ![t.val, 0]
    ∧ win0_1.index t = ![0, 0]
    ∧ win0_2.index t = ![t.val, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![0, 0] := by
  decide +kernel

/-- Row `p` of grid step `t`'s block in the whole array. -/
def row (t : Fin cfg0.N) (p : Fin 512) : Fin 4096 := ⟨t.val * 512 + p.val, by have : t.val < 8 := t.isLt; omega⟩

variable (m : (ℓ : Loc nD τ sig) → Buf (Elt Ideal) ℓ) (c : Dev nD)

/-! ## The arguments -/

abbrev act : FVec Ideal Cert.LastFrefIdeal.S4096x2816 .bf16 := m ((c.tc : Thread nD τ).loc main_arg0)
abbrev wt : FVec Ideal Cert.LastFrefIdeal.S2816x1024 .bf16 := m ((c.tc : Thread nD τ).loc main_arg1)
abbrev res : Rms.Mat := m ((c.tc : Thread nD τ).loc main_arg2)
abbrev gain : Rms.Row := m ((c.tc : Thread nD τ).loc main_arg3)
abbrev gate : Rms.Row := m ((c.tc : Thread nD τ).loc main_arg4)
abbrev target : Rms.Mat := m ((c.tc : Thread nD τ).loc main_arg5)

/-- The reference's product, -/
def proj : Rms.Mat := Host.dotGeneral (F := Ideal) Cert.LastFrefIdeal.dot_S4096x2816_S2816x1024_S4096x1024_1_0_0_1_n_n none
  (extf .f32 (act m c) Cert.LastFrefIdeal.Gen.bitsLt_bf16_f32)
  (extf .f32 (wt m c) Cert.LastFrefIdeal.Gen.bitsLt_bf16_f32)
/-- as it returns it, -/
def projOut : FVec Ideal S4096x1024 .bf16 := truncf .bf16 (proj m c) Cert.LastFrefIdeal.Gen.bitsLt_bf16_f32
/-- and the sum of the input rows and the normalised product. -/
def next : Rms.Mat := addf (res m c) (mulf (Rms.rows (gate m c)) (mulf (Rms.scaled (proj m c) (proj m c)) (Rms.rows (gain m c))))

/-- Its difference from the target, -/
def err : Rms.Mat := subf (next m c) (target m c)
/-- the gradient of the loss, -/
def dOut : Rms.Mat := mulf (broadcastInDim Cert.LastFrefIdeal.S4096x1024 ![0] Cert.LastFrefIdeal.Gen.bcast_S4096_S4096x1024_0 (Host.divf
  (broadcastInDim Cert.LastFrefIdeal.S4096 ![] Cert.LastFrefIdeal.Gen.bcast_S_S4096 (mulf (constant Cert.LastFrefIdeal.S_ .f32 0x3F000000#32) (constant Cert.LastFrefIdeal.S_ .f32 0x3F800000#32)))
  (broadcastInDim Cert.LastFrefIdeal.S4096 ![] Cert.LastFrefIdeal.Gen.bcast_S_S4096 (constant Cert.LastFrefIdeal.S_ .f32 0x44800000#32))))
  (mulf (broadcastInDim Cert.LastFrefIdeal.S4096x1024 ![] Cert.LastFrefIdeal.Gen.bcast_S_S4096x1024 (constant Cert.LastFrefIdeal.S_ .f32 0x40000000#32)) (err m c))
/-- and the loss. -/
def loss : FVec Ideal Cert.LastFrefIdeal.S1x1 .f32 := shapeCast Cert.LastFrefIdeal.S1x1 (mulf (constant Cert.LastFrefIdeal.S_ .f32 0x3F000000#32) (Host.reduceAdd (Host.divf
  (Host.reduceAdd (mulf (err m c) (err m c)) (constant Cert.LastFrefIdeal.S_ .f32 0x00000000#32) Cert.LastFrefIdeal.Gen.reducesTo_S4096x1024_S4096_d1 Cert.LastFrefIdeal.Gen.h_S_)
  (broadcastInDim Cert.LastFrefIdeal.S4096 ![] Cert.LastFrefIdeal.Gen.bcast_S_S4096 (constant Cert.LastFrefIdeal.S_ .f32 0x44800000#32)))
  (constant Cert.LastFrefIdeal.S_ .f32 0x00000000#32) Cert.LastFrefIdeal.Gen.reducesTo_S4096_S_d0 Cert.LastFrefIdeal.Gen.h_S_)) Cert.LastFrefIdeal.Gen.shapeCasts_S_S1x1

theorem proj_apply (i : Fin 4096) (j : Fin 1024) : proj m c (ix2 i j) = ∑ k : Fin 2816, (act m c (ix2 i k) : EReal) * wt m c (ix2 k j) := by
  unfold proj
  pointwise
theorem next_apply (i : Fin 4096) (j : Fin 1024) : next m c (ix2 i j)
    = res m c (ix2 i j) + gate m c (ix2 0 j) * ((proj m c (ix2 i j) * Rms.inv fun k => proj m c (ix2 i k)) * gain m c (ix2 0 j)) := by
  show res m c (ix2 i j) + Rms.rows (gate m c) (ix2 i j) * (Rms.scaled (proj m c) (proj m c) (ix2 i j) * Rms.rows (gain m c) (ix2 i j)) = _
  rw [Rms.scaled_apply, Rms.rows_apply, Rms.rows_apply]

/-! ## The numbers -/

/-- A half, as the programs write it, -/
def half : EReal := Ideal.ofBits .f32 0x3F000000#32
theorem half_eq : half = ((1 / 2 : ℝ) : EReal) := by
  simp [half, Ideal.ofBits, Ideal.ieee]
  rw [← EReal.coe_mul]
  norm_num
theorem one_eq : Rms.one = ((1 : ℝ) : EReal) := by
  simp [Rms.one, Ideal.ofBits, Ideal.ieee]
  try (rw [← EReal.coe_mul]; norm_num)
theorem two_eq : Ideal.ofBits .f32 0x40000000#32 = ((2 : ℝ) : EReal) := by
  simp [Ideal.ofBits, Ideal.ieee]
  try (rw [← EReal.coe_mul]; norm_num)
theorem small_eq : Ideal.ofBits .f32 0x3A800000#32 = ((1 / 1024 : ℝ) : EReal) := by
  simp [Ideal.ofBits, Ideal.ieee]
  try (rw [← EReal.coe_mul]; norm_num)
/-- twice half of `1 / 1024` is `1 / 1024`, -/
theorem factor_eq : Ideal.div (half * Rms.one) Rms.c1024 * Ideal.ofBits .f32 0x40000000#32 = Ideal.ofBits .f32 0x3A800000#32 := by
  rw [half_eq, one_eq, two_eq, small_eq, Rms.c1024_eq, Ideal.div_coe (by norm_num)]
  norm_cast
  norm_num
/-- and half of a sum is the sum of the halves. -/
theorem half_sum {n : ℕ} (f : Fin n → EReal) : half * ∑ k, f k = ∑ k, half * f k := by
  have h0 : 0 ≤ half := by rw [half_eq]; exact_mod_cast (by norm_num : (0 : ℝ) ≤ 1 / 2)
  have h1 : half ≠ ⊤ := by rw [half_eq]; exact EReal.coe_ne_top _
  induction n with
  | zero => simp
  | succ n ih => rw [Fin.sum_univ_succ, Fin.sum_univ_succ, EReal.left_distrib_of_nonneg_of_ne_top h0 h1, ih]

theorem dOut_apply (i : Fin 4096) (j : Fin 1024) : dOut m c (ix2 i j) = err m c (ix2 i j) * Ideal.ofBits .f32 0x3A800000#32 := by
  rw [← factor_eq, mul_comm (G := EReal) (err m c (ix2 i j)), mul_assoc (G := EReal)]
  unfold dOut half Rms.one
  pointwise
/-- The mean square of a row. -/
def square (i : Fin 4096) : EReal := Ideal.div (∑ k : Fin 1024, err m c (ix2 i k) * err m c (ix2 i k)) Rms.c1024
theorem loss_apply (a b : Fin 1) : loss m c (ix2 a b) = half * ∑ i : Fin 4096, square m c i := by
  unfold loss half square
  pointwise

/-! ## The blocks the kernel reads -/

variable (t : Fin cfg0.N)

theorem res_block (p : Fin 512) (k : Fin 1024) : iblk m c 2 t (ix2 p k) = res m c (ix2 (row t p) k) := by
  blk_ext [iblk, idx t, V_main_arg2, row]
theorem gain_block (p : Fin 1) (k : Fin 1024) : iblk m c 3 t (ix2 p k) = gain m c (ix2 0 k) := by
  blk_ext [iblk, idx t, V_main_arg3]
theorem gate_block (p : Fin 1) (k : Fin 1024) : iblk m c 4 t (ix2 p k) = gate m c (ix2 0 k) := by
  blk_ext [iblk, idx t, V_main_arg4]
/-- A block of the product. -/
theorem proj_block (p : Fin 512) (j : Fin 1024) : k0_pay3 (iblk m c 0 t) (iblk m c 1 t) (ix2 p j) = proj m c (ix2 (row t p) j) := by
  rw [proj_apply]
  unfold k0_pay3
  pointwise
  refine Fin.sum_fin_congr fun k => ?_
  refine congrArg₂ (· * · : EReal → EReal → EReal) ?_ ?_ <;> blk_ext [iblk, idx t, V_main_arg0, V_main_arg1, row]
theorem target_block (p : Fin 512) (k : Fin 1024) : iblk m c 5 t (ix2 p k) = target m c (ix2 (row t p) k) := by
  blk_ext [iblk, idx t, V_main_arg5, row]

/-- A block of the differences, -/
abbrev errBlock : FVec Ideal S512x1024 .f32 := k0_pay6 (iblk m c 0 t) (iblk m c 1 t) (iblk m c 2 t) (iblk m c 4 t) (iblk m c 3 t) (iblk m c 5 t)
theorem err_block (p : Fin 512) (j : Fin 1024) : errBlock m c t (ix2 p j) = err m c (ix2 (row t p) j) := by
  show _ = next m c (ix2 (row t p) j) - target m c (ix2 (row t p) j)
  rw [next_apply]
  unfold errBlock k0_pay6 Rms.inv Rms.var
  pointwise
  simp only [proj_block, res_block, gain_block, gate_block, target_block]
/-- of the gradient, -/
theorem dOut_block (p : Fin 512) (j : Fin 1024) : k0_pay2 (errBlock m c t) (ix2 p j) = dOut m c (ix2 (row t p) j) := by
  rw [dOut_apply]
  unfold k0_pay2
  pointwise
  rw [err_block]
/-- and what a grid step adds to the loss. -/
def lossTerm (s : Fin cfg0.N) : EReal := half * ∑ p : Fin 512, square m c (row s p)
theorem loss_step (a : Vec Ideal S1x1 .f32) (j : S1x1.Idx) :
    k0_pay1 (k0_pay7 a) (k0_pay8 (iblk m c 0 t) (iblk m c 1 t) (iblk m c 2 t) (iblk m c 4 t) (iblk m c 3 t) (iblk m c 5 t)) (Scalar.ofBits .f32 0x44800000#32) j
      = a j + lossTerm m c t := by
  obtain ⟨u, v, rfl⟩ : ∃ u v : Fin 1, j = ix2 u v := ⟨j 0, j 1, by funext a; fin_cases a <;> rfl⟩
  unfold k0_pay1 k0_pay7 k0_pay8 lossTerm half square
  pointwise
  simp only [err_block]

/-! ## The arrays the kernel leaves -/

/-- The last grid step. -/
def lastStep : Fin cfg0.N := ⟨7, by decide⟩
theorem proj_final : (dats m 0 c).arrAt 6 cfg0.N = projOut m c := by
  refine (dats m 0 c).arrAt_eq_of_covers 6 _ (by decide +kernel) fun t hf (y : S512x1024.Idx) => ?_
  have hy : y = ix2 (y 0) (y 1) := by funext a; fin_cases a <;> rfl
  have he : ((win0_6.blk t).view.emb y) = ix2 (row t (y 0)) (y 1) := by
    blk_ext [idx t, row]
  refine Eq.trans ?_ (congrArg (projOut m c) he.symm)
  refine Eq.trans ?_ (proj_block m c t (y 0) (y 1))
  blk_simp
  rw [after0_6]
  by_cases h0 : t.val % 8 = 0
  · rw [outsAt0_A m c t h0]
    frame_out
    exact congrArg _ hy
  · rw [outsAt0_B m c t h0]
    frame_out
    exact congrArg _ hy
theorem dOut_final : (dats m 0 c).arrAt 7 cfg0.N = dOut m c := by
  refine (dats m 0 c).arrAt_eq_of_covers 7 _ (by decide +kernel) fun t hf (y : S512x1024.Idx) => ?_
  have hy : y = ix2 (y 0) (y 1) := by funext a; fin_cases a <;> rfl
  have he : ((win0_7.blk t).view.emb y) = ix2 (row t (y 0)) (y 1) := by
    blk_ext [idx t, row]
  refine Eq.trans ?_ (congrArg (dOut m c) he.symm)
  refine Eq.trans ?_ (dOut_block m c t (y 0) (y 1))
  blk_simp
  rw [after0_7]
  by_cases h0 : t.val % 8 = 0
  · rw [outsAt0_A m c t h0]
    frame_out
    exact congrArg _ hy
  · rw [outsAt0_B m c t h0]
    frame_out
    exact congrArg _ hy
theorem loss_final : (dats m 0 c).arrAt 8 cfg0.N = loss m c := by
  refine (dats m 0 c).arrAt_eq_of_after_last 8 lastStep (by decide +kernel) _ fun (j : S1x1.Idx) => ?_
  obtain ⟨u, v, rfl⟩ : ∃ u v : Fin 1, j = ix2 u v := ⟨j 0, j 1, by funext a; fin_cases a <;> rfl⟩
  have he : ((win0_8.blk lastStep).view.emb (ix2 u v)) = ix2 u v := by
    blk_ext [idx lastStep]
  blk_simp
  refine (congrFun (after0_8 m c _) _).trans ?_
  refine (Pipeline.eq_sum_fin_of_reset_step_apply_last (fun n h => (outsAt0 m c n h).2.2) 8 (fun _ => (0 : EReal)) (fun p j => lossTerm m c p) ?_ ?_ (by decide) lastStep rfl _).trans ?_
  · intro t h j
    rw [outsAt0_A m c t h]
    frame_out
    refine (loss_step m c t _ j).trans (congrArg (· + lossTerm m c t : EReal → EReal) ?_)
    unfold k0_pay5; pointwise
  · intro t h j
    rw [outsAt0_B m c t h]
    frame_out
    exact loss_step m c t _ j
  · refine (zero_add (M := EReal) _).trans (Eq.trans ?_ (loss_apply m c u v).symm)
    refine (half_sum _).symm.trans (congrArg (half * · : EReal → EReal) ?_)
    exact Fin.sum_mul_add_congr fun s k hl => rfl

/-- The reference leaves its arguments as they were. -/
theorem ref_frame (m : (ℓ : Loc Cert.LastFrefIdeal.nD Cert.LastFrefIdeal.τ Cert.LastFrefIdeal.sig) → Buf (Elt Ideal) ℓ)
    (ρ : Dev Cert.LastFrefIdeal.nD → PrngReg) :
    θ_run Cert.LastFrefIdeal.defs (onTc (τ := Cert.LastFrefIdeal.τ) (Cert.LastFrefIdeal.main (F := Ideal))) ⟨m, fun _ => 0, ρ⟩ (fun r => (∀ c : Dev Cert.LastFrefIdeal.nD,
      r.2.mem ((c.tc : Thread Cert.LastFrefIdeal.nD Cert.LastFrefIdeal.τ).loc Cert.LastFrefIdeal.main_arg0) = m ((c.tc : Thread Cert.LastFrefIdeal.nD Cert.LastFrefIdeal.τ).loc Cert.LastFrefIdeal.main_arg0)
      ∧ r.2.mem ((c.tc : Thread Cert.LastFrefIdeal.nD Cert.LastFrefIdeal.τ).loc Cert.LastFrefIdeal.main_arg1) = m ((c.tc : Thread Cert.LastFrefIdeal.nD Cert.LastFrefIdeal.τ).loc Cert.LastFrefIdeal.main_arg1)
      ∧ r.2.mem ((c.tc : Thread Cert.LastFrefIdeal.nD Cert.LastFrefIdeal.τ).loc Cert.LastFrefIdeal.main_arg2) = m ((c.tc : Thread Cert.LastFrefIdeal.nD Cert.LastFrefIdeal.τ).loc Cert.LastFrefIdeal.main_arg2)
      ∧ r.2.mem ((c.tc : Thread Cert.LastFrefIdeal.nD Cert.LastFrefIdeal.τ).loc Cert.LastFrefIdeal.main_arg3) = m ((c.tc : Thread Cert.LastFrefIdeal.nD Cert.LastFrefIdeal.τ).loc Cert.LastFrefIdeal.main_arg3)
      ∧ r.2.mem ((c.tc : Thread Cert.LastFrefIdeal.nD Cert.LastFrefIdeal.τ).loc Cert.LastFrefIdeal.main_arg4) = m ((c.tc : Thread Cert.LastFrefIdeal.nD Cert.LastFrefIdeal.τ).loc Cert.LastFrefIdeal.main_arg4)
      ∧ r.2.mem ((c.tc : Thread Cert.LastFrefIdeal.nD Cert.LastFrefIdeal.τ).loc Cert.LastFrefIdeal.main_arg5) = m ((c.tc : Thread Cert.LastFrefIdeal.nD Cert.LastFrefIdeal.τ).loc Cert.LastFrefIdeal.main_arg5))
      ∧ r.2.sem = fun _ => 0) :=
  (θ_run _ _ _).mono (fun r h => ⟨fun c => (h c).2.2.2, sem_eq_zero_of_no_sems (by decide) r.2⟩) (Cert.LastFrefIdeal.Value.run (F := Ideal) m ρ)

set_option maxHeartbeats 4000000 in
/-- The kernel and the reference leave the same product, the same gradient of the loss and the same loss. -/
theorem algebraic : Cert.algebraic_LastFwdIdeal_LastFrefIdeal := by
  intro m g m' g' _ hagree
  refine ⟨fun c => projOut m c, fun c => dOut m c, fun c => loss m c,
    (θ_run _ _ _).mono (fun r h c => ⟨(h c).1.trans (proj_final m c), (h c).2.1.trans (dOut_final m c), (h c).2.2.1.trans (loss_final m c), (h c).2.2.2⟩) (Cert.LastFwdIdeal.Value.run_blocks m g),
    (θ_run _ _ _).mono (fun r h c => ?_) (Cert.LastFrefIdeal.Value.run (F := Ideal) m' g')⟩
  obtain ⟨e0, e1, e2, e3, e4, e5⟩ := hagree c
  refine ⟨(h c).1.trans ?_, (h c).2.1.trans ?_, (h c).2.2.1.trans ?_, (h c).2.2.2⟩
  · simp only [e0, e1, e2, e3, e4, e5]
    rfl
  · simp only [e0, e1, e2, e3, e4, e5]
    rfl
  · simp only [e0, e1, e2, e3, e4, e5]
    rfl

end Cert.Proof.LastFwd

end
-- ==== Proof.OddAdam.lean ====
/- The optimiser's step for the odd mixer's input weight: the kernel's arrays are the reference's.

   The kernel adds the eight parts of the gradient one after the other and makes the new moments and the change of the weight
   from the sum. -/
module

public import proofs.«01_k».proof.Defs
public import proofs.«01_k».proof.Proof.Gen.OddAdamIdeal.Value
public import proofs.«01_k».proof.Proof.Gen.OddArefIdeal.Run
public import Idealize.ShloMosaic.Lib.Pipeline.ValueKit
public import Idealize.ShloMosaic.Lib.Claim

@[expose] public section

set_option maxRecDepth 16384

noncomputable section

namespace Cert.Proof.OddAdam

open Cert.OddAdamIdeal Cert.OddAdamIdeal.Gen
open Idealize.ShloMosaic Idealize.ShloMosaic.TcCoe Idealize.ShloMosaic.Tactic Idealize.SL.Sem

theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] := by
  decide +kernel

variable (m : (ℓ : Loc nD τ sig) → Buf (Elt Ideal) ℓ) (c : Dev nD)

/-! ## The reference's arrays -/

/-- The weight and its two moments, transposed, -/
def w : FVec Ideal Cert.OddArefIdeal.S1x256x1024 .f32 := transpose Cert.OddArefIdeal.S1x256x1024 [0, 2, 1] (m ((c.tc : Thread nD τ).loc main_arg0)) Cert.OddArefIdeal.Gen.transposes_S1x1024x256_S1x256x1024_0_2_1
def mom : FVec Ideal Cert.OddArefIdeal.S1x256x1024 .f32 := transpose Cert.OddArefIdeal.S1x256x1024 [0, 2, 1] (m ((c.tc : Thread nD τ).loc main_arg1)) Cert.OddArefIdeal.Gen.transposes_S1x1024x256_S1x256x1024_0_2_1
def var : FVec Ideal Cert.OddArefIdeal.S1x256x1024 .f32 := transpose Cert.OddArefIdeal.S1x256x1024 [0, 2, 1] (m ((c.tc : Thread nD τ).loc main_arg2)) Cert.OddArefIdeal.Gen.transposes_S1x1024x256_S1x256x1024_0_2_1
/-- the devices' parts of the gradient, -/
abbrev parts : FVec Ideal Cert.OddArefIdeal.S8x256x1024 .bf16 := m ((c.tc : Thread nD τ).loc main_arg3)
/-- a number everywhere, -/
def num (b : BitVec 32) : FVec Ideal Cert.OddArefIdeal.S1x256x1024 .f32 := broadcastInDim Cert.OddArefIdeal.S1x256x1024 ![] Cert.OddArefIdeal.Gen.bcast_S_S1x256x1024 (constant Cert.OddArefIdeal.S_ .f32 b)
/-- the sum of the parts, -/
def grad : FVec Ideal Cert.OddArefIdeal.S1x256x1024 .f32 := broadcastInDim Cert.OddArefIdeal.S1x256x1024 ![1, 2] Cert.OddArefIdeal.Gen.bcast_S256x1024_S1x256x1024_1_2
  (Host.reduceAdd (extf .f32 (parts m c) Cert.OddArefIdeal.Gen.bitsLt_bf16_f32) (constant Cert.OddArefIdeal.S_ .f32 0x00000000#32) Cert.OddArefIdeal.Gen.reducesTo_S8x256x1024_S256x1024_d0 Cert.OddArefIdeal.Gen.h_S_)
/-- the new first moment, -/
def newM : FVec Ideal Cert.OddArefIdeal.S1x256x1024 .f32 := addf (mulf (num 0x3F666666#32) (mom m c)) (mulf (num 0x3DCCCCCD#32) (grad m c))
/-- the new second moment -/
def newV : FVec Ideal Cert.OddArefIdeal.S1x256x1024 .f32 := addf (mulf (num 0x3F7FBE77#32) (var m c)) (mulf (num 0x3A83126F#32) (mulf (grad m c) (grad m c)))
/-- and the change of the weight. -/
def delta : FVec Ideal Cert.OddArefIdeal.S1x256x1024 .f32 := mulf (num 0xBA83126F#32) (addf (Host.divf (Host.divf (newM m c) (num 0x3F26BD02#32))
  (addf (Host.sqrt (Host.divf (newV m c) (num 0x3C231ACC#32))) (num 0x322BCC77#32))) (mulf (num 0x3C23D70A#32) (w m c)))

theorem num_apply (b : BitVec 32) (i : Cert.OddArefIdeal.S1x256x1024.Idx) : num b i = Ideal.ofBits .f32 b := by
  unfold num
  pointwise
theorem grad_apply (a : Fin 1) (i : Fin 256) (j : Fin 1024) : grad m c (ix3 a i j) = ∑ k : Fin 8, (parts m c (ix3 k i j) : EReal) := by
  unfold grad
  pointwise
/-- An index of the one layer. -/
theorem layer_spec (y : S1x256x1024.Idx) : ∃ (p : Fin 256) (q : Fin 1024), y = ix3 0 p q := by
  refine ⟨y 1, y 2, ?_⟩
  funext a
  fin_cases a
  · exact Fin.ext (by have h : (y 0).val < 1 := (y 0).isLt; show (y 0).val = 0; omega)
  · rfl
  · rfl

/-! ## The blocks the kernel reads -/

variable (t : Fin cfg0.N)

theorem w_array : V m c main_v0 = w m c := by
  entry_read; rfl
theorem w_block (a : Fin 1) (p : Fin 256) (k : Fin 1024) : iblk m c 0 t (ix3 a p k) = w m c (ix3 a p k) := by
  have he : ((win0_0.blk t).view.emb (ix3 a p k)) = ix3 a p k := by
    blk_ext [idx t]
  show V m c main_v0 ((win0_0.blk t).view.emb (ix3 a p k)) = _
  rw [w_array, he]
theorem mom_array : V m c main_v1 = mom m c := by
  entry_read; rfl
theorem mom_block (a : Fin 1) (p : Fin 256) (k : Fin 1024) : iblk m c 1 t (ix3 a p k) = mom m c (ix3 a p k) := by
  have he : ((win0_1.blk t).view.emb (ix3 a p k)) = ix3 a p k := by
    blk_ext [idx t]
  show V m c main_v1 ((win0_1.blk t).view.emb (ix3 a p k)) = _
  rw [mom_array, he]
theorem var_array : V m c main_v2 = var m c := by
  entry_read; rfl
theorem var_block (a : Fin 1) (p : Fin 256) (k : Fin 1024) : iblk m c 2 t (ix3 a p k) = var m c (ix3 a p k) := by
  have he : ((win0_2.blk t).view.emb (ix3 a p k)) = ix3 a p k := by
    blk_ext [idx t]
  show V m c main_v2 ((win0_2.blk t).view.emb (ix3 a p k)) = _
  rw [var_array, he]
theorem parts_block (a : Fin 8) (p : Fin 256) (k : Fin 1024) : iblk m c 3 t (ix3 a p k) = parts m c (ix3 a p k) := by
  blk_ext [iblk, idx t, V_main_arg3]

/-- The kernel's sum of the parts, one after the other, -/
def sumBlock : FVec Ideal S256x1024 .f32 :=
  k0_pay3 (View.ld (iblk m c 3 t) (Rect.unit ![0, 0, 0] ![1, 256, 1024] inb_S8x256x1024_S1x256x1024_0_0_0))
    (View.ld (iblk m c 3 t) (Rect.unit ![1, 0, 0] ![1, 256, 1024] inb_S8x256x1024_S1x256x1024_1_0_0))
    (View.ld (iblk m c 3 t) (Rect.unit ![2, 0, 0] ![1, 256, 1024] inb_S8x256x1024_S1x256x1024_2_0_0))
    (View.ld (iblk m c 3 t) (Rect.unit ![3, 0, 0] ![1, 256, 1024] inb_S8x256x1024_S1x256x1024_3_0_0))
    (View.ld (iblk m c 3 t) (Rect.unit ![4, 0, 0] ![1, 256, 1024] inb_S8x256x1024_S1x256x1024_4_0_0))
    (View.ld (iblk m c 3 t) (Rect.unit ![5, 0, 0] ![1, 256, 1024] inb_S8x256x1024_S1x256x1024_5_0_0))
    (View.ld (iblk m c 3 t) (Rect.unit ![6, 0, 0] ![1, 256, 1024] inb_S8x256x1024_S1x256x1024_6_0_0))
    (View.ld (iblk m c 3 t) (Rect.unit ![7, 0, 0] ![1, 256, 1024] inb_S8x256x1024_S1x256x1024_7_0_0))
/-- is the reference's; -/
theorem grad_block (p : Fin 256) (q : Fin 1024) : sumBlock m c t (ix2 p q) = grad m c (ix3 0 p q) := by
  rw [grad_apply]
  refine Eq.trans ?_ (Fin.sum_univ_eight _).symm
  unfold sumBlock k0_pay3
  pointwise
  simp only [parts_block]
/-- so are the moments made of it -/
theorem newM_block (p : Fin 256) (q : Fin 1024) : k0_pay5 (sumBlock m c t) (iblk m c 1 t) (ix2 p q) = newM m c (ix3 0 p q) := by
  unfold k0_pay5 newM
  pointwise
  simp only [grad_block, mom_block, num_apply]
theorem newV_block (p : Fin 256) (q : Fin 1024) : k0_pay6 (sumBlock m c t) (iblk m c 2 t) (ix2 p q) = newV m c (ix3 0 p q) := by
  unfold k0_pay6 newV
  pointwise
  simp only [grad_block, var_block, num_apply]
/-- and the change of the weight. -/
theorem delta_block (p : Fin 256) (q : Fin 1024) :
    k0_pay7 (sumBlock m c t) (iblk m c 0 t) (iblk m c 1 t) (iblk m c 2 t) (ix3 0 p q) = delta m c (ix3 0 p q) := by
  unfold k0_pay7 delta
  pointwise
  simp only [newM_block, newV_block, w_block, num_apply]

/-! ## The arrays the kernel leaves -/

theorem grad_final : (dats m 0 c).arrAt 4 cfg0.N = grad m c := by
  refine (dats m 0 c).arrAt_eq_of_covers 4 _ (by decide +kernel) fun t hf (y : S1x256x1024.Idx) => ?_
  obtain ⟨p, q, rfl⟩ := layer_spec y
  have he : ((win0_4.blk t).view.emb (ix3 0 p q)) = ix3 0 p q := by
    blk_ext [idx t]
  refine Eq.trans ?_ (congrArg (grad m c) he.symm)
  blk_simp
  rw [after0_4]
  unfold outsAt0
  frame_out
  show k0_pay4 (sumBlock m c t) (ix3 0 p q) = _
  unfold k0_pay4
  pointwise
  exact grad_block m c t p q
theorem delta_final : (dats m 0 c).arrAt 5 cfg0.N = delta m c := by
  refine (dats m 0 c).arrAt_eq_of_covers 5 _ (by decide +kernel) fun t hf (y : S1x256x1024.Idx) => ?_
  obtain ⟨p, q, rfl⟩ := layer_spec y
  have he : ((win0_5.blk t).view.emb (ix3 0 p q)) = ix3 0 p q := by
    blk_ext [idx t]
  refine Eq.trans ?_ (congrArg (delta m c) he.symm)
  blk_simp
  rw [after0_5]
  unfold outsAt0
  frame_out
  exact delta_block m c t p q
theorem newM_final : (dats m 0 c).arrAt 6 cfg0.N = newM m c := by
  refine (dats m 0 c).arrAt_eq_of_covers 6 _ (by decide +kernel) fun t hf (y : S1x256x1024.Idx) => ?_
  obtain ⟨p, q, rfl⟩ := layer_spec y
  have he : ((win0_6.blk t).view.emb (ix3 0 p q)) = ix3 0 p q := by
    blk_ext [idx t]
  refine Eq.trans ?_ (congrArg (newM m c) he.symm)
  blk_simp
  rw [after0_6]
  unfold outsAt0
  frame_out
  show k0_pay1 (k0_pay5 (sumBlock m c t) (iblk m c 1 t)) (ix3 0 p q) = _
  unfold k0_pay1
  pointwise
  exact newM_block m c t p q
theorem newV_final : (dats m 0 c).arrAt 7 cfg0.N = newV m c := by
  refine (dats m 0 c).arrAt_eq_of_covers 7 _ (by decide +kernel) fun t hf (y : S1x256x1024.Idx) => ?_
  obtain ⟨p, q, rfl⟩ := layer_spec y
  have he : ((win0_7.blk t).view.emb (ix3 0 p q)) = ix3 0 p q := by
    blk_ext [idx t]
  refine Eq.trans ?_ (congrArg (newV m c) he.symm)
  blk_simp
  rw [after0_7]
  unfold outsAt0
  frame_out
  show k0_pay2 (k0_pay6 (sumBlock m c t) (iblk m c 2 t)) (ix3 0 p q) = _
  unfold k0_pay2
  pointwise
  exact newV_block m c t p q

/-- The reference leaves its arguments as they were. -/
theorem ref_frame (m : (ℓ : Loc Cert.OddArefIdeal.nD Cert.OddArefIdeal.τ Cert.OddArefIdeal.sig) → Buf (Elt Ideal) ℓ)
    (ρ : Dev Cert.OddArefIdeal.nD → PrngReg) :
    θ_run Cert.OddArefIdeal.defs (onTc (τ := Cert.OddArefIdeal.τ) (Cert.OddArefIdeal.main (F := Ideal))) ⟨m, fun _ => 0, ρ⟩ (fun r => (∀ c : Dev Cert.OddArefIdeal.nD,
      r.2.mem ((c.tc : Thread Cert.OddArefIdeal.nD Cert.OddArefIdeal.τ).loc Cert.OddArefIdeal.main_arg0) = m ((c.tc : Thread Cert.OddArefIdeal.nD Cert.OddArefIdeal.τ).loc Cert.OddArefIdeal.main_arg0)
      ∧ r.2.mem ((c.tc : Thread Cert.OddArefIdeal.nD Cert.OddArefIdeal.τ).loc Cert.OddArefIdeal.main_arg1) = m ((c.tc : Thread Cert.OddArefIdeal.nD Cert.OddArefIdeal.τ).loc Cert.OddArefIdeal.main_arg1)
      ∧ r.2.mem ((c.tc : Thread Cert.OddArefIdeal.nD Cert.OddArefIdeal.τ).loc Cert.OddArefIdeal.main_arg2) = m ((c.tc : Thread Cert.OddArefIdeal.nD Cert.OddArefIdeal.τ).loc Cert.OddArefIdeal.main_arg2)
      ∧ r.2.mem ((c.tc : Thread Cert.OddArefIdeal.nD Cert.OddArefIdeal.τ).loc Cert.OddArefIdeal.main_arg3) = m ((c.tc : Thread Cert.OddArefIdeal.nD Cert.OddArefIdeal.τ).loc Cert.OddArefIdeal.main_arg3))
      ∧ r.2.sem = fun _ => 0) :=
  (θ_run _ _ _).mono (fun r h => ⟨fun c => (h c).2.2.2.2, sem_eq_zero_of_no_sems (by decide) r.2⟩) (Cert.OddArefIdeal.Value.run (F := Ideal) m ρ)

set_option maxHeartbeats 4000000 in
/-- The kernel and the reference leave the same gradient, change of the weight and moments. -/
theorem algebraic : Cert.algebraic_OddAdamIdeal_OddArefIdeal := by
  intro m g m' g' _ hagree
  refine ⟨fun c => grad m c, fun c => delta m c, fun c => newM m c, fun c => newV m c,
    (θ_run _ _ _).mono (fun r h c => ⟨(h c).1.trans (grad_final m c), (h c).2.1.trans (delta_final m c), (h c).2.2.1.trans (newM_final m c), (h c).2.2.2.1.trans (newV_final m c), (h c).2.2.2.2⟩) (Cert.OddAdamIdeal.Value.run_blocks m g),
    (θ_run _ _ _).mono (fun r h c => ?_) (Cert.OddArefIdeal.Value.run (F := Ideal) m' g')⟩
  obtain ⟨e0, e1, e2, e3⟩ := hagree c
  refine ⟨(h c).1.trans ?_, (h c).2.1.trans ?_, (h c).2.2.1.trans ?_, (h c).2.2.2.1.trans ?_, (h c).2.2.2.2⟩
  · simp only [e0, e1, e2, e3]
    rfl
  · simp only [e0, e1, e2, e3]
    rfl
  · simp only [e0, e1, e2, e3]
    rfl
  · simp only [e0, e1, e2, e3]
    rfl

end Cert.Proof.OddAdam

end
-- ==== Proof.InAdam.lean ====
/- The optimiser's step for the even mixer's input weight: the kernel's arrays are the reference's.

   The kernel adds the eight parts of the gradient one after the other and makes the new moments and the change of the weight
   from the sum. -/
module

public import proofs.«01_k».proof.Defs
public import proofs.«01_k».proof.Proof.Gen.InAdamIdeal.Value
public import proofs.«01_k».proof.Proof.Gen.InArefIdeal.Run
public import Idealize.ShloMosaic.Lib.Pipeline.ValueKit
public import Idealize.ShloMosaic.Lib.Claim

@[expose] public section

set_option maxRecDepth 16384

noncomputable section

namespace Cert.Proof.InAdam

open Cert.InAdamIdeal Cert.InAdamIdeal.Gen
open Idealize.ShloMosaic Idealize.ShloMosaic.TcCoe Idealize.ShloMosaic.Tactic Idealize.SL.Sem

theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] := by
  decide +kernel

variable (m : (ℓ : Loc nD τ sig) → Buf (Elt Ideal) ℓ) (c : Dev nD)

/-! ## The reference's arrays -/

/-- The weight and its two moments, transposed, -/
def w : FVec Ideal Cert.InArefIdeal.S1x160x1024 .f32 := transpose Cert.InArefIdeal.S1x160x1024 [0, 2, 1] (m ((c.tc : Thread nD τ).loc main_arg0)) Cert.InArefIdeal.Gen.transposes_S1x1024x160_S1x160x1024_0_2_1
def mom : FVec Ideal Cert.InArefIdeal.S1x160x1024 .f32 := transpose Cert.InArefIdeal.S1x160x1024 [0, 2, 1] (m ((c.tc : Thread nD τ).loc main_arg1)) Cert.InArefIdeal.Gen.transposes_S1x1024x160_S1x160x1024_0_2_1
def var : FVec Ideal Cert.InArefIdeal.S1x160x1024 .f32 := transpose Cert.InArefIdeal.S1x160x1024 [0, 2, 1] (m ((c.tc : Thread nD τ).loc main_arg2)) Cert.InArefIdeal.Gen.transposes_S1x1024x160_S1x160x1024_0_2_1
/-- the devices' parts of the gradient, -/
abbrev parts : FVec Ideal Cert.InArefIdeal.S8x160x1024 .bf16 := m ((c.tc : Thread nD τ).loc main_arg3)
/-- a number everywhere, -/
def num (b : BitVec 32) : FVec Ideal Cert.InArefIdeal.S1x160x1024 .f32 := broadcastInDim Cert.InArefIdeal.S1x160x1024 ![] Cert.InArefIdeal.Gen.bcast_S_S1x160x1024 (constant Cert.InArefIdeal.S_ .f32 b)
/-- the sum of the parts, -/
def grad : FVec Ideal Cert.InArefIdeal.S1x160x1024 .f32 := broadcastInDim Cert.InArefIdeal.S1x160x1024 ![1, 2] Cert.InArefIdeal.Gen.bcast_S160x1024_S1x160x1024_1_2
  (Host.reduceAdd (extf .f32 (parts m c) Cert.InArefIdeal.Gen.bitsLt_bf16_f32) (constant Cert.InArefIdeal.S_ .f32 0x00000000#32) Cert.InArefIdeal.Gen.reducesTo_S8x160x1024_S160x1024_d0 Cert.InArefIdeal.Gen.h_S_)
/-- the new first moment, -/
def newM : FVec Ideal Cert.InArefIdeal.S1x160x1024 .f32 := addf (mulf (num 0x3F666666#32) (mom m c)) (mulf (num 0x3DCCCCCD#32) (grad m c))
/-- the new second moment -/
def newV : FVec Ideal Cert.InArefIdeal.S1x160x1024 .f32 := addf (mulf (num 0x3F7FBE77#32) (var m c)) (mulf (num 0x3A83126F#32) (mulf (grad m c) (grad m c)))
/-- and the change of the weight. -/
def delta : FVec Ideal Cert.InArefIdeal.S1x160x1024 .f32 := mulf (num 0xBA83126F#32) (addf (Host.divf (Host.divf (newM m c) (num 0x3F26BD02#32))
  (addf (Host.sqrt (Host.divf (newV m c) (num 0x3C231ACC#32))) (num 0x322BCC77#32))) (mulf (num 0x3C23D70A#32) (w m c)))

theorem num_apply (b : BitVec 32) (i : Cert.InArefIdeal.S1x160x1024.Idx) : num b i = Ideal.ofBits .f32 b := by
  unfold num
  pointwise
theorem grad_apply (a : Fin 1) (i : Fin 160) (j : Fin 1024) : grad m c (ix3 a i j) = ∑ k : Fin 8, (parts m c (ix3 k i j) : EReal) := by
  unfold grad
  pointwise
/-- An index of the one layer. -/
theorem layer_spec (y : S1x160x1024.Idx) : ∃ (p : Fin 160) (q : Fin 1024), y = ix3 0 p q := by
  refine ⟨y 1, y 2, ?_⟩
  funext a
  fin_cases a
  · exact Fin.ext (by have h : (y 0).val < 1 := (y 0).isLt; show (y 0).val = 0; omega)
  · rfl
  · rfl

/-! ## The blocks the kernel reads -/

variable (t : Fin cfg0.N)

theorem w_array : V m c main_v0 = w m c := by
  entry_read; rfl
theorem w_block (a : Fin 1) (p : Fin 160) (k : Fin 1024) : iblk m c 0 t (ix3 a p k) = w m c (ix3 a p k) := by
  have he : ((win0_0.blk t).view.emb (ix3 a p k)) = ix3 a p k := by
    blk_ext [idx t]
  show V m c main_v0 ((win0_0.blk t).view.emb (ix3 a p k)) = _
  rw [w_array, he]
theorem mom_array : V m c main_v1 = mom m c := by
  entry_read; rfl
theorem mom_block (a : Fin 1) (p : Fin 160) (k : Fin 1024) : iblk m c 1 t (ix3 a p k) = mom m c (ix3 a p k) := by
  have he : ((win0_1.blk t).view.emb (ix3 a p k)) = ix3 a p k := by
    blk_ext [idx t]
  show V m c main_v1 ((win0_1.blk t).view.emb (ix3 a p k)) = _
  rw [mom_array, he]
theorem var_array : V m c main_v2 = var m c := by
  entry_read; rfl
theorem var_block (a : Fin 1) (p : Fin 160) (k : Fin 1024) : iblk m c 2 t (ix3 a p k) = var m c (ix3 a p k) := by
  have he : ((win0_2.blk t).view.emb (ix3 a p k)) = ix3 a p k := by
    blk_ext [idx t]
  show V m c main_v2 ((win0_2.blk t).view.emb (ix3 a p k)) = _
  rw [var_array, he]
theorem parts_block (a : Fin 8) (p : Fin 160) (k : Fin 1024) : iblk m c 3 t (ix3 a p k) = parts m c (ix3 a p k) := by
  blk_ext [iblk, idx t, V_main_arg3]

/-- The kernel's sum of the parts, one after the other, -/
def sumBlock : FVec Ideal S160x1024 .f32 :=
  k0_pay3 (View.ld (iblk m c 3 t) (Rect.unit ![0, 0, 0] ![1, 160, 1024] inb_S8x160x1024_S1x160x1024_0_0_0))
    (View.ld (iblk m c 3 t) (Rect.unit ![1, 0, 0] ![1, 160, 1024] inb_S8x160x1024_S1x160x1024_1_0_0))
    (View.ld (iblk m c 3 t) (Rect.unit ![2, 0, 0] ![1, 160, 1024] inb_S8x160x1024_S1x160x1024_2_0_0))
    (View.ld (iblk m c 3 t) (Rect.unit ![3, 0, 0] ![1, 160, 1024] inb_S8x160x1024_S1x160x1024_3_0_0))
    (View.ld (iblk m c 3 t) (Rect.unit ![4, 0, 0] ![1, 160, 1024] inb_S8x160x1024_S1x160x1024_4_0_0))
    (View.ld (iblk m c 3 t) (Rect.unit ![5, 0, 0] ![1, 160, 1024] inb_S8x160x1024_S1x160x1024_5_0_0))
    (View.ld (iblk m c 3 t) (Rect.unit ![6, 0, 0] ![1, 160, 1024] inb_S8x160x1024_S1x160x1024_6_0_0))
    (View.ld (iblk m c 3 t) (Rect.unit ![7, 0, 0] ![1, 160, 1024] inb_S8x160x1024_S1x160x1024_7_0_0))
/-- is the reference's; -/
theorem grad_block (p : Fin 160) (q : Fin 1024) : sumBlock m c t (ix2 p q) = grad m c (ix3 0 p q) := by
  rw [grad_apply]
  refine Eq.trans ?_ (Fin.sum_univ_eight _).symm
  unfold sumBlock k0_pay3
  pointwise
  simp only [parts_block]
/-- so are the moments made of it -/
theorem newM_block (p : Fin 160) (q : Fin 1024) : k0_pay5 (sumBlock m c t) (iblk m c 1 t) (ix2 p q) = newM m c (ix3 0 p q) := by
  unfold k0_pay5 newM
  pointwise
  simp only [grad_block, mom_block, num_apply]
theorem newV_block (p : Fin 160) (q : Fin 1024) : k0_pay6 (sumBlock m c t) (iblk m c 2 t) (ix2 p q) = newV m c (ix3 0 p q) := by
  unfold k0_pay6 newV
  pointwise
  simp only [grad_block, var_block, num_apply]
/-- and the change of the weight. -/
theorem delta_block (p : Fin 160) (q : Fin 1024) :
    k0_pay7 (sumBlock m c t) (iblk m c 0 t) (iblk m c 1 t) (iblk m c 2 t) (ix3 0 p q) = delta m c (ix3 0 p q) := by
  unfold k0_pay7 delta
  pointwise
  simp only [newM_block, newV_block, w_block, num_apply]

/-! ## The arrays the kernel leaves -/

theorem grad_final : (dats m 0 c).arrAt 4 cfg0.N = grad m c := by
  refine (dats m 0 c).arrAt_eq_of_covers 4 _ (by decide +kernel) fun t hf (y : S1x160x1024.Idx) => ?_
  obtain ⟨p, q, rfl⟩ := layer_spec y
  have he : ((win0_4.blk t).view.emb (ix3 0 p q)) = ix3 0 p q := by
    blk_ext [idx t]
  refine Eq.trans ?_ (congrArg (grad m c) he.symm)
  blk_simp
  rw [after0_4]
  unfold outsAt0
  frame_out
  show k0_pay4 (sumBlock m c t) (ix3 0 p q) = _
  unfold k0_pay4
  pointwise
  exact grad_block m c t p q
theorem delta_final : (dats m 0 c).arrAt 5 cfg0.N = delta m c := by
  refine (dats m 0 c).arrAt_eq_of_covers 5 _ (by decide +kernel) fun t hf (y : S1x160x1024.Idx) => ?_
  obtain ⟨p, q, rfl⟩ := layer_spec y
  have he : ((win0_5.blk t).view.emb (ix3 0 p q)) = ix3 0 p q := by
    blk_ext [idx t]
  refine Eq.trans ?_ (congrArg (delta m c) he.symm)
  blk_simp
  rw [after0_5]
  unfold outsAt0
  frame_out
  exact delta_block m c t p q
theorem newM_final : (dats m 0 c).arrAt 6 cfg0.N = newM m c := by
  refine (dats m 0 c).arrAt_eq_of_covers 6 _ (by decide +kernel) fun t hf (y : S1x160x1024.Idx) => ?_
  obtain ⟨p, q, rfl⟩ := layer_spec y
  have he : ((win0_6.blk t).view.emb (ix3 0 p q)) = ix3 0 p q := by
    blk_ext [idx t]
  refine Eq.trans ?_ (congrArg (newM m c) he.symm)
  blk_simp
  rw [after0_6]
  unfold outsAt0
  frame_out
  show k0_pay1 (k0_pay5 (sumBlock m c t) (iblk m c 1 t)) (ix3 0 p q) = _
  unfold k0_pay1
  pointwise
  exact newM_block m c t p q
theorem newV_final : (dats m 0 c).arrAt 7 cfg0.N = newV m c := by
  refine (dats m 0 c).arrAt_eq_of_covers 7 _ (by decide +kernel) fun t hf (y : S1x160x1024.Idx) => ?_
  obtain ⟨p, q, rfl⟩ := layer_spec y
  have he : ((win0_7.blk t).view.emb (ix3 0 p q)) = ix3 0 p q := by
    blk_ext [idx t]
  refine Eq.trans ?_ (congrArg (newV m c) he.symm)
  blk_simp
  rw [after0_7]
  unfold outsAt0
  frame_out
  show k0_pay2 (k0_pay6 (sumBlock m c t) (iblk m c 2 t)) (ix3 0 p q) = _
  unfold k0_pay2
  pointwise
  exact newV_block m c t p q

/-- The reference leaves its arguments as they were. -/
theorem ref_frame (m : (ℓ : Loc Cert.InArefIdeal.nD Cert.InArefIdeal.τ Cert.InArefIdeal.sig) → Buf (Elt Ideal) ℓ)
    (ρ : Dev Cert.InArefIdeal.nD → PrngReg) :
    θ_run Cert.InArefIdeal.defs (onTc (τ := Cert.InArefIdeal.τ) (Cert.InArefIdeal.main (F := Ideal))) ⟨m, fun _ => 0, ρ⟩ (fun r => (∀ c : Dev Cert.InArefIdeal.nD,
      r.2.mem ((c.tc : Thread Cert.InArefIdeal.nD Cert.InArefIdeal.τ).loc Cert.InArefIdeal.main_arg0) = m ((c.tc : Thread Cert.InArefIdeal.nD Cert.InArefIdeal.τ).loc Cert.InArefIdeal.main_arg0)
      ∧ r.2.mem ((c.tc : Thread Cert.InArefIdeal.nD Cert.InArefIdeal.τ).loc Cert.InArefIdeal.main_arg1) = m ((c.tc : Thread Cert.InArefIdeal.nD Cert.InArefIdeal.τ).loc Cert.InArefIdeal.main_arg1)
      ∧ r.2.mem ((c.tc : Thread Cert.InArefIdeal.nD Cert.InArefIdeal.τ).loc Cert.InArefIdeal.main_arg2) = m ((c.tc : Thread Cert.InArefIdeal.nD Cert.InArefIdeal.τ).loc Cert.InArefIdeal.main_arg2)
      ∧ r.2.mem ((c.tc : Thread Cert.InArefIdeal.nD Cert.InArefIdeal.τ).loc Cert.InArefIdeal.main_arg3) = m ((c.tc : Thread Cert.InArefIdeal.nD Cert.InArefIdeal.τ).loc Cert.InArefIdeal.main_arg3))
      ∧ r.2.sem = fun _ => 0) :=
  (θ_run _ _ _).mono (fun r h => ⟨fun c => (h c).2.2.2.2, sem_eq_zero_of_no_sems (by decide) r.2⟩) (Cert.InArefIdeal.Value.run (F := Ideal) m ρ)

set_option maxHeartbeats 4000000 in
/-- The kernel and the reference leave the same gradient, change of the weight and moments. -/
theorem algebraic : Cert.algebraic_InAdamIdeal_InArefIdeal := by
  intro m g m' g' _ hagree
  refine ⟨fun c => grad m c, fun c => delta m c, fun c => newM m c, fun c => newV m c,
    (θ_run _ _ _).mono (fun r h c => ⟨(h c).1.trans (grad_final m c), (h c).2.1.trans (delta_final m c), (h c).2.2.1.trans (newM_final m c), (h c).2.2.2.1.trans (newV_final m c), (h c).2.2.2.2⟩) (Cert.InAdamIdeal.Value.run_blocks m g),
    (θ_run _ _ _).mono (fun r h c => ?_) (Cert.InArefIdeal.Value.run (F := Ideal) m' g')⟩
  obtain ⟨e0, e1, e2, e3⟩ := hagree c
  refine ⟨(h c).1.trans ?_, (h c).2.1.trans ?_, (h c).2.2.1.trans ?_, (h c).2.2.2.1.trans ?_, (h c).2.2.2.2⟩
  · simp only [e0, e1, e2, e3]
    rfl
  · simp only [e0, e1, e2, e3]
    rfl
  · simp only [e0, e1, e2, e3]
    rfl
  · simp only [e0, e1, e2, e3]
    rfl

end Cert.Proof.InAdam

end
-- ==== Proof.OutAdam.lean ====
/- The optimiser's step for a mixer's output weight: the kernel's arrays are the reference's.

   The kernel adds the eight parts of the gradient one after the other and makes the new moments and the change of the weight
   from the sum. -/
module

public import proofs.«01_k».proof.Defs
public import proofs.«01_k».proof.Proof.Gen.OutAdamIdeal.Value
public import proofs.«01_k».proof.Proof.Gen.OutArefIdeal.Run
public import Idealize.ShloMosaic.Lib.Pipeline.ValueKit
public import Idealize.ShloMosaic.Lib.Claim

@[expose] public section

set_option maxRecDepth 16384

noncomputable section

namespace Cert.Proof.OutAdam

open Cert.OutAdamIdeal Cert.OutAdamIdeal.Gen
open Idealize.ShloMosaic Idealize.ShloMosaic.TcCoe Idealize.ShloMosaic.Tactic Idealize.SL.Sem

theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] := by
  decide +kernel

variable (m : (ℓ : Loc nD τ sig) → Buf (Elt Ideal) ℓ) (c : Dev nD)

/-! ## The reference's arrays -/

/-- The weight and its two moments, -/
def w : FVec Ideal Cert.OutArefIdeal.S1x128x1024 .f32 := (m ((c.tc : Thread nD τ).loc main_arg0))
def mom : FVec Ideal Cert.OutArefIdeal.S1x128x1024 .f32 := (m ((c.tc : Thread nD τ).loc main_arg1))
def var : FVec Ideal Cert.OutArefIdeal.S1x128x1024 .f32 := (m ((c.tc : Thread nD τ).loc main_arg2))
/-- the devices' parts of the gradient, -/
abbrev parts : FVec Ideal Cert.OutArefIdeal.S8x128x1024 .bf16 := m ((c.tc : Thread nD τ).loc main_arg3)
/-- a number everywhere, -/
def num (b : BitVec 32) : FVec Ideal Cert.OutArefIdeal.S1x128x1024 .f32 := broadcastInDim Cert.OutArefIdeal.S1x128x1024 ![] Cert.OutArefIdeal.Gen.bcast_S_S1x128x1024 (constant Cert.OutArefIdeal.S_ .f32 b)
/-- the sum of the parts, -/
def grad : FVec Ideal Cert.OutArefIdeal.S1x128x1024 .f32 := broadcastInDim Cert.OutArefIdeal.S1x128x1024 ![1, 2] Cert.OutArefIdeal.Gen.bcast_S128x1024_S1x128x1024_1_2
  (Host.reduceAdd (extf .f32 (parts m c) Cert.OutArefIdeal.Gen.bitsLt_bf16_f32) (constant Cert.OutArefIdeal.S_ .f32 0x00000000#32) Cert.OutArefIdeal.Gen.reducesTo_S8x128x1024_S128x1024_d0 Cert.OutArefIdeal.Gen.h_S_)
/-- the new first moment, -/
def newM : FVec Ideal Cert.OutArefIdeal.S1x128x1024 .f32 := addf (mulf (num 0x3F666666#32) (mom m c)) (mulf (num 0x3DCCCCCD#32) (grad m c))
/-- the new second moment -/
def newV : FVec Ideal Cert.OutArefIdeal.S1x128x1024 .f32 := addf (mulf (num 0x3F7FBE77#32) (var m c)) (mulf (num 0x3A83126F#32) (mulf (grad m c) (grad m c)))
/-- and the change of the weight. -/
def delta : FVec Ideal Cert.OutArefIdeal.S1x128x1024 .f32 := mulf (num 0xBA83126F#32) (addf (Host.divf (Host.divf (newM m c) (num 0x3F26BD02#32))
  (addf (Host.sqrt (Host.divf (newV m c) (num 0x3C231ACC#32))) (num 0x322BCC77#32))) (mulf (num 0x3C23D70A#32) (w m c)))

theorem num_apply (b : BitVec 32) (i : Cert.OutArefIdeal.S1x128x1024.Idx) : num b i = Ideal.ofBits .f32 b := by
  unfold num
  pointwise
theorem grad_apply (a : Fin 1) (i : Fin 128) (j : Fin 1024) : grad m c (ix3 a i j) = ∑ k : Fin 8, (parts m c (ix3 k i j) : EReal) := by
  unfold grad
  pointwise
/-- An index of the one layer. -/
theorem layer_spec (y : S1x128x1024.Idx) : ∃ (p : Fin 128) (q : Fin 1024), y = ix3 0 p q := by
  refine ⟨y 1, y 2, ?_⟩
  funext a
  fin_cases a
  · exact Fin.ext (by have h : (y 0).val < 1 := (y 0).isLt; show (y 0).val = 0; omega)
  · rfl
  · rfl

/-! ## The blocks the kernel reads -/

variable (t : Fin cfg0.N)

theorem w_block (a : Fin 1) (p : Fin 128) (k : Fin 1024) : iblk m c 0 t (ix3 a p k) = w m c (ix3 a p k) := by
  unfold w
  blk_ext [iblk, idx t, V_main_arg0]
theorem mom_block (a : Fin 1) (p : Fin 128) (k : Fin 1024) : iblk m c 1 t (ix3 a p k) = mom m c (ix3 a p k) := by
  unfold mom
  blk_ext [iblk, idx t, V_main_arg1]
theorem var_block (a : Fin 1) (p : Fin 128) (k : Fin 1024) : iblk m c 2 t (ix3 a p k) = var m c (ix3 a p k) := by
  unfold var
  blk_ext [iblk, idx t, V_main_arg2]
theorem parts_block (a : Fin 8) (p : Fin 128) (k : Fin 1024) : iblk m c 3 t (ix3 a p k) = parts m c (ix3 a p k) := by
  blk_ext [iblk, idx t, V_main_arg3]

/-- The kernel's sum of the parts, one after the other, -/
def sumBlock : FVec Ideal S128x1024 .f32 :=
  k0_pay3 (View.ld (iblk m c 3 t) (Rect.unit ![0, 0, 0] ![1, 128, 1024] inb_S8x128x1024_S1x128x1024_0_0_0))
    (View.ld (iblk m c 3 t) (Rect.unit ![1, 0, 0] ![1, 128, 1024] inb_S8x128x1024_S1x128x1024_1_0_0))
    (View.ld (iblk m c 3 t) (Rect.unit ![2, 0, 0] ![1, 128, 1024] inb_S8x128x1024_S1x128x1024_2_0_0))
    (View.ld (iblk m c 3 t) (Rect.unit ![3, 0, 0] ![1, 128, 1024] inb_S8x128x1024_S1x128x1024_3_0_0))
    (View.ld (iblk m c 3 t) (Rect.unit ![4, 0, 0] ![1, 128, 1024] inb_S8x128x1024_S1x128x1024_4_0_0))
    (View.ld (iblk m c 3 t) (Rect.unit ![5, 0, 0] ![1, 128, 1024] inb_S8x128x1024_S1x128x1024_5_0_0))
    (View.ld (iblk m c 3 t) (Rect.unit ![6, 0, 0] ![1, 128, 1024] inb_S8x128x1024_S1x128x1024_6_0_0))
    (View.ld (iblk m c 3 t) (Rect.unit ![7, 0, 0] ![1, 128, 1024] inb_S8x128x1024_S1x128x1024_7_0_0))
/-- is the reference's; -/
theorem grad_block (p : Fin 128) (q : Fin 1024) : sumBlock m c t (ix2 p q) = grad m c (ix3 0 p q) := by
  rw [grad_apply]
  refine Eq.trans ?_ (Fin.sum_univ_eight _).symm
  unfold sumBlock k0_pay3
  pointwise
  simp only [parts_block]
/-- so are the moments made of it -/
theorem newM_block (p : Fin 128) (q : Fin 1024) : k0_pay5 (sumBlock m c t) (iblk m c 1 t) (ix2 p q) = newM m c (ix3 0 p q) := by
  unfold k0_pay5 newM
  pointwise
  simp only [grad_block, mom_block, num_apply]
theorem newV_block (p : Fin 128) (q : Fin 1024) : k0_pay6 (sumBlock m c t) (iblk m c 2 t) (ix2 p q) = newV m c (ix3 0 p q) := by
  unfold k0_pay6 newV
  pointwise
  simp only [grad_block, var_block, num_apply]
/-- and the change of the weight. -/
theorem delta_block (p : Fin 128) (q : Fin 1024) :
    k0_pay7 (sumBlock m c t) (iblk m c 0 t) (iblk m c 1 t) (iblk m c 2 t) (ix3 0 p q) = delta m c (ix3 0 p q) := by
  unfold k0_pay7 delta
  pointwise
  simp only [newM_block, newV_block, w_block, num_apply]

/-! ## The arrays the kernel leaves -/

theorem grad_final : (dats m 0 c).arrAt 4 cfg0.N = grad m c := by
  refine (dats m 0 c).arrAt_eq_of_covers 4 _ (by decide +kernel) fun t hf (y : S1x128x1024.Idx) => ?_
  obtain ⟨p, q, rfl⟩ := layer_spec y
  have he : ((win0_4.blk t).view.emb (ix3 0 p q)) = ix3 0 p q := by
    blk_ext [idx t]
  refine Eq.trans ?_ (congrArg (grad m c) he.symm)
  blk_simp
  rw [after0_4]
  unfold outsAt0
  frame_out
  show k0_pay4 (sumBlock m c t) (ix3 0 p q) = _
  unfold k0_pay4
  pointwise
  exact grad_block m c t p q
theorem delta_final : (dats m 0 c).arrAt 5 cfg0.N = delta m c := by
  refine (dats m 0 c).arrAt_eq_of_covers 5 _ (by decide +kernel) fun t hf (y : S1x128x1024.Idx) => ?_
  obtain ⟨p, q, rfl⟩ := layer_spec y
  have he : ((win0_5.blk t).view.emb (ix3 0 p q)) = ix3 0 p q := by
    blk_ext [idx t]
  refine Eq.trans ?_ (congrArg (delta m c) he.symm)
  blk_simp
  rw [after0_5]
  unfold outsAt0
  frame_out
  exact delta_block m c t p q
theorem newM_final : (dats m 0 c).arrAt 6 cfg0.N = newM m c := by
  refine (dats m 0 c).arrAt_eq_of_covers 6 _ (by decide +kernel) fun t hf (y : S1x128x1024.Idx) => ?_
  obtain ⟨p, q, rfl⟩ := layer_spec y
  have he : ((win0_6.blk t).view.emb (ix3 0 p q)) = ix3 0 p q := by
    blk_ext [idx t]
  refine Eq.trans ?_ (congrArg (newM m c) he.symm)
  blk_simp
  rw [after0_6]
  unfold outsAt0
  frame_out
  show k0_pay1 (k0_pay5 (sumBlock m c t) (iblk m c 1 t)) (ix3 0 p q) = _
  unfold k0_pay1
  pointwise
  exact newM_block m c t p q
theorem newV_final : (dats m 0 c).arrAt 7 cfg0.N = newV m c := by
  refine (dats m 0 c).arrAt_eq_of_covers 7 _ (by decide +kernel) fun t hf (y : S1x128x1024.Idx) => ?_
  obtain ⟨p, q, rfl⟩ := layer_spec y
  have he : ((win0_7.blk t).view.emb (ix3 0 p q)) = ix3 0 p q := by
    blk_ext [idx t]
  refine Eq.trans ?_ (congrArg (newV m c) he.symm)
  blk_simp
  rw [after0_7]
  unfold outsAt0
  frame_out
  show k0_pay2 (k0_pay6 (sumBlock m c t) (iblk m c 2 t)) (ix3 0 p q) = _
  unfold k0_pay2
  pointwise
  exact newV_block m c t p q

/-- The reference leaves its arguments as they were. -/
theorem ref_frame (m : (ℓ : Loc Cert.OutArefIdeal.nD Cert.OutArefIdeal.τ Cert.OutArefIdeal.sig) → Buf (Elt Ideal) ℓ)
    (ρ : Dev Cert.OutArefIdeal.nD → PrngReg) :
    θ_run Cert.OutArefIdeal.defs (onTc (τ := Cert.OutArefIdeal.τ) (Cert.OutArefIdeal.main (F := Ideal))) ⟨m, fun _ => 0, ρ⟩ (fun r => (∀ c : Dev Cert.OutArefIdeal.nD,
      r.2.mem ((c.tc : Thread Cert.OutArefIdeal.nD Cert.OutArefIdeal.τ).loc Cert.OutArefIdeal.main_arg0) = m ((c.tc : Thread Cert.OutArefIdeal.nD Cert.OutArefIdeal.τ).loc Cert.OutArefIdeal.main_arg0)
      ∧ r.2.mem ((c.tc : Thread Cert.OutArefIdeal.nD Cert.OutArefIdeal.τ).loc Cert.OutArefIdeal.main_arg1) = m ((c.tc : Thread Cert.OutArefIdeal.nD Cert.OutArefIdeal.τ).loc Cert.OutArefIdeal.main_arg1)
      ∧ r.2.mem ((c.tc : Thread Cert.OutArefIdeal.nD Cert.OutArefIdeal.τ).loc Cert.OutArefIdeal.main_arg2) = m ((c.tc : Thread Cert.OutArefIdeal.nD Cert.OutArefIdeal.τ).loc Cert.OutArefIdeal.main_arg2)
      ∧ r.2.mem ((c.tc : Thread Cert.OutArefIdeal.nD Cert.OutArefIdeal.τ).loc Cert.OutArefIdeal.main_arg3) = m ((c.tc : Thread Cert.OutArefIdeal.nD Cert.OutArefIdeal.τ).loc Cert.OutArefIdeal.main_arg3))
      ∧ r.2.sem = fun _ => 0) :=
  (θ_run _ _ _).mono (fun r h => ⟨fun c => (h c).2.2.2.2, sem_eq_zero_of_no_sems (by decide) r.2⟩) (Cert.OutArefIdeal.Value.run (F := Ideal) m ρ)

set_option maxHeartbeats 4000000 in
/-- The kernel and the reference leave the same gradient, change of the weight and moments. -/
theorem algebraic : Cert.algebraic_OutAdamIdeal_OutArefIdeal := by
  intro m g m' g' _ hagree
  refine ⟨fun c => grad m c, fun c => delta m c, fun c => newM m c, fun c => newV m c,
    (θ_run _ _ _).mono (fun r h c => ⟨(h c).1.trans (grad_final m c), (h c).2.1.trans (delta_final m c), (h c).2.2.1.trans (newM_final m c), (h c).2.2.2.1.trans (newV_final m c), (h c).2.2.2.2⟩) (Cert.OutAdamIdeal.Value.run_blocks m g),
    (θ_run _ _ _).mono (fun r h c => ?_) (Cert.OutArefIdeal.Value.run (F := Ideal) m' g')⟩
  obtain ⟨e0, e1, e2, e3⟩ := hagree c
  refine ⟨(h c).1.trans ?_, (h c).2.1.trans ?_, (h c).2.2.1.trans ?_, (h c).2.2.2.1.trans ?_, (h c).2.2.2.2⟩
  · simp only [e0, e1, e2, e3]
    rfl
  · simp only [e0, e1, e2, e3]
    rfl
  · simp only [e0, e1, e2, e3]
    rfl
  · simp only [e0, e1, e2, e3]
    rfl

end Cert.Proof.OutAdam

end
-- ==== Proof.UpRunIdeal.lean ====
/- The optimiser's step for the weight of an MLP's up projection, over exact numbers: every run ends, with the arguments as they were and
   every output block holding what the grid step of its layer stored.

   A grid step of the first layer runs the first branch of the body, a grid step of the second layer the second; both store
   every output block whole. -/
module

public import proofs.«01_k».proof.Proof.Gen.UpAdamIdeal.Frame.RunB
public import Idealize.ShloMosaic.Lib.Claim

@[expose] public section

set_option maxRecDepth 16384

noncomputable section

namespace Cert.Proof.UpRunIdeal

open Cert.UpAdamIdeal Cert.UpAdamIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg) (c : Dev nD) (t : Fin cfg0.N)

/-! ## What a grid step leaves -/

/-- The grid steps of the first layer are not those of the second, -/
theorem not_second (h : t.val < 4) : ¬cond0_1 (grid0.coords t) := fun h' => by
  have := (hcond0_1 t).mp h'
  omega
/-- and every other step is one of the second. -/
theorem second (h : ¬t.val < 4) : cond0_1 (grid0.coords t) := (hcond0_1 t).mpr (by omega)
theorem not_first (h : ¬t.val < 4) : ¬cond0_0 (grid0.coords t) := fun h' => h ((hcond0_0 t).mp h')

/-- The body's run at a step of the first layer, -/
def runA (h : t.val < 4) := kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h) (not_second t h) (iblk m c 0 t) (iblk m c 1 t) (iblk m c 2 t) (iblk m c 3 t) (iblk m c 4 t)
/-- and of the second. -/
def runB (h : ¬t.val < 4) := kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (not_first t h) (second t h) (iblk m c 0 t) (iblk m c 1 t) (iblk m c 2 t) (iblk m c 3 t) (iblk m c 4 t)

theorem coverA0 (h : t.val < 4) (y : S1x176x1024.Idx) : ∃ pc ∈ (runA m c t h).1, y ∈ pc.1.set :=
  View.cover_of_tiledL (runA m c t h).1 S1x176x1024.size (by unfold runA; sl_kernel_rfl) y
theorem coverA1 (h : t.val < 4) (y : S1x176x1024.Idx) : ∃ pc ∈ (runA m c t h).2.1, y ∈ pc.1.set :=
  View.cover_of_tiledL (runA m c t h).2.1 S1x176x1024.size (by unfold runA; sl_kernel_rfl) y
theorem coverA2 (h : t.val < 4) (y : S1x176x1024.Idx) : ∃ pc ∈ (runA m c t h).2.2.1, y ∈ pc.1.set :=
  View.cover_of_tiledL (runA m c t h).2.2.1 S1x176x1024.size (by unfold runA; sl_kernel_rfl) y
theorem coverA3 (h : t.val < 4) (y : S1x176x1024.Idx) : ∃ pc ∈ (runA m c t h).2.2.2.1, y ∈ pc.1.set :=
  View.cover_of_tiledL (runA m c t h).2.2.2.1 S1x176x1024.size (by unfold runA; sl_kernel_rfl) y
def outA0 (h : t.val < 4) : Vec F S1x176x1024 .f32 := VO0_5.read (Elt F) (VO0_5.writes (Elt F) VO0_5.junk (runA m c t h).1)
def outA1 (h : t.val < 4) : Vec F S1x176x1024 .f32 := VO0_6.read (Elt F) (VO0_6.writes (Elt F) VO0_6.junk (runA m c t h).2.1)
def outA2 (h : t.val < 4) : Vec F S1x176x1024 .f32 := VO0_7.read (Elt F) (VO0_7.writes (Elt F) VO0_7.junk (runA m c t h).2.2.1)
def outA3 (h : t.val < 4) : Vec F S1x176x1024 .f32 := VO0_8.read (Elt F) (VO0_8.writes (Elt F) VO0_8.junk (runA m c t h).2.2.2.1)
theorem coverB0 (h : ¬t.val < 4) (y : S1x176x1024.Idx) : ∃ pc ∈ (runB m c t h).1, y ∈ pc.1.set :=
  View.cover_of_tiledL (runB m c t h).1 S1x176x1024.size (by unfold runB; sl_kernel_rfl) y
theorem coverB1 (h : ¬t.val < 4) (y : S1x176x1024.Idx) : ∃ pc ∈ (runB m c t h).2.1, y ∈ pc.1.set :=
  View.cover_of_tiledL (runB m c t h).2.1 S1x176x1024.size (by unfold runB; sl_kernel_rfl) y
theorem coverB2 (h : ¬t.val < 4) (y : S1x176x1024.Idx) : ∃ pc ∈ (runB m c t h).2.2.1, y ∈ pc.1.set :=
  View.cover_of_tiledL (runB m c t h).2.2.1 S1x176x1024.size (by unfold runB; sl_kernel_rfl) y
theorem coverB3 (h : ¬t.val < 4) (y : S1x176x1024.Idx) : ∃ pc ∈ (runB m c t h).2.2.2.1, y ∈ pc.1.set :=
  View.cover_of_tiledL (runB m c t h).2.2.2.1 S1x176x1024.size (by unfold runB; sl_kernel_rfl) y
def outB0 (h : ¬t.val < 4) : Vec F S1x176x1024 .f32 := VO0_5.read (Elt F) (VO0_5.writes (Elt F) VO0_5.junk (runB m c t h).1)
def outB1 (h : ¬t.val < 4) : Vec F S1x176x1024 .f32 := VO0_6.read (Elt F) (VO0_6.writes (Elt F) VO0_6.junk (runB m c t h).2.1)
def outB2 (h : ¬t.val < 4) : Vec F S1x176x1024 .f32 := VO0_7.read (Elt F) (VO0_7.writes (Elt F) VO0_7.junk (runB m c t h).2.2.1)
def outB3 (h : ¬t.val < 4) : Vec F S1x176x1024 .f32 := VO0_8.read (Elt F) (VO0_8.writes (Elt F) VO0_8.junk (runB m c t h).2.2.2.1)
def outs0 : Vec F S1x176x1024 .f32 := if h : t.val < 4 then outA0 m c t h else outB0 m c t h
theorem outs0_A (h : t.val < 4) : outs0 m c t = outA0 m c t h := dif_pos h
theorem outs0_B (h : ¬t.val < 4) : outs0 m c t = outB0 m c t h := dif_neg h
def outs1 : Vec F S1x176x1024 .f32 := if h : t.val < 4 then outA1 m c t h else outB1 m c t h
theorem outs1_A (h : t.val < 4) : outs1 m c t = outA1 m c t h := dif_pos h
theorem outs1_B (h : ¬t.val < 4) : outs1 m c t = outB1 m c t h := dif_neg h
def outs2 : Vec F S1x176x1024 .f32 := if h : t.val < 4 then outA2 m c t h else outB2 m c t h
theorem outs2_A (h : t.val < 4) : outs2 m c t = outA2 m c t h := dif_pos h
theorem outs2_B (h : ¬t.val < 4) : outs2 m c t = outB2 m c t h := dif_neg h
def outs3 : Vec F S1x176x1024 .f32 := if h : t.val < 4 then outA3 m c t h else outB3 m c t h
theorem outs3_A (h : t.val < 4) : outs3 m c t = outA3 m c t h := dif_pos h
theorem outs3_B (h : ¬t.val < 4) : outs3 m c t = outB3 m c t h := dif_neg h

/-! ## The proof data -/

/-- The arrays as they stand before the grid, and every window's block after every step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outs0 m c t
    | ⟨6, _⟩ => outs1 m c t
    | ⟨7, _⟩ => outs2 m c t
    | ⟨8, _⟩ => outs3 m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outs0 m c t := by dsimp only [dats]
theorem after0_6 (c : Dev nD) (t : Fin cfg0.N) : (dats m 0 c).after 6 t = outs1 m c t := by dsimp only [dats]
theorem after0_7 (c : Dev nD) (t : Fin cfg0.N) : (dats m 0 c).after 7 t = outs2 m c t := by dsimp only [dats]
theorem after0_8 (c : Dev nD) (t : Fin cfg0.N) : (dats m 0 c).after 8 t = outs3 m c t := by dsimp only [dats]
theorem before0_0 (d) : (dats m 0 c).before 0 t d = iblk m c 0 t :=
  before0_0_of m (dats m 0 c) (A_eq m c 0) (after0_0 m c) t d
theorem before0_1 (d) : (dats m 0 c).before 1 t d = iblk m c 1 t :=
  before0_1_of m (dats m 0 c) (A_eq m c 1) (after0_1 m c) t d
theorem before0_2 (d) : (dats m 0 c).before 2 t d = iblk m c 2 t :=
  before0_2_of m (dats m 0 c) (A_eq m c 2) (after0_2 m c) t d
theorem before0_3 (d) : (dats m 0 c).before 3 t d = iblk m c 3 t :=
  before0_3_of m (dats m 0 c) (A_eq m c 3) (after0_3 m c) t d
theorem before0_4 (d) : (dats m 0 c).before 4 t d = iblk m c 4 t :=
  before0_4_of m (dats m 0 c) (A_eq m c 4) (after0_4 m c) t d

/-! ## The body at a grid step -/

/-- What a grid step starts with -/
def bodyPre : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))
/-- and what it ends with. -/
def bodyPost : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0 : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves1 : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves2 : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves3 : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves4 : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves5 : (dats m 0 c).leavesExact 5 t = owns (c : Thread nD τ) (ms0_5 t) fullShare (outs0 m c t) := by
  have hl : cfg0.idle 5 (grid0.coords t) = false := by
    by_cases h : t.val < 4
    · exact liveAt0_5_A t ((hcond0_0 t).mpr h) (not_second t h)
    · exact liveAt0_5_B t (not_first t h) (second t h)
  rw [show (dats m 0 c).leavesExact 5 t = owns (c : Thread nD τ) (ms0_5 t) fullShare ((dats m 0 c).after 5 t) from by
    unfold Dat.leavesExact; rw [hl], after0_5]
theorem leaves6 : (dats m 0 c).leavesExact 6 t = owns (c : Thread nD τ) (ms0_6 t) fullShare (outs1 m c t) := by
  have hl : cfg0.idle 6 (grid0.coords t) = false := by
    by_cases h : t.val < 4
    · exact liveAt0_6_A t ((hcond0_0 t).mpr h) (not_second t h)
    · exact liveAt0_6_B t (not_first t h) (second t h)
  rw [show (dats m 0 c).leavesExact 6 t = owns (c : Thread nD τ) (ms0_6 t) fullShare ((dats m 0 c).after 6 t) from by
    unfold Dat.leavesExact; rw [hl], after0_6]
theorem leaves7 : (dats m 0 c).leavesExact 7 t = owns (c : Thread nD τ) (ms0_7 t) fullShare (outs2 m c t) := by
  have hl : cfg0.idle 7 (grid0.coords t) = false := by
    by_cases h : t.val < 4
    · exact liveAt0_7_A t ((hcond0_0 t).mpr h) (not_second t h)
    · exact liveAt0_7_B t (not_first t h) (second t h)
  rw [show (dats m 0 c).leavesExact 7 t = owns (c : Thread nD τ) (ms0_7 t) fullShare ((dats m 0 c).after 7 t) from by
    unfold Dat.leavesExact; rw [hl], after0_7]
theorem leaves8 : (dats m 0 c).leavesExact 8 t = owns (c : Thread nD τ) (ms0_8 t) fullShare (outs3 m c t) := by
  have hl : cfg0.idle 8 (grid0.coords t) = false := by
    by_cases h : t.val < 4
    · exact liveAt0_8_A t ((hcond0_0 t).mpr h) (not_second t h)
    · exact liveAt0_8_B t (not_first t h) (second t h)
  rw [show (dats m 0 c).leavesExact 8 t = owns (c : Thread nD τ) (ms0_8 t) fullShare ((dats m 0 c).after 8 t) from by
    unfold Dat.leavesExact; rw [hl], after0_8]

set_option maxHeartbeats 1600000 in
/-- The body turns the one into the other. -/
theorem sound_body : bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    leaves0, leaves1, leaves2, leaves3, leaves4, leaves5, leaves6, leaves7, leaves8]
  by_cases h : t.val < 4
  · rw [outs0_A m c t h, outs1_A m c t h, outs2_A m c t h, outs3_A m c t h]
    unfold outA0 outA1 outA2 outA3
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA m c t h).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, ⟨%e5, H5⟩, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverA0 m c t h)
    isplitl [H6]
    · unfold owns; iexists _; isplitr
      swap; · iexact H6
      ipureintro; exact View.read_writes_of_cover _ _ _ _ _ (coverA1 m c t h)
    isplitl [H7]
    · unfold owns; iexists _; isplitr
      swap; · iexact H7
      ipureintro; exact View.read_writes_of_cover _ _ _ _ _ (coverA2 m c t h)
    unfold owns; iexists _; isplitr
    swap; · iexact H8
    ipureintro; exact View.read_writes_of_cover _ _ _ _ _ (coverA3 m c t h)
  · rw [outs0_B m c t h, outs1_B m c t h, outs2_B m c t h, outs3_B m c t h]
    unfold outB0 outB1 outB2 outB3
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB m c t h).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, ⟨%e5, H5⟩, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverB0 m c t h)
    isplitl [H6]
    · unfold owns; iexists _; isplitr
      swap; · iexact H6
      ipureintro; exact View.read_writes_of_cover _ _ _ _ _ (coverB1 m c t h)
    isplitl [H7]
    · unfold owns; iexists _; isplitr
      swap; · iexact H7
      ipureintro; exact View.read_writes_of_cover _ _ _ _ _ (coverB2 m c t h)
    unfold owns; iexists _; isplitr
    swap; · iexact H8
    ipureintro; exact View.read_writes_of_cover _ _ _ _ _ (coverB3 m c t h)

theorem defs₀_row : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every run ends, with every array as the proof data say and nothing left signalled. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
theorem run_main : θ_run defs (onTc (τ := τ) (main (F := F))) (s₀ m ρ) (Pipeline.FramePost cfgs (dats m) 0 (V m)) :=
  (θ_run defs _ _).mono (fun _ h => h.1) (run_quiescent m ρ)
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)
/-- The arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_quiescent m ρ))
/-- The results are the proof data's arrays. -/
theorem run_blocks : θ_run defs (onTc (τ := τ) (main (F := F))) ⟨m, fun _ => 0, ρ⟩ (fun r => ∀ c : Dev nD,
      r.2.mem ((c.tc : Thread nD τ).loc main_v3_0) = (dats m 0 c).arrAt 5 cfg0.N
      ∧ r.2.mem ((c.tc : Thread nD τ).loc main_v3_1) = (dats m 0 c).arrAt 6 cfg0.N
      ∧ r.2.mem ((c.tc : Thread nD τ).loc main_v3_2) = (dats m 0 c).arrAt 7 cfg0.N
      ∧ r.2.mem ((c.tc : Thread nD τ).loc main_v3_3) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.2 c).1 5, (h.2 c).1 6, (h.2 c).1 7, (h.2 c).1 8, h.1 c⟩)
    (θ_run_and (unchanged m ρ) (run_main m ρ))

end Cert.Proof.UpRunIdeal

end
-- ==== Proof.UpAdam.lean ====
/- The optimiser's step for the MLPs' up projection weight of both layers: the kernel's arrays are the reference's.

   The kernel adds the eight parts of a layer's gradient one after the other and makes the new moments and the change of the
   weight from the sum, a block of rows of one layer at every grid step. -/
module

public import proofs.«01_k».proof.Defs
public import proofs.«01_k».proof.Proof.UpRunIdeal
public import Idealize.ShloMosaic.Lib.Pipeline.Value
public import proofs.«01_k».proof.Proof.Gen.UpArefIdeal.Run
public import Idealize.ShloMosaic.Lib.Pipeline.ValueKit
public import Idealize.ShloMosaic.Lib.Claim

@[expose] public section

set_option maxRecDepth 16384

noncomputable section

namespace Cert.Proof.UpAdam

open Cert.UpAdamIdeal Cert.UpAdamIdeal.Gen Cert.Proof.UpRunIdeal
open Idealize.ShloMosaic Idealize.ShloMosaic.TcCoe Idealize.ShloMosaic.Tactic Idealize.SL.Sem

theorem idx : ∀ t : Fin cfg0.N, win0_0.index t = ![t.val / 4, t.val % 4, 0] ∧ win0_1.index t = ![t.val / 4, t.val % 4, 0] ∧ win0_2.index t = ![t.val / 4, t.val % 4, 0]
    ∧ win0_3.index t = ![0, min t.val 3, 0] ∧ win0_4.index t = ![0, t.val - 4, 0] ∧ win0_5.index t = ![t.val / 4, t.val % 4, 0] ∧ win0_6.index t = ![t.val / 4, t.val % 4, 0]
    ∧ win0_7.index t = ![t.val / 4, t.val % 4, 0] ∧ win0_8.index t = ![t.val / 4, t.val % 4, 0] := by
  decide +kernel

/-- The layer of grid step `t`, -/
def layer (t : Fin cfg0.N) : Fin 2 := ⟨t.val / 4, by have : t.val < 8 := t.isLt; omega⟩
/-- and row `p` of its block in the layer's array. -/
def row (t : Fin cfg0.N) (p : Fin 176) : Fin 704 := ⟨t.val % 4 * 176 + p.val, by omega⟩
theorem layer_first (t : Fin cfg0.N) (h : t.val < 4) : layer t = 0 :=
  Fin.ext (by have : t.val < 8 := t.isLt; show t.val / 4 = 0; omega)
theorem layer_second (t : Fin cfg0.N) (h : ¬t.val < 4) : layer t = 1 :=
  Fin.ext (by have : t.val < 8 := t.isLt; show t.val / 4 = 1; omega)

variable (m : (ℓ : Loc nD τ sig) → Buf (Elt Ideal) ℓ) (c : Dev nD)

/-! ## The reference's arrays -/

/-- The weight and its two moments, transposed, -/
def w : FVec Ideal Cert.UpArefIdeal.S2x704x1024 .f32 := transpose Cert.UpArefIdeal.S2x704x1024 [0, 2, 1] (m ((c.tc : Thread nD τ).loc main_arg0)) Cert.UpArefIdeal.Gen.transposes_S2x1024x704_S2x704x1024_0_2_1
def mom : FVec Ideal Cert.UpArefIdeal.S2x704x1024 .f32 := transpose Cert.UpArefIdeal.S2x704x1024 [0, 2, 1] (m ((c.tc : Thread nD τ).loc main_arg1)) Cert.UpArefIdeal.Gen.transposes_S2x1024x704_S2x704x1024_0_2_1
def var : FVec Ideal Cert.UpArefIdeal.S2x704x1024 .f32 := transpose Cert.UpArefIdeal.S2x704x1024 [0, 2, 1] (m ((c.tc : Thread nD τ).loc main_arg2)) Cert.UpArefIdeal.Gen.transposes_S2x1024x704_S2x704x1024_0_2_1
/-- the parts of each layer's gradient, -/
abbrev parts0 : FVec Ideal Cert.UpArefIdeal.S8x704x1024 .bf16 := m ((c.tc : Thread nD τ).loc main_arg3)
abbrev parts1 : FVec Ideal Cert.UpArefIdeal.S8x704x1024 .bf16 := m ((c.tc : Thread nD τ).loc main_arg4)
/-- a number everywhere, -/
def num (b : BitVec 32) : FVec Ideal Cert.UpArefIdeal.S2x704x1024 .f32 := broadcastInDim Cert.UpArefIdeal.S2x704x1024 ![] Cert.UpArefIdeal.Gen.bcast_S_S2x704x1024 (constant Cert.UpArefIdeal.S_ .f32 b)
/-- the sums of the parts, -/
def sum0 : FVec Ideal Cert.UpArefIdeal.S1x704x1024 .f32 := broadcastInDim Cert.UpArefIdeal.S1x704x1024 ![1, 2] Cert.UpArefIdeal.Gen.bcast_S704x1024_S1x704x1024_1_2
  (Host.reduceAdd (extf .f32 (parts0 m c) Cert.UpArefIdeal.Gen.bitsLt_bf16_f32) (constant Cert.UpArefIdeal.S_ .f32 0x00000000#32) Cert.UpArefIdeal.Gen.reducesTo_S8x704x1024_S704x1024_d0 Cert.UpArefIdeal.Gen.h_S_)
def sum1 : FVec Ideal Cert.UpArefIdeal.S1x704x1024 .f32 := broadcastInDim Cert.UpArefIdeal.S1x704x1024 ![1, 2] Cert.UpArefIdeal.Gen.bcast_S704x1024_S1x704x1024_1_2
  (Host.reduceAdd (extf .f32 (parts1 m c) Cert.UpArefIdeal.Gen.bitsLt_bf16_f32) (constant Cert.UpArefIdeal.S_ .f32 0x00000000#32) Cert.UpArefIdeal.Gen.reducesTo_S8x704x1024_S704x1024_d0 Cert.UpArefIdeal.Gen.h_S_)
/-- one layer on the other, -/
def grad : FVec Ideal Cert.UpArefIdeal.S2x704x1024 .f32 := concatenate Cert.UpArefIdeal.S2x704x1024 0 [⟨Cert.UpArefIdeal.S1x704x1024, sum0 m c⟩, ⟨Cert.UpArefIdeal.S1x704x1024, sum1 m c⟩]
  Cert.UpArefIdeal.Gen.concatenates_S1x704x1024_S1x704x1024_S2x704x1024_d0
/-- the new first moment, -/
def newM : FVec Ideal Cert.UpArefIdeal.S2x704x1024 .f32 := addf (mulf (num 0x3F666666#32) (mom m c)) (mulf (num 0x3DCCCCCD#32) (grad m c))
/-- the new second moment -/
def newV : FVec Ideal Cert.UpArefIdeal.S2x704x1024 .f32 := addf (mulf (num 0x3F7FBE77#32) (var m c)) (mulf (num 0x3A83126F#32) (mulf (grad m c) (grad m c)))
/-- and the change of the weight. -/
def delta : FVec Ideal Cert.UpArefIdeal.S2x704x1024 .f32 := mulf (num 0xBA83126F#32) (addf (Host.divf (Host.divf (newM m c) (num 0x3F26BD02#32))
  (addf (Host.sqrt (Host.divf (newV m c) (num 0x3C231ACC#32))) (num 0x322BCC77#32))) (mulf (num 0x3C23D70A#32) (w m c)))

theorem num_apply (b : BitVec 32) (i : Cert.UpArefIdeal.S2x704x1024.Idx) : num b i = Ideal.ofBits .f32 b := by
  unfold num
  pointwise
theorem sum0_apply (a : Fin 1) (i : Fin 704) (j : Fin 1024) : sum0 m c (ix3 a i j) = ∑ k : Fin 8, (parts0 m c (ix3 k i j) : EReal) := by
  unfold sum0
  pointwise
theorem grad_apply0 (i : Fin 704) (j : Fin 1024) : grad m c (ix3 0 i j) = ∑ k : Fin 8, (parts0 m c (ix3 k i j) : EReal) := by
  refine Eq.trans ?_ (sum0_apply m c 0 i j)
  unfold grad
  pointwise
theorem sum1_apply (a : Fin 1) (i : Fin 704) (j : Fin 1024) : sum1 m c (ix3 a i j) = ∑ k : Fin 8, (parts1 m c (ix3 k i j) : EReal) := by
  unfold sum1
  pointwise
theorem grad_apply1 (i : Fin 704) (j : Fin 1024) : grad m c (ix3 1 i j) = ∑ k : Fin 8, (parts1 m c (ix3 k i j) : EReal) := by
  refine Eq.trans ?_ (sum1_apply m c 0 i j)
  unfold grad
  pointwise
/-- An index of a block. -/
theorem block_spec (y : S1x176x1024.Idx) : ∃ (p : Fin 176) (q : Fin 1024), y = ix3 0 p q := by
  refine ⟨y 1, y 2, ?_⟩
  funext a
  fin_cases a
  · exact Fin.ext (by have h : (y 0).val < 1 := (y 0).isLt; show (y 0).val = 0; omega)
  · rfl
  · rfl

/-! ## The blocks the kernel reads -/

variable (t : Fin cfg0.N)

theorem w_array : V m c main_v0 = w m c := by
  entry_read; rfl
theorem w_block (p : Fin 176) (k : Fin 1024) : iblk m c 0 t (ix3 0 p k) = w m c (ix3 (layer t) (row t p) k) := by
  have he : ((win0_0.blk t).view.emb (ix3 0 p k)) = ix3 (layer t) (row t p) k := by
    blk_ext [idx t, layer, row]
  show V m c main_v0 ((win0_0.blk t).view.emb (ix3 0 p k)) = _
  rw [w_array, he]
theorem mom_array : V m c main_v1 = mom m c := by
  entry_read; rfl
theorem mom_block (p : Fin 176) (k : Fin 1024) : iblk m c 1 t (ix3 0 p k) = mom m c (ix3 (layer t) (row t p) k) := by
  have he : ((win0_1.blk t).view.emb (ix3 0 p k)) = ix3 (layer t) (row t p) k := by
    blk_ext [idx t, layer, row]
  show V m c main_v1 ((win0_1.blk t).view.emb (ix3 0 p k)) = _
  rw [mom_array, he]
theorem var_array : V m c main_v2 = var m c := by
  entry_read; rfl
theorem var_block (p : Fin 176) (k : Fin 1024) : iblk m c 2 t (ix3 0 p k) = var m c (ix3 (layer t) (row t p) k) := by
  have he : ((win0_2.blk t).view.emb (ix3 0 p k)) = ix3 (layer t) (row t p) k := by
    blk_ext [idx t, layer, row]
  show V m c main_v2 ((win0_2.blk t).view.emb (ix3 0 p k)) = _
  rw [var_array, he]

theorem parts0_block (h : t.val < 4) (a : Fin 8) (p : Fin 176) (k : Fin 1024) : iblk m c 3 t (ix3 a p k) = parts0 m c (ix3 a (row t p) k) := by
  have he : ((win0_3.blk t).view.emb (ix3 a p k)) = ix3 a (row t p) k := by
    have h' : min t.val 3 = t.val % 4 := by have : t.val < 8 := t.isLt; omega
    blk_ext [idx t, row, h']
  show V m c main_arg3 ((win0_3.blk t).view.emb (ix3 a p k)) = _
  rw [V_main_arg3, he]
theorem parts1_block (h : ¬t.val < 4) (a : Fin 8) (p : Fin 176) (k : Fin 1024) : iblk m c 4 t (ix3 a p k) = parts1 m c (ix3 a (row t p) k) := by
  have he : ((win0_4.blk t).view.emb (ix3 a p k)) = ix3 a (row t p) k := by
    have h' : t.val - 4 = t.val % 4 := by have : t.val < 8 := t.isLt; omega
    blk_ext [idx t, row, h']
  show V m c main_arg4 ((win0_4.blk t).view.emb (ix3 a p k)) = _
  rw [V_main_arg4, he]

/-! ### In the first layer -/

/-- The kernel's sum of the parts -/
def sumBlock0 : FVec Ideal S176x1024 .f32 :=
  k0_pay5 (View.ld (iblk m c 3 t) (Rect.unit ![0, 0, 0] ![1, 176, 1024] inb_S8x176x1024_S1x176x1024_0_0_0))
    (View.ld (iblk m c 3 t) (Rect.unit ![1, 0, 0] ![1, 176, 1024] inb_S8x176x1024_S1x176x1024_1_0_0))
    (View.ld (iblk m c 3 t) (Rect.unit ![2, 0, 0] ![1, 176, 1024] inb_S8x176x1024_S1x176x1024_2_0_0))
    (View.ld (iblk m c 3 t) (Rect.unit ![3, 0, 0] ![1, 176, 1024] inb_S8x176x1024_S1x176x1024_3_0_0))
    (View.ld (iblk m c 3 t) (Rect.unit ![4, 0, 0] ![1, 176, 1024] inb_S8x176x1024_S1x176x1024_4_0_0))
    (View.ld (iblk m c 3 t) (Rect.unit ![5, 0, 0] ![1, 176, 1024] inb_S8x176x1024_S1x176x1024_5_0_0))
    (View.ld (iblk m c 3 t) (Rect.unit ![6, 0, 0] ![1, 176, 1024] inb_S8x176x1024_S1x176x1024_6_0_0))
    (View.ld (iblk m c 3 t) (Rect.unit ![7, 0, 0] ![1, 176, 1024] inb_S8x176x1024_S1x176x1024_7_0_0))
/-- is the reference's; -/
theorem grad_block0 (h : t.val < 4) (p : Fin 176) (q : Fin 1024) : sumBlock0 m c t (ix2 p q) = grad m c (ix3 (layer t) (row t p) q) := by
  rw [layer_first t h, grad_apply0]
  refine Eq.trans ?_ (Fin.sum_univ_eight _).symm
  unfold sumBlock0 k0_pay5
  pointwise
  simp only [parts0_block m c t h]
/-- so are the moments made of it -/
theorem newM_block0 (h : t.val < 4) (p : Fin 176) (q : Fin 1024) : k0_pay7 (sumBlock0 m c t) (iblk m c 1 t) (ix2 p q) = newM m c (ix3 (layer t) (row t p) q) := by
  unfold k0_pay7 newM
  pointwise
  simp only [grad_block0 m c t h, mom_block, num_apply]
theorem newV_block0 (h : t.val < 4) (p : Fin 176) (q : Fin 1024) : k0_pay8 (sumBlock0 m c t) (iblk m c 2 t) (ix2 p q) = newV m c (ix3 (layer t) (row t p) q) := by
  unfold k0_pay8 newV
  pointwise
  simp only [grad_block0 m c t h, var_block, num_apply]
/-- and the change of the weight. -/
theorem delta_block0 (h : t.val < 4) (p : Fin 176) (q : Fin 1024) :
    k0_pay9 (sumBlock0 m c t) (iblk m c 0 t) (iblk m c 1 t) (iblk m c 2 t) (ix3 0 p q) = delta m c (ix3 (layer t) (row t p) q) := by
  unfold k0_pay9 delta
  pointwise
  simp only [newM_block0 m c t h, newV_block0 m c t h, w_block, num_apply]

/-! ### In the second layer -/

/-- The kernel's sum of the parts -/
def sumBlock1 : FVec Ideal S176x1024 .f32 :=
  k0_pay10 (View.ld (iblk m c 4 t) (Rect.unit ![0, 0, 0] ![1, 176, 1024] inb_S8x176x1024_S1x176x1024_0_0_0))
    (View.ld (iblk m c 4 t) (Rect.unit ![1, 0, 0] ![1, 176, 1024] inb_S8x176x1024_S1x176x1024_1_0_0))
    (View.ld (iblk m c 4 t) (Rect.unit ![2, 0, 0] ![1, 176, 1024] inb_S8x176x1024_S1x176x1024_2_0_0))
    (View.ld (iblk m c 4 t) (Rect.unit ![3, 0, 0] ![1, 176, 1024] inb_S8x176x1024_S1x176x1024_3_0_0))
    (View.ld (iblk m c 4 t) (Rect.unit ![4, 0, 0] ![1, 176, 1024] inb_S8x176x1024_S1x176x1024_4_0_0))
    (View.ld (iblk m c 4 t) (Rect.unit ![5, 0, 0] ![1, 176, 1024] inb_S8x176x1024_S1x176x1024_5_0_0))
    (View.ld (iblk m c 4 t) (Rect.unit ![6, 0, 0] ![1, 176, 1024] inb_S8x176x1024_S1x176x1024_6_0_0))
    (View.ld (iblk m c 4 t) (Rect.unit ![7, 0, 0] ![1, 176, 1024] inb_S8x176x1024_S1x176x1024_7_0_0))
/-- is the reference's; -/
theorem grad_block1 (h : ¬t.val < 4) (p : Fin 176) (q : Fin 1024) : sumBlock1 m c t (ix2 p q) = grad m c (ix3 (layer t) (row t p) q) := by
  rw [layer_second t h, grad_apply1]
  refine Eq.trans ?_ (Fin.sum_univ_eight _).symm
  unfold sumBlock1 k0_pay10
  pointwise
  simp only [parts1_block m c t h]
/-- so are the moments made of it -/
theorem newM_block1 (h : ¬t.val < 4) (p : Fin 176) (q : Fin 1024) : k0_pay12 (sumBlock1 m c t) (iblk m c 1 t) (ix2 p q) = newM m c (ix3 (layer t) (row t p) q) := by
  unfold k0_pay12 newM
  pointwise
  simp only [grad_block1 m c t h, mom_block, num_apply]
theorem newV_block1 (h : ¬t.val < 4) (p : Fin 176) (q : Fin 1024) : k0_pay13 (sumBlock1 m c t) (iblk m c 2 t) (ix2 p q) = newV m c (ix3 (layer t) (row t p) q) := by
  unfold k0_pay13 newV
  pointwise
  simp only [grad_block1 m c t h, var_block, num_apply]
/-- and the change of the weight. -/
theorem delta_block1 (h : ¬t.val < 4) (p : Fin 176) (q : Fin 1024) :
    k0_pay14 (sumBlock1 m c t) (iblk m c 0 t) (iblk m c 1 t) (iblk m c 2 t) (ix3 0 p q) = delta m c (ix3 (layer t) (row t p) q) := by
  unfold k0_pay14 delta
  pointwise
  simp only [newM_block1 m c t h, newV_block1 m c t h, w_block, num_apply]

/-! ## The arrays the kernel leaves -/

theorem grad_final : (dats m 0 c).arrAt 5 cfg0.N = grad m c := by
  refine (dats m 0 c).arrAt_eq_of_covers 5 _ (by decide +kernel) fun t hf (y : S1x176x1024.Idx) => ?_
  obtain ⟨p, q, rfl⟩ := block_spec y
  have he : ((win0_5.blk t).view.emb (ix3 0 p q)) = ix3 (layer t) (row t p) q := by
    blk_ext [idx t, layer, row]
  refine Eq.trans ?_ (congrArg (grad m c) he.symm)
  blk_simp
  rw [after0_5]
  by_cases h : t.val < 4
  · rw [outs0_A m c t h]
    unfold outA0 runA
    frame_out
    show k0_pay6 (sumBlock0 m c t) (ix3 0 p q) = _
    unfold k0_pay6
    pointwise
    exact grad_block0 m c t h p q
  · rw [outs0_B m c t h]
    unfold outB0 runB
    frame_out
    show k0_pay11 (sumBlock1 m c t) (ix3 0 p q) = _
    unfold k0_pay11
    pointwise
    exact grad_block1 m c t h p q
theorem delta_final : (dats m 0 c).arrAt 6 cfg0.N = delta m c := by
  refine (dats m 0 c).arrAt_eq_of_covers 6 _ (by decide +kernel) fun t hf (y : S1x176x1024.Idx) => ?_
  obtain ⟨p, q, rfl⟩ := block_spec y
  have he : ((win0_6.blk t).view.emb (ix3 0 p q)) = ix3 (layer t) (row t p) q := by
    blk_ext [idx t, layer, row]
  refine Eq.trans ?_ (congrArg (delta m c) he.symm)
  blk_simp
  rw [after0_6]
  by_cases h : t.val < 4
  · rw [outs1_A m c t h]
    unfold outA1 runA
    frame_out
    exact delta_block0 m c t h p q
  · rw [outs1_B m c t h]
    unfold outB1 runB
    frame_out
    exact delta_block1 m c t h p q
theorem newM_final : (dats m 0 c).arrAt 7 cfg0.N = newM m c := by
  refine (dats m 0 c).arrAt_eq_of_covers 7 _ (by decide +kernel) fun t hf (y : S1x176x1024.Idx) => ?_
  obtain ⟨p, q, rfl⟩ := block_spec y
  have he : ((win0_7.blk t).view.emb (ix3 0 p q)) = ix3 (layer t) (row t p) q := by
    blk_ext [idx t, layer, row]
  refine Eq.trans ?_ (congrArg (newM m c) he.symm)
  blk_simp
  rw [after0_7]
  by_cases h : t.val < 4
  · rw [outs2_A m c t h]
    unfold outA2 runA
    frame_out
    show k0_pay1 (k0_pay7 (sumBlock0 m c t) (iblk m c 1 t)) (ix3 0 p q) = _
    unfold k0_pay1
    pointwise
    exact newM_block0 m c t h p q
  · rw [outs2_B m c t h]
    unfold outB2 runB
    frame_out
    show k0_pay3 (k0_pay12 (sumBlock1 m c t) (iblk m c 1 t)) (ix3 0 p q) = _
    unfold k0_pay3
    pointwise
    exact newM_block1 m c t h p q
theorem newV_final : (dats m 0 c).arrAt 8 cfg0.N = newV m c := by
  refine (dats m 0 c).arrAt_eq_of_covers 8 _ (by decide +kernel) fun t hf (y : S1x176x1024.Idx) => ?_
  obtain ⟨p, q, rfl⟩ := block_spec y
  have he : ((win0_8.blk t).view.emb (ix3 0 p q)) = ix3 (layer t) (row t p) q := by
    blk_ext [idx t, layer, row]
  refine Eq.trans ?_ (congrArg (newV m c) he.symm)
  blk_simp
  rw [after0_8]
  by_cases h : t.val < 4
  · rw [outs3_A m c t h]
    unfold outA3 runA
    frame_out
    show k0_pay2 (k0_pay8 (sumBlock0 m c t) (iblk m c 2 t)) (ix3 0 p q) = _
    unfold k0_pay2
    pointwise
    exact newV_block0 m c t h p q
  · rw [outs3_B m c t h]
    unfold outB3 runB
    frame_out
    show k0_pay4 (k0_pay13 (sumBlock1 m c t) (iblk m c 2 t)) (ix3 0 p q) = _
    unfold k0_pay4
    pointwise
    exact newV_block1 m c t h p q

/-- The reference leaves its arguments as they were. -/
theorem ref_frame (m : (ℓ : Loc Cert.UpArefIdeal.nD Cert.UpArefIdeal.τ Cert.UpArefIdeal.sig) → Buf (Elt Ideal) ℓ)
    (ρ : Dev Cert.UpArefIdeal.nD → PrngReg) :
    θ_run Cert.UpArefIdeal.defs (onTc (τ := Cert.UpArefIdeal.τ) (Cert.UpArefIdeal.main (F := Ideal))) ⟨m, fun _ => 0, ρ⟩ (fun r => (∀ c : Dev Cert.UpArefIdeal.nD,
      r.2.mem ((c.tc : Thread Cert.UpArefIdeal.nD Cert.UpArefIdeal.τ).loc Cert.UpArefIdeal.main_arg0) = m ((c.tc : Thread Cert.UpArefIdeal.nD Cert.UpArefIdeal.τ).loc Cert.UpArefIdeal.main_arg0)
      ∧ r.2.mem ((c.tc : Thread Cert.UpArefIdeal.nD Cert.UpArefIdeal.τ).loc Cert.UpArefIdeal.main_arg1) = m ((c.tc : Thread Cert.UpArefIdeal.nD Cert.UpArefIdeal.τ).loc Cert.UpArefIdeal.main_arg1)
      ∧ r.2.mem ((c.tc : Thread Cert.UpArefIdeal.nD Cert.UpArefIdeal.τ).loc Cert.UpArefIdeal.main_arg2) = m ((c.tc : Thread Cert.UpArefIdeal.nD Cert.UpArefIdeal.τ).loc Cert.UpArefIdeal.main_arg2)
      ∧ r.2.mem ((c.tc : Thread Cert.UpArefIdeal.nD Cert.UpArefIdeal.τ).loc Cert.UpArefIdeal.main_arg3) = m ((c.tc : Thread Cert.UpArefIdeal.nD Cert.UpArefIdeal.τ).loc Cert.UpArefIdeal.main_arg3)
      ∧ r.2.mem ((c.tc : Thread Cert.UpArefIdeal.nD Cert.UpArefIdeal.τ).loc Cert.UpArefIdeal.main_arg4) = m ((c.tc : Thread Cert.UpArefIdeal.nD Cert.UpArefIdeal.τ).loc Cert.UpArefIdeal.main_arg4))
      ∧ r.2.sem = fun _ => 0) :=
  (θ_run _ _ _).mono (fun r h => ⟨fun c => (h c).2.2.2.2, sem_eq_zero_of_no_sems (by decide) r.2⟩) (Cert.UpArefIdeal.Value.run (F := Ideal) m ρ)

set_option maxHeartbeats 4000000 in
/-- The kernel and the reference leave the same gradient, change of the weight and moments. -/
theorem algebraic : Cert.algebraic_UpAdamIdeal_UpArefIdeal := by
  intro m g m' g' _ hagree
  refine ⟨fun c => grad m c, fun c => delta m c, fun c => newM m c, fun c => newV m c,
    (θ_run _ _ _).mono (fun r h c => ⟨(h c).1.trans (grad_final m c), (h c).2.1.trans (delta_final m c), (h c).2.2.1.trans (newM_final m c), (h c).2.2.2.1.trans (newV_final m c), (h c).2.2.2.2⟩) (run_blocks m g),
    (θ_run _ _ _).mono (fun r h c => ?_) (Cert.UpArefIdeal.Value.run (F := Ideal) m' g')⟩
  obtain ⟨e0, e1, e2, e3, e4⟩ := hagree c
  refine ⟨(h c).1.trans ?_, (h c).2.1.trans ?_, (h c).2.2.1.trans ?_, (h c).2.2.2.1.trans ?_, (h c).2.2.2.2⟩
  · rw [e3, e4]
    rfl
  · rw [e0, e1, e2, e3, e4]
    rfl
  · rw [e1, e3, e4]
    rfl
  · rw [e2, e3, e4]
    rfl

end Cert.Proof.UpAdam

end
-- ==== Proof.DownRunIdeal.lean ====
/- The optimiser's step for the weight of an MLP's down projection, over exact numbers: every run ends, with the arguments as they were and
   every output block holding what the grid step of its layer stored.

   A grid step of the first layer runs the first branch of the body, a grid step of the second layer the second; both store
   every output block whole. -/
module

public import proofs.«01_k».proof.Proof.Gen.DownAdamIdeal.Frame.RunB
public import Idealize.ShloMosaic.Lib.Claim

@[expose] public section

set_option maxRecDepth 16384

noncomputable section

namespace Cert.Proof.DownRunIdeal

open Cert.DownAdamIdeal Cert.DownAdamIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg) (c : Dev nD) (t : Fin cfg0.N)

/-! ## What a grid step leaves -/

/-- The grid steps of the first layer are not those of the second, -/
theorem not_second (h : t.val % 2 = 0) : ¬cond0_1 (grid0.coords t) := fun h' => by
  have := (hcond0_1 t).mp h'
  omega
/-- and every other step is one of the second. -/
theorem second (h : ¬t.val % 2 = 0) : cond0_1 (grid0.coords t) := (hcond0_1 t).mpr (by omega)
theorem not_first (h : ¬t.val % 2 = 0) : ¬cond0_0 (grid0.coords t) := fun h' => h ((hcond0_0 t).mp h')

/-- The body's run at a step of the first layer, -/
def runA (h : t.val % 2 = 0) := kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h) (not_second t h) (iblk m c 0 t) (iblk m c 1 t) (iblk m c 2 t) (iblk m c 3 t) (iblk m c 4 t)
/-- and of the second. -/
def runB (h : ¬t.val % 2 = 0) := kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (not_first t h) (second t h) (iblk m c 0 t) (iblk m c 1 t) (iblk m c 2 t) (iblk m c 3 t) (iblk m c 4 t)

theorem coverA0 (h : t.val % 2 = 0) (y : S1x352x1024.Idx) : ∃ pc ∈ (runA m c t h).1, y ∈ pc.1.set :=
  View.cover_of_tiledL (runA m c t h).1 S1x352x1024.size (by unfold runA; sl_kernel_rfl) y
theorem coverA1 (h : t.val % 2 = 0) (y : S1x352x1024.Idx) : ∃ pc ∈ (runA m c t h).2.1, y ∈ pc.1.set :=
  View.cover_of_tiledL (runA m c t h).2.1 S1x352x1024.size (by unfold runA; sl_kernel_rfl) y
theorem coverA2 (h : t.val % 2 = 0) (y : S1x352x1024.Idx) : ∃ pc ∈ (runA m c t h).2.2.1, y ∈ pc.1.set :=
  View.cover_of_tiledL (runA m c t h).2.2.1 S1x352x1024.size (by unfold runA; sl_kernel_rfl) y
theorem coverA3 (h : t.val % 2 = 0) (y : S1x352x1024.Idx) : ∃ pc ∈ (runA m c t h).2.2.2.1, y ∈ pc.1.set :=
  View.cover_of_tiledL (runA m c t h).2.2.2.1 S1x352x1024.size (by unfold runA; sl_kernel_rfl) y
def outA0 (h : t.val % 2 = 0) : Vec F S1x352x1024 .f32 := VO0_5.read (Elt F) (VO0_5.writes (Elt F) VO0_5.junk (runA m c t h).1)
def outA1 (h : t.val % 2 = 0) : Vec F S1x352x1024 .f32 := VO0_6.read (Elt F) (VO0_6.writes (Elt F) VO0_6.junk (runA m c t h).2.1)
def outA2 (h : t.val % 2 = 0) : Vec F S1x352x1024 .f32 := VO0_7.read (Elt F) (VO0_7.writes (Elt F) VO0_7.junk (runA m c t h).2.2.1)
def outA3 (h : t.val % 2 = 0) : Vec F S1x352x1024 .f32 := VO0_8.read (Elt F) (VO0_8.writes (Elt F) VO0_8.junk (runA m c t h).2.2.2.1)
theorem coverB0 (h : ¬t.val % 2 = 0) (y : S1x352x1024.Idx) : ∃ pc ∈ (runB m c t h).1, y ∈ pc.1.set :=
  View.cover_of_tiledL (runB m c t h).1 S1x352x1024.size (by unfold runB; sl_kernel_rfl) y
theorem coverB1 (h : ¬t.val % 2 = 0) (y : S1x352x1024.Idx) : ∃ pc ∈ (runB m c t h).2.1, y ∈ pc.1.set :=
  View.cover_of_tiledL (runB m c t h).2.1 S1x352x1024.size (by unfold runB; sl_kernel_rfl) y
theorem coverB2 (h : ¬t.val % 2 = 0) (y : S1x352x1024.Idx) : ∃ pc ∈ (runB m c t h).2.2.1, y ∈ pc.1.set :=
  View.cover_of_tiledL (runB m c t h).2.2.1 S1x352x1024.size (by unfold runB; sl_kernel_rfl) y
theorem coverB3 (h : ¬t.val % 2 = 0) (y : S1x352x1024.Idx) : ∃ pc ∈ (runB m c t h).2.2.2.1, y ∈ pc.1.set :=
  View.cover_of_tiledL (runB m c t h).2.2.2.1 S1x352x1024.size (by unfold runB; sl_kernel_rfl) y
def outB0 (h : ¬t.val % 2 = 0) : Vec F S1x352x1024 .f32 := VO0_5.read (Elt F) (VO0_5.writes (Elt F) VO0_5.junk (runB m c t h).1)
def outB1 (h : ¬t.val % 2 = 0) : Vec F S1x352x1024 .f32 := VO0_6.read (Elt F) (VO0_6.writes (Elt F) VO0_6.junk (runB m c t h).2.1)
def outB2 (h : ¬t.val % 2 = 0) : Vec F S1x352x1024 .f32 := VO0_7.read (Elt F) (VO0_7.writes (Elt F) VO0_7.junk (runB m c t h).2.2.1)
def outB3 (h : ¬t.val % 2 = 0) : Vec F S1x352x1024 .f32 := VO0_8.read (Elt F) (VO0_8.writes (Elt F) VO0_8.junk (runB m c t h).2.2.2.1)
def outs0 : Vec F S1x352x1024 .f32 := if h : t.val % 2 = 0 then outA0 m c t h else outB0 m c t h
theorem outs0_A (h : t.val % 2 = 0) : outs0 m c t = outA0 m c t h := dif_pos h
theorem outs0_B (h : ¬t.val % 2 = 0) : outs0 m c t = outB0 m c t h := dif_neg h
def outs1 : Vec F S1x352x1024 .f32 := if h : t.val % 2 = 0 then outA1 m c t h else outB1 m c t h
theorem outs1_A (h : t.val % 2 = 0) : outs1 m c t = outA1 m c t h := dif_pos h
theorem outs1_B (h : ¬t.val % 2 = 0) : outs1 m c t = outB1 m c t h := dif_neg h
def outs2 : Vec F S1x352x1024 .f32 := if h : t.val % 2 = 0 then outA2 m c t h else outB2 m c t h
theorem outs2_A (h : t.val % 2 = 0) : outs2 m c t = outA2 m c t h := dif_pos h
theorem outs2_B (h : ¬t.val % 2 = 0) : outs2 m c t = outB2 m c t h := dif_neg h
def outs3 : Vec F S1x352x1024 .f32 := if h : t.val % 2 = 0 then outA3 m c t h else outB3 m c t h
theorem outs3_A (h : t.val % 2 = 0) : outs3 m c t = outA3 m c t h := dif_pos h
theorem outs3_B (h : ¬t.val % 2 = 0) : outs3 m c t = outB3 m c t h := dif_neg h

/-! ## The proof data -/

/-- The arrays as they stand before the grid, and every window's block after every step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outs0 m c t
    | ⟨6, _⟩ => outs1 m c t
    | ⟨7, _⟩ => outs2 m c t
    | ⟨8, _⟩ => outs3 m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outs0 m c t := by dsimp only [dats]
theorem after0_6 (c : Dev nD) (t : Fin cfg0.N) : (dats m 0 c).after 6 t = outs1 m c t := by dsimp only [dats]
theorem after0_7 (c : Dev nD) (t : Fin cfg0.N) : (dats m 0 c).after 7 t = outs2 m c t := by dsimp only [dats]
theorem after0_8 (c : Dev nD) (t : Fin cfg0.N) : (dats m 0 c).after 8 t = outs3 m c t := by dsimp only [dats]
theorem before0_0 (d) : (dats m 0 c).before 0 t d = iblk m c 0 t :=
  before0_0_of m (dats m 0 c) (A_eq m c 0) (after0_0 m c) t d
theorem before0_1 (d) : (dats m 0 c).before 1 t d = iblk m c 1 t :=
  before0_1_of m (dats m 0 c) (A_eq m c 1) (after0_1 m c) t d
theorem before0_2 (d) : (dats m 0 c).before 2 t d = iblk m c 2 t :=
  before0_2_of m (dats m 0 c) (A_eq m c 2) (after0_2 m c) t d
theorem before0_3 (d) : (dats m 0 c).before 3 t d = iblk m c 3 t :=
  before0_3_of m (dats m 0 c) (A_eq m c 3) (after0_3 m c) t d
theorem before0_4 (d) : (dats m 0 c).before 4 t d = iblk m c 4 t :=
  before0_4_of m (dats m 0 c) (A_eq m c 4) (after0_4 m c) t d

/-! ## The body at a grid step -/

/-- What a grid step starts with -/
def bodyPre : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))
/-- and what it ends with. -/
def bodyPost : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0 : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves1 : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves2 : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves3 : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves4 : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves5 : (dats m 0 c).leavesExact 5 t = owns (c : Thread nD τ) (ms0_5 t) fullShare (outs0 m c t) := by
  have hl : cfg0.idle 5 (grid0.coords t) = false := by
    by_cases h : t.val % 2 = 0
    · exact liveAt0_5_A t ((hcond0_0 t).mpr h) (not_second t h)
    · exact liveAt0_5_B t (not_first t h) (second t h)
  rw [show (dats m 0 c).leavesExact 5 t = owns (c : Thread nD τ) (ms0_5 t) fullShare ((dats m 0 c).after 5 t) from by
    unfold Dat.leavesExact; rw [hl], after0_5]
theorem leaves6 : (dats m 0 c).leavesExact 6 t = owns (c : Thread nD τ) (ms0_6 t) fullShare (outs1 m c t) := by
  have hl : cfg0.idle 6 (grid0.coords t) = false := by
    by_cases h : t.val % 2 = 0
    · exact liveAt0_6_A t ((hcond0_0 t).mpr h) (not_second t h)
    · exact liveAt0_6_B t (not_first t h) (second t h)
  rw [show (dats m 0 c).leavesExact 6 t = owns (c : Thread nD τ) (ms0_6 t) fullShare ((dats m 0 c).after 6 t) from by
    unfold Dat.leavesExact; rw [hl], after0_6]
theorem leaves7 : (dats m 0 c).leavesExact 7 t = owns (c : Thread nD τ) (ms0_7 t) fullShare (outs2 m c t) := by
  have hl : cfg0.idle 7 (grid0.coords t) = false := by
    by_cases h : t.val % 2 = 0
    · exact liveAt0_7_A t ((hcond0_0 t).mpr h) (not_second t h)
    · exact liveAt0_7_B t (not_first t h) (second t h)
  rw [show (dats m 0 c).leavesExact 7 t = owns (c : Thread nD τ) (ms0_7 t) fullShare ((dats m 0 c).after 7 t) from by
    unfold Dat.leavesExact; rw [hl], after0_7]
theorem leaves8 : (dats m 0 c).leavesExact 8 t = owns (c : Thread nD τ) (ms0_8 t) fullShare (outs3 m c t) := by
  have hl : cfg0.idle 8 (grid0.coords t) = false := by
    by_cases h : t.val % 2 = 0
    · exact liveAt0_8_A t ((hcond0_0 t).mpr h) (not_second t h)
    · exact liveAt0_8_B t (not_first t h) (second t h)
  rw [show (dats m 0 c).leavesExact 8 t = owns (c : Thread nD τ) (ms0_8 t) fullShare ((dats m 0 c).after 8 t) from by
    unfold Dat.leavesExact; rw [hl], after0_8]

set_option maxHeartbeats 1600000 in
/-- The body turns the one into the other. -/
theorem sound_body : bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    leaves0, leaves1, leaves2, leaves3, leaves4, leaves5, leaves6, leaves7, leaves8]
  by_cases h : t.val % 2 = 0
  · rw [outs0_A m c t h, outs1_A m c t h, outs2_A m c t h, outs3_A m c t h]
    unfold outA0 outA1 outA2 outA3
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA m c t h).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, ⟨%e5, H5⟩, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverA0 m c t h)
    isplitl [H6]
    · unfold owns; iexists _; isplitr
      swap; · iexact H6
      ipureintro; exact View.read_writes_of_cover _ _ _ _ _ (coverA1 m c t h)
    isplitl [H7]
    · unfold owns; iexists _; isplitr
      swap; · iexact H7
      ipureintro; exact View.read_writes_of_cover _ _ _ _ _ (coverA2 m c t h)
    unfold owns; iexists _; isplitr
    swap; · iexact H8
    ipureintro; exact View.read_writes_of_cover _ _ _ _ _ (coverA3 m c t h)
  · rw [outs0_B m c t h, outs1_B m c t h, outs2_B m c t h, outs3_B m c t h]
    unfold outB0 outB1 outB2 outB3
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB m c t h).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, ⟨%e5, H5⟩, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverB0 m c t h)
    isplitl [H6]
    · unfold owns; iexists _; isplitr
      swap; · iexact H6
      ipureintro; exact View.read_writes_of_cover _ _ _ _ _ (coverB1 m c t h)
    isplitl [H7]
    · unfold owns; iexists _; isplitr
      swap; · iexact H7
      ipureintro; exact View.read_writes_of_cover _ _ _ _ _ (coverB2 m c t h)
    unfold owns; iexists _; isplitr
    swap; · iexact H8
    ipureintro; exact View.read_writes_of_cover _ _ _ _ _ (coverB3 m c t h)

theorem defs₀_row : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every run ends, with every array as the proof data say and nothing left signalled. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
theorem run_main : θ_run defs (onTc (τ := τ) (main (F := F))) (s₀ m ρ) (Pipeline.FramePost cfgs (dats m) 0 (V m)) :=
  (θ_run defs _ _).mono (fun _ h => h.1) (run_quiescent m ρ)
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)
/-- The arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_quiescent m ρ))
/-- The results are the proof data's arrays. -/
theorem run_blocks : θ_run defs (onTc (τ := τ) (main (F := F))) ⟨m, fun _ => 0, ρ⟩ (fun r => ∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_v0_2) = (dats m 0 c).arrAt 7 cfg0.N
      ∧ r.2.mem ((c.tc : Thread nD τ).loc main_v0_3) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.2 c).1 5, (h.2 c).1 6, (h.2 c).1 7, (h.2 c).1 8, h.1 c⟩)
    (θ_run_and (unchanged m ρ) (run_main m ρ))

end Cert.Proof.DownRunIdeal

end
-- ==== Proof.DownAdam.lean ====
/- The optimiser's step for the MLPs' down projection weight of both layers: the kernel's arrays are the reference's.

   The kernel adds the eight parts of a layer's gradient one after the other and makes the new moments and the change of the
   weight from the sum, a block of rows of one layer at every grid step. -/
module

public import proofs.«01_k».proof.Defs
public import proofs.«01_k».proof.Proof.DownRunIdeal
public import Idealize.ShloMosaic.Lib.Pipeline.Value
public import proofs.«01_k».proof.Proof.Gen.DownArefIdeal.Run
public import Idealize.ShloMosaic.Lib.Pipeline.ValueKit
public import Idealize.ShloMosaic.Lib.Claim

@[expose] public section

set_option maxRecDepth 16384

noncomputable section

namespace Cert.Proof.DownAdam

open Cert.DownAdamIdeal Cert.DownAdamIdeal.Gen Cert.Proof.DownRunIdeal
open Idealize.ShloMosaic Idealize.ShloMosaic.TcCoe Idealize.ShloMosaic.Tactic Idealize.SL.Sem

theorem idx : ∀ t : Fin cfg0.N, win0_0.index t = ![t.val, 0, 0] ∧ win0_1.index t = ![t.val, 0, 0] ∧ win0_2.index t = ![t.val, 0, 0]
    ∧ win0_3.index t = ![0, 0, 0] ∧ win0_4.index t = ![0, 0, 0] ∧ win0_5.index t = ![t.val, 0, 0] ∧ win0_6.index t = ![t.val, 0, 0]
    ∧ win0_7.index t = ![t.val, 0, 0] ∧ win0_8.index t = ![t.val, 0, 0] := by
  decide +kernel

/-- The layer of grid step `t`, -/
def layer (t : Fin cfg0.N) : Fin 2 := ⟨t.val, by have : t.val < 2 := t.isLt; omega⟩
/-- and row `p` of its block in the layer's array. -/
def row (t : Fin cfg0.N) (p : Fin 352) : Fin 352 := p
theorem layer_first (t : Fin cfg0.N) (h : t.val % 2 = 0) : layer t = 0 :=
  Fin.ext (by have : t.val < 2 := t.isLt; show t.val = 0; omega)
theorem layer_second (t : Fin cfg0.N) (h : ¬t.val % 2 = 0) : layer t = 1 :=
  Fin.ext (by have : t.val < 2 := t.isLt; show t.val = 1; omega)

variable (m : (ℓ : Loc nD τ sig) → Buf (Elt Ideal) ℓ) (c : Dev nD)

/-! ## The reference's arrays -/

/-- The weight and its two moments, -/
def w : FVec Ideal Cert.DownArefIdeal.S2x352x1024 .f32 := (m ((c.tc : Thread nD τ).loc main_arg0))
def mom : FVec Ideal Cert.DownArefIdeal.S2x352x1024 .f32 := (m ((c.tc : Thread nD τ).loc main_arg1))
def var : FVec Ideal Cert.DownArefIdeal.S2x352x1024 .f32 := (m ((c.tc : Thread nD τ).loc main_arg2))
/-- the parts of each layer's gradient, -/
abbrev parts0 : FVec Ideal Cert.DownArefIdeal.S8x352x1024 .bf16 := m ((c.tc : Thread nD τ).loc main_arg3)
abbrev parts1 : FVec Ideal Cert.DownArefIdeal.S8x352x1024 .bf16 := m ((c.tc : Thread nD τ).loc main_arg4)
/-- a number everywhere, -/
def num (b : BitVec 32) : FVec Ideal Cert.DownArefIdeal.S2x352x1024 .f32 := broadcastInDim Cert.DownArefIdeal.S2x352x1024 ![] Cert.DownArefIdeal.Gen.bcast_S_S2x352x1024 (constant Cert.DownArefIdeal.S_ .f32 b)
/-- the sums of the parts, -/
def sum0 : FVec Ideal Cert.DownArefIdeal.S1x352x1024 .f32 := broadcastInDim Cert.DownArefIdeal.S1x352x1024 ![1, 2] Cert.DownArefIdeal.Gen.bcast_S352x1024_S1x352x1024_1_2
  (Host.reduceAdd (extf .f32 (parts0 m c) Cert.DownArefIdeal.Gen.bitsLt_bf16_f32) (constant Cert.DownArefIdeal.S_ .f32 0x00000000#32) Cert.DownArefIdeal.Gen.reducesTo_S8x352x1024_S352x1024_d0 Cert.DownArefIdeal.Gen.h_S_)
def sum1 : FVec Ideal Cert.DownArefIdeal.S1x352x1024 .f32 := broadcastInDim Cert.DownArefIdeal.S1x352x1024 ![1, 2] Cert.DownArefIdeal.Gen.bcast_S352x1024_S1x352x1024_1_2
  (Host.reduceAdd (extf .f32 (parts1 m c) Cert.DownArefIdeal.Gen.bitsLt_bf16_f32) (constant Cert.DownArefIdeal.S_ .f32 0x00000000#32) Cert.DownArefIdeal.Gen.reducesTo_S8x352x1024_S352x1024_d0 Cert.DownArefIdeal.Gen.h_S_)
/-- one layer on the other, -/
def grad : FVec Ideal Cert.DownArefIdeal.S2x352x1024 .f32 := concatenate Cert.DownArefIdeal.S2x352x1024 0 [⟨Cert.DownArefIdeal.S1x352x1024, sum0 m c⟩, ⟨Cert.DownArefIdeal.S1x352x1024, sum1 m c⟩]
  Cert.DownArefIdeal.Gen.concatenates_S1x352x1024_S1x352x1024_S2x352x1024_d0
/-- the new first moment, -/
def newM : FVec Ideal Cert.DownArefIdeal.S2x352x1024 .f32 := addf (mulf (num 0x3F666666#32) (mom m c)) (mulf (num 0x3DCCCCCD#32) (grad m c))
/-- the new second moment -/
def newV : FVec Ideal Cert.DownArefIdeal.S2x352x1024 .f32 := addf (mulf (num 0x3F7FBE77#32) (var m c)) (mulf (num 0x3A83126F#32) (mulf (grad m c) (grad m c)))
/-- and the change of the weight. -/
def delta : FVec Ideal Cert.DownArefIdeal.S2x352x1024 .f32 := mulf (num 0xBA83126F#32) (addf (Host.divf (Host.divf (newM m c) (num 0x3F26BD02#32))
  (addf (Host.sqrt (Host.divf (newV m c) (num 0x3C231ACC#32))) (num 0x322BCC77#32))) (mulf (num 0x3C23D70A#32) (w m c)))

theorem num_apply (b : BitVec 32) (i : Cert.DownArefIdeal.S2x352x1024.Idx) : num b i = Ideal.ofBits .f32 b := by
  unfold num
  pointwise
theorem sum0_apply (a : Fin 1) (i : Fin 352) (j : Fin 1024) : sum0 m c (ix3 a i j) = ∑ k : Fin 8, (parts0 m c (ix3 k i j) : EReal) := by
  unfold sum0
  pointwise
theorem grad_apply0 (i : Fin 352) (j : Fin 1024) : grad m c (ix3 0 i j) = ∑ k : Fin 8, (parts0 m c (ix3 k i j) : EReal) := by
  refine Eq.trans ?_ (sum0_apply m c 0 i j)
  unfold grad
  pointwise
theorem sum1_apply (a : Fin 1) (i : Fin 352) (j : Fin 1024) : sum1 m c (ix3 a i j) = ∑ k : Fin 8, (parts1 m c (ix3 k i j) : EReal) := by
  unfold sum1
  pointwise
theorem grad_apply1 (i : Fin 352) (j : Fin 1024) : grad m c (ix3 1 i j) = ∑ k : Fin 8, (parts1 m c (ix3 k i j) : EReal) := by
  refine Eq.trans ?_ (sum1_apply m c 0 i j)
  unfold grad
  pointwise
/-- An index of a block. -/
theorem block_spec (y : S1x352x1024.Idx) : ∃ (p : Fin 352) (q : Fin 1024), y = ix3 0 p q := by
  refine ⟨y 1, y 2, ?_⟩
  funext a
  fin_cases a
  · exact Fin.ext (by have h : (y 0).val < 1 := (y 0).isLt; show (y 0).val = 0; omega)
  · rfl
  · rfl

/-! ## The blocks the kernel reads -/

variable (t : Fin cfg0.N)

theorem w_array : V m c main_arg0 = w m c := V_main_arg0 m c
theorem w_block (p : Fin 352) (k : Fin 1024) : iblk m c 0 t (ix3 0 p k) = w m c (ix3 (layer t) (row t p) k) := by
  have he : ((win0_0.blk t).view.emb (ix3 0 p k)) = ix3 (layer t) (row t p) k := by
    blk_ext [idx t, layer, row]
  show V m c main_arg0 ((win0_0.blk t).view.emb (ix3 0 p k)) = _
  rw [w_array, he]
theorem mom_array : V m c main_arg1 = mom m c := V_main_arg1 m c
theorem mom_block (p : Fin 352) (k : Fin 1024) : iblk m c 1 t (ix3 0 p k) = mom m c (ix3 (layer t) (row t p) k) := by
  have he : ((win0_1.blk t).view.emb (ix3 0 p k)) = ix3 (layer t) (row t p) k := by
    blk_ext [idx t, layer, row]
  show V m c main_arg1 ((win0_1.blk t).view.emb (ix3 0 p k)) = _
  rw [mom_array, he]
theorem var_array : V m c main_arg2 = var m c := V_main_arg2 m c
theorem var_block (p : Fin 352) (k : Fin 1024) : iblk m c 2 t (ix3 0 p k) = var m c (ix3 (layer t) (row t p) k) := by
  have he : ((win0_2.blk t).view.emb (ix3 0 p k)) = ix3 (layer t) (row t p) k := by
    blk_ext [idx t, layer, row]
  show V m c main_arg2 ((win0_2.blk t).view.emb (ix3 0 p k)) = _
  rw [var_array, he]

theorem parts0_block (h : t.val % 2 = 0) (a : Fin 8) (p : Fin 352) (k : Fin 1024) : iblk m c 3 t (ix3 a p k) = parts0 m c (ix3 a (row t p) k) := by
  have he : ((win0_3.blk t).view.emb (ix3 a p k)) = ix3 a (row t p) k := by
    blk_ext [idx t, row]
  show V m c main_arg3 ((win0_3.blk t).view.emb (ix3 a p k)) = _
  rw [V_main_arg3, he]
theorem parts1_block (h : ¬t.val % 2 = 0) (a : Fin 8) (p : Fin 352) (k : Fin 1024) : iblk m c 4 t (ix3 a p k) = parts1 m c (ix3 a (row t p) k) := by
  have he : ((win0_4.blk t).view.emb (ix3 a p k)) = ix3 a (row t p) k := by
    blk_ext [idx t, row]
  show V m c main_arg4 ((win0_4.blk t).view.emb (ix3 a p k)) = _
  rw [V_main_arg4, he]

/-! ### In the first layer -/

/-- The kernel's sum of the parts -/
def sumBlock0 : FVec Ideal S352x1024 .f32 :=
  k0_pay5 (View.ld (iblk m c 3 t) (Rect.unit ![0, 0, 0] ![1, 352, 1024] inb_S8x352x1024_S1x352x1024_0_0_0))
    (View.ld (iblk m c 3 t) (Rect.unit ![1, 0, 0] ![1, 352, 1024] inb_S8x352x1024_S1x352x1024_1_0_0))
    (View.ld (iblk m c 3 t) (Rect.unit ![2, 0, 0] ![1, 352, 1024] inb_S8x352x1024_S1x352x1024_2_0_0))
    (View.ld (iblk m c 3 t) (Rect.unit ![3, 0, 0] ![1, 352, 1024] inb_S8x352x1024_S1x352x1024_3_0_0))
    (View.ld (iblk m c 3 t) (Rect.unit ![4, 0, 0] ![1, 352, 1024] inb_S8x352x1024_S1x352x1024_4_0_0))
    (View.ld (iblk m c 3 t) (Rect.unit ![5, 0, 0] ![1, 352, 1024] inb_S8x352x1024_S1x352x1024_5_0_0))
    (View.ld (iblk m c 3 t) (Rect.unit ![6, 0, 0] ![1, 352, 1024] inb_S8x352x1024_S1x352x1024_6_0_0))
    (View.ld (iblk m c 3 t) (Rect.unit ![7, 0, 0] ![1, 352, 1024] inb_S8x352x1024_S1x352x1024_7_0_0))
/-- is the reference's; -/
theorem grad_block0 (h : t.val % 2 = 0) (p : Fin 352) (q : Fin 1024) : sumBlock0 m c t (ix2 p q) = grad m c (ix3 (layer t) (row t p) q) := by
  rw [layer_first t h, grad_apply0]
  refine Eq.trans ?_ (Fin.sum_univ_eight _).symm
  unfold sumBlock0 k0_pay5
  pointwise
  simp only [parts0_block m c t h]
/-- so are the moments made of it -/
theorem newM_block0 (h : t.val % 2 = 0) (p : Fin 352) (q : Fin 1024) : k0_pay7 (sumBlock0 m c t) (iblk m c 1 t) (ix2 p q) = newM m c (ix3 (layer t) (row t p) q) := by
  unfold k0_pay7 newM
  pointwise
  simp only [grad_block0 m c t h, mom_block, num_apply]
theorem newV_block0 (h : t.val % 2 = 0) (p : Fin 352) (q : Fin 1024) : k0_pay8 (sumBlock0 m c t) (iblk m c 2 t) (ix2 p q) = newV m c (ix3 (layer t) (row t p) q) := by
  unfold k0_pay8 newV
  pointwise
  simp only [grad_block0 m c t h, var_block, num_apply]
/-- and the change of the weight. -/
theorem delta_block0 (h : t.val % 2 = 0) (p : Fin 352) (q : Fin 1024) :
    k0_pay9 (sumBlock0 m c t) (iblk m c 0 t) (iblk m c 1 t) (iblk m c 2 t) (ix3 0 p q) = delta m c (ix3 (layer t) (row t p) q) := by
  unfold k0_pay9 delta
  pointwise
  simp only [newM_block0 m c t h, newV_block0 m c t h, w_block, num_apply]

/-! ### In the second layer -/

/-- The kernel's sum of the parts -/
def sumBlock1 : FVec Ideal S352x1024 .f32 :=
  k0_pay10 (View.ld (iblk m c 4 t) (Rect.unit ![0, 0, 0] ![1, 352, 1024] inb_S8x352x1024_S1x352x1024_0_0_0))
    (View.ld (iblk m c 4 t) (Rect.unit ![1, 0, 0] ![1, 352, 1024] inb_S8x352x1024_S1x352x1024_1_0_0))
    (View.ld (iblk m c 4 t) (Rect.unit ![2, 0, 0] ![1, 352, 1024] inb_S8x352x1024_S1x352x1024_2_0_0))
    (View.ld (iblk m c 4 t) (Rect.unit ![3, 0, 0] ![1, 352, 1024] inb_S8x352x1024_S1x352x1024_3_0_0))
    (View.ld (iblk m c 4 t) (Rect.unit ![4, 0, 0] ![1, 352, 1024] inb_S8x352x1024_S1x352x1024_4_0_0))
    (View.ld (iblk m c 4 t) (Rect.unit ![5, 0, 0] ![1, 352, 1024] inb_S8x352x1024_S1x352x1024_5_0_0))
    (View.ld (iblk m c 4 t) (Rect.unit ![6, 0, 0] ![1, 352, 1024] inb_S8x352x1024_S1x352x1024_6_0_0))
    (View.ld (iblk m c 4 t) (Rect.unit ![7, 0, 0] ![1, 352, 1024] inb_S8x352x1024_S1x352x1024_7_0_0))
/-- is the reference's; -/
theorem grad_block1 (h : ¬t.val % 2 = 0) (p : Fin 352) (q : Fin 1024) : sumBlock1 m c t (ix2 p q) = grad m c (ix3 (layer t) (row t p) q) := by
  rw [layer_second t h, grad_apply1]
  refine Eq.trans ?_ (Fin.sum_univ_eight _).symm
  unfold sumBlock1 k0_pay10
  pointwise
  simp only [parts1_block m c t h]
/-- so are the moments made of it -/
theorem newM_block1 (h : ¬t.val % 2 = 0) (p : Fin 352) (q : Fin 1024) : k0_pay12 (sumBlock1 m c t) (iblk m c 1 t) (ix2 p q) = newM m c (ix3 (layer t) (row t p) q) := by
  unfold k0_pay12 newM
  pointwise
  simp only [grad_block1 m c t h, mom_block, num_apply]
theorem newV_block1 (h : ¬t.val % 2 = 0) (p : Fin 352) (q : Fin 1024) : k0_pay13 (sumBlock1 m c t) (iblk m c 2 t) (ix2 p q) = newV m c (ix3 (layer t) (row t p) q) := by
  unfold k0_pay13 newV
  pointwise
  simp only [grad_block1 m c t h, var_block, num_apply]
/-- and the change of the weight. -/
theorem delta_block1 (h : ¬t.val % 2 = 0) (p : Fin 352) (q : Fin 1024) :
    k0_pay14 (sumBlock1 m c t) (iblk m c 0 t) (iblk m c 1 t) (iblk m c 2 t) (ix3 0 p q) = delta m c (ix3 (layer t) (row t p) q) := by
  unfold k0_pay14 delta
  pointwise
  simp only [newM_block1 m c t h, newV_block1 m c t h, w_block, num_apply]

/-! ## The arrays the kernel leaves -/

theorem grad_final : (dats m 0 c).arrAt 5 cfg0.N = grad m c := by
  refine (dats m 0 c).arrAt_eq_of_covers 5 _ (by decide +kernel) fun t hf (y : S1x352x1024.Idx) => ?_
  obtain ⟨p, q, rfl⟩ := block_spec y
  have he : ((win0_5.blk t).view.emb (ix3 0 p q)) = ix3 (layer t) (row t p) q := by
    blk_ext [idx t, layer, row]
  refine Eq.trans ?_ (congrArg (grad m c) he.symm)
  blk_simp
  rw [after0_5]
  by_cases h : t.val % 2 = 0
  · rw [outs0_A m c t h]
    unfold outA0 runA
    frame_out
    show k0_pay6 (sumBlock0 m c t) (ix3 0 p q) = _
    unfold k0_pay6
    pointwise
    exact grad_block0 m c t h p q
  · rw [outs0_B m c t h]
    unfold outB0 runB
    frame_out
    show k0_pay11 (sumBlock1 m c t) (ix3 0 p q) = _
    unfold k0_pay11
    pointwise
    exact grad_block1 m c t h p q
theorem delta_final : (dats m 0 c).arrAt 6 cfg0.N = delta m c := by
  refine (dats m 0 c).arrAt_eq_of_covers 6 _ (by decide +kernel) fun t hf (y : S1x352x1024.Idx) => ?_
  obtain ⟨p, q, rfl⟩ := block_spec y
  have he : ((win0_6.blk t).view.emb (ix3 0 p q)) = ix3 (layer t) (row t p) q := by
    blk_ext [idx t, layer, row]
  refine Eq.trans ?_ (congrArg (delta m c) he.symm)
  blk_simp
  rw [after0_6]
  by_cases h : t.val % 2 = 0
  · rw [outs1_A m c t h]
    unfold outA1 runA
    frame_out
    exact delta_block0 m c t h p q
  · rw [outs1_B m c t h]
    unfold outB1 runB
    frame_out
    exact delta_block1 m c t h p q
theorem newM_final : (dats m 0 c).arrAt 7 cfg0.N = newM m c := by
  refine (dats m 0 c).arrAt_eq_of_covers 7 _ (by decide +kernel) fun t hf (y : S1x352x1024.Idx) => ?_
  obtain ⟨p, q, rfl⟩ := block_spec y
  have he : ((win0_7.blk t).view.emb (ix3 0 p q)) = ix3 (layer t) (row t p) q := by
    blk_ext [idx t, layer, row]
  refine Eq.trans ?_ (congrArg (newM m c) he.symm)
  blk_simp
  rw [after0_7]
  by_cases h : t.val % 2 = 0
  · rw [outs2_A m c t h]
    unfold outA2 runA
    frame_out
    show k0_pay1 (k0_pay7 (sumBlock0 m c t) (iblk m c 1 t)) (ix3 0 p q) = _
    unfold k0_pay1
    pointwise
    exact newM_block0 m c t h p q
  · rw [outs2_B m c t h]
    unfold outB2 runB
    frame_out
    show k0_pay3 (k0_pay12 (sumBlock1 m c t) (iblk m c 1 t)) (ix3 0 p q) = _
    unfold k0_pay3
    pointwise
    exact newM_block1 m c t h p q
theorem newV_final : (dats m 0 c).arrAt 8 cfg0.N = newV m c := by
  refine (dats m 0 c).arrAt_eq_of_covers 8 _ (by decide +kernel) fun t hf (y : S1x352x1024.Idx) => ?_
  obtain ⟨p, q, rfl⟩ := block_spec y
  have he : ((win0_8.blk t).view.emb (ix3 0 p q)) = ix3 (layer t) (row t p) q := by
    blk_ext [idx t, layer, row]
  refine Eq.trans ?_ (congrArg (newV m c) he.symm)
  blk_simp
  rw [after0_8]
  by_cases h : t.val % 2 = 0
  · rw [outs3_A m c t h]
    unfold outA3 runA
    frame_out
    show k0_pay2 (k0_pay8 (sumBlock0 m c t) (iblk m c 2 t)) (ix3 0 p q) = _
    unfold k0_pay2
    pointwise
    exact newV_block0 m c t h p q
  · rw [outs3_B m c t h]
    unfold outB3 runB
    frame_out
    show k0_pay4 (k0_pay13 (sumBlock1 m c t) (iblk m c 2 t)) (ix3 0 p q) = _
    unfold k0_pay4
    pointwise
    exact newV_block1 m c t h p q

/-- The reference leaves its arguments as they were. -/
theorem ref_frame (m : (ℓ : Loc Cert.DownArefIdeal.nD Cert.DownArefIdeal.τ Cert.DownArefIdeal.sig) → Buf (Elt Ideal) ℓ)
    (ρ : Dev Cert.DownArefIdeal.nD → PrngReg) :
    θ_run Cert.DownArefIdeal.defs (onTc (τ := Cert.DownArefIdeal.τ) (Cert.DownArefIdeal.main (F := Ideal))) ⟨m, fun _ => 0, ρ⟩ (fun r => (∀ c : Dev Cert.DownArefIdeal.nD,
      r.2.mem ((c.tc : Thread Cert.DownArefIdeal.nD Cert.DownArefIdeal.τ).loc Cert.DownArefIdeal.main_arg0) = m ((c.tc : Thread Cert.DownArefIdeal.nD Cert.DownArefIdeal.τ).loc Cert.DownArefIdeal.main_arg0)
      ∧ r.2.mem ((c.tc : Thread Cert.DownArefIdeal.nD Cert.DownArefIdeal.τ).loc Cert.DownArefIdeal.main_arg1) = m ((c.tc : Thread Cert.DownArefIdeal.nD Cert.DownArefIdeal.τ).loc Cert.DownArefIdeal.main_arg1)
      ∧ r.2.mem ((c.tc : Thread Cert.DownArefIdeal.nD Cert.DownArefIdeal.τ).loc Cert.DownArefIdeal.main_arg2) = m ((c.tc : Thread Cert.DownArefIdeal.nD Cert.DownArefIdeal.τ).loc Cert.DownArefIdeal.main_arg2)
      ∧ r.2.mem ((c.tc : Thread Cert.DownArefIdeal.nD Cert.DownArefIdeal.τ).loc Cert.DownArefIdeal.main_arg3) = m ((c.tc : Thread Cert.DownArefIdeal.nD Cert.DownArefIdeal.τ).loc Cert.DownArefIdeal.main_arg3)
      ∧ r.2.mem ((c.tc : Thread Cert.DownArefIdeal.nD Cert.DownArefIdeal.τ).loc Cert.DownArefIdeal.main_arg4) = m ((c.tc : Thread Cert.DownArefIdeal.nD Cert.DownArefIdeal.τ).loc Cert.DownArefIdeal.main_arg4))
      ∧ r.2.sem = fun _ => 0) :=
  (θ_run _ _ _).mono (fun r h => ⟨fun c => (h c).2.2.2.2, sem_eq_zero_of_no_sems (by decide) r.2⟩) (Cert.DownArefIdeal.Value.run (F := Ideal) m ρ)

set_option maxHeartbeats 4000000 in
/-- The kernel and the reference leave the same gradient, change of the weight and moments. -/
theorem algebraic : Cert.algebraic_DownAdamIdeal_DownArefIdeal := by
  intro m g m' g' _ hagree
  refine ⟨fun c => grad m c, fun c => delta m c, fun c => newM m c, fun c => newV m c,
    (θ_run _ _ _).mono (fun r h c => ⟨(h c).1.trans (grad_final m c), (h c).2.1.trans (delta_final m c), (h c).2.2.1.trans (newM_final m c), (h c).2.2.2.1.trans (newV_final m c), (h c).2.2.2.2⟩) (run_blocks m g),
    (θ_run _ _ _).mono (fun r h c => ?_) (Cert.DownArefIdeal.Value.run (F := Ideal) m' g')⟩
  obtain ⟨e0, e1, e2, e3, e4⟩ := hagree c
  refine ⟨(h c).1.trans ?_, (h c).2.1.trans ?_, (h c).2.2.1.trans ?_, (h c).2.2.2.1.trans ?_, (h c).2.2.2.2⟩
  · rw [e3, e4]
    rfl
  · rw [e0, e1, e2, e3, e4]
    rfl
  · rw [e1, e3, e4]
    rfl
  · rw [e2, e3, e4]
    rfl

end Cert.Proof.DownAdam

end
-- ==== Proof.AdaRunIdeal.lean ====
/- The optimiser's step for the weight of the modulation, over exact numbers: every run ends, with the arguments as they were and
   every output block holding what the grid step of its layer stored.

   A grid step of the first layer runs the first branch of the body, a grid step of the second layer the second; both store
   every output block whole. -/
module

public import proofs.«01_k».proof.Proof.Gen.AdaAdamIdeal.Frame.RunB
public import Idealize.ShloMosaic.Lib.Claim

@[expose] public section

set_option maxRecDepth 16384

noncomputable section

namespace Cert.Proof.AdaRunIdeal

open Cert.AdaAdamIdeal Cert.AdaAdamIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg) (c : Dev nD) (t : Fin cfg0.N)

/-! ## What a grid step leaves -/

/-- The grid steps of the first layer are not those of the second, -/
theorem not_second (h : t.val < 4) : ¬cond0_1 (grid0.coords t) := fun h' => by
  have := (hcond0_1 t).mp h'
  omega
/-- and every other step is one of the second. -/
theorem second (h : ¬t.val < 4) : cond0_1 (grid0.coords t) := (hcond0_1 t).mpr (by omega)
theorem not_first (h : ¬t.val < 4) : ¬cond0_0 (grid0.coords t) := fun h' => h ((hcond0_0 t).mp h')

/-- The body's run at a step of the first layer, -/
def runA (h : t.val < 4) := kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h) (not_second t h) (iblk m c 0 t) (iblk m c 1 t) (iblk m c 2 t) (iblk m c 3 t) (iblk m c 4 t)
/-- and of the second. -/
def runB (h : ¬t.val < 4) := kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (not_first t h) (second t h) (iblk m c 0 t) (iblk m c 1 t) (iblk m c 2 t) (iblk m c 3 t) (iblk m c 4 t)

theorem coverA0 (h : t.val < 4) (y : S1x256x768.Idx) : ∃ pc ∈ (runA m c t h).1, y ∈ pc.1.set :=
  View.cover_of_tiledL (runA m c t h).1 S1x256x768.size (by unfold runA; sl_kernel_rfl) y
theorem coverA1 (h : t.val < 4) (y : S1x256x768.Idx) : ∃ pc ∈ (runA m c t h).2.1, y ∈ pc.1.set :=
  View.cover_of_tiledL (runA m c t h).2.1 S1x256x768.size (by unfold runA; sl_kernel_rfl) y
theorem coverA2 (h : t.val < 4) (y : S1x256x768.Idx) : ∃ pc ∈ (runA m c t h).2.2.1, y ∈ pc.1.set :=
  View.cover_of_tiledL (runA m c t h).2.2.1 S1x256x768.size (by unfold runA; sl_kernel_rfl) y
theorem coverA3 (h : t.val < 4) (y : S1x256x768.Idx) : ∃ pc ∈ (runA m c t h).2.2.2.1, y ∈ pc.1.set :=
  View.cover_of_tiledL (runA m c t h).2.2.2.1 S1x256x768.size (by unfold runA; sl_kernel_rfl) y
def outA0 (h : t.val < 4) : Vec F S1x256x768 .f32 := VO0_5.read (Elt F) (VO0_5.writes (Elt F) VO0_5.junk (runA m c t h).1)
def outA1 (h : t.val < 4) : Vec F S1x256x768 .f32 := VO0_6.read (Elt F) (VO0_6.writes (Elt F) VO0_6.junk (runA m c t h).2.1)
def outA2 (h : t.val < 4) : Vec F S1x256x768 .f32 := VO0_7.read (Elt F) (VO0_7.writes (Elt F) VO0_7.junk (runA m c t h).2.2.1)
def outA3 (h : t.val < 4) : Vec F S1x256x768 .f32 := VO0_8.read (Elt F) (VO0_8.writes (Elt F) VO0_8.junk (runA m c t h).2.2.2.1)
theorem coverB0 (h : ¬t.val < 4) (y : S1x256x768.Idx) : ∃ pc ∈ (runB m c t h).1, y ∈ pc.1.set :=
  View.cover_of_tiledL (runB m c t h).1 S1x256x768.size (by unfold runB; sl_kernel_rfl) y
theorem coverB1 (h : ¬t.val < 4) (y : S1x256x768.Idx) : ∃ pc ∈ (runB m c t h).2.1, y ∈ pc.1.set :=
  View.cover_of_tiledL (runB m c t h).2.1 S1x256x768.size (by unfold runB; sl_kernel_rfl) y
theorem coverB2 (h : ¬t.val < 4) (y : S1x256x768.Idx) : ∃ pc ∈ (runB m c t h).2.2.1, y ∈ pc.1.set :=
  View.cover_of_tiledL (runB m c t h).2.2.1 S1x256x768.size (by unfold runB; sl_kernel_rfl) y
theorem coverB3 (h : ¬t.val < 4) (y : S1x256x768.Idx) : ∃ pc ∈ (runB m c t h).2.2.2.1, y ∈ pc.1.set :=
  View.cover_of_tiledL (runB m c t h).2.2.2.1 S1x256x768.size (by unfold runB; sl_kernel_rfl) y
def outB0 (h : ¬t.val < 4) : Vec F S1x256x768 .f32 := VO0_5.read (Elt F) (VO0_5.writes (Elt F) VO0_5.junk (runB m c t h).1)
def outB1 (h : ¬t.val < 4) : Vec F S1x256x768 .f32 := VO0_6.read (Elt F) (VO0_6.writes (Elt F) VO0_6.junk (runB m c t h).2.1)
def outB2 (h : ¬t.val < 4) : Vec F S1x256x768 .f32 := VO0_7.read (Elt F) (VO0_7.writes (Elt F) VO0_7.junk (runB m c t h).2.2.1)
def outB3 (h : ¬t.val < 4) : Vec F S1x256x768 .f32 := VO0_8.read (Elt F) (VO0_8.writes (Elt F) VO0_8.junk (runB m c t h).2.2.2.1)
def outs0 : Vec F S1x256x768 .f32 := if h : t.val < 4 then outA0 m c t h else outB0 m c t h
theorem outs0_A (h : t.val < 4) : outs0 m c t = outA0 m c t h := dif_pos h
theorem outs0_B (h : ¬t.val < 4) : outs0 m c t = outB0 m c t h := dif_neg h
def outs1 : Vec F S1x256x768 .f32 := if h : t.val < 4 then outA1 m c t h else outB1 m c t h
theorem outs1_A (h : t.val < 4) : outs1 m c t = outA1 m c t h := dif_pos h
theorem outs1_B (h : ¬t.val < 4) : outs1 m c t = outB1 m c t h := dif_neg h
def outs2 : Vec F S1x256x768 .f32 := if h : t.val < 4 then outA2 m c t h else outB2 m c t h
theorem outs2_A (h : t.val < 4) : outs2 m c t = outA2 m c t h := dif_pos h
theorem outs2_B (h : ¬t.val < 4) : outs2 m c t = outB2 m c t h := dif_neg h
def outs3 : Vec F S1x256x768 .f32 := if h : t.val < 4 then outA3 m c t h else outB3 m c t h
theorem outs3_A (h : t.val < 4) : outs3 m c t = outA3 m c t h := dif_pos h
theorem outs3_B (h : ¬t.val < 4) : outs3 m c t = outB3 m c t h := dif_neg h

/-! ## The proof data -/

/-- The arrays as they stand before the grid, and every window's block after every step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outs0 m c t
    | ⟨6, _⟩ => outs1 m c t
    | ⟨7, _⟩ => outs2 m c t
    | ⟨8, _⟩ => outs3 m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outs0 m c t := by dsimp only [dats]
theorem after0_6 (c : Dev nD) (t : Fin cfg0.N) : (dats m 0 c).after 6 t = outs1 m c t := by dsimp only [dats]
theorem after0_7 (c : Dev nD) (t : Fin cfg0.N) : (dats m 0 c).after 7 t = outs2 m c t := by dsimp only [dats]
theorem after0_8 (c : Dev nD) (t : Fin cfg0.N) : (dats m 0 c).after 8 t = outs3 m c t := by dsimp only [dats]
theorem before0_0 (d) : (dats m 0 c).before 0 t d = iblk m c 0 t :=
  before0_0_of m (dats m 0 c) (A_eq m c 0) (after0_0 m c) t d
theorem before0_1 (d) : (dats m 0 c).before 1 t d = iblk m c 1 t :=
  before0_1_of m (dats m 0 c) (A_eq m c 1) (after0_1 m c) t d
theorem before0_2 (d) : (dats m 0 c).before 2 t d = iblk m c 2 t :=
  before0_2_of m (dats m 0 c) (A_eq m c 2) (after0_2 m c) t d
theorem before0_3 (d) : (dats m 0 c).before 3 t d = iblk m c 3 t :=
  before0_3_of m (dats m 0 c) (A_eq m c 3) (after0_3 m c) t d
theorem before0_4 (d) : (dats m 0 c).before 4 t d = iblk m c 4 t :=
  before0_4_of m (dats m 0 c) (A_eq m c 4) (after0_4 m c) t d

/-! ## The body at a grid step -/

/-- What a grid step starts with -/
def bodyPre : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))
/-- and what it ends with. -/
def bodyPost : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0 : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves1 : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves2 : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves3 : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves4 : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves5 : (dats m 0 c).leavesExact 5 t = owns (c : Thread nD τ) (ms0_5 t) fullShare (outs0 m c t) := by
  have hl : cfg0.idle 5 (grid0.coords t) = false := by
    by_cases h : t.val < 4
    · exact liveAt0_5_A t ((hcond0_0 t).mpr h) (not_second t h)
    · exact liveAt0_5_B t (not_first t h) (second t h)
  rw [show (dats m 0 c).leavesExact 5 t = owns (c : Thread nD τ) (ms0_5 t) fullShare ((dats m 0 c).after 5 t) from by
    unfold Dat.leavesExact; rw [hl], after0_5]
theorem leaves6 : (dats m 0 c).leavesExact 6 t = owns (c : Thread nD τ) (ms0_6 t) fullShare (outs1 m c t) := by
  have hl : cfg0.idle 6 (grid0.coords t) = false := by
    by_cases h : t.val < 4
    · exact liveAt0_6_A t ((hcond0_0 t).mpr h) (not_second t h)
    · exact liveAt0_6_B t (not_first t h) (second t h)
  rw [show (dats m 0 c).leavesExact 6 t = owns (c : Thread nD τ) (ms0_6 t) fullShare ((dats m 0 c).after 6 t) from by
    unfold Dat.leavesExact; rw [hl], after0_6]
theorem leaves7 : (dats m 0 c).leavesExact 7 t = owns (c : Thread nD τ) (ms0_7 t) fullShare (outs2 m c t) := by
  have hl : cfg0.idle 7 (grid0.coords t) = false := by
    by_cases h : t.val < 4
    · exact liveAt0_7_A t ((hcond0_0 t).mpr h) (not_second t h)
    · exact liveAt0_7_B t (not_first t h) (second t h)
  rw [show (dats m 0 c).leavesExact 7 t = owns (c : Thread nD τ) (ms0_7 t) fullShare ((dats m 0 c).after 7 t) from by
    unfold Dat.leavesExact; rw [hl], after0_7]
theorem leaves8 : (dats m 0 c).leavesExact 8 t = owns (c : Thread nD τ) (ms0_8 t) fullShare (outs3 m c t) := by
  have hl : cfg0.idle 8 (grid0.coords t) = false := by
    by_cases h : t.val < 4
    · exact liveAt0_8_A t ((hcond0_0 t).mpr h) (not_second t h)
    · exact liveAt0_8_B t (not_first t h) (second t h)
  rw [show (dats m 0 c).leavesExact 8 t = owns (c : Thread nD τ) (ms0_8 t) fullShare ((dats m 0 c).after 8 t) from by
    unfold Dat.leavesExact; rw [hl], after0_8]

set_option maxHeartbeats 1600000 in
/-- The body turns the one into the other. -/
theorem sound_body : bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    leaves0, leaves1, leaves2, leaves3, leaves4, leaves5, leaves6, leaves7, leaves8]
  by_cases h : t.val < 4
  · rw [outs0_A m c t h, outs1_A m c t h, outs2_A m c t h, outs3_A m c t h]
    unfold outA0 outA1 outA2 outA3
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA m c t h).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, ⟨%e5, H5⟩, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverA0 m c t h)
    isplitl [H6]
    · unfold owns; iexists _; isplitr
      swap; · iexact H6
      ipureintro; exact View.read_writes_of_cover _ _ _ _ _ (coverA1 m c t h)
    isplitl [H7]
    · unfold owns; iexists _; isplitr
      swap; · iexact H7
      ipureintro; exact View.read_writes_of_cover _ _ _ _ _ (coverA2 m c t h)
    unfold owns; iexists _; isplitr
    swap; · iexact H8
    ipureintro; exact View.read_writes_of_cover _ _ _ _ _ (coverA3 m c t h)
  · rw [outs0_B m c t h, outs1_B m c t h, outs2_B m c t h, outs3_B m c t h]
    unfold outB0 outB1 outB2 outB3
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB m c t h).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, ⟨%e5, H5⟩, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverB0 m c t h)
    isplitl [H6]
    · unfold owns; iexists _; isplitr
      swap; · iexact H6
      ipureintro; exact View.read_writes_of_cover _ _ _ _ _ (coverB1 m c t h)
    isplitl [H7]
    · unfold owns; iexists _; isplitr
      swap; · iexact H7
      ipureintro; exact View.read_writes_of_cover _ _ _ _ _ (coverB2 m c t h)
    unfold owns; iexists _; isplitr
    swap; · iexact H8
    ipureintro; exact View.read_writes_of_cover _ _ _ _ _ (coverB3 m c t h)

theorem defs₀_row : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every run ends, with every array as the proof data say and nothing left signalled. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
theorem run_main : θ_run defs (onTc (τ := τ) (main (F := F))) (s₀ m ρ) (Pipeline.FramePost cfgs (dats m) 0 (V m)) :=
  (θ_run defs _ _).mono (fun _ h => h.1) (run_quiescent m ρ)
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)
/-- The arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_quiescent m ρ))
/-- The results are the proof data's arrays. -/
theorem run_blocks : θ_run defs (onTc (τ := τ) (main (F := F))) ⟨m, fun _ => 0, ρ⟩ (fun r => ∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_v0_2) = (dats m 0 c).arrAt 7 cfg0.N
      ∧ r.2.mem ((c.tc : Thread nD τ).loc main_v0_3) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.2 c).1 5, (h.2 c).1 6, (h.2 c).1 7, (h.2 c).1 8, h.1 c⟩)
    (θ_run_and (unchanged m ρ) (run_main m ρ))

end Cert.Proof.AdaRunIdeal

end
-- ==== Proof.AdaAdam.lean ====
/- The optimiser's step for the modulation weight of both layers: the kernel's arrays are the reference's.

   The kernel makes the new moments and the change of the weight from the layer's gradient, a block of rows of one layer at
   every grid step. -/
module

public import proofs.«01_k».proof.Defs
public import proofs.«01_k».proof.Proof.AdaRunIdeal
public import Idealize.ShloMosaic.Lib.Pipeline.Value
public import proofs.«01_k».proof.Proof.Gen.AdaArefIdeal.Run
public import Idealize.ShloMosaic.Lib.Pipeline.ValueKit
public import Idealize.ShloMosaic.Lib.Claim

@[expose] public section

set_option maxRecDepth 16384

noncomputable section

namespace Cert.Proof.AdaAdam

open Cert.AdaAdamIdeal Cert.AdaAdamIdeal.Gen Cert.Proof.AdaRunIdeal
open Idealize.ShloMosaic Idealize.ShloMosaic.TcCoe Idealize.ShloMosaic.Tactic Idealize.SL.Sem

theorem idx : ∀ t : Fin cfg0.N, win0_0.index t = ![t.val / 4, t.val % 4, 0] ∧ win0_1.index t = ![t.val / 4, t.val % 4, 0] ∧ win0_2.index t = ![t.val / 4, t.val % 4, 0]
    ∧ win0_3.index t = ![0, min t.val 3, 0] ∧ win0_4.index t = ![0, t.val - 4, 0] ∧ win0_5.index t = ![t.val / 4, t.val % 4, 0] ∧ win0_6.index t = ![t.val / 4, t.val % 4, 0]
    ∧ win0_7.index t = ![t.val / 4, t.val % 4, 0] ∧ win0_8.index t = ![t.val / 4, t.val % 4, 0] := by
  decide +kernel

/-- The layer of grid step `t`, -/
def layer (t : Fin cfg0.N) : Fin 2 := ⟨t.val / 4, by have : t.val < 8 := t.isLt; omega⟩
/-- and row `p` of its block in the layer's array. -/
def row (t : Fin cfg0.N) (p : Fin 256) : Fin 1024 := ⟨t.val % 4 * 256 + p.val, by omega⟩
theorem layer_first (t : Fin cfg0.N) (h : t.val < 4) : layer t = 0 :=
  Fin.ext (by have : t.val < 8 := t.isLt; show t.val / 4 = 0; omega)
theorem layer_second (t : Fin cfg0.N) (h : ¬t.val < 4) : layer t = 1 :=
  Fin.ext (by have : t.val < 8 := t.isLt; show t.val / 4 = 1; omega)

variable (m : (ℓ : Loc nD τ sig) → Buf (Elt Ideal) ℓ) (c : Dev nD)

/-! ## The reference's arrays -/

/-- The weight and its two moments, -/
def w : FVec Ideal Cert.AdaArefIdeal.S2x1024x768 .f32 := (m ((c.tc : Thread nD τ).loc main_arg0))
def mom : FVec Ideal Cert.AdaArefIdeal.S2x1024x768 .f32 := (m ((c.tc : Thread nD τ).loc main_arg1))
def var : FVec Ideal Cert.AdaArefIdeal.S2x1024x768 .f32 := (m ((c.tc : Thread nD τ).loc main_arg2))
/-- the part of each layer's gradient, -/
abbrev parts0 : FVec Ideal Cert.AdaArefIdeal.S1x1024x768 .f32 := m ((c.tc : Thread nD τ).loc main_arg3)
abbrev parts1 : FVec Ideal Cert.AdaArefIdeal.S1x1024x768 .f32 := m ((c.tc : Thread nD τ).loc main_arg4)
/-- a number everywhere, -/
def num (b : BitVec 32) : FVec Ideal Cert.AdaArefIdeal.S2x1024x768 .f32 := broadcastInDim Cert.AdaArefIdeal.S2x1024x768 ![] Cert.AdaArefIdeal.Gen.bcast_S_S2x1024x768 (constant Cert.AdaArefIdeal.S_ .f32 b)
/-- the sums of the parts, -/
def sum0 : FVec Ideal Cert.AdaArefIdeal.S1x1024x768 .f32 := broadcastInDim Cert.AdaArefIdeal.S1x1024x768 ![1, 2] Cert.AdaArefIdeal.Gen.bcast_S1024x768_S1x1024x768_1_2
  (Host.reduceAdd (parts0 m c) (constant Cert.AdaArefIdeal.S_ .f32 0x00000000#32) Cert.AdaArefIdeal.Gen.reducesTo_S1x1024x768_S1024x768_d0 Cert.AdaArefIdeal.Gen.h_S_)
def sum1 : FVec Ideal Cert.AdaArefIdeal.S1x1024x768 .f32 := broadcastInDim Cert.AdaArefIdeal.S1x1024x768 ![1, 2] Cert.AdaArefIdeal.Gen.bcast_S1024x768_S1x1024x768_1_2
  (Host.reduceAdd (parts1 m c) (constant Cert.AdaArefIdeal.S_ .f32 0x00000000#32) Cert.AdaArefIdeal.Gen.reducesTo_S1x1024x768_S1024x768_d0 Cert.AdaArefIdeal.Gen.h_S_)
/-- one layer on the other, -/
def grad : FVec Ideal Cert.AdaArefIdeal.S2x1024x768 .f32 := concatenate Cert.AdaArefIdeal.S2x1024x768 0 [⟨Cert.AdaArefIdeal.S1x1024x768, sum0 m c⟩, ⟨Cert.AdaArefIdeal.S1x1024x768, sum1 m c⟩]
  Cert.AdaArefIdeal.Gen.concatenates_S1x1024x768_S1x1024x768_S2x1024x768_d0
/-- the new first moment, -/
def newM : FVec Ideal Cert.AdaArefIdeal.S2x1024x768 .f32 := addf (mulf (num 0x3F666666#32) (mom m c)) (mulf (num 0x3DCCCCCD#32) (grad m c))
/-- the new second moment -/
def newV : FVec Ideal Cert.AdaArefIdeal.S2x1024x768 .f32 := addf (mulf (num 0x3F7FBE77#32) (var m c)) (mulf (num 0x3A83126F#32) (mulf (grad m c) (grad m c)))
/-- and the change of the weight. -/
def delta : FVec Ideal Cert.AdaArefIdeal.S2x1024x768 .f32 := mulf (num 0xBA83126F#32) (addf (Host.divf (Host.divf (newM m c) (num 0x3F26BD02#32))
  (addf (Host.sqrt (Host.divf (newV m c) (num 0x3C231ACC#32))) (num 0x322BCC77#32))) (mulf (num 0x3C23D70A#32) (w m c)))

theorem num_apply (b : BitVec 32) (i : Cert.AdaArefIdeal.S2x1024x768.Idx) : num b i = Ideal.ofBits .f32 b := by
  unfold num
  pointwise
theorem sum0_apply (a : Fin 1) (i : Fin 1024) (j : Fin 768) : sum0 m c (ix3 a i j) = ∑ k : Fin 1, (parts0 m c (ix3 k i j) : EReal) := by
  unfold sum0
  pointwise
theorem grad_apply0 (i : Fin 1024) (j : Fin 768) : grad m c (ix3 0 i j) = ∑ k : Fin 1, (parts0 m c (ix3 k i j) : EReal) := by
  refine Eq.trans ?_ (sum0_apply m c 0 i j)
  unfold grad
  pointwise
theorem sum1_apply (a : Fin 1) (i : Fin 1024) (j : Fin 768) : sum1 m c (ix3 a i j) = ∑ k : Fin 1, (parts1 m c (ix3 k i j) : EReal) := by
  unfold sum1
  pointwise
theorem grad_apply1 (i : Fin 1024) (j : Fin 768) : grad m c (ix3 1 i j) = ∑ k : Fin 1, (parts1 m c (ix3 k i j) : EReal) := by
  refine Eq.trans ?_ (sum1_apply m c 0 i j)
  unfold grad
  pointwise
/-- An index of a block. -/
theorem block_spec (y : S1x256x768.Idx) : ∃ (p : Fin 256) (q : Fin 768), y = ix3 0 p q := by
  refine ⟨y 1, y 2, ?_⟩
  funext a
  fin_cases a
  · exact Fin.ext (by have h : (y 0).val < 1 := (y 0).isLt; show (y 0).val = 0; omega)
  · rfl
  · rfl

/-! ## The blocks the kernel reads -/

variable (t : Fin cfg0.N)

theorem w_array : V m c main_arg0 = w m c := V_main_arg0 m c
theorem w_block (p : Fin 256) (k : Fin 768) : iblk m c 0 t (ix3 0 p k) = w m c (ix3 (layer t) (row t p) k) := by
  have he : ((win0_0.blk t).view.emb (ix3 0 p k)) = ix3 (layer t) (row t p) k := by
    blk_ext [idx t, layer, row]
  show V m c main_arg0 ((win0_0.blk t).view.emb (ix3 0 p k)) = _
  rw [w_array, he]
theorem mom_array : V m c main_arg1 = mom m c := V_main_arg1 m c
theorem mom_block (p : Fin 256) (k : Fin 768) : iblk m c 1 t (ix3 0 p k) = mom m c (ix3 (layer t) (row t p) k) := by
  have he : ((win0_1.blk t).view.emb (ix3 0 p k)) = ix3 (layer t) (row t p) k := by
    blk_ext [idx t, layer, row]
  show V m c main_arg1 ((win0_1.blk t).view.emb (ix3 0 p k)) = _
  rw [mom_array, he]
theorem var_array : V m c main_arg2 = var m c := V_main_arg2 m c
theorem var_block (p : Fin 256) (k : Fin 768) : iblk m c 2 t (ix3 0 p k) = var m c (ix3 (layer t) (row t p) k) := by
  have he : ((win0_2.blk t).view.emb (ix3 0 p k)) = ix3 (layer t) (row t p) k := by
    blk_ext [idx t, layer, row]
  show V m c main_arg2 ((win0_2.blk t).view.emb (ix3 0 p k)) = _
  rw [var_array, he]

theorem parts0_block (h : t.val < 4) (a : Fin 1) (p : Fin 256) (k : Fin 768) : iblk m c 3 t (ix3 a p k) = parts0 m c (ix3 a (row t p) k) := by
  have he : ((win0_3.blk t).view.emb (ix3 a p k)) = ix3 a (row t p) k := by
    have h' : min t.val 3 = t.val % 4 := by have : t.val < 8 := t.isLt; omega
    blk_ext [idx t, row, h']
  show V m c main_arg3 ((win0_3.blk t).view.emb (ix3 a p k)) = _
  rw [V_main_arg3, he]
theorem parts1_block (h : ¬t.val < 4) (a : Fin 1) (p : Fin 256) (k : Fin 768) : iblk m c 4 t (ix3 a p k) = parts1 m c (ix3 a (row t p) k) := by
  have he : ((win0_4.blk t).view.emb (ix3 a p k)) = ix3 a (row t p) k := by
    have h' : t.val - 4 = t.val % 4 := by have : t.val < 8 := t.isLt; omega
    blk_ext [idx t, row, h']
  show V m c main_arg4 ((win0_4.blk t).view.emb (ix3 a p k)) = _
  rw [V_main_arg4, he]

/-! ### In the first layer -/

/-- The kernel's sum of the parts -/
def sumBlock0 : FVec Ideal S256x768 .f32 :=
  k0_pay7 (iblk m c 3 t)
/-- is the reference's; -/
theorem grad_block0 (h : t.val < 4) (p : Fin 256) (q : Fin 768) : sumBlock0 m c t (ix2 p q) = grad m c (ix3 (layer t) (row t p) q) := by
  rw [layer_first t h, grad_apply0]
  refine Eq.trans ?_ (Fin.sum_univ_one _).symm
  unfold sumBlock0 k0_pay7
  pointwise
  simp only [parts0_block m c t h]
/-- so are the moments made of it -/
theorem newM_block0 (h : t.val < 4) (p : Fin 256) (q : Fin 768) : k0_pay9 (iblk m c 3 t) (iblk m c 1 t) (ix2 p q) = newM m c (ix3 (layer t) (row t p) q) := by
  unfold k0_pay9 newM
  change addf _ (mulf _ (sumBlock0 m c t)) (ix2 p q) = _
  pointwise
  simp only [grad_block0 m c t h, mom_block, num_apply]
theorem newV_block0 (h : t.val < 4) (p : Fin 256) (q : Fin 768) : k0_pay10 (iblk m c 3 t) (iblk m c 2 t) (ix2 p q) = newV m c (ix3 (layer t) (row t p) q) := by
  unfold k0_pay10 newV
  change addf _ (mulf _ (mulf (sumBlock0 m c t) (sumBlock0 m c t))) (ix2 p q) = _
  pointwise
  simp only [grad_block0 m c t h, var_block, num_apply]
/-- and the change of the weight. -/
theorem delta_block0 (h : t.val < 4) (p : Fin 256) (q : Fin 768) :
    k0_pay11 (iblk m c 3 t) (iblk m c 0 t) (iblk m c 1 t) (iblk m c 2 t) (ix2 p q) = delta m c (ix3 (layer t) (row t p) q) := by
  unfold k0_pay11 delta
  pointwise
  simp only [newM_block0 m c t h, newV_block0 m c t h, w_block, num_apply]

/-! ### In the second layer -/

/-- The kernel's sum of the parts -/
def sumBlock1 : FVec Ideal S256x768 .f32 :=
  k0_pay12 (iblk m c 4 t)
/-- is the reference's; -/
theorem grad_block1 (h : ¬t.val < 4) (p : Fin 256) (q : Fin 768) : sumBlock1 m c t (ix2 p q) = grad m c (ix3 (layer t) (row t p) q) := by
  rw [layer_second t h, grad_apply1]
  refine Eq.trans ?_ (Fin.sum_univ_one _).symm
  unfold sumBlock1 k0_pay12
  pointwise
  simp only [parts1_block m c t h]
/-- so are the moments made of it -/
theorem newM_block1 (h : ¬t.val < 4) (p : Fin 256) (q : Fin 768) : k0_pay14 (iblk m c 4 t) (iblk m c 1 t) (ix2 p q) = newM m c (ix3 (layer t) (row t p) q) := by
  unfold k0_pay14 newM
  change addf _ (mulf _ (sumBlock1 m c t)) (ix2 p q) = _
  pointwise
  simp only [grad_block1 m c t h, mom_block, num_apply]
theorem newV_block1 (h : ¬t.val < 4) (p : Fin 256) (q : Fin 768) : k0_pay15 (iblk m c 4 t) (iblk m c 2 t) (ix2 p q) = newV m c (ix3 (layer t) (row t p) q) := by
  unfold k0_pay15 newV
  change addf _ (mulf _ (mulf (sumBlock1 m c t) (sumBlock1 m c t))) (ix2 p q) = _
  pointwise
  simp only [grad_block1 m c t h, var_block, num_apply]
/-- and the change of the weight. -/
theorem delta_block1 (h : ¬t.val < 4) (p : Fin 256) (q : Fin 768) :
    k0_pay16 (iblk m c 4 t) (iblk m c 0 t) (iblk m c 1 t) (iblk m c 2 t) (ix2 p q) = delta m c (ix3 (layer t) (row t p) q) := by
  unfold k0_pay16 delta
  pointwise
  simp only [newM_block1 m c t h, newV_block1 m c t h, w_block, num_apply]

/-! ## The arrays the kernel leaves -/

theorem grad_final : (dats m 0 c).arrAt 5 cfg0.N = grad m c := by
  refine (dats m 0 c).arrAt_eq_of_covers 5 _ (by decide +kernel) fun t hf (y : S1x256x768.Idx) => ?_
  obtain ⟨p, q, rfl⟩ := block_spec y
  have he : ((win0_5.blk t).view.emb (ix3 0 p q)) = ix3 (layer t) (row t p) q := by
    blk_ext [idx t, layer, row]
  refine Eq.trans ?_ (congrArg (grad m c) he.symm)
  blk_simp
  rw [after0_5]
  by_cases h : t.val < 4
  · rw [outs0_A m c t h]
    unfold outA0 runA
    frame_out
    show k0_pay8 (iblk m c 3 t) (ix3 0 p q) = _
    unfold k0_pay8
    change shapeCast S1x256x768 (sumBlock0 m c t) _ (ix3 0 p q) = _
    pointwise
    exact grad_block0 m c t h p q
  · rw [outs0_B m c t h]
    unfold outB0 runB
    frame_out
    show k0_pay13 (iblk m c 4 t) (ix3 0 p q) = _
    unfold k0_pay13
    change shapeCast S1x256x768 (sumBlock1 m c t) _ (ix3 0 p q) = _
    pointwise
    exact grad_block1 m c t h p q
theorem delta_final : (dats m 0 c).arrAt 6 cfg0.N = delta m c := by
  refine (dats m 0 c).arrAt_eq_of_covers 6 _ (by decide +kernel) fun t hf (y : S1x256x768.Idx) => ?_
  obtain ⟨p, q, rfl⟩ := block_spec y
  have he : ((win0_6.blk t).view.emb (ix3 0 p q)) = ix3 (layer t) (row t p) q := by
    blk_ext [idx t, layer, row]
  refine Eq.trans ?_ (congrArg (delta m c) he.symm)
  blk_simp
  rw [after0_6]
  by_cases h : t.val < 4
  · rw [outs1_A m c t h]
    unfold outA1 runA
    frame_out
    show k0_pay1 (k0_pay11 (iblk m c 3 t) (iblk m c 0 t) (iblk m c 1 t) (iblk m c 2 t)) (ix3 0 p q) = _
    unfold k0_pay1
    pointwise
    exact delta_block0 m c t h p q
  · rw [outs1_B m c t h]
    unfold outB1 runB
    frame_out
    show k0_pay4 (k0_pay16 (iblk m c 4 t) (iblk m c 0 t) (iblk m c 1 t) (iblk m c 2 t)) (ix3 0 p q) = _
    unfold k0_pay4
    pointwise
    exact delta_block1 m c t h p q
theorem newM_final : (dats m 0 c).arrAt 7 cfg0.N = newM m c := by
  refine (dats m 0 c).arrAt_eq_of_covers 7 _ (by decide +kernel) fun t hf (y : S1x256x768.Idx) => ?_
  obtain ⟨p, q, rfl⟩ := block_spec y
  have he : ((win0_7.blk t).view.emb (ix3 0 p q)) = ix3 (layer t) (row t p) q := by
    blk_ext [idx t, layer, row]
  refine Eq.trans ?_ (congrArg (newM m c) he.symm)
  blk_simp
  rw [after0_7]
  by_cases h : t.val < 4
  · rw [outs2_A m c t h]
    unfold outA2 runA
    frame_out
    show k0_pay2 (k0_pay9 (iblk m c 3 t) (iblk m c 1 t)) (ix3 0 p q) = _
    unfold k0_pay2
    pointwise
    exact newM_block0 m c t h p q
  · rw [outs2_B m c t h]
    unfold outB2 runB
    frame_out
    show k0_pay5 (k0_pay14 (iblk m c 4 t) (iblk m c 1 t)) (ix3 0 p q) = _
    unfold k0_pay5
    pointwise
    exact newM_block1 m c t h p q
theorem newV_final : (dats m 0 c).arrAt 8 cfg0.N = newV m c := by
  refine (dats m 0 c).arrAt_eq_of_covers 8 _ (by decide +kernel) fun t hf (y : S1x256x768.Idx) => ?_
  obtain ⟨p, q, rfl⟩ := block_spec y
  have he : ((win0_8.blk t).view.emb (ix3 0 p q)) = ix3 (layer t) (row t p) q := by
    blk_ext [idx t, layer, row]
  refine Eq.trans ?_ (congrArg (newV m c) he.symm)
  blk_simp
  rw [after0_8]
  by_cases h : t.val < 4
  · rw [outs3_A m c t h]
    unfold outA3 runA
    frame_out
    show k0_pay3 (k0_pay10 (iblk m c 3 t) (iblk m c 2 t)) (ix3 0 p q) = _
    unfold k0_pay3
    pointwise
    exact newV_block0 m c t h p q
  · rw [outs3_B m c t h]
    unfold outB3 runB
    frame_out
    show k0_pay6 (k0_pay15 (iblk m c 4 t) (iblk m c 2 t)) (ix3 0 p q) = _
    unfold k0_pay6
    pointwise
    exact newV_block1 m c t h p q

/-- The reference leaves its arguments as they were. -/
theorem ref_frame (m : (ℓ : Loc Cert.AdaArefIdeal.nD Cert.AdaArefIdeal.τ Cert.AdaArefIdeal.sig) → Buf (Elt Ideal) ℓ)
    (ρ : Dev Cert.AdaArefIdeal.nD → PrngReg) :
    θ_run Cert.AdaArefIdeal.defs (onTc (τ := Cert.AdaArefIdeal.τ) (Cert.AdaArefIdeal.main (F := Ideal))) ⟨m, fun _ => 0, ρ⟩ (fun r => (∀ c : Dev Cert.AdaArefIdeal.nD,
      r.2.mem ((c.tc : Thread Cert.AdaArefIdeal.nD Cert.AdaArefIdeal.τ).loc Cert.AdaArefIdeal.main_arg0) = m ((c.tc : Thread Cert.AdaArefIdeal.nD Cert.AdaArefIdeal.τ).loc Cert.AdaArefIdeal.main_arg0)
      ∧ r.2.mem ((c.tc : Thread Cert.AdaArefIdeal.nD Cert.AdaArefIdeal.τ).loc Cert.AdaArefIdeal.main_arg1) = m ((c.tc : Thread Cert.AdaArefIdeal.nD Cert.AdaArefIdeal.τ).loc Cert.AdaArefIdeal.main_arg1)
      ∧ r.2.mem ((c.tc : Thread Cert.AdaArefIdeal.nD Cert.AdaArefIdeal.τ).loc Cert.AdaArefIdeal.main_arg2) = m ((c.tc : Thread Cert.AdaArefIdeal.nD Cert.AdaArefIdeal.τ).loc Cert.AdaArefIdeal.main_arg2)
      ∧ r.2.mem ((c.tc : Thread Cert.AdaArefIdeal.nD Cert.AdaArefIdeal.τ).loc Cert.AdaArefIdeal.main_arg3) = m ((c.tc : Thread Cert.AdaArefIdeal.nD Cert.AdaArefIdeal.τ).loc Cert.AdaArefIdeal.main_arg3)
      ∧ r.2.mem ((c.tc : Thread Cert.AdaArefIdeal.nD Cert.AdaArefIdeal.τ).loc Cert.AdaArefIdeal.main_arg4) = m ((c.tc : Thread Cert.AdaArefIdeal.nD Cert.AdaArefIdeal.τ).loc Cert.AdaArefIdeal.main_arg4))
      ∧ r.2.sem = fun _ => 0) :=
  (θ_run _ _ _).mono (fun r h => ⟨fun c => (h c).2.2.2.2, sem_eq_zero_of_no_sems (by decide) r.2⟩) (Cert.AdaArefIdeal.Value.run (F := Ideal) m ρ)

set_option maxHeartbeats 4000000 in
/-- The kernel and the reference leave the same gradient, change of the weight and moments. -/
theorem algebraic : Cert.algebraic_AdaAdamIdeal_AdaArefIdeal := by
  intro m g m' g' _ hagree
  refine ⟨fun c => grad m c, fun c => delta m c, fun c => newM m c, fun c => newV m c,
    (θ_run _ _ _).mono (fun r h c => ⟨(h c).1.trans (grad_final m c), (h c).2.1.trans (delta_final m c), (h c).2.2.1.trans (newM_final m c), (h c).2.2.2.1.trans (newV_final m c), (h c).2.2.2.2⟩) (run_blocks m g),
    (θ_run _ _ _).mono (fun r h c => ?_) (Cert.AdaArefIdeal.Value.run (F := Ideal) m' g')⟩
  obtain ⟨e0, e1, e2, e3, e4⟩ := hagree c
  refine ⟨(h c).1.trans ?_, (h c).2.1.trans ?_, (h c).2.2.1.trans ?_, (h c).2.2.2.1.trans ?_, (h c).2.2.2.2⟩
  · rw [e3, e4]
    rfl
  · rw [e0, e1, e2, e3, e4]
    rfl
  · rw [e1, e3, e4]
    rfl
  · rw [e2, e3, e4]
    rfl

end Cert.Proof.AdaAdam

end
-- ==== Proof.lean ====
module

public import proofs.«01_k».proof.Defs
public import proofs.«01_k».proof.Proof.Gen.ConvBwd
public import proofs.«01_k».proof.Proof.Gen.ConvBwdIdeal
public import proofs.«01_k».proof.Proof.Gen.ConvRefIdeal
public import proofs.«01_k».proof.Proof.Gen.ConvRefIdeal.Run
public import proofs.«01_k».proof.Proof.Gen.Pre_conv_finite
public import proofs.«01_k».proof.Proof.ConvBits
public import proofs.«01_k».proof.Proof.ConvValue
public import proofs.«01_k».proof.Proof.Gen.UpBwd
public import proofs.«01_k».proof.Proof.Gen.UpBwd.Frame
public import proofs.«01_k».proof.Proof.Gen.UpBwdIdeal
public import proofs.«01_k».proof.Proof.Gen.UpBwdIdeal.Value
public import proofs.«01_k».proof.Proof.Gen.UpRefIdeal
public import proofs.«01_k».proof.Proof.Gen.UpRefIdeal.Run
public import proofs.«01_k».proof.Proof.Gen.Pre_up_finite
public import proofs.«01_k».proof.Proof.UpBwd
public import proofs.«01_k».proof.Proof.Gen.InBwd
public import proofs.«01_k».proof.Proof.Gen.InBwd.Frame
public import proofs.«01_k».proof.Proof.Gen.InBwdIdeal
public import proofs.«01_k».proof.Proof.Gen.InBwdIdeal.Value
public import proofs.«01_k».proof.Proof.Gen.InRefIdeal
public import proofs.«01_k».proof.Proof.Gen.InRefIdeal.Run
public import proofs.«01_k».proof.Proof.Gen.Pre_in_finite
public import proofs.«01_k».proof.Proof.InBwd
public import proofs.«01_k».proof.Proof.Gen.UpWgrad
public import proofs.«01_k».proof.Proof.Gen.UpWgrad.Frame
public import proofs.«01_k».proof.Proof.Gen.UpWgradIdeal
public import proofs.«01_k».proof.Proof.Gen.UpWgradIdeal.Value
public import proofs.«01_k».proof.Proof.Gen.UpWrefIdeal
public import proofs.«01_k».proof.Proof.Gen.UpWrefIdeal.Run
public import proofs.«01_k».proof.Proof.UpWgrad
public import proofs.«01_k».proof.Proof.Gen.DownWgrad
public import proofs.«01_k».proof.Proof.Gen.DownWgrad.Frame
public import proofs.«01_k».proof.Proof.Gen.DownWgradIdeal
public import proofs.«01_k».proof.Proof.Gen.DownWgradIdeal.Value
public import proofs.«01_k».proof.Proof.Gen.DownWrefIdeal
public import proofs.«01_k».proof.Proof.Gen.DownWrefIdeal.Run
public import proofs.«01_k».proof.Proof.DownWgrad
public import proofs.«01_k».proof.Proof.Gen.DownBwd
public import proofs.«01_k».proof.Proof.Gen.DownBwd.Frame
public import proofs.«01_k».proof.Proof.Gen.DownBwdIdeal
public import proofs.«01_k».proof.Proof.Gen.DownBwdIdeal.Value
public import proofs.«01_k».proof.Proof.Gen.DownRefIdeal
public import proofs.«01_k».proof.Proof.Gen.DownRefIdeal.Run
public import proofs.«01_k».proof.Proof.Gen.Pre_down_finite
public import proofs.«01_k».proof.Proof.DownBwd
public import proofs.«01_k».proof.Proof.Gen.OddBwd
public import proofs.«01_k».proof.Proof.Gen.OddBwd.Frame
public import proofs.«01_k».proof.Proof.Gen.OddBwdIdeal
public import proofs.«01_k».proof.Proof.Gen.OddBwdIdeal.Value
public import proofs.«01_k».proof.Proof.Gen.OddRefIdeal
public import proofs.«01_k».proof.Proof.Gen.OddRefIdeal.Run
public import proofs.«01_k».proof.Proof.Gen.Pre_odd_finite
public import proofs.«01_k».proof.Proof.OddBwd
public import proofs.«01_k».proof.Proof.Gen.OutBwd
public import proofs.«01_k».proof.Proof.Gen.OutBwd.Frame
public import proofs.«01_k».proof.Proof.Gen.OutBwdIdeal
public import proofs.«01_k».proof.Proof.Gen.OutBwdIdeal.Value
public import proofs.«01_k».proof.Proof.Gen.OutRefIdeal
public import proofs.«01_k».proof.Proof.Gen.OutRefIdeal.Run
public import proofs.«01_k».proof.Proof.Gen.Pre_out_finite
public import proofs.«01_k».proof.Proof.OutBwd
public import proofs.«01_k».proof.Proof.Gen.OutWgrad
public import proofs.«01_k».proof.Proof.Gen.OutWgrad.Frame
public import proofs.«01_k».proof.Proof.Gen.OutWgradIdeal
public import proofs.«01_k».proof.Proof.Gen.OutWgradIdeal.Value
public import proofs.«01_k».proof.Proof.Gen.OutWrefIdeal
public import proofs.«01_k».proof.Proof.Gen.OutWrefIdeal.Run
public import proofs.«01_k».proof.Proof.OutWgrad
public import proofs.«01_k».proof.Proof.Gen.OddWgrad
public import proofs.«01_k».proof.Proof.Gen.OddWgrad.Frame
public import proofs.«01_k».proof.Proof.Gen.OddWgradIdeal
public import proofs.«01_k».proof.Proof.Gen.OddWgradIdeal.Value
public import proofs.«01_k».proof.Proof.Gen.OddWrefIdeal
public import proofs.«01_k».proof.Proof.Gen.OddWrefIdeal.Run
public import proofs.«01_k».proof.Proof.OddWgrad
public import proofs.«01_k».proof.Proof.Gen.MixWgrad
public import proofs.«01_k».proof.Proof.Gen.MixWgrad.Frame
public import proofs.«01_k».proof.Proof.Gen.MixWgradIdeal
public import proofs.«01_k».proof.Proof.Gen.MixWgradIdeal.Value
public import proofs.«01_k».proof.Proof.Gen.MixWrefIdeal
public import proofs.«01_k».proof.Proof.Gen.MixWrefIdeal.Run
public import proofs.«01_k».proof.Proof.MixWgrad
public import proofs.«01_k».proof.Proof.Gen.InWgrad
public import proofs.«01_k».proof.Proof.Gen.InWgrad.Frame
public import proofs.«01_k».proof.Proof.Gen.InWgradIdeal
public import proofs.«01_k».proof.Proof.Gen.InWgradIdeal.Value
public import proofs.«01_k».proof.Proof.Gen.InWrefIdeal
public import proofs.«01_k».proof.Proof.Gen.InWrefIdeal.Run
public import proofs.«01_k».proof.Proof.InWgrad
public import proofs.«01_k».proof.Proof.Gen.UpFwd
public import proofs.«01_k».proof.Proof.Gen.UpFwd.Frame
public import proofs.«01_k».proof.Proof.Gen.UpFwdIdeal
public import proofs.«01_k».proof.Proof.Gen.UpFwdIdeal.Value
public import proofs.«01_k».proof.Proof.Gen.UpFrefIdeal
public import proofs.«01_k».proof.Proof.Gen.UpFrefIdeal.Run
public import proofs.«01_k».proof.Proof.UpFwd
public import proofs.«01_k».proof.Proof.Gen.OddFwd
public import proofs.«01_k».proof.Proof.Gen.OddFwd.Frame
public import proofs.«01_k».proof.Proof.Gen.OddFwdIdeal
public import proofs.«01_k».proof.Proof.Gen.OddFwdIdeal.Value
public import proofs.«01_k».proof.Proof.Gen.OddFrefIdeal
public import proofs.«01_k».proof.Proof.Gen.OddFrefIdeal.Run
public import proofs.«01_k».proof.Proof.OddFwd
public import proofs.«01_k».proof.Proof.Gen.DownFwd
public import proofs.«01_k».proof.Proof.Gen.DownFwd.Frame
public import proofs.«01_k».proof.Proof.Gen.DownFwdIdeal
public import proofs.«01_k».proof.Proof.Gen.DownFwdIdeal.Value
public import proofs.«01_k».proof.Proof.Gen.DownFrefIdeal
public import proofs.«01_k».proof.Proof.Gen.DownFrefIdeal.Run
public import proofs.«01_k».proof.Proof.DownFwd
public import proofs.«01_k».proof.Proof.Gen.OutFwd
public import proofs.«01_k».proof.Proof.Gen.OutFwd.Frame
public import proofs.«01_k».proof.Proof.Gen.OutFwdIdeal
public import proofs.«01_k».proof.Proof.Gen.OutFwdIdeal.Value
public import proofs.«01_k».proof.Proof.Gen.OutFrefIdeal
public import proofs.«01_k».proof.Proof.Gen.OutFrefIdeal.Run
public import proofs.«01_k».proof.Proof.OutFwd
public import proofs.«01_k».proof.Proof.Gen.MixFwd
public import proofs.«01_k».proof.Proof.Gen.MixFwd.Frame
public import proofs.«01_k».proof.Proof.Gen.MixFwdIdeal
public import proofs.«01_k».proof.Proof.Gen.MixFwdIdeal.Value
public import proofs.«01_k».proof.Proof.Gen.MixFrefIdeal
public import proofs.«01_k».proof.Proof.Gen.MixFrefIdeal.Run
public import proofs.«01_k».proof.Proof.MixFwd
public import proofs.«01_k».proof.Proof.Gen.LastFwd
public import proofs.«01_k».proof.Proof.Gen.LastFwd.Frame
public import proofs.«01_k».proof.Proof.Gen.LastFwdIdeal
public import proofs.«01_k».proof.Proof.Gen.LastFwdIdeal.Value
public import proofs.«01_k».proof.Proof.Gen.LastFrefIdeal
public import proofs.«01_k».proof.Proof.Gen.LastFrefIdeal.Run
public import proofs.«01_k».proof.Proof.LastFwd
public import proofs.«01_k».proof.Proof.Gen.OddAdam
public import proofs.«01_k».proof.Proof.Gen.OddAdam.Frame
public import proofs.«01_k».proof.Proof.Gen.OddAdamIdeal
public import proofs.«01_k».proof.Proof.Gen.OddAdamIdeal.Value
public import proofs.«01_k».proof.Proof.Gen.OddArefIdeal
public import proofs.«01_k».proof.Proof.Gen.OddArefIdeal.Run
public import proofs.«01_k».proof.Proof.OddAdam
public import proofs.«01_k».proof.Proof.Gen.InAdam
public import proofs.«01_k».proof.Proof.Gen.InAdam.Frame
public import proofs.«01_k».proof.Proof.Gen.InAdamIdeal
public import proofs.«01_k».proof.Proof.Gen.InAdamIdeal.Value
public import proofs.«01_k».proof.Proof.Gen.InArefIdeal
public import proofs.«01_k».proof.Proof.Gen.InArefIdeal.Run
public import proofs.«01_k».proof.Proof.InAdam
public import proofs.«01_k».proof.Proof.Gen.OutAdam
public import proofs.«01_k».proof.Proof.Gen.OutAdam.Frame
public import proofs.«01_k».proof.Proof.Gen.OutAdamIdeal
public import proofs.«01_k».proof.Proof.Gen.OutAdamIdeal.Value
public import proofs.«01_k».proof.Proof.Gen.OutArefIdeal
public import proofs.«01_k».proof.Proof.Gen.OutArefIdeal.Run
public import proofs.«01_k».proof.Proof.OutAdam
public import proofs.«01_k».proof.Proof.Gen.UpAdam
public import proofs.«01_k».proof.Proof.Gen.UpAdam.Frame.RunB
public import proofs.«01_k».proof.Proof.Gen.UpAdamIdeal
public import proofs.«01_k».proof.Proof.Gen.UpAdamIdeal.Frame.RunB
public import proofs.«01_k».proof.Proof.Gen.UpArefIdeal
public import proofs.«01_k».proof.Proof.Gen.UpArefIdeal.Run
public import proofs.«01_k».proof.Proof.UpRun
public import proofs.«01_k».proof.Proof.UpRunIdeal
public import proofs.«01_k».proof.Proof.UpAdam
public import proofs.«01_k».proof.Proof.Gen.DownAdam
public import proofs.«01_k».proof.Proof.Gen.DownAdam.Frame.RunB
public import proofs.«01_k».proof.Proof.Gen.DownAdamIdeal
public import proofs.«01_k».proof.Proof.Gen.DownAdamIdeal.Frame.RunB
public import proofs.«01_k».proof.Proof.Gen.DownArefIdeal
public import proofs.«01_k».proof.Proof.Gen.DownArefIdeal.Run
public import proofs.«01_k».proof.Proof.DownRun
public import proofs.«01_k».proof.Proof.DownRunIdeal
public import proofs.«01_k».proof.Proof.DownAdam
public import proofs.«01_k».proof.Proof.Gen.AdaAdam
public import proofs.«01_k».proof.Proof.Gen.AdaAdam.Frame.RunB
public import proofs.«01_k».proof.Proof.Gen.AdaAdamIdeal
public import proofs.«01_k».proof.Proof.Gen.AdaAdamIdeal.Frame.RunB
public import proofs.«01_k».proof.Proof.Gen.AdaArefIdeal
public import proofs.«01_k».proof.Proof.Gen.AdaArefIdeal.Run
public import proofs.«01_k».proof.Proof.AdaRun
public import proofs.«01_k».proof.Proof.AdaRunIdeal
public import proofs.«01_k».proof.Proof.AdaAdam
public import Idealize.ShloMosaic.Adequacy
public import Idealize.ShloMosaic.Init

@[expose] public section

noncomputable section

namespace Cert.Proof

theorem claim : Cert.Claim := ⟨Cert.ConvBwd.Gen.facts, Cert.ConvBwdIdeal.Gen.facts, Cert.ConvRefIdeal.Gen.facts, Cert.UpBwd.Gen.facts, Cert.UpBwdIdeal.Gen.facts, Cert.UpRefIdeal.Gen.facts,
  Cert.InBwd.Gen.facts, Cert.InBwdIdeal.Gen.facts, Cert.InRefIdeal.Gen.facts, Cert.UpWgrad.Gen.facts, Cert.UpWgradIdeal.Gen.facts, Cert.UpWrefIdeal.Gen.facts,
  Cert.DownWgrad.Gen.facts, Cert.DownWgradIdeal.Gen.facts, Cert.DownWrefIdeal.Gen.facts, Cert.DownBwd.Gen.facts, Cert.DownBwdIdeal.Gen.facts, Cert.DownRefIdeal.Gen.facts,
  Cert.OddBwd.Gen.facts, Cert.OddBwdIdeal.Gen.facts, Cert.OddRefIdeal.Gen.facts, Cert.OutBwd.Gen.facts, Cert.OutBwdIdeal.Gen.facts, Cert.OutRefIdeal.Gen.facts,
  Cert.OutWgrad.Gen.facts, Cert.OutWgradIdeal.Gen.facts, Cert.OutWrefIdeal.Gen.facts, Cert.OddWgrad.Gen.facts, Cert.OddWgradIdeal.Gen.facts, Cert.OddWrefIdeal.Gen.facts,
  Cert.MixWgrad.Gen.facts, Cert.MixWgradIdeal.Gen.facts, Cert.MixWrefIdeal.Gen.facts, Cert.InWgrad.Gen.facts, Cert.InWgradIdeal.Gen.facts, Cert.InWrefIdeal.Gen.facts,
  Cert.UpFwd.Gen.facts, Cert.UpFwdIdeal.Gen.facts, Cert.UpFrefIdeal.Gen.facts, Cert.OddFwd.Gen.facts, Cert.OddFwdIdeal.Gen.facts, Cert.OddFrefIdeal.Gen.facts,
  Cert.DownFwd.Gen.facts, Cert.DownFwdIdeal.Gen.facts, Cert.DownFrefIdeal.Gen.facts, Cert.OutFwd.Gen.facts, Cert.OutFwdIdeal.Gen.facts, Cert.OutFrefIdeal.Gen.facts,
  Cert.MixFwd.Gen.facts, Cert.MixFwdIdeal.Gen.facts, Cert.MixFrefIdeal.Gen.facts, Cert.LastFwd.Gen.facts, Cert.LastFwdIdeal.Gen.facts, Cert.LastFrefIdeal.Gen.facts,
  Cert.OddAdam.Gen.facts, Cert.OddAdamIdeal.Gen.facts, Cert.OddArefIdeal.Gen.facts, Cert.InAdam.Gen.facts, Cert.InAdamIdeal.Gen.facts, Cert.InArefIdeal.Gen.facts,
  Cert.OutAdam.Gen.facts, Cert.OutAdamIdeal.Gen.facts, Cert.OutArefIdeal.Gen.facts, Cert.UpAdam.Gen.facts, Cert.UpAdamIdeal.Gen.facts, Cert.UpArefIdeal.Gen.facts,
  Cert.DownAdam.Gen.facts, Cert.DownAdamIdeal.Gen.facts, Cert.DownArefIdeal.Gen.facts, Cert.AdaAdam.Gen.facts, Cert.AdaAdamIdeal.Gen.facts, Cert.AdaArefIdeal.Gen.facts,
  Cert.Pre_conv_finite.Gen.facts, Cert.Pre_up_finite.Gen.facts, Cert.Pre_in_finite.Gen.facts, Cert.Pre_down_finite.Gen.facts, Cert.Pre_odd_finite.Gen.facts, Cert.Pre_out_finite.Gen.facts,
  ConvBits.frame, fun m ρ _ => Cert.ConvBwdIdeal.Grad.run_frame m ρ,
  fun m ρ _ => Cert.ConvBwdIdeal.Grad.run_frame m ρ, fun m ρ _ => ConvValue.ref_frame m ρ,
  fun m ρ _ => ConvValue.ref_frame m ρ, fun m ρ _ => Cert.UpBwd.Gen.frame m ρ,
  fun m ρ _ => Cert.UpBwdIdeal.Gen.frame m ρ, fun m ρ _ => Cert.UpBwdIdeal.Gen.frame m ρ,
  fun m ρ _ => UpBwd.ref_frame m ρ, fun m ρ _ => UpBwd.ref_frame m ρ,
  fun m ρ _ => Cert.InBwd.Gen.frame m ρ, fun m ρ _ => Cert.InBwdIdeal.Gen.frame m ρ,
  fun m ρ _ => Cert.InBwdIdeal.Gen.frame m ρ, fun m ρ _ => InBwd.ref_frame m ρ,
  fun m ρ _ => InBwd.ref_frame m ρ, fun m ρ _ => Cert.UpWgrad.Gen.frame m ρ,
  fun m ρ _ => Cert.UpWgradIdeal.Gen.frame m ρ, fun m ρ _ => UpWgrad.ref_frame m ρ,
  fun m ρ _ => Cert.DownWgrad.Gen.frame m ρ, fun m ρ _ => Cert.DownWgradIdeal.Gen.frame m ρ,
  fun m ρ _ => DownWgrad.ref_frame m ρ, fun m ρ _ => Cert.DownBwd.Gen.frame m ρ,
  fun m ρ _ => Cert.DownBwdIdeal.Gen.frame m ρ, fun m ρ _ => Cert.DownBwdIdeal.Gen.frame m ρ,
  fun m ρ _ => DownBwd.ref_frame m ρ, fun m ρ _ => DownBwd.ref_frame m ρ,
  fun m ρ _ => Cert.OddBwd.Gen.frame m ρ, fun m ρ _ => Cert.OddBwdIdeal.Gen.frame m ρ,
  fun m ρ _ => Cert.OddBwdIdeal.Gen.frame m ρ, fun m ρ _ => OddBwd.ref_frame m ρ,
  fun m ρ _ => OddBwd.ref_frame m ρ, fun m ρ _ => Cert.OutBwd.Gen.frame m ρ,
  fun m ρ _ => Cert.OutBwdIdeal.Gen.frame m ρ, fun m ρ _ => Cert.OutBwdIdeal.Gen.frame m ρ,
  fun m ρ _ => OutBwd.ref_frame m ρ, fun m ρ _ => OutBwd.ref_frame m ρ,
  fun m ρ _ => Cert.OutWgrad.Gen.frame m ρ, fun m ρ _ => Cert.OutWgradIdeal.Gen.frame m ρ,
  fun m ρ _ => OutWgrad.ref_frame m ρ, fun m ρ _ => Cert.OddWgrad.Gen.frame m ρ,
  fun m ρ _ => Cert.OddWgradIdeal.Gen.frame m ρ, fun m ρ _ => OddWgrad.ref_frame m ρ,
  fun m ρ _ => Cert.MixWgrad.Gen.frame m ρ, fun m ρ _ => Cert.MixWgradIdeal.Gen.frame m ρ,
  fun m ρ _ => MixWgrad.ref_frame m ρ, fun m ρ _ => Cert.InWgrad.Gen.frame m ρ,
  fun m ρ _ => Cert.InWgradIdeal.Gen.frame m ρ, fun m ρ _ => InWgrad.ref_frame m ρ,
  fun m ρ _ => Cert.UpFwd.Gen.frame m ρ, fun m ρ _ => Cert.UpFwdIdeal.Gen.frame m ρ,
  fun m ρ _ => UpFwd.ref_frame m ρ, fun m ρ _ => Cert.OddFwd.Gen.frame m ρ,
  fun m ρ _ => Cert.OddFwdIdeal.Gen.frame m ρ, fun m ρ _ => OddFwd.ref_frame m ρ,
  fun m ρ _ => Cert.DownFwd.Gen.frame m ρ, fun m ρ _ => Cert.DownFwdIdeal.Gen.frame m ρ,
  fun m ρ _ => DownFwd.ref_frame m ρ, fun m ρ _ => Cert.OutFwd.Gen.frame m ρ,
  fun m ρ _ => Cert.OutFwdIdeal.Gen.frame m ρ, fun m ρ _ => OutFwd.ref_frame m ρ,
  fun m ρ _ => Cert.MixFwd.Gen.frame m ρ, fun m ρ _ => Cert.MixFwdIdeal.Gen.frame m ρ,
  fun m ρ _ => MixFwd.ref_frame m ρ, fun m ρ _ => Cert.LastFwd.Gen.frame m ρ,
  fun m ρ _ => Cert.LastFwdIdeal.Gen.frame m ρ, fun m ρ _ => LastFwd.ref_frame m ρ,
  fun m ρ _ => Cert.OddAdam.Gen.frame m ρ, fun m ρ _ => Cert.OddAdamIdeal.Gen.frame m ρ,
  fun m ρ _ => OddAdam.ref_frame m ρ, fun m ρ _ => Cert.InAdam.Gen.frame m ρ,
  fun m ρ _ => Cert.InAdamIdeal.Gen.frame m ρ, fun m ρ _ => InAdam.ref_frame m ρ,
  fun m ρ _ => Cert.OutAdam.Gen.frame m ρ, fun m ρ _ => Cert.OutAdamIdeal.Gen.frame m ρ,
  fun m ρ _ => OutAdam.ref_frame m ρ, fun m ρ _ => UpRun.frame m ρ,
  fun m ρ _ => UpRunIdeal.frame m ρ, fun m ρ _ => UpAdam.ref_frame m ρ,
  fun m ρ _ => DownRun.frame m ρ, fun m ρ _ => DownRunIdeal.frame m ρ,
  fun m ρ _ => DownAdam.ref_frame m ρ, fun m ρ _ => AdaRun.frame m ρ,
  fun m ρ _ => AdaRunIdeal.frame m ρ, fun m ρ _ => AdaAdam.ref_frame m ρ,
  trivial, ConvValue.algebraic, trivial, UpBwd.algebraic, trivial, InBwd.algebraic,
  trivial, UpWgrad.algebraic, trivial, DownWgrad.algebraic, trivial, DownBwd.algebraic,
  trivial, OddBwd.algebraic, trivial, OutBwd.algebraic, trivial, OutWgrad.algebraic,
  trivial, OddWgrad.algebraic, trivial, MixWgrad.algebraic, trivial, InWgrad.algebraic,
  trivial, UpFwd.algebraic, trivial, OddFwd.algebraic, trivial, DownFwd.algebraic,
  trivial, OutFwd.algebraic, trivial, MixFwd.algebraic, trivial, LastFwd.algebraic,
  trivial, OddAdam.algebraic, trivial, InAdam.algebraic, trivial, OutAdam.algebraic,
  trivial, UpAdam.algebraic, trivial, DownAdam.algebraic, trivial, AdaAdam.algebraic⟩

end Cert.Proof

end
